-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Dfin (m : (ℓ : Loc Cert.Dfin.nD Cert.Dfin.τ Cert.Dfin.sig) → Buf (Elt Bits) ℓ) : Prop :=
  True

def Pre_DfinIdeal (m : (ℓ : Loc Cert.DfinIdeal.nD Cert.DfinIdeal.τ Cert.DfinIdeal.sig) → Buf (Elt Ideal) ℓ) : Prop :=
  True

def Pre_DfinRefIdeal (m : (ℓ : Loc Cert.DfinRefIdeal.nD Cert.DfinRefIdeal.τ Cert.DfinRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_DilDhn (m : (ℓ : Loc Cert.DilDhn.nD Cert.DilDhn.τ Cert.DilDhn.sig) → Buf (Elt Bits) ℓ) : Prop :=
  True

def Pre_DilDhnIdeal (m : (ℓ : Loc Cert.DilDhnIdeal.nD Cert.DilDhnIdeal.τ Cert.DilDhnIdeal.sig) → Buf (Elt Ideal) ℓ) : Prop :=
  True

def Pre_DilDhnRefIdeal (m : (ℓ : Loc Cert.DilDhnRefIdeal.nD Cert.DilDhnRefIdeal.τ Cert.DilDhnRefIdeal.sig) → Buf (Elt Ideal) ℓ) : Prop :=
  True

def Pre_DilDw (m : (ℓ : Loc Cert.DilDw.nD Cert.DilDw.τ Cert.DilDw.sig) → Buf (Elt Bits) ℓ) : Prop :=
  True

def Pre_DilDwIdeal (m : (ℓ : Loc Cert.DilDwIdeal.nD Cert.DilDwIdeal.τ Cert.DilDwIdeal.sig) → Buf (Elt Ideal) ℓ) : Prop :=
  True

def Pre_DilDwRefIdeal (m : (ℓ : Loc Cert.DilDwRefIdeal.nD Cert.DilDwRefIdeal.τ Cert.DilDwRefIdeal.sig) → Buf (Elt Ideal) ℓ) : Prop :=
  True

def Pre_ProjDo (m : (ℓ : Loc Cert.ProjDo.nD Cert.ProjDo.τ Cert.ProjDo.sig) → Buf (Elt Bits) ℓ) : Prop :=
  True

def Pre_ProjDoIdeal (m : (ℓ : Loc Cert.ProjDoIdeal.nD Cert.ProjDoIdeal.τ Cert.ProjDoIdeal.sig) → Buf (Elt Ideal) ℓ) : Prop :=
  True

def Pre_ProjDoRefIdeal (m : (ℓ : Loc Cert.ProjDoRefIdeal.nD Cert.ProjDoRefIdeal.τ Cert.ProjDoRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_GateDx (m : (ℓ : Loc Cert.GateDx.nD Cert.GateDx.τ Cert.GateDx.sig) → Buf (Elt Bits) ℓ) : Prop :=
  True

def Pre_GateDxIdeal (m : (ℓ : Loc Cert.GateDxIdeal.nD Cert.GateDxIdeal.τ Cert.GateDxIdeal.sig) → Buf (Elt Ideal) ℓ) : Prop :=
  True

def Pre_GateDxRefIdeal (m : (ℓ : Loc Cert.GateDxRefIdeal.nD Cert.GateDxRefIdeal.τ Cert.GateDxRefIdeal.sig) → Buf (Elt Ideal) ℓ) : Prop :=
  True

def Pre_FoxIn (m : (ℓ : Loc Cert.FoxIn.nD Cert.FoxIn.τ Cert.FoxIn.sig) → Buf (Elt Bits) ℓ) : Prop :=
  True

def Pre_FoxInIdeal (m : (ℓ : Loc Cert.FoxInIdeal.nD Cert.FoxInIdeal.τ Cert.FoxInIdeal.sig) → Buf (Elt Ideal) ℓ) : Prop :=
  True

def Pre_FoxInRefIdeal (m : (ℓ : Loc Cert.FoxInRefIdeal.nD Cert.FoxInRefIdeal.τ Cert.FoxInRefIdeal.sig) → Buf (Elt Ideal) ℓ) : Prop :=
  True

def Pre_FoxDw (m : (ℓ : Loc Cert.FoxDw.nD Cert.FoxDw.τ Cert.FoxDw.sig) → Buf (Elt Bits) ℓ) : Prop :=
  True

def Pre_FoxDwIdeal (m : (ℓ : Loc Cert.FoxDwIdeal.nD Cert.FoxDwIdeal.τ Cert.FoxDwIdeal.sig) → Buf (Elt Ideal) ℓ) : Prop :=
  True

def Pre_FoxDwRefIdeal (m : (ℓ : Loc Cert.FoxDwRefIdeal.nD Cert.FoxDwRefIdeal.τ Cert.FoxDwRefIdeal.sig) → Buf (Elt Ideal) ℓ) : Prop :=
  True

def Pre_FoxDhn (m : (ℓ : Loc Cert.FoxDhn.nD Cert.FoxDhn.τ Cert.FoxDhn.sig) → Buf (Elt Bits) ℓ) : Prop :=
  True

def Pre_FoxDhnIdeal (m : (ℓ : Loc Cert.FoxDhnIdeal.nD Cert.FoxDhnIdeal.τ Cert.FoxDhnIdeal.sig) → Buf (Elt Ideal) ℓ) : Prop :=
  True

def Pre_FoxDhnRefIdeal (m : (ℓ : Loc Cert.FoxDhnRefIdeal.nD Cert.FoxDhnRefIdeal.τ Cert.FoxDhnRefIdeal.sig) → Buf (Elt Ideal) ℓ) : Prop :=
  True

def Pre_MlaA (m : (ℓ : Loc Cert.MlaA.nD Cert.MlaA.τ Cert.MlaA.sig) → Buf (Elt Bits) ℓ) : Prop :=
  True

def Pre_MlaAIdeal (m : (ℓ : Loc Cert.MlaAIdeal.nD Cert.MlaAIdeal.τ Cert.MlaAIdeal.sig) → Buf (Elt Ideal) ℓ) : Prop :=
  True

def Pre_MlaARefIdeal (m : (ℓ : Loc Cert.MlaARefIdeal.nD Cert.MlaARefIdeal.τ Cert.MlaARefIdeal.sig) → Buf (Elt Ideal) ℓ) : Prop :=
  True

def Pre_MlaUq (m : (ℓ : Loc Cert.MlaUq.nD Cert.MlaUq.τ Cert.MlaUq.sig) → Buf (Elt Bits) ℓ) : Prop :=
  True

def Pre_MlaUqIdeal (m : (ℓ : Loc Cert.MlaUqIdeal.nD Cert.MlaUqIdeal.τ Cert.MlaUqIdeal.sig) → Buf (Elt Ideal) ℓ) : Prop :=
  True

def Pre_MlaUqRefIdeal (m : (ℓ : Loc Cert.MlaUqRefIdeal.nD Cert.MlaUqRefIdeal.τ Cert.MlaUqRefIdeal.sig) → Buf (Elt Ideal) ℓ) : Prop :=
  True

def Pre_MlaUkv (m : (ℓ : Loc Cert.MlaUkv.nD Cert.MlaUkv.τ Cert.MlaUkv.sig) → Buf (Elt Bits) ℓ) : Prop :=
  True

def Pre_MlaUkvIdeal (m : (ℓ : Loc Cert.MlaUkvIdeal.nD Cert.MlaUkvIdeal.τ Cert.MlaUkvIdeal.sig) → Buf (Elt Ideal) ℓ) : Prop :=
  True

def Pre_MlaUkvRefIdeal (m : (ℓ : Loc Cert.MlaUkvRefIdeal.nD Cert.MlaUkvRefIdeal.τ Cert.MlaUkvRefIdeal.sig) → Buf (Elt Ideal) ℓ) : Prop :=
  True

def Pre_MlaDuq (m : (ℓ : Loc Cert.MlaDuq.nD Cert.MlaDuq.τ Cert.MlaDuq.sig) → Buf (Elt Bits) ℓ) : Prop :=
  True

def Pre_MlaDuqIdeal (m : (ℓ : Loc Cert.MlaDuqIdeal.nD Cert.MlaDuqIdeal.τ Cert.MlaDuqIdeal.sig) → Buf (Elt Ideal) ℓ) : Prop :=
  True

def Pre_MlaDuqRefIdeal (m : (ℓ : Loc Cert.MlaDuqRefIdeal.nD Cert.MlaDuqRefIdeal.τ Cert.MlaDuqRefIdeal.sig) → Buf (Elt Ideal) ℓ) : Prop :=
  True

def Pre_MlaDcq (m : (ℓ : Loc Cert.MlaDcq.nD Cert.MlaDcq.τ Cert.MlaDcq.sig) → Buf (Elt Bits) ℓ) : Prop :=
  True

def Pre_MlaDcqIdeal (m : (ℓ : Loc Cert.MlaDcqIdeal.nD Cert.MlaDcqIdeal.τ Cert.MlaDcqIdeal.sig) → Buf (Elt Ideal) ℓ) : Prop :=
  True

def Pre_MlaDcqRefIdeal (m : (ℓ : Loc Cert.MlaDcqRefIdeal.nD Cert.MlaDcqRefIdeal.τ Cert.MlaDcqRefIdeal.sig) → Buf (Elt Ideal) ℓ) : Prop :=
  True

def Pre_MlaDukv (m : (ℓ : Loc Cert.MlaDukv.nD Cert.MlaDukv.τ Cert.MlaDukv.sig) → Buf (Elt Bits) ℓ) : Prop :=
  True

def Pre_MlaDukvIdeal (m : (ℓ : Loc Cert.MlaDukvIdeal.nD Cert.MlaDukvIdeal.τ Cert.MlaDukvIdeal.sig) → Buf (Elt Ideal) ℓ) : Prop :=
  True

def Pre_MlaDukvRefIdeal (m : (ℓ : Loc Cert.MlaDukvRefIdeal.nD Cert.MlaDukvRefIdeal.τ Cert.MlaDukvRefIdeal.sig) → Buf (Elt Ideal) ℓ) : Prop :=
  True

def Pre_MlaDckv (m : (ℓ : Loc Cert.MlaDckv.nD Cert.MlaDckv.τ Cert.MlaDckv.sig) → Buf (Elt Bits) ℓ) : Prop :=
  True

def Pre_MlaDckvIdeal (m : (ℓ : Loc Cert.MlaDckvIdeal.nD Cert.MlaDckvIdeal.τ Cert.MlaDckvIdeal.sig) → Buf (Elt Ideal) ℓ) : Prop :=
  True

def Pre_MlaDckvRefIdeal (m : (ℓ : Loc Cert.MlaDckvRefIdeal.nD Cert.MlaDckvRefIdeal.τ Cert.MlaDckvRefIdeal.sig) → Buf (Elt Ideal) ℓ) : Prop :=
  True

def Pre_MlaDa (m : (ℓ : Loc Cert.MlaDa.nD Cert.MlaDa.τ Cert.MlaDa.sig) → Buf (Elt Bits) ℓ) : Prop :=
  True

def Pre_MlaDaIdeal (m : (ℓ : Loc Cert.MlaDaIdeal.nD Cert.MlaDaIdeal.τ Cert.MlaDaIdeal.sig) → Buf (Elt Ideal) ℓ) : Prop :=
  True

def Pre_MlaDaRefIdeal (m : (ℓ : Loc Cert.MlaDaRefIdeal.nD Cert.MlaDaRefIdeal.τ Cert.MlaDaRefIdeal.sig) → Buf (Elt Ideal) ℓ) : Prop :=
  True

def Pre_MlaDhn (m : (ℓ : Loc Cert.MlaDhn.nD Cert.MlaDhn.τ Cert.MlaDhn.sig) → Buf (Elt Bits) ℓ) : Prop :=
  True

def Pre_MlaDhnIdeal (m : (ℓ : Loc Cert.MlaDhnIdeal.nD Cert.MlaDhnIdeal.τ Cert.MlaDhnIdeal.sig) → Buf (Elt Ideal) ℓ) : Prop :=
  True

def Pre_MlaDhnRefIdeal (m : (ℓ : Loc Cert.MlaDhnRefIdeal.nD Cert.MlaDhnRefIdeal.τ Cert.MlaDhnRefIdeal.sig) → Buf (Elt Ideal) ℓ) : Prop :=
  True

def Pre_DilQkv0 (m : (ℓ : Loc Cert.DilQkv0.nD Cert.DilQkv0.τ Cert.DilQkv0.sig) → Buf (Elt Bits) ℓ) : Prop :=
  True

def Pre_DilQkv0Ideal (m : (ℓ : Loc Cert.DilQkv0Ideal.nD Cert.DilQkv0Ideal.τ Cert.DilQkv0Ideal.sig) → Buf (Elt Ideal) ℓ) : Prop :=
  True

def Pre_DilQkv0RefIdeal (m : (ℓ : Loc Cert.DilQkv0RefIdeal.nD Cert.DilQkv0RefIdeal.τ Cert.DilQkv0RefIdeal.sig) → Buf (Elt Ideal) ℓ) : Prop :=
  True

def Pre_DilQkv1 (m : (ℓ : Loc Cert.DilQkv1.nD Cert.DilQkv1.τ Cert.DilQkv1.sig) → Buf (Elt Bits) ℓ) : Prop :=
  True

def Pre_DilQkv1Ideal (m : (ℓ : Loc Cert.DilQkv1Ideal.nD Cert.DilQkv1Ideal.τ Cert.DilQkv1Ideal.sig) → Buf (Elt Ideal) ℓ) : Prop :=
  True

def Pre_DilQkv1RefIdeal (m : (ℓ : Loc Cert.DilQkv1RefIdeal.nD Cert.DilQkv1RefIdeal.τ Cert.DilQkv1RefIdeal.sig) → Buf (Elt Ideal) ℓ) : Prop :=
  True

def Pre_DilQkv2 (m : (ℓ : Loc Cert.DilQkv2.nD Cert.DilQkv2.τ Cert.DilQkv2.sig) → Buf (Elt Bits) ℓ) : Prop :=
  True

def Pre_DilQkv2Ideal (m : (ℓ : Loc Cert.DilQkv2Ideal.nD Cert.DilQkv2Ideal.τ Cert.DilQkv2Ideal.sig) → Buf (Elt Ideal) ℓ) : Prop :=
  True

def Pre_DilQkv2RefIdeal (m : (ℓ : Loc Cert.DilQkv2RefIdeal.nD Cert.DilQkv2RefIdeal.τ Cert.DilQkv2RefIdeal.sig) → Buf (Elt Ideal) ℓ) : Prop :=
  True

def Pre_Dwin0 (m : (ℓ : Loc Cert.Dwin0.nD Cert.Dwin0.τ Cert.Dwin0.sig) → Buf (Elt Bits) ℓ) : Prop :=
  True

def Pre_Dwin0Ideal (m : (ℓ : Loc Cert.Dwin0Ideal.nD Cert.Dwin0Ideal.τ Cert.Dwin0Ideal.sig) → Buf (Elt Ideal) ℓ) : Prop :=
  True

def Pre_Dwin0RefIdeal (m : (ℓ : Loc Cert.Dwin0RefIdeal.nD Cert.Dwin0RefIdeal.τ Cert.Dwin0RefIdeal.sig) → Buf (Elt Ideal) ℓ) : Prop :=
  True

def Pre_Dwin1 (m : (ℓ : Loc Cert.Dwin1.nD Cert.Dwin1.τ Cert.Dwin1.sig) → Buf (Elt Bits) ℓ) : Prop :=
  True

def Pre_Dwin1Ideal (m : (ℓ : Loc Cert.Dwin1Ideal.nD Cert.Dwin1Ideal.τ Cert.Dwin1Ideal.sig) → Buf (Elt Ideal) ℓ) : Prop :=
  True

def Pre_Dwin1RefIdeal (m : (ℓ : Loc Cert.Dwin1RefIdeal.nD Cert.Dwin1RefIdeal.τ Cert.Dwin1RefIdeal.sig) → Buf (Elt Ideal) ℓ) : Prop :=
  True

def Pre_Dwin2 (m : (ℓ : Loc Cert.Dwin2.nD Cert.Dwin2.τ Cert.Dwin2.sig) → Buf (Elt Bits) ℓ) : Prop :=
  True

def Pre_Dwin2Ideal (m : (ℓ : Loc Cert.Dwin2Ideal.nD Cert.Dwin2Ideal.τ Cert.Dwin2Ideal.sig) → Buf (Elt Ideal) ℓ) : Prop :=
  True

def Pre_Dwin2RefIdeal (m : (ℓ : Loc Cert.Dwin2RefIdeal.nD Cert.Dwin2RefIdeal.τ Cert.Dwin2RefIdeal.sig) → Buf (Elt Ideal) ℓ) : Prop :=
  True

def Pre_Dwout0 (m : (ℓ : Loc Cert.Dwout0.nD Cert.Dwout0.τ Cert.Dwout0.sig) → Buf (Elt Bits) ℓ) : Prop :=
  True

def Pre_Dwout0Ideal (m : (ℓ : Loc Cert.Dwout0Ideal.nD Cert.Dwout0Ideal.τ Cert.Dwout0Ideal.sig) → Buf (Elt Ideal) ℓ) : Prop :=
  True

def Pre_Dwout0RefIdeal (m : (ℓ : Loc Cert.Dwout0RefIdeal.nD Cert.Dwout0RefIdeal.τ Cert.Dwout0RefIdeal.sig) → Buf (Elt Ideal) ℓ) : Prop :=
  True

def Pre_Dwout1 (m : (ℓ : Loc Cert.Dwout1.nD Cert.Dwout1.τ Cert.Dwout1.sig) → Buf (Elt Bits) ℓ) : Prop :=
  True

def Pre_Dwout1Ideal (m : (ℓ : Loc Cert.Dwout1Ideal.nD Cert.Dwout1Ideal.τ Cert.Dwout1Ideal.sig) → Buf (Elt Ideal) ℓ) : Prop :=
  True

def Pre_Dwout1RefIdeal (m : (ℓ : Loc Cert.Dwout1RefIdeal.nD Cert.Dwout1RefIdeal.τ Cert.Dwout1RefIdeal.sig) → Buf (Elt Ideal) ℓ) : Prop :=
  True

def Pre_Dwout2 (m : (ℓ : Loc Cert.Dwout2.nD Cert.Dwout2.τ Cert.Dwout2.sig) → Buf (Elt Bits) ℓ) : Prop :=
  True

def Pre_Dwout2Ideal (m : (ℓ : Loc Cert.Dwout2Ideal.nD Cert.Dwout2Ideal.τ Cert.Dwout2Ideal.sig) → Buf (Elt Ideal) ℓ) : Prop :=
  True

def Pre_Dwout2RefIdeal (m : (ℓ : Loc Cert.Dwout2RefIdeal.nD Cert.Dwout2RefIdeal.τ Cert.Dwout2RefIdeal.sig) → Buf (Elt Ideal) ℓ) : Prop :=
  True

def Pre_Dwg0 (m : (ℓ : Loc Cert.Dwg0.nD Cert.Dwg0.τ Cert.Dwg0.sig) → Buf (Elt Bits) ℓ) : Prop :=
  True

def Pre_Dwg0Ideal (m : (ℓ : Loc Cert.Dwg0Ideal.nD Cert.Dwg0Ideal.τ Cert.Dwg0Ideal.sig) → Buf (Elt Ideal) ℓ) : Prop :=
  True

def Pre_Dwg0RefIdeal (m : (ℓ : Loc Cert.Dwg0RefIdeal.nD Cert.Dwg0RefIdeal.τ Cert.Dwg0RefIdeal.sig) → Buf (Elt Ideal) ℓ) : Prop :=
  True

def Pre_Dwg1 (m : (ℓ : Loc Cert.Dwg1.nD Cert.Dwg1.τ Cert.Dwg1.sig) → Buf (Elt Bits) ℓ) : Prop :=
  True

def Pre_Dwg1Ideal (m : (ℓ : Loc Cert.Dwg1Ideal.nD Cert.Dwg1Ideal.τ Cert.Dwg1Ideal.sig) → Buf (Elt Ideal) ℓ) : Prop :=
  True

def Pre_Dwg1RefIdeal (m : (ℓ : Loc Cert.Dwg1RefIdeal.nD Cert.Dwg1RefIdeal.τ Cert.Dwg1RefIdeal.sig) → Buf (Elt Ideal) ℓ) : Prop :=
  True

def Pre_Dwg2 (m : (ℓ : Loc Cert.Dwg2.nD Cert.Dwg2.τ Cert.Dwg2.sig) → Buf (Elt Bits) ℓ) : Prop :=
  True

def Pre_Dwg2Ideal (m : (ℓ : Loc Cert.Dwg2Ideal.nD Cert.Dwg2Ideal.τ Cert.Dwg2Ideal.sig) → Buf (Elt Ideal) ℓ) : Prop :=
  True

def Pre_Dwg2RefIdeal (m : (ℓ : Loc Cert.Dwg2RefIdeal.nD Cert.Dwg2RefIdeal.τ Cert.Dwg2RefIdeal.sig) → Buf (Elt Ideal) ℓ) : Prop :=
  True

def Pre_Dwin3 (m : (ℓ : Loc Cert.Dwin3.nD Cert.Dwin3.τ Cert.Dwin3.sig) → Buf (Elt Bits) ℓ) : Prop :=
  True

def Pre_Dwin3Ideal (m : (ℓ : Loc Cert.Dwin3Ideal.nD Cert.Dwin3Ideal.τ Cert.Dwin3Ideal.sig) → Buf (Elt Ideal) ℓ) : Prop :=
  True

def Pre_Dwin3RefIdeal (m : (ℓ : Loc Cert.Dwin3RefIdeal.nD Cert.Dwin3RefIdeal.τ Cert.Dwin3RefIdeal.sig) → Buf (Elt Ideal) ℓ) : Prop :=
  True

def Pre_Dwout3 (m : (ℓ : Loc Cert.Dwout3.nD Cert.Dwout3.τ Cert.Dwout3.sig) → Buf (Elt Bits) ℓ) : Prop :=
  True

def Pre_Dwout3Ideal (m : (ℓ : Loc Cert.Dwout3Ideal.nD Cert.Dwout3Ideal.τ Cert.Dwout3Ideal.sig) → Buf (Elt Ideal) ℓ) : Prop :=
  True

def Pre_Dwout3RefIdeal (m : (ℓ : Loc Cert.Dwout3RefIdeal.nD Cert.Dwout3RefIdeal.τ Cert.Dwout3RefIdeal.sig) → Buf (Elt Ideal) ℓ) : Prop :=
  True

def Pre_Dwg3 (m : (ℓ : Loc Cert.Dwg3.nD Cert.Dwg3.τ Cert.Dwg3.sig) → Buf (Elt Bits) ℓ) : Prop :=
  True

def Pre_Dwg3Ideal (m : (ℓ : Loc Cert.Dwg3Ideal.nD Cert.Dwg3Ideal.τ Cert.Dwg3Ideal.sig) → Buf (Elt Ideal) ℓ) : Prop :=
  True

def Pre_Dwg3RefIdeal (m : (ℓ : Loc Cert.Dwg3RefIdeal.nD Cert.Dwg3RefIdeal.τ Cert.Dwg3RefIdeal.sig) → Buf (Elt Ideal) ℓ) : Prop :=
  True

def Pre_PleB (m : (ℓ : Loc Cert.PleB.nD Cert.PleB.τ Cert.PleB.sig) → Buf (Elt Bits) ℓ) : Prop :=
  True

def Pre_PleBIdeal (m : (ℓ : Loc Cert.PleBIdeal.nD Cert.PleBIdeal.τ Cert.PleBIdeal.sig) → Buf (Elt Ideal) ℓ) : Prop :=
  True

def Pre_PleBRefIdeal (m : (ℓ : Loc Cert.PleBRefIdeal.nD Cert.PleBRefIdeal.τ Cert.PleBRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_SwigluB (m : (ℓ : Loc Cert.SwigluB.nD Cert.SwigluB.τ Cert.SwigluB.sig) → Buf (Elt Bits) ℓ) : Prop :=
  True

def Pre_SwigluBIdeal (m : (ℓ : Loc Cert.SwigluBIdeal.nD Cert.SwigluBIdeal.τ Cert.SwigluBIdeal.sig) → Buf (Elt Ideal) ℓ) : Prop :=
  True

def Pre_SwigluBIdeal_finite_gated [hPre_finite_gated : Cert.Pre_finite_gated.Facts] (m : (ℓ : Loc Cert.SwigluBIdeal.nD Cert.SwigluBIdeal.τ Cert.SwigluBIdeal.sig) → Buf (Elt Ideal) ℓ) : Prop :=
  ∀ c : Dev Cert.SwigluBIdeal.nD,
    (Cert.Pre_finite_gated.fn (F := Ideal) (m ((c.tc : Thread Cert.SwigluBIdeal.nD Cert.SwigluBIdeal.τ).loc Cert.SwigluBIdeal.main_arg0)) (m ((c.tc : Thread Cert.SwigluBIdeal.nD Cert.SwigluBIdeal.τ).loc Cert.SwigluBIdeal.main_arg1))).1 = (fun _ => 1#1)
    ∧ (Cert.Pre_finite_gated.fn (F := Ideal) (m ((c.tc : Thread Cert.SwigluBIdeal.nD Cert.SwigluBIdeal.τ).loc Cert.SwigluBIdeal.main_arg0)) (m ((c.tc : Thread Cert.SwigluBIdeal.nD Cert.SwigluBIdeal.τ).loc Cert.SwigluBIdeal.main_arg1))).2 = (fun _ => 1#1)

def Pre_SwigluBRefIdeal (m : (ℓ : Loc Cert.SwigluBRefIdeal.nD Cert.SwigluBRefIdeal.τ Cert.SwigluBRefIdeal.sig) → Buf (Elt Ideal) ℓ) : Prop :=
  True

def Pre_SwigluBRefIdeal_finite_gated [hPre_finite_gated : Cert.Pre_finite_gated.Facts] (m : (ℓ : Loc Cert.SwigluBRefIdeal.nD Cert.SwigluBRefIdeal.τ Cert.SwigluBRefIdeal.sig) → Buf (Elt Ideal) ℓ) : Prop :=
  ∀ c : Dev Cert.SwigluBRefIdeal.nD,
    (Cert.Pre_finite_gated.fn (F := Ideal) (m ((c.tc : Thread Cert.SwigluBRefIdeal.nD Cert.SwigluBRefIdeal.τ).loc Cert.SwigluBRefIdeal.main_arg0)) (m ((c.tc : Thread Cert.SwigluBRefIdeal.nD Cert.SwigluBRefIdeal.τ).loc Cert.SwigluBRefIdeal.main_arg1))).1 = (fun _ => 1#1)
    ∧ (Cert.Pre_finite_gated.fn (F := Ideal) (m ((c.tc : Thread Cert.SwigluBRefIdeal.nD Cert.SwigluBRefIdeal.τ).loc Cert.SwigluBRefIdeal.main_arg0)) (m ((c.tc : Thread Cert.SwigluBRefIdeal.nD Cert.SwigluBRefIdeal.τ).loc Cert.SwigluBRefIdeal.main_arg1))).2 = (fun _ => 1#1)

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInRefIdeal (m : (ℓ : Loc Cert.NormInRefIdeal.nD Cert.NormInRefIdeal.τ Cert.NormInRefIdeal.sig) → Buf (Elt Ideal) ℓ) : Prop :=
  True

def Pre_NormOut (m : (ℓ : Loc Cert.NormOut.nD Cert.NormOut.τ Cert.NormOut.sig) → Buf (Elt Bits) ℓ) : Prop :=
  True

def Pre_NormOutIdeal (m : (ℓ : Loc Cert.NormOutIdeal.nD Cert.NormOutIdeal.τ Cert.NormOutIdeal.sig) → Buf (Elt Ideal) ℓ) : Prop :=
  True

def Pre_NormOutRefIdeal (m : (ℓ : Loc Cert.NormOutRefIdeal.nD Cert.NormOutRefIdeal.τ Cert.NormOutRefIdeal.sig) → Buf (Elt Ideal) ℓ) : Prop :=
  True

def Pre_NormQ (m : (ℓ : Loc Cert.NormQ.nD Cert.NormQ.τ Cert.NormQ.sig) → Buf (Elt Bits) ℓ) : Prop :=
  True

def Pre_NormQIdeal (m : (ℓ : Loc Cert.NormQIdeal.nD Cert.NormQIdeal.τ Cert.NormQIdeal.sig) → Buf (Elt Ideal) ℓ) : Prop :=
  True

def Pre_NormQRefIdeal (m : (ℓ : Loc Cert.NormQRefIdeal.nD Cert.NormQRefIdeal.τ Cert.NormQRefIdeal.sig) → Buf (Elt Ideal) ℓ) : Prop :=
  True

def Pre_NormKv (m : (ℓ : Loc Cert.NormKv.nD Cert.NormKv.τ Cert.NormKv.sig) → Buf (Elt Bits) ℓ) : Prop :=
  True

def Pre_NormKvIdeal (m : (ℓ : Loc Cert.NormKvIdeal.nD Cert.NormKvIdeal.τ Cert.NormKvIdeal.sig) → Buf (Elt Ideal) ℓ) : Prop :=
  True

def Pre_NormKvRefIdeal (m : (ℓ : Loc Cert.NormKvRefIdeal.nD Cert.NormKvRefIdeal.τ Cert.NormKvRefIdeal.sig) → Buf (Elt Ideal) ℓ) : Prop :=
  True

def Pre_NormInB (m : (ℓ : Loc Cert.NormInB.nD Cert.NormInB.τ Cert.NormInB.sig) → Buf (Elt Bits) ℓ) : Prop :=
  True

def Pre_NormInBIdeal (m : (ℓ : Loc Cert.NormInBIdeal.nD Cert.NormInBIdeal.τ Cert.NormInBIdeal.sig) → Buf (Elt Ideal) ℓ) : Prop :=
  True

def Pre_NormInBIdeal_finite_norm_in [hPre_finite_norm_in : Cert.Pre_finite_norm_in.Facts] (m : (ℓ : Loc Cert.NormInBIdeal.nD Cert.NormInBIdeal.τ Cert.NormInBIdeal.sig) → Buf (Elt Ideal) ℓ) : Prop :=
  ∀ c : Dev Cert.NormInBIdeal.nD,
    (Cert.Pre_finite_norm_in.fn (F := Ideal) (m ((c.tc : Thread Cert.NormInBIdeal.nD Cert.NormInBIdeal.τ).loc Cert.NormInBIdeal.main_arg0)) (m ((c.tc : Thread Cert.NormInBIdeal.nD Cert.NormInBIdeal.τ).loc Cert.NormInBIdeal.main_arg1)) (m ((c.tc : Thread Cert.NormInBIdeal.nD Cert.NormInBIdeal.τ).loc Cert.NormInBIdeal.main_arg2)) (m ((c.tc : Thread Cert.NormInBIdeal.nD Cert.NormInBIdeal.τ).loc Cert.NormInBIdeal.main_arg3))).1 = (fun _ => 1#1)
    ∧ (Cert.Pre_finite_norm_in.fn (F := Ideal) (m ((c.tc : Thread Cert.NormInBIdeal.nD Cert.NormInBIdeal.τ).loc Cert.NormInBIdeal.main_arg0)) (m ((c.tc : Thread Cert.NormInBIdeal.nD Cert.NormInBIdeal.τ).loc Cert.NormInBIdeal.main_arg1)) (m ((c.tc : Thread Cert.NormInBIdeal.nD Cert.NormInBIdeal.τ).loc Cert.NormInBIdeal.main_arg2)) (m ((c.tc : Thread Cert.NormInBIdeal.nD Cert.NormInBIdeal.τ).loc Cert.NormInBIdeal.main_arg3))).2.1 = (fun _ => 1#1)
    ∧ (Cert.Pre_finite_norm_in.fn (F := Ideal) (m ((c.tc : Thread Cert.NormInBIdeal.nD Cert.NormInBIdeal.τ).loc Cert.NormInBIdeal.main_arg0)) (m ((c.tc : Thread Cert.NormInBIdeal.nD Cert.NormInBIdeal.τ).loc Cert.NormInBIdeal.main_arg1)) (m ((c.tc : Thread Cert.NormInBIdeal.nD Cert.NormInBIdeal.τ).loc Cert.NormInBIdeal.main_arg2)) (m ((c.tc : Thread Cert.NormInBIdeal.nD Cert.NormInBIdeal.τ).loc Cert.NormInBIdeal.main_arg3))).2.2 = (fun _ => 1#1)

def Pre_NormInBRefIdeal (m : (ℓ : Loc Cert.NormInBRefIdeal.nD Cert.NormInBRefIdeal.τ Cert.NormInBRefIdeal.sig) → Buf (Elt Ideal) ℓ) : Prop :=
  True

def Pre_NormInBRefIdeal_finite_norm_in [hPre_finite_norm_in : Cert.Pre_finite_norm_in.Facts] (m : (ℓ : Loc Cert.NormInBRefIdeal.nD Cert.NormInBRefIdeal.τ Cert.NormInBRefIdeal.sig) → Buf (Elt Ideal) ℓ) : Prop :=
  ∀ c : Dev Cert.NormInBRefIdeal.nD,
    (Cert.Pre_finite_norm_in.fn (F := Ideal) (m ((c.tc : Thread Cert.NormInBRefIdeal.nD Cert.NormInBRefIdeal.τ).loc Cert.NormInBRefIdeal.main_arg0)) (m ((c.tc : Thread Cert.NormInBRefIdeal.nD Cert.NormInBRefIdeal.τ).loc Cert.NormInBRefIdeal.main_arg1)) (m ((c.tc : Thread Cert.NormInBRefIdeal.nD Cert.NormInBRefIdeal.τ).loc Cert.NormInBRefIdeal.main_arg2)) (m ((c.tc : Thread Cert.NormInBRefIdeal.nD Cert.NormInBRefIdeal.τ).loc Cert.NormInBRefIdeal.main_arg3))).1 = (fun _ => 1#1)
    ∧ (Cert.Pre_finite_norm_in.fn (F := Ideal) (m ((c.tc : Thread Cert.NormInBRefIdeal.nD Cert.NormInBRefIdeal.τ).loc Cert.NormInBRefIdeal.main_arg0)) (m ((c.tc : Thread Cert.NormInBRefIdeal.nD Cert.NormInBRefIdeal.τ).loc Cert.NormInBRefIdeal.main_arg1)) (m ((c.tc : Thread Cert.NormInBRefIdeal.nD Cert.NormInBRefIdeal.τ).loc Cert.NormInBRefIdeal.main_arg2)) (m ((c.tc : Thread Cert.NormInBRefIdeal.nD Cert.NormInBRefIdeal.τ).loc Cert.NormInBRefIdeal.main_arg3))).2.1 = (fun _ => 1#1)
    ∧ (Cert.Pre_finite_norm_in.fn (F := Ideal) (m ((c.tc : Thread Cert.NormInBRefIdeal.nD Cert.NormInBRefIdeal.τ).loc Cert.NormInBRefIdeal.main_arg0)) (m ((c.tc : Thread Cert.NormInBRefIdeal.nD Cert.NormInBRefIdeal.τ).loc Cert.NormInBRefIdeal.main_arg1)) (m ((c.tc : Thread Cert.NormInBRefIdeal.nD Cert.NormInBRefIdeal.τ).loc Cert.NormInBRefIdeal.main_arg2)) (m ((c.tc : Thread Cert.NormInBRefIdeal.nD Cert.NormInBRefIdeal.τ).loc Cert.NormInBRefIdeal.main_arg3))).2.2 = (fun _ => 1#1)

def Pre_NormOutB (m : (ℓ : Loc Cert.NormOutB.nD Cert.NormOutB.τ Cert.NormOutB.sig) → Buf (Elt Bits) ℓ) : Prop :=
  True

def Pre_NormOutBIdeal (m : (ℓ : Loc Cert.NormOutBIdeal.nD Cert.NormOutBIdeal.τ Cert.NormOutBIdeal.sig) → Buf (Elt Ideal) ℓ) : Prop :=
  True

def Pre_NormOutBIdeal_finite_norm [hPre_finite_norm : Cert.Pre_finite_norm.Facts] (m : (ℓ : Loc Cert.NormOutBIdeal.nD Cert.NormOutBIdeal.τ Cert.NormOutBIdeal.sig) → Buf (Elt Ideal) ℓ) : Prop :=
  ∀ c : Dev Cert.NormOutBIdeal.nD,
    (Cert.Pre_finite_norm.fn (F := Ideal) (m ((c.tc : Thread Cert.NormOutBIdeal.nD Cert.NormOutBIdeal.τ).loc Cert.NormOutBIdeal.main_arg0)) (m ((c.tc : Thread Cert.NormOutBIdeal.nD Cert.NormOutBIdeal.τ).loc Cert.NormOutBIdeal.main_arg1)) (m ((c.tc : Thread Cert.NormOutBIdeal.nD Cert.NormOutBIdeal.τ).loc Cert.NormOutBIdeal.main_arg2))).1 = (fun _ => 1#1)
    ∧ (Cert.Pre_finite_norm.fn (F := Ideal) (m ((c.tc : Thread Cert.NormOutBIdeal.nD Cert.NormOutBIdeal.τ).loc Cert.NormOutBIdeal.main_arg0)) (m ((c.tc : Thread Cert.NormOutBIdeal.nD Cert.NormOutBIdeal.τ).loc Cert.NormOutBIdeal.main_arg1)) (m ((c.tc : Thread Cert.NormOutBIdeal.nD Cert.NormOutBIdeal.τ).loc Cert.NormOutBIdeal.main_arg2))).2.1 = (fun _ => 1#1)
    ∧ (Cert.Pre_finite_norm.fn (F := Ideal) (m ((c.tc : Thread Cert.NormOutBIdeal.nD Cert.NormOutBIdeal.τ).loc Cert.NormOutBIdeal.main_arg0)) (m ((c.tc : Thread Cert.NormOutBIdeal.nD Cert.NormOutBIdeal.τ).loc Cert.NormOutBIdeal.main_arg1)) (m ((c.tc : Thread Cert.NormOutBIdeal.nD Cert.NormOutBIdeal.τ).loc Cert.NormOutBIdeal.main_arg2))).2.2 = (fun _ => 1#1)

def Pre_NormOutBRefIdeal (m : (ℓ : Loc Cert.NormOutBRefIdeal.nD Cert.NormOutBRefIdeal.τ Cert.NormOutBRefIdeal.sig) → Buf (Elt Ideal) ℓ) : Prop :=
  True

def Pre_NormOutBRefIdeal_finite_norm [hPre_finite_norm : Cert.Pre_finite_norm.Facts] (m : (ℓ : Loc Cert.NormOutBRefIdeal.nD Cert.NormOutBRefIdeal.τ Cert.NormOutBRefIdeal.sig) → Buf (Elt Ideal) ℓ) : Prop :=
  ∀ c : Dev Cert.NormOutBRefIdeal.nD,
    (Cert.Pre_finite_norm.fn (F := Ideal) (m ((c.tc : Thread Cert.NormOutBRefIdeal.nD Cert.NormOutBRefIdeal.τ).loc Cert.NormOutBRefIdeal.main_arg0)) (m ((c.tc : Thread Cert.NormOutBRefIdeal.nD Cert.NormOutBRefIdeal.τ).loc Cert.NormOutBRefIdeal.main_arg1)) (m ((c.tc : Thread Cert.NormOutBRefIdeal.nD Cert.NormOutBRefIdeal.τ).loc Cert.NormOutBRefIdeal.main_arg2))).1 = (fun _ => 1#1)
    ∧ (Cert.Pre_finite_norm.fn (F := Ideal) (m ((c.tc : Thread Cert.NormOutBRefIdeal.nD Cert.NormOutBRefIdeal.τ).loc Cert.NormOutBRefIdeal.main_arg0)) (m ((c.tc : Thread Cert.NormOutBRefIdeal.nD Cert.NormOutBRefIdeal.τ).loc Cert.NormOutBRefIdeal.main_arg1)) (m ((c.tc : Thread Cert.NormOutBRefIdeal.nD Cert.NormOutBRefIdeal.τ).loc Cert.NormOutBRefIdeal.main_arg2))).2.1 = (fun _ => 1#1)
    ∧ (Cert.Pre_finite_norm.fn (F := Ideal) (m ((c.tc : Thread Cert.NormOutBRefIdeal.nD Cert.NormOutBRefIdeal.τ).loc Cert.NormOutBRefIdeal.main_arg0)) (m ((c.tc : Thread Cert.NormOutBRefIdeal.nD Cert.NormOutBRefIdeal.τ).loc Cert.NormOutBRefIdeal.main_arg1)) (m ((c.tc : Thread Cert.NormOutBRefIdeal.nD Cert.NormOutBRefIdeal.τ).loc Cert.NormOutBRefIdeal.main_arg2))).2.2 = (fun _ => 1#1)

def Pre_GateB (m : (ℓ : Loc Cert.GateB.nD Cert.GateB.τ Cert.GateB.sig) → Buf (Elt Bits) ℓ) : Prop :=
  True

def Pre_GateBIdeal (m : (ℓ : Loc Cert.GateBIdeal.nD Cert.GateBIdeal.τ Cert.GateBIdeal.sig) → Buf (Elt Ideal) ℓ) : Prop :=
  True

def Pre_GateBRefIdeal (m : (ℓ : Loc Cert.GateBRefIdeal.nD Cert.GateBRefIdeal.τ Cert.GateBRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Dfin [hDfin : Cert.Dfin.Facts] : Prop :=
  ∀ (m : (ℓ : Loc Cert.Dfin.nD Cert.Dfin.τ Cert.Dfin.sig) → Buf (Elt Bits) ℓ) (g : Dev Cert.Dfin.nD → PrngReg), Pre_Dfin m →
    θ_run (Cert.Dfin.defs (F := Bits)) (onTc (τ := Cert.Dfin.τ) (Cert.Dfin.main (F := Bits))) ⟨m, fun _ => 0, g⟩ (fun r => (∀ c : Dev Cert.Dfin.nD,
      r.2.mem ((c.tc : Thread Cert.Dfin.nD Cert.Dfin.τ).loc Cert.Dfin.main_arg0) = m ((c.tc : Thread Cert.Dfin.nD Cert.Dfin.τ).loc Cert.Dfin.main_arg0)
      ∧ r.2.mem ((c.tc : Thread Cert.Dfin.nD Cert.Dfin.τ).loc Cert.Dfin.main_arg1) = m ((c.tc : Thread Cert.Dfin.nD Cert.Dfin.τ).loc Cert.Dfin.main_arg1)
      ∧ r.2.mem ((c.tc : Thread Cert.Dfin.nD Cert.Dfin.τ).loc Cert.Dfin.main_arg2) = m ((c.tc : Thread Cert.Dfin.nD Cert.Dfin.τ).loc Cert.Dfin.main_arg2))
      ∧ r.2.sem = fun _ => 0)

def quiescent_DfinIdeal [hDfinIdeal : Cert.DfinIdeal.Facts] : Prop :=
  ∀ (m : (ℓ : Loc Cert.DfinIdeal.nD Cert.DfinIdeal.τ Cert.DfinIdeal.sig) → Buf (Elt Ideal) ℓ) (g : Dev Cert.DfinIdeal.nD → PrngReg), Pre_DfinIdeal m →
    θ_run (Cert.DfinIdeal.defs (F := Ideal)) (onTc (τ := Cert.DfinIdeal.τ) (Cert.DfinIdeal.main (F := Ideal))) ⟨m, fun _ => 0, g⟩ (fun r => (∀ c : Dev Cert.DfinIdeal.nD,
      r.2.mem ((c.tc : Thread Cert.DfinIdeal.nD Cert.DfinIdeal.τ).loc Cert.DfinIdeal.main_arg0) = m ((c.tc : Thread Cert.DfinIdeal.nD Cert.DfinIdeal.τ).loc Cert.DfinIdeal.main_arg0)
      ∧ r.2.mem ((c.tc : Thread Cert.DfinIdeal.nD Cert.DfinIdeal.τ).loc Cert.DfinIdeal.main_arg1) = m ((c.tc : Thread Cert.DfinIdeal.nD Cert.DfinIdeal.τ).loc Cert.DfinIdeal.main_arg1)
      ∧ r.2.mem ((c.tc : Thread Cert.DfinIdeal.nD Cert.DfinIdeal.τ).loc Cert.DfinIdeal.main_arg2) = m ((c.tc : Thread Cert.DfinIdeal.nD Cert.DfinIdeal.τ).loc Cert.DfinIdeal.main_arg2))
      ∧ r.2.sem = fun _ => 0)

def quiescent_DfinRefIdeal [hDfinRefIdeal : Cert.DfinRefIdeal.Facts] : Prop :=
  ∀ (m : (ℓ : Loc Cert.DfinRefIdeal.nD Cert.DfinRefIdeal.τ Cert.DfinRefIdeal.sig) → Buf (Elt Ideal) ℓ) (g : Dev Cert.DfinRefIdeal.nD → PrngReg), Pre_DfinRefIdeal m →
    θ_run (Cert.DfinRefIdeal.defs (F := Ideal)) (onTc (τ := Cert.DfinRefIdeal.τ) (Cert.DfinRefIdeal.main (F := Ideal))) ⟨m, fun _ => 0, g⟩ (fun r => (∀ c : Dev Cert.DfinRefIdeal.nD,
      r.2.mem ((c.tc : Thread Cert.DfinRefIdeal.nD Cert.DfinRefIdeal.τ).loc Cert.DfinRefIdeal.main_arg0) = m ((c.tc : Thread Cert.DfinRefIdeal.nD Cert.DfinRefIdeal.τ).loc Cert.DfinRefIdeal.main_arg0)
      ∧ r.2.mem ((c.tc : Thread Cert.DfinRefIdeal.nD Cert.DfinRefIdeal.τ).loc Cert.DfinRefIdeal.main_arg1) = m ((c.tc : Thread Cert.DfinRefIdeal.nD Cert.DfinRefIdeal.τ).loc Cert.DfinRefIdeal.main_arg1)
      ∧ r.2.mem ((c.tc : Thread Cert.DfinRefIdeal.nD Cert.DfinRefIdeal.τ).loc Cert.DfinRefIdeal.main_arg2) = m ((c.tc : Thread Cert.DfinRefIdeal.nD Cert.DfinRefIdeal.τ).loc Cert.DfinRefIdeal.main_arg2))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1))
      ∧ r.2.sem = fun _ => 0)

def quiescent_DilDhn [hDilDhn : Cert.DilDhn.Facts] : Prop :=
  ∀ (m : (ℓ : Loc Cert.DilDhn.nD Cert.DilDhn.τ Cert.DilDhn.sig) → Buf (Elt Bits) ℓ) (g : Dev Cert.DilDhn.nD → PrngReg), Pre_DilDhn m →
    θ_run (Cert.DilDhn.defs (F := Bits)) (onTc (τ := Cert.DilDhn.τ) (Cert.DilDhn.main (F := Bits))) ⟨m, fun _ => 0, g⟩ (fun r => (∀ c : Dev Cert.DilDhn.nD,
      r.2.mem ((c.tc : Thread Cert.DilDhn.nD Cert.DilDhn.τ).loc Cert.DilDhn.main_arg0) = m ((c.tc : Thread Cert.DilDhn.nD Cert.DilDhn.τ).loc Cert.DilDhn.main_arg0)
      ∧ r.2.mem ((c.tc : Thread Cert.DilDhn.nD Cert.DilDhn.τ).loc Cert.DilDhn.main_arg1) = m ((c.tc : Thread Cert.DilDhn.nD Cert.DilDhn.τ).loc Cert.DilDhn.main_arg1))
      ∧ r.2.sem = fun _ => 0)

def quiescent_DilDhnIdeal [hDilDhnIdeal : Cert.DilDhnIdeal.Facts] : Prop :=
  ∀ (m : (ℓ : Loc Cert.DilDhnIdeal.nD Cert.DilDhnIdeal.τ Cert.DilDhnIdeal.sig) → Buf (Elt Ideal) ℓ) (g : Dev Cert.DilDhnIdeal.nD → PrngReg), Pre_DilDhnIdeal m →
    θ_run (Cert.DilDhnIdeal.defs (F := Ideal)) (onTc (τ := Cert.DilDhnIdeal.τ) (Cert.DilDhnIdeal.main (F := Ideal))) ⟨m, fun _ => 0, g⟩ (fun r => (∀ c : Dev Cert.DilDhnIdeal.nD,
      r.2.mem ((c.tc : Thread Cert.DilDhnIdeal.nD Cert.DilDhnIdeal.τ).loc Cert.DilDhnIdeal.main_arg0) = m ((c.tc : Thread Cert.DilDhnIdeal.nD Cert.DilDhnIdeal.τ).loc Cert.DilDhnIdeal.main_arg0)
      ∧ r.2.mem ((c.tc : Thread Cert.DilDhnIdeal.nD Cert.DilDhnIdeal.τ).loc Cert.DilDhnIdeal.main_arg1) = m ((c.tc : Thread Cert.DilDhnIdeal.nD Cert.DilDhnIdeal.τ).loc Cert.DilDhnIdeal.main_arg1))
      ∧ r.2.sem = fun _ => 0)

def quiescent_DilDhnRefIdeal [hDilDhnRefIdeal : Cert.DilDhnRefIdeal.Facts] : Prop :=
  ∀ (m : (ℓ : Loc Cert.DilDhnRefIdeal.nD Cert.DilDhnRefIdeal.τ Cert.DilDhnRefIdeal.sig) → Buf (Elt Ideal) ℓ) (g : Dev Cert.DilDhnRefIdeal.nD → PrngReg), Pre_DilDhnRefIdeal m →
    θ_run (Cert.DilDhnRefIdeal.defs (F := Ideal)) (onTc (τ := Cert.DilDhnRefIdeal.τ) (Cert.DilDhnRefIdeal.main (F := Ideal))) ⟨m, fun _ => 0, g⟩ (fun r => (∀ c : Dev Cert.DilDhnRefIdeal.nD,
      r.2.mem ((c.tc : Thread Cert.DilDhnRefIdeal.nD Cert.DilDhnRefIdeal.τ).loc Cert.DilDhnRefIdeal.main_arg0) = m ((c.tc : Thread Cert.DilDhnRefIdeal.nD Cert.DilDhnRefIdeal.τ).loc Cert.DilDhnRefIdeal.main_arg0)
      ∧ r.2.mem ((c.tc : Thread Cert.DilDhnRefIdeal.nD Cert.DilDhnRefIdeal.τ).loc Cert.DilDhnRefIdeal.main_arg1) = m ((c.tc : Thread Cert.DilDhnRefIdeal.nD Cert.DilDhnRefIdeal.τ).loc Cert.DilDhnRefIdeal.main_arg1))
      ∧ r.2.sem = fun _ => 0)

def quiescent_DilDw [hDilDw : Cert.DilDw.Facts] : Prop :=
  ∀ (m : (ℓ : Loc Cert.DilDw.nD Cert.DilDw.τ Cert.DilDw.sig) → Buf (Elt Bits) ℓ) (g : Dev Cert.DilDw.nD → PrngReg), Pre_DilDw m →
    θ_run (Cert.DilDw.defs (F := Bits)) (onTc (τ := Cert.DilDw.τ) (Cert.DilDw.main (F := Bits))) ⟨m, fun _ => 0, g⟩ (fun r => (∀ c : Dev Cert.DilDw.nD,
      r.2.mem ((c.tc : Thread Cert.DilDw.nD Cert.DilDw.τ).loc Cert.DilDw.main_arg0) = m ((c.tc : Thread Cert.DilDw.nD Cert.DilDw.τ).loc Cert.DilDw.main_arg0)
      ∧ r.2.mem ((c.tc : Thread Cert.DilDw.nD Cert.DilDw.τ).loc Cert.DilDw.main_arg1) = m ((c.tc : Thread Cert.DilDw.nD Cert.DilDw.τ).loc Cert.DilDw.main_arg1))
      ∧ r.2.sem = fun _ => 0)

def quiescent_DilDwIdeal [hDilDwIdeal : Cert.DilDwIdeal.Facts] : Prop :=
  ∀ (m : (ℓ : Loc Cert.DilDwIdeal.nD Cert.DilDwIdeal.τ Cert.DilDwIdeal.sig) → Buf (Elt Ideal) ℓ) (g : Dev Cert.DilDwIdeal.nD → PrngReg), Pre_DilDwIdeal m →
    θ_run (Cert.DilDwIdeal.defs (F := Ideal)) (onTc (τ := Cert.DilDwIdeal.τ) (Cert.DilDwIdeal.main (F := Ideal))) ⟨m, fun _ => 0, g⟩ (fun r => (∀ c : Dev Cert.DilDwIdeal.nD,
      r.2.mem ((c.tc : Thread Cert.DilDwIdeal.nD Cert.DilDwIdeal.τ).loc Cert.DilDwIdeal.main_arg0) = m ((c.tc : Thread Cert.DilDwIdeal.nD Cert.DilDwIdeal.τ).loc Cert.DilDwIdeal.main_arg0)
      ∧ r.2.mem ((c.tc : Thread Cert.DilDwIdeal.nD Cert.DilDwIdeal.τ).loc Cert.DilDwIdeal.main_arg1) = m ((c.tc : Thread Cert.DilDwIdeal.nD Cert.DilDwIdeal.τ).loc Cert.DilDwIdeal.main_arg1))
      ∧ r.2.sem = fun _ => 0)

def quiescent_DilDwRefIdeal [hDilDwRefIdeal : Cert.DilDwRefIdeal.Facts] : Prop :=
  ∀ (m : (ℓ : Loc Cert.DilDwRefIdeal.nD Cert.DilDwRefIdeal.τ Cert.DilDwRefIdeal.sig) → Buf (Elt Ideal) ℓ) (g : Dev Cert.DilDwRefIdeal.nD → PrngReg), Pre_DilDwRefIdeal m →
    θ_run (Cert.DilDwRefIdeal.defs (F := Ideal)) (onTc (τ := Cert.DilDwRefIdeal.τ) (Cert.DilDwRefIdeal.main (F := Ideal))) ⟨m, fun _ => 0, g⟩ (fun r => (∀ c : Dev Cert.DilDwRefIdeal.nD,
      r.2.mem ((c.tc : Thread Cert.DilDwRefIdeal.nD Cert.DilDwRefIdeal.τ).loc Cert.DilDwRefIdeal.main_arg0) = m ((c.tc : Thread Cert.DilDwRefIdeal.nD Cert.DilDwRefIdeal.τ).loc Cert.DilDwRefIdeal.main_arg0)
      ∧ r.2.mem ((c.tc : Thread Cert.DilDwRefIdeal.nD Cert.DilDwRefIdeal.τ).loc Cert.DilDwRefIdeal.main_arg1) = m ((c.tc : Thread Cert.DilDwRefIdeal.nD Cert.DilDwRefIdeal.τ).loc Cert.DilDwRefIdeal.main_arg1))
      ∧ r.2.sem = fun _ => 0)

def quiescent_ProjDo [hProjDo : Cert.ProjDo.Facts] : Prop :=
  ∀ (m : (ℓ : Loc Cert.ProjDo.nD Cert.ProjDo.τ Cert.ProjDo.sig) → Buf (Elt Bits) ℓ) (g : Dev Cert.ProjDo.nD → PrngReg), Pre_ProjDo m →
    θ_run (Cert.ProjDo.defs (F := Bits)) (onTc (τ := Cert.ProjDo.τ) (Cert.ProjDo.main (F := Bits))) ⟨m, fun _ => 0, g⟩ (fun r => (∀ c : Dev Cert.ProjDo.nD,
      r.2.mem ((c.tc : Thread Cert.ProjDo.nD Cert.ProjDo.τ).loc Cert.ProjDo.main_arg0) = m ((c.tc : Thread Cert.ProjDo.nD Cert.ProjDo.τ).loc Cert.ProjDo.main_arg0)
      ∧ r.2.mem ((c.tc : Thread Cert.ProjDo.nD Cert.ProjDo.τ).loc Cert.ProjDo.main_arg1) = m ((c.tc : Thread Cert.ProjDo.nD Cert.ProjDo.τ).loc Cert.ProjDo.main_arg1))
      ∧ r.2.sem = fun _ => 0)

def quiescent_ProjDoIdeal [hProjDoIdeal : Cert.ProjDoIdeal.Facts] : Prop :=
  ∀ (m : (ℓ : Loc Cert.ProjDoIdeal.nD Cert.ProjDoIdeal.τ Cert.ProjDoIdeal.sig) → Buf (Elt Ideal) ℓ) (g : Dev Cert.ProjDoIdeal.nD → PrngReg), Pre_ProjDoIdeal m →
    θ_run (Cert.ProjDoIdeal.defs (F := Ideal)) (onTc (τ := Cert.ProjDoIdeal.τ) (Cert.ProjDoIdeal.main (F := Ideal))) ⟨m, fun _ => 0, g⟩ (fun r => (∀ c : Dev Cert.ProjDoIdeal.nD,
      r.2.mem ((c.tc : Thread Cert.ProjDoIdeal.nD Cert.ProjDoIdeal.τ).loc Cert.ProjDoIdeal.main_arg0) = m ((c.tc : Thread Cert.ProjDoIdeal.nD Cert.ProjDoIdeal.τ).loc Cert.ProjDoIdeal.main_arg0)
      ∧ r.2.mem ((c.tc : Thread Cert.ProjDoIdeal.nD Cert.ProjDoIdeal.τ).loc Cert.ProjDoIdeal.main_arg1) = m ((c.tc : Thread Cert.ProjDoIdeal.nD Cert.ProjDoIdeal.τ).loc Cert.ProjDoIdeal.main_arg1))
      ∧ r.2.sem = fun _ => 0)

def quiescent_ProjDoRefIdeal [hProjDoRefIdeal : Cert.ProjDoRefIdeal.Facts] : Prop :=
  ∀ (m : (ℓ : Loc Cert.ProjDoRefIdeal.nD Cert.ProjDoRefIdeal.τ Cert.ProjDoRefIdeal.sig) → Buf (Elt Ideal) ℓ) (g : Dev Cert.ProjDoRefIdeal.nD → PrngReg), Pre_ProjDoRefIdeal m →
    θ_run (Cert.ProjDoRefIdeal.defs (F := Ideal)) (onTc (τ := Cert.ProjDoRefIdeal.τ) (Cert.ProjDoRefIdeal.main (F := Ideal))) ⟨m, fun _ => 0, g⟩ (fun r => (∀ c : Dev Cert.ProjDoRefIdeal.nD,
      r.2.mem ((c.tc : Thread Cert.ProjDoRefIdeal.nD Cert.ProjDoRefIdeal.τ).loc Cert.ProjDoRefIdeal.main_arg0) = m ((c.tc : Thread Cert.ProjDoRefIdeal.nD Cert.ProjDoRefIdeal.τ).loc Cert.ProjDoRefIdeal.main_arg0)
      ∧ r.2.mem ((c.tc : Thread Cert.ProjDoRefIdeal.nD Cert.ProjDoRefIdeal.τ).loc Cert.ProjDoRefIdeal.main_arg1) = m ((c.tc : Thread Cert.ProjDoRefIdeal.nD Cert.ProjDoRefIdeal.τ).loc Cert.ProjDoRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_GateDx [hGateDx : Cert.GateDx.Facts] : Prop :=
  ∀ (m : (ℓ : Loc Cert.GateDx.nD Cert.GateDx.τ Cert.GateDx.sig) → Buf (Elt Bits) ℓ) (g : Dev Cert.GateDx.nD → PrngReg), Pre_GateDx m →
    θ_run (Cert.GateDx.defs (F := Bits)) (onTc (τ := Cert.GateDx.τ) (Cert.GateDx.main (F := Bits))) ⟨m, fun _ => 0, g⟩ (fun r => (∀ c : Dev Cert.GateDx.nD,
      r.2.mem ((c.tc : Thread Cert.GateDx.nD Cert.GateDx.τ).loc Cert.GateDx.main_arg0) = m ((c.tc : Thread Cert.GateDx.nD Cert.GateDx.τ).loc Cert.GateDx.main_arg0)
      ∧ r.2.mem ((c.tc : Thread Cert.GateDx.nD Cert.GateDx.τ).loc Cert.GateDx.main_arg1) = m ((c.tc : Thread Cert.GateDx.nD Cert.GateDx.τ).loc Cert.GateDx.main_arg1)
      ∧ r.2.mem ((c.tc : Thread Cert.GateDx.nD Cert.GateDx.τ).loc Cert.GateDx.main_arg2) = m ((c.tc : Thread Cert.GateDx.nD Cert.GateDx.τ).loc Cert.GateDx.main_arg2))
      ∧ r.2.sem = fun _ => 0)

def quiescent_GateDxIdeal [hGateDxIdeal : Cert.GateDxIdeal.Facts] : Prop :=
  ∀ (m : (ℓ : Loc Cert.GateDxIdeal.nD Cert.GateDxIdeal.τ Cert.GateDxIdeal.sig) → Buf (Elt Ideal) ℓ) (g : Dev Cert.GateDxIdeal.nD → PrngReg), Pre_GateDxIdeal m →
    θ_run (Cert.GateDxIdeal.defs (F := Ideal)) (onTc (τ := Cert.GateDxIdeal.τ) (Cert.GateDxIdeal.main (F := Ideal))) ⟨m, fun _ => 0, g⟩ (fun r => (∀ c : Dev Cert.GateDxIdeal.nD,
      r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
      ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1)
      ∧ r.2.mem ((c.tc : Thread Cert.GateDxIdeal.nD Cert.GateDxIdeal.τ).loc Cert.GateDxIdeal.main_arg2) = m ((c.tc : Thread Cert.GateDxIdeal.nD Cert.GateDxIdeal.τ).loc Cert.GateDxIdeal.main_arg2))
      ∧ r.2.sem = fun _ => 0)

def quiescent_GateDxRefIdeal [hGateDxRefIdeal : Cert.GateDxRefIdeal.Facts] : Prop :=
  ∀ (m : (ℓ : Loc Cert.GateDxRefIdeal.nD Cert.GateDxRefIdeal.τ Cert.GateDxRefIdeal.sig) → Buf (Elt Ideal) ℓ) (g : Dev Cert.GateDxRefIdeal.nD → PrngReg), Pre_GateDxRefIdeal m →
    θ_run (Cert.GateDxRefIdeal.defs (F := Ideal)) (onTc (τ := Cert.GateDxRefIdeal.τ) (Cert.GateDxRefIdeal.main (F := Ideal))) ⟨m, fun _ => 0, g⟩ (fun r => (∀ c : Dev Cert.GateDxRefIdeal.nD,
      r.2.mem ((c.tc : Thread Cert.GateDxRefIdeal.nD Cert.GateDxRefIdeal.τ).loc Cert.GateDxRefIdeal.main_arg0) = m ((c.tc : Thread Cert.GateDxRefIdeal.nD Cert.GateDxRefIdeal.τ).loc Cert.GateDxRefIdeal.main_arg0)
      ∧ r.2.mem ((c.tc : Thread Cert.GateDxRefIdeal.nD Cert.GateDxRefIdeal.τ).loc Cert.GateDxRefIdeal.main_arg1) = m ((c.tc : Thread Cert.GateDxRefIdeal.nD Cert.GateDxRefIdeal.τ).loc Cert.GateDxRefIdeal.main_arg1)
      ∧ r.2.mem ((c.tc : Thread Cert.GateDxRefIdeal.nD Cert.GateDxRefIdeal.τ).loc Cert.GateDxRefIdeal.main_arg2) = m ((c.tc : Thread Cert.GateDxRefIdeal.nD Cert.GateDxRefIdeal.τ).loc Cert.GateDxRefIdeal.main_arg2))
      ∧ r.2.sem = fun _ => 0)

def quiescent_FoxIn [hFoxIn : Cert.FoxIn.Facts] : Prop :=
  ∀ (m : (ℓ : Loc Cert.FoxIn.nD Cert.FoxIn.τ Cert.FoxIn.sig) → Buf (Elt Bits) ℓ) (g : Dev Cert.FoxIn.nD → PrngReg), Pre_FoxIn m →
    θ_run (Cert.FoxIn.defs (F := Bits)) (onTc (τ := Cert.FoxIn.τ) (Cert.FoxIn.main (F := Bits))) ⟨m, fun _ => 0, g⟩ (fun r => (∀ c : Dev Cert.FoxIn.nD,
      r.2.mem ((c.tc : Thread Cert.FoxIn.nD Cert.FoxIn.τ).loc Cert.FoxIn.main_arg0) = m ((c.tc : Thread Cert.FoxIn.nD Cert.FoxIn.τ).loc Cert.FoxIn.main_arg0)
      ∧ r.2.mem ((c.tc : Thread Cert.FoxIn.nD Cert.FoxIn.τ).loc Cert.FoxIn.main_arg1) = m ((c.tc : Thread Cert.FoxIn.nD Cert.FoxIn.τ).loc Cert.FoxIn.main_arg1))
      ∧ r.2.sem = fun _ => 0)

def quiescent_FoxInIdeal [hFoxInIdeal : Cert.FoxInIdeal.Facts] : Prop :=
  ∀ (m : (ℓ : Loc Cert.FoxInIdeal.nD Cert.FoxInIdeal.τ Cert.FoxInIdeal.sig) → Buf (Elt Ideal) ℓ) (g : Dev Cert.FoxInIdeal.nD → PrngReg), Pre_FoxInIdeal m →
    θ_run (Cert.FoxInIdeal.defs (F := Ideal)) (onTc (τ := Cert.FoxInIdeal.τ) (Cert.FoxInIdeal.main (F := Ideal))) ⟨m, fun _ => 0, g⟩ (fun r => (∀ c : Dev Cert.FoxInIdeal.nD,
      r.2.mem ((c.tc : Thread Cert.FoxInIdeal.nD Cert.FoxInIdeal.τ).loc Cert.FoxInIdeal.main_arg0) = m ((c.tc : Thread Cert.FoxInIdeal.nD Cert.FoxInIdeal.τ).loc Cert.FoxInIdeal.main_arg0)
      ∧ r.2.mem ((c.tc : Thread Cert.FoxInIdeal.nD Cert.FoxInIdeal.τ).loc Cert.FoxInIdeal.main_arg1) = m ((c.tc : Thread Cert.FoxInIdeal.nD Cert.FoxInIdeal.τ).loc Cert.FoxInIdeal.main_arg1))
      ∧ r.2.sem = fun _ => 0)

def quiescent_FoxInRefIdeal [hFoxInRefIdeal : Cert.FoxInRefIdeal.Facts] : Prop :=
  ∀ (m : (ℓ : Loc Cert.FoxInRefIdeal.nD Cert.FoxInRefIdeal.τ Cert.FoxInRefIdeal.sig) → Buf (Elt Ideal) ℓ) (g : Dev Cert.FoxInRefIdeal.nD → PrngReg), Pre_FoxInRefIdeal m →
    θ_run (Cert.FoxInRefIdeal.defs (F := Ideal)) (onTc (τ := Cert.FoxInRefIdeal.τ) (Cert.FoxInRefIdeal.main (F := Ideal))) ⟨m, fun _ => 0, g⟩ (fun r => (∀ c : Dev Cert.FoxInRefIdeal.nD,
      r.2.mem ((c.tc : Thread Cert.FoxInRefIdeal.nD Cert.FoxInRefIdeal.τ).loc Cert.FoxInRefIdeal.main_arg0) = m ((c.tc : Thread Cert.FoxInRefIdeal.nD Cert.FoxInRefIdeal.τ).loc Cert.FoxInRefIdeal.main_arg0)
      ∧ r.2.mem ((c.tc : Thread Cert.FoxInRefIdeal.nD Cert.FoxInRefIdeal.τ).loc Cert.FoxInRefIdeal.main_arg1) = m ((c.tc : Thread Cert.FoxInRefIdeal.nD Cert.FoxInRefIdeal.τ).loc Cert.FoxInRefIdeal.main_arg1))
      ∧ r.2.sem = fun _ => 0)

def quiescent_FoxDw [hFoxDw : Cert.FoxDw.Facts] : Prop :=
  ∀ (m : (ℓ : Loc Cert.FoxDw.nD Cert.FoxDw.τ Cert.FoxDw.sig) → Buf (Elt Bits) ℓ) (g : Dev Cert.FoxDw.nD → PrngReg), Pre_FoxDw m →
    θ_run (Cert.FoxDw.defs (F := Bits)) (onTc (τ := Cert.FoxDw.τ) (Cert.FoxDw.main (F := Bits))) ⟨m, fun _ => 0, g⟩ (fun r => (∀ c : Dev Cert.FoxDw.nD,
      r.2.mem ((c.tc : Thread Cert.FoxDw.nD Cert.FoxDw.τ).loc Cert.FoxDw.main_arg0) = m ((c.tc : Thread Cert.FoxDw.nD Cert.FoxDw.τ).loc Cert.FoxDw.main_arg0)
      ∧ r.2.mem ((c.tc : Thread Cert.FoxDw.nD Cert.FoxDw.τ).loc Cert.FoxDw.main_arg1) = m ((c.tc : Thread Cert.FoxDw.nD Cert.FoxDw.τ).loc Cert.FoxDw.main_arg1))
      ∧ r.2.sem = fun _ => 0)

def quiescent_FoxDwIdeal [hFoxDwIdeal : Cert.FoxDwIdeal.Facts] : Prop :=
  ∀ (m : (ℓ : Loc Cert.FoxDwIdeal.nD Cert.FoxDwIdeal.τ Cert.FoxDwIdeal.sig) → Buf (Elt Ideal) ℓ) (g : Dev Cert.FoxDwIdeal.nD → PrngReg), Pre_FoxDwIdeal m →
    θ_run (Cert.FoxDwIdeal.defs (F := Ideal)) (onTc (τ := Cert.FoxDwIdeal.τ) (Cert.FoxDwIdeal.main (F := Ideal))) ⟨m, fun _ => 0, g⟩ (fun r => (∀ c : Dev Cert.FoxDwIdeal.nD,
      r.2.mem ((c.tc : Thread Cert.FoxDwIdeal.nD Cert.FoxDwIdeal.τ).loc Cert.FoxDwIdeal.main_arg0) = m ((c.tc : Thread Cert.FoxDwIdeal.nD Cert.FoxDwIdeal.τ).loc Cert.FoxDwIdeal.main_arg0)
      ∧ r.2.mem ((c.tc : Thread Cert.FoxDwIdeal.nD Cert.FoxDwIdeal.τ).loc Cert.FoxDwIdeal.main_arg1) = m ((c.tc : Thread Cert.FoxDwIdeal.nD Cert.FoxDwIdeal.τ).loc Cert.FoxDwIdeal.main_arg1))
      ∧ r.2.sem = fun _ => 0)

def quiescent_FoxDwRefIdeal [hFoxDwRefIdeal : Cert.FoxDwRefIdeal.Facts] : Prop :=
  ∀ (m : (ℓ : Loc Cert.FoxDwRefIdeal.nD Cert.FoxDwRefIdeal.τ Cert.FoxDwRefIdeal.sig) → Buf (Elt Ideal) ℓ) (g : Dev Cert.FoxDwRefIdeal.nD → PrngReg), Pre_FoxDwRefIdeal m →
    θ_run (Cert.FoxDwRefIdeal.defs (F := Ideal)) (onTc (τ := Cert.FoxDwRefIdeal.τ) (Cert.FoxDwRefIdeal.main (F := Ideal))) ⟨m, fun _ => 0, g⟩ (fun r => (∀ c : Dev Cert.FoxDwRefIdeal.nD,
      r.2.mem ((c.tc : Thread Cert.FoxDwRefIdeal.nD Cert.FoxDwRefIdeal.τ).loc Cert.FoxDwRefIdeal.main_arg0) = m ((c.tc : Thread Cert.FoxDwRefIdeal.nD Cert.FoxDwRefIdeal.τ).loc Cert.FoxDwRefIdeal.main_arg0)
      ∧ r.2.mem ((c.tc : Thread Cert.FoxDwRefIdeal.nD Cert.FoxDwRefIdeal.τ).loc Cert.FoxDwRefIdeal.main_arg1) = m ((c.tc : Thread Cert.FoxDwRefIdeal.nD Cert.FoxDwRefIdeal.τ).loc Cert.FoxDwRefIdeal.main_arg1))
      ∧ r.2.sem = fun _ => 0)

def quiescent_FoxDhn [hFoxDhn : Cert.FoxDhn.Facts] : Prop :=
  ∀ (m : (ℓ : Loc Cert.FoxDhn.nD Cert.FoxDhn.τ Cert.FoxDhn.sig) → Buf (Elt Bits) ℓ) (g : Dev Cert.FoxDhn.nD → PrngReg), Pre_FoxDhn m →
    θ_run (Cert.FoxDhn.defs (F := Bits)) (onTc (τ := Cert.FoxDhn.τ) (Cert.FoxDhn.main (F := Bits))) ⟨m, fun _ => 0, g⟩ (fun r => (∀ c : Dev Cert.FoxDhn.nD,
      r.2.mem ((c.tc : Thread Cert.FoxDhn.nD Cert.FoxDhn.τ).loc Cert.FoxDhn.main_arg0) = m ((c.tc : Thread Cert.FoxDhn.nD Cert.FoxDhn.τ).loc Cert.FoxDhn.main_arg0)
      ∧ r.2.mem ((c.tc : Thread Cert.FoxDhn.nD Cert.FoxDhn.τ).loc Cert.FoxDhn.main_arg1) = m ((c.tc : Thread Cert.FoxDhn.nD Cert.FoxDhn.τ).loc Cert.FoxDhn.main_arg1))
      ∧ r.2.sem = fun _ => 0)

def quiescent_FoxDhnIdeal [hFoxDhnIdeal : Cert.FoxDhnIdeal.Facts] : Prop :=
  ∀ (m : (ℓ : Loc Cert.FoxDhnIdeal.nD Cert.FoxDhnIdeal.τ Cert.FoxDhnIdeal.sig) → Buf (Elt Ideal) ℓ) (g : Dev Cert.FoxDhnIdeal.nD → PrngReg), Pre_FoxDhnIdeal m →
    θ_run (Cert.FoxDhnIdeal.defs (F := Ideal)) (onTc (τ := Cert.FoxDhnIdeal.τ) (Cert.FoxDhnIdeal.main (F := Ideal))) ⟨m, fun _ => 0, g⟩ (fun r => (∀ c : Dev Cert.FoxDhnIdeal.nD,
      r.2.mem ((c.tc : Thread Cert.FoxDhnIdeal.nD Cert.FoxDhnIdeal.τ).loc Cert.FoxDhnIdeal.main_arg0) = m ((c.tc : Thread Cert.FoxDhnIdeal.nD Cert.FoxDhnIdeal.τ).loc Cert.FoxDhnIdeal.main_arg0)
      ∧ r.2.mem ((c.tc : Thread Cert.FoxDhnIdeal.nD Cert.FoxDhnIdeal.τ).loc Cert.FoxDhnIdeal.main_arg1) = m ((c.tc : Thread Cert.FoxDhnIdeal.nD Cert.FoxDhnIdeal.τ).loc Cert.FoxDhnIdeal.main_arg1))
      ∧ r.2.sem = fun _ => 0)

def quiescent_FoxDhnRefIdeal [hFoxDhnRefIdeal : Cert.FoxDhnRefIdeal.Facts] : Prop :=
  ∀ (m : (ℓ : Loc Cert.FoxDhnRefIdeal.nD Cert.FoxDhnRefIdeal.τ Cert.FoxDhnRefIdeal.sig) → Buf (Elt Ideal) ℓ) (g : Dev Cert.FoxDhnRefIdeal.nD → PrngReg), Pre_FoxDhnRefIdeal m →
    θ_run (Cert.FoxDhnRefIdeal.defs (F := Ideal)) (onTc (τ := Cert.FoxDhnRefIdeal.τ) (Cert.FoxDhnRefIdeal.main (F := Ideal))) ⟨m, fun _ => 0, g⟩ (fun r => (∀ c : Dev Cert.FoxDhnRefIdeal.nD,
      r.2.mem ((c.tc : Thread Cert.FoxDhnRefIdeal.nD Cert.FoxDhnRefIdeal.τ).loc Cert.FoxDhnRefIdeal.main_arg0) = m ((c.tc : Thread Cert.FoxDhnRefIdeal.nD Cert.FoxDhnRefIdeal.τ).loc Cert.FoxDhnRefIdeal.main_arg0)
      ∧ r.2.mem ((c.tc : Thread Cert.FoxDhnRefIdeal.nD Cert.FoxDhnRefIdeal.τ).loc Cert.FoxDhnRefIdeal.main_arg1) = m ((c.tc : Thread Cert.FoxDhnRefIdeal.nD Cert.FoxDhnRefIdeal.τ).loc Cert.FoxDhnRefIdeal.main_arg1))
      ∧ r.2.sem = fun _ => 0)

def quiescent_MlaA [hMlaA : Cert.MlaA.Facts] : Prop :=
  ∀ (m : (ℓ : Loc Cert.MlaA.nD Cert.MlaA.τ Cert.MlaA.sig) → Buf (Elt Bits) ℓ) (g : Dev Cert.MlaA.nD → PrngReg), Pre_MlaA m →
    θ_run (Cert.MlaA.defs (F := Bits)) (onTc (τ := Cert.MlaA.τ) (Cert.MlaA.main (F := Bits))) ⟨m, fun _ => 0, g⟩ (fun r => (∀ c : Dev Cert.MlaA.nD,
      r.2.mem ((c.tc : Thread Cert.MlaA.nD Cert.MlaA.τ).loc Cert.MlaA.main_arg0) = m ((c.tc : Thread Cert.MlaA.nD Cert.MlaA.τ).loc Cert.MlaA.main_arg0)
      ∧ r.2.mem ((c.tc : Thread Cert.MlaA.nD Cert.MlaA.τ).loc Cert.MlaA.main_arg1) = m ((c.tc : Thread Cert.MlaA.nD Cert.MlaA.τ).loc Cert.MlaA.main_arg1))
      ∧ r.2.sem = fun _ => 0)

def quiescent_MlaAIdeal [hMlaAIdeal : Cert.MlaAIdeal.Facts] : Prop :=
  ∀ (m : (ℓ : Loc Cert.MlaAIdeal.nD Cert.MlaAIdeal.τ Cert.MlaAIdeal.sig) → Buf (Elt Ideal) ℓ) (g : Dev Cert.MlaAIdeal.nD → PrngReg), Pre_MlaAIdeal m →
    θ_run (Cert.MlaAIdeal.defs (F := Ideal)) (onTc (τ := Cert.MlaAIdeal.τ) (Cert.MlaAIdeal.main (F := Ideal))) ⟨m, fun _ => 0, g⟩ (fun r => (∀ c : Dev Cert.MlaAIdeal.nD,
      r.2.mem ((c.tc : Thread Cert.MlaAIdeal.nD Cert.MlaAIdeal.τ).loc Cert.MlaAIdeal.main_arg0) = m ((c.tc : Thread Cert.MlaAIdeal.nD Cert.MlaAIdeal.τ).loc Cert.MlaAIdeal.main_arg0)
      ∧ r.2.mem ((c.tc : Thread Cert.MlaAIdeal.nD Cert.MlaAIdeal.τ).loc Cert.MlaAIdeal.main_arg1) = m ((c.tc : Thread Cert.MlaAIdeal.nD Cert.MlaAIdeal.τ).loc Cert.MlaAIdeal.main_arg1))
      ∧ r.2.sem = fun _ => 0)

def quiescent_MlaARefIdeal [hMlaARefIdeal : Cert.MlaARefIdeal.Facts] : Prop :=
  ∀ (m : (ℓ : Loc Cert.MlaARefIdeal.nD Cert.MlaARefIdeal.τ Cert.MlaARefIdeal.sig) → Buf (Elt Ideal) ℓ) (g : Dev Cert.MlaARefIdeal.nD → PrngReg), Pre_MlaARefIdeal m →
    θ_run (Cert.MlaARefIdeal.defs (F := Ideal)) (onTc (τ := Cert.MlaARefIdeal.τ) (Cert.MlaARefIdeal.main (F := Ideal))) ⟨m, fun _ => 0, g⟩ (fun r => (∀ c : Dev Cert.MlaARefIdeal.nD,
      r.2.mem ((c.tc : Thread Cert.MlaARefIdeal.nD Cert.MlaARefIdeal.τ).loc Cert.MlaARefIdeal.main_arg0) = m ((c.tc : Thread Cert.MlaARefIdeal.nD Cert.MlaARefIdeal.τ).loc Cert.MlaARefIdeal.main_arg0)
      ∧ r.2.mem ((c.tc : Thread Cert.MlaARefIdeal.nD Cert.MlaARefIdeal.τ).loc Cert.MlaARefIdeal.main_arg1) = m ((c.tc : Thread Cert.MlaARefIdeal.nD Cert.MlaARefIdeal.τ).loc Cert.MlaARefIdeal.main_arg1))
      ∧ r.2.sem = fun _ => 0)

def quiescent_MlaUq [hMlaUq : Cert.MlaUq.Facts] : Prop :=
  ∀ (m : (ℓ : Loc Cert.MlaUq.nD Cert.MlaUq.τ Cert.MlaUq.sig) → Buf (Elt Bits) ℓ) (g : Dev Cert.MlaUq.nD → PrngReg), Pre_MlaUq m →
    θ_run (Cert.MlaUq.defs (F := Bits)) (onTc (τ := Cert.MlaUq.τ) (Cert.MlaUq.main (F := Bits))) ⟨m, fun _ => 0, g⟩ (fun r => (∀ c : Dev Cert.MlaUq.nD,
      r.2.mem ((c.tc : Thread Cert.MlaUq.nD Cert.MlaUq.τ).loc Cert.MlaUq.main_arg0) = m ((c.tc : Thread Cert.MlaUq.nD Cert.MlaUq.τ).loc Cert.MlaUq.main_arg0)
      ∧ r.2.mem ((c.tc : Thread Cert.MlaUq.nD Cert.MlaUq.τ).loc Cert.MlaUq.main_arg1) = m ((c.tc : Thread Cert.MlaUq.nD Cert.MlaUq.τ).loc Cert.MlaUq.main_arg1))
      ∧ r.2.sem = fun _ => 0)

def quiescent_MlaUqIdeal [hMlaUqIdeal : Cert.MlaUqIdeal.Facts] : Prop :=
  ∀ (m : (ℓ : Loc Cert.MlaUqIdeal.nD Cert.MlaUqIdeal.τ Cert.MlaUqIdeal.sig) → Buf (Elt Ideal) ℓ) (g : Dev Cert.MlaUqIdeal.nD → PrngReg), Pre_MlaUqIdeal m →
    θ_run (Cert.MlaUqIdeal.defs (F := Ideal)) (onTc (τ := Cert.MlaUqIdeal.τ) (Cert.MlaUqIdeal.main (F := Ideal))) ⟨m, fun _ => 0, g⟩ (fun r => (∀ c : Dev Cert.MlaUqIdeal.nD,
      r.2.mem ((c.tc : Thread Cert.MlaUqIdeal.nD Cert.MlaUqIdeal.τ).loc Cert.MlaUqIdeal.main_arg0) = m ((c.tc : Thread Cert.MlaUqIdeal.nD Cert.MlaUqIdeal.τ).loc Cert.MlaUqIdeal.main_arg0)
      ∧ r.2.mem ((c.tc : Thread Cert.MlaUqIdeal.nD Cert.MlaUqIdeal.τ).loc Cert.MlaUqIdeal.main_arg1) = m ((c.tc : Thread Cert.MlaUqIdeal.nD Cert.MlaUqIdeal.τ).loc Cert.MlaUqIdeal.main_arg1))
      ∧ r.2.sem = fun _ => 0)

def quiescent_MlaUqRefIdeal [hMlaUqRefIdeal : Cert.MlaUqRefIdeal.Facts] : Prop :=
  ∀ (m : (ℓ : Loc Cert.MlaUqRefIdeal.nD Cert.MlaUqRefIdeal.τ Cert.MlaUqRefIdeal.sig) → Buf (Elt Ideal) ℓ) (g : Dev Cert.MlaUqRefIdeal.nD → PrngReg), Pre_MlaUqRefIdeal m →
    θ_run (Cert.MlaUqRefIdeal.defs (F := Ideal)) (onTc (τ := Cert.MlaUqRefIdeal.τ) (Cert.MlaUqRefIdeal.main (F := Ideal))) ⟨m, fun _ => 0, g⟩ (fun r => (∀ c : Dev Cert.MlaUqRefIdeal.nD,
      r.2.mem ((c.tc : Thread Cert.MlaUqRefIdeal.nD Cert.MlaUqRefIdeal.τ).loc Cert.MlaUqRefIdeal.main_arg0) = m ((c.tc : Thread Cert.MlaUqRefIdeal.nD Cert.MlaUqRefIdeal.τ).loc Cert.MlaUqRefIdeal.main_arg0)
      ∧ r.2.mem ((c.tc : Thread Cert.MlaUqRefIdeal.nD Cert.MlaUqRefIdeal.τ).loc Cert.MlaUqRefIdeal.main_arg1) = m ((c.tc : Thread Cert.MlaUqRefIdeal.nD Cert.MlaUqRefIdeal.τ).loc Cert.MlaUqRefIdeal.main_arg1))
      ∧ r.2.sem = fun _ => 0)

def quiescent_MlaUkv [hMlaUkv : Cert.MlaUkv.Facts] : Prop :=
  ∀ (m : (ℓ : Loc Cert.MlaUkv.nD Cert.MlaUkv.τ Cert.MlaUkv.sig) → Buf (Elt Bits) ℓ) (g : Dev Cert.MlaUkv.nD → PrngReg), Pre_MlaUkv m →
    θ_run (Cert.MlaUkv.defs (F := Bits)) (onTc (τ := Cert.MlaUkv.τ) (Cert.MlaUkv.main (F := Bits))) ⟨m, fun _ => 0, g⟩ (fun r => (∀ c : Dev Cert.MlaUkv.nD,
      r.2.mem ((c.tc : Thread Cert.MlaUkv.nD Cert.MlaUkv.τ).loc Cert.MlaUkv.main_arg0) = m ((c.tc : Thread Cert.MlaUkv.nD Cert.MlaUkv.τ).loc Cert.MlaUkv.main_arg0)
      ∧ r.2.mem ((c.tc : Thread Cert.MlaUkv.nD Cert.MlaUkv.τ).loc Cert.MlaUkv.main_arg1) = m ((c.tc : Thread Cert.MlaUkv.nD Cert.MlaUkv.τ).loc Cert.MlaUkv.main_arg1))
      ∧ r.2.sem = fun _ => 0)

def quiescent_MlaUkvIdeal [hMlaUkvIdeal : Cert.MlaUkvIdeal.Facts] : Prop :=
  ∀ (m : (ℓ : Loc Cert.MlaUkvIdeal.nD Cert.MlaUkvIdeal.τ Cert.MlaUkvIdeal.sig) → Buf (Elt Ideal) ℓ) (g : Dev Cert.MlaUkvIdeal.nD → PrngReg), Pre_MlaUkvIdeal m →
    θ_run (Cert.MlaUkvIdeal.defs (F := Ideal)) (onTc (τ := Cert.MlaUkvIdeal.τ) (Cert.MlaUkvIdeal.main (F := Ideal))) ⟨m, fun _ => 0, g⟩ (fun r => (∀ c : Dev Cert.MlaUkvIdeal.nD,
      r.2.mem ((c.tc : Thread Cert.MlaUkvIdeal.nD Cert.MlaUkvIdeal.τ).loc Cert.MlaUkvIdeal.main_arg0) = m ((c.tc : Thread Cert.MlaUkvIdeal.nD Cert.MlaUkvIdeal.τ).loc Cert.MlaUkvIdeal.main_arg0)
      ∧ r.2.mem ((c.tc : Thread Cert.MlaUkvIdeal.nD Cert.MlaUkvIdeal.τ).loc Cert.MlaUkvIdeal.main_arg1) = m ((c.tc : Thread Cert.MlaUkvIdeal.nD Cert.MlaUkvIdeal.τ).loc Cert.MlaUkvIdeal.main_arg1))
      ∧ r.2.sem = fun _ => 0)

def quiescent_MlaUkvRefIdeal [hMlaUkvRefIdeal : Cert.MlaUkvRefIdeal.Facts] : Prop :=
  ∀ (m : (ℓ : Loc Cert.MlaUkvRefIdeal.nD Cert.MlaUkvRefIdeal.τ Cert.MlaUkvRefIdeal.sig) → Buf (Elt Ideal) ℓ) (g : Dev Cert.MlaUkvRefIdeal.nD → PrngReg), Pre_MlaUkvRefIdeal m →
    θ_run (Cert.MlaUkvRefIdeal.defs (F := Ideal)) (onTc (τ := Cert.MlaUkvRefIdeal.τ) (Cert.MlaUkvRefIdeal.main (F := Ideal))) ⟨m, fun _ => 0, g⟩ (fun r => (∀ c : Dev Cert.MlaUkvRefIdeal.nD,
      r.2.mem ((c.tc : Thread Cert.MlaUkvRefIdeal.nD Cert.MlaUkvRefIdeal.τ).loc Cert.MlaUkvRefIdeal.main_arg0) = m ((c.tc : Thread Cert.MlaUkvRefIdeal.nD Cert.MlaUkvRefIdeal.τ).loc Cert.MlaUkvRefIdeal.main_arg0)
      ∧ r.2.mem ((c.tc : Thread Cert.MlaUkvRefIdeal.nD Cert.MlaUkvRefIdeal.τ).loc Cert.MlaUkvRefIdeal.main_arg1) = m ((c.tc : Thread Cert.MlaUkvRefIdeal.nD Cert.MlaUkvRefIdeal.τ).loc Cert.MlaUkvRefIdeal.main_arg1))
      ∧ r.2.sem = fun _ => 0)

def quiescent_MlaDuq [hMlaDuq : Cert.MlaDuq.Facts] : Prop :=
  ∀ (m : (ℓ : Loc Cert.MlaDuq.nD Cert.MlaDuq.τ Cert.MlaDuq.sig) → Buf (Elt Bits) ℓ) (g : Dev Cert.MlaDuq.nD → PrngReg), Pre_MlaDuq m →
    θ_run (Cert.MlaDuq.defs (F := Bits)) (onTc (τ := Cert.MlaDuq.τ) (Cert.MlaDuq.main (F := Bits))) ⟨m, fun _ => 0, g⟩ (fun r => (∀ c : Dev Cert.MlaDuq.nD,
      r.2.mem ((c.tc : Thread Cert.MlaDuq.nD Cert.MlaDuq.τ).loc Cert.MlaDuq.main_arg0) = m ((c.tc : Thread Cert.MlaDuq.nD Cert.MlaDuq.τ).loc Cert.MlaDuq.main_arg0)
      ∧ r.2.mem ((c.tc : Thread Cert.MlaDuq.nD Cert.MlaDuq.τ).loc Cert.MlaDuq.main_arg1) = m ((c.tc : Thread Cert.MlaDuq.nD Cert.MlaDuq.τ).loc Cert.MlaDuq.main_arg1))
      ∧ r.2.sem = fun _ => 0)

def quiescent_MlaDuqIdeal [hMlaDuqIdeal : Cert.MlaDuqIdeal.Facts] : Prop :=
  ∀ (m : (ℓ : Loc Cert.MlaDuqIdeal.nD Cert.MlaDuqIdeal.τ Cert.MlaDuqIdeal.sig) → Buf (Elt Ideal) ℓ) (g : Dev Cert.MlaDuqIdeal.nD → PrngReg), Pre_MlaDuqIdeal m →
    θ_run (Cert.MlaDuqIdeal.defs (F := Ideal)) (onTc (τ := Cert.MlaDuqIdeal.τ) (Cert.MlaDuqIdeal.main (F := Ideal))) ⟨m, fun _ => 0, g⟩ (fun r => (∀ c : Dev Cert.MlaDuqIdeal.nD,
      r.2.mem ((c.tc : Thread Cert.MlaDuqIdeal.nD Cert.MlaDuqIdeal.τ).loc Cert.MlaDuqIdeal.main_arg0) = m ((c.tc : Thread Cert.MlaDuqIdeal.nD Cert.MlaDuqIdeal.τ).loc Cert.MlaDuqIdeal.main_arg0)
      ∧ r.2.mem ((c.tc : Thread Cert.MlaDuqIdeal.nD Cert.MlaDuqIdeal.τ).loc Cert.MlaDuqIdeal.main_arg1) = m ((c.tc : Thread Cert.MlaDuqIdeal.nD Cert.MlaDuqIdeal.τ).loc Cert.MlaDuqIdeal.main_arg1))
      ∧ r.2.sem = fun _ => 0)

def quiescent_MlaDuqRefIdeal [hMlaDuqRefIdeal : Cert.MlaDuqRefIdeal.Facts] : Prop :=
  ∀ (m : (ℓ : Loc Cert.MlaDuqRefIdeal.nD Cert.MlaDuqRefIdeal.τ Cert.MlaDuqRefIdeal.sig) → Buf (Elt Ideal) ℓ) (g : Dev Cert.MlaDuqRefIdeal.nD → PrngReg), Pre_MlaDuqRefIdeal m →
    θ_run (Cert.MlaDuqRefIdeal.defs (F := Ideal)) (onTc (τ := Cert.MlaDuqRefIdeal.τ) (Cert.MlaDuqRefIdeal.main (F := Ideal))) ⟨m, fun _ => 0, g⟩ (fun r => (∀ c : Dev Cert.MlaDuqRefIdeal.nD,
      r.2.mem ((c.tc : Thread Cert.MlaDuqRefIdeal.nD Cert.MlaDuqRefIdeal.τ).loc Cert.MlaDuqRefIdeal.main_arg0) = m ((c.tc : Thread Cert.MlaDuqRefIdeal.nD Cert.MlaDuqRefIdeal.τ).loc Cert.MlaDuqRefIdeal.main_arg0)
      ∧ r.2.mem ((c.tc : Thread Cert.MlaDuqRefIdeal.nD Cert.MlaDuqRefIdeal.τ).loc Cert.MlaDuqRefIdeal.main_arg1) = m ((c.tc : Thread Cert.MlaDuqRefIdeal.nD Cert.MlaDuqRefIdeal.τ).loc Cert.MlaDuqRefIdeal.main_arg1))
      ∧ r.2.sem = fun _ => 0)

def quiescent_MlaDcq [hMlaDcq : Cert.MlaDcq.Facts] : Prop :=
  ∀ (m : (ℓ : Loc Cert.MlaDcq.nD Cert.MlaDcq.τ Cert.MlaDcq.sig) → Buf (Elt Bits) ℓ) (g : Dev Cert.MlaDcq.nD → PrngReg), Pre_MlaDcq m →
    θ_run (Cert.MlaDcq.defs (F := Bits)) (onTc (τ := Cert.MlaDcq.τ) (Cert.MlaDcq.main (F := Bits))) ⟨m, fun _ => 0, g⟩ (fun r => (∀ c : Dev Cert.MlaDcq.nD,
      r.2.mem ((c.tc : Thread Cert.MlaDcq.nD Cert.MlaDcq.τ).loc Cert.MlaDcq.main_arg0) = m ((c.tc : Thread Cert.MlaDcq.nD Cert.MlaDcq.τ).loc Cert.MlaDcq.main_arg0)
      ∧ r.2.mem ((c.tc : Thread Cert.MlaDcq.nD Cert.MlaDcq.τ).loc Cert.MlaDcq.main_arg1) = m ((c.tc : Thread Cert.MlaDcq.nD Cert.MlaDcq.τ).loc Cert.MlaDcq.main_arg1))
      ∧ r.2.sem = fun _ => 0)

def quiescent_MlaDcqIdeal [hMlaDcqIdeal : Cert.MlaDcqIdeal.Facts] : Prop :=
  ∀ (m : (ℓ : Loc Cert.MlaDcqIdeal.nD Cert.MlaDcqIdeal.τ Cert.MlaDcqIdeal.sig) → Buf (Elt Ideal) ℓ) (g : Dev Cert.MlaDcqIdeal.nD → PrngReg), Pre_MlaDcqIdeal m →
    θ_run (Cert.MlaDcqIdeal.defs (F := Ideal)) (onTc (τ := Cert.MlaDcqIdeal.τ) (Cert.MlaDcqIdeal.main (F := Ideal))) ⟨m, fun _ => 0, g⟩ (fun r => (∀ c : Dev Cert.MlaDcqIdeal.nD,
      r.2.mem ((c.tc : Thread Cert.MlaDcqIdeal.nD Cert.MlaDcqIdeal.τ).loc Cert.MlaDcqIdeal.main_arg0) = m ((c.tc : Thread Cert.MlaDcqIdeal.nD Cert.MlaDcqIdeal.τ).loc Cert.MlaDcqIdeal.main_arg0)
      ∧ r.2.mem ((c.tc : Thread Cert.MlaDcqIdeal.nD Cert.MlaDcqIdeal.τ).loc Cert.MlaDcqIdeal.main_arg1) = m ((c.tc : Thread Cert.MlaDcqIdeal.nD Cert.MlaDcqIdeal.τ).loc Cert.MlaDcqIdeal.main_arg1))
      ∧ r.2.sem = fun _ => 0)

def quiescent_MlaDcqRefIdeal [hMlaDcqRefIdeal : Cert.MlaDcqRefIdeal.Facts] : Prop :=
  ∀ (m : (ℓ : Loc Cert.MlaDcqRefIdeal.nD Cert.MlaDcqRefIdeal.τ Cert.MlaDcqRefIdeal.sig) → Buf (Elt Ideal) ℓ) (g : Dev Cert.MlaDcqRefIdeal.nD → PrngReg), Pre_MlaDcqRefIdeal m →
    θ_run (Cert.MlaDcqRefIdeal.defs (F := Ideal)) (onTc (τ := Cert.MlaDcqRefIdeal.τ) (Cert.MlaDcqRefIdeal.main (F := Ideal))) ⟨m, fun _ => 0, g⟩ (fun r => (∀ c : Dev Cert.MlaDcqRefIdeal.nD,
      r.2.mem ((c.tc : Thread Cert.MlaDcqRefIdeal.nD Cert.MlaDcqRefIdeal.τ).loc Cert.MlaDcqRefIdeal.main_arg0) = m ((c.tc : Thread Cert.MlaDcqRefIdeal.nD Cert.MlaDcqRefIdeal.τ).loc Cert.MlaDcqRefIdeal.main_arg0)
      ∧ r.2.mem ((c.tc : Thread Cert.MlaDcqRefIdeal.nD Cert.MlaDcqRefIdeal.τ).loc Cert.MlaDcqRefIdeal.main_arg1) = m ((c.tc : Thread Cert.MlaDcqRefIdeal.nD Cert.MlaDcqRefIdeal.τ).loc Cert.MlaDcqRefIdeal.main_arg1))
      ∧ r.2.sem = fun _ => 0)

def quiescent_MlaDukv [hMlaDukv : Cert.MlaDukv.Facts] : Prop :=
  ∀ (m : (ℓ : Loc Cert.MlaDukv.nD Cert.MlaDukv.τ Cert.MlaDukv.sig) → Buf (Elt Bits) ℓ) (g : Dev Cert.MlaDukv.nD → PrngReg), Pre_MlaDukv m →
    θ_run (Cert.MlaDukv.defs (F := Bits)) (onTc (τ := Cert.MlaDukv.τ) (Cert.MlaDukv.main (F := Bits))) ⟨m, fun _ => 0, g⟩ (fun r => (∀ c : Dev Cert.MlaDukv.nD,
      r.2.mem ((c.tc : Thread Cert.MlaDukv.nD Cert.MlaDukv.τ).loc Cert.MlaDukv.main_arg0) = m ((c.tc : Thread Cert.MlaDukv.nD Cert.MlaDukv.τ).loc Cert.MlaDukv.main_arg0)
      ∧ r.2.mem ((c.tc : Thread Cert.MlaDukv.nD Cert.MlaDukv.τ).loc Cert.MlaDukv.main_arg1) = m ((c.tc : Thread Cert.MlaDukv.nD Cert.MlaDukv.τ).loc Cert.MlaDukv.main_arg1))
      ∧ r.2.sem = fun _ => 0)

def quiescent_MlaDukvIdeal [hMlaDukvIdeal : Cert.MlaDukvIdeal.Facts] : Prop :=
  ∀ (m : (ℓ : Loc Cert.MlaDukvIdeal.nD Cert.MlaDukvIdeal.τ Cert.MlaDukvIdeal.sig) → Buf (Elt Ideal) ℓ) (g : Dev Cert.MlaDukvIdeal.nD → PrngReg), Pre_MlaDukvIdeal m →
    θ_run (Cert.MlaDukvIdeal.defs (F := Ideal)) (onTc (τ := Cert.MlaDukvIdeal.τ) (Cert.MlaDukvIdeal.main (F := Ideal))) ⟨m, fun _ => 0, g⟩ (fun r => (∀ c : Dev Cert.MlaDukvIdeal.nD,
      r.2.mem ((c.tc : Thread Cert.MlaDukvIdeal.nD Cert.MlaDukvIdeal.τ).loc Cert.MlaDukvIdeal.main_arg0) = m ((c.tc : Thread Cert.MlaDukvIdeal.nD Cert.MlaDukvIdeal.τ).loc Cert.MlaDukvIdeal.main_arg0)
      ∧ r.2.mem ((c.tc : Thread Cert.MlaDukvIdeal.nD Cert.MlaDukvIdeal.τ).loc Cert.MlaDukvIdeal.main_arg1) = m ((c.tc : Thread Cert.MlaDukvIdeal.nD Cert.MlaDukvIdeal.τ).loc Cert.MlaDukvIdeal.main_arg1))
      ∧ r.2.sem = fun _ => 0)

def quiescent_MlaDukvRefIdeal [hMlaDukvRefIdeal : Cert.MlaDukvRefIdeal.Facts] : Prop :=
  ∀ (m : (ℓ : Loc Cert.MlaDukvRefIdeal.nD Cert.MlaDukvRefIdeal.τ Cert.MlaDukvRefIdeal.sig) → Buf (Elt Ideal) ℓ) (g : Dev Cert.MlaDukvRefIdeal.nD → PrngReg), Pre_MlaDukvRefIdeal m →
    θ_run (Cert.MlaDukvRefIdeal.defs (F := Ideal)) (onTc (τ := Cert.MlaDukvRefIdeal.τ) (Cert.MlaDukvRefIdeal.main (F := Ideal))) ⟨m, fun _ => 0, g⟩ (fun r => (∀ c : Dev Cert.MlaDukvRefIdeal.nD,
      r.2.mem ((c.tc : Thread Cert.MlaDukvRefIdeal.nD Cert.MlaDukvRefIdeal.τ).loc Cert.MlaDukvRefIdeal.main_arg0) = m ((c.tc : Thread Cert.MlaDukvRefIdeal.nD Cert.MlaDukvRefIdeal.τ).loc Cert.MlaDukvRefIdeal.main_arg0)
      ∧ r.2.mem ((c.tc : Thread Cert.MlaDukvRefIdeal.nD Cert.MlaDukvRefIdeal.τ).loc Cert.MlaDukvRefIdeal.main_arg1) = m ((c.tc : Thread Cert.MlaDukvRefIdeal.nD Cert.MlaDukvRefIdeal.τ).loc Cert.MlaDukvRefIdeal.main_arg1))
      ∧ r.2.sem = fun _ => 0)

def quiescent_MlaDckv [hMlaDckv : Cert.MlaDckv.Facts] : Prop :=
  ∀ (m : (ℓ : Loc Cert.MlaDckv.nD Cert.MlaDckv.τ Cert.MlaDckv.sig) → Buf (Elt Bits) ℓ) (g : Dev Cert.MlaDckv.nD → PrngReg), Pre_MlaDckv m →
    θ_run (Cert.MlaDckv.defs (F := Bits)) (onTc (τ := Cert.MlaDckv.τ) (Cert.MlaDckv.main (F := Bits))) ⟨m, fun _ => 0, g⟩ (fun r => (∀ c : Dev Cert.MlaDckv.nD,
      r.2.mem ((c.tc : Thread Cert.MlaDckv.nD Cert.MlaDckv.τ).loc Cert.MlaDckv.main_arg0) = m ((c.tc : Thread Cert.MlaDckv.nD Cert.MlaDckv.τ).loc Cert.MlaDckv.main_arg0)
      ∧ r.2.mem ((c.tc : Thread Cert.MlaDckv.nD Cert.MlaDckv.τ).loc Cert.MlaDckv.main_arg1) = m ((c.tc : Thread Cert.MlaDckv.nD Cert.MlaDckv.τ).loc Cert.MlaDckv.main_arg1))
      ∧ r.2.sem = fun _ => 0)

def quiescent_MlaDckvIdeal [hMlaDckvIdeal : Cert.MlaDckvIdeal.Facts] : Prop :=
  ∀ (m : (ℓ : Loc Cert.MlaDckvIdeal.nD Cert.MlaDckvIdeal.τ Cert.MlaDckvIdeal.sig) → Buf (Elt Ideal) ℓ) (g : Dev Cert.MlaDckvIdeal.nD → PrngReg), Pre_MlaDckvIdeal m →
    θ_run (Cert.MlaDckvIdeal.defs (F := Ideal)) (onTc (τ := Cert.MlaDckvIdeal.τ) (Cert.MlaDckvIdeal.main (F := Ideal))) ⟨m, fun _ => 0, g⟩ (fun r => (∀ c : Dev Cert.MlaDckvIdeal.nD,
      r.2.mem ((c.tc : Thread Cert.MlaDckvIdeal.nD Cert.MlaDckvIdeal.τ).loc Cert.MlaDckvIdeal.main_arg0) = m ((c.tc : Thread Cert.MlaDckvIdeal.nD Cert.MlaDckvIdeal.τ).loc Cert.MlaDckvIdeal.main_arg0)
      ∧ r.2.mem ((c.tc : Thread Cert.MlaDckvIdeal.nD Cert.MlaDckvIdeal.τ).loc Cert.MlaDckvIdeal.main_arg1) = m ((c.tc : Thread Cert.MlaDckvIdeal.nD Cert.MlaDckvIdeal.τ).loc Cert.MlaDckvIdeal.main_arg1))
      ∧ r.2.sem = fun _ => 0)

def quiescent_MlaDckvRefIdeal [hMlaDckvRefIdeal : Cert.MlaDckvRefIdeal.Facts] : Prop :=
  ∀ (m : (ℓ : Loc Cert.MlaDckvRefIdeal.nD Cert.MlaDckvRefIdeal.τ Cert.MlaDckvRefIdeal.sig) → Buf (Elt Ideal) ℓ) (g : Dev Cert.MlaDckvRefIdeal.nD → PrngReg), Pre_MlaDckvRefIdeal m →
    θ_run (Cert.MlaDckvRefIdeal.defs (F := Ideal)) (onTc (τ := Cert.MlaDckvRefIdeal.τ) (Cert.MlaDckvRefIdeal.main (F := Ideal))) ⟨m, fun _ => 0, g⟩ (fun r => (∀ c : Dev Cert.MlaDckvRefIdeal.nD,
      r.2.mem ((c.tc : Thread Cert.MlaDckvRefIdeal.nD Cert.MlaDckvRefIdeal.τ).loc Cert.MlaDckvRefIdeal.main_arg0) = m ((c.tc : Thread Cert.MlaDckvRefIdeal.nD Cert.MlaDckvRefIdeal.τ).loc Cert.MlaDckvRefIdeal.main_arg0)
      ∧ r.2.mem ((c.tc : Thread Cert.MlaDckvRefIdeal.nD Cert.MlaDckvRefIdeal.τ).loc Cert.MlaDckvRefIdeal.main_arg1) = m ((c.tc : Thread Cert.MlaDckvRefIdeal.nD Cert.MlaDckvRefIdeal.τ).loc Cert.MlaDckvRefIdeal.main_arg1))
      ∧ r.2.sem = fun _ => 0)

def quiescent_MlaDa [hMlaDa : Cert.MlaDa.Facts] : Prop :=
  ∀ (m : (ℓ : Loc Cert.MlaDa.nD Cert.MlaDa.τ Cert.MlaDa.sig) → Buf (Elt Bits) ℓ) (g : Dev Cert.MlaDa.nD → PrngReg), Pre_MlaDa m →
    θ_run (Cert.MlaDa.defs (F := Bits)) (onTc (τ := Cert.MlaDa.τ) (Cert.MlaDa.main (F := Bits))) ⟨m, fun _ => 0, g⟩ (fun r => (∀ c : Dev Cert.MlaDa.nD,
      r.2.mem ((c.tc : Thread Cert.MlaDa.nD Cert.MlaDa.τ).loc Cert.MlaDa.main_arg0) = m ((c.tc : Thread Cert.MlaDa.nD Cert.MlaDa.τ).loc Cert.MlaDa.main_arg0)
      ∧ r.2.mem ((c.tc : Thread Cert.MlaDa.nD Cert.MlaDa.τ).loc Cert.MlaDa.main_arg1) = m ((c.tc : Thread Cert.MlaDa.nD Cert.MlaDa.τ).loc Cert.MlaDa.main_arg1))
      ∧ r.2.sem = fun _ => 0)

def quiescent_MlaDaIdeal [hMlaDaIdeal : Cert.MlaDaIdeal.Facts] : Prop :=
  ∀ (m : (ℓ : Loc Cert.MlaDaIdeal.nD Cert.MlaDaIdeal.τ Cert.MlaDaIdeal.sig) → Buf (Elt Ideal) ℓ) (g : Dev Cert.MlaDaIdeal.nD → PrngReg), Pre_MlaDaIdeal m →
    θ_run (Cert.MlaDaIdeal.defs (F := Ideal)) (onTc (τ := Cert.MlaDaIdeal.τ) (Cert.MlaDaIdeal.main (F := Ideal))) ⟨m, fun _ => 0, g⟩ (fun r => (∀ c : Dev Cert.MlaDaIdeal.nD,
      r.2.mem ((c.tc : Thread Cert.MlaDaIdeal.nD Cert.MlaDaIdeal.τ).loc Cert.MlaDaIdeal.main_arg0) = m ((c.tc : Thread Cert.MlaDaIdeal.nD Cert.MlaDaIdeal.τ).loc Cert.MlaDaIdeal.main_arg0)
      ∧ r.2.mem ((c.tc : Thread Cert.MlaDaIdeal.nD Cert.MlaDaIdeal.τ).loc Cert.MlaDaIdeal.main_arg1) = m ((c.tc : Thread Cert.MlaDaIdeal.nD Cert.MlaDaIdeal.τ).loc Cert.MlaDaIdeal.main_arg1))
      ∧ r.2.sem = fun _ => 0)

def quiescent_MlaDaRefIdeal [hMlaDaRefIdeal : Cert.MlaDaRefIdeal.Facts] : Prop :=
  ∀ (m : (ℓ : Loc Cert.MlaDaRefIdeal.nD Cert.MlaDaRefIdeal.τ Cert.MlaDaRefIdeal.sig) → Buf (Elt Ideal) ℓ) (g : Dev Cert.MlaDaRefIdeal.nD → PrngReg), Pre_MlaDaRefIdeal m →
    θ_run (Cert.MlaDaRefIdeal.defs (F := Ideal)) (onTc (τ := Cert.MlaDaRefIdeal.τ) (Cert.MlaDaRefIdeal.main (F := Ideal))) ⟨m, fun _ => 0, g⟩ (fun r => (∀ c : Dev Cert.MlaDaRefIdeal.nD,
      r.2.mem ((c.tc : Thread Cert.MlaDaRefIdeal.nD Cert.MlaDaRefIdeal.τ).loc Cert.MlaDaRefIdeal.main_arg0) = m ((c.tc : Thread Cert.MlaDaRefIdeal.nD Cert.MlaDaRefIdeal.τ).loc Cert.MlaDaRefIdeal.main_arg0)
      ∧ r.2.mem ((c.tc : Thread Cert.MlaDaRefIdeal.nD Cert.MlaDaRefIdeal.τ).loc Cert.MlaDaRefIdeal.main_arg1) = m ((c.tc : Thread Cert.MlaDaRefIdeal.nD Cert.MlaDaRefIdeal.τ).loc Cert.MlaDaRefIdeal.main_arg1))
      ∧ r.2.sem = fun _ => 0)

def quiescent_MlaDhn [hMlaDhn : Cert.MlaDhn.Facts] : Prop :=
  ∀ (m : (ℓ : Loc Cert.MlaDhn.nD Cert.MlaDhn.τ Cert.MlaDhn.sig) → Buf (Elt Bits) ℓ) (g : Dev Cert.MlaDhn.nD → PrngReg), Pre_MlaDhn m →
    θ_run (Cert.MlaDhn.defs (F := Bits)) (onTc (τ := Cert.MlaDhn.τ) (Cert.MlaDhn.main (F := Bits))) ⟨m, fun _ => 0, g⟩ (fun r => (∀ c : Dev Cert.MlaDhn.nD,
      r.2.mem ((c.tc : Thread Cert.MlaDhn.nD Cert.MlaDhn.τ).loc Cert.MlaDhn.main_arg0) = m ((c.tc : Thread Cert.MlaDhn.nD Cert.MlaDhn.τ).loc Cert.MlaDhn.main_arg0)
      ∧ r.2.mem ((c.tc : Thread Cert.MlaDhn.nD Cert.MlaDhn.τ).loc Cert.MlaDhn.main_arg1) = m ((c.tc : Thread Cert.MlaDhn.nD Cert.MlaDhn.τ).loc Cert.MlaDhn.main_arg1))
      ∧ r.2.sem = fun _ => 0)

def quiescent_MlaDhnIdeal [hMlaDhnIdeal : Cert.MlaDhnIdeal.Facts] : Prop :=
  ∀ (m : (ℓ : Loc Cert.MlaDhnIdeal.nD Cert.MlaDhnIdeal.τ Cert.MlaDhnIdeal.sig) → Buf (Elt Ideal) ℓ) (g : Dev Cert.MlaDhnIdeal.nD → PrngReg), Pre_MlaDhnIdeal m →
    θ_run (Cert.MlaDhnIdeal.defs (F := Ideal)) (onTc (τ := Cert.MlaDhnIdeal.τ) (Cert.MlaDhnIdeal.main (F := Ideal))) ⟨m, fun _ => 0, g⟩ (fun r => (∀ c : Dev Cert.MlaDhnIdeal.nD,
      r.2.mem ((c.tc : Thread Cert.MlaDhnIdeal.nD Cert.MlaDhnIdeal.τ).loc Cert.MlaDhnIdeal.main_arg0) = m ((c.tc : Thread Cert.MlaDhnIdeal.nD Cert.MlaDhnIdeal.τ).loc Cert.MlaDhnIdeal.main_arg0)
      ∧ r.2.mem ((c.tc : Thread Cert.MlaDhnIdeal.nD Cert.MlaDhnIdeal.τ).loc Cert.MlaDhnIdeal.main_arg1) = m ((c.tc : Thread Cert.MlaDhnIdeal.nD Cert.MlaDhnIdeal.τ).loc Cert.MlaDhnIdeal.main_arg1))
      ∧ r.2.sem = fun _ => 0)

def quiescent_MlaDhnRefIdeal [hMlaDhnRefIdeal : Cert.MlaDhnRefIdeal.Facts] : Prop :=
  ∀ (m : (ℓ : Loc Cert.MlaDhnRefIdeal.nD Cert.MlaDhnRefIdeal.τ Cert.MlaDhnRefIdeal.sig) → Buf (Elt Ideal) ℓ) (g : Dev Cert.MlaDhnRefIdeal.nD → PrngReg), Pre_MlaDhnRefIdeal m →
    θ_run (Cert.MlaDhnRefIdeal.defs (F := Ideal)) (onTc (τ := Cert.MlaDhnRefIdeal.τ) (Cert.MlaDhnRefIdeal.main (F := Ideal))) ⟨m, fun _ => 0, g⟩ (fun r => (∀ c : Dev Cert.MlaDhnRefIdeal.nD,
      r.2.mem ((c.tc : Thread Cert.MlaDhnRefIdeal.nD Cert.MlaDhnRefIdeal.τ).loc Cert.MlaDhnRefIdeal.main_arg0) = m ((c.tc : Thread Cert.MlaDhnRefIdeal.nD Cert.MlaDhnRefIdeal.τ).loc Cert.MlaDhnRefIdeal.main_arg0)
      ∧ r.2.mem ((c.tc : Thread Cert.MlaDhnRefIdeal.nD Cert.MlaDhnRefIdeal.τ).loc Cert.MlaDhnRefIdeal.main_arg1) = m ((c.tc : Thread Cert.MlaDhnRefIdeal.nD Cert.MlaDhnRefIdeal.τ).loc Cert.MlaDhnRefIdeal.main_arg1))
      ∧ r.2.sem = fun _ => 0)

def quiescent_DilQkv0 [hDilQkv0 : Cert.DilQkv0.Facts] : Prop :=
  ∀ (m : (ℓ : Loc Cert.DilQkv0.nD Cert.DilQkv0.τ Cert.DilQkv0.sig) → Buf (Elt Bits) ℓ) (g : Dev Cert.DilQkv0.nD → PrngReg), Pre_DilQkv0 m →
    θ_run (Cert.DilQkv0.defs (F := Bits)) (onTc (τ := Cert.DilQkv0.τ) (Cert.DilQkv0.main (F := Bits))) ⟨m, fun _ => 0, g⟩ (fun r => (∀ c : Dev Cert.DilQkv0.nD,
      r.2.mem ((c.tc : Thread Cert.DilQkv0.nD Cert.DilQkv0.τ).loc Cert.DilQkv0.main_arg0) = m ((c.tc : Thread Cert.DilQkv0.nD Cert.DilQkv0.τ).loc Cert.DilQkv0.main_arg0)
      ∧ r.2.mem ((c.tc : Thread Cert.DilQkv0.nD Cert.DilQkv0.τ).loc Cert.DilQkv0.main_arg1) = m ((c.tc : Thread Cert.DilQkv0.nD Cert.DilQkv0.τ).loc Cert.DilQkv0.main_arg1))
      ∧ r.2.sem = fun _ => 0)

def quiescent_DilQkv0Ideal [hDilQkv0Ideal : Cert.DilQkv0Ideal.Facts] : Prop :=
  ∀ (m : (ℓ : Loc Cert.DilQkv0Ideal.nD Cert.DilQkv0Ideal.τ Cert.DilQkv0Ideal.sig) → Buf (Elt Ideal) ℓ) (g : Dev Cert.DilQkv0Ideal.nD → PrngReg), Pre_DilQkv0Ideal m →
    θ_run (Cert.DilQkv0Ideal.defs (F := Ideal)) (onTc (τ := Cert.DilQkv0Ideal.τ) (Cert.DilQkv0Ideal.main (F := Ideal))) ⟨m, fun _ => 0, g⟩ (fun r => (∀ c : Dev Cert.DilQkv0Ideal.nD,
      r.2.mem ((c.tc : Thread Cert.DilQkv0Ideal.nD Cert.DilQkv0Ideal.τ).loc Cert.DilQkv0Ideal.main_arg0) = m ((c.tc : Thread Cert.DilQkv0Ideal.nD Cert.DilQkv0Ideal.τ).loc Cert.DilQkv0Ideal.main_arg0)
      ∧ r.2.mem ((c.tc : Thread Cert.DilQkv0Ideal.nD Cert.DilQkv0Ideal.τ).loc Cert.DilQkv0Ideal.main_arg1) = m ((c.tc : Thread Cert.DilQkv0Ideal.nD Cert.DilQkv0Ideal.τ).loc Cert.DilQkv0Ideal.main_arg1))
      ∧ r.2.sem = fun _ => 0)

def quiescent_DilQkv0RefIdeal [hDilQkv0RefIdeal : Cert.DilQkv0RefIdeal.Facts] : Prop :=
  ∀ (m : (ℓ : Loc Cert.DilQkv0RefIdeal.nD Cert.DilQkv0RefIdeal.τ Cert.DilQkv0RefIdeal.sig) → Buf (Elt Ideal) ℓ) (g : Dev Cert.DilQkv0RefIdeal.nD → PrngReg), Pre_DilQkv0RefIdeal m →
    θ_run (Cert.DilQkv0RefIdeal.defs (F := Ideal)) (onTc (τ := Cert.DilQkv0RefIdeal.τ) (Cert.DilQkv0RefIdeal.main (F := Ideal))) ⟨m, fun _ => 0, g⟩ (fun r => (∀ c : Dev Cert.DilQkv0RefIdeal.nD,
      r.2.mem ((c.tc : Thread Cert.DilQkv0RefIdeal.nD Cert.DilQkv0RefIdeal.τ).loc Cert.DilQkv0RefIdeal.main_arg0) = m ((c.tc : Thread Cert.DilQkv0RefIdeal.nD Cert.DilQkv0RefIdeal.τ).loc Cert.DilQkv0RefIdeal.main_arg0)
      ∧ r.2.mem ((c.tc : Thread Cert.DilQkv0RefIdeal.nD Cert.DilQkv0RefIdeal.τ).loc Cert.DilQkv0RefIdeal.main_arg1) = m ((c.tc : Thread Cert.DilQkv0RefIdeal.nD Cert.DilQkv0RefIdeal.τ).loc Cert.DilQkv0RefIdeal.main_arg1))
      ∧ r.2.sem = fun _ => 0)

def quiescent_DilQkv1 [hDilQkv1 : Cert.DilQkv1.Facts] : Prop :=
  ∀ (m : (ℓ : Loc Cert.DilQkv1.nD Cert.DilQkv1.τ Cert.DilQkv1.sig) → Buf (Elt Bits) ℓ) (g : Dev Cert.DilQkv1.nD → PrngReg), Pre_DilQkv1 m →
    θ_run (Cert.DilQkv1.defs (F := Bits)) (onTc (τ := Cert.DilQkv1.τ) (Cert.DilQkv1.main (F := Bits))) ⟨m, fun _ => 0, g⟩ (fun r => (∀ c : Dev Cert.DilQkv1.nD,
      r.2.mem ((c.tc : Thread Cert.DilQkv1.nD Cert.DilQkv1.τ).loc Cert.DilQkv1.main_arg0) = m ((c.tc : Thread Cert.DilQkv1.nD Cert.DilQkv1.τ).loc Cert.DilQkv1.main_arg0)
      ∧ r.2.mem ((c.tc : Thread Cert.DilQkv1.nD Cert.DilQkv1.τ).loc Cert.DilQkv1.main_arg1) = m ((c.tc : Thread Cert.DilQkv1.nD Cert.DilQkv1.τ).loc Cert.DilQkv1.main_arg1))
      ∧ r.2.sem = fun _ => 0)

def quiescent_DilQkv1Ideal [hDilQkv1Ideal : Cert.DilQkv1Ideal.Facts] : Prop :=
  ∀ (m : (ℓ : Loc Cert.DilQkv1Ideal.nD Cert.DilQkv1Ideal.τ Cert.DilQkv1Ideal.sig) → Buf (Elt Ideal) ℓ) (g : Dev Cert.DilQkv1Ideal.nD → PrngReg), Pre_DilQkv1Ideal m →
    θ_run (Cert.DilQkv1Ideal.defs (F := Ideal)) (onTc (τ := Cert.DilQkv1Ideal.τ) (Cert.DilQkv1Ideal.main (F := Ideal))) ⟨m, fun _ => 0, g⟩ (fun r => (∀ c : Dev Cert.DilQkv1Ideal.nD,
      r.2.mem ((c.tc : Thread Cert.DilQkv1Ideal.nD Cert.DilQkv1Ideal.τ).loc Cert.DilQkv1Ideal.main_arg0) = m ((c.tc : Thread Cert.DilQkv1Ideal.nD Cert.DilQkv1Ideal.τ).loc Cert.DilQkv1Ideal.main_arg0)
      ∧ r.2.mem ((c.tc : Thread Cert.DilQkv1Ideal.nD Cert.DilQkv1Ideal.τ).loc Cert.DilQkv1Ideal.main_arg1) = m ((c.tc : Thread Cert.DilQkv1Ideal.nD Cert.DilQkv1Ideal.τ).loc Cert.DilQkv1Ideal.main_arg1))
      ∧ r.2.sem = fun _ => 0)

def quiescent_DilQkv1RefIdeal [hDilQkv1RefIdeal : Cert.DilQkv1RefIdeal.Facts] : Prop :=
  ∀ (m : (ℓ : Loc Cert.DilQkv1RefIdeal.nD Cert.DilQkv1RefIdeal.τ Cert.DilQkv1RefIdeal.sig) → Buf (Elt Ideal) ℓ) (g : Dev Cert.DilQkv1RefIdeal.nD → PrngReg), Pre_DilQkv1RefIdeal m →
    θ_run (Cert.DilQkv1RefIdeal.defs (F := Ideal)) (onTc (τ := Cert.DilQkv1RefIdeal.τ) (Cert.DilQkv1RefIdeal.main (F := Ideal))) ⟨m, fun _ => 0, g⟩ (fun r => (∀ c : Dev Cert.DilQkv1RefIdeal.nD,
      r.2.mem ((c.tc : Thread Cert.DilQkv1RefIdeal.nD Cert.DilQkv1RefIdeal.τ).loc Cert.DilQkv1RefIdeal.main_arg0) = m ((c.tc : Thread Cert.DilQkv1RefIdeal.nD Cert.DilQkv1RefIdeal.τ).loc Cert.DilQkv1RefIdeal.main_arg0)
      ∧ r.2.mem ((c.tc : Thread Cert.DilQkv1RefIdeal.nD Cert.DilQkv1RefIdeal.τ).loc Cert.DilQkv1RefIdeal.main_arg1) = m ((c.tc : Thread Cert.DilQkv1RefIdeal.nD Cert.DilQkv1RefIdeal.τ).loc Cert.DilQkv1RefIdeal.main_arg1))
      ∧ r.2.sem = fun _ => 0)

def quiescent_DilQkv2 [hDilQkv2 : Cert.DilQkv2.Facts] : Prop :=
  ∀ (m : (ℓ : Loc Cert.DilQkv2.nD Cert.DilQkv2.τ Cert.DilQkv2.sig) → Buf (Elt Bits) ℓ) (g : Dev Cert.DilQkv2.nD → PrngReg), Pre_DilQkv2 m →
    θ_run (Cert.DilQkv2.defs (F := Bits)) (onTc (τ := Cert.DilQkv2.τ) (Cert.DilQkv2.main (F := Bits))) ⟨m, fun _ => 0, g⟩ (fun r => (∀ c : Dev Cert.DilQkv2.nD,
      r.2.mem ((c.tc : Thread Cert.DilQkv2.nD Cert.DilQkv2.τ).loc Cert.DilQkv2.main_arg0) = m ((c.tc : Thread Cert.DilQkv2.nD Cert.DilQkv2.τ).loc Cert.DilQkv2.main_arg0)
      ∧ r.2.mem ((c.tc : Thread Cert.DilQkv2.nD Cert.DilQkv2.τ).loc Cert.DilQkv2.main_arg1) = m ((c.tc : Thread Cert.DilQkv2.nD Cert.DilQkv2.τ).loc Cert.DilQkv2.main_arg1))
      ∧ r.2.sem = fun _ => 0)

def quiescent_DilQkv2Ideal [hDilQkv2Ideal : Cert.DilQkv2Ideal.Facts] : Prop :=
  ∀ (m : (ℓ : Loc Cert.DilQkv2Ideal.nD Cert.DilQkv2Ideal.τ Cert.DilQkv2Ideal.sig) → Buf (Elt Ideal) ℓ) (g : Dev Cert.DilQkv2Ideal.nD → PrngReg), Pre_DilQkv2Ideal m →
    θ_run (Cert.DilQkv2Ideal.defs (F := Ideal)) (onTc (τ := Cert.DilQkv2Ideal.τ) (Cert.DilQkv2Ideal.main (F := Ideal))) ⟨m, fun _ => 0, g⟩ (fun r => (∀ c : Dev Cert.DilQkv2Ideal.nD,
      r.2.mem ((c.tc : Thread Cert.DilQkv2Ideal.nD Cert.DilQkv2Ideal.τ).loc Cert.DilQkv2Ideal.main_arg0) = m ((c.tc : Thread Cert.DilQkv2Ideal.nD Cert.DilQkv2Ideal.τ).loc Cert.DilQkv2Ideal.main_arg0)
      ∧ r.2.mem ((c.tc : Thread Cert.DilQkv2Ideal.nD Cert.DilQkv2Ideal.τ).loc Cert.DilQkv2Ideal.main_arg1) = m ((c.tc : Thread Cert.DilQkv2Ideal.nD Cert.DilQkv2Ideal.τ).loc Cert.DilQkv2Ideal.main_arg1))
      ∧ r.2.sem = fun _ => 0)

def quiescent_DilQkv2RefIdeal [hDilQkv2RefIdeal : Cert.DilQkv2RefIdeal.Facts] : Prop :=
  ∀ (m : (ℓ : Loc Cert.DilQkv2RefIdeal.nD Cert.DilQkv2RefIdeal.τ Cert.DilQkv2RefIdeal.sig) → Buf (Elt Ideal) ℓ) (g : Dev Cert.DilQkv2RefIdeal.nD → PrngReg), Pre_DilQkv2RefIdeal m →
    θ_run (Cert.DilQkv2RefIdeal.defs (F := Ideal)) (onTc (τ := Cert.DilQkv2RefIdeal.τ) (Cert.DilQkv2RefIdeal.main (F := Ideal))) ⟨m, fun _ => 0, g⟩ (fun r => (∀ c : Dev Cert.DilQkv2RefIdeal.nD,
      r.2.mem ((c.tc : Thread Cert.DilQkv2RefIdeal.nD Cert.DilQkv2RefIdeal.τ).loc Cert.DilQkv2RefIdeal.main_arg0) = m ((c.tc : Thread Cert.DilQkv2RefIdeal.nD Cert.DilQkv2RefIdeal.τ).loc Cert.DilQkv2RefIdeal.main_arg0)
      ∧ r.2.mem ((c.tc : Thread Cert.DilQkv2RefIdeal.nD Cert.DilQkv2RefIdeal.τ).loc Cert.DilQkv2RefIdeal.main_arg1) = m ((c.tc : Thread Cert.DilQkv2RefIdeal.nD Cert.DilQkv2RefIdeal.τ).loc Cert.DilQkv2RefIdeal.main_arg1))
      ∧ r.2.sem = fun _ => 0)

def quiescent_Dwin0 [hDwin0 : Cert.Dwin0.Facts] : Prop :=
  ∀ (m : (ℓ : Loc Cert.Dwin0.nD Cert.Dwin0.τ Cert.Dwin0.sig) → Buf (Elt Bits) ℓ) (g : Dev Cert.Dwin0.nD → PrngReg), Pre_Dwin0 m →
    θ_run (Cert.Dwin0.defs (F := Bits)) (onTc (τ := Cert.Dwin0.τ) (Cert.Dwin0.main (F := Bits))) ⟨m, fun _ => 0, g⟩ (fun r => (∀ c : Dev Cert.Dwin0.nD,
      r.2.mem ((c.tc : Thread Cert.Dwin0.nD Cert.Dwin0.τ).loc Cert.Dwin0.main_arg0) = m ((c.tc : Thread Cert.Dwin0.nD Cert.Dwin0.τ).loc Cert.Dwin0.main_arg0)
      ∧ r.2.mem ((c.tc : Thread Cert.Dwin0.nD Cert.Dwin0.τ).loc Cert.Dwin0.main_arg1) = m ((c.tc : Thread Cert.Dwin0.nD Cert.Dwin0.τ).loc Cert.Dwin0.main_arg1)
      ∧ r.2.mem ((c.tc : Thread Cert.Dwin0.nD Cert.Dwin0.τ).loc Cert.Dwin0.main_arg2) = m ((c.tc : Thread Cert.Dwin0.nD Cert.Dwin0.τ).loc Cert.Dwin0.main_arg2))
      ∧ r.2.sem = fun _ => 0)

def quiescent_Dwin0Ideal [hDwin0Ideal : Cert.Dwin0Ideal.Facts] : Prop :=
  ∀ (m : (ℓ : Loc Cert.Dwin0Ideal.nD Cert.Dwin0Ideal.τ Cert.Dwin0Ideal.sig) → Buf (Elt Ideal) ℓ) (g : Dev Cert.Dwin0Ideal.nD → PrngReg), Pre_Dwin0Ideal m →
    θ_run (Cert.Dwin0Ideal.defs (F := Ideal)) (onTc (τ := Cert.Dwin0Ideal.τ) (Cert.Dwin0Ideal.main (F := Ideal))) ⟨m, fun _ => 0, g⟩ (fun r => (∀ c : Dev Cert.Dwin0Ideal.nD,
      r.2.mem ((c.tc : Thread Cert.Dwin0Ideal.nD Cert.Dwin0Ideal.τ).loc Cert.Dwin0Ideal.main_arg0) = m ((c.tc : Thread Cert.Dwin0Ideal.nD Cert.Dwin0Ideal.τ).loc Cert.Dwin0Ideal.main_arg0)
      ∧ r.2.mem ((c.tc : Thread Cert.Dwin0Ideal.nD Cert.Dwin0Ideal.τ).loc Cert.Dwin0Ideal.main_arg1) = m ((c.tc : Thread Cert.Dwin0Ideal.nD Cert.Dwin0Ideal.τ).loc Cert.Dwin0Ideal.main_arg1)
      ∧ r.2.mem ((c.tc : Thread Cert.Dwin0Ideal.nD Cert.Dwin0Ideal.τ).loc Cert.Dwin0Ideal.main_arg2) = m ((c.tc : Thread Cert.Dwin0Ideal.nD Cert.Dwin0Ideal.τ).loc Cert.Dwin0Ideal.main_arg2))
      ∧ r.2.sem = fun _ => 0)

def quiescent_Dwin0RefIdeal [hDwin0RefIdeal : Cert.Dwin0RefIdeal.Facts] : Prop :=
  ∀ (m : (ℓ : Loc Cert.Dwin0RefIdeal.nD Cert.Dwin0RefIdeal.τ Cert.Dwin0RefIdeal.sig) → Buf (Elt Ideal) ℓ) (g : Dev Cert.Dwin0RefIdeal.nD → PrngReg), Pre_Dwin0RefIdeal m →
    θ_run (Cert.Dwin0RefIdeal.defs (F := Ideal)) (onTc (τ := Cert.Dwin0RefIdeal.τ) (Cert.Dwin0RefIdeal.main (F := Ideal))) ⟨m, fun _ => 0, g⟩ (fun r => (∀ c : Dev Cert.Dwin0RefIdeal.nD,
      r.2.mem ((c.tc : Thread Cert.Dwin0RefIdeal.nD Cert.Dwin0RefIdeal.τ).loc Cert.Dwin0RefIdeal.main_arg0) = m ((c.tc : Thread Cert.Dwin0RefIdeal.nD Cert.Dwin0RefIdeal.τ).loc Cert.Dwin0RefIdeal.main_arg0)
      ∧ r.2.mem ((c.tc : Thread Cert.Dwin0RefIdeal.nD Cert.Dwin0RefIdeal.τ).loc Cert.Dwin0RefIdeal.main_arg1) = m ((c.tc : Thread Cert.Dwin0RefIdeal.nD Cert.Dwin0RefIdeal.τ).loc Cert.Dwin0RefIdeal.main_arg1)
      ∧ r.2.mem ((c.tc : Thread Cert.Dwin0RefIdeal.nD Cert.Dwin0RefIdeal.τ).loc Cert.Dwin0RefIdeal.main_arg2) = m ((c.tc : Thread Cert.Dwin0RefIdeal.nD Cert.Dwin0RefIdeal.τ).loc Cert.Dwin0RefIdeal.main_arg2))
      ∧ r.2.sem = fun _ => 0)

def quiescent_Dwin1 [hDwin1 : Cert.Dwin1.Facts] : Prop :=
  ∀ (m : (ℓ : Loc Cert.Dwin1.nD Cert.Dwin1.τ Cert.Dwin1.sig) → Buf (Elt Bits) ℓ) (g : Dev Cert.Dwin1.nD → PrngReg), Pre_Dwin1 m →
    θ_run (Cert.Dwin1.defs (F := Bits)) (onTc (τ := Cert.Dwin1.τ) (Cert.Dwin1.main (F := Bits))) ⟨m, fun _ => 0, g⟩ (fun r => (∀ c : Dev Cert.Dwin1.nD,
      r.2.mem ((c.tc : Thread Cert.Dwin1.nD Cert.Dwin1.τ).loc Cert.Dwin1.main_arg0) = m ((c.tc : Thread Cert.Dwin1.nD Cert.Dwin1.τ).loc Cert.Dwin1.main_arg0)
      ∧ r.2.mem ((c.tc : Thread Cert.Dwin1.nD Cert.Dwin1.τ).loc Cert.Dwin1.main_arg1) = m ((c.tc : Thread Cert.Dwin1.nD Cert.Dwin1.τ).loc Cert.Dwin1.main_arg1)
      ∧ r.2.mem ((c.tc : Thread Cert.Dwin1.nD Cert.Dwin1.τ).loc Cert.Dwin1.main_arg2) = m ((c.tc : Thread Cert.Dwin1.nD Cert.Dwin1.τ).loc Cert.Dwin1.main_arg2))
      ∧ r.2.sem = fun _ => 0)

def quiescent_Dwin1Ideal [hDwin1Ideal : Cert.Dwin1Ideal.Facts] : Prop :=
  ∀ (m : (ℓ : Loc Cert.Dwin1Ideal.nD Cert.Dwin1Ideal.τ Cert.Dwin1Ideal.sig) → Buf (Elt Ideal) ℓ) (g : Dev Cert.Dwin1Ideal.nD → PrngReg), Pre_Dwin1Ideal m →
    θ_run (Cert.Dwin1Ideal.defs (F := Ideal)) (onTc (τ := Cert.Dwin1Ideal.τ) (Cert.Dwin1Ideal.main (F := Ideal))) ⟨m, fun _ => 0, g⟩ (fun r => (∀ c : Dev Cert.Dwin1Ideal.nD,
      r.2.mem ((c.tc : Thread Cert.Dwin1Ideal.nD Cert.Dwin1Ideal.τ).loc Cert.Dwin1Ideal.main_arg0) = m ((c.tc : Thread Cert.Dwin1Ideal.nD Cert.Dwin1Ideal.τ).loc Cert.Dwin1Ideal.main_arg0)
      ∧ r.2.mem ((c.tc : Thread Cert.Dwin1Ideal.nD Cert.Dwin1Ideal.τ).loc Cert.Dwin1Ideal.main_arg1) = m ((c.tc : Thread Cert.Dwin1Ideal.nD Cert.Dwin1Ideal.τ).loc Cert.Dwin1Ideal.main_arg1)
      ∧ r.2.mem ((c.tc : Thread Cert.Dwin1Ideal.nD Cert.Dwin1Ideal.τ).loc Cert.Dwin1Ideal.main_arg2) = m ((c.tc : Thread Cert.Dwin1Ideal.nD Cert.Dwin1Ideal.τ).loc Cert.Dwin1Ideal.main_arg2))
      ∧ r.2.sem = fun _ => 0)

def quiescent_Dwin1RefIdeal [hDwin1RefIdeal : Cert.Dwin1RefIdeal.Facts] : Prop :=
  ∀ (m : (ℓ : Loc Cert.Dwin1RefIdeal.nD Cert.Dwin1RefIdeal.τ Cert.Dwin1RefIdeal.sig) → Buf (Elt Ideal) ℓ) (g : Dev Cert.Dwin1RefIdeal.nD → PrngReg), Pre_Dwin1RefIdeal m →
    θ_run (Cert.Dwin1RefIdeal.defs (F := Ideal)) (onTc (τ := Cert.Dwin1RefIdeal.τ) (Cert.Dwin1RefIdeal.main (F := Ideal))) ⟨m, fun _ => 0, g⟩ (fun r => (∀ c : Dev Cert.Dwin1RefIdeal.nD,
      r.2.mem ((c.tc : Thread Cert.Dwin1RefIdeal.nD Cert.Dwin1RefIdeal.τ).loc Cert.Dwin1RefIdeal.main_arg0) = m ((c.tc : Thread Cert.Dwin1RefIdeal.nD Cert.Dwin1RefIdeal.τ).loc Cert.Dwin1RefIdeal.main_arg0)
      ∧ r.2.mem ((c.tc : Thread Cert.Dwin1RefIdeal.nD Cert.Dwin1RefIdeal.τ).loc Cert.Dwin1RefIdeal.main_arg1) = m ((c.tc : Thread Cert.Dwin1RefIdeal.nD Cert.Dwin1RefIdeal.τ).loc Cert.Dwin1RefIdeal.main_arg1)
      ∧ r.2.mem ((c.tc : Thread Cert.Dwin1RefIdeal.nD Cert.Dwin1RefIdeal.τ).loc Cert.Dwin1RefIdeal.main_arg2) = m ((c.tc : Thread Cert.Dwin1RefIdeal.nD Cert.Dwin1RefIdeal.τ).loc Cert.Dwin1RefIdeal.main_arg2))
      ∧ r.2.sem = fun _ => 0)

def quiescent_Dwin2 [hDwin2 : Cert.Dwin2.Facts] : Prop :=
  ∀ (m : (ℓ : Loc Cert.Dwin2.nD Cert.Dwin2.τ Cert.Dwin2.sig) → Buf (Elt Bits) ℓ) (g : Dev Cert.Dwin2.nD → PrngReg), Pre_Dwin2 m →
    θ_run (Cert.Dwin2.defs (F := Bits)) (onTc (τ := Cert.Dwin2.τ) (Cert.Dwin2.main (F := Bits))) ⟨m, fun _ => 0, g⟩ (fun r => (∀ c : Dev Cert.Dwin2.nD,
      r.2.mem ((c.tc : Thread Cert.Dwin2.nD Cert.Dwin2.τ).loc Cert.Dwin2.main_arg0) = m ((c.tc : Thread Cert.Dwin2.nD Cert.Dwin2.τ).loc Cert.Dwin2.main_arg0)
      ∧ r.2.mem ((c.tc : Thread Cert.Dwin2.nD Cert.Dwin2.τ).loc Cert.Dwin2.main_arg1) = m ((c.tc : Thread Cert.Dwin2.nD Cert.Dwin2.τ).loc Cert.Dwin2.main_arg1)
      ∧ r.2.mem ((c.tc : Thread Cert.Dwin2.nD Cert.Dwin2.τ).loc Cert.Dwin2.main_arg2) = m ((c.tc : Thread Cert.Dwin2.nD Cert.Dwin2.τ).loc Cert.Dwin2.main_arg2))
      ∧ r.2.sem = fun _ => 0)

def quiescent_Dwin2Ideal [hDwin2Ideal : Cert.Dwin2Ideal.Facts] : Prop :=
  ∀ (m : (ℓ : Loc Cert.Dwin2Ideal.nD Cert.Dwin2Ideal.τ Cert.Dwin2Ideal.sig) → Buf (Elt Ideal) ℓ) (g : Dev Cert.Dwin2Ideal.nD → PrngReg), Pre_Dwin2Ideal m →
    θ_run (Cert.Dwin2Ideal.defs (F := Ideal)) (onTc (τ := Cert.Dwin2Ideal.τ) (Cert.Dwin2Ideal.main (F := Ideal))) ⟨m, fun _ => 0, g⟩ (fun r => (∀ c : Dev Cert.Dwin2Ideal.nD,
      r.2.mem ((c.tc : Thread Cert.Dwin2Ideal.nD Cert.Dwin2Ideal.τ).loc Cert.Dwin2Ideal.main_arg0) = m ((c.tc : Thread Cert.Dwin2Ideal.nD Cert.Dwin2Ideal.τ).loc Cert.Dwin2Ideal.main_arg0)
      ∧ r.2.mem ((c.tc : Thread Cert.Dwin2Ideal.nD Cert.Dwin2Ideal.τ).loc Cert.Dwin2Ideal.main_arg1) = m ((c.tc : Thread Cert.Dwin2Ideal.nD Cert.Dwin2Ideal.τ).loc Cert.Dwin2Ideal.main_arg1)
      ∧ r.2.mem ((c.tc : Thread Cert.Dwin2Ideal.nD Cert.Dwin2Ideal.τ).loc Cert.Dwin2Ideal.main_arg2) = m ((c.tc : Thread Cert.Dwin2Ideal.nD Cert.Dwin2Ideal.τ).loc Cert.Dwin2Ideal.main_arg2))
      ∧ r.2.sem = fun _ => 0)

def quiescent_Dwin2RefIdeal [hDwin2RefIdeal : Cert.Dwin2RefIdeal.Facts] : Prop :=
  ∀ (m : (ℓ : Loc Cert.Dwin2RefIdeal.nD Cert.Dwin2RefIdeal.τ Cert.Dwin2RefIdeal.sig) → Buf (Elt Ideal) ℓ) (g : Dev Cert.Dwin2RefIdeal.nD → PrngReg), Pre_Dwin2RefIdeal m →
    θ_run (Cert.Dwin2RefIdeal.defs (F := Ideal)) (onTc (τ := Cert.Dwin2RefIdeal.τ) (Cert.Dwin2RefIdeal.main (F := Ideal))) ⟨m, fun _ => 0, g⟩ (fun r => (∀ c : Dev Cert.Dwin2RefIdeal.nD,
      r.2.mem ((c.tc : Thread Cert.Dwin2RefIdeal.nD Cert.Dwin2RefIdeal.τ).loc Cert.Dwin2RefIdeal.main_arg0) = m ((c.tc : Thread Cert.Dwin2RefIdeal.nD Cert.Dwin2RefIdeal.τ).loc Cert.Dwin2RefIdeal.main_arg0)
      ∧ r.2.mem ((c.tc : Thread Cert.Dwin2RefIdeal.nD Cert.Dwin2RefIdeal.τ).loc Cert.Dwin2RefIdeal.main_arg1) = m ((c.tc : Thread Cert.Dwin2RefIdeal.nD Cert.Dwin2RefIdeal.τ).loc Cert.Dwin2RefIdeal.main_arg1)
      ∧ r.2.mem ((c.tc : Thread Cert.Dwin2RefIdeal.nD Cert.Dwin2RefIdeal.τ).loc Cert.Dwin2RefIdeal.main_arg2) = m ((c.tc : Thread Cert.Dwin2RefIdeal.nD Cert.Dwin2RefIdeal.τ).loc Cert.Dwin2RefIdeal.main_arg2))
      ∧ r.2.sem = fun _ => 0)

def quiescent_Dwout0 [hDwout0 : Cert.Dwout0.Facts] : Prop :=
  ∀ (m : (ℓ : Loc Cert.Dwout0.nD Cert.Dwout0.τ Cert.Dwout0.sig) → Buf (Elt Bits) ℓ) (g : Dev Cert.Dwout0.nD → PrngReg), Pre_Dwout0 m →
    θ_run (Cert.Dwout0.defs (F := Bits)) (onTc (τ := Cert.Dwout0.τ) (Cert.Dwout0.main (F := Bits))) ⟨m, fun _ => 0, g⟩ (fun r => (∀ c : Dev Cert.Dwout0.nD,
      r.2.mem ((c.tc : Thread Cert.Dwout0.nD Cert.Dwout0.τ).loc Cert.Dwout0.main_arg0) = m ((c.tc : Thread Cert.Dwout0.nD Cert.Dwout0.τ).loc Cert.Dwout0.main_arg0)
      ∧ r.2.mem ((c.tc : Thread Cert.Dwout0.nD Cert.Dwout0.τ).loc Cert.Dwout0.main_arg1) = m ((c.tc : Thread Cert.Dwout0.nD Cert.Dwout0.τ).loc Cert.Dwout0.main_arg1)
      ∧ r.2.mem ((c.tc : Thread Cert.Dwout0.nD Cert.Dwout0.τ).loc Cert.Dwout0.main_arg2) = m ((c.tc : Thread Cert.Dwout0.nD Cert.Dwout0.τ).loc Cert.Dwout0.main_arg2))
      ∧ r.2.sem = fun _ => 0)

def quiescent_Dwout0Ideal [hDwout0Ideal : Cert.Dwout0Ideal.Facts] : Prop :=
  ∀ (m : (ℓ : Loc Cert.Dwout0Ideal.nD Cert.Dwout0Ideal.τ Cert.Dwout0Ideal.sig) → Buf (Elt Ideal) ℓ) (g : Dev Cert.Dwout0Ideal.nD → PrngReg), Pre_Dwout0Ideal m →
    θ_run (Cert.Dwout0Ideal.defs (F := Ideal)) (onTc (τ := Cert.Dwout0Ideal.τ) (Cert.Dwout0Ideal.main (F := Ideal))) ⟨m, fun _ => 0, g⟩ (fun r => (∀ c : Dev Cert.Dwout0Ideal.nD,
      r.2.mem ((c.tc : Thread Cert.Dwout0Ideal.nD Cert.Dwout0Ideal.τ).loc Cert.Dwout0Ideal.main_arg0) = m ((c.tc : Thread Cert.Dwout0Ideal.nD Cert.Dwout0Ideal.τ).loc Cert.Dwout0Ideal.main_arg0)
      ∧ r.2.mem ((c.tc : Thread Cert.Dwout0Ideal.nD Cert.Dwout0Ideal.τ).loc Cert.Dwout0Ideal.main_arg1) = m ((c.tc : Thread Cert.Dwout0Ideal.nD Cert.Dwout0Ideal.τ).loc Cert.Dwout0Ideal.main_arg1)
      ∧ r.2.mem ((c.tc : Thread Cert.Dwout0Ideal.nD Cert.Dwout0Ideal.τ).loc Cert.Dwout0Ideal.main_arg2) = m ((c.tc : Thread Cert.Dwout0Ideal.nD Cert.Dwout0Ideal.τ).loc Cert.Dwout0Ideal.main_arg2))
      ∧ r.2.sem = fun _ => 0)

def quiescent_Dwout0RefIdeal [hDwout0RefIdeal : Cert.Dwout0RefIdeal.Facts] : Prop :=
  ∀ (m : (ℓ : Loc Cert.Dwout0RefIdeal.nD Cert.Dwout0RefIdeal.τ Cert.Dwout0RefIdeal.sig) → Buf (Elt Ideal) ℓ) (g : Dev Cert.Dwout0RefIdeal.nD → PrngReg), Pre_Dwout0RefIdeal m →
    θ_run (Cert.Dwout0RefIdeal.defs (F := Ideal)) (onTc (τ := Cert.Dwout0RefIdeal.τ) (Cert.Dwout0RefIdeal.main (F := Ideal))) ⟨m, fun _ => 0, g⟩ (fun r => (∀ c : Dev Cert.Dwout0RefIdeal.nD,
      r.2.mem ((c.tc : Thread Cert.Dwout0RefIdeal.nD Cert.Dwout0RefIdeal.τ).loc Cert.Dwout0RefIdeal.main_arg0) = m ((c.tc : Thread Cert.Dwout0RefIdeal.nD Cert.Dwout0RefIdeal.τ).loc Cert.Dwout0RefIdeal.main_arg0)
      ∧ r.2.mem ((c.tc : Thread Cert.Dwout0RefIdeal.nD Cert.Dwout0RefIdeal.τ).loc Cert.Dwout0RefIdeal.main_arg1) = m ((c.tc : Thread Cert.Dwout0RefIdeal.nD Cert.Dwout0RefIdeal.τ).loc Cert.Dwout0RefIdeal.main_arg1)
      ∧ r.2.mem ((c.tc : Thread Cert.Dwout0RefIdeal.nD Cert.Dwout0RefIdeal.τ).loc Cert.Dwout0RefIdeal.main_arg2) = m ((c.tc : Thread Cert.Dwout0RefIdeal.nD Cert.Dwout0RefIdeal.τ).loc Cert.Dwout0RefIdeal.main_arg2))
      ∧ r.2.sem = fun _ => 0)

def quiescent_Dwout1 [hDwout1 : Cert.Dwout1.Facts] : Prop :=
  ∀ (m : (ℓ : Loc Cert.Dwout1.nD Cert.Dwout1.τ Cert.Dwout1.sig) → Buf (Elt Bits) ℓ) (g : Dev Cert.Dwout1.nD → PrngReg), Pre_Dwout1 m →
    θ_run (Cert.Dwout1.defs (F := Bits)) (onTc (τ := Cert.Dwout1.τ) (Cert.Dwout1.main (F := Bits))) ⟨m, fun _ => 0, g⟩ (fun r => (∀ c : Dev Cert.Dwout1.nD,
      r.2.mem ((c.tc : Thread Cert.Dwout1.nD Cert.Dwout1.τ).loc Cert.Dwout1.main_arg0) = m ((c.tc : Thread Cert.Dwout1.nD Cert.Dwout1.τ).loc Cert.Dwout1.main_arg0)
      ∧ r.2.mem ((c.tc : Thread Cert.Dwout1.nD Cert.Dwout1.τ).loc Cert.Dwout1.main_arg1) = m ((c.tc : Thread Cert.Dwout1.nD Cert.Dwout1.τ).loc Cert.Dwout1.main_arg1)
      ∧ r.2.mem ((c.tc : Thread Cert.Dwout1.nD Cert.Dwout1.τ).loc Cert.Dwout1.main_arg2) = m ((c.tc : Thread Cert.Dwout1.nD Cert.Dwout1.τ).loc Cert.Dwout1.main_arg2))
      ∧ r.2.sem = fun _ => 0)

def quiescent_Dwout1Ideal [hDwout1Ideal : Cert.Dwout1Ideal.Facts] : Prop :=
  ∀ (m : (ℓ : Loc Cert.Dwout1Ideal.nD Cert.Dwout1Ideal.τ Cert.Dwout1Ideal.sig) → Buf (Elt Ideal) ℓ) (g : Dev Cert.Dwout1Ideal.nD → PrngReg), Pre_Dwout1Ideal m →
    θ_run (Cert.Dwout1Ideal.defs (F := Ideal)) (onTc (τ := Cert.Dwout1Ideal.τ) (Cert.Dwout1Ideal.main (F := Ideal))) ⟨m, fun _ => 0, g⟩ (fun r => (∀ c : Dev Cert.Dwout1Ideal.nD,
      r.2.mem ((c.tc : Thread Cert.Dwout1Ideal.nD Cert.Dwout1Ideal.τ).loc Cert.Dwout1Ideal.main_arg0) = m ((c.tc : Thread Cert.Dwout1Ideal.nD Cert.Dwout1Ideal.τ).loc Cert.Dwout1Ideal.main_arg0)
      ∧ r.2.mem ((c.tc : Thread Cert.Dwout1Ideal.nD Cert.Dwout1Ideal.τ).loc Cert.Dwout1Ideal.main_arg1) = m ((c.tc : Thread Cert.Dwout1Ideal.nD Cert.Dwout1Ideal.τ).loc Cert.Dwout1Ideal.main_arg1)
      ∧ r.2.mem ((c.tc : Thread Cert.Dwout1Ideal.nD Cert.Dwout1Ideal.τ).loc Cert.Dwout1Ideal.main_arg2) = m ((c.tc : Thread Cert.Dwout1Ideal.nD Cert.Dwout1Ideal.τ).loc Cert.Dwout1Ideal.main_arg2))
      ∧ r.2.sem = fun _ => 0)

def quiescent_Dwout1RefIdeal [hDwout1RefIdeal : Cert.Dwout1RefIdeal.Facts] : Prop :=
  ∀ (m : (ℓ : Loc Cert.Dwout1RefIdeal.nD Cert.Dwout1RefIdeal.τ Cert.Dwout1RefIdeal.sig) → Buf (Elt Ideal) ℓ) (g : Dev Cert.Dwout1RefIdeal.nD → PrngReg), Pre_Dwout1RefIdeal m →
    θ_run (Cert.Dwout1RefIdeal.defs (F := Ideal)) (onTc (τ := Cert.Dwout1RefIdeal.τ) (Cert.Dwout1RefIdeal.main (F := Ideal))) ⟨m, fun _ => 0, g⟩ (fun r => (∀ c : Dev Cert.Dwout1RefIdeal.nD,
      r.2.mem ((c.tc : Thread Cert.Dwout1RefIdeal.nD Cert.Dwout1RefIdeal.τ).loc Cert.Dwout1RefIdeal.main_arg0) = m ((c.tc : Thread Cert.Dwout1RefIdeal.nD Cert.Dwout1RefIdeal.τ).loc Cert.Dwout1RefIdeal.main_arg0)
      ∧ r.2.mem ((c.tc : Thread Cert.Dwout1RefIdeal.nD Cert.Dwout1RefIdeal.τ).loc Cert.Dwout1RefIdeal.main_arg1) = m ((c.tc : Thread Cert.Dwout1RefIdeal.nD Cert.Dwout1RefIdeal.τ).loc Cert.Dwout1RefIdeal.main_arg1)
      ∧ r.2.mem ((c.tc : Thread Cert.Dwout1RefIdeal.nD Cert.Dwout1RefIdeal.τ).loc Cert.Dwout1RefIdeal.main_arg2) = m ((c.tc : Thread Cert.Dwout1RefIdeal.nD Cert.Dwout1RefIdeal.τ).loc Cert.Dwout1RefIdeal.main_arg2))
      ∧ r.2.sem = fun _ => 0)

def quiescent_Dwout2 [hDwout2 : Cert.Dwout2.Facts] : Prop :=
  ∀ (m : (ℓ : Loc Cert.Dwout2.nD Cert.Dwout2.τ Cert.Dwout2.sig) → Buf (Elt Bits) ℓ) (g : Dev Cert.Dwout2.nD → PrngReg), Pre_Dwout2 m →
    θ_run (Cert.Dwout2.defs (F := Bits)) (onTc (τ := Cert.Dwout2.τ) (Cert.Dwout2.main (F := Bits))) ⟨m, fun _ => 0, g⟩ (fun r => (∀ c : Dev Cert.Dwout2.nD,
      r.2.mem ((c.tc : Thread Cert.Dwout2.nD Cert.Dwout2.τ).loc Cert.Dwout2.main_arg0) = m ((c.tc : Thread Cert.Dwout2.nD Cert.Dwout2.τ).loc Cert.Dwout2.main_arg0)
      ∧ r.2.mem ((c.tc : Thread Cert.Dwout2.nD Cert.Dwout2.τ).loc Cert.Dwout2.main_arg1) = m ((c.tc : Thread Cert.Dwout2.nD Cert.Dwout2.τ).loc Cert.Dwout2.main_arg1)
      ∧ r.2.mem ((c.tc : Thread Cert.Dwout2.nD Cert.Dwout2.τ).loc Cert.Dwout2.main_arg2) = m ((c.tc : Thread Cert.Dwout2.nD Cert.Dwout2.τ).loc Cert.Dwout2.main_arg2))
      ∧ r.2.sem = fun _ => 0)

def quiescent_Dwout2Ideal [hDwout2Ideal : Cert.Dwout2Ideal.Facts] : Prop :=
  ∀ (m : (ℓ : Loc Cert.Dwout2Ideal.nD Cert.Dwout2Ideal.τ Cert.Dwout2Ideal.sig) → Buf (Elt Ideal) ℓ) (g : Dev Cert.Dwout2Ideal.nD → PrngReg), Pre_Dwout2Ideal m →
    θ_run (Cert.Dwout2Ideal.defs (F := Ideal)) (onTc (τ := Cert.Dwout2Ideal.τ) (Cert.Dwout2Ideal.main (F := Ideal))) ⟨m, fun _ => 0, g⟩ (fun r => (∀ c : Dev Cert.Dwout2Ideal.nD,
      r.2.mem ((c.tc : Thread Cert.Dwout2Ideal.nD Cert.Dwout2Ideal.τ).loc Cert.Dwout2Ideal.main_arg0) = m ((c.tc : Thread Cert.Dwout2Ideal.nD Cert.Dwout2Ideal.τ).loc Cert.Dwout2Ideal.main_arg0)
      ∧ r.2.mem ((c.tc : Thread Cert.Dwout2Ideal.nD Cert.Dwout2Ideal.τ).loc Cert.Dwout2Ideal.main_arg1) = m ((c.tc : Thread Cert.Dwout2Ideal.nD Cert.Dwout2Ideal.τ).loc Cert.Dwout2Ideal.main_arg1)
      ∧ r.2.mem ((c.tc : Thread Cert.Dwout2Ideal.nD Cert.Dwout2Ideal.τ).loc Cert.Dwout2Ideal.main_arg2) = m ((c.tc : Thread Cert.Dwout2Ideal.nD Cert.Dwout2Ideal.τ).loc Cert.Dwout2Ideal.main_arg2))
      ∧ r.2.sem = fun _ => 0)

def quiescent_Dwout2RefIdeal [hDwout2RefIdeal : Cert.Dwout2RefIdeal.Facts] : Prop :=
  ∀ (m : (ℓ : Loc Cert.Dwout2RefIdeal.nD Cert.Dwout2RefIdeal.τ Cert.Dwout2RefIdeal.sig) → Buf (Elt Ideal) ℓ) (g : Dev Cert.Dwout2RefIdeal.nD → PrngReg), Pre_Dwout2RefIdeal m →
    θ_run (Cert.Dwout2RefIdeal.defs (F := Ideal)) (onTc (τ := Cert.Dwout2RefIdeal.τ) (Cert.Dwout2RefIdeal.main (F := Ideal))) ⟨m, fun _ => 0, g⟩ (fun r => (∀ c : Dev Cert.Dwout2RefIdeal.nD,
      r.2.mem ((c.tc : Thread Cert.Dwout2RefIdeal.nD Cert.Dwout2RefIdeal.τ).loc Cert.Dwout2RefIdeal.main_arg0) = m ((c.tc : Thread Cert.Dwout2RefIdeal.nD Cert.Dwout2RefIdeal.τ).loc Cert.Dwout2RefIdeal.main_arg0)
      ∧ r.2.mem ((c.tc : Thread Cert.Dwout2RefIdeal.nD Cert.Dwout2RefIdeal.τ).loc Cert.Dwout2RefIdeal.main_arg1) = m ((c.tc : Thread Cert.Dwout2RefIdeal.nD Cert.Dwout2RefIdeal.τ).loc Cert.Dwout2RefIdeal.main_arg1)
      ∧ r.2.mem ((c.tc : Thread Cert.Dwout2RefIdeal.nD Cert.Dwout2RefIdeal.τ).loc Cert.Dwout2RefIdeal.main_arg2) = m ((c.tc : Thread Cert.Dwout2RefIdeal.nD Cert.Dwout2RefIdeal.τ).loc Cert.Dwout2RefIdeal.main_arg2))
      ∧ r.2.sem = fun _ => 0)

def quiescent_Dwg0 [hDwg0 : Cert.Dwg0.Facts] : Prop :=
  ∀ (m : (ℓ : Loc Cert.Dwg0.nD Cert.Dwg0.τ Cert.Dwg0.sig) → Buf (Elt Bits) ℓ) (g : Dev Cert.Dwg0.nD → PrngReg), Pre_Dwg0 m →
    θ_run (Cert.Dwg0.defs (F := Bits)) (onTc (τ := Cert.Dwg0.τ) (Cert.Dwg0.main (F := Bits))) ⟨m, fun _ => 0, g⟩ (fun r => (∀ c : Dev Cert.Dwg0.nD,
      r.2.mem ((c.tc : Thread Cert.Dwg0.nD Cert.Dwg0.τ).loc Cert.Dwg0.main_arg0) = m ((c.tc : Thread Cert.Dwg0.nD Cert.Dwg0.τ).loc Cert.Dwg0.main_arg0)
      ∧ r.2.mem ((c.tc : Thread Cert.Dwg0.nD Cert.Dwg0.τ).loc Cert.Dwg0.main_arg1) = m ((c.tc : Thread Cert.Dwg0.nD Cert.Dwg0.τ).loc Cert.Dwg0.main_arg1)
      ∧ r.2.mem ((c.tc : Thread Cert.Dwg0.nD Cert.Dwg0.τ).loc Cert.Dwg0.main_arg2) = m ((c.tc : Thread Cert.Dwg0.nD Cert.Dwg0.τ).loc Cert.Dwg0.main_arg2))
      ∧ r.2.sem = fun _ => 0)

def quiescent_Dwg0Ideal [hDwg0Ideal : Cert.Dwg0Ideal.Facts] : Prop :=
  ∀ (m : (ℓ : Loc Cert.Dwg0Ideal.nD Cert.Dwg0Ideal.τ Cert.Dwg0Ideal.sig) → Buf (Elt Ideal) ℓ) (g : Dev Cert.Dwg0Ideal.nD → PrngReg), Pre_Dwg0Ideal m →
    θ_run (Cert.Dwg0Ideal.defs (F := Ideal)) (onTc (τ := Cert.Dwg0Ideal.τ) (Cert.Dwg0Ideal.main (F := Ideal))) ⟨m, fun _ => 0, g⟩ (fun r => (∀ c : Dev Cert.Dwg0Ideal.nD,
      r.2.mem ((c.tc : Thread Cert.Dwg0Ideal.nD Cert.Dwg0Ideal.τ).loc Cert.Dwg0Ideal.main_arg0) = m ((c.tc : Thread Cert.Dwg0Ideal.nD Cert.Dwg0Ideal.τ).loc Cert.Dwg0Ideal.main_arg0)
      ∧ r.2.mem ((c.tc : Thread Cert.Dwg0Ideal.nD Cert.Dwg0Ideal.τ).loc Cert.Dwg0Ideal.main_arg1) = m ((c.tc : Thread Cert.Dwg0Ideal.nD Cert.Dwg0Ideal.τ).loc Cert.Dwg0Ideal.main_arg1)
      ∧ r.2.mem ((c.tc : Thread Cert.Dwg0Ideal.nD Cert.Dwg0Ideal.τ).loc Cert.Dwg0Ideal.main_arg2) = m ((c.tc : Thread Cert.Dwg0Ideal.nD Cert.Dwg0Ideal.τ).loc Cert.Dwg0Ideal.main_arg2))
      ∧ r.2.sem = fun _ => 0)

def quiescent_Dwg0RefIdeal [hDwg0RefIdeal : Cert.Dwg0RefIdeal.Facts] : Prop :=
  ∀ (m : (ℓ : Loc Cert.Dwg0RefIdeal.nD Cert.Dwg0RefIdeal.τ Cert.Dwg0RefIdeal.sig) → Buf (Elt Ideal) ℓ) (g : Dev Cert.Dwg0RefIdeal.nD → PrngReg), Pre_Dwg0RefIdeal m →
    θ_run (Cert.Dwg0RefIdeal.defs (F := Ideal)) (onTc (τ := Cert.Dwg0RefIdeal.τ) (Cert.Dwg0RefIdeal.main (F := Ideal))) ⟨m, fun _ => 0, g⟩ (fun r => (∀ c : Dev Cert.Dwg0RefIdeal.nD,
      r.2.mem ((c.tc : Thread Cert.Dwg0RefIdeal.nD Cert.Dwg0RefIdeal.τ).loc Cert.Dwg0RefIdeal.main_arg0) = m ((c.tc : Thread Cert.Dwg0RefIdeal.nD Cert.Dwg0RefIdeal.τ).loc Cert.Dwg0RefIdeal.main_arg0)
      ∧ r.2.mem ((c.tc : Thread Cert.Dwg0RefIdeal.nD Cert.Dwg0RefIdeal.τ).loc Cert.Dwg0RefIdeal.main_arg1) = m ((c.tc : Thread Cert.Dwg0RefIdeal.nD Cert.Dwg0RefIdeal.τ).loc Cert.Dwg0RefIdeal.main_arg1)
      ∧ r.2.mem ((c.tc : Thread Cert.Dwg0RefIdeal.nD Cert.Dwg0RefIdeal.τ).loc Cert.Dwg0RefIdeal.main_arg2) = m ((c.tc : Thread Cert.Dwg0RefIdeal.nD Cert.Dwg0RefIdeal.τ).loc Cert.Dwg0RefIdeal.main_arg2))
      ∧ r.2.sem = fun _ => 0)

def quiescent_Dwg1 [hDwg1 : Cert.Dwg1.Facts] : Prop :=
  ∀ (m : (ℓ : Loc Cert.Dwg1.nD Cert.Dwg1.τ Cert.Dwg1.sig) → Buf (Elt Bits) ℓ) (g : Dev Cert.Dwg1.nD → PrngReg), Pre_Dwg1 m →
    θ_run (Cert.Dwg1.defs (F := Bits)) (onTc (τ := Cert.Dwg1.τ) (Cert.Dwg1.main (F := Bits))) ⟨m, fun _ => 0, g⟩ (fun r => (∀ c : Dev Cert.Dwg1.nD,
      r.2.mem ((c.tc : Thread Cert.Dwg1.nD Cert.Dwg1.τ).loc Cert.Dwg1.main_arg0) = m ((c.tc : Thread Cert.Dwg1.nD Cert.Dwg1.τ).loc Cert.Dwg1.main_arg0)
      ∧ r.2.mem ((c.tc : Thread Cert.Dwg1.nD Cert.Dwg1.τ).loc Cert.Dwg1.main_arg1) = m ((c.tc : Thread Cert.Dwg1.nD Cert.Dwg1.τ).loc Cert.Dwg1.main_arg1)
      ∧ r.2.mem ((c.tc : Thread Cert.Dwg1.nD Cert.Dwg1.τ).loc Cert.Dwg1.main_arg2) = m ((c.tc : Thread Cert.Dwg1.nD Cert.Dwg1.τ).loc Cert.Dwg1.main_arg2))
      ∧ r.2.sem = fun _ => 0)

def quiescent_Dwg1Ideal [hDwg1Ideal : Cert.Dwg1Ideal.Facts] : Prop :=
  ∀ (m : (ℓ : Loc Cert.Dwg1Ideal.nD Cert.Dwg1Ideal.τ Cert.Dwg1Ideal.sig) → Buf (Elt Ideal) ℓ) (g : Dev Cert.Dwg1Ideal.nD → PrngReg), Pre_Dwg1Ideal m →
    θ_run (Cert.Dwg1Ideal.defs (F := Ideal)) (onTc (τ := Cert.Dwg1Ideal.τ) (Cert.Dwg1Ideal.main (F := Ideal))) ⟨m, fun _ => 0, g⟩ (fun r => (∀ c : Dev Cert.Dwg1Ideal.nD,
      r.2.mem ((c.tc : Thread Cert.Dwg1Ideal.nD Cert.Dwg1Ideal.τ).loc Cert.Dwg1Ideal.main_arg0) = m ((c.tc : Thread Cert.Dwg1Ideal.nD Cert.Dwg1Ideal.τ).loc Cert.Dwg1Ideal.main_arg0)
      ∧ r.2.mem ((c.tc : Thread Cert.Dwg1Ideal.nD Cert.Dwg1Ideal.τ).loc Cert.Dwg1Ideal.main_arg1) = m ((c.tc : Thread Cert.Dwg1Ideal.nD Cert.Dwg1Ideal.τ).loc Cert.Dwg1Ideal.main_arg1)
      ∧ r.2.mem ((c.tc : Thread Cert.Dwg1Ideal.nD Cert.Dwg1Ideal.τ).loc Cert.Dwg1Ideal.main_arg2) = m ((c.tc : Thread Cert.Dwg1Ideal.nD Cert.Dwg1Ideal.τ).loc Cert.Dwg1Ideal.main_arg2))
      ∧ r.2.sem = fun _ => 0)

def quiescent_Dwg1RefIdeal [hDwg1RefIdeal : Cert.Dwg1RefIdeal.Facts] : Prop :=
  ∀ (m : (ℓ : Loc Cert.Dwg1RefIdeal.nD Cert.Dwg1RefIdeal.τ Cert.Dwg1RefIdeal.sig) → Buf (Elt Ideal) ℓ) (g : Dev Cert.Dwg1RefIdeal.nD → PrngReg), Pre_Dwg1RefIdeal m →
    θ_run (Cert.Dwg1RefIdeal.defs (F := Ideal)) (onTc (τ := Cert.Dwg1RefIdeal.τ) (Cert.Dwg1RefIdeal.main (F := Ideal))) ⟨m, fun _ => 0, g⟩ (fun r => (∀ c : Dev Cert.Dwg1RefIdeal.nD,
      r.2.mem ((c.tc : Thread Cert.Dwg1RefIdeal.nD Cert.Dwg1RefIdeal.τ).loc Cert.Dwg1RefIdeal.main_arg0) = m ((c.tc : Thread Cert.Dwg1RefIdeal.nD Cert.Dwg1RefIdeal.τ).loc Cert.Dwg1RefIdeal.main_arg0)
      ∧ r.2.mem ((c.tc : Thread Cert.Dwg1RefIdeal.nD Cert.Dwg1RefIdeal.τ).loc Cert.Dwg1RefIdeal.main_arg1) = m ((c.tc : Thread Cert.Dwg1RefIdeal.nD Cert.Dwg1RefIdeal.τ).loc Cert.Dwg1RefIdeal.main_arg1)
      ∧ r.2.mem ((c.tc : Thread Cert.Dwg1RefIdeal.nD Cert.Dwg1RefIdeal.τ).loc Cert.Dwg1RefIdeal.main_arg2) = m ((c.tc : Thread Cert.Dwg1RefIdeal.nD Cert.Dwg1RefIdeal.τ).loc Cert.Dwg1RefIdeal.main_arg2))
      ∧ r.2.sem = fun _ => 0)

def quiescent_Dwg2 [hDwg2 : Cert.Dwg2.Facts] : Prop :=
  ∀ (m : (ℓ : Loc Cert.Dwg2.nD Cert.Dwg2.τ Cert.Dwg2.sig) → Buf (Elt Bits) ℓ) (g : Dev Cert.Dwg2.nD → PrngReg), Pre_Dwg2 m →
    θ_run (Cert.Dwg2.defs (F := Bits)) (onTc (τ := Cert.Dwg2.τ) (Cert.Dwg2.main (F := Bits))) ⟨m, fun _ => 0, g⟩ (fun r => (∀ c : Dev Cert.Dwg2.nD,
      r.2.mem ((c.tc : Thread Cert.Dwg2.nD Cert.Dwg2.τ).loc Cert.Dwg2.main_arg0) = m ((c.tc : Thread Cert.Dwg2.nD Cert.Dwg2.τ).loc Cert.Dwg2.main_arg0)
      ∧ r.2.mem ((c.tc : Thread Cert.Dwg2.nD Cert.Dwg2.τ).loc Cert.Dwg2.main_arg1) = m ((c.tc : Thread Cert.Dwg2.nD Cert.Dwg2.τ).loc Cert.Dwg2.main_arg1)
      ∧ r.2.mem ((c.tc : Thread Cert.Dwg2.nD Cert.Dwg2.τ).loc Cert.Dwg2.main_arg2) = m ((c.tc : Thread Cert.Dwg2.nD Cert.Dwg2.τ).loc Cert.Dwg2.main_arg2))
      ∧ r.2.sem = fun _ => 0)

def quiescent_Dwg2Ideal [hDwg2Ideal : Cert.Dwg2Ideal.Facts] : Prop :=
  ∀ (m : (ℓ : Loc Cert.Dwg2Ideal.nD Cert.Dwg2Ideal.τ Cert.Dwg2Ideal.sig) → Buf (Elt Ideal) ℓ) (g : Dev Cert.Dwg2Ideal.nD → PrngReg), Pre_Dwg2Ideal m →
    θ_run (Cert.Dwg2Ideal.defs (F := Ideal)) (onTc (τ := Cert.Dwg2Ideal.τ) (Cert.Dwg2Ideal.main (F := Ideal))) ⟨m, fun _ => 0, g⟩ (fun r => (∀ c : Dev Cert.Dwg2Ideal.nD,
      r.2.mem ((c.tc : Thread Cert.Dwg2Ideal.nD Cert.Dwg2Ideal.τ).loc Cert.Dwg2Ideal.main_arg0) = m ((c.tc : Thread Cert.Dwg2Ideal.nD Cert.Dwg2Ideal.τ).loc Cert.Dwg2Ideal.main_arg0)
      ∧ r.2.mem ((c.tc : Thread Cert.Dwg2Ideal.nD Cert.Dwg2Ideal.τ).loc Cert.Dwg2Ideal.main_arg1) = m ((c.tc : Thread Cert.Dwg2Ideal.nD Cert.Dwg2Ideal.τ).loc Cert.Dwg2Ideal.main_arg1)
      ∧ r.2.mem ((c.tc : Thread Cert.Dwg2Ideal.nD Cert.Dwg2Ideal.τ).loc Cert.Dwg2Ideal.main_arg2) = m ((c.tc : Thread Cert.Dwg2Ideal.nD Cert.Dwg2Ideal.τ).loc Cert.Dwg2Ideal.main_arg2))
      ∧ r.2.sem = fun _ => 0)

def quiescent_Dwg2RefIdeal [hDwg2RefIdeal : Cert.Dwg2RefIdeal.Facts] : Prop :=
  ∀ (m : (ℓ : Loc Cert.Dwg2RefIdeal.nD Cert.Dwg2RefIdeal.τ Cert.Dwg2RefIdeal.sig) → Buf (Elt Ideal) ℓ) (g : Dev Cert.Dwg2RefIdeal.nD → PrngReg), Pre_Dwg2RefIdeal m →
    θ_run (Cert.Dwg2RefIdeal.defs (F := Ideal)) (onTc (τ := Cert.Dwg2RefIdeal.τ) (Cert.Dwg2RefIdeal.main (F := Ideal))) ⟨m, fun _ => 0, g⟩ (fun r => (∀ c : Dev Cert.Dwg2RefIdeal.nD,
      r.2.mem ((c.tc : Thread Cert.Dwg2RefIdeal.nD Cert.Dwg2RefIdeal.τ).loc Cert.Dwg2RefIdeal.main_arg0) = m ((c.tc : Thread Cert.Dwg2RefIdeal.nD Cert.Dwg2RefIdeal.τ).loc Cert.Dwg2RefIdeal.main_arg0)
      ∧ r.2.mem ((c.tc : Thread Cert.Dwg2RefIdeal.nD Cert.Dwg2RefIdeal.τ).loc Cert.Dwg2RefIdeal.main_arg1) = m ((c.tc : Thread Cert.Dwg2RefIdeal.nD Cert.Dwg2RefIdeal.τ).loc Cert.Dwg2RefIdeal.main_arg1)
      ∧ r.2.mem ((c.tc : Thread Cert.Dwg2RefIdeal.nD Cert.Dwg2RefIdeal.τ).loc Cert.Dwg2RefIdeal.main_arg2) = m ((c.tc : Thread Cert.Dwg2RefIdeal.nD Cert.Dwg2RefIdeal.τ).loc Cert.Dwg2RefIdeal.main_arg2))
      ∧ r.2.sem = fun _ => 0)

def quiescent_Dwin3 [hDwin3 : Cert.Dwin3.Facts] : Prop :=
  ∀ (m : (ℓ : Loc Cert.Dwin3.nD Cert.Dwin3.τ Cert.Dwin3.sig) → Buf (Elt Bits) ℓ) (g : Dev Cert.Dwin3.nD → PrngReg), Pre_Dwin3 m →
    θ_run (Cert.Dwin3.defs (F := Bits)) (onTc (τ := Cert.Dwin3.τ) (Cert.Dwin3.main (F := Bits))) ⟨m, fun _ => 0, g⟩ (fun r => (∀ c : Dev Cert.Dwin3.nD,
      r.2.mem ((c.tc : Thread Cert.Dwin3.nD Cert.Dwin3.τ).loc Cert.Dwin3.main_arg0) = m ((c.tc : Thread Cert.Dwin3.nD Cert.Dwin3.τ).loc Cert.Dwin3.main_arg0)
      ∧ r.2.mem ((c.tc : Thread Cert.Dwin3.nD Cert.Dwin3.τ).loc Cert.Dwin3.main_arg1) = m ((c.tc : Thread Cert.Dwin3.nD Cert.Dwin3.τ).loc Cert.Dwin3.main_arg1))
      ∧ r.2.sem = fun _ => 0)

def quiescent_Dwin3Ideal [hDwin3Ideal : Cert.Dwin3Ideal.Facts] : Prop :=
  ∀ (m : (ℓ : Loc Cert.Dwin3Ideal.nD Cert.Dwin3Ideal.τ Cert.Dwin3Ideal.sig) → Buf (Elt Ideal) ℓ) (g : Dev Cert.Dwin3Ideal.nD → PrngReg), Pre_Dwin3Ideal m →
    θ_run (Cert.Dwin3Ideal.defs (F := Ideal)) (onTc (τ := Cert.Dwin3Ideal.τ) (Cert.Dwin3Ideal.main (F := Ideal))) ⟨m, fun _ => 0, g⟩ (fun r => (∀ c : Dev Cert.Dwin3Ideal.nD,
      r.2.mem ((c.tc : Thread Cert.Dwin3Ideal.nD Cert.Dwin3Ideal.τ).loc Cert.Dwin3Ideal.main_arg0) = m ((c.tc : Thread Cert.Dwin3Ideal.nD Cert.Dwin3Ideal.τ).loc Cert.Dwin3Ideal.main_arg0)
      ∧ r.2.mem ((c.tc : Thread Cert.Dwin3Ideal.nD Cert.Dwin3Ideal.τ).loc Cert.Dwin3Ideal.main_arg1) = m ((c.tc : Thread Cert.Dwin3Ideal.nD Cert.Dwin3Ideal.τ).loc Cert.Dwin3Ideal.main_arg1))
      ∧ r.2.sem = fun _ => 0)

def quiescent_Dwin3RefIdeal [hDwin3RefIdeal : Cert.Dwin3RefIdeal.Facts] : Prop :=
  ∀ (m : (ℓ : Loc Cert.Dwin3RefIdeal.nD Cert.Dwin3RefIdeal.τ Cert.Dwin3RefIdeal.sig) → Buf (Elt Ideal) ℓ) (g : Dev Cert.Dwin3RefIdeal.nD → PrngReg), Pre_Dwin3RefIdeal m →
    θ_run (Cert.Dwin3RefIdeal.defs (F := Ideal)) (onTc (τ := Cert.Dwin3RefIdeal.τ) (Cert.Dwin3RefIdeal.main (F := Ideal))) ⟨m, fun _ => 0, g⟩ (fun r => (∀ c : Dev Cert.Dwin3RefIdeal.nD,
      r.2.mem ((c.tc : Thread Cert.Dwin3RefIdeal.nD Cert.Dwin3RefIdeal.τ).loc Cert.Dwin3RefIdeal.main_arg0) = m ((c.tc : Thread Cert.Dwin3RefIdeal.nD Cert.Dwin3RefIdeal.τ).loc Cert.Dwin3RefIdeal.main_arg0)
      ∧ r.2.mem ((c.tc : Thread Cert.Dwin3RefIdeal.nD Cert.Dwin3RefIdeal.τ).loc Cert.Dwin3RefIdeal.main_arg1) = m ((c.tc : Thread Cert.Dwin3RefIdeal.nD Cert.Dwin3RefIdeal.τ).loc Cert.Dwin3RefIdeal.main_arg1))
      ∧ r.2.sem = fun _ => 0)

def quiescent_Dwout3 [hDwout3 : Cert.Dwout3.Facts] : Prop :=
  ∀ (m : (ℓ : Loc Cert.Dwout3.nD Cert.Dwout3.τ Cert.Dwout3.sig) → Buf (Elt Bits) ℓ) (g : Dev Cert.Dwout3.nD → PrngReg), Pre_Dwout3 m →
    θ_run (Cert.Dwout3.defs (F := Bits)) (onTc (τ := Cert.Dwout3.τ) (Cert.Dwout3.main (F := Bits))) ⟨m, fun _ => 0, g⟩ (fun r => (∀ c : Dev Cert.Dwout3.nD,
      r.2.mem ((c.tc : Thread Cert.Dwout3.nD Cert.Dwout3.τ).loc Cert.Dwout3.main_arg0) = m ((c.tc : Thread Cert.Dwout3.nD Cert.Dwout3.τ).loc Cert.Dwout3.main_arg0)
      ∧ r.2.mem ((c.tc : Thread Cert.Dwout3.nD Cert.Dwout3.τ).loc Cert.Dwout3.main_arg1) = m ((c.tc : Thread Cert.Dwout3.nD Cert.Dwout3.τ).loc Cert.Dwout3.main_arg1))
      ∧ r.2.sem = fun _ => 0)

def quiescent_Dwout3Ideal [hDwout3Ideal : Cert.Dwout3Ideal.Facts] : Prop :=
  ∀ (m : (ℓ : Loc Cert.Dwout3Ideal.nD Cert.Dwout3Ideal.τ Cert.Dwout3Ideal.sig) → Buf (Elt Ideal) ℓ) (g : Dev Cert.Dwout3Ideal.nD → PrngReg), Pre_Dwout3Ideal m →
    θ_run (Cert.Dwout3Ideal.defs (F := Ideal)) (onTc (τ := Cert.Dwout3Ideal.τ) (Cert.Dwout3Ideal.main (F := Ideal))) ⟨m, fun _ => 0, g⟩ (fun r => (∀ c : Dev Cert.Dwout3Ideal.nD,
      r.2.mem ((c.tc : Thread Cert.Dwout3Ideal.nD Cert.Dwout3Ideal.τ).loc Cert.Dwout3Ideal.main_arg0) = m ((c.tc : Thread Cert.Dwout3Ideal.nD Cert.Dwout3Ideal.τ).loc Cert.Dwout3Ideal.main_arg0)
      ∧ r.2.mem ((c.tc : Thread Cert.Dwout3Ideal.nD Cert.Dwout3Ideal.τ).loc Cert.Dwout3Ideal.main_arg1) = m ((c.tc : Thread Cert.Dwout3Ideal.nD Cert.Dwout3Ideal.τ).loc Cert.Dwout3Ideal.main_arg1))
      ∧ r.2.sem = fun _ => 0)

def quiescent_Dwout3RefIdeal [hDwout3RefIdeal : Cert.Dwout3RefIdeal.Facts] : Prop :=
  ∀ (m : (ℓ : Loc Cert.Dwout3RefIdeal.nD Cert.Dwout3RefIdeal.τ Cert.Dwout3RefIdeal.sig) → Buf (Elt Ideal) ℓ) (g : Dev Cert.Dwout3RefIdeal.nD → PrngReg), Pre_Dwout3RefIdeal m →
    θ_run (Cert.Dwout3RefIdeal.defs (F := Ideal)) (onTc (τ := Cert.Dwout3RefIdeal.τ) (Cert.Dwout3RefIdeal.main (F := Ideal))) ⟨m, fun _ => 0, g⟩ (fun r => (∀ c : Dev Cert.Dwout3RefIdeal.nD,
      r.2.mem ((c.tc : Thread Cert.Dwout3RefIdeal.nD Cert.Dwout3RefIdeal.τ).loc Cert.Dwout3RefIdeal.main_arg0) = m ((c.tc : Thread Cert.Dwout3RefIdeal.nD Cert.Dwout3RefIdeal.τ).loc Cert.Dwout3RefIdeal.main_arg0)
      ∧ r.2.mem ((c.tc : Thread Cert.Dwout3RefIdeal.nD Cert.Dwout3RefIdeal.τ).loc Cert.Dwout3RefIdeal.main_arg1) = m ((c.tc : Thread Cert.Dwout3RefIdeal.nD Cert.Dwout3RefIdeal.τ).loc Cert.Dwout3RefIdeal.main_arg1))
      ∧ r.2.sem = fun _ => 0)

def quiescent_Dwg3 [hDwg3 : Cert.Dwg3.Facts] : Prop :=
  ∀ (m : (ℓ : Loc Cert.Dwg3.nD Cert.Dwg3.τ Cert.Dwg3.sig) → Buf (Elt Bits) ℓ) (g : Dev Cert.Dwg3.nD → PrngReg), Pre_Dwg3 m →
    θ_run (Cert.Dwg3.defs (F := Bits)) (onTc (τ := Cert.Dwg3.τ) (Cert.Dwg3.main (F := Bits))) ⟨m, fun _ => 0, g⟩ (fun r => (∀ c : Dev Cert.Dwg3.nD,
      r.2.mem ((c.tc : Thread Cert.Dwg3.nD Cert.Dwg3.τ).loc Cert.Dwg3.main_arg0) = m ((c.tc : Thread Cert.Dwg3.nD Cert.Dwg3.τ).loc Cert.Dwg3.main_arg0)
      ∧ r.2.mem ((c.tc : Thread Cert.Dwg3.nD Cert.Dwg3.τ).loc Cert.Dwg3.main_arg1) = m ((c.tc : Thread Cert.Dwg3.nD Cert.Dwg3.τ).loc Cert.Dwg3.main_arg1))
      ∧ r.2.sem = fun _ => 0)

def quiescent_Dwg3Ideal [hDwg3Ideal : Cert.Dwg3Ideal.Facts] : Prop :=
  ∀ (m : (ℓ : Loc Cert.Dwg3Ideal.nD Cert.Dwg3Ideal.τ Cert.Dwg3Ideal.sig) → Buf (Elt Ideal) ℓ) (g : Dev Cert.Dwg3Ideal.nD → PrngReg), Pre_Dwg3Ideal m →
    θ_run (Cert.Dwg3Ideal.defs (F := Ideal)) (onTc (τ := Cert.Dwg3Ideal.τ) (Cert.Dwg3Ideal.main (F := Ideal))) ⟨m, fun _ => 0, g⟩ (fun r => (∀ c : Dev Cert.Dwg3Ideal.nD,
      r.2.mem ((c.tc : Thread Cert.Dwg3Ideal.nD Cert.Dwg3Ideal.τ).loc Cert.Dwg3Ideal.main_arg0) = m ((c.tc : Thread Cert.Dwg3Ideal.nD Cert.Dwg3Ideal.τ).loc Cert.Dwg3Ideal.main_arg0)
      ∧ r.2.mem ((c.tc : Thread Cert.Dwg3Ideal.nD Cert.Dwg3Ideal.τ).loc Cert.Dwg3Ideal.main_arg1) = m ((c.tc : Thread Cert.Dwg3Ideal.nD Cert.Dwg3Ideal.τ).loc Cert.Dwg3Ideal.main_arg1))
      ∧ r.2.sem = fun _ => 0)

def quiescent_Dwg3RefIdeal [hDwg3RefIdeal : Cert.Dwg3RefIdeal.Facts] : Prop :=
  ∀ (m : (ℓ : Loc Cert.Dwg3RefIdeal.nD Cert.Dwg3RefIdeal.τ Cert.Dwg3RefIdeal.sig) → Buf (Elt Ideal) ℓ) (g : Dev Cert.Dwg3RefIdeal.nD → PrngReg), Pre_Dwg3RefIdeal m →
    θ_run (Cert.Dwg3RefIdeal.defs (F := Ideal)) (onTc (τ := Cert.Dwg3RefIdeal.τ) (Cert.Dwg3RefIdeal.main (F := Ideal))) ⟨m, fun _ => 0, g⟩ (fun r => (∀ c : Dev Cert.Dwg3RefIdeal.nD,
      r.2.mem ((c.tc : Thread Cert.Dwg3RefIdeal.nD Cert.Dwg3RefIdeal.τ).loc Cert.Dwg3RefIdeal.main_arg0) = m ((c.tc : Thread Cert.Dwg3RefIdeal.nD Cert.Dwg3RefIdeal.τ).loc Cert.Dwg3RefIdeal.main_arg0)
      ∧ r.2.mem ((c.tc : Thread Cert.Dwg3RefIdeal.nD Cert.Dwg3RefIdeal.τ).loc Cert.Dwg3RefIdeal.main_arg1) = m ((c.tc : Thread Cert.Dwg3RefIdeal.nD Cert.Dwg3RefIdeal.τ).loc Cert.Dwg3RefIdeal.main_arg1))
      ∧ r.2.sem = fun _ => 0)

def quiescent_PleB [hPleB : Cert.PleB.Facts] : Prop :=
  ∀ (m : (ℓ : Loc Cert.PleB.nD Cert.PleB.τ Cert.PleB.sig) → Buf (Elt Bits) ℓ) (g : Dev Cert.PleB.nD → PrngReg), Pre_PleB m →
    θ_run (Cert.PleB.defs (F := Bits)) (onTc (τ := Cert.PleB.τ) (Cert.PleB.main (F := Bits))) ⟨m, fun _ => 0, g⟩ (fun r => (∀ c : Dev Cert.PleB.nD,
      r.2.mem ((c.tc : Thread Cert.PleB.nD Cert.PleB.τ).loc Cert.PleB.main_arg0) = m ((c.tc : Thread Cert.PleB.nD Cert.PleB.τ).loc Cert.PleB.main_arg0)
      ∧ r.2.mem ((c.tc : Thread Cert.PleB.nD Cert.PleB.τ).loc Cert.PleB.main_arg1) = m ((c.tc : Thread Cert.PleB.nD Cert.PleB.τ).loc Cert.PleB.main_arg1)
      ∧ r.2.mem ((c.tc : Thread Cert.PleB.nD Cert.PleB.τ).loc Cert.PleB.main_arg2) = m ((c.tc : Thread Cert.PleB.nD Cert.PleB.τ).loc Cert.PleB.main_arg2))
      ∧ r.2.sem = fun _ => 0)

def quiescent_PleBIdeal [hPleBIdeal : Cert.PleBIdeal.Facts] : Prop :=
  ∀ (m : (ℓ : Loc Cert.PleBIdeal.nD Cert.PleBIdeal.τ Cert.PleBIdeal.sig) → Buf (Elt Ideal) ℓ) (g : Dev Cert.PleBIdeal.nD → PrngReg), Pre_PleBIdeal m →
    θ_run (Cert.PleBIdeal.defs (F := Ideal)) (onTc (τ := Cert.PleBIdeal.τ) (Cert.PleBIdeal.main (F := Ideal))) ⟨m, fun _ => 0, g⟩ (fun r => (∀ c : Dev Cert.PleBIdeal.nD,
      r.2.mem ((c.tc : Thread Cert.PleBIdeal.nD Cert.PleBIdeal.τ).loc Cert.PleBIdeal.main_arg0) = m ((c.tc : Thread Cert.PleBIdeal.nD Cert.PleBIdeal.τ).loc Cert.PleBIdeal.main_arg0)
      ∧ r.2.mem ((c.tc : Thread Cert.PleBIdeal.nD Cert.PleBIdeal.τ).loc Cert.PleBIdeal.main_arg1) = m ((c.tc : Thread Cert.PleBIdeal.nD Cert.PleBIdeal.τ).loc Cert.PleBIdeal.main_arg1)
      ∧ r.2.mem ((c.tc : Thread Cert.PleBIdeal.nD Cert.PleBIdeal.τ).loc Cert.PleBIdeal.main_arg2) = m ((c.tc : Thread Cert.PleBIdeal.nD Cert.PleBIdeal.τ).loc Cert.PleBIdeal.main_arg2))
      ∧ r.2.sem = fun _ => 0)

def quiescent_PleBRefIdeal [hPleBRefIdeal : Cert.PleBRefIdeal.Facts] : Prop :=
  ∀ (m : (ℓ : Loc Cert.PleBRefIdeal.nD Cert.PleBRefIdeal.τ Cert.PleBRefIdeal.sig) → Buf (Elt Ideal) ℓ) (g : Dev Cert.PleBRefIdeal.nD → PrngReg), Pre_PleBRefIdeal m →
    θ_run (Cert.PleBRefIdeal.defs (F := Ideal)) (onTc (τ := Cert.PleBRefIdeal.τ) (Cert.PleBRefIdeal.main (F := Ideal))) ⟨m, fun _ => 0, g⟩ (fun r => (∀ c : Dev Cert.PleBRefIdeal.nD,
      r.2.mem ((c.tc : Thread Cert.PleBRefIdeal.nD Cert.PleBRefIdeal.τ).loc Cert.PleBRefIdeal.main_arg0) = m ((c.tc : Thread Cert.PleBRefIdeal.nD Cert.PleBRefIdeal.τ).loc Cert.PleBRefIdeal.main_arg0)
      ∧ r.2.mem ((c.tc : Thread Cert.PleBRefIdeal.nD Cert.PleBRefIdeal.τ).loc Cert.PleBRefIdeal.main_arg1) = m ((c.tc : Thread Cert.PleBRefIdeal.nD Cert.PleBRefIdeal.τ).loc Cert.PleBRefIdeal.main_arg1)
      ∧ r.2.mem ((c.tc : Thread Cert.PleBRefIdeal.nD Cert.PleBRefIdeal.τ).loc Cert.PleBRefIdeal.main_arg2) = m ((c.tc : Thread Cert.PleBRefIdeal.nD Cert.PleBRefIdeal.τ).loc Cert.PleBRefIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0))
      ∧ r.2.sem = fun _ => 0)

def quiescent_SwigluB [hSwigluB : Cert.SwigluB.Facts] : Prop :=
  ∀ (m : (ℓ : Loc Cert.SwigluB.nD Cert.SwigluB.τ Cert.SwigluB.sig) → Buf (Elt Bits) ℓ) (g : Dev Cert.SwigluB.nD → PrngReg), Pre_SwigluB m →
    θ_run (Cert.SwigluB.defs (F := Bits)) (onTc (τ := Cert.SwigluB.τ) (Cert.SwigluB.main (F := Bits))) ⟨m, fun _ => 0, g⟩ (fun r => (∀ c : Dev Cert.SwigluB.nD,
      r.2.mem ((c.tc : Thread Cert.SwigluB.nD Cert.SwigluB.τ).loc Cert.SwigluB.main_arg0) = m ((c.tc : Thread Cert.SwigluB.nD Cert.SwigluB.τ).loc Cert.SwigluB.main_arg0)
      ∧ r.2.mem ((c.tc : Thread Cert.SwigluB.nD Cert.SwigluB.τ).loc Cert.SwigluB.main_arg1) = m ((c.tc : Thread Cert.SwigluB.nD Cert.SwigluB.τ).loc Cert.SwigluB.main_arg1))
      ∧ r.2.sem = fun _ => 0)

def quiescent_SwigluBIdeal [hSwigluBIdeal : Cert.SwigluBIdeal.Facts] : Prop :=
  ∀ (m : (ℓ : Loc Cert.SwigluBIdeal.nD Cert.SwigluBIdeal.τ Cert.SwigluBIdeal.sig) → Buf (Elt Ideal) ℓ) (g : Dev Cert.SwigluBIdeal.nD → PrngReg), Pre_SwigluBIdeal m →
    θ_run (Cert.SwigluBIdeal.defs (F := Ideal)) (onTc (τ := Cert.SwigluBIdeal.τ) (Cert.SwigluBIdeal.main (F := Ideal))) ⟨m, fun _ => 0, g⟩ (fun r => (∀ c : Dev Cert.SwigluBIdeal.nD,
      r.2.mem ((c.tc : Thread Cert.SwigluBIdeal.nD Cert.SwigluBIdeal.τ).loc Cert.SwigluBIdeal.main_arg0) = m ((c.tc : Thread Cert.SwigluBIdeal.nD Cert.SwigluBIdeal.τ).loc Cert.SwigluBIdeal.main_arg0)
      ∧ r.2.mem ((c.tc : Thread Cert.SwigluBIdeal.nD Cert.SwigluBIdeal.τ).loc Cert.SwigluBIdeal.main_arg1) = m ((c.tc : Thread Cert.SwigluBIdeal.nD Cert.SwigluBIdeal.τ).loc Cert.SwigluBIdeal.main_arg1))
      ∧ r.2.sem = fun _ => 0)

def quiescent_SwigluBIdeal_pre_finite_gated [hSwigluBIdeal : Cert.SwigluBIdeal.Facts] [hPre_finite_gated : Cert.Pre_finite_gated.Facts] : Prop :=
  ∀ (m : (ℓ : Loc Cert.SwigluBIdeal.nD Cert.SwigluBIdeal.τ Cert.SwigluBIdeal.sig) → Buf (Elt Ideal) ℓ) (g : Dev Cert.SwigluBIdeal.nD → PrngReg), Pre_SwigluBIdeal_finite_gated m →
    θ_run (Cert.SwigluBIdeal.defs (F := Ideal)) (onTc (τ := Cert.SwigluBIdeal.τ) (Cert.SwigluBIdeal.main (F := Ideal))) ⟨m, fun _ => 0, g⟩ (fun r => (∀ c : Dev Cert.SwigluBIdeal.nD,
      r.2.mem ((c.tc : Thread Cert.SwigluBIdeal.nD Cert.SwigluBIdeal.τ).loc Cert.SwigluBIdeal.main_arg0) = m ((c.tc : Thread Cert.SwigluBIdeal.nD Cert.SwigluBIdeal.τ).loc Cert.SwigluBIdeal.main_arg0)
      ∧ r.2.mem ((c.tc : Thread Cert.SwigluBIdeal.nD Cert.SwigluBIdeal.τ).loc Cert.SwigluBIdeal.main_arg1) = m ((c.tc : Thread Cert.SwigluBIdeal.nD Cert.SwigluBIdeal.τ).loc Cert.SwigluBIdeal.main_arg1))
      ∧ r.2.sem = fun _ => 0)

def quiescent_SwigluBRefIdeal [hSwigluBRefIdeal : Cert.SwigluBRefIdeal.Facts] : Prop :=
  ∀ (m : (ℓ : Loc Cert.SwigluBRefIdeal.nD Cert.SwigluBRefIdeal.τ Cert.SwigluBRefIdeal.sig) → Buf (Elt Ideal) ℓ) (g : Dev Cert.SwigluBRefIdeal.nD → PrngReg), Pre_SwigluBRefIdeal m →
    θ_run (Cert.SwigluBRefIdeal.defs (F := Ideal)) (onTc (τ := Cert.SwigluBRefIdeal.τ) (Cert.SwigluBRefIdeal.main (F := Ideal))) ⟨m, fun _ => 0, g⟩ (fun r => (∀ c : Dev Cert.SwigluBRefIdeal.nD,
      r.2.mem ((c.tc : Thread Cert.SwigluBRefIdeal.nD Cert.SwigluBRefIdeal.τ).loc Cert.SwigluBRefIdeal.main_arg0) = m ((c.tc : Thread Cert.SwigluBRefIdeal.nD Cert.SwigluBRefIdeal.τ).loc Cert.SwigluBRefIdeal.main_arg0)
      ∧ r.2.mem ((c.tc : Thread Cert.SwigluBRefIdeal.nD Cert.SwigluBRefIdeal.τ).loc Cert.SwigluBRefIdeal.main_arg1) = m ((c.tc : Thread Cert.SwigluBRefIdeal.nD Cert.SwigluBRefIdeal.τ).loc Cert.SwigluBRefIdeal.main_arg1))
      ∧ r.2.sem = fun _ => 0)

def quiescent_SwigluBRefIdeal_pre_finite_gated [hSwigluBRefIdeal : Cert.SwigluBRefIdeal.Facts] [hPre_finite_gated : Cert.Pre_finite_gated.Facts] : Prop :=
  ∀ (m : (ℓ : Loc Cert.SwigluBRefIdeal.nD Cert.SwigluBRefIdeal.τ Cert.SwigluBRefIdeal.sig) → Buf (Elt Ideal) ℓ) (g : Dev Cert.SwigluBRefIdeal.nD → PrngReg), Pre_SwigluBRefIdeal_finite_gated m →
    θ_run (Cert.SwigluBRefIdeal.defs (F := Ideal)) (onTc (τ := Cert.SwigluBRefIdeal.τ) (Cert.SwigluBRefIdeal.main (F := Ideal))) ⟨m, fun _ => 0, g⟩ (fun r => (∀ c : Dev Cert.SwigluBRefIdeal.nD,
      r.2.mem ((c.tc : Thread Cert.SwigluBRefIdeal.nD Cert.SwigluBRefIdeal.τ).loc Cert.SwigluBRefIdeal.main_arg0) = m ((c.tc : Thread Cert.SwigluBRefIdeal.nD Cert.SwigluBRefIdeal.τ).loc Cert.SwigluBRefIdeal.main_arg0)
      ∧ r.2.mem ((c.tc : Thread Cert.SwigluBRefIdeal.nD Cert.SwigluBRefIdeal.τ).loc Cert.SwigluBRefIdeal.main_arg1) = m ((c.tc : Thread Cert.SwigluBRefIdeal.nD Cert.SwigluBRefIdeal.τ).loc Cert.SwigluBRefIdeal.main_arg1))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1))
      ∧ r.2.sem = fun _ => 0)

def quiescent_NormOut [hNormOut : Cert.NormOut.Facts] : Prop :=
  ∀ (m : (ℓ : Loc Cert.NormOut.nD Cert.NormOut.τ Cert.NormOut.sig) → Buf (Elt Bits) ℓ) (g : Dev Cert.NormOut.nD → PrngReg), Pre_NormOut m →
    θ_run (Cert.NormOut.defs (F := Bits)) (onTc (τ := Cert.NormOut.τ) (Cert.NormOut.main (F := Bits))) ⟨m, fun _ => 0, g⟩ (fun r => (∀ c : Dev Cert.NormOut.nD,
      r.2.mem ((c.tc : Thread Cert.NormOut.nD Cert.NormOut.τ).loc Cert.NormOut.main_arg0) = m ((c.tc : Thread Cert.NormOut.nD Cert.NormOut.τ).loc Cert.NormOut.main_arg0)
      ∧ r.2.mem ((c.tc : Thread Cert.NormOut.nD Cert.NormOut.τ).loc Cert.NormOut.main_arg1) = m ((c.tc : Thread Cert.NormOut.nD Cert.NormOut.τ).loc Cert.NormOut.main_arg1)
      ∧ r.2.mem ((c.tc : Thread Cert.NormOut.nD Cert.NormOut.τ).loc Cert.NormOut.main_arg2) = m ((c.tc : Thread Cert.NormOut.nD Cert.NormOut.τ).loc Cert.NormOut.main_arg2))
      ∧ r.2.sem = fun _ => 0)

def quiescent_NormOutIdeal [hNormOutIdeal : Cert.NormOutIdeal.Facts] : Prop :=
  ∀ (m : (ℓ : Loc Cert.NormOutIdeal.nD Cert.NormOutIdeal.τ Cert.NormOutIdeal.sig) → Buf (Elt Ideal) ℓ) (g : Dev Cert.NormOutIdeal.nD → PrngReg), Pre_NormOutIdeal m →
    θ_run (Cert.NormOutIdeal.defs (F := Ideal)) (onTc (τ := Cert.NormOutIdeal.τ) (Cert.NormOutIdeal.main (F := Ideal))) ⟨m, fun _ => 0, g⟩ (fun r => (∀ c : Dev Cert.NormOutIdeal.nD,
      r.2.mem ((c.tc : Thread Cert.NormOutIdeal.nD Cert.NormOutIdeal.τ).loc Cert.NormOutIdeal.main_arg0) = m ((c.tc : Thread Cert.NormOutIdeal.nD Cert.NormOutIdeal.τ).loc Cert.NormOutIdeal.main_arg0)
      ∧ r.2.mem ((c.tc : Thread Cert.NormOutIdeal.nD Cert.NormOutIdeal.τ).loc Cert.NormOutIdeal.main_arg1) = m ((c.tc : Thread Cert.NormOutIdeal.nD Cert.NormOutIdeal.τ).loc Cert.NormOutIdeal.main_arg1)
      ∧ r.2.mem ((c.tc : Thread Cert.NormOutIdeal.nD Cert.NormOutIdeal.τ).loc Cert.NormOutIdeal.main_arg2) = m ((c.tc : Thread Cert.NormOutIdeal.nD Cert.NormOutIdeal.τ).loc Cert.NormOutIdeal.main_arg2))
      ∧ r.2.sem = fun _ => 0)

def quiescent_NormOutRefIdeal [hNormOutRefIdeal : Cert.NormOutRefIdeal.Facts] : Prop :=
  ∀ (m : (ℓ : Loc Cert.NormOutRefIdeal.nD Cert.NormOutRefIdeal.τ Cert.NormOutRefIdeal.sig) → Buf (Elt Ideal) ℓ) (g : Dev Cert.NormOutRefIdeal.nD → PrngReg), Pre_NormOutRefIdeal m →
    θ_run (Cert.NormOutRefIdeal.defs (F := Ideal)) (onTc (τ := Cert.NormOutRefIdeal.τ) (Cert.NormOutRefIdeal.main (F := Ideal))) ⟨m, fun _ => 0, g⟩ (fun r => (∀ c : Dev Cert.NormOutRefIdeal.nD,
      r.2.mem ((c.tc : Thread Cert.NormOutRefIdeal.nD Cert.NormOutRefIdeal.τ).loc Cert.NormOutRefIdeal.main_arg0) = m ((c.tc : Thread Cert.NormOutRefIdeal.nD Cert.NormOutRefIdeal.τ).loc Cert.NormOutRefIdeal.main_arg0)
      ∧ r.2.mem ((c.tc : Thread Cert.NormOutRefIdeal.nD Cert.NormOutRefIdeal.τ).loc Cert.NormOutRefIdeal.main_arg1) = m ((c.tc : Thread Cert.NormOutRefIdeal.nD Cert.NormOutRefIdeal.τ).loc Cert.NormOutRefIdeal.main_arg1)
      ∧ r.2.mem ((c.tc : Thread Cert.NormOutRefIdeal.nD Cert.NormOutRefIdeal.τ).loc Cert.NormOutRefIdeal.main_arg2) = m ((c.tc : Thread Cert.NormOutRefIdeal.nD Cert.NormOutRefIdeal.τ).loc Cert.NormOutRefIdeal.main_arg2))
      ∧ r.2.sem = fun _ => 0)

def quiescent_NormQ [hNormQ : Cert.NormQ.Facts] : Prop :=
  ∀ (m : (ℓ : Loc Cert.NormQ.nD Cert.NormQ.τ Cert.NormQ.sig) → Buf (Elt Bits) ℓ) (g : Dev Cert.NormQ.nD → PrngReg), Pre_NormQ m →
    θ_run (Cert.NormQ.defs (F := Bits)) (onTc (τ := Cert.NormQ.τ) (Cert.NormQ.main (F := Bits))) ⟨m, fun _ => 0, g⟩ (fun r => (∀ c : Dev Cert.NormQ.nD,
      r.2.mem ((c.tc : Thread Cert.NormQ.nD Cert.NormQ.τ).loc Cert.NormQ.main_arg0) = m ((c.tc : Thread Cert.NormQ.nD Cert.NormQ.τ).loc Cert.NormQ.main_arg0)
      ∧ r.2.mem ((c.tc : Thread Cert.NormQ.nD Cert.NormQ.τ).loc Cert.NormQ.main_arg1) = m ((c.tc : Thread Cert.NormQ.nD Cert.NormQ.τ).loc Cert.NormQ.main_arg1))
      ∧ r.2.sem = fun _ => 0)

def quiescent_NormQIdeal [hNormQIdeal : Cert.NormQIdeal.Facts] : Prop :=
  ∀ (m : (ℓ : Loc Cert.NormQIdeal.nD Cert.NormQIdeal.τ Cert.NormQIdeal.sig) → Buf (Elt Ideal) ℓ) (g : Dev Cert.NormQIdeal.nD → PrngReg), Pre_NormQIdeal m →
    θ_run (Cert.NormQIdeal.defs (F := Ideal)) (onTc (τ := Cert.NormQIdeal.τ) (Cert.NormQIdeal.main (F := Ideal))) ⟨m, fun _ => 0, g⟩ (fun r => (∀ c : Dev Cert.NormQIdeal.nD,
      r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
      ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1))
      ∧ r.2.sem = fun _ => 0)

def quiescent_NormQRefIdeal [hNormQRefIdeal : Cert.NormQRefIdeal.Facts] : Prop :=
  ∀ (m : (ℓ : Loc Cert.NormQRefIdeal.nD Cert.NormQRefIdeal.τ Cert.NormQRefIdeal.sig) → Buf (Elt Ideal) ℓ) (g : Dev Cert.NormQRefIdeal.nD → PrngReg), Pre_NormQRefIdeal m →
    θ_run (Cert.NormQRefIdeal.defs (F := Ideal)) (onTc (τ := Cert.NormQRefIdeal.τ) (Cert.NormQRefIdeal.main (F := Ideal))) ⟨m, fun _ => 0, g⟩ (fun r => (∀ c : Dev Cert.NormQRefIdeal.nD,
      r.2.mem ((c.tc : Thread Cert.NormQRefIdeal.nD Cert.NormQRefIdeal.τ).loc Cert.NormQRefIdeal.main_arg0) = m ((c.tc : Thread Cert.NormQRefIdeal.nD Cert.NormQRefIdeal.τ).loc Cert.NormQRefIdeal.main_arg0)
      ∧ r.2.mem ((c.tc : Thread Cert.NormQRefIdeal.nD Cert.NormQRefIdeal.τ).loc Cert.NormQRefIdeal.main_arg1) = m ((c.tc : Thread Cert.NormQRefIdeal.nD Cert.NormQRefIdeal.τ).loc Cert.NormQRefIdeal.main_arg1))
      ∧ r.2.sem = fun _ => 0)

def quiescent_NormKv [hNormKv : Cert.NormKv.Facts] : Prop :=
  ∀ (m : (ℓ : Loc Cert.NormKv.nD Cert.NormKv.τ Cert.NormKv.sig) → Buf (Elt Bits) ℓ) (g : Dev Cert.NormKv.nD → PrngReg), Pre_NormKv m →
    θ_run (Cert.NormKv.defs (F := Bits)) (onTc (τ := Cert.NormKv.τ) (Cert.NormKv.main (F := Bits))) ⟨m, fun _ => 0, g⟩ (fun r => (∀ c : Dev Cert.NormKv.nD,
      r.2.mem ((c.tc : Thread Cert.NormKv.nD Cert.NormKv.τ).loc Cert.NormKv.main_arg0) = m ((c.tc : Thread Cert.NormKv.nD Cert.NormKv.τ).loc Cert.NormKv.main_arg0)
      ∧ r.2.mem ((c.tc : Thread Cert.NormKv.nD Cert.NormKv.τ).loc Cert.NormKv.main_arg1) = m ((c.tc : Thread Cert.NormKv.nD Cert.NormKv.τ).loc Cert.NormKv.main_arg1))
      ∧ r.2.sem = fun _ => 0)

def quiescent_NormKvIdeal [hNormKvIdeal : Cert.NormKvIdeal.Facts] : Prop :=
  ∀ (m : (ℓ : Loc Cert.NormKvIdeal.nD Cert.NormKvIdeal.τ Cert.NormKvIdeal.sig) → Buf (Elt Ideal) ℓ) (g : Dev Cert.NormKvIdeal.nD → PrngReg), Pre_NormKvIdeal m →
    θ_run (Cert.NormKvIdeal.defs (F := Ideal)) (onTc (τ := Cert.NormKvIdeal.τ) (Cert.NormKvIdeal.main (F := Ideal))) ⟨m, fun _ => 0, g⟩ (fun r => (∀ c : Dev Cert.NormKvIdeal.nD,
      r.2.mem ((c.tc : Thread Cert.NormKvIdeal.nD Cert.NormKvIdeal.τ).loc Cert.NormKvIdeal.main_arg0) = m ((c.tc : Thread Cert.NormKvIdeal.nD Cert.NormKvIdeal.τ).loc Cert.NormKvIdeal.main_arg0)
      ∧ r.2.mem ((c.tc : Thread Cert.NormKvIdeal.nD Cert.NormKvIdeal.τ).loc Cert.NormKvIdeal.main_arg1) = m ((c.tc : Thread Cert.NormKvIdeal.nD Cert.NormKvIdeal.τ).loc Cert.NormKvIdeal.main_arg1))
      ∧ r.2.sem = fun _ => 0)

def quiescent_NormKvRefIdeal [hNormKvRefIdeal : Cert.NormKvRefIdeal.Facts] : Prop :=
  ∀ (m : (ℓ : Loc Cert.NormKvRefIdeal.nD Cert.NormKvRefIdeal.τ Cert.NormKvRefIdeal.sig) → Buf (Elt Ideal) ℓ) (g : Dev Cert.NormKvRefIdeal.nD → PrngReg), Pre_NormKvRefIdeal m →
    θ_run (Cert.NormKvRefIdeal.defs (F := Ideal)) (onTc (τ := Cert.NormKvRefIdeal.τ) (Cert.NormKvRefIdeal.main (F := Ideal))) ⟨m, fun _ => 0, g⟩ (fun r => (∀ c : Dev Cert.NormKvRefIdeal.nD,
      r.2.mem ((c.tc : Thread Cert.NormKvRefIdeal.nD Cert.NormKvRefIdeal.τ).loc Cert.NormKvRefIdeal.main_arg0) = m ((c.tc : Thread Cert.NormKvRefIdeal.nD Cert.NormKvRefIdeal.τ).loc Cert.NormKvRefIdeal.main_arg0)
      ∧ r.2.mem ((c.tc : Thread Cert.NormKvRefIdeal.nD Cert.NormKvRefIdeal.τ).loc Cert.NormKvRefIdeal.main_arg1) = m ((c.tc : Thread Cert.NormKvRefIdeal.nD Cert.NormKvRefIdeal.τ).loc Cert.NormKvRefIdeal.main_arg1))
      ∧ r.2.sem = fun _ => 0)

def quiescent_NormInB [hNormInB : Cert.NormInB.Facts] : Prop :=
  ∀ (m : (ℓ : Loc Cert.NormInB.nD Cert.NormInB.τ Cert.NormInB.sig) → Buf (Elt Bits) ℓ) (g : Dev Cert.NormInB.nD → PrngReg), Pre_NormInB m →
    θ_run (Cert.NormInB.defs (F := Bits)) (onTc (τ := Cert.NormInB.τ) (Cert.NormInB.main (F := Bits))) ⟨m, fun _ => 0, g⟩ (fun r => (∀ c : Dev Cert.NormInB.nD,
      r.2.mem ((c.tc : Thread Cert.NormInB.nD Cert.NormInB.τ).loc Cert.NormInB.main_arg0) = m ((c.tc : Thread Cert.NormInB.nD Cert.NormInB.τ).loc Cert.NormInB.main_arg0)
      ∧ r.2.mem ((c.tc : Thread Cert.NormInB.nD Cert.NormInB.τ).loc Cert.NormInB.main_arg1) = m ((c.tc : Thread Cert.NormInB.nD Cert.NormInB.τ).loc Cert.NormInB.main_arg1)
      ∧ r.2.mem ((c.tc : Thread Cert.NormInB.nD Cert.NormInB.τ).loc Cert.NormInB.main_arg2) = m ((c.tc : Thread Cert.NormInB.nD Cert.NormInB.τ).loc Cert.NormInB.main_arg2)
      ∧ r.2.mem ((c.tc : Thread Cert.NormInB.nD Cert.NormInB.τ).loc Cert.NormInB.main_arg3) = m ((c.tc : Thread Cert.NormInB.nD Cert.NormInB.τ).loc Cert.NormInB.main_arg3))
      ∧ r.2.sem = fun _ => 0)

def quiescent_NormInBIdeal [hNormInBIdeal : Cert.NormInBIdeal.Facts] : Prop :=
  ∀ (m : (ℓ : Loc Cert.NormInBIdeal.nD Cert.NormInBIdeal.τ Cert.NormInBIdeal.sig) → Buf (Elt Ideal) ℓ) (g : Dev Cert.NormInBIdeal.nD → PrngReg), Pre_NormInBIdeal m →
    θ_run (Cert.NormInBIdeal.defs (F := Ideal)) (onTc (τ := Cert.NormInBIdeal.τ) (Cert.NormInBIdeal.main (F := Ideal))) ⟨m, fun _ => 0, g⟩ (fun r => (∀ c : Dev Cert.NormInBIdeal.nD,
      r.2.mem ((c.tc : Thread Cert.NormInBIdeal.nD Cert.NormInBIdeal.τ).loc Cert.NormInBIdeal.main_arg0) = m ((c.tc : Thread Cert.NormInBIdeal.nD Cert.NormInBIdeal.τ).loc Cert.NormInBIdeal.main_arg0)
      ∧ r.2.mem ((c.tc : Thread Cert.NormInBIdeal.nD Cert.NormInBIdeal.τ).loc Cert.NormInBIdeal.main_arg1) = m ((c.tc : Thread Cert.NormInBIdeal.nD Cert.NormInBIdeal.τ).loc Cert.NormInBIdeal.main_arg1)
      ∧ r.2.mem ((c.tc : Thread Cert.NormInBIdeal.nD Cert.NormInBIdeal.τ).loc Cert.NormInBIdeal.main_arg2) = m ((c.tc : Thread Cert.NormInBIdeal.nD Cert.NormInBIdeal.τ).loc Cert.NormInBIdeal.main_arg2)
      ∧ r.2.mem ((c.tc : Thread Cert.NormInBIdeal.nD Cert.NormInBIdeal.τ).loc Cert.NormInBIdeal.main_arg3) = m ((c.tc : Thread Cert.NormInBIdeal.nD Cert.NormInBIdeal.τ).loc Cert.NormInBIdeal.main_arg3))
      ∧ r.2.sem = fun _ => 0)

def quiescent_NormInBIdeal_pre_finite_norm_in [hNormInBIdeal : Cert.NormInBIdeal.Facts] [hPre_finite_norm_in : Cert.Pre_finite_norm_in.Facts] : Prop :=
  ∀ (m : (ℓ : Loc Cert.NormInBIdeal.nD Cert.NormInBIdeal.τ Cert.NormInBIdeal.sig) → Buf (Elt Ideal) ℓ) (g : Dev Cert.NormInBIdeal.nD → PrngReg), Pre_NormInBIdeal_finite_norm_in m →
    θ_run (Cert.NormInBIdeal.defs (F := Ideal)) (onTc (τ := Cert.NormInBIdeal.τ) (Cert.NormInBIdeal.main (F := Ideal))) ⟨m, fun _ => 0, g⟩ (fun r => (∀ c : Dev Cert.NormInBIdeal.nD,
      r.2.mem ((c.tc : Thread Cert.NormInBIdeal.nD Cert.NormInBIdeal.τ).loc Cert.NormInBIdeal.main_arg0) = m ((c.tc : Thread Cert.NormInBIdeal.nD Cert.NormInBIdeal.τ).loc Cert.NormInBIdeal.main_arg0)
      ∧ r.2.mem ((c.tc : Thread Cert.NormInBIdeal.nD Cert.NormInBIdeal.τ).loc Cert.NormInBIdeal.main_arg1) = m ((c.tc : Thread Cert.NormInBIdeal.nD Cert.NormInBIdeal.τ).loc Cert.NormInBIdeal.main_arg1)
      ∧ r.2.mem ((c.tc : Thread Cert.NormInBIdeal.nD Cert.NormInBIdeal.τ).loc Cert.NormInBIdeal.main_arg2) = m ((c.tc : Thread Cert.NormInBIdeal.nD Cert.NormInBIdeal.τ).loc Cert.NormInBIdeal.main_arg2)
      ∧ r.2.mem ((c.tc : Thread Cert.NormInBIdeal.nD Cert.NormInBIdeal.τ).loc Cert.NormInBIdeal.main_arg3) = m ((c.tc : Thread Cert.NormInBIdeal.nD Cert.NormInBIdeal.τ).loc Cert.NormInBIdeal.main_arg3))
      ∧ r.2.sem = fun _ => 0)

def quiescent_NormInBRefIdeal [hNormInBRefIdeal : Cert.NormInBRefIdeal.Facts] : Prop :=
  ∀ (m : (ℓ : Loc Cert.NormInBRefIdeal.nD Cert.NormInBRefIdeal.τ Cert.NormInBRefIdeal.sig) → Buf (Elt Ideal) ℓ) (g : Dev Cert.NormInBRefIdeal.nD → PrngReg), Pre_NormInBRefIdeal m →
    θ_run (Cert.NormInBRefIdeal.defs (F := Ideal)) (onTc (τ := Cert.NormInBRefIdeal.τ) (Cert.NormInBRefIdeal.main (F := Ideal))) ⟨m, fun _ => 0, g⟩ (fun r => (∀ c : Dev Cert.NormInBRefIdeal.nD,
      r.2.mem ((c.tc : Thread Cert.NormInBRefIdeal.nD Cert.NormInBRefIdeal.τ).loc Cert.NormInBRefIdeal.main_arg0) = m ((c.tc : Thread Cert.NormInBRefIdeal.nD Cert.NormInBRefIdeal.τ).loc Cert.NormInBRefIdeal.main_arg0)
      ∧ r.2.mem ((c.tc : Thread Cert.NormInBRefIdeal.nD Cert.NormInBRefIdeal.τ).loc Cert.NormInBRefIdeal.main_arg1) = m ((c.tc : Thread Cert.NormInBRefIdeal.nD Cert.NormInBRefIdeal.τ).loc Cert.NormInBRefIdeal.main_arg1)
      ∧ r.2.mem ((c.tc : Thread Cert.NormInBRefIdeal.nD Cert.NormInBRefIdeal.τ).loc Cert.NormInBRefIdeal.main_arg2) = m ((c.tc : Thread Cert.NormInBRefIdeal.nD Cert.NormInBRefIdeal.τ).loc Cert.NormInBRefIdeal.main_arg2)
      ∧ r.2.mem ((c.tc : Thread Cert.NormInBRefIdeal.nD Cert.NormInBRefIdeal.τ).loc Cert.NormInBRefIdeal.main_arg3) = m ((c.tc : Thread Cert.NormInBRefIdeal.nD Cert.NormInBRefIdeal.τ).loc Cert.NormInBRefIdeal.main_arg3))
      ∧ r.2.sem = fun _ => 0)

def quiescent_NormInBRefIdeal_pre_finite_norm_in [hNormInBRefIdeal : Cert.NormInBRefIdeal.Facts] [hPre_finite_norm_in : Cert.Pre_finite_norm_in.Facts] : Prop :=
  ∀ (m : (ℓ : Loc Cert.NormInBRefIdeal.nD Cert.NormInBRefIdeal.τ Cert.NormInBRefIdeal.sig) → Buf (Elt Ideal) ℓ) (g : Dev Cert.NormInBRefIdeal.nD → PrngReg), Pre_NormInBRefIdeal_finite_norm_in m →
    θ_run (Cert.NormInBRefIdeal.defs (F := Ideal)) (onTc (τ := Cert.NormInBRefIdeal.τ) (Cert.NormInBRefIdeal.main (F := Ideal))) ⟨m, fun _ => 0, g⟩ (fun r => (∀ c : Dev Cert.NormInBRefIdeal.nD,
      r.2.mem ((c.tc : Thread Cert.NormInBRefIdeal.nD Cert.NormInBRefIdeal.τ).loc Cert.NormInBRefIdeal.main_arg0) = m ((c.tc : Thread Cert.NormInBRefIdeal.nD Cert.NormInBRefIdeal.τ).loc Cert.NormInBRefIdeal.main_arg0)
      ∧ r.2.mem ((c.tc : Thread Cert.NormInBRefIdeal.nD Cert.NormInBRefIdeal.τ).loc Cert.NormInBRefIdeal.main_arg1) = m ((c.tc : Thread Cert.NormInBRefIdeal.nD Cert.NormInBRefIdeal.τ).loc Cert.NormInBRefIdeal.main_arg1)
      ∧ r.2.mem ((c.tc : Thread Cert.NormInBRefIdeal.nD Cert.NormInBRefIdeal.τ).loc Cert.NormInBRefIdeal.main_arg2) = m ((c.tc : Thread Cert.NormInBRefIdeal.nD Cert.NormInBRefIdeal.τ).loc Cert.NormInBRefIdeal.main_arg2)
      ∧ r.2.mem ((c.tc : Thread Cert.NormInBRefIdeal.nD Cert.NormInBRefIdeal.τ).loc Cert.NormInBRefIdeal.main_arg3) = m ((c.tc : Thread Cert.NormInBRefIdeal.nD Cert.NormInBRefIdeal.τ).loc Cert.NormInBRefIdeal.main_arg3))
      ∧ r.2.sem = fun _ => 0)

def quiescent_NormOutB [hNormOutB : Cert.NormOutB.Facts] : Prop :=
  ∀ (m : (ℓ : Loc Cert.NormOutB.nD Cert.NormOutB.τ Cert.NormOutB.sig) → Buf (Elt Bits) ℓ) (g : Dev Cert.NormOutB.nD → PrngReg), Pre_NormOutB m →
    θ_run (Cert.NormOutB.defs (F := Bits)) (onTc (τ := Cert.NormOutB.τ) (Cert.NormOutB.main (F := Bits))) ⟨m, fun _ => 0, g⟩ (fun r => (∀ c : Dev Cert.NormOutB.nD,
      r.2.mem ((c.tc : Thread Cert.NormOutB.nD Cert.NormOutB.τ).loc Cert.NormOutB.main_arg0) = m ((c.tc : Thread Cert.NormOutB.nD Cert.NormOutB.τ).loc Cert.NormOutB.main_arg0)
      ∧ r.2.mem ((c.tc : Thread Cert.NormOutB.nD Cert.NormOutB.τ).loc Cert.NormOutB.main_arg1) = m ((c.tc : Thread Cert.NormOutB.nD Cert.NormOutB.τ).loc Cert.NormOutB.main_arg1)
      ∧ r.2.mem ((c.tc : Thread Cert.NormOutB.nD Cert.NormOutB.τ).loc Cert.NormOutB.main_arg2) = m ((c.tc : Thread Cert.NormOutB.nD Cert.NormOutB.τ).loc Cert.NormOutB.main_arg2))
      ∧ r.2.sem = fun _ => 0)

def quiescent_NormOutBIdeal [hNormOutBIdeal : Cert.NormOutBIdeal.Facts] : Prop :=
  ∀ (m : (ℓ : Loc Cert.NormOutBIdeal.nD Cert.NormOutBIdeal.τ Cert.NormOutBIdeal.sig) → Buf (Elt Ideal) ℓ) (g : Dev Cert.NormOutBIdeal.nD → PrngReg), Pre_NormOutBIdeal m →
    θ_run (Cert.NormOutBIdeal.defs (F := Ideal)) (onTc (τ := Cert.NormOutBIdeal.τ) (Cert.NormOutBIdeal.main (F := Ideal))) ⟨m, fun _ => 0, g⟩ (fun r => (∀ c : Dev Cert.NormOutBIdeal.nD,
      r.2.mem ((c.tc : Thread Cert.NormOutBIdeal.nD Cert.NormOutBIdeal.τ).loc Cert.NormOutBIdeal.main_arg0) = m ((c.tc : Thread Cert.NormOutBIdeal.nD Cert.NormOutBIdeal.τ).loc Cert.NormOutBIdeal.main_arg0)
      ∧ r.2.mem ((c.tc : Thread Cert.NormOutBIdeal.nD Cert.NormOutBIdeal.τ).loc Cert.NormOutBIdeal.main_arg1) = m ((c.tc : Thread Cert.NormOutBIdeal.nD Cert.NormOutBIdeal.τ).loc Cert.NormOutBIdeal.main_arg1)
      ∧ r.2.mem ((c.tc : Thread Cert.NormOutBIdeal.nD Cert.NormOutBIdeal.τ).loc Cert.NormOutBIdeal.main_arg2) = m ((c.tc : Thread Cert.NormOutBIdeal.nD Cert.NormOutBIdeal.τ).loc Cert.NormOutBIdeal.main_arg2))
      ∧ r.2.sem = fun _ => 0)

def quiescent_NormOutBIdeal_pre_finite_norm [hNormOutBIdeal : Cert.NormOutBIdeal.Facts] [hPre_finite_norm : Cert.Pre_finite_norm.Facts] : Prop :=
  ∀ (m : (ℓ : Loc Cert.NormOutBIdeal.nD Cert.NormOutBIdeal.τ Cert.NormOutBIdeal.sig) → Buf (Elt Ideal) ℓ) (g : Dev Cert.NormOutBIdeal.nD → PrngReg), Pre_NormOutBIdeal_finite_norm m →
    θ_run (Cert.NormOutBIdeal.defs (F := Ideal)) (onTc (τ := Cert.NormOutBIdeal.τ) (Cert.NormOutBIdeal.main (F := Ideal))) ⟨m, fun _ => 0, g⟩ (fun r => (∀ c : Dev Cert.NormOutBIdeal.nD,
      r.2.mem ((c.tc : Thread Cert.NormOutBIdeal.nD Cert.NormOutBIdeal.τ).loc Cert.NormOutBIdeal.main_arg0) = m ((c.tc : Thread Cert.NormOutBIdeal.nD Cert.NormOutBIdeal.τ).loc Cert.NormOutBIdeal.main_arg0)
      ∧ r.2.mem ((c.tc : Thread Cert.NormOutBIdeal.nD Cert.NormOutBIdeal.τ).loc Cert.NormOutBIdeal.main_arg1) = m ((c.tc : Thread Cert.NormOutBIdeal.nD Cert.NormOutBIdeal.τ).loc Cert.NormOutBIdeal.main_arg1)
      ∧ r.2.mem ((c.tc : Thread Cert.NormOutBIdeal.nD Cert.NormOutBIdeal.τ).loc Cert.NormOutBIdeal.main_arg2) = m ((c.tc : Thread Cert.NormOutBIdeal.nD Cert.NormOutBIdeal.τ).loc Cert.NormOutBIdeal.main_arg2))
      ∧ r.2.sem = fun _ => 0)

def quiescent_NormOutBRefIdeal [hNormOutBRefIdeal : Cert.NormOutBRefIdeal.Facts] : Prop :=
  ∀ (m : (ℓ : Loc Cert.NormOutBRefIdeal.nD Cert.NormOutBRefIdeal.τ Cert.NormOutBRefIdeal.sig) → Buf (Elt Ideal) ℓ) (g : Dev Cert.NormOutBRefIdeal.nD → PrngReg), Pre_NormOutBRefIdeal m →
    θ_run (Cert.NormOutBRefIdeal.defs (F := Ideal)) (onTc (τ := Cert.NormOutBRefIdeal.τ) (Cert.NormOutBRefIdeal.main (F := Ideal))) ⟨m, fun _ => 0, g⟩ (fun r => (∀ c : Dev Cert.NormOutBRefIdeal.nD,
      r.2.mem ((c.tc : Thread Cert.NormOutBRefIdeal.nD Cert.NormOutBRefIdeal.τ).loc Cert.NormOutBRefIdeal.main_arg0) = m ((c.tc : Thread Cert.NormOutBRefIdeal.nD Cert.NormOutBRefIdeal.τ).loc Cert.NormOutBRefIdeal.main_arg0)
      ∧ r.2.mem ((c.tc : Thread Cert.NormOutBRefIdeal.nD Cert.NormOutBRefIdeal.τ).loc Cert.NormOutBRefIdeal.main_arg1) = m ((c.tc : Thread Cert.NormOutBRefIdeal.nD Cert.NormOutBRefIdeal.τ).loc Cert.NormOutBRefIdeal.main_arg1)
      ∧ r.2.mem ((c.tc : Thread Cert.NormOutBRefIdeal.nD Cert.NormOutBRefIdeal.τ).loc Cert.NormOutBRefIdeal.main_arg2) = m ((c.tc : Thread Cert.NormOutBRefIdeal.nD Cert.NormOutBRefIdeal.τ).loc Cert.NormOutBRefIdeal.main_arg2))
      ∧ r.2.sem = fun _ => 0)

def quiescent_NormOutBRefIdeal_pre_finite_norm [hNormOutBRefIdeal : Cert.NormOutBRefIdeal.Facts] [hPre_finite_norm : Cert.Pre_finite_norm.Facts] : Prop :=
  ∀ (m : (ℓ : Loc Cert.NormOutBRefIdeal.nD Cert.NormOutBRefIdeal.τ Cert.NormOutBRefIdeal.sig) → Buf (Elt Ideal) ℓ) (g : Dev Cert.NormOutBRefIdeal.nD → PrngReg), Pre_NormOutBRefIdeal_finite_norm m →
    θ_run (Cert.NormOutBRefIdeal.defs (F := Ideal)) (onTc (τ := Cert.NormOutBRefIdeal.τ) (Cert.NormOutBRefIdeal.main (F := Ideal))) ⟨m, fun _ => 0, g⟩ (fun r => (∀ c : Dev Cert.NormOutBRefIdeal.nD,
      r.2.mem ((c.tc : Thread Cert.NormOutBRefIdeal.nD Cert.NormOutBRefIdeal.τ).loc Cert.NormOutBRefIdeal.main_arg0) = m ((c.tc : Thread Cert.NormOutBRefIdeal.nD Cert.NormOutBRefIdeal.τ).loc Cert.NormOutBRefIdeal.main_arg0)
      ∧ r.2.mem ((c.tc : Thread Cert.NormOutBRefIdeal.nD Cert.NormOutBRefIdeal.τ).loc Cert.NormOutBRefIdeal.main_arg1) = m ((c.tc : Thread Cert.NormOutBRefIdeal.nD Cert.NormOutBRefIdeal.τ).loc Cert.NormOutBRefIdeal.main_arg1)
      ∧ r.2.mem ((c.tc : Thread Cert.NormOutBRefIdeal.nD Cert.NormOutBRefIdeal.τ).loc Cert.NormOutBRefIdeal.main_arg2) = m ((c.tc : Thread Cert.NormOutBRefIdeal.nD Cert.NormOutBRefIdeal.τ).loc Cert.NormOutBRefIdeal.main_arg2))
      ∧ r.2.sem = fun _ => 0)

def quiescent_GateB [hGateB : Cert.GateB.Facts] : Prop :=
  ∀ (m : (ℓ : Loc Cert.GateB.nD Cert.GateB.τ Cert.GateB.sig) → Buf (Elt Bits) ℓ) (g : Dev Cert.GateB.nD → PrngReg), Pre_GateB m →
    θ_run (Cert.GateB.defs (F := Bits)) (onTc (τ := Cert.GateB.τ) (Cert.GateB.main (F := Bits))) ⟨m, fun _ => 0, g⟩ (fun r => (∀ c : Dev Cert.GateB.nD,
      r.2.mem ((c.tc : Thread Cert.GateB.nD Cert.GateB.τ).loc Cert.GateB.main_arg0) = m ((c.tc : Thread Cert.GateB.nD Cert.GateB.τ).loc Cert.GateB.main_arg0)
      ∧ r.2.mem ((c.tc : Thread Cert.GateB.nD Cert.GateB.τ).loc Cert.GateB.main_arg1) = m ((c.tc : Thread Cert.GateB.nD Cert.GateB.τ).loc Cert.GateB.main_arg1)
      ∧ r.2.mem ((c.tc : Thread Cert.GateB.nD Cert.GateB.τ).loc Cert.GateB.main_arg2) = m ((c.tc : Thread Cert.GateB.nD Cert.GateB.τ).loc Cert.GateB.main_arg2)
      ∧ r.2.mem ((c.tc : Thread Cert.GateB.nD Cert.GateB.τ).loc Cert.GateB.main_arg3) = m ((c.tc : Thread Cert.GateB.nD Cert.GateB.τ).loc Cert.GateB.main_arg3))
      ∧ r.2.sem = fun _ => 0)

def quiescent_GateBIdeal [hGateBIdeal : Cert.GateBIdeal.Facts] : Prop :=
  ∀ (m : (ℓ : Loc Cert.GateBIdeal.nD Cert.GateBIdeal.τ Cert.GateBIdeal.sig) → Buf (Elt Ideal) ℓ) (g : Dev Cert.GateBIdeal.nD → PrngReg), Pre_GateBIdeal m →
    θ_run (Cert.GateBIdeal.defs (F := Ideal)) (onTc (τ := Cert.GateBIdeal.τ) (Cert.GateBIdeal.main (F := Ideal))) ⟨m, fun _ => 0, g⟩ (fun r => (∀ c : Dev Cert.GateBIdeal.nD,
      r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
      ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1)
      ∧ r.2.mem ((c.tc : Thread Cert.GateBIdeal.nD Cert.GateBIdeal.τ).loc Cert.GateBIdeal.main_arg2) = m ((c.tc : Thread Cert.GateBIdeal.nD Cert.GateBIdeal.τ).loc Cert.GateBIdeal.main_arg2)
      ∧ r.2.mem ((c.tc : Thread Cert.GateBIdeal.nD Cert.GateBIdeal.τ).loc Cert.GateBIdeal.main_arg3) = m ((c.tc : Thread Cert.GateBIdeal.nD Cert.GateBIdeal.τ).loc Cert.GateBIdeal.main_arg3))
      ∧ r.2.sem = fun _ => 0)

def quiescent_GateBRefIdeal [hGateBRefIdeal : Cert.GateBRefIdeal.Facts] : Prop :=
  ∀ (m : (ℓ : Loc Cert.GateBRefIdeal.nD Cert.GateBRefIdeal.τ Cert.GateBRefIdeal.sig) → Buf (Elt Ideal) ℓ) (g : Dev Cert.GateBRefIdeal.nD → PrngReg), Pre_GateBRefIdeal m →
    θ_run (Cert.GateBRefIdeal.defs (F := Ideal)) (onTc (τ := Cert.GateBRefIdeal.τ) (Cert.GateBRefIdeal.main (F := Ideal))) ⟨m, fun _ => 0, g⟩ (fun r => (∀ c : Dev Cert.GateBRefIdeal.nD,
      r.2.mem ((c.tc : Thread Cert.GateBRefIdeal.nD Cert.GateBRefIdeal.τ).loc Cert.GateBRefIdeal.main_arg0) = m ((c.tc : Thread Cert.GateBRefIdeal.nD Cert.GateBRefIdeal.τ).loc Cert.GateBRefIdeal.main_arg0)
      ∧ r.2.mem ((c.tc : Thread Cert.GateBRefIdeal.nD Cert.GateBRefIdeal.τ).loc Cert.GateBRefIdeal.main_arg1) = m ((c.tc : Thread Cert.GateBRefIdeal.nD Cert.GateBRefIdeal.τ).loc Cert.GateBRefIdeal.main_arg1)
      ∧ r.2.mem ((c.tc : Thread Cert.GateBRefIdeal.nD Cert.GateBRefIdeal.τ).loc Cert.GateBRefIdeal.main_arg2) = m ((c.tc : Thread Cert.GateBRefIdeal.nD Cert.GateBRefIdeal.τ).loc Cert.GateBRefIdeal.main_arg2)
      ∧ r.2.mem ((c.tc : Thread Cert.GateBRefIdeal.nD Cert.GateBRefIdeal.τ).loc Cert.GateBRefIdeal.main_arg3) = m ((c.tc : Thread Cert.GateBRefIdeal.nD Cert.GateBRefIdeal.τ).loc Cert.GateBRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)) (v2 : (c : Dev Cert.KernelIdeal.nD) → Buf (Elt Ideal) ((c.tc : Thread Cert.KernelIdeal.nD Cert.KernelIdeal.τ).loc Cert.KernelIdeal.main_v47_2)) (v3 : (c : Dev Cert.KernelIdeal.nD) → Buf (Elt Ideal) ((c.tc : Thread Cert.KernelIdeal.nD Cert.KernelIdeal.τ).loc Cert.KernelIdeal.main_v47_3)) (v4 : (c : Dev Cert.KernelIdeal.nD) → Buf (Elt Ideal) ((c.tc : Thread Cert.KernelIdeal.nD Cert.KernelIdeal.τ).loc Cert.KernelIdeal.main_v47_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_v47_2) = v2 c
          ∧ r.2.mem ((c.tc : Thread Cert.KernelIdeal.nD Cert.KernelIdeal.τ).loc Cert.KernelIdeal.main_v47_3) = v3 c
          ∧ r.2.mem ((c.tc : Thread Cert.KernelIdeal.nD Cert.KernelIdeal.τ).loc Cert.KernelIdeal.main_v47_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_v100) = v3 c
          ∧ r.2.mem ((c.tc : Thread Cert.ReferenceIdeal.nD Cert.ReferenceIdeal.τ).loc Cert.ReferenceIdeal.main_v102) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Dfin_DfinIdeal : Prop :=
  True

def algebraic_DfinIdeal_DfinRefIdeal [hDfinIdeal : Cert.DfinIdeal.Facts] [hDfinRefIdeal : Cert.DfinRefIdeal.Facts] : Prop :=
  ∀ (m : (ℓ : Loc Cert.DfinIdeal.nD Cert.DfinIdeal.τ Cert.DfinIdeal.sig) → Buf (Elt Ideal) ℓ) (g : Dev Cert.DfinIdeal.nD → PrngReg)
    (m' : (ℓ : Loc Cert.DfinRefIdeal.nD Cert.DfinRefIdeal.τ Cert.DfinRefIdeal.sig) → Buf (Elt Ideal) ℓ) (g' : Dev Cert.DfinRefIdeal.nD → PrngReg), Pre_DfinIdeal m →
    (∀ c : Dev Cert.DfinIdeal.nD,
      m' ((c.tc : Thread Cert.DfinRefIdeal.nD Cert.DfinRefIdeal.τ).loc Cert.DfinRefIdeal.main_arg0) = m ((c.tc : Thread Cert.DfinIdeal.nD Cert.DfinIdeal.τ).loc Cert.DfinIdeal.main_arg0)
      ∧ m' ((c.tc : Thread Cert.DfinRefIdeal.nD Cert.DfinRefIdeal.τ).loc Cert.DfinRefIdeal.main_arg1) = m ((c.tc : Thread Cert.DfinIdeal.nD Cert.DfinIdeal.τ).loc Cert.DfinIdeal.main_arg1)
      ∧ m' ((c.tc : Thread Cert.DfinRefIdeal.nD Cert.DfinRefIdeal.τ).loc Cert.DfinRefIdeal.main_arg2) = m ((c.tc : Thread Cert.DfinIdeal.nD Cert.DfinIdeal.τ).loc Cert.DfinIdeal.main_arg2)) →
    ∃ (v0 : (c : Dev Cert.DfinIdeal.nD) → Buf (Elt Ideal) ((c.tc : Thread Cert.DfinIdeal.nD Cert.DfinIdeal.τ).loc Cert.DfinIdeal.main_v4)),
      θ_run (Cert.DfinIdeal.defs (F := Ideal)) (onTc (τ := Cert.DfinIdeal.τ) (Cert.DfinIdeal.main (F := Ideal))) ⟨m, fun _ => 0, g⟩ (fun r => ∀ c : Dev Cert.DfinIdeal.nD,
          r.2.mem ((c.tc : Thread Cert.DfinIdeal.nD Cert.DfinIdeal.τ).loc Cert.DfinIdeal.main_v4) = v0 c
          ∧ r.2.mem ((c.tc : Thread Cert.DfinIdeal.nD Cert.DfinIdeal.τ).loc Cert.DfinIdeal.main_arg0) = m ((c.tc : Thread Cert.DfinIdeal.nD Cert.DfinIdeal.τ).loc Cert.DfinIdeal.main_arg0)
          ∧ r.2.mem ((c.tc : Thread Cert.DfinIdeal.nD Cert.DfinIdeal.τ).loc Cert.DfinIdeal.main_arg1) = m ((c.tc : Thread Cert.DfinIdeal.nD Cert.DfinIdeal.τ).loc Cert.DfinIdeal.main_arg1)
          ∧ r.2.mem ((c.tc : Thread Cert.DfinIdeal.nD Cert.DfinIdeal.τ).loc Cert.DfinIdeal.main_arg2) = m ((c.tc : Thread Cert.DfinIdeal.nD Cert.DfinIdeal.τ).loc Cert.DfinIdeal.main_arg2))
      ∧ θ_run (Cert.DfinRefIdeal.defs (F := Ideal)) (onTc (τ := Cert.DfinRefIdeal.τ) (Cert.DfinRefIdeal.main (F := Ideal))) ⟨m', fun _ => 0, g'⟩ (fun r => ∀ c : Dev Cert.DfinRefIdeal.nD,
          r.2.mem ((c.tc : Thread Cert.DfinRefIdeal.nD Cert.DfinRefIdeal.τ).loc Cert.DfinRefIdeal.main_v2) = v0 c
          ∧ r.2.mem ((c.tc : Thread Cert.DfinRefIdeal.nD Cert.DfinRefIdeal.τ).loc Cert.DfinRefIdeal.main_arg0) = m' ((c.tc : Thread Cert.DfinRefIdeal.nD Cert.DfinRefIdeal.τ).loc Cert.DfinRefIdeal.main_arg0)
          ∧ r.2.mem ((c.tc : Thread Cert.DfinRefIdeal.nD Cert.DfinRefIdeal.τ).loc Cert.DfinRefIdeal.main_arg1) = m' ((c.tc : Thread Cert.DfinRefIdeal.nD Cert.DfinRefIdeal.τ).loc Cert.DfinRefIdeal.main_arg1)
          ∧ r.2.mem ((c.tc : Thread Cert.DfinRefIdeal.nD Cert.DfinRefIdeal.τ).loc Cert.DfinRefIdeal.main_arg2) = m' ((c.tc : Thread Cert.DfinRefIdeal.nD Cert.DfinRefIdeal.τ).loc Cert.DfinRefIdeal.main_arg2))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)) →
    ∃ (v0 : (c : Dev Cert.DactIdeal.nD) → Buf (Elt Ideal) ((c.tc : Thread Cert.DactIdeal.nD Cert.DactIdeal.τ).loc Cert.DactIdeal.main_v3)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v3) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v2) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v4)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v4) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v0) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)) →
    ∃ (v0 : (c : Dev Cert.FfnOutIdeal.nD) → Buf (Elt Ideal) ((c.tc : Thread Cert.FfnOutIdeal.nD Cert.FfnOutIdeal.τ).loc Cert.FfnOutIdeal.main_v3)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v3) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v0) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1))

def preserves_DilDhn_DilDhnIdeal : Prop :=
  True

def algebraic_DilDhnIdeal_DilDhnRefIdeal [hDilDhnIdeal : Cert.DilDhnIdeal.Facts] [hDilDhnRefIdeal : Cert.DilDhnRefIdeal.Facts] : Prop :=
  ∀ (m : (ℓ : Loc Cert.DilDhnIdeal.nD Cert.DilDhnIdeal.τ Cert.DilDhnIdeal.sig) → Buf (Elt Ideal) ℓ) (g : Dev Cert.DilDhnIdeal.nD → PrngReg)
    (m' : (ℓ : Loc Cert.DilDhnRefIdeal.nD Cert.DilDhnRefIdeal.τ Cert.DilDhnRefIdeal.sig) → Buf (Elt Ideal) ℓ) (g' : Dev Cert.DilDhnRefIdeal.nD → PrngReg), Pre_DilDhnIdeal m →
    (∀ c : Dev Cert.DilDhnIdeal.nD,
      m' ((c.tc : Thread Cert.DilDhnRefIdeal.nD Cert.DilDhnRefIdeal.τ).loc Cert.DilDhnRefIdeal.main_arg0) = m ((c.tc : Thread Cert.DilDhnIdeal.nD Cert.DilDhnIdeal.τ).loc Cert.DilDhnIdeal.main_arg0)
      ∧ m' ((c.tc : Thread Cert.DilDhnRefIdeal.nD Cert.DilDhnRefIdeal.τ).loc Cert.DilDhnRefIdeal.main_arg1) = m ((c.tc : Thread Cert.DilDhnIdeal.nD Cert.DilDhnIdeal.τ).loc Cert.DilDhnIdeal.main_arg1)) →
    ∃ (v0 : (c : Dev Cert.DilDhnIdeal.nD) → Buf (Elt Ideal) ((c.tc : Thread Cert.DilDhnIdeal.nD Cert.DilDhnIdeal.τ).loc Cert.DilDhnIdeal.main_v5)),
      θ_run (Cert.DilDhnIdeal.defs (F := Ideal)) (onTc (τ := Cert.DilDhnIdeal.τ) (Cert.DilDhnIdeal.main (F := Ideal))) ⟨m, fun _ => 0, g⟩ (fun r => ∀ c : Dev Cert.DilDhnIdeal.nD,
          r.2.mem ((c.tc : Thread Cert.DilDhnIdeal.nD Cert.DilDhnIdeal.τ).loc Cert.DilDhnIdeal.main_v5) = v0 c
          ∧ r.2.mem ((c.tc : Thread Cert.DilDhnIdeal.nD Cert.DilDhnIdeal.τ).loc Cert.DilDhnIdeal.main_arg0) = m ((c.tc : Thread Cert.DilDhnIdeal.nD Cert.DilDhnIdeal.τ).loc Cert.DilDhnIdeal.main_arg0)
          ∧ r.2.mem ((c.tc : Thread Cert.DilDhnIdeal.nD Cert.DilDhnIdeal.τ).loc Cert.DilDhnIdeal.main_arg1) = m ((c.tc : Thread Cert.DilDhnIdeal.nD Cert.DilDhnIdeal.τ).loc Cert.DilDhnIdeal.main_arg1))
      ∧ θ_run (Cert.DilDhnRefIdeal.defs (F := Ideal)) (onTc (τ := Cert.DilDhnRefIdeal.τ) (Cert.DilDhnRefIdeal.main (F := Ideal))) ⟨m', fun _ => 0, g'⟩ (fun r => ∀ c : Dev Cert.DilDhnRefIdeal.nD,
          r.2.mem ((c.tc : Thread Cert.DilDhnRefIdeal.nD Cert.DilDhnRefIdeal.τ).loc Cert.DilDhnRefIdeal.main_v2) = v0 c
          ∧ r.2.mem ((c.tc : Thread Cert.DilDhnRefIdeal.nD Cert.DilDhnRefIdeal.τ).loc Cert.DilDhnRefIdeal.main_arg0) = m' ((c.tc : Thread Cert.DilDhnRefIdeal.nD Cert.DilDhnRefIdeal.τ).loc Cert.DilDhnRefIdeal.main_arg0)
          ∧ r.2.mem ((c.tc : Thread Cert.DilDhnRefIdeal.nD Cert.DilDhnRefIdeal.τ).loc Cert.DilDhnRefIdeal.main_arg1) = m' ((c.tc : Thread Cert.DilDhnRefIdeal.nD Cert.DilDhnRefIdeal.τ).loc Cert.DilDhnRefIdeal.main_arg1))

def preserves_DilDw_DilDwIdeal : Prop :=
  True

def algebraic_DilDwIdeal_DilDwRefIdeal [hDilDwIdeal : Cert.DilDwIdeal.Facts] [hDilDwRefIdeal : Cert.DilDwRefIdeal.Facts] : Prop :=
  ∀ (m : (ℓ : Loc Cert.DilDwIdeal.nD Cert.DilDwIdeal.τ Cert.DilDwIdeal.sig) → Buf (Elt Ideal) ℓ) (g : Dev Cert.DilDwIdeal.nD → PrngReg)
    (m' : (ℓ : Loc Cert.DilDwRefIdeal.nD Cert.DilDwRefIdeal.τ Cert.DilDwRefIdeal.sig) → Buf (Elt Ideal) ℓ) (g' : Dev Cert.DilDwRefIdeal.nD → PrngReg), Pre_DilDwIdeal m →
    (∀ c : Dev Cert.DilDwIdeal.nD,
      m' ((c.tc : Thread Cert.DilDwRefIdeal.nD Cert.DilDwRefIdeal.τ).loc Cert.DilDwRefIdeal.main_arg0) = m ((c.tc : Thread Cert.DilDwIdeal.nD Cert.DilDwIdeal.τ).loc Cert.DilDwIdeal.main_arg0)
      ∧ m' ((c.tc : Thread Cert.DilDwRefIdeal.nD Cert.DilDwRefIdeal.τ).loc Cert.DilDwRefIdeal.main_arg1) = m ((c.tc : Thread Cert.DilDwIdeal.nD Cert.DilDwIdeal.τ).loc Cert.DilDwIdeal.main_arg1)) →
    ∃ (v0 : (c : Dev Cert.DilDwIdeal.nD) → Buf (Elt Ideal) ((c.tc : Thread Cert.DilDwIdeal.nD Cert.DilDwIdeal.τ).loc Cert.DilDwIdeal.main_v2)),
      θ_run (Cert.DilDwIdeal.defs (F := Ideal)) (onTc (τ := Cert.DilDwIdeal.τ) (Cert.DilDwIdeal.main (F := Ideal))) ⟨m, fun _ => 0, g⟩ (fun r => ∀ c : Dev Cert.DilDwIdeal.nD,
          r.2.mem ((c.tc : Thread Cert.DilDwIdeal.nD Cert.DilDwIdeal.τ).loc Cert.DilDwIdeal.main_v2) = v0 c
          ∧ r.2.mem ((c.tc : Thread Cert.DilDwIdeal.nD Cert.DilDwIdeal.τ).loc Cert.DilDwIdeal.main_arg0) = m ((c.tc : Thread Cert.DilDwIdeal.nD Cert.DilDwIdeal.τ).loc Cert.DilDwIdeal.main_arg0)
          ∧ r.2.mem ((c.tc : Thread Cert.DilDwIdeal.nD Cert.DilDwIdeal.τ).loc Cert.DilDwIdeal.main_arg1) = m ((c.tc : Thread Cert.DilDwIdeal.nD Cert.DilDwIdeal.τ).loc Cert.DilDwIdeal.main_arg1))
      ∧ θ_run (Cert.DilDwRefIdeal.defs (F := Ideal)) (onTc (τ := Cert.DilDwRefIdeal.τ) (Cert.DilDwRefIdeal.main (F := Ideal))) ⟨m', fun _ => 0, g'⟩ (fun r => ∀ c : Dev Cert.DilDwRefIdeal.nD,
          r.2.mem ((c.tc : Thread Cert.DilDwRefIdeal.nD Cert.DilDwRefIdeal.τ).loc Cert.DilDwRefIdeal.main_v7) = v0 c
          ∧ r.2.mem ((c.tc : Thread Cert.DilDwRefIdeal.nD Cert.DilDwRefIdeal.τ).loc Cert.DilDwRefIdeal.main_arg0) = m' ((c.tc : Thread Cert.DilDwRefIdeal.nD Cert.DilDwRefIdeal.τ).loc Cert.DilDwRefIdeal.main_arg0)
          ∧ r.2.mem ((c.tc : Thread Cert.DilDwRefIdeal.nD Cert.DilDwRefIdeal.τ).loc Cert.DilDwRefIdeal.main_arg1) = m' ((c.tc : Thread Cert.DilDwRefIdeal.nD Cert.DilDwRefIdeal.τ).loc Cert.DilDwRefIdeal.main_arg1))

def preserves_ProjDo_ProjDoIdeal : Prop :=
  True

def algebraic_ProjDoIdeal_ProjDoRefIdeal [hProjDoIdeal : Cert.ProjDoIdeal.Facts] [hProjDoRefIdeal : Cert.ProjDoRefIdeal.Facts] : Prop :=
  ∀ (m : (ℓ : Loc Cert.ProjDoIdeal.nD Cert.ProjDoIdeal.τ Cert.ProjDoIdeal.sig) → Buf (Elt Ideal) ℓ) (g : Dev Cert.ProjDoIdeal.nD → PrngReg)
    (m' : (ℓ : Loc Cert.ProjDoRefIdeal.nD Cert.ProjDoRefIdeal.τ Cert.ProjDoRefIdeal.sig) → Buf (Elt Ideal) ℓ) (g' : Dev Cert.ProjDoRefIdeal.nD → PrngReg), Pre_ProjDoIdeal m →
    (∀ c : Dev Cert.ProjDoIdeal.nD,
      m' ((c.tc : Thread Cert.ProjDoRefIdeal.nD Cert.ProjDoRefIdeal.τ).loc Cert.ProjDoRefIdeal.main_arg0) = m ((c.tc : Thread Cert.ProjDoIdeal.nD Cert.ProjDoIdeal.τ).loc Cert.ProjDoIdeal.main_arg0)
      ∧ m' ((c.tc : Thread Cert.ProjDoRefIdeal.nD Cert.ProjDoRefIdeal.τ).loc Cert.ProjDoRefIdeal.main_arg1) = m ((c.tc : Thread Cert.ProjDoIdeal.nD Cert.ProjDoIdeal.τ).loc Cert.ProjDoIdeal.main_arg1)) →
    ∃ (v0 : (c : Dev Cert.ProjDoIdeal.nD) → Buf (Elt Ideal) ((c.tc : Thread Cert.ProjDoIdeal.nD Cert.ProjDoIdeal.τ).loc Cert.ProjDoIdeal.main_v3)),
      θ_run (Cert.ProjDoIdeal.defs (F := Ideal)) (onTc (τ := Cert.ProjDoIdeal.τ) (Cert.ProjDoIdeal.main (F := Ideal))) ⟨m, fun _ => 0, g⟩ (fun r => ∀ c : Dev Cert.ProjDoIdeal.nD,
          r.2.mem ((c.tc : Thread Cert.ProjDoIdeal.nD Cert.ProjDoIdeal.τ).loc Cert.ProjDoIdeal.main_v3) = v0 c
          ∧ r.2.mem ((c.tc : Thread Cert.ProjDoIdeal.nD Cert.ProjDoIdeal.τ).loc Cert.ProjDoIdeal.main_arg0) = m ((c.tc : Thread Cert.ProjDoIdeal.nD Cert.ProjDoIdeal.τ).loc Cert.ProjDoIdeal.main_arg0)
          ∧ r.2.mem ((c.tc : Thread Cert.ProjDoIdeal.nD Cert.ProjDoIdeal.τ).loc Cert.ProjDoIdeal.main_arg1) = m ((c.tc : Thread Cert.ProjDoIdeal.nD Cert.ProjDoIdeal.τ).loc Cert.ProjDoIdeal.main_arg1))
      ∧ θ_run (Cert.ProjDoRefIdeal.defs (F := Ideal)) (onTc (τ := Cert.ProjDoRefIdeal.τ) (Cert.ProjDoRefIdeal.main (F := Ideal))) ⟨m', fun _ => 0, g'⟩ (fun r => ∀ c : Dev Cert.ProjDoRefIdeal.nD,
          r.2.mem ((c.tc : Thread Cert.ProjDoRefIdeal.nD Cert.ProjDoRefIdeal.τ).loc Cert.ProjDoRefIdeal.main_v2) = v0 c
          ∧ r.2.mem ((c.tc : Thread Cert.ProjDoRefIdeal.nD Cert.ProjDoRefIdeal.τ).loc Cert.ProjDoRefIdeal.main_arg0) = m' ((c.tc : Thread Cert.ProjDoRefIdeal.nD Cert.ProjDoRefIdeal.τ).loc Cert.ProjDoRefIdeal.main_arg0)
          ∧ r.2.mem ((c.tc : Thread Cert.ProjDoRefIdeal.nD Cert.ProjDoRefIdeal.τ).loc Cert.ProjDoRefIdeal.main_arg1) = m' ((c.tc : Thread Cert.ProjDoRefIdeal.nD Cert.ProjDoRefIdeal.τ).loc Cert.ProjDoRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v1)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v1) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v4) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v0) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_GateDx_GateDxIdeal : Prop :=
  True

def algebraic_GateDxIdeal_GateDxRefIdeal [hGateDxIdeal : Cert.GateDxIdeal.Facts] [hGateDxRefIdeal : Cert.GateDxRefIdeal.Facts] : Prop :=
  ∀ (m : (ℓ : Loc Cert.GateDxIdeal.nD Cert.GateDxIdeal.τ Cert.GateDxIdeal.sig) → Buf (Elt Ideal) ℓ) (g : Dev Cert.GateDxIdeal.nD → PrngReg)
    (m' : (ℓ : Loc Cert.GateDxRefIdeal.nD Cert.GateDxRefIdeal.τ Cert.GateDxRefIdeal.sig) → Buf (Elt Ideal) ℓ) (g' : Dev Cert.GateDxRefIdeal.nD → PrngReg), Pre_GateDxIdeal m →
    (∀ c : Dev Cert.GateDxIdeal.nD,
      m' ((c.tc : Thread Cert.GateDxRefIdeal.nD Cert.GateDxRefIdeal.τ).loc Cert.GateDxRefIdeal.main_arg0) = m ((c.tc : Thread Cert.GateDxIdeal.nD Cert.GateDxIdeal.τ).loc Cert.GateDxIdeal.main_arg0)
      ∧ m' ((c.tc : Thread Cert.GateDxRefIdeal.nD Cert.GateDxRefIdeal.τ).loc Cert.GateDxRefIdeal.main_arg1) = m ((c.tc : Thread Cert.GateDxIdeal.nD Cert.GateDxIdeal.τ).loc Cert.GateDxIdeal.main_arg1)
      ∧ m' ((c.tc : Thread Cert.GateDxRefIdeal.nD Cert.GateDxRefIdeal.τ).loc Cert.GateDxRefIdeal.main_arg2) = m ((c.tc : Thread Cert.GateDxIdeal.nD Cert.GateDxIdeal.τ).loc Cert.GateDxIdeal.main_arg2)) →
    ∃ (v0 : (c : Dev Cert.GateDxIdeal.nD) → Buf (Elt Ideal) ((c.tc : Thread Cert.GateDxIdeal.nD Cert.GateDxIdeal.τ).loc Cert.GateDxIdeal.main_v3)),
      θ_run (Cert.GateDxIdeal.defs (F := Ideal)) (onTc (τ := Cert.GateDxIdeal.τ) (Cert.GateDxIdeal.main (F := Ideal))) ⟨m, fun _ => 0, g⟩ (fun r => ∀ c : Dev Cert.GateDxIdeal.nD,
          r.2.mem ((c.tc : Thread Cert.GateDxIdeal.nD Cert.GateDxIdeal.τ).loc Cert.GateDxIdeal.main_v3) = v0 c
          ∧ r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
          ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1)
          ∧ r.2.mem ((c.tc : Thread Cert.GateDxIdeal.nD Cert.GateDxIdeal.τ).loc Cert.GateDxIdeal.main_arg2) = m ((c.tc : Thread Cert.GateDxIdeal.nD Cert.GateDxIdeal.τ).loc Cert.GateDxIdeal.main_arg2))
      ∧ θ_run (Cert.GateDxRefIdeal.defs (F := Ideal)) (onTc (τ := Cert.GateDxRefIdeal.τ) (Cert.GateDxRefIdeal.main (F := Ideal))) ⟨m', fun _ => 0, g'⟩ (fun r => ∀ c : Dev Cert.GateDxRefIdeal.nD,
          r.2.mem ((c.tc : Thread Cert.GateDxRefIdeal.nD Cert.GateDxRefIdeal.τ).loc Cert.GateDxRefIdeal.main_v3) = v0 c
          ∧ r.2.mem ((c.tc : Thread Cert.GateDxRefIdeal.nD Cert.GateDxRefIdeal.τ).loc Cert.GateDxRefIdeal.main_arg0) = m' ((c.tc : Thread Cert.GateDxRefIdeal.nD Cert.GateDxRefIdeal.τ).loc Cert.GateDxRefIdeal.main_arg0)
          ∧ r.2.mem ((c.tc : Thread Cert.GateDxRefIdeal.nD Cert.GateDxRefIdeal.τ).loc Cert.GateDxRefIdeal.main_arg1) = m' ((c.tc : Thread Cert.GateDxRefIdeal.nD Cert.GateDxRefIdeal.τ).loc Cert.GateDxRefIdeal.main_arg1)
          ∧ r.2.mem ((c.tc : Thread Cert.GateDxRefIdeal.nD Cert.GateDxRefIdeal.τ).loc Cert.GateDxRefIdeal.main_arg2) = m' ((c.tc : Thread Cert.GateDxRefIdeal.nD Cert.GateDxRefIdeal.τ).loc Cert.GateDxRefIdeal.main_arg2))

def preserves_FoxIn_FoxInIdeal : Prop :=
  True

def algebraic_FoxInIdeal_FoxInRefIdeal [hFoxInIdeal : Cert.FoxInIdeal.Facts] [hFoxInRefIdeal : Cert.FoxInRefIdeal.Facts] : Prop :=
  ∀ (m : (ℓ : Loc Cert.FoxInIdeal.nD Cert.FoxInIdeal.τ Cert.FoxInIdeal.sig) → Buf (Elt Ideal) ℓ) (g : Dev Cert.FoxInIdeal.nD → PrngReg)
    (m' : (ℓ : Loc Cert.FoxInRefIdeal.nD Cert.FoxInRefIdeal.τ Cert.FoxInRefIdeal.sig) → Buf (Elt Ideal) ℓ) (g' : Dev Cert.FoxInRefIdeal.nD → PrngReg), Pre_FoxInIdeal m →
    (∀ c : Dev Cert.FoxInIdeal.nD,
      m' ((c.tc : Thread Cert.FoxInRefIdeal.nD Cert.FoxInRefIdeal.τ).loc Cert.FoxInRefIdeal.main_arg0) = m ((c.tc : Thread Cert.FoxInIdeal.nD Cert.FoxInIdeal.τ).loc Cert.FoxInIdeal.main_arg0)
      ∧ m' ((c.tc : Thread Cert.FoxInRefIdeal.nD Cert.FoxInRefIdeal.τ).loc Cert.FoxInRefIdeal.main_arg1) = m ((c.tc : Thread Cert.FoxInIdeal.nD Cert.FoxInIdeal.τ).loc Cert.FoxInIdeal.main_arg1)) →
    ∃ (v0 : (c : Dev Cert.FoxInIdeal.nD) → Buf (Elt Ideal) ((c.tc : Thread Cert.FoxInIdeal.nD Cert.FoxInIdeal.τ).loc Cert.FoxInIdeal.main_v2)),
      θ_run (Cert.FoxInIdeal.defs (F := Ideal)) (onTc (τ := Cert.FoxInIdeal.τ) (Cert.FoxInIdeal.main (F := Ideal))) ⟨m, fun _ => 0, g⟩ (fun r => ∀ c : Dev Cert.FoxInIdeal.nD,
          r.2.mem ((c.tc : Thread Cert.FoxInIdeal.nD Cert.FoxInIdeal.τ).loc Cert.FoxInIdeal.main_v2) = v0 c
          ∧ r.2.mem ((c.tc : Thread Cert.FoxInIdeal.nD Cert.FoxInIdeal.τ).loc Cert.FoxInIdeal.main_arg0) = m ((c.tc : Thread Cert.FoxInIdeal.nD Cert.FoxInIdeal.τ).loc Cert.FoxInIdeal.main_arg0)
          ∧ r.2.mem ((c.tc : Thread Cert.FoxInIdeal.nD Cert.FoxInIdeal.τ).loc Cert.FoxInIdeal.main_arg1) = m ((c.tc : Thread Cert.FoxInIdeal.nD Cert.FoxInIdeal.τ).loc Cert.FoxInIdeal.main_arg1))
      ∧ θ_run (Cert.FoxInRefIdeal.defs (F := Ideal)) (onTc (τ := Cert.FoxInRefIdeal.τ) (Cert.FoxInRefIdeal.main (F := Ideal))) ⟨m', fun _ => 0, g'⟩ (fun r => ∀ c : Dev Cert.FoxInRefIdeal.nD,
          r.2.mem ((c.tc : Thread Cert.FoxInRefIdeal.nD Cert.FoxInRefIdeal.τ).loc Cert.FoxInRefIdeal.main_v0) = v0 c
          ∧ r.2.mem ((c.tc : Thread Cert.FoxInRefIdeal.nD Cert.FoxInRefIdeal.τ).loc Cert.FoxInRefIdeal.main_arg0) = m' ((c.tc : Thread Cert.FoxInRefIdeal.nD Cert.FoxInRefIdeal.τ).loc Cert.FoxInRefIdeal.main_arg0)
          ∧ r.2.mem ((c.tc : Thread Cert.FoxInRefIdeal.nD Cert.FoxInRefIdeal.τ).loc Cert.FoxInRefIdeal.main_arg1) = m' ((c.tc : Thread Cert.FoxInRefIdeal.nD Cert.FoxInRefIdeal.τ).loc Cert.FoxInRefIdeal.main_arg1))

def preserves_FoxDw_FoxDwIdeal : Prop :=
  True

def algebraic_FoxDwIdeal_FoxDwRefIdeal [hFoxDwIdeal : Cert.FoxDwIdeal.Facts] [hFoxDwRefIdeal : Cert.FoxDwRefIdeal.Facts] : Prop :=
  ∀ (m : (ℓ : Loc Cert.FoxDwIdeal.nD Cert.FoxDwIdeal.τ Cert.FoxDwIdeal.sig) → Buf (Elt Ideal) ℓ) (g : Dev Cert.FoxDwIdeal.nD → PrngReg)
    (m' : (ℓ : Loc Cert.FoxDwRefIdeal.nD Cert.FoxDwRefIdeal.τ Cert.FoxDwRefIdeal.sig) → Buf (Elt Ideal) ℓ) (g' : Dev Cert.FoxDwRefIdeal.nD → PrngReg), Pre_FoxDwIdeal m →
    (∀ c : Dev Cert.FoxDwIdeal.nD,
      m' ((c.tc : Thread Cert.FoxDwRefIdeal.nD Cert.FoxDwRefIdeal.τ).loc Cert.FoxDwRefIdeal.main_arg0) = m ((c.tc : Thread Cert.FoxDwIdeal.nD Cert.FoxDwIdeal.τ).loc Cert.FoxDwIdeal.main_arg0)
      ∧ m' ((c.tc : Thread Cert.FoxDwRefIdeal.nD Cert.FoxDwRefIdeal.τ).loc Cert.FoxDwRefIdeal.main_arg1) = m ((c.tc : Thread Cert.FoxDwIdeal.nD Cert.FoxDwIdeal.τ).loc Cert.FoxDwIdeal.main_arg1)) →
    ∃ (v0 : (c : Dev Cert.FoxDwIdeal.nD) → Buf (Elt Ideal) ((c.tc : Thread Cert.FoxDwIdeal.nD Cert.FoxDwIdeal.τ).loc Cert.FoxDwIdeal.main_v2)),
      θ_run (Cert.FoxDwIdeal.defs (F := Ideal)) (onTc (τ := Cert.FoxDwIdeal.τ) (Cert.FoxDwIdeal.main (F := Ideal))) ⟨m, fun _ => 0, g⟩ (fun r => ∀ c : Dev Cert.FoxDwIdeal.nD,
          r.2.mem ((c.tc : Thread Cert.FoxDwIdeal.nD Cert.FoxDwIdeal.τ).loc Cert.FoxDwIdeal.main_v2) = v0 c
          ∧ r.2.mem ((c.tc : Thread Cert.FoxDwIdeal.nD Cert.FoxDwIdeal.τ).loc Cert.FoxDwIdeal.main_arg0) = m ((c.tc : Thread Cert.FoxDwIdeal.nD Cert.FoxDwIdeal.τ).loc Cert.FoxDwIdeal.main_arg0)
          ∧ r.2.mem ((c.tc : Thread Cert.FoxDwIdeal.nD Cert.FoxDwIdeal.τ).loc Cert.FoxDwIdeal.main_arg1) = m ((c.tc : Thread Cert.FoxDwIdeal.nD Cert.FoxDwIdeal.τ).loc Cert.FoxDwIdeal.main_arg1))
      ∧ θ_run (Cert.FoxDwRefIdeal.defs (F := Ideal)) (onTc (τ := Cert.FoxDwRefIdeal.τ) (Cert.FoxDwRefIdeal.main (F := Ideal))) ⟨m', fun _ => 0, g'⟩ (fun r => ∀ c : Dev Cert.FoxDwRefIdeal.nD,
          r.2.mem ((c.tc : Thread Cert.FoxDwRefIdeal.nD Cert.FoxDwRefIdeal.τ).loc Cert.FoxDwRefIdeal.main_v4) = v0 c
          ∧ r.2.mem ((c.tc : Thread Cert.FoxDwRefIdeal.nD Cert.FoxDwRefIdeal.τ).loc Cert.FoxDwRefIdeal.main_arg0) = m' ((c.tc : Thread Cert.FoxDwRefIdeal.nD Cert.FoxDwRefIdeal.τ).loc Cert.FoxDwRefIdeal.main_arg0)
          ∧ r.2.mem ((c.tc : Thread Cert.FoxDwRefIdeal.nD Cert.FoxDwRefIdeal.τ).loc Cert.FoxDwRefIdeal.main_arg1) = m' ((c.tc : Thread Cert.FoxDwRefIdeal.nD Cert.FoxDwRefIdeal.τ).loc Cert.FoxDwRefIdeal.main_arg1))

def preserves_FoxDhn_FoxDhnIdeal : Prop :=
  True

def algebraic_FoxDhnIdeal_FoxDhnRefIdeal [hFoxDhnIdeal : Cert.FoxDhnIdeal.Facts] [hFoxDhnRefIdeal : Cert.FoxDhnRefIdeal.Facts] : Prop :=
  ∀ (m : (ℓ : Loc Cert.FoxDhnIdeal.nD Cert.FoxDhnIdeal.τ Cert.FoxDhnIdeal.sig) → Buf (Elt Ideal) ℓ) (g : Dev Cert.FoxDhnIdeal.nD → PrngReg)
    (m' : (ℓ : Loc Cert.FoxDhnRefIdeal.nD Cert.FoxDhnRefIdeal.τ Cert.FoxDhnRefIdeal.sig) → Buf (Elt Ideal) ℓ) (g' : Dev Cert.FoxDhnRefIdeal.nD → PrngReg), Pre_FoxDhnIdeal m →
    (∀ c : Dev Cert.FoxDhnIdeal.nD,
      m' ((c.tc : Thread Cert.FoxDhnRefIdeal.nD Cert.FoxDhnRefIdeal.τ).loc Cert.FoxDhnRefIdeal.main_arg0) = m ((c.tc : Thread Cert.FoxDhnIdeal.nD Cert.FoxDhnIdeal.τ).loc Cert.FoxDhnIdeal.main_arg0)
      ∧ m' ((c.tc : Thread Cert.FoxDhnRefIdeal.nD Cert.FoxDhnRefIdeal.τ).loc Cert.FoxDhnRefIdeal.main_arg1) = m ((c.tc : Thread Cert.FoxDhnIdeal.nD Cert.FoxDhnIdeal.τ).loc Cert.FoxDhnIdeal.main_arg1)) →
    ∃ (v0 : (c : Dev Cert.FoxDhnIdeal.nD) → Buf (Elt Ideal) ((c.tc : Thread Cert.FoxDhnIdeal.nD Cert.FoxDhnIdeal.τ).loc Cert.FoxDhnIdeal.main_v2)),
      θ_run (Cert.FoxDhnIdeal.defs (F := Ideal)) (onTc (τ := Cert.FoxDhnIdeal.τ) (Cert.FoxDhnIdeal.main (F := Ideal))) ⟨m, fun _ => 0, g⟩ (fun r => ∀ c : Dev Cert.FoxDhnIdeal.nD,
          r.2.mem ((c.tc : Thread Cert.FoxDhnIdeal.nD Cert.FoxDhnIdeal.τ).loc Cert.FoxDhnIdeal.main_v2) = v0 c
          ∧ r.2.mem ((c.tc : Thread Cert.FoxDhnIdeal.nD Cert.FoxDhnIdeal.τ).loc Cert.FoxDhnIdeal.main_arg0) = m ((c.tc : Thread Cert.FoxDhnIdeal.nD Cert.FoxDhnIdeal.τ).loc Cert.FoxDhnIdeal.main_arg0)
          ∧ r.2.mem ((c.tc : Thread Cert.FoxDhnIdeal.nD Cert.FoxDhnIdeal.τ).loc Cert.FoxDhnIdeal.main_arg1) = m ((c.tc : Thread Cert.FoxDhnIdeal.nD Cert.FoxDhnIdeal.τ).loc Cert.FoxDhnIdeal.main_arg1))
      ∧ θ_run (Cert.FoxDhnRefIdeal.defs (F := Ideal)) (onTc (τ := Cert.FoxDhnRefIdeal.τ) (Cert.FoxDhnRefIdeal.main (F := Ideal))) ⟨m', fun _ => 0, g'⟩ (fun r => ∀ c : Dev Cert.FoxDhnRefIdeal.nD,
          r.2.mem ((c.tc : Thread Cert.FoxDhnRefIdeal.nD Cert.FoxDhnRefIdeal.τ).loc Cert.FoxDhnRefIdeal.main_v2) = v0 c
          ∧ r.2.mem ((c.tc : Thread Cert.FoxDhnRefIdeal.nD Cert.FoxDhnRefIdeal.τ).loc Cert.FoxDhnRefIdeal.main_arg0) = m' ((c.tc : Thread Cert.FoxDhnRefIdeal.nD Cert.FoxDhnRefIdeal.τ).loc Cert.FoxDhnRefIdeal.main_arg0)
          ∧ r.2.mem ((c.tc : Thread Cert.FoxDhnRefIdeal.nD Cert.FoxDhnRefIdeal.τ).loc Cert.FoxDhnRefIdeal.main_arg1) = m' ((c.tc : Thread Cert.FoxDhnRefIdeal.nD Cert.FoxDhnRefIdeal.τ).loc Cert.FoxDhnRefIdeal.main_arg1))

def preserves_MlaA_MlaAIdeal : Prop :=
  True

def algebraic_MlaAIdeal_MlaARefIdeal [hMlaAIdeal : Cert.MlaAIdeal.Facts] [hMlaARefIdeal : Cert.MlaARefIdeal.Facts] : Prop :=
  ∀ (m : (ℓ : Loc Cert.MlaAIdeal.nD Cert.MlaAIdeal.τ Cert.MlaAIdeal.sig) → Buf (Elt Ideal) ℓ) (g : Dev Cert.MlaAIdeal.nD → PrngReg)
    (m' : (ℓ : Loc Cert.MlaARefIdeal.nD Cert.MlaARefIdeal.τ Cert.MlaARefIdeal.sig) → Buf (Elt Ideal) ℓ) (g' : Dev Cert.MlaARefIdeal.nD → PrngReg), Pre_MlaAIdeal m →
    (∀ c : Dev Cert.MlaAIdeal.nD,
      m' ((c.tc : Thread Cert.MlaARefIdeal.nD Cert.MlaARefIdeal.τ).loc Cert.MlaARefIdeal.main_arg0) = m ((c.tc : Thread Cert.MlaAIdeal.nD Cert.MlaAIdeal.τ).loc Cert.MlaAIdeal.main_arg0)
      ∧ m' ((c.tc : Thread Cert.MlaARefIdeal.nD Cert.MlaARefIdeal.τ).loc Cert.MlaARefIdeal.main_arg1) = m ((c.tc : Thread Cert.MlaAIdeal.nD Cert.MlaAIdeal.τ).loc Cert.MlaAIdeal.main_arg1)) →
    ∃ (v0 : (c : Dev Cert.MlaAIdeal.nD) → Buf (Elt Ideal) ((c.tc : Thread Cert.MlaAIdeal.nD Cert.MlaAIdeal.τ).loc Cert.MlaAIdeal.main_v2)),
      θ_run (Cert.MlaAIdeal.defs (F := Ideal)) (onTc (τ := Cert.MlaAIdeal.τ) (Cert.MlaAIdeal.main (F := Ideal))) ⟨m, fun _ => 0, g⟩ (fun r => ∀ c : Dev Cert.MlaAIdeal.nD,
          r.2.mem ((c.tc : Thread Cert.MlaAIdeal.nD Cert.MlaAIdeal.τ).loc Cert.MlaAIdeal.main_v2) = v0 c
          ∧ r.2.mem ((c.tc : Thread Cert.MlaAIdeal.nD Cert.MlaAIdeal.τ).loc Cert.MlaAIdeal.main_arg0) = m ((c.tc : Thread Cert.MlaAIdeal.nD Cert.MlaAIdeal.τ).loc Cert.MlaAIdeal.main_arg0)
          ∧ r.2.mem ((c.tc : Thread Cert.MlaAIdeal.nD Cert.MlaAIdeal.τ).loc Cert.MlaAIdeal.main_arg1) = m ((c.tc : Thread Cert.MlaAIdeal.nD Cert.MlaAIdeal.τ).loc Cert.MlaAIdeal.main_arg1))
      ∧ θ_run (Cert.MlaARefIdeal.defs (F := Ideal)) (onTc (τ := Cert.MlaARefIdeal.τ) (Cert.MlaARefIdeal.main (F := Ideal))) ⟨m', fun _ => 0, g'⟩ (fun r => ∀ c : Dev Cert.MlaARefIdeal.nD,
          r.2.mem ((c.tc : Thread Cert.MlaARefIdeal.nD Cert.MlaARefIdeal.τ).loc Cert.MlaARefIdeal.main_v0) = v0 c
          ∧ r.2.mem ((c.tc : Thread Cert.MlaARefIdeal.nD Cert.MlaARefIdeal.τ).loc Cert.MlaARefIdeal.main_arg0) = m' ((c.tc : Thread Cert.MlaARefIdeal.nD Cert.MlaARefIdeal.τ).loc Cert.MlaARefIdeal.main_arg0)
          ∧ r.2.mem ((c.tc : Thread Cert.MlaARefIdeal.nD Cert.MlaARefIdeal.τ).loc Cert.MlaARefIdeal.main_arg1) = m' ((c.tc : Thread Cert.MlaARefIdeal.nD Cert.MlaARefIdeal.τ).loc Cert.MlaARefIdeal.main_arg1))

def preserves_MlaUq_MlaUqIdeal : Prop :=
  True

def algebraic_MlaUqIdeal_MlaUqRefIdeal [hMlaUqIdeal : Cert.MlaUqIdeal.Facts] [hMlaUqRefIdeal : Cert.MlaUqRefIdeal.Facts] : Prop :=
  ∀ (m : (ℓ : Loc Cert.MlaUqIdeal.nD Cert.MlaUqIdeal.τ Cert.MlaUqIdeal.sig) → Buf (Elt Ideal) ℓ) (g : Dev Cert.MlaUqIdeal.nD → PrngReg)
    (m' : (ℓ : Loc Cert.MlaUqRefIdeal.nD Cert.MlaUqRefIdeal.τ Cert.MlaUqRefIdeal.sig) → Buf (Elt Ideal) ℓ) (g' : Dev Cert.MlaUqRefIdeal.nD → PrngReg), Pre_MlaUqIdeal m →
    (∀ c : Dev Cert.MlaUqIdeal.nD,
      m' ((c.tc : Thread Cert.MlaUqRefIdeal.nD Cert.MlaUqRefIdeal.τ).loc Cert.MlaUqRefIdeal.main_arg0) = m ((c.tc : Thread Cert.MlaUqIdeal.nD Cert.MlaUqIdeal.τ).loc Cert.MlaUqIdeal.main_arg0)
      ∧ m' ((c.tc : Thread Cert.MlaUqRefIdeal.nD Cert.MlaUqRefIdeal.τ).loc Cert.MlaUqRefIdeal.main_arg1) = m ((c.tc : Thread Cert.MlaUqIdeal.nD Cert.MlaUqIdeal.τ).loc Cert.MlaUqIdeal.main_arg1)) →
    ∃ (v0 : (c : Dev Cert.MlaUqIdeal.nD) → Buf (Elt Ideal) ((c.tc : Thread Cert.MlaUqIdeal.nD Cert.MlaUqIdeal.τ).loc Cert.MlaUqIdeal.main_v2)),
      θ_run (Cert.MlaUqIdeal.defs (F := Ideal)) (onTc (τ := Cert.MlaUqIdeal.τ) (Cert.MlaUqIdeal.main (F := Ideal))) ⟨m, fun _ => 0, g⟩ (fun r => ∀ c : Dev Cert.MlaUqIdeal.nD,
          r.2.mem ((c.tc : Thread Cert.MlaUqIdeal.nD Cert.MlaUqIdeal.τ).loc Cert.MlaUqIdeal.main_v2) = v0 c
          ∧ r.2.mem ((c.tc : Thread Cert.MlaUqIdeal.nD Cert.MlaUqIdeal.τ).loc Cert.MlaUqIdeal.main_arg0) = m ((c.tc : Thread Cert.MlaUqIdeal.nD Cert.MlaUqIdeal.τ).loc Cert.MlaUqIdeal.main_arg0)
          ∧ r.2.mem ((c.tc : Thread Cert.MlaUqIdeal.nD Cert.MlaUqIdeal.τ).loc Cert.MlaUqIdeal.main_arg1) = m ((c.tc : Thread Cert.MlaUqIdeal.nD Cert.MlaUqIdeal.τ).loc Cert.MlaUqIdeal.main_arg1))
      ∧ θ_run (Cert.MlaUqRefIdeal.defs (F := Ideal)) (onTc (τ := Cert.MlaUqRefIdeal.τ) (Cert.MlaUqRefIdeal.main (F := Ideal))) ⟨m', fun _ => 0, g'⟩ (fun r => ∀ c : Dev Cert.MlaUqRefIdeal.nD,
          r.2.mem ((c.tc : Thread Cert.MlaUqRefIdeal.nD Cert.MlaUqRefIdeal.τ).loc Cert.MlaUqRefIdeal.main_v0) = v0 c
          ∧ r.2.mem ((c.tc : Thread Cert.MlaUqRefIdeal.nD Cert.MlaUqRefIdeal.τ).loc Cert.MlaUqRefIdeal.main_arg0) = m' ((c.tc : Thread Cert.MlaUqRefIdeal.nD Cert.MlaUqRefIdeal.τ).loc Cert.MlaUqRefIdeal.main_arg0)
          ∧ r.2.mem ((c.tc : Thread Cert.MlaUqRefIdeal.nD Cert.MlaUqRefIdeal.τ).loc Cert.MlaUqRefIdeal.main_arg1) = m' ((c.tc : Thread Cert.MlaUqRefIdeal.nD Cert.MlaUqRefIdeal.τ).loc Cert.MlaUqRefIdeal.main_arg1))

def preserves_MlaUkv_MlaUkvIdeal : Prop :=
  True

def algebraic_MlaUkvIdeal_MlaUkvRefIdeal [hMlaUkvIdeal : Cert.MlaUkvIdeal.Facts] [hMlaUkvRefIdeal : Cert.MlaUkvRefIdeal.Facts] : Prop :=
  ∀ (m : (ℓ : Loc Cert.MlaUkvIdeal.nD Cert.MlaUkvIdeal.τ Cert.MlaUkvIdeal.sig) → Buf (Elt Ideal) ℓ) (g : Dev Cert.MlaUkvIdeal.nD → PrngReg)
    (m' : (ℓ : Loc Cert.MlaUkvRefIdeal.nD Cert.MlaUkvRefIdeal.τ Cert.MlaUkvRefIdeal.sig) → Buf (Elt Ideal) ℓ) (g' : Dev Cert.MlaUkvRefIdeal.nD → PrngReg), Pre_MlaUkvIdeal m →
    (∀ c : Dev Cert.MlaUkvIdeal.nD,
      m' ((c.tc : Thread Cert.MlaUkvRefIdeal.nD Cert.MlaUkvRefIdeal.τ).loc Cert.MlaUkvRefIdeal.main_arg0) = m ((c.tc : Thread Cert.MlaUkvIdeal.nD Cert.MlaUkvIdeal.τ).loc Cert.MlaUkvIdeal.main_arg0)
      ∧ m' ((c.tc : Thread Cert.MlaUkvRefIdeal.nD Cert.MlaUkvRefIdeal.τ).loc Cert.MlaUkvRefIdeal.main_arg1) = m ((c.tc : Thread Cert.MlaUkvIdeal.nD Cert.MlaUkvIdeal.τ).loc Cert.MlaUkvIdeal.main_arg1)) →
    ∃ (v0 : (c : Dev Cert.MlaUkvIdeal.nD) → Buf (Elt Ideal) ((c.tc : Thread Cert.MlaUkvIdeal.nD Cert.MlaUkvIdeal.τ).loc Cert.MlaUkvIdeal.main_v2)),
      θ_run (Cert.MlaUkvIdeal.defs (F := Ideal)) (onTc (τ := Cert.MlaUkvIdeal.τ) (Cert.MlaUkvIdeal.main (F := Ideal))) ⟨m, fun _ => 0, g⟩ (fun r => ∀ c : Dev Cert.MlaUkvIdeal.nD,
          r.2.mem ((c.tc : Thread Cert.MlaUkvIdeal.nD Cert.MlaUkvIdeal.τ).loc Cert.MlaUkvIdeal.main_v2) = v0 c
          ∧ r.2.mem ((c.tc : Thread Cert.MlaUkvIdeal.nD Cert.MlaUkvIdeal.τ).loc Cert.MlaUkvIdeal.main_arg0) = m ((c.tc : Thread Cert.MlaUkvIdeal.nD Cert.MlaUkvIdeal.τ).loc Cert.MlaUkvIdeal.main_arg0)
          ∧ r.2.mem ((c.tc : Thread Cert.MlaUkvIdeal.nD Cert.MlaUkvIdeal.τ).loc Cert.MlaUkvIdeal.main_arg1) = m ((c.tc : Thread Cert.MlaUkvIdeal.nD Cert.MlaUkvIdeal.τ).loc Cert.MlaUkvIdeal.main_arg1))
      ∧ θ_run (Cert.MlaUkvRefIdeal.defs (F := Ideal)) (onTc (τ := Cert.MlaUkvRefIdeal.τ) (Cert.MlaUkvRefIdeal.main (F := Ideal))) ⟨m', fun _ => 0, g'⟩ (fun r => ∀ c : Dev Cert.MlaUkvRefIdeal.nD,
          r.2.mem ((c.tc : Thread Cert.MlaUkvRefIdeal.nD Cert.MlaUkvRefIdeal.τ).loc Cert.MlaUkvRefIdeal.main_v0) = v0 c
          ∧ r.2.mem ((c.tc : Thread Cert.MlaUkvRefIdeal.nD Cert.MlaUkvRefIdeal.τ).loc Cert.MlaUkvRefIdeal.main_arg0) = m' ((c.tc : Thread Cert.MlaUkvRefIdeal.nD Cert.MlaUkvRefIdeal.τ).loc Cert.MlaUkvRefIdeal.main_arg0)
          ∧ r.2.mem ((c.tc : Thread Cert.MlaUkvRefIdeal.nD Cert.MlaUkvRefIdeal.τ).loc Cert.MlaUkvRefIdeal.main_arg1) = m' ((c.tc : Thread Cert.MlaUkvRefIdeal.nD Cert.MlaUkvRefIdeal.τ).loc Cert.MlaUkvRefIdeal.main_arg1))

def preserves_MlaDuq_MlaDuqIdeal : Prop :=
  True

def algebraic_MlaDuqIdeal_MlaDuqRefIdeal [hMlaDuqIdeal : Cert.MlaDuqIdeal.Facts] [hMlaDuqRefIdeal : Cert.MlaDuqRefIdeal.Facts] : Prop :=
  ∀ (m : (ℓ : Loc Cert.MlaDuqIdeal.nD Cert.MlaDuqIdeal.τ Cert.MlaDuqIdeal.sig) → Buf (Elt Ideal) ℓ) (g : Dev Cert.MlaDuqIdeal.nD → PrngReg)
    (m' : (ℓ : Loc Cert.MlaDuqRefIdeal.nD Cert.MlaDuqRefIdeal.τ Cert.MlaDuqRefIdeal.sig) → Buf (Elt Ideal) ℓ) (g' : Dev Cert.MlaDuqRefIdeal.nD → PrngReg), Pre_MlaDuqIdeal m →
    (∀ c : Dev Cert.MlaDuqIdeal.nD,
      m' ((c.tc : Thread Cert.MlaDuqRefIdeal.nD Cert.MlaDuqRefIdeal.τ).loc Cert.MlaDuqRefIdeal.main_arg0) = m ((c.tc : Thread Cert.MlaDuqIdeal.nD Cert.MlaDuqIdeal.τ).loc Cert.MlaDuqIdeal.main_arg0)
      ∧ m' ((c.tc : Thread Cert.MlaDuqRefIdeal.nD Cert.MlaDuqRefIdeal.τ).loc Cert.MlaDuqRefIdeal.main_arg1) = m ((c.tc : Thread Cert.MlaDuqIdeal.nD Cert.MlaDuqIdeal.τ).loc Cert.MlaDuqIdeal.main_arg1)) →
    ∃ (v0 : (c : Dev Cert.MlaDuqIdeal.nD) → Buf (Elt Ideal) ((c.tc : Thread Cert.MlaDuqIdeal.nD Cert.MlaDuqIdeal.τ).loc Cert.MlaDuqIdeal.main_v2)),
      θ_run (Cert.MlaDuqIdeal.defs (F := Ideal)) (onTc (τ := Cert.MlaDuqIdeal.τ) (Cert.MlaDuqIdeal.main (F := Ideal))) ⟨m, fun _ => 0, g⟩ (fun r => ∀ c : Dev Cert.MlaDuqIdeal.nD,
          r.2.mem ((c.tc : Thread Cert.MlaDuqIdeal.nD Cert.MlaDuqIdeal.τ).loc Cert.MlaDuqIdeal.main_v2) = v0 c
          ∧ r.2.mem ((c.tc : Thread Cert.MlaDuqIdeal.nD Cert.MlaDuqIdeal.τ).loc Cert.MlaDuqIdeal.main_arg0) = m ((c.tc : Thread Cert.MlaDuqIdeal.nD Cert.MlaDuqIdeal.τ).loc Cert.MlaDuqIdeal.main_arg0)
          ∧ r.2.mem ((c.tc : Thread Cert.MlaDuqIdeal.nD Cert.MlaDuqIdeal.τ).loc Cert.MlaDuqIdeal.main_arg1) = m ((c.tc : Thread Cert.MlaDuqIdeal.nD Cert.MlaDuqIdeal.τ).loc Cert.MlaDuqIdeal.main_arg1))
      ∧ θ_run (Cert.MlaDuqRefIdeal.defs (F := Ideal)) (onTc (τ := Cert.MlaDuqRefIdeal.τ) (Cert.MlaDuqRefIdeal.main (F := Ideal))) ⟨m', fun _ => 0, g'⟩ (fun r => ∀ c : Dev Cert.MlaDuqRefIdeal.nD,
          r.2.mem ((c.tc : Thread Cert.MlaDuqRefIdeal.nD Cert.MlaDuqRefIdeal.τ).loc Cert.MlaDuqRefIdeal.main_v4) = v0 c
          ∧ r.2.mem ((c.tc : Thread Cert.MlaDuqRefIdeal.nD Cert.MlaDuqRefIdeal.τ).loc Cert.MlaDuqRefIdeal.main_arg0) = m' ((c.tc : Thread Cert.MlaDuqRefIdeal.nD Cert.MlaDuqRefIdeal.τ).loc Cert.MlaDuqRefIdeal.main_arg0)
          ∧ r.2.mem ((c.tc : Thread Cert.MlaDuqRefIdeal.nD Cert.MlaDuqRefIdeal.τ).loc Cert.MlaDuqRefIdeal.main_arg1) = m' ((c.tc : Thread Cert.MlaDuqRefIdeal.nD Cert.MlaDuqRefIdeal.τ).loc Cert.MlaDuqRefIdeal.main_arg1))

def preserves_MlaDcq_MlaDcqIdeal : Prop :=
  True

def algebraic_MlaDcqIdeal_MlaDcqRefIdeal [hMlaDcqIdeal : Cert.MlaDcqIdeal.Facts] [hMlaDcqRefIdeal : Cert.MlaDcqRefIdeal.Facts] : Prop :=
  ∀ (m : (ℓ : Loc Cert.MlaDcqIdeal.nD Cert.MlaDcqIdeal.τ Cert.MlaDcqIdeal.sig) → Buf (Elt Ideal) ℓ) (g : Dev Cert.MlaDcqIdeal.nD → PrngReg)
    (m' : (ℓ : Loc Cert.MlaDcqRefIdeal.nD Cert.MlaDcqRefIdeal.τ Cert.MlaDcqRefIdeal.sig) → Buf (Elt Ideal) ℓ) (g' : Dev Cert.MlaDcqRefIdeal.nD → PrngReg), Pre_MlaDcqIdeal m →
    (∀ c : Dev Cert.MlaDcqIdeal.nD,
      m' ((c.tc : Thread Cert.MlaDcqRefIdeal.nD Cert.MlaDcqRefIdeal.τ).loc Cert.MlaDcqRefIdeal.main_arg0) = m ((c.tc : Thread Cert.MlaDcqIdeal.nD Cert.MlaDcqIdeal.τ).loc Cert.MlaDcqIdeal.main_arg0)
      ∧ m' ((c.tc : Thread Cert.MlaDcqRefIdeal.nD Cert.MlaDcqRefIdeal.τ).loc Cert.MlaDcqRefIdeal.main_arg1) = m ((c.tc : Thread Cert.MlaDcqIdeal.nD Cert.MlaDcqIdeal.τ).loc Cert.MlaDcqIdeal.main_arg1)) →
    ∃ (v0 : (c : Dev Cert.MlaDcqIdeal.nD) → Buf (Elt Ideal) ((c.tc : Thread Cert.MlaDcqIdeal.nD Cert.MlaDcqIdeal.τ).loc Cert.MlaDcqIdeal.main_v2)),
      θ_run (Cert.MlaDcqIdeal.defs (F := Ideal)) (onTc (τ := Cert.MlaDcqIdeal.τ) (Cert.MlaDcqIdeal.main (F := Ideal))) ⟨m, fun _ => 0, g⟩ (fun r => ∀ c : Dev Cert.MlaDcqIdeal.nD,
          r.2.mem ((c.tc : Thread Cert.MlaDcqIdeal.nD Cert.MlaDcqIdeal.τ).loc Cert.MlaDcqIdeal.main_v2) = v0 c
          ∧ r.2.mem ((c.tc : Thread Cert.MlaDcqIdeal.nD Cert.MlaDcqIdeal.τ).loc Cert.MlaDcqIdeal.main_arg0) = m ((c.tc : Thread Cert.MlaDcqIdeal.nD Cert.MlaDcqIdeal.τ).loc Cert.MlaDcqIdeal.main_arg0)
          ∧ r.2.mem ((c.tc : Thread Cert.MlaDcqIdeal.nD Cert.MlaDcqIdeal.τ).loc Cert.MlaDcqIdeal.main_arg1) = m ((c.tc : Thread Cert.MlaDcqIdeal.nD Cert.MlaDcqIdeal.τ).loc Cert.MlaDcqIdeal.main_arg1))
      ∧ θ_run (Cert.MlaDcqRefIdeal.defs (F := Ideal)) (onTc (τ := Cert.MlaDcqRefIdeal.τ) (Cert.MlaDcqRefIdeal.main (F := Ideal))) ⟨m', fun _ => 0, g'⟩ (fun r => ∀ c : Dev Cert.MlaDcqRefIdeal.nD,
          r.2.mem ((c.tc : Thread Cert.MlaDcqRefIdeal.nD Cert.MlaDcqRefIdeal.τ).loc Cert.MlaDcqRefIdeal.main_v2) = v0 c
          ∧ r.2.mem ((c.tc : Thread Cert.MlaDcqRefIdeal.nD Cert.MlaDcqRefIdeal.τ).loc Cert.MlaDcqRefIdeal.main_arg0) = m' ((c.tc : Thread Cert.MlaDcqRefIdeal.nD Cert.MlaDcqRefIdeal.τ).loc Cert.MlaDcqRefIdeal.main_arg0)
          ∧ r.2.mem ((c.tc : Thread Cert.MlaDcqRefIdeal.nD Cert.MlaDcqRefIdeal.τ).loc Cert.MlaDcqRefIdeal.main_arg1) = m' ((c.tc : Thread Cert.MlaDcqRefIdeal.nD Cert.MlaDcqRefIdeal.τ).loc Cert.MlaDcqRefIdeal.main_arg1))

def preserves_MlaDukv_MlaDukvIdeal : Prop :=
  True

def algebraic_MlaDukvIdeal_MlaDukvRefIdeal [hMlaDukvIdeal : Cert.MlaDukvIdeal.Facts] [hMlaDukvRefIdeal : Cert.MlaDukvRefIdeal.Facts] : Prop :=
  ∀ (m : (ℓ : Loc Cert.MlaDukvIdeal.nD Cert.MlaDukvIdeal.τ Cert.MlaDukvIdeal.sig) → Buf (Elt Ideal) ℓ) (g : Dev Cert.MlaDukvIdeal.nD → PrngReg)
    (m' : (ℓ : Loc Cert.MlaDukvRefIdeal.nD Cert.MlaDukvRefIdeal.τ Cert.MlaDukvRefIdeal.sig) → Buf (Elt Ideal) ℓ) (g' : Dev Cert.MlaDukvRefIdeal.nD → PrngReg), Pre_MlaDukvIdeal m →
    (∀ c : Dev Cert.MlaDukvIdeal.nD,
      m' ((c.tc : Thread Cert.MlaDukvRefIdeal.nD Cert.MlaDukvRefIdeal.τ).loc Cert.MlaDukvRefIdeal.main_arg0) = m ((c.tc : Thread Cert.MlaDukvIdeal.nD Cert.MlaDukvIdeal.τ).loc Cert.MlaDukvIdeal.main_arg0)
      ∧ m' ((c.tc : Thread Cert.MlaDukvRefIdeal.nD Cert.MlaDukvRefIdeal.τ).loc Cert.MlaDukvRefIdeal.main_arg1) = m ((c.tc : Thread Cert.MlaDukvIdeal.nD Cert.MlaDukvIdeal.τ).loc Cert.MlaDukvIdeal.main_arg1)) →
    ∃ (v0 : (c : Dev Cert.MlaDukvIdeal.nD) → Buf (Elt Ideal) ((c.tc : Thread Cert.MlaDukvIdeal.nD Cert.MlaDukvIdeal.τ).loc Cert.MlaDukvIdeal.main_v1)),
      θ_run (Cert.MlaDukvIdeal.defs (F := Ideal)) (onTc (τ := Cert.MlaDukvIdeal.τ) (Cert.MlaDukvIdeal.main (F := Ideal))) ⟨m, fun _ => 0, g⟩ (fun r => ∀ c : Dev Cert.MlaDukvIdeal.nD,
          r.2.mem ((c.tc : Thread Cert.MlaDukvIdeal.nD Cert.MlaDukvIdeal.τ).loc Cert.MlaDukvIdeal.main_v1) = v0 c
          ∧ r.2.mem ((c.tc : Thread Cert.MlaDukvIdeal.nD Cert.MlaDukvIdeal.τ).loc Cert.MlaDukvIdeal.main_arg0) = m ((c.tc : Thread Cert.MlaDukvIdeal.nD Cert.MlaDukvIdeal.τ).loc Cert.MlaDukvIdeal.main_arg0)
          ∧ r.2.mem ((c.tc : Thread Cert.MlaDukvIdeal.nD Cert.MlaDukvIdeal.τ).loc Cert.MlaDukvIdeal.main_arg1) = m ((c.tc : Thread Cert.MlaDukvIdeal.nD Cert.MlaDukvIdeal.τ).loc Cert.MlaDukvIdeal.main_arg1))
      ∧ θ_run (Cert.MlaDukvRefIdeal.defs (F := Ideal)) (onTc (τ := Cert.MlaDukvRefIdeal.τ) (Cert.MlaDukvRefIdeal.main (F := Ideal))) ⟨m', fun _ => 0, g'⟩ (fun r => ∀ c : Dev Cert.MlaDukvRefIdeal.nD,
          r.2.mem ((c.tc : Thread Cert.MlaDukvRefIdeal.nD Cert.MlaDukvRefIdeal.τ).loc Cert.MlaDukvRefIdeal.main_v4) = v0 c
          ∧ r.2.mem ((c.tc : Thread Cert.MlaDukvRefIdeal.nD Cert.MlaDukvRefIdeal.τ).loc Cert.MlaDukvRefIdeal.main_arg0) = m' ((c.tc : Thread Cert.MlaDukvRefIdeal.nD Cert.MlaDukvRefIdeal.τ).loc Cert.MlaDukvRefIdeal.main_arg0)
          ∧ r.2.mem ((c.tc : Thread Cert.MlaDukvRefIdeal.nD Cert.MlaDukvRefIdeal.τ).loc Cert.MlaDukvRefIdeal.main_arg1) = m' ((c.tc : Thread Cert.MlaDukvRefIdeal.nD Cert.MlaDukvRefIdeal.τ).loc Cert.MlaDukvRefIdeal.main_arg1))

def preserves_MlaDckv_MlaDckvIdeal : Prop :=
  True

def algebraic_MlaDckvIdeal_MlaDckvRefIdeal [hMlaDckvIdeal : Cert.MlaDckvIdeal.Facts] [hMlaDckvRefIdeal : Cert.MlaDckvRefIdeal.Facts] : Prop :=
  ∀ (m : (ℓ : Loc Cert.MlaDckvIdeal.nD Cert.MlaDckvIdeal.τ Cert.MlaDckvIdeal.sig) → Buf (Elt Ideal) ℓ) (g : Dev Cert.MlaDckvIdeal.nD → PrngReg)
    (m' : (ℓ : Loc Cert.MlaDckvRefIdeal.nD Cert.MlaDckvRefIdeal.τ Cert.MlaDckvRefIdeal.sig) → Buf (Elt Ideal) ℓ) (g' : Dev Cert.MlaDckvRefIdeal.nD → PrngReg), Pre_MlaDckvIdeal m →
    (∀ c : Dev Cert.MlaDckvIdeal.nD,
      m' ((c.tc : Thread Cert.MlaDckvRefIdeal.nD Cert.MlaDckvRefIdeal.τ).loc Cert.MlaDckvRefIdeal.main_arg0) = m ((c.tc : Thread Cert.MlaDckvIdeal.nD Cert.MlaDckvIdeal.τ).loc Cert.MlaDckvIdeal.main_arg0)
      ∧ m' ((c.tc : Thread Cert.MlaDckvRefIdeal.nD Cert.MlaDckvRefIdeal.τ).loc Cert.MlaDckvRefIdeal.main_arg1) = m ((c.tc : Thread Cert.MlaDckvIdeal.nD Cert.MlaDckvIdeal.τ).loc Cert.MlaDckvIdeal.main_arg1)) →
    ∃ (v0 : (c : Dev Cert.MlaDckvIdeal.nD) → Buf (Elt Ideal) ((c.tc : Thread Cert.MlaDckvIdeal.nD Cert.MlaDckvIdeal.τ).loc Cert.MlaDckvIdeal.main_v1)),
      θ_run (Cert.MlaDckvIdeal.defs (F := Ideal)) (onTc (τ := Cert.MlaDckvIdeal.τ) (Cert.MlaDckvIdeal.main (F := Ideal))) ⟨m, fun _ => 0, g⟩ (fun r => ∀ c : Dev Cert.MlaDckvIdeal.nD,
          r.2.mem ((c.tc : Thread Cert.MlaDckvIdeal.nD Cert.MlaDckvIdeal.τ).loc Cert.MlaDckvIdeal.main_v1) = v0 c
          ∧ r.2.mem ((c.tc : Thread Cert.MlaDckvIdeal.nD Cert.MlaDckvIdeal.τ).loc Cert.MlaDckvIdeal.main_arg0) = m ((c.tc : Thread Cert.MlaDckvIdeal.nD Cert.MlaDckvIdeal.τ).loc Cert.MlaDckvIdeal.main_arg0)
          ∧ r.2.mem ((c.tc : Thread Cert.MlaDckvIdeal.nD Cert.MlaDckvIdeal.τ).loc Cert.MlaDckvIdeal.main_arg1) = m ((c.tc : Thread Cert.MlaDckvIdeal.nD Cert.MlaDckvIdeal.τ).loc Cert.MlaDckvIdeal.main_arg1))
      ∧ θ_run (Cert.MlaDckvRefIdeal.defs (F := Ideal)) (onTc (τ := Cert.MlaDckvRefIdeal.τ) (Cert.MlaDckvRefIdeal.main (F := Ideal))) ⟨m', fun _ => 0, g'⟩ (fun r => ∀ c : Dev Cert.MlaDckvRefIdeal.nD,
          r.2.mem ((c.tc : Thread Cert.MlaDckvRefIdeal.nD Cert.MlaDckvRefIdeal.τ).loc Cert.MlaDckvRefIdeal.main_v2) = v0 c
          ∧ r.2.mem ((c.tc : Thread Cert.MlaDckvRefIdeal.nD Cert.MlaDckvRefIdeal.τ).loc Cert.MlaDckvRefIdeal.main_arg0) = m' ((c.tc : Thread Cert.MlaDckvRefIdeal.nD Cert.MlaDckvRefIdeal.τ).loc Cert.MlaDckvRefIdeal.main_arg0)
          ∧ r.2.mem ((c.tc : Thread Cert.MlaDckvRefIdeal.nD Cert.MlaDckvRefIdeal.τ).loc Cert.MlaDckvRefIdeal.main_arg1) = m' ((c.tc : Thread Cert.MlaDckvRefIdeal.nD Cert.MlaDckvRefIdeal.τ).loc Cert.MlaDckvRefIdeal.main_arg1))

def preserves_MlaDa_MlaDaIdeal : Prop :=
  True

def algebraic_MlaDaIdeal_MlaDaRefIdeal [hMlaDaIdeal : Cert.MlaDaIdeal.Facts] [hMlaDaRefIdeal : Cert.MlaDaRefIdeal.Facts] : Prop :=
  ∀ (m : (ℓ : Loc Cert.MlaDaIdeal.nD Cert.MlaDaIdeal.τ Cert.MlaDaIdeal.sig) → Buf (Elt Ideal) ℓ) (g : Dev Cert.MlaDaIdeal.nD → PrngReg)
    (m' : (ℓ : Loc Cert.MlaDaRefIdeal.nD Cert.MlaDaRefIdeal.τ Cert.MlaDaRefIdeal.sig) → Buf (Elt Ideal) ℓ) (g' : Dev Cert.MlaDaRefIdeal.nD → PrngReg), Pre_MlaDaIdeal m →
    (∀ c : Dev Cert.MlaDaIdeal.nD,
      m' ((c.tc : Thread Cert.MlaDaRefIdeal.nD Cert.MlaDaRefIdeal.τ).loc Cert.MlaDaRefIdeal.main_arg0) = m ((c.tc : Thread Cert.MlaDaIdeal.nD Cert.MlaDaIdeal.τ).loc Cert.MlaDaIdeal.main_arg0)
      ∧ m' ((c.tc : Thread Cert.MlaDaRefIdeal.nD Cert.MlaDaRefIdeal.τ).loc Cert.MlaDaRefIdeal.main_arg1) = m ((c.tc : Thread Cert.MlaDaIdeal.nD Cert.MlaDaIdeal.τ).loc Cert.MlaDaIdeal.main_arg1)) →
    ∃ (v0 : (c : Dev Cert.MlaDaIdeal.nD) → Buf (Elt Ideal) ((c.tc : Thread Cert.MlaDaIdeal.nD Cert.MlaDaIdeal.τ).loc Cert.MlaDaIdeal.main_v2)),
      θ_run (Cert.MlaDaIdeal.defs (F := Ideal)) (onTc (τ := Cert.MlaDaIdeal.τ) (Cert.MlaDaIdeal.main (F := Ideal))) ⟨m, fun _ => 0, g⟩ (fun r => ∀ c : Dev Cert.MlaDaIdeal.nD,
          r.2.mem ((c.tc : Thread Cert.MlaDaIdeal.nD Cert.MlaDaIdeal.τ).loc Cert.MlaDaIdeal.main_v2) = v0 c
          ∧ r.2.mem ((c.tc : Thread Cert.MlaDaIdeal.nD Cert.MlaDaIdeal.τ).loc Cert.MlaDaIdeal.main_arg0) = m ((c.tc : Thread Cert.MlaDaIdeal.nD Cert.MlaDaIdeal.τ).loc Cert.MlaDaIdeal.main_arg0)
          ∧ r.2.mem ((c.tc : Thread Cert.MlaDaIdeal.nD Cert.MlaDaIdeal.τ).loc Cert.MlaDaIdeal.main_arg1) = m ((c.tc : Thread Cert.MlaDaIdeal.nD Cert.MlaDaIdeal.τ).loc Cert.MlaDaIdeal.main_arg1))
      ∧ θ_run (Cert.MlaDaRefIdeal.defs (F := Ideal)) (onTc (τ := Cert.MlaDaRefIdeal.τ) (Cert.MlaDaRefIdeal.main (F := Ideal))) ⟨m', fun _ => 0, g'⟩ (fun r => ∀ c : Dev Cert.MlaDaRefIdeal.nD,
          r.2.mem ((c.tc : Thread Cert.MlaDaRefIdeal.nD Cert.MlaDaRefIdeal.τ).loc Cert.MlaDaRefIdeal.main_v4) = v0 c
          ∧ r.2.mem ((c.tc : Thread Cert.MlaDaRefIdeal.nD Cert.MlaDaRefIdeal.τ).loc Cert.MlaDaRefIdeal.main_arg0) = m' ((c.tc : Thread Cert.MlaDaRefIdeal.nD Cert.MlaDaRefIdeal.τ).loc Cert.MlaDaRefIdeal.main_arg0)
          ∧ r.2.mem ((c.tc : Thread Cert.MlaDaRefIdeal.nD Cert.MlaDaRefIdeal.τ).loc Cert.MlaDaRefIdeal.main_arg1) = m' ((c.tc : Thread Cert.MlaDaRefIdeal.nD Cert.MlaDaRefIdeal.τ).loc Cert.MlaDaRefIdeal.main_arg1))

def preserves_MlaDhn_MlaDhnIdeal : Prop :=
  True

def algebraic_MlaDhnIdeal_MlaDhnRefIdeal [hMlaDhnIdeal : Cert.MlaDhnIdeal.Facts] [hMlaDhnRefIdeal : Cert.MlaDhnRefIdeal.Facts] : Prop :=
  ∀ (m : (ℓ : Loc Cert.MlaDhnIdeal.nD Cert.MlaDhnIdeal.τ Cert.MlaDhnIdeal.sig) → Buf (Elt Ideal) ℓ) (g : Dev Cert.MlaDhnIdeal.nD → PrngReg)
    (m' : (ℓ : Loc Cert.MlaDhnRefIdeal.nD Cert.MlaDhnRefIdeal.τ Cert.MlaDhnRefIdeal.sig) → Buf (Elt Ideal) ℓ) (g' : Dev Cert.MlaDhnRefIdeal.nD → PrngReg), Pre_MlaDhnIdeal m →
    (∀ c : Dev Cert.MlaDhnIdeal.nD,
      m' ((c.tc : Thread Cert.MlaDhnRefIdeal.nD Cert.MlaDhnRefIdeal.τ).loc Cert.MlaDhnRefIdeal.main_arg0) = m ((c.tc : Thread Cert.MlaDhnIdeal.nD Cert.MlaDhnIdeal.τ).loc Cert.MlaDhnIdeal.main_arg0)
      ∧ m' ((c.tc : Thread Cert.MlaDhnRefIdeal.nD Cert.MlaDhnRefIdeal.τ).loc Cert.MlaDhnRefIdeal.main_arg1) = m ((c.tc : Thread Cert.MlaDhnIdeal.nD Cert.MlaDhnIdeal.τ).loc Cert.MlaDhnIdeal.main_arg1)) →
    ∃ (v0 : (c : Dev Cert.MlaDhnIdeal.nD) → Buf (Elt Ideal) ((c.tc : Thread Cert.MlaDhnIdeal.nD Cert.MlaDhnIdeal.τ).loc Cert.MlaDhnIdeal.main_v2)),
      θ_run (Cert.MlaDhnIdeal.defs (F := Ideal)) (onTc (τ := Cert.MlaDhnIdeal.τ) (Cert.MlaDhnIdeal.main (F := Ideal))) ⟨m, fun _ => 0, g⟩ (fun r => ∀ c : Dev Cert.MlaDhnIdeal.nD,
          r.2.mem ((c.tc : Thread Cert.MlaDhnIdeal.nD Cert.MlaDhnIdeal.τ).loc Cert.MlaDhnIdeal.main_v2) = v0 c
          ∧ r.2.mem ((c.tc : Thread Cert.MlaDhnIdeal.nD Cert.MlaDhnIdeal.τ).loc Cert.MlaDhnIdeal.main_arg0) = m ((c.tc : Thread Cert.MlaDhnIdeal.nD Cert.MlaDhnIdeal.τ).loc Cert.MlaDhnIdeal.main_arg0)
          ∧ r.2.mem ((c.tc : Thread Cert.MlaDhnIdeal.nD Cert.MlaDhnIdeal.τ).loc Cert.MlaDhnIdeal.main_arg1) = m ((c.tc : Thread Cert.MlaDhnIdeal.nD Cert.MlaDhnIdeal.τ).loc Cert.MlaDhnIdeal.main_arg1))
      ∧ θ_run (Cert.MlaDhnRefIdeal.defs (F := Ideal)) (onTc (τ := Cert.MlaDhnRefIdeal.τ) (Cert.MlaDhnRefIdeal.main (F := Ideal))) ⟨m', fun _ => 0, g'⟩ (fun r => ∀ c : Dev Cert.MlaDhnRefIdeal.nD,
          r.2.mem ((c.tc : Thread Cert.MlaDhnRefIdeal.nD Cert.MlaDhnRefIdeal.τ).loc Cert.MlaDhnRefIdeal.main_v2) = v0 c
          ∧ r.2.mem ((c.tc : Thread Cert.MlaDhnRefIdeal.nD Cert.MlaDhnRefIdeal.τ).loc Cert.MlaDhnRefIdeal.main_arg0) = m' ((c.tc : Thread Cert.MlaDhnRefIdeal.nD Cert.MlaDhnRefIdeal.τ).loc Cert.MlaDhnRefIdeal.main_arg0)
          ∧ r.2.mem ((c.tc : Thread Cert.MlaDhnRefIdeal.nD Cert.MlaDhnRefIdeal.τ).loc Cert.MlaDhnRefIdeal.main_arg1) = m' ((c.tc : Thread Cert.MlaDhnRefIdeal.nD Cert.MlaDhnRefIdeal.τ).loc Cert.MlaDhnRefIdeal.main_arg1))

def preserves_DilQkv0_DilQkv0Ideal : Prop :=
  True

def algebraic_DilQkv0Ideal_DilQkv0RefIdeal [hDilQkv0Ideal : Cert.DilQkv0Ideal.Facts] [hDilQkv0RefIdeal : Cert.DilQkv0RefIdeal.Facts] : Prop :=
  ∀ (m : (ℓ : Loc Cert.DilQkv0Ideal.nD Cert.DilQkv0Ideal.τ Cert.DilQkv0Ideal.sig) → Buf (Elt Ideal) ℓ) (g : Dev Cert.DilQkv0Ideal.nD → PrngReg)
    (m' : (ℓ : Loc Cert.DilQkv0RefIdeal.nD Cert.DilQkv0RefIdeal.τ Cert.DilQkv0RefIdeal.sig) → Buf (Elt Ideal) ℓ) (g' : Dev Cert.DilQkv0RefIdeal.nD → PrngReg), Pre_DilQkv0Ideal m →
    (∀ c : Dev Cert.DilQkv0Ideal.nD,
      m' ((c.tc : Thread Cert.DilQkv0RefIdeal.nD Cert.DilQkv0RefIdeal.τ).loc Cert.DilQkv0RefIdeal.main_arg0) = m ((c.tc : Thread Cert.DilQkv0Ideal.nD Cert.DilQkv0Ideal.τ).loc Cert.DilQkv0Ideal.main_arg0)
      ∧ m' ((c.tc : Thread Cert.DilQkv0RefIdeal.nD Cert.DilQkv0RefIdeal.τ).loc Cert.DilQkv0RefIdeal.main_arg1) = m ((c.tc : Thread Cert.DilQkv0Ideal.nD Cert.DilQkv0Ideal.τ).loc Cert.DilQkv0Ideal.main_arg1)) →
    ∃ (v0 : (c : Dev Cert.DilQkv0Ideal.nD) → Buf (Elt Ideal) ((c.tc : Thread Cert.DilQkv0Ideal.nD Cert.DilQkv0Ideal.τ).loc Cert.DilQkv0Ideal.main_v5)),
      θ_run (Cert.DilQkv0Ideal.defs (F := Ideal)) (onTc (τ := Cert.DilQkv0Ideal.τ) (Cert.DilQkv0Ideal.main (F := Ideal))) ⟨m, fun _ => 0, g⟩ (fun r => ∀ c : Dev Cert.DilQkv0Ideal.nD,
          r.2.mem ((c.tc : Thread Cert.DilQkv0Ideal.nD Cert.DilQkv0Ideal.τ).loc Cert.DilQkv0Ideal.main_v5) = v0 c
          ∧ r.2.mem ((c.tc : Thread Cert.DilQkv0Ideal.nD Cert.DilQkv0Ideal.τ).loc Cert.DilQkv0Ideal.main_arg0) = m ((c.tc : Thread Cert.DilQkv0Ideal.nD Cert.DilQkv0Ideal.τ).loc Cert.DilQkv0Ideal.main_arg0)
          ∧ r.2.mem ((c.tc : Thread Cert.DilQkv0Ideal.nD Cert.DilQkv0Ideal.τ).loc Cert.DilQkv0Ideal.main_arg1) = m ((c.tc : Thread Cert.DilQkv0Ideal.nD Cert.DilQkv0Ideal.τ).loc Cert.DilQkv0Ideal.main_arg1))
      ∧ θ_run (Cert.DilQkv0RefIdeal.defs (F := Ideal)) (onTc (τ := Cert.DilQkv0RefIdeal.τ) (Cert.DilQkv0RefIdeal.main (F := Ideal))) ⟨m', fun _ => 0, g'⟩ (fun r => ∀ c : Dev Cert.DilQkv0RefIdeal.nD,
          r.2.mem ((c.tc : Thread Cert.DilQkv0RefIdeal.nD Cert.DilQkv0RefIdeal.τ).loc Cert.DilQkv0RefIdeal.main_v2) = v0 c
          ∧ r.2.mem ((c.tc : Thread Cert.DilQkv0RefIdeal.nD Cert.DilQkv0RefIdeal.τ).loc Cert.DilQkv0RefIdeal.main_arg0) = m' ((c.tc : Thread Cert.DilQkv0RefIdeal.nD Cert.DilQkv0RefIdeal.τ).loc Cert.DilQkv0RefIdeal.main_arg0)
          ∧ r.2.mem ((c.tc : Thread Cert.DilQkv0RefIdeal.nD Cert.DilQkv0RefIdeal.τ).loc Cert.DilQkv0RefIdeal.main_arg1) = m' ((c.tc : Thread Cert.DilQkv0RefIdeal.nD Cert.DilQkv0RefIdeal.τ).loc Cert.DilQkv0RefIdeal.main_arg1))

def preserves_DilQkv1_DilQkv1Ideal : Prop :=
  True

def algebraic_DilQkv1Ideal_DilQkv1RefIdeal [hDilQkv1Ideal : Cert.DilQkv1Ideal.Facts] [hDilQkv1RefIdeal : Cert.DilQkv1RefIdeal.Facts] : Prop :=
  ∀ (m : (ℓ : Loc Cert.DilQkv1Ideal.nD Cert.DilQkv1Ideal.τ Cert.DilQkv1Ideal.sig) → Buf (Elt Ideal) ℓ) (g : Dev Cert.DilQkv1Ideal.nD → PrngReg)
    (m' : (ℓ : Loc Cert.DilQkv1RefIdeal.nD Cert.DilQkv1RefIdeal.τ Cert.DilQkv1RefIdeal.sig) → Buf (Elt Ideal) ℓ) (g' : Dev Cert.DilQkv1RefIdeal.nD → PrngReg), Pre_DilQkv1Ideal m →
    (∀ c : Dev Cert.DilQkv1Ideal.nD,
      m' ((c.tc : Thread Cert.DilQkv1RefIdeal.nD Cert.DilQkv1RefIdeal.τ).loc Cert.DilQkv1RefIdeal.main_arg0) = m ((c.tc : Thread Cert.DilQkv1Ideal.nD Cert.DilQkv1Ideal.τ).loc Cert.DilQkv1Ideal.main_arg0)
      ∧ m' ((c.tc : Thread Cert.DilQkv1RefIdeal.nD Cert.DilQkv1RefIdeal.τ).loc Cert.DilQkv1RefIdeal.main_arg1) = m ((c.tc : Thread Cert.DilQkv1Ideal.nD Cert.DilQkv1Ideal.τ).loc Cert.DilQkv1Ideal.main_arg1)) →
    ∃ (v0 : (c : Dev Cert.DilQkv1Ideal.nD) → Buf (Elt Ideal) ((c.tc : Thread Cert.DilQkv1Ideal.nD Cert.DilQkv1Ideal.τ).loc Cert.DilQkv1Ideal.main_v8)),
      θ_run (Cert.DilQkv1Ideal.defs (F := Ideal)) (onTc (τ := Cert.DilQkv1Ideal.τ) (Cert.DilQkv1Ideal.main (F := Ideal))) ⟨m, fun _ => 0, g⟩ (fun r => ∀ c : Dev Cert.DilQkv1Ideal.nD,
          r.2.mem ((c.tc : Thread Cert.DilQkv1Ideal.nD Cert.DilQkv1Ideal.τ).loc Cert.DilQkv1Ideal.main_v8) = v0 c
          ∧ r.2.mem ((c.tc : Thread Cert.DilQkv1Ideal.nD Cert.DilQkv1Ideal.τ).loc Cert.DilQkv1Ideal.main_arg0) = m ((c.tc : Thread Cert.DilQkv1Ideal.nD Cert.DilQkv1Ideal.τ).loc Cert.DilQkv1Ideal.main_arg0)
          ∧ r.2.mem ((c.tc : Thread Cert.DilQkv1Ideal.nD Cert.DilQkv1Ideal.τ).loc Cert.DilQkv1Ideal.main_arg1) = m ((c.tc : Thread Cert.DilQkv1Ideal.nD Cert.DilQkv1Ideal.τ).loc Cert.DilQkv1Ideal.main_arg1))
      ∧ θ_run (Cert.DilQkv1RefIdeal.defs (F := Ideal)) (onTc (τ := Cert.DilQkv1RefIdeal.τ) (Cert.DilQkv1RefIdeal.main (F := Ideal))) ⟨m', fun _ => 0, g'⟩ (fun r => ∀ c : Dev Cert.DilQkv1RefIdeal.nD,
          r.2.mem ((c.tc : Thread Cert.DilQkv1RefIdeal.nD Cert.DilQkv1RefIdeal.τ).loc Cert.DilQkv1RefIdeal.main_v5) = v0 c
          ∧ r.2.mem ((c.tc : Thread Cert.DilQkv1RefIdeal.nD Cert.DilQkv1RefIdeal.τ).loc Cert.DilQkv1RefIdeal.main_arg0) = m' ((c.tc : Thread Cert.DilQkv1RefIdeal.nD Cert.DilQkv1RefIdeal.τ).loc Cert.DilQkv1RefIdeal.main_arg0)
          ∧ r.2.mem ((c.tc : Thread Cert.DilQkv1RefIdeal.nD Cert.DilQkv1RefIdeal.τ).loc Cert.DilQkv1RefIdeal.main_arg1) = m' ((c.tc : Thread Cert.DilQkv1RefIdeal.nD Cert.DilQkv1RefIdeal.τ).loc Cert.DilQkv1RefIdeal.main_arg1))

def preserves_DilQkv2_DilQkv2Ideal : Prop :=
  True

def algebraic_DilQkv2Ideal_DilQkv2RefIdeal [hDilQkv2Ideal : Cert.DilQkv2Ideal.Facts] [hDilQkv2RefIdeal : Cert.DilQkv2RefIdeal.Facts] : Prop :=
  ∀ (m : (ℓ : Loc Cert.DilQkv2Ideal.nD Cert.DilQkv2Ideal.τ Cert.DilQkv2Ideal.sig) → Buf (Elt Ideal) ℓ) (g : Dev Cert.DilQkv2Ideal.nD → PrngReg)
    (m' : (ℓ : Loc Cert.DilQkv2RefIdeal.nD Cert.DilQkv2RefIdeal.τ Cert.DilQkv2RefIdeal.sig) → Buf (Elt Ideal) ℓ) (g' : Dev Cert.DilQkv2RefIdeal.nD → PrngReg), Pre_DilQkv2Ideal m →
    (∀ c : Dev Cert.DilQkv2Ideal.nD,
      m' ((c.tc : Thread Cert.DilQkv2RefIdeal.nD Cert.DilQkv2RefIdeal.τ).loc Cert.DilQkv2RefIdeal.main_arg0) = m ((c.tc : Thread Cert.DilQkv2Ideal.nD Cert.DilQkv2Ideal.τ).loc Cert.DilQkv2Ideal.main_arg0)
      ∧ m' ((c.tc : Thread Cert.DilQkv2RefIdeal.nD Cert.DilQkv2RefIdeal.τ).loc Cert.DilQkv2RefIdeal.main_arg1) = m ((c.tc : Thread Cert.DilQkv2Ideal.nD Cert.DilQkv2Ideal.τ).loc Cert.DilQkv2Ideal.main_arg1)) →
    ∃ (v0 : (c : Dev Cert.DilQkv2Ideal.nD) → Buf (Elt Ideal) ((c.tc : Thread Cert.DilQkv2Ideal.nD Cert.DilQkv2Ideal.τ).loc Cert.DilQkv2Ideal.main_v8)),
      θ_run (Cert.DilQkv2Ideal.defs (F := Ideal)) (onTc (τ := Cert.DilQkv2Ideal.τ) (Cert.DilQkv2Ideal.main (F := Ideal))) ⟨m, fun _ => 0, g⟩ (fun r => ∀ c : Dev Cert.DilQkv2Ideal.nD,
          r.2.mem ((c.tc : Thread Cert.DilQkv2Ideal.nD Cert.DilQkv2Ideal.τ).loc Cert.DilQkv2Ideal.main_v8) = v0 c
          ∧ r.2.mem ((c.tc : Thread Cert.DilQkv2Ideal.nD Cert.DilQkv2Ideal.τ).loc Cert.DilQkv2Ideal.main_arg0) = m ((c.tc : Thread Cert.DilQkv2Ideal.nD Cert.DilQkv2Ideal.τ).loc Cert.DilQkv2Ideal.main_arg0)
          ∧ r.2.mem ((c.tc : Thread Cert.DilQkv2Ideal.nD Cert.DilQkv2Ideal.τ).loc Cert.DilQkv2Ideal.main_arg1) = m ((c.tc : Thread Cert.DilQkv2Ideal.nD Cert.DilQkv2Ideal.τ).loc Cert.DilQkv2Ideal.main_arg1))
      ∧ θ_run (Cert.DilQkv2RefIdeal.defs (F := Ideal)) (onTc (τ := Cert.DilQkv2RefIdeal.τ) (Cert.DilQkv2RefIdeal.main (F := Ideal))) ⟨m', fun _ => 0, g'⟩ (fun r => ∀ c : Dev Cert.DilQkv2RefIdeal.nD,
          r.2.mem ((c.tc : Thread Cert.DilQkv2RefIdeal.nD Cert.DilQkv2RefIdeal.τ).loc Cert.DilQkv2RefIdeal.main_v5) = v0 c
          ∧ r.2.mem ((c.tc : Thread Cert.DilQkv2RefIdeal.nD Cert.DilQkv2RefIdeal.τ).loc Cert.DilQkv2RefIdeal.main_arg0) = m' ((c.tc : Thread Cert.DilQkv2RefIdeal.nD Cert.DilQkv2RefIdeal.τ).loc Cert.DilQkv2RefIdeal.main_arg0)
          ∧ r.2.mem ((c.tc : Thread Cert.DilQkv2RefIdeal.nD Cert.DilQkv2RefIdeal.τ).loc Cert.DilQkv2RefIdeal.main_arg1) = m' ((c.tc : Thread Cert.DilQkv2RefIdeal.nD Cert.DilQkv2RefIdeal.τ).loc Cert.DilQkv2RefIdeal.main_arg1))

def preserves_Dwin0_Dwin0Ideal : Prop :=
  True

def algebraic_Dwin0Ideal_Dwin0RefIdeal [hDwin0Ideal : Cert.Dwin0Ideal.Facts] [hDwin0RefIdeal : Cert.Dwin0RefIdeal.Facts] : Prop :=
  ∀ (m : (ℓ : Loc Cert.Dwin0Ideal.nD Cert.Dwin0Ideal.τ Cert.Dwin0Ideal.sig) → Buf (Elt Ideal) ℓ) (g : Dev Cert.Dwin0Ideal.nD → PrngReg)
    (m' : (ℓ : Loc Cert.Dwin0RefIdeal.nD Cert.Dwin0RefIdeal.τ Cert.Dwin0RefIdeal.sig) → Buf (Elt Ideal) ℓ) (g' : Dev Cert.Dwin0RefIdeal.nD → PrngReg), Pre_Dwin0Ideal m →
    (∀ c : Dev Cert.Dwin0Ideal.nD,
      m' ((c.tc : Thread Cert.Dwin0RefIdeal.nD Cert.Dwin0RefIdeal.τ).loc Cert.Dwin0RefIdeal.main_arg0) = m ((c.tc : Thread Cert.Dwin0Ideal.nD Cert.Dwin0Ideal.τ).loc Cert.Dwin0Ideal.main_arg0)
      ∧ m' ((c.tc : Thread Cert.Dwin0RefIdeal.nD Cert.Dwin0RefIdeal.τ).loc Cert.Dwin0RefIdeal.main_arg1) = m ((c.tc : Thread Cert.Dwin0Ideal.nD Cert.Dwin0Ideal.τ).loc Cert.Dwin0Ideal.main_arg1)
      ∧ m' ((c.tc : Thread Cert.Dwin0RefIdeal.nD Cert.Dwin0RefIdeal.τ).loc Cert.Dwin0RefIdeal.main_arg2) = m ((c.tc : Thread Cert.Dwin0Ideal.nD Cert.Dwin0Ideal.τ).loc Cert.Dwin0Ideal.main_arg2)) →
    ∃ (v0 : (c : Dev Cert.Dwin0Ideal.nD) → Buf (Elt Ideal) ((c.tc : Thread Cert.Dwin0Ideal.nD Cert.Dwin0Ideal.τ).loc Cert.Dwin0Ideal.main_v2)),
      θ_run (Cert.Dwin0Ideal.defs (F := Ideal)) (onTc (τ := Cert.Dwin0Ideal.τ) (Cert.Dwin0Ideal.main (F := Ideal))) ⟨m, fun _ => 0, g⟩ (fun r => ∀ c : Dev Cert.Dwin0Ideal.nD,
          r.2.mem ((c.tc : Thread Cert.Dwin0Ideal.nD Cert.Dwin0Ideal.τ).loc Cert.Dwin0Ideal.main_v2) = v0 c
          ∧ r.2.mem ((c.tc : Thread Cert.Dwin0Ideal.nD Cert.Dwin0Ideal.τ).loc Cert.Dwin0Ideal.main_arg0) = m ((c.tc : Thread Cert.Dwin0Ideal.nD Cert.Dwin0Ideal.τ).loc Cert.Dwin0Ideal.main_arg0)
          ∧ r.2.mem ((c.tc : Thread Cert.Dwin0Ideal.nD Cert.Dwin0Ideal.τ).loc Cert.Dwin0Ideal.main_arg1) = m ((c.tc : Thread Cert.Dwin0Ideal.nD Cert.Dwin0Ideal.τ).loc Cert.Dwin0Ideal.main_arg1)
          ∧ r.2.mem ((c.tc : Thread Cert.Dwin0Ideal.nD Cert.Dwin0Ideal.τ).loc Cert.Dwin0Ideal.main_arg2) = m ((c.tc : Thread Cert.Dwin0Ideal.nD Cert.Dwin0Ideal.τ).loc Cert.Dwin0Ideal.main_arg2))
      ∧ θ_run (Cert.Dwin0RefIdeal.defs (F := Ideal)) (onTc (τ := Cert.Dwin0RefIdeal.τ) (Cert.Dwin0RefIdeal.main (F := Ideal))) ⟨m', fun _ => 0, g'⟩ (fun r => ∀ c : Dev Cert.Dwin0RefIdeal.nD,
          r.2.mem ((c.tc : Thread Cert.Dwin0RefIdeal.nD Cert.Dwin0RefIdeal.τ).loc Cert.Dwin0RefIdeal.main_v13) = v0 c
          ∧ r.2.mem ((c.tc : Thread Cert.Dwin0RefIdeal.nD Cert.Dwin0RefIdeal.τ).loc Cert.Dwin0RefIdeal.main_arg0) = m' ((c.tc : Thread Cert.Dwin0RefIdeal.nD Cert.Dwin0RefIdeal.τ).loc Cert.Dwin0RefIdeal.main_arg0)
          ∧ r.2.mem ((c.tc : Thread Cert.Dwin0RefIdeal.nD Cert.Dwin0RefIdeal.τ).loc Cert.Dwin0RefIdeal.main_arg1) = m' ((c.tc : Thread Cert.Dwin0RefIdeal.nD Cert.Dwin0RefIdeal.τ).loc Cert.Dwin0RefIdeal.main_arg1)
          ∧ r.2.mem ((c.tc : Thread Cert.Dwin0RefIdeal.nD Cert.Dwin0RefIdeal.τ).loc Cert.Dwin0RefIdeal.main_arg2) = m' ((c.tc : Thread Cert.Dwin0RefIdeal.nD Cert.Dwin0RefIdeal.τ).loc Cert.Dwin0RefIdeal.main_arg2))

def preserves_Dwin1_Dwin1Ideal : Prop :=
  True

def algebraic_Dwin1Ideal_Dwin1RefIdeal [hDwin1Ideal : Cert.Dwin1Ideal.Facts] [hDwin1RefIdeal : Cert.Dwin1RefIdeal.Facts] : Prop :=
  ∀ (m : (ℓ : Loc Cert.Dwin1Ideal.nD Cert.Dwin1Ideal.τ Cert.Dwin1Ideal.sig) → Buf (Elt Ideal) ℓ) (g : Dev Cert.Dwin1Ideal.nD → PrngReg)
    (m' : (ℓ : Loc Cert.Dwin1RefIdeal.nD Cert.Dwin1RefIdeal.τ Cert.Dwin1RefIdeal.sig) → Buf (Elt Ideal) ℓ) (g' : Dev Cert.Dwin1RefIdeal.nD → PrngReg), Pre_Dwin1Ideal m →
    (∀ c : Dev Cert.Dwin1Ideal.nD,
      m' ((c.tc : Thread Cert.Dwin1RefIdeal.nD Cert.Dwin1RefIdeal.τ).loc Cert.Dwin1RefIdeal.main_arg0) = m ((c.tc : Thread Cert.Dwin1Ideal.nD Cert.Dwin1Ideal.τ).loc Cert.Dwin1Ideal.main_arg0)
      ∧ m' ((c.tc : Thread Cert.Dwin1RefIdeal.nD Cert.Dwin1RefIdeal.τ).loc Cert.Dwin1RefIdeal.main_arg1) = m ((c.tc : Thread Cert.Dwin1Ideal.nD Cert.Dwin1Ideal.τ).loc Cert.Dwin1Ideal.main_arg1)
      ∧ m' ((c.tc : Thread Cert.Dwin1RefIdeal.nD Cert.Dwin1RefIdeal.τ).loc Cert.Dwin1RefIdeal.main_arg2) = m ((c.tc : Thread Cert.Dwin1Ideal.nD Cert.Dwin1Ideal.τ).loc Cert.Dwin1Ideal.main_arg2)) →
    ∃ (v0 : (c : Dev Cert.Dwin1Ideal.nD) → Buf (Elt Ideal) ((c.tc : Thread Cert.Dwin1Ideal.nD Cert.Dwin1Ideal.τ).loc Cert.Dwin1Ideal.main_v2)),
      θ_run (Cert.Dwin1Ideal.defs (F := Ideal)) (onTc (τ := Cert.Dwin1Ideal.τ) (Cert.Dwin1Ideal.main (F := Ideal))) ⟨m, fun _ => 0, g⟩ (fun r => ∀ c : Dev Cert.Dwin1Ideal.nD,
          r.2.mem ((c.tc : Thread Cert.Dwin1Ideal.nD Cert.Dwin1Ideal.τ).loc Cert.Dwin1Ideal.main_v2) = v0 c
          ∧ r.2.mem ((c.tc : Thread Cert.Dwin1Ideal.nD Cert.Dwin1Ideal.τ).loc Cert.Dwin1Ideal.main_arg0) = m ((c.tc : Thread Cert.Dwin1Ideal.nD Cert.Dwin1Ideal.τ).loc Cert.Dwin1Ideal.main_arg0)
          ∧ r.2.mem ((c.tc : Thread Cert.Dwin1Ideal.nD Cert.Dwin1Ideal.τ).loc Cert.Dwin1Ideal.main_arg1) = m ((c.tc : Thread Cert.Dwin1Ideal.nD Cert.Dwin1Ideal.τ).loc Cert.Dwin1Ideal.main_arg1)
          ∧ r.2.mem ((c.tc : Thread Cert.Dwin1Ideal.nD Cert.Dwin1Ideal.τ).loc Cert.Dwin1Ideal.main_arg2) = m ((c.tc : Thread Cert.Dwin1Ideal.nD Cert.Dwin1Ideal.τ).loc Cert.Dwin1Ideal.main_arg2))
      ∧ θ_run (Cert.Dwin1RefIdeal.defs (F := Ideal)) (onTc (τ := Cert.Dwin1RefIdeal.τ) (Cert.Dwin1RefIdeal.main (F := Ideal))) ⟨m', fun _ => 0, g'⟩ (fun r => ∀ c : Dev Cert.Dwin1RefIdeal.nD,
          r.2.mem ((c.tc : Thread Cert.Dwin1RefIdeal.nD Cert.Dwin1RefIdeal.τ).loc Cert.Dwin1RefIdeal.main_v13) = v0 c
          ∧ r.2.mem ((c.tc : Thread Cert.Dwin1RefIdeal.nD Cert.Dwin1RefIdeal.τ).loc Cert.Dwin1RefIdeal.main_arg0) = m' ((c.tc : Thread Cert.Dwin1RefIdeal.nD Cert.Dwin1RefIdeal.τ).loc Cert.Dwin1RefIdeal.main_arg0)
          ∧ r.2.mem ((c.tc : Thread Cert.Dwin1RefIdeal.nD Cert.Dwin1RefIdeal.τ).loc Cert.Dwin1RefIdeal.main_arg1) = m' ((c.tc : Thread Cert.Dwin1RefIdeal.nD Cert.Dwin1RefIdeal.τ).loc Cert.Dwin1RefIdeal.main_arg1)
          ∧ r.2.mem ((c.tc : Thread Cert.Dwin1RefIdeal.nD Cert.Dwin1RefIdeal.τ).loc Cert.Dwin1RefIdeal.main_arg2) = m' ((c.tc : Thread Cert.Dwin1RefIdeal.nD Cert.Dwin1RefIdeal.τ).loc Cert.Dwin1RefIdeal.main_arg2))

def preserves_Dwin2_Dwin2Ideal : Prop :=
  True

def algebraic_Dwin2Ideal_Dwin2RefIdeal [hDwin2Ideal : Cert.Dwin2Ideal.Facts] [hDwin2RefIdeal : Cert.Dwin2RefIdeal.Facts] : Prop :=
  ∀ (m : (ℓ : Loc Cert.Dwin2Ideal.nD Cert.Dwin2Ideal.τ Cert.Dwin2Ideal.sig) → Buf (Elt Ideal) ℓ) (g : Dev Cert.Dwin2Ideal.nD → PrngReg)
    (m' : (ℓ : Loc Cert.Dwin2RefIdeal.nD Cert.Dwin2RefIdeal.τ Cert.Dwin2RefIdeal.sig) → Buf (Elt Ideal) ℓ) (g' : Dev Cert.Dwin2RefIdeal.nD → PrngReg), Pre_Dwin2Ideal m →
    (∀ c : Dev Cert.Dwin2Ideal.nD,
      m' ((c.tc : Thread Cert.Dwin2RefIdeal.nD Cert.Dwin2RefIdeal.τ).loc Cert.Dwin2RefIdeal.main_arg0) = m ((c.tc : Thread Cert.Dwin2Ideal.nD Cert.Dwin2Ideal.τ).loc Cert.Dwin2Ideal.main_arg0)
      ∧ m' ((c.tc : Thread Cert.Dwin2RefIdeal.nD Cert.Dwin2RefIdeal.τ).loc Cert.Dwin2RefIdeal.main_arg1) = m ((c.tc : Thread Cert.Dwin2Ideal.nD Cert.Dwin2Ideal.τ).loc Cert.Dwin2Ideal.main_arg1)
      ∧ m' ((c.tc : Thread Cert.Dwin2RefIdeal.nD Cert.Dwin2RefIdeal.τ).loc Cert.Dwin2RefIdeal.main_arg2) = m ((c.tc : Thread Cert.Dwin2Ideal.nD Cert.Dwin2Ideal.τ).loc Cert.Dwin2Ideal.main_arg2)) →
    ∃ (v0 : (c : Dev Cert.Dwin2Ideal.nD) → Buf (Elt Ideal) ((c.tc : Thread Cert.Dwin2Ideal.nD Cert.Dwin2Ideal.τ).loc Cert.Dwin2Ideal.main_v2)),
      θ_run (Cert.Dwin2Ideal.defs (F := Ideal)) (onTc (τ := Cert.Dwin2Ideal.τ) (Cert.Dwin2Ideal.main (F := Ideal))) ⟨m, fun _ => 0, g⟩ (fun r => ∀ c : Dev Cert.Dwin2Ideal.nD,
          r.2.mem ((c.tc : Thread Cert.Dwin2Ideal.nD Cert.Dwin2Ideal.τ).loc Cert.Dwin2Ideal.main_v2) = v0 c
          ∧ r.2.mem ((c.tc : Thread Cert.Dwin2Ideal.nD Cert.Dwin2Ideal.τ).loc Cert.Dwin2Ideal.main_arg0) = m ((c.tc : Thread Cert.Dwin2Ideal.nD Cert.Dwin2Ideal.τ).loc Cert.Dwin2Ideal.main_arg0)
          ∧ r.2.mem ((c.tc : Thread Cert.Dwin2Ideal.nD Cert.Dwin2Ideal.τ).loc Cert.Dwin2Ideal.main_arg1) = m ((c.tc : Thread Cert.Dwin2Ideal.nD Cert.Dwin2Ideal.τ).loc Cert.Dwin2Ideal.main_arg1)
          ∧ r.2.mem ((c.tc : Thread Cert.Dwin2Ideal.nD Cert.Dwin2Ideal.τ).loc Cert.Dwin2Ideal.main_arg2) = m ((c.tc : Thread Cert.Dwin2Ideal.nD Cert.Dwin2Ideal.τ).loc Cert.Dwin2Ideal.main_arg2))
      ∧ θ_run (Cert.Dwin2RefIdeal.defs (F := Ideal)) (onTc (τ := Cert.Dwin2RefIdeal.τ) (Cert.Dwin2RefIdeal.main (F := Ideal))) ⟨m', fun _ => 0, g'⟩ (fun r => ∀ c : Dev Cert.Dwin2RefIdeal.nD,
          r.2.mem ((c.tc : Thread Cert.Dwin2RefIdeal.nD Cert.Dwin2RefIdeal.τ).loc Cert.Dwin2RefIdeal.main_v13) = v0 c
          ∧ r.2.mem ((c.tc : Thread Cert.Dwin2RefIdeal.nD Cert.Dwin2RefIdeal.τ).loc Cert.Dwin2RefIdeal.main_arg0) = m' ((c.tc : Thread Cert.Dwin2RefIdeal.nD Cert.Dwin2RefIdeal.τ).loc Cert.Dwin2RefIdeal.main_arg0)
          ∧ r.2.mem ((c.tc : Thread Cert.Dwin2RefIdeal.nD Cert.Dwin2RefIdeal.τ).loc Cert.Dwin2RefIdeal.main_arg1) = m' ((c.tc : Thread Cert.Dwin2RefIdeal.nD Cert.Dwin2RefIdeal.τ).loc Cert.Dwin2RefIdeal.main_arg1)
          ∧ r.2.mem ((c.tc : Thread Cert.Dwin2RefIdeal.nD Cert.Dwin2RefIdeal.τ).loc Cert.Dwin2RefIdeal.main_arg2) = m' ((c.tc : Thread Cert.Dwin2RefIdeal.nD Cert.Dwin2RefIdeal.τ).loc Cert.Dwin2RefIdeal.main_arg2))

def preserves_Dwout0_Dwout0Ideal : Prop :=
  True

def algebraic_Dwout0Ideal_Dwout0RefIdeal [hDwout0Ideal : Cert.Dwout0Ideal.Facts] [hDwout0RefIdeal : Cert.Dwout0RefIdeal.Facts] : Prop :=
  ∀ (m : (ℓ : Loc Cert.Dwout0Ideal.nD Cert.Dwout0Ideal.τ Cert.Dwout0Ideal.sig) → Buf (Elt Ideal) ℓ) (g : Dev Cert.Dwout0Ideal.nD → PrngReg)
    (m' : (ℓ : Loc Cert.Dwout0RefIdeal.nD Cert.Dwout0RefIdeal.τ Cert.Dwout0RefIdeal.sig) → Buf (Elt Ideal) ℓ) (g' : Dev Cert.Dwout0RefIdeal.nD → PrngReg), Pre_Dwout0Ideal m →
    (∀ c : Dev Cert.Dwout0Ideal.nD,
      m' ((c.tc : Thread Cert.Dwout0RefIdeal.nD Cert.Dwout0RefIdeal.τ).loc Cert.Dwout0RefIdeal.main_arg0) = m ((c.tc : Thread Cert.Dwout0Ideal.nD Cert.Dwout0Ideal.τ).loc Cert.Dwout0Ideal.main_arg0)
      ∧ m' ((c.tc : Thread Cert.Dwout0RefIdeal.nD Cert.Dwout0RefIdeal.τ).loc Cert.Dwout0RefIdeal.main_arg1) = m ((c.tc : Thread Cert.Dwout0Ideal.nD Cert.Dwout0Ideal.τ).loc Cert.Dwout0Ideal.main_arg1)
      ∧ m' ((c.tc : Thread Cert.Dwout0RefIdeal.nD Cert.Dwout0RefIdeal.τ).loc Cert.Dwout0RefIdeal.main_arg2) = m ((c.tc : Thread Cert.Dwout0Ideal.nD Cert.Dwout0Ideal.τ).loc Cert.Dwout0Ideal.main_arg2)) →
    ∃ (v0 : (c : Dev Cert.Dwout0Ideal.nD) → Buf (Elt Ideal) ((c.tc : Thread Cert.Dwout0Ideal.nD Cert.Dwout0Ideal.τ).loc Cert.Dwout0Ideal.main_v2)),
      θ_run (Cert.Dwout0Ideal.defs (F := Ideal)) (onTc (τ := Cert.Dwout0Ideal.τ) (Cert.Dwout0Ideal.main (F := Ideal))) ⟨m, fun _ => 0, g⟩ (fun r => ∀ c : Dev Cert.Dwout0Ideal.nD,
          r.2.mem ((c.tc : Thread Cert.Dwout0Ideal.nD Cert.Dwout0Ideal.τ).loc Cert.Dwout0Ideal.main_v2) = v0 c
          ∧ r.2.mem ((c.tc : Thread Cert.Dwout0Ideal.nD Cert.Dwout0Ideal.τ).loc Cert.Dwout0Ideal.main_arg0) = m ((c.tc : Thread Cert.Dwout0Ideal.nD Cert.Dwout0Ideal.τ).loc Cert.Dwout0Ideal.main_arg0)
          ∧ r.2.mem ((c.tc : Thread Cert.Dwout0Ideal.nD Cert.Dwout0Ideal.τ).loc Cert.Dwout0Ideal.main_arg1) = m ((c.tc : Thread Cert.Dwout0Ideal.nD Cert.Dwout0Ideal.τ).loc Cert.Dwout0Ideal.main_arg1)
          ∧ r.2.mem ((c.tc : Thread Cert.Dwout0Ideal.nD Cert.Dwout0Ideal.τ).loc Cert.Dwout0Ideal.main_arg2) = m ((c.tc : Thread Cert.Dwout0Ideal.nD Cert.Dwout0Ideal.τ).loc Cert.Dwout0Ideal.main_arg2))
      ∧ θ_run (Cert.Dwout0RefIdeal.defs (F := Ideal)) (onTc (τ := Cert.Dwout0RefIdeal.τ) (Cert.Dwout0RefIdeal.main (F := Ideal))) ⟨m', fun _ => 0, g'⟩ (fun r => ∀ c : Dev Cert.Dwout0RefIdeal.nD,
          r.2.mem ((c.tc : Thread Cert.Dwout0RefIdeal.nD Cert.Dwout0RefIdeal.τ).loc Cert.Dwout0RefIdeal.main_v12) = v0 c
          ∧ r.2.mem ((c.tc : Thread Cert.Dwout0RefIdeal.nD Cert.Dwout0RefIdeal.τ).loc Cert.Dwout0RefIdeal.main_arg0) = m' ((c.tc : Thread Cert.Dwout0RefIdeal.nD Cert.Dwout0RefIdeal.τ).loc Cert.Dwout0RefIdeal.main_arg0)
          ∧ r.2.mem ((c.tc : Thread Cert.Dwout0RefIdeal.nD Cert.Dwout0RefIdeal.τ).loc Cert.Dwout0RefIdeal.main_arg1) = m' ((c.tc : Thread Cert.Dwout0RefIdeal.nD Cert.Dwout0RefIdeal.τ).loc Cert.Dwout0RefIdeal.main_arg1)
          ∧ r.2.mem ((c.tc : Thread Cert.Dwout0RefIdeal.nD Cert.Dwout0RefIdeal.τ).loc Cert.Dwout0RefIdeal.main_arg2) = m' ((c.tc : Thread Cert.Dwout0RefIdeal.nD Cert.Dwout0RefIdeal.τ).loc Cert.Dwout0RefIdeal.main_arg2))

def preserves_Dwout1_Dwout1Ideal : Prop :=
  True

def algebraic_Dwout1Ideal_Dwout1RefIdeal [hDwout1Ideal : Cert.Dwout1Ideal.Facts] [hDwout1RefIdeal : Cert.Dwout1RefIdeal.Facts] : Prop :=
  ∀ (m : (ℓ : Loc Cert.Dwout1Ideal.nD Cert.Dwout1Ideal.τ Cert.Dwout1Ideal.sig) → Buf (Elt Ideal) ℓ) (g : Dev Cert.Dwout1Ideal.nD → PrngReg)
    (m' : (ℓ : Loc Cert.Dwout1RefIdeal.nD Cert.Dwout1RefIdeal.τ Cert.Dwout1RefIdeal.sig) → Buf (Elt Ideal) ℓ) (g' : Dev Cert.Dwout1RefIdeal.nD → PrngReg), Pre_Dwout1Ideal m →
    (∀ c : Dev Cert.Dwout1Ideal.nD,
      m' ((c.tc : Thread Cert.Dwout1RefIdeal.nD Cert.Dwout1RefIdeal.τ).loc Cert.Dwout1RefIdeal.main_arg0) = m ((c.tc : Thread Cert.Dwout1Ideal.nD Cert.Dwout1Ideal.τ).loc Cert.Dwout1Ideal.main_arg0)
      ∧ m' ((c.tc : Thread Cert.Dwout1RefIdeal.nD Cert.Dwout1RefIdeal.τ).loc Cert.Dwout1RefIdeal.main_arg1) = m ((c.tc : Thread Cert.Dwout1Ideal.nD Cert.Dwout1Ideal.τ).loc Cert.Dwout1Ideal.main_arg1)
      ∧ m' ((c.tc : Thread Cert.Dwout1RefIdeal.nD Cert.Dwout1RefIdeal.τ).loc Cert.Dwout1RefIdeal.main_arg2) = m ((c.tc : Thread Cert.Dwout1Ideal.nD Cert.Dwout1Ideal.τ).loc Cert.Dwout1Ideal.main_arg2)) →
    ∃ (v0 : (c : Dev Cert.Dwout1Ideal.nD) → Buf (Elt Ideal) ((c.tc : Thread Cert.Dwout1Ideal.nD Cert.Dwout1Ideal.τ).loc Cert.Dwout1Ideal.main_v2)),
      θ_run (Cert.Dwout1Ideal.defs (F := Ideal)) (onTc (τ := Cert.Dwout1Ideal.τ) (Cert.Dwout1Ideal.main (F := Ideal))) ⟨m, fun _ => 0, g⟩ (fun r => ∀ c : Dev Cert.Dwout1Ideal.nD,
          r.2.mem ((c.tc : Thread Cert.Dwout1Ideal.nD Cert.Dwout1Ideal.τ).loc Cert.Dwout1Ideal.main_v2) = v0 c
          ∧ r.2.mem ((c.tc : Thread Cert.Dwout1Ideal.nD Cert.Dwout1Ideal.τ).loc Cert.Dwout1Ideal.main_arg0) = m ((c.tc : Thread Cert.Dwout1Ideal.nD Cert.Dwout1Ideal.τ).loc Cert.Dwout1Ideal.main_arg0)
          ∧ r.2.mem ((c.tc : Thread Cert.Dwout1Ideal.nD Cert.Dwout1Ideal.τ).loc Cert.Dwout1Ideal.main_arg1) = m ((c.tc : Thread Cert.Dwout1Ideal.nD Cert.Dwout1Ideal.τ).loc Cert.Dwout1Ideal.main_arg1)
          ∧ r.2.mem ((c.tc : Thread Cert.Dwout1Ideal.nD Cert.Dwout1Ideal.τ).loc Cert.Dwout1Ideal.main_arg2) = m ((c.tc : Thread Cert.Dwout1Ideal.nD Cert.Dwout1Ideal.τ).loc Cert.Dwout1Ideal.main_arg2))
      ∧ θ_run (Cert.Dwout1RefIdeal.defs (F := Ideal)) (onTc (τ := Cert.Dwout1RefIdeal.τ) (Cert.Dwout1RefIdeal.main (F := Ideal))) ⟨m', fun _ => 0, g'⟩ (fun r => ∀ c : Dev Cert.Dwout1RefIdeal.nD,
          r.2.mem ((c.tc : Thread Cert.Dwout1RefIdeal.nD Cert.Dwout1RefIdeal.τ).loc Cert.Dwout1RefIdeal.main_v12) = v0 c
          ∧ r.2.mem ((c.tc : Thread Cert.Dwout1RefIdeal.nD Cert.Dwout1RefIdeal.τ).loc Cert.Dwout1RefIdeal.main_arg0) = m' ((c.tc : Thread Cert.Dwout1RefIdeal.nD Cert.Dwout1RefIdeal.τ).loc Cert.Dwout1RefIdeal.main_arg0)
          ∧ r.2.mem ((c.tc : Thread Cert.Dwout1RefIdeal.nD Cert.Dwout1RefIdeal.τ).loc Cert.Dwout1RefIdeal.main_arg1) = m' ((c.tc : Thread Cert.Dwout1RefIdeal.nD Cert.Dwout1RefIdeal.τ).loc Cert.Dwout1RefIdeal.main_arg1)
          ∧ r.2.mem ((c.tc : Thread Cert.Dwout1RefIdeal.nD Cert.Dwout1RefIdeal.τ).loc Cert.Dwout1RefIdeal.main_arg2) = m' ((c.tc : Thread Cert.Dwout1RefIdeal.nD Cert.Dwout1RefIdeal.τ).loc Cert.Dwout1RefIdeal.main_arg2))

def preserves_Dwout2_Dwout2Ideal : Prop :=
  True

def algebraic_Dwout2Ideal_Dwout2RefIdeal [hDwout2Ideal : Cert.Dwout2Ideal.Facts] [hDwout2RefIdeal : Cert.Dwout2RefIdeal.Facts] : Prop :=
  ∀ (m : (ℓ : Loc Cert.Dwout2Ideal.nD Cert.Dwout2Ideal.τ Cert.Dwout2Ideal.sig) → Buf (Elt Ideal) ℓ) (g : Dev Cert.Dwout2Ideal.nD → PrngReg)
    (m' : (ℓ : Loc Cert.Dwout2RefIdeal.nD Cert.Dwout2RefIdeal.τ Cert.Dwout2RefIdeal.sig) → Buf (Elt Ideal) ℓ) (g' : Dev Cert.Dwout2RefIdeal.nD → PrngReg), Pre_Dwout2Ideal m →
    (∀ c : Dev Cert.Dwout2Ideal.nD,
      m' ((c.tc : Thread Cert.Dwout2RefIdeal.nD Cert.Dwout2RefIdeal.τ).loc Cert.Dwout2RefIdeal.main_arg0) = m ((c.tc : Thread Cert.Dwout2Ideal.nD Cert.Dwout2Ideal.τ).loc Cert.Dwout2Ideal.main_arg0)
      ∧ m' ((c.tc : Thread Cert.Dwout2RefIdeal.nD Cert.Dwout2RefIdeal.τ).loc Cert.Dwout2RefIdeal.main_arg1) = m ((c.tc : Thread Cert.Dwout2Ideal.nD Cert.Dwout2Ideal.τ).loc Cert.Dwout2Ideal.main_arg1)
      ∧ m' ((c.tc : Thread Cert.Dwout2RefIdeal.nD Cert.Dwout2RefIdeal.τ).loc Cert.Dwout2RefIdeal.main_arg2) = m ((c.tc : Thread Cert.Dwout2Ideal.nD Cert.Dwout2Ideal.τ).loc Cert.Dwout2Ideal.main_arg2)) →
    ∃ (v0 : (c : Dev Cert.Dwout2Ideal.nD) → Buf (Elt Ideal) ((c.tc : Thread Cert.Dwout2Ideal.nD Cert.Dwout2Ideal.τ).loc Cert.Dwout2Ideal.main_v2)),
      θ_run (Cert.Dwout2Ideal.defs (F := Ideal)) (onTc (τ := Cert.Dwout2Ideal.τ) (Cert.Dwout2Ideal.main (F := Ideal))) ⟨m, fun _ => 0, g⟩ (fun r => ∀ c : Dev Cert.Dwout2Ideal.nD,
          r.2.mem ((c.tc : Thread Cert.Dwout2Ideal.nD Cert.Dwout2Ideal.τ).loc Cert.Dwout2Ideal.main_v2) = v0 c
          ∧ r.2.mem ((c.tc : Thread Cert.Dwout2Ideal.nD Cert.Dwout2Ideal.τ).loc Cert.Dwout2Ideal.main_arg0) = m ((c.tc : Thread Cert.Dwout2Ideal.nD Cert.Dwout2Ideal.τ).loc Cert.Dwout2Ideal.main_arg0)
          ∧ r.2.mem ((c.tc : Thread Cert.Dwout2Ideal.nD Cert.Dwout2Ideal.τ).loc Cert.Dwout2Ideal.main_arg1) = m ((c.tc : Thread Cert.Dwout2Ideal.nD Cert.Dwout2Ideal.τ).loc Cert.Dwout2Ideal.main_arg1)
          ∧ r.2.mem ((c.tc : Thread Cert.Dwout2Ideal.nD Cert.Dwout2Ideal.τ).loc Cert.Dwout2Ideal.main_arg2) = m ((c.tc : Thread Cert.Dwout2Ideal.nD Cert.Dwout2Ideal.τ).loc Cert.Dwout2Ideal.main_arg2))
      ∧ θ_run (Cert.Dwout2RefIdeal.defs (F := Ideal)) (onTc (τ := Cert.Dwout2RefIdeal.τ) (Cert.Dwout2RefIdeal.main (F := Ideal))) ⟨m', fun _ => 0, g'⟩ (fun r => ∀ c : Dev Cert.Dwout2RefIdeal.nD,
          r.2.mem ((c.tc : Thread Cert.Dwout2RefIdeal.nD Cert.Dwout2RefIdeal.τ).loc Cert.Dwout2RefIdeal.main_v12) = v0 c
          ∧ r.2.mem ((c.tc : Thread Cert.Dwout2RefIdeal.nD Cert.Dwout2RefIdeal.τ).loc Cert.Dwout2RefIdeal.main_arg0) = m' ((c.tc : Thread Cert.Dwout2RefIdeal.nD Cert.Dwout2RefIdeal.τ).loc Cert.Dwout2RefIdeal.main_arg0)
          ∧ r.2.mem ((c.tc : Thread Cert.Dwout2RefIdeal.nD Cert.Dwout2RefIdeal.τ).loc Cert.Dwout2RefIdeal.main_arg1) = m' ((c.tc : Thread Cert.Dwout2RefIdeal.nD Cert.Dwout2RefIdeal.τ).loc Cert.Dwout2RefIdeal.main_arg1)
          ∧ r.2.mem ((c.tc : Thread Cert.Dwout2RefIdeal.nD Cert.Dwout2RefIdeal.τ).loc Cert.Dwout2RefIdeal.main_arg2) = m' ((c.tc : Thread Cert.Dwout2RefIdeal.nD Cert.Dwout2RefIdeal.τ).loc Cert.Dwout2RefIdeal.main_arg2))

def preserves_Dwg0_Dwg0Ideal : Prop :=
  True

def algebraic_Dwg0Ideal_Dwg0RefIdeal [hDwg0Ideal : Cert.Dwg0Ideal.Facts] [hDwg0RefIdeal : Cert.Dwg0RefIdeal.Facts] : Prop :=
  ∀ (m : (ℓ : Loc Cert.Dwg0Ideal.nD Cert.Dwg0Ideal.τ Cert.Dwg0Ideal.sig) → Buf (Elt Ideal) ℓ) (g : Dev Cert.Dwg0Ideal.nD → PrngReg)
    (m' : (ℓ : Loc Cert.Dwg0RefIdeal.nD Cert.Dwg0RefIdeal.τ Cert.Dwg0RefIdeal.sig) → Buf (Elt Ideal) ℓ) (g' : Dev Cert.Dwg0RefIdeal.nD → PrngReg), Pre_Dwg0Ideal m →
    (∀ c : Dev Cert.Dwg0Ideal.nD,
      m' ((c.tc : Thread Cert.Dwg0RefIdeal.nD Cert.Dwg0RefIdeal.τ).loc Cert.Dwg0RefIdeal.main_arg0) = m ((c.tc : Thread Cert.Dwg0Ideal.nD Cert.Dwg0Ideal.τ).loc Cert.Dwg0Ideal.main_arg0)
      ∧ m' ((c.tc : Thread Cert.Dwg0RefIdeal.nD Cert.Dwg0RefIdeal.τ).loc Cert.Dwg0RefIdeal.main_arg1) = m ((c.tc : Thread Cert.Dwg0Ideal.nD Cert.Dwg0Ideal.τ).loc Cert.Dwg0Ideal.main_arg1)
      ∧ m' ((c.tc : Thread Cert.Dwg0RefIdeal.nD Cert.Dwg0RefIdeal.τ).loc Cert.Dwg0RefIdeal.main_arg2) = m ((c.tc : Thread Cert.Dwg0Ideal.nD Cert.Dwg0Ideal.τ).loc Cert.Dwg0Ideal.main_arg2)) →
    ∃ (v0 : (c : Dev Cert.Dwg0Ideal.nD) → Buf (Elt Ideal) ((c.tc : Thread Cert.Dwg0Ideal.nD Cert.Dwg0Ideal.τ).loc Cert.Dwg0Ideal.main_v1)),
      θ_run (Cert.Dwg0Ideal.defs (F := Ideal)) (onTc (τ := Cert.Dwg0Ideal.τ) (Cert.Dwg0Ideal.main (F := Ideal))) ⟨m, fun _ => 0, g⟩ (fun r => ∀ c : Dev Cert.Dwg0Ideal.nD,
          r.2.mem ((c.tc : Thread Cert.Dwg0Ideal.nD Cert.Dwg0Ideal.τ).loc Cert.Dwg0Ideal.main_v1) = v0 c
          ∧ r.2.mem ((c.tc : Thread Cert.Dwg0Ideal.nD Cert.Dwg0Ideal.τ).loc Cert.Dwg0Ideal.main_arg0) = m ((c.tc : Thread Cert.Dwg0Ideal.nD Cert.Dwg0Ideal.τ).loc Cert.Dwg0Ideal.main_arg0)
          ∧ r.2.mem ((c.tc : Thread Cert.Dwg0Ideal.nD Cert.Dwg0Ideal.τ).loc Cert.Dwg0Ideal.main_arg1) = m ((c.tc : Thread Cert.Dwg0Ideal.nD Cert.Dwg0Ideal.τ).loc Cert.Dwg0Ideal.main_arg1)
          ∧ r.2.mem ((c.tc : Thread Cert.Dwg0Ideal.nD Cert.Dwg0Ideal.τ).loc Cert.Dwg0Ideal.main_arg2) = m ((c.tc : Thread Cert.Dwg0Ideal.nD Cert.Dwg0Ideal.τ).loc Cert.Dwg0Ideal.main_arg2))
      ∧ θ_run (Cert.Dwg0RefIdeal.defs (F := Ideal)) (onTc (τ := Cert.Dwg0RefIdeal.τ) (Cert.Dwg0RefIdeal.main (F := Ideal))) ⟨m', fun _ => 0, g'⟩ (fun r => ∀ c : Dev Cert.Dwg0RefIdeal.nD,
          r.2.mem ((c.tc : Thread Cert.Dwg0RefIdeal.nD Cert.Dwg0RefIdeal.τ).loc Cert.Dwg0RefIdeal.main_v12) = v0 c
          ∧ r.2.mem ((c.tc : Thread Cert.Dwg0RefIdeal.nD Cert.Dwg0RefIdeal.τ).loc Cert.Dwg0RefIdeal.main_arg0) = m' ((c.tc : Thread Cert.Dwg0RefIdeal.nD Cert.Dwg0RefIdeal.τ).loc Cert.Dwg0RefIdeal.main_arg0)
          ∧ r.2.mem ((c.tc : Thread Cert.Dwg0RefIdeal.nD Cert.Dwg0RefIdeal.τ).loc Cert.Dwg0RefIdeal.main_arg1) = m' ((c.tc : Thread Cert.Dwg0RefIdeal.nD Cert.Dwg0RefIdeal.τ).loc Cert.Dwg0RefIdeal.main_arg1)
          ∧ r.2.mem ((c.tc : Thread Cert.Dwg0RefIdeal.nD Cert.Dwg0RefIdeal.τ).loc Cert.Dwg0RefIdeal.main_arg2) = m' ((c.tc : Thread Cert.Dwg0RefIdeal.nD Cert.Dwg0RefIdeal.τ).loc Cert.Dwg0RefIdeal.main_arg2))

def preserves_Dwg1_Dwg1Ideal : Prop :=
  True

def algebraic_Dwg1Ideal_Dwg1RefIdeal [hDwg1Ideal : Cert.Dwg1Ideal.Facts] [hDwg1RefIdeal : Cert.Dwg1RefIdeal.Facts] : Prop :=
  ∀ (m : (ℓ : Loc Cert.Dwg1Ideal.nD Cert.Dwg1Ideal.τ Cert.Dwg1Ideal.sig) → Buf (Elt Ideal) ℓ) (g : Dev Cert.Dwg1Ideal.nD → PrngReg)
    (m' : (ℓ : Loc Cert.Dwg1RefIdeal.nD Cert.Dwg1RefIdeal.τ Cert.Dwg1RefIdeal.sig) → Buf (Elt Ideal) ℓ) (g' : Dev Cert.Dwg1RefIdeal.nD → PrngReg), Pre_Dwg1Ideal m →
    (∀ c : Dev Cert.Dwg1Ideal.nD,
      m' ((c.tc : Thread Cert.Dwg1RefIdeal.nD Cert.Dwg1RefIdeal.τ).loc Cert.Dwg1RefIdeal.main_arg0) = m ((c.tc : Thread Cert.Dwg1Ideal.nD Cert.Dwg1Ideal.τ).loc Cert.Dwg1Ideal.main_arg0)
      ∧ m' ((c.tc : Thread Cert.Dwg1RefIdeal.nD Cert.Dwg1RefIdeal.τ).loc Cert.Dwg1RefIdeal.main_arg1) = m ((c.tc : Thread Cert.Dwg1Ideal.nD Cert.Dwg1Ideal.τ).loc Cert.Dwg1Ideal.main_arg1)
      ∧ m' ((c.tc : Thread Cert.Dwg1RefIdeal.nD Cert.Dwg1RefIdeal.τ).loc Cert.Dwg1RefIdeal.main_arg2) = m ((c.tc : Thread Cert.Dwg1Ideal.nD Cert.Dwg1Ideal.τ).loc Cert.Dwg1Ideal.main_arg2)) →
    ∃ (v0 : (c : Dev Cert.Dwg1Ideal.nD) → Buf (Elt Ideal) ((c.tc : Thread Cert.Dwg1Ideal.nD Cert.Dwg1Ideal.τ).loc Cert.Dwg1Ideal.main_v1)),
      θ_run (Cert.Dwg1Ideal.defs (F := Ideal)) (onTc (τ := Cert.Dwg1Ideal.τ) (Cert.Dwg1Ideal.main (F := Ideal))) ⟨m, fun _ => 0, g⟩ (fun r => ∀ c : Dev Cert.Dwg1Ideal.nD,
          r.2.mem ((c.tc : Thread Cert.Dwg1Ideal.nD Cert.Dwg1Ideal.τ).loc Cert.Dwg1Ideal.main_v1) = v0 c
          ∧ r.2.mem ((c.tc : Thread Cert.Dwg1Ideal.nD Cert.Dwg1Ideal.τ).loc Cert.Dwg1Ideal.main_arg0) = m ((c.tc : Thread Cert.Dwg1Ideal.nD Cert.Dwg1Ideal.τ).loc Cert.Dwg1Ideal.main_arg0)
          ∧ r.2.mem ((c.tc : Thread Cert.Dwg1Ideal.nD Cert.Dwg1Ideal.τ).loc Cert.Dwg1Ideal.main_arg1) = m ((c.tc : Thread Cert.Dwg1Ideal.nD Cert.Dwg1Ideal.τ).loc Cert.Dwg1Ideal.main_arg1)
          ∧ r.2.mem ((c.tc : Thread Cert.Dwg1Ideal.nD Cert.Dwg1Ideal.τ).loc Cert.Dwg1Ideal.main_arg2) = m ((c.tc : Thread Cert.Dwg1Ideal.nD Cert.Dwg1Ideal.τ).loc Cert.Dwg1Ideal.main_arg2))
      ∧ θ_run (Cert.Dwg1RefIdeal.defs (F := Ideal)) (onTc (τ := Cert.Dwg1RefIdeal.τ) (Cert.Dwg1RefIdeal.main (F := Ideal))) ⟨m', fun _ => 0, g'⟩ (fun r => ∀ c : Dev Cert.Dwg1RefIdeal.nD,
          r.2.mem ((c.tc : Thread Cert.Dwg1RefIdeal.nD Cert.Dwg1RefIdeal.τ).loc Cert.Dwg1RefIdeal.main_v12) = v0 c
          ∧ r.2.mem ((c.tc : Thread Cert.Dwg1RefIdeal.nD Cert.Dwg1RefIdeal.τ).loc Cert.Dwg1RefIdeal.main_arg0) = m' ((c.tc : Thread Cert.Dwg1RefIdeal.nD Cert.Dwg1RefIdeal.τ).loc Cert.Dwg1RefIdeal.main_arg0)
          ∧ r.2.mem ((c.tc : Thread Cert.Dwg1RefIdeal.nD Cert.Dwg1RefIdeal.τ).loc Cert.Dwg1RefIdeal.main_arg1) = m' ((c.tc : Thread Cert.Dwg1RefIdeal.nD Cert.Dwg1RefIdeal.τ).loc Cert.Dwg1RefIdeal.main_arg1)
          ∧ r.2.mem ((c.tc : Thread Cert.Dwg1RefIdeal.nD Cert.Dwg1RefIdeal.τ).loc Cert.Dwg1RefIdeal.main_arg2) = m' ((c.tc : Thread Cert.Dwg1RefIdeal.nD Cert.Dwg1RefIdeal.τ).loc Cert.Dwg1RefIdeal.main_arg2))

def preserves_Dwg2_Dwg2Ideal : Prop :=
  True

def algebraic_Dwg2Ideal_Dwg2RefIdeal [hDwg2Ideal : Cert.Dwg2Ideal.Facts] [hDwg2RefIdeal : Cert.Dwg2RefIdeal.Facts] : Prop :=
  ∀ (m : (ℓ : Loc Cert.Dwg2Ideal.nD Cert.Dwg2Ideal.τ Cert.Dwg2Ideal.sig) → Buf (Elt Ideal) ℓ) (g : Dev Cert.Dwg2Ideal.nD → PrngReg)
    (m' : (ℓ : Loc Cert.Dwg2RefIdeal.nD Cert.Dwg2RefIdeal.τ Cert.Dwg2RefIdeal.sig) → Buf (Elt Ideal) ℓ) (g' : Dev Cert.Dwg2RefIdeal.nD → PrngReg), Pre_Dwg2Ideal m →
    (∀ c : Dev Cert.Dwg2Ideal.nD,
      m' ((c.tc : Thread Cert.Dwg2RefIdeal.nD Cert.Dwg2RefIdeal.τ).loc Cert.Dwg2RefIdeal.main_arg0) = m ((c.tc : Thread Cert.Dwg2Ideal.nD Cert.Dwg2Ideal.τ).loc Cert.Dwg2Ideal.main_arg0)
      ∧ m' ((c.tc : Thread Cert.Dwg2RefIdeal.nD Cert.Dwg2RefIdeal.τ).loc Cert.Dwg2RefIdeal.main_arg1) = m ((c.tc : Thread Cert.Dwg2Ideal.nD Cert.Dwg2Ideal.τ).loc Cert.Dwg2Ideal.main_arg1)
      ∧ m' ((c.tc : Thread Cert.Dwg2RefIdeal.nD Cert.Dwg2RefIdeal.τ).loc Cert.Dwg2RefIdeal.main_arg2) = m ((c.tc : Thread Cert.Dwg2Ideal.nD Cert.Dwg2Ideal.τ).loc Cert.Dwg2Ideal.main_arg2)) →
    ∃ (v0 : (c : Dev Cert.Dwg2Ideal.nD) → Buf (Elt Ideal) ((c.tc : Thread Cert.Dwg2Ideal.nD Cert.Dwg2Ideal.τ).loc Cert.Dwg2Ideal.main_v1)),
      θ_run (Cert.Dwg2Ideal.defs (F := Ideal)) (onTc (τ := Cert.Dwg2Ideal.τ) (Cert.Dwg2Ideal.main (F := Ideal))) ⟨m, fun _ => 0, g⟩ (fun r => ∀ c : Dev Cert.Dwg2Ideal.nD,
          r.2.mem ((c.tc : Thread Cert.Dwg2Ideal.nD Cert.Dwg2Ideal.τ).loc Cert.Dwg2Ideal.main_v1) = v0 c
          ∧ r.2.mem ((c.tc : Thread Cert.Dwg2Ideal.nD Cert.Dwg2Ideal.τ).loc Cert.Dwg2Ideal.main_arg0) = m ((c.tc : Thread Cert.Dwg2Ideal.nD Cert.Dwg2Ideal.τ).loc Cert.Dwg2Ideal.main_arg0)
          ∧ r.2.mem ((c.tc : Thread Cert.Dwg2Ideal.nD Cert.Dwg2Ideal.τ).loc Cert.Dwg2Ideal.main_arg1) = m ((c.tc : Thread Cert.Dwg2Ideal.nD Cert.Dwg2Ideal.τ).loc Cert.Dwg2Ideal.main_arg1)
          ∧ r.2.mem ((c.tc : Thread Cert.Dwg2Ideal.nD Cert.Dwg2Ideal.τ).loc Cert.Dwg2Ideal.main_arg2) = m ((c.tc : Thread Cert.Dwg2Ideal.nD Cert.Dwg2Ideal.τ).loc Cert.Dwg2Ideal.main_arg2))
      ∧ θ_run (Cert.Dwg2RefIdeal.defs (F := Ideal)) (onTc (τ := Cert.Dwg2RefIdeal.τ) (Cert.Dwg2RefIdeal.main (F := Ideal))) ⟨m', fun _ => 0, g'⟩ (fun r => ∀ c : Dev Cert.Dwg2RefIdeal.nD,
          r.2.mem ((c.tc : Thread Cert.Dwg2RefIdeal.nD Cert.Dwg2RefIdeal.τ).loc Cert.Dwg2RefIdeal.main_v12) = v0 c
          ∧ r.2.mem ((c.tc : Thread Cert.Dwg2RefIdeal.nD Cert.Dwg2RefIdeal.τ).loc Cert.Dwg2RefIdeal.main_arg0) = m' ((c.tc : Thread Cert.Dwg2RefIdeal.nD Cert.Dwg2RefIdeal.τ).loc Cert.Dwg2RefIdeal.main_arg0)
          ∧ r.2.mem ((c.tc : Thread Cert.Dwg2RefIdeal.nD Cert.Dwg2RefIdeal.τ).loc Cert.Dwg2RefIdeal.main_arg1) = m' ((c.tc : Thread Cert.Dwg2RefIdeal.nD Cert.Dwg2RefIdeal.τ).loc Cert.Dwg2RefIdeal.main_arg1)
          ∧ r.2.mem ((c.tc : Thread Cert.Dwg2RefIdeal.nD Cert.Dwg2RefIdeal.τ).loc Cert.Dwg2RefIdeal.main_arg2) = m' ((c.tc : Thread Cert.Dwg2RefIdeal.nD Cert.Dwg2RefIdeal.τ).loc Cert.Dwg2RefIdeal.main_arg2))

def preserves_Dwin3_Dwin3Ideal : Prop :=
  True

def algebraic_Dwin3Ideal_Dwin3RefIdeal_on_win_last [hDwin3Ideal : Cert.Dwin3Ideal.Facts] [hDwin3RefIdeal : Cert.Dwin3RefIdeal.Facts] [hOn_win_last : Cert.On_win_last.Facts] : Prop :=
  ∀ (m : (ℓ : Loc Cert.Dwin3Ideal.nD Cert.Dwin3Ideal.τ Cert.Dwin3Ideal.sig) → Buf (Elt Ideal) ℓ) (g : Dev Cert.Dwin3Ideal.nD → PrngReg)
    (m' : (ℓ : Loc Cert.Dwin3RefIdeal.nD Cert.Dwin3RefIdeal.τ Cert.Dwin3RefIdeal.sig) → Buf (Elt Ideal) ℓ) (g' : Dev Cert.Dwin3RefIdeal.nD → PrngReg), Pre_Dwin3Ideal m →
    (∀ c : Dev Cert.Dwin3Ideal.nD,
      m' ((c.tc : Thread Cert.Dwin3RefIdeal.nD Cert.Dwin3RefIdeal.τ).loc Cert.Dwin3RefIdeal.main_arg0) = m ((c.tc : Thread Cert.Dwin3Ideal.nD Cert.Dwin3Ideal.τ).loc Cert.Dwin3Ideal.main_arg0)
      ∧ m' ((c.tc : Thread Cert.Dwin3RefIdeal.nD Cert.Dwin3RefIdeal.τ).loc Cert.Dwin3RefIdeal.main_arg1) = m ((c.tc : Thread Cert.Dwin3Ideal.nD Cert.Dwin3Ideal.τ).loc Cert.Dwin3Ideal.main_arg1)) →
    ∃ (v0 : (c : Dev Cert.Dwin3Ideal.nD) → Buf (Elt Ideal) ((c.tc : Thread Cert.Dwin3Ideal.nD Cert.Dwin3Ideal.τ).loc Cert.Dwin3Ideal.main_v2)),
      θ_run (Cert.Dwin3Ideal.defs (F := Ideal)) (onTc (τ := Cert.Dwin3Ideal.τ) (Cert.Dwin3Ideal.main (F := Ideal))) ⟨m, fun _ => 0, g⟩ (fun r => ∀ c : Dev Cert.Dwin3Ideal.nD,
          (∀ i : (⟨3, ![4, 5632, 1024]⟩ : Shape).Idx, (Cert.On_win_last.fn (F := Ideal) (m ((c.tc : Thread Cert.Dwin3Ideal.nD Cert.Dwin3Ideal.τ).loc Cert.Dwin3Ideal.main_arg0)) (m ((c.tc : Thread Cert.Dwin3Ideal.nD Cert.Dwin3Ideal.τ).loc Cert.Dwin3Ideal.main_arg1))) i = 1#1 → r.2.mem ((c.tc : Thread Cert.Dwin3Ideal.nD Cert.Dwin3Ideal.τ).loc Cert.Dwin3Ideal.main_v2) i = v0 c i)
          ∧ r.2.mem ((c.tc : Thread Cert.Dwin3Ideal.nD Cert.Dwin3Ideal.τ).loc Cert.Dwin3Ideal.main_arg0) = m ((c.tc : Thread Cert.Dwin3Ideal.nD Cert.Dwin3Ideal.τ).loc Cert.Dwin3Ideal.main_arg0)
          ∧ r.2.mem ((c.tc : Thread Cert.Dwin3Ideal.nD Cert.Dwin3Ideal.τ).loc Cert.Dwin3Ideal.main_arg1) = m ((c.tc : Thread Cert.Dwin3Ideal.nD Cert.Dwin3Ideal.τ).loc Cert.Dwin3Ideal.main_arg1))
      ∧ θ_run (Cert.Dwin3RefIdeal.defs (F := Ideal)) (onTc (τ := Cert.Dwin3RefIdeal.τ) (Cert.Dwin3RefIdeal.main (F := Ideal))) ⟨m', fun _ => 0, g'⟩ (fun r => ∀ c : Dev Cert.Dwin3RefIdeal.nD,
          (∀ i : (⟨3, ![4, 5632, 1024]⟩ : Shape).Idx, (Cert.On_win_last.fn (F := Ideal) (m ((c.tc : Thread Cert.Dwin3Ideal.nD Cert.Dwin3Ideal.τ).loc Cert.Dwin3Ideal.main_arg0)) (m ((c.tc : Thread Cert.Dwin3Ideal.nD Cert.Dwin3Ideal.τ).loc Cert.Dwin3Ideal.main_arg1))) i = 1#1 → r.2.mem ((c.tc : Thread Cert.Dwin3RefIdeal.nD Cert.Dwin3RefIdeal.τ).loc Cert.Dwin3RefIdeal.main_v7) i = v0 c i)
          ∧ r.2.mem ((c.tc : Thread Cert.Dwin3RefIdeal.nD Cert.Dwin3RefIdeal.τ).loc Cert.Dwin3RefIdeal.main_arg0) = m' ((c.tc : Thread Cert.Dwin3RefIdeal.nD Cert.Dwin3RefIdeal.τ).loc Cert.Dwin3RefIdeal.main_arg0)
          ∧ r.2.mem ((c.tc : Thread Cert.Dwin3RefIdeal.nD Cert.Dwin3RefIdeal.τ).loc Cert.Dwin3RefIdeal.main_arg1) = m' ((c.tc : Thread Cert.Dwin3RefIdeal.nD Cert.Dwin3RefIdeal.τ).loc Cert.Dwin3RefIdeal.main_arg1))

def preserves_Dwout3_Dwout3Ideal : Prop :=
  True

def algebraic_Dwout3Ideal_Dwout3RefIdeal_on_wout_last [hDwout3Ideal : Cert.Dwout3Ideal.Facts] [hDwout3RefIdeal : Cert.Dwout3RefIdeal.Facts] [hOn_wout_last : Cert.On_wout_last.Facts] : Prop :=
  ∀ (m : (ℓ : Loc Cert.Dwout3Ideal.nD Cert.Dwout3Ideal.τ Cert.Dwout3Ideal.sig) → Buf (Elt Ideal) ℓ) (g : Dev Cert.Dwout3Ideal.nD → PrngReg)
    (m' : (ℓ : Loc Cert.Dwout3RefIdeal.nD Cert.Dwout3RefIdeal.τ Cert.Dwout3RefIdeal.sig) → Buf (Elt Ideal) ℓ) (g' : Dev Cert.Dwout3RefIdeal.nD → PrngReg), Pre_Dwout3Ideal m →
    (∀ c : Dev Cert.Dwout3Ideal.nD,
      m' ((c.tc : Thread Cert.Dwout3RefIdeal.nD Cert.Dwout3RefIdeal.τ).loc Cert.Dwout3RefIdeal.main_arg0) = m ((c.tc : Thread Cert.Dwout3Ideal.nD Cert.Dwout3Ideal.τ).loc Cert.Dwout3Ideal.main_arg0)
      ∧ m' ((c.tc : Thread Cert.Dwout3RefIdeal.nD Cert.Dwout3RefIdeal.τ).loc Cert.Dwout3RefIdeal.main_arg1) = m ((c.tc : Thread Cert.Dwout3Ideal.nD Cert.Dwout3Ideal.τ).loc Cert.Dwout3Ideal.main_arg1)) →
    ∃ (v0 : (c : Dev Cert.Dwout3Ideal.nD) → Buf (Elt Ideal) ((c.tc : Thread Cert.Dwout3Ideal.nD Cert.Dwout3Ideal.τ).loc Cert.Dwout3Ideal.main_v2)),
      θ_run (Cert.Dwout3Ideal.defs (F := Ideal)) (onTc (τ := Cert.Dwout3Ideal.τ) (Cert.Dwout3Ideal.main (F := Ideal))) ⟨m, fun _ => 0, g⟩ (fun r => ∀ c : Dev Cert.Dwout3Ideal.nD,
          (∀ i : (⟨3, ![4, 2816, 1024]⟩ : Shape).Idx, (Cert.On_wout_last.fn (F := Ideal) (m ((c.tc : Thread Cert.Dwout3Ideal.nD Cert.Dwout3Ideal.τ).loc Cert.Dwout3Ideal.main_arg0)) (m ((c.tc : Thread Cert.Dwout3Ideal.nD Cert.Dwout3Ideal.τ).loc Cert.Dwout3Ideal.main_arg1))) i = 1#1 → r.2.mem ((c.tc : Thread Cert.Dwout3Ideal.nD Cert.Dwout3Ideal.τ).loc Cert.Dwout3Ideal.main_v2) i = v0 c i)
          ∧ r.2.mem ((c.tc : Thread Cert.Dwout3Ideal.nD Cert.Dwout3Ideal.τ).loc Cert.Dwout3Ideal.main_arg0) = m ((c.tc : Thread Cert.Dwout3Ideal.nD Cert.Dwout3Ideal.τ).loc Cert.Dwout3Ideal.main_arg0)
          ∧ r.2.mem ((c.tc : Thread Cert.Dwout3Ideal.nD Cert.Dwout3Ideal.τ).loc Cert.Dwout3Ideal.main_arg1) = m ((c.tc : Thread Cert.Dwout3Ideal.nD Cert.Dwout3Ideal.τ).loc Cert.Dwout3Ideal.main_arg1))
      ∧ θ_run (Cert.Dwout3RefIdeal.defs (F := Ideal)) (onTc (τ := Cert.Dwout3RefIdeal.τ) (Cert.Dwout3RefIdeal.main (F := Ideal))) ⟨m', fun _ => 0, g'⟩ (fun r => ∀ c : Dev Cert.Dwout3RefIdeal.nD,
          (∀ i : (⟨3, ![4, 2816, 1024]⟩ : Shape).Idx, (Cert.On_wout_last.fn (F := Ideal) (m ((c.tc : Thread Cert.Dwout3Ideal.nD Cert.Dwout3Ideal.τ).loc Cert.Dwout3Ideal.main_arg0)) (m ((c.tc : Thread Cert.Dwout3Ideal.nD Cert.Dwout3Ideal.τ).loc Cert.Dwout3Ideal.main_arg1))) i = 1#1 → r.2.mem ((c.tc : Thread Cert.Dwout3RefIdeal.nD Cert.Dwout3RefIdeal.τ).loc Cert.Dwout3RefIdeal.main_v6) i = v0 c i)
          ∧ r.2.mem ((c.tc : Thread Cert.Dwout3RefIdeal.nD Cert.Dwout3RefIdeal.τ).loc Cert.Dwout3RefIdeal.main_arg0) = m' ((c.tc : Thread Cert.Dwout3RefIdeal.nD Cert.Dwout3RefIdeal.τ).loc Cert.Dwout3RefIdeal.main_arg0)
          ∧ r.2.mem ((c.tc : Thread Cert.Dwout3RefIdeal.nD Cert.Dwout3RefIdeal.τ).loc Cert.Dwout3RefIdeal.main_arg1) = m' ((c.tc : Thread Cert.Dwout3RefIdeal.nD Cert.Dwout3RefIdeal.τ).loc Cert.Dwout3RefIdeal.main_arg1))

def preserves_Dwg3_Dwg3Ideal : Prop :=
  True

def algebraic_Dwg3Ideal_Dwg3RefIdeal_on_wg_last [hDwg3Ideal : Cert.Dwg3Ideal.Facts] [hDwg3RefIdeal : Cert.Dwg3RefIdeal.Facts] [hOn_wg_last : Cert.On_wg_last.Facts] : Prop :=
  ∀ (m : (ℓ : Loc Cert.Dwg3Ideal.nD Cert.Dwg3Ideal.τ Cert.Dwg3Ideal.sig) → Buf (Elt Ideal) ℓ) (g : Dev Cert.Dwg3Ideal.nD → PrngReg)
    (m' : (ℓ : Loc Cert.Dwg3RefIdeal.nD Cert.Dwg3RefIdeal.τ Cert.Dwg3RefIdeal.sig) → Buf (Elt Ideal) ℓ) (g' : Dev Cert.Dwg3RefIdeal.nD → PrngReg), Pre_Dwg3Ideal m →
    (∀ c : Dev Cert.Dwg3Ideal.nD,
      m' ((c.tc : Thread Cert.Dwg3RefIdeal.nD Cert.Dwg3RefIdeal.τ).loc Cert.Dwg3RefIdeal.main_arg0) = m ((c.tc : Thread Cert.Dwg3Ideal.nD Cert.Dwg3Ideal.τ).loc Cert.Dwg3Ideal.main_arg0)
      ∧ m' ((c.tc : Thread Cert.Dwg3RefIdeal.nD Cert.Dwg3RefIdeal.τ).loc Cert.Dwg3RefIdeal.main_arg1) = m ((c.tc : Thread Cert.Dwg3Ideal.nD Cert.Dwg3Ideal.τ).loc Cert.Dwg3Ideal.main_arg1)) →
    ∃ (v0 : (c : Dev Cert.Dwg3Ideal.nD) → Buf (Elt Ideal) ((c.tc : Thread Cert.Dwg3Ideal.nD Cert.Dwg3Ideal.τ).loc Cert.Dwg3Ideal.main_v1)),
      θ_run (Cert.Dwg3Ideal.defs (F := Ideal)) (onTc (τ := Cert.Dwg3Ideal.τ) (Cert.Dwg3Ideal.main (F := Ideal))) ⟨m, fun _ => 0, g⟩ (fun r => ∀ c : Dev Cert.Dwg3Ideal.nD,
          (∀ i : (⟨3, ![4, 1024, 1024]⟩ : Shape).Idx, (Cert.On_wg_last.fn (F := Ideal) (m ((c.tc : Thread Cert.Dwg3Ideal.nD Cert.Dwg3Ideal.τ).loc Cert.Dwg3Ideal.main_arg0)) (m ((c.tc : Thread Cert.Dwg3Ideal.nD Cert.Dwg3Ideal.τ).loc Cert.Dwg3Ideal.main_arg1))) i = 1#1 → r.2.mem ((c.tc : Thread Cert.Dwg3Ideal.nD Cert.Dwg3Ideal.τ).loc Cert.Dwg3Ideal.main_v1) i = v0 c i)
          ∧ r.2.mem ((c.tc : Thread Cert.Dwg3Ideal.nD Cert.Dwg3Ideal.τ).loc Cert.Dwg3Ideal.main_arg0) = m ((c.tc : Thread Cert.Dwg3Ideal.nD Cert.Dwg3Ideal.τ).loc Cert.Dwg3Ideal.main_arg0)
          ∧ r.2.mem ((c.tc : Thread Cert.Dwg3Ideal.nD Cert.Dwg3Ideal.τ).loc Cert.Dwg3Ideal.main_arg1) = m ((c.tc : Thread Cert.Dwg3Ideal.nD Cert.Dwg3Ideal.τ).loc Cert.Dwg3Ideal.main_arg1))
      ∧ θ_run (Cert.Dwg3RefIdeal.defs (F := Ideal)) (onTc (τ := Cert.Dwg3RefIdeal.τ) (Cert.Dwg3RefIdeal.main (F := Ideal))) ⟨m', fun _ => 0, g'⟩ (fun r => ∀ c : Dev Cert.Dwg3RefIdeal.nD,
          (∀ i : (⟨3, ![4, 1024, 1024]⟩ : Shape).Idx, (Cert.On_wg_last.fn (F := Ideal) (m ((c.tc : Thread Cert.Dwg3Ideal.nD Cert.Dwg3Ideal.τ).loc Cert.Dwg3Ideal.main_arg0)) (m ((c.tc : Thread Cert.Dwg3Ideal.nD Cert.Dwg3Ideal.τ).loc Cert.Dwg3Ideal.main_arg1))) i = 1#1 → r.2.mem ((c.tc : Thread Cert.Dwg3RefIdeal.nD Cert.Dwg3RefIdeal.τ).loc Cert.Dwg3RefIdeal.main_v6) i = v0 c i)
          ∧ r.2.mem ((c.tc : Thread Cert.Dwg3RefIdeal.nD Cert.Dwg3RefIdeal.τ).loc Cert.Dwg3RefIdeal.main_arg0) = m' ((c.tc : Thread Cert.Dwg3RefIdeal.nD Cert.Dwg3RefIdeal.τ).loc Cert.Dwg3RefIdeal.main_arg0)
          ∧ r.2.mem ((c.tc : Thread Cert.Dwg3RefIdeal.nD Cert.Dwg3RefIdeal.τ).loc Cert.Dwg3RefIdeal.main_arg1) = m' ((c.tc : Thread Cert.Dwg3RefIdeal.nD Cert.Dwg3RefIdeal.τ).loc Cert.Dwg3RefIdeal.main_arg1))

def preserves_PleB_PleBIdeal : Prop :=
  True

def algebraic_PleBIdeal_PleBRefIdeal [hPleBIdeal : Cert.PleBIdeal.Facts] [hPleBRefIdeal : Cert.PleBRefIdeal.Facts] : Prop :=
  ∀ (m : (ℓ : Loc Cert.PleBIdeal.nD Cert.PleBIdeal.τ Cert.PleBIdeal.sig) → Buf (Elt Ideal) ℓ) (g : Dev Cert.PleBIdeal.nD → PrngReg)
    (m' : (ℓ : Loc Cert.PleBRefIdeal.nD Cert.PleBRefIdeal.τ Cert.PleBRefIdeal.sig) → Buf (Elt Ideal) ℓ) (g' : Dev Cert.PleBRefIdeal.nD → PrngReg), Pre_PleBIdeal m →
    (∀ c : Dev Cert.PleBIdeal.nD,
      m' ((c.tc : Thread Cert.PleBRefIdeal.nD Cert.PleBRefIdeal.τ).loc Cert.PleBRefIdeal.main_arg0) = m ((c.tc : Thread Cert.PleBIdeal.nD Cert.PleBIdeal.τ).loc Cert.PleBIdeal.main_arg0)
      ∧ m' ((c.tc : Thread Cert.PleBRefIdeal.nD Cert.PleBRefIdeal.τ).loc Cert.PleBRefIdeal.main_arg1) = m ((c.tc : Thread Cert.PleBIdeal.nD Cert.PleBIdeal.τ).loc Cert.PleBIdeal.main_arg1)
      ∧ m' ((c.tc : Thread Cert.PleBRefIdeal.nD Cert.PleBRefIdeal.τ).loc Cert.PleBRefIdeal.main_arg2) = m ((c.tc : Thread Cert.PleBIdeal.nD Cert.PleBIdeal.τ).loc Cert.PleBIdeal.main_arg2)) →
    ∃ (v0 : (c : Dev Cert.PleBIdeal.nD) → Buf (Elt Ideal) ((c.tc : Thread Cert.PleBIdeal.nD Cert.PleBIdeal.τ).loc Cert.PleBIdeal.main_v0_0)) (v1 : (c : Dev Cert.PleBIdeal.nD) → Buf (Elt Ideal) ((c.tc : Thread Cert.PleBIdeal.nD Cert.PleBIdeal.τ).loc Cert.PleBIdeal.main_v0_1)),
      θ_run (Cert.PleBIdeal.defs (F := Ideal)) (onTc (τ := Cert.PleBIdeal.τ) (Cert.PleBIdeal.main (F := Ideal))) ⟨m, fun _ => 0, g⟩ (fun r => ∀ c : Dev Cert.PleBIdeal.nD,
          r.2.mem ((c.tc : Thread Cert.PleBIdeal.nD Cert.PleBIdeal.τ).loc Cert.PleBIdeal.main_v0_0) = v0 c
          ∧ r.2.mem ((c.tc : Thread Cert.PleBIdeal.nD Cert.PleBIdeal.τ).loc Cert.PleBIdeal.main_v0_1) = v1 c
          ∧ r.2.mem ((c.tc : Thread Cert.PleBIdeal.nD Cert.PleBIdeal.τ).loc Cert.PleBIdeal.main_arg0) = m ((c.tc : Thread Cert.PleBIdeal.nD Cert.PleBIdeal.τ).loc Cert.PleBIdeal.main_arg0)
          ∧ r.2.mem ((c.tc : Thread Cert.PleBIdeal.nD Cert.PleBIdeal.τ).loc Cert.PleBIdeal.main_arg1) = m ((c.tc : Thread Cert.PleBIdeal.nD Cert.PleBIdeal.τ).loc Cert.PleBIdeal.main_arg1)
          ∧ r.2.mem ((c.tc : Thread Cert.PleBIdeal.nD Cert.PleBIdeal.τ).loc Cert.PleBIdeal.main_arg2) = m ((c.tc : Thread Cert.PleBIdeal.nD Cert.PleBIdeal.τ).loc Cert.PleBIdeal.main_arg2))
      ∧ θ_run (Cert.PleBRefIdeal.defs (F := Ideal)) (onTc (τ := Cert.PleBRefIdeal.τ) (Cert.PleBRefIdeal.main (F := Ideal))) ⟨m', fun _ => 0, g'⟩ (fun r => ∀ c : Dev Cert.PleBRefIdeal.nD,
          r.2.mem ((c.tc : Thread Cert.PleBRefIdeal.nD Cert.PleBRefIdeal.τ).loc Cert.PleBRefIdeal.main_v15) = v0 c
          ∧ r.2.mem ((c.tc : Thread Cert.PleBRefIdeal.nD Cert.PleBRefIdeal.τ).loc Cert.PleBRefIdeal.main_v16) = v1 c
          ∧ r.2.mem ((c.tc : Thread Cert.PleBRefIdeal.nD Cert.PleBRefIdeal.τ).loc Cert.PleBRefIdeal.main_arg0) = m' ((c.tc : Thread Cert.PleBRefIdeal.nD Cert.PleBRefIdeal.τ).loc Cert.PleBRefIdeal.main_arg0)
          ∧ r.2.mem ((c.tc : Thread Cert.PleBRefIdeal.nD Cert.PleBRefIdeal.τ).loc Cert.PleBRefIdeal.main_arg1) = m' ((c.tc : Thread Cert.PleBRefIdeal.nD Cert.PleBRefIdeal.τ).loc Cert.PleBRefIdeal.main_arg1)
          ∧ r.2.mem ((c.tc : Thread Cert.PleBRefIdeal.nD Cert.PleBRefIdeal.τ).loc Cert.PleBRefIdeal.main_arg2) = m' ((c.tc : Thread Cert.PleBRefIdeal.nD Cert.PleBRefIdeal.τ).loc Cert.PleBRefIdeal.main_arg2))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)) →
    ∃ (v0 : (c : Dev Cert.PleIdeal.nD) → Buf (Elt Ideal) ((c.tc : Thread Cert.PleIdeal.nD Cert.PleIdeal.τ).loc Cert.PleIdeal.main_v0)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v7) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v4) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0))

def preserves_SwigluB_SwigluBIdeal : Prop :=
  True

def algebraic_SwigluBIdeal_SwigluBRefIdeal_pre_finite_gated [hSwigluBIdeal : Cert.SwigluBIdeal.Facts] [hSwigluBRefIdeal : Cert.SwigluBRefIdeal.Facts] [hPre_finite_gated : Cert.Pre_finite_gated.Facts] : Prop :=
  ∀ (m : (ℓ : Loc Cert.SwigluBIdeal.nD Cert.SwigluBIdeal.τ Cert.SwigluBIdeal.sig) → Buf (Elt Ideal) ℓ) (g : Dev Cert.SwigluBIdeal.nD → PrngReg)
    (m' : (ℓ : Loc Cert.SwigluBRefIdeal.nD Cert.SwigluBRefIdeal.τ Cert.SwigluBRefIdeal.sig) → Buf (Elt Ideal) ℓ) (g' : Dev Cert.SwigluBRefIdeal.nD → PrngReg), Pre_SwigluBIdeal_finite_gated m →
    (∀ c : Dev Cert.SwigluBIdeal.nD,
      m' ((c.tc : Thread Cert.SwigluBRefIdeal.nD Cert.SwigluBRefIdeal.τ).loc Cert.SwigluBRefIdeal.main_arg0) = m ((c.tc : Thread Cert.SwigluBIdeal.nD Cert.SwigluBIdeal.τ).loc Cert.SwigluBIdeal.main_arg0)
      ∧ m' ((c.tc : Thread Cert.SwigluBRefIdeal.nD Cert.SwigluBRefIdeal.τ).loc Cert.SwigluBRefIdeal.main_arg1) = m ((c.tc : Thread Cert.SwigluBIdeal.nD Cert.SwigluBIdeal.τ).loc Cert.SwigluBIdeal.main_arg1)) →
    ∃ (v0 : (c : Dev Cert.SwigluBIdeal.nD) → Buf (Elt Ideal) ((c.tc : Thread Cert.SwigluBIdeal.nD Cert.SwigluBIdeal.τ).loc Cert.SwigluBIdeal.main_v0)),
      θ_run (Cert.SwigluBIdeal.defs (F := Ideal)) (onTc (τ := Cert.SwigluBIdeal.τ) (Cert.SwigluBIdeal.main (F := Ideal))) ⟨m, fun _ => 0, g⟩ (fun r => ∀ c : Dev Cert.SwigluBIdeal.nD,
          r.2.mem ((c.tc : Thread Cert.SwigluBIdeal.nD Cert.SwigluBIdeal.τ).loc Cert.SwigluBIdeal.main_v0) = v0 c
          ∧ r.2.mem ((c.tc : Thread Cert.SwigluBIdeal.nD Cert.SwigluBIdeal.τ).loc Cert.SwigluBIdeal.main_arg0) = m ((c.tc : Thread Cert.SwigluBIdeal.nD Cert.SwigluBIdeal.τ).loc Cert.SwigluBIdeal.main_arg0)
          ∧ r.2.mem ((c.tc : Thread Cert.SwigluBIdeal.nD Cert.SwigluBIdeal.τ).loc Cert.SwigluBIdeal.main_arg1) = m ((c.tc : Thread Cert.SwigluBIdeal.nD Cert.SwigluBIdeal.τ).loc Cert.SwigluBIdeal.main_arg1))
      ∧ θ_run (Cert.SwigluBRefIdeal.defs (F := Ideal)) (onTc (τ := Cert.SwigluBRefIdeal.τ) (Cert.SwigluBRefIdeal.main (F := Ideal))) ⟨m', fun _ => 0, g'⟩ (fun r => ∀ c : Dev Cert.SwigluBRefIdeal.nD,
          r.2.mem ((c.tc : Thread Cert.SwigluBRefIdeal.nD Cert.SwigluBRefIdeal.τ).loc Cert.SwigluBRefIdeal.main_v10) = v0 c
          ∧ r.2.mem ((c.tc : Thread Cert.SwigluBRefIdeal.nD Cert.SwigluBRefIdeal.τ).loc Cert.SwigluBRefIdeal.main_arg0) = m' ((c.tc : Thread Cert.SwigluBRefIdeal.nD Cert.SwigluBRefIdeal.τ).loc Cert.SwigluBRefIdeal.main_arg0)
          ∧ r.2.mem ((c.tc : Thread Cert.SwigluBRefIdeal.nD Cert.SwigluBRefIdeal.τ).loc Cert.SwigluBRefIdeal.main_arg1) = m' ((c.tc : Thread Cert.SwigluBRefIdeal.nD Cert.SwigluBRefIdeal.τ).loc Cert.SwigluBRefIdeal.main_arg1))

def preserves_NormIn_NormInIdeal : Prop :=
  True

def algebraic_NormInIdeal_NormInRefIdeal [hNormInIdeal : Cert.NormInIdeal.Facts] [hNormInRefIdeal : Cert.NormInRefIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)) →
    ∃ (v0 : (c : Dev Cert.NormInIdeal.nD) → Buf (Elt Ideal) ((c.tc : Thread Cert.NormInIdeal.nD Cert.NormInIdeal.τ).loc Cert.NormInIdeal.main_v0)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v0) = v0 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v12) = v0 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1))

def preserves_NormOut_NormOutIdeal : Prop :=
  True

def algebraic_NormOutIdeal_NormOutRefIdeal [hNormOutIdeal : Cert.NormOutIdeal.Facts] [hNormOutRefIdeal : Cert.NormOutRefIdeal.Facts] : Prop :=
  ∀ (m : (ℓ : Loc Cert.NormOutIdeal.nD Cert.NormOutIdeal.τ Cert.NormOutIdeal.sig) → Buf (Elt Ideal) ℓ) (g : Dev Cert.NormOutIdeal.nD → PrngReg)
    (m' : (ℓ : Loc Cert.NormOutRefIdeal.nD Cert.NormOutRefIdeal.τ Cert.NormOutRefIdeal.sig) → Buf (Elt Ideal) ℓ) (g' : Dev Cert.NormOutRefIdeal.nD → PrngReg), Pre_NormOutIdeal m →
    (∀ c : Dev Cert.NormOutIdeal.nD,
      m' ((c.tc : Thread Cert.NormOutRefIdeal.nD Cert.NormOutRefIdeal.τ).loc Cert.NormOutRefIdeal.main_arg0) = m ((c.tc : Thread Cert.NormOutIdeal.nD Cert.NormOutIdeal.τ).loc Cert.NormOutIdeal.main_arg0)
      ∧ m' ((c.tc : Thread Cert.NormOutRefIdeal.nD Cert.NormOutRefIdeal.τ).loc Cert.NormOutRefIdeal.main_arg1) = m ((c.tc : Thread Cert.NormOutIdeal.nD Cert.NormOutIdeal.τ).loc Cert.NormOutIdeal.main_arg1)
      ∧ m' ((c.tc : Thread Cert.NormOutRefIdeal.nD Cert.NormOutRefIdeal.τ).loc Cert.NormOutRefIdeal.main_arg2) = m ((c.tc : Thread Cert.NormOutIdeal.nD Cert.NormOutIdeal.τ).loc Cert.NormOutIdeal.main_arg2)) →
    ∃ (v0 : (c : Dev Cert.NormOutIdeal.nD) → Buf (Elt Ideal) ((c.tc : Thread Cert.NormOutIdeal.nD Cert.NormOutIdeal.τ).loc Cert.NormOutIdeal.main_v0)),
      θ_run (Cert.NormOutIdeal.defs (F := Ideal)) (onTc (τ := Cert.NormOutIdeal.τ) (Cert.NormOutIdeal.main (F := Ideal))) ⟨m, fun _ => 0, g⟩ (fun r => ∀ c : Dev Cert.NormOutIdeal.nD,
          r.2.mem ((c.tc : Thread Cert.NormOutIdeal.nD Cert.NormOutIdeal.τ).loc Cert.NormOutIdeal.main_v0) = v0 c
          ∧ r.2.mem ((c.tc : Thread Cert.NormOutIdeal.nD Cert.NormOutIdeal.τ).loc Cert.NormOutIdeal.main_arg0) = m ((c.tc : Thread Cert.NormOutIdeal.nD Cert.NormOutIdeal.τ).loc Cert.NormOutIdeal.main_arg0)
          ∧ r.2.mem ((c.tc : Thread Cert.NormOutIdeal.nD Cert.NormOutIdeal.τ).loc Cert.NormOutIdeal.main_arg1) = m ((c.tc : Thread Cert.NormOutIdeal.nD Cert.NormOutIdeal.τ).loc Cert.NormOutIdeal.main_arg1)
          ∧ r.2.mem ((c.tc : Thread Cert.NormOutIdeal.nD Cert.NormOutIdeal.τ).loc Cert.NormOutIdeal.main_arg2) = m ((c.tc : Thread Cert.NormOutIdeal.nD Cert.NormOutIdeal.τ).loc Cert.NormOutIdeal.main_arg2))
      ∧ θ_run (Cert.NormOutRefIdeal.defs (F := Ideal)) (onTc (τ := Cert.NormOutRefIdeal.τ) (Cert.NormOutRefIdeal.main (F := Ideal))) ⟨m', fun _ => 0, g'⟩ (fun r => ∀ c : Dev Cert.NormOutRefIdeal.nD,
          r.2.mem ((c.tc : Thread Cert.NormOutRefIdeal.nD Cert.NormOutRefIdeal.τ).loc Cert.NormOutRefIdeal.main_v12) = v0 c
          ∧ r.2.mem ((c.tc : Thread Cert.NormOutRefIdeal.nD Cert.NormOutRefIdeal.τ).loc Cert.NormOutRefIdeal.main_arg0) = m' ((c.tc : Thread Cert.NormOutRefIdeal.nD Cert.NormOutRefIdeal.τ).loc Cert.NormOutRefIdeal.main_arg0)
          ∧ r.2.mem ((c.tc : Thread Cert.NormOutRefIdeal.nD Cert.NormOutRefIdeal.τ).loc Cert.NormOutRefIdeal.main_arg1) = m' ((c.tc : Thread Cert.NormOutRefIdeal.nD Cert.NormOutRefIdeal.τ).loc Cert.NormOutRefIdeal.main_arg1)
          ∧ r.2.mem ((c.tc : Thread Cert.NormOutRefIdeal.nD Cert.NormOutRefIdeal.τ).loc Cert.NormOutRefIdeal.main_arg2) = m' ((c.tc : Thread Cert.NormOutRefIdeal.nD Cert.NormOutRefIdeal.τ).loc Cert.NormOutRefIdeal.main_arg2))

def preserves_NormQ_NormQIdeal : Prop :=
  True

def algebraic_NormQIdeal_NormQRefIdeal [hNormQIdeal : Cert.NormQIdeal.Facts] [hNormQRefIdeal : Cert.NormQRefIdeal.Facts] : Prop :=
  ∀ (m : (ℓ : Loc Cert.NormQIdeal.nD Cert.NormQIdeal.τ Cert.NormQIdeal.sig) → Buf (Elt Ideal) ℓ) (g : Dev Cert.NormQIdeal.nD → PrngReg)
    (m' : (ℓ : Loc Cert.NormQRefIdeal.nD Cert.NormQRefIdeal.τ Cert.NormQRefIdeal.sig) → Buf (Elt Ideal) ℓ) (g' : Dev Cert.NormQRefIdeal.nD → PrngReg), Pre_NormQIdeal m →
    (∀ c : Dev Cert.NormQIdeal.nD,
      m' ((c.tc : Thread Cert.NormQRefIdeal.nD Cert.NormQRefIdeal.τ).loc Cert.NormQRefIdeal.main_arg0) = m ((c.tc : Thread Cert.NormQIdeal.nD Cert.NormQIdeal.τ).loc Cert.NormQIdeal.main_arg0)
      ∧ m' ((c.tc : Thread Cert.NormQRefIdeal.nD Cert.NormQRefIdeal.τ).loc Cert.NormQRefIdeal.main_arg1) = m ((c.tc : Thread Cert.NormQIdeal.nD Cert.NormQIdeal.τ).loc Cert.NormQIdeal.main_arg1)) →
    ∃ (v0 : (c : Dev Cert.NormQIdeal.nD) → Buf (Elt Ideal) ((c.tc : Thread Cert.NormQIdeal.nD Cert.NormQIdeal.τ).loc Cert.NormQIdeal.main_v0)),
      θ_run (Cert.NormQIdeal.defs (F := Ideal)) (onTc (τ := Cert.NormQIdeal.τ) (Cert.NormQIdeal.main (F := Ideal))) ⟨m, fun _ => 0, g⟩ (fun r => ∀ c : Dev Cert.NormQIdeal.nD,
          r.2.mem ((c.tc : Thread Cert.NormQIdeal.nD Cert.NormQIdeal.τ).loc Cert.NormQIdeal.main_v0) = v0 c
          ∧ r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
          ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1))
      ∧ θ_run (Cert.NormQRefIdeal.defs (F := Ideal)) (onTc (τ := Cert.NormQRefIdeal.τ) (Cert.NormQRefIdeal.main (F := Ideal))) ⟨m', fun _ => 0, g'⟩ (fun r => ∀ c : Dev Cert.NormQRefIdeal.nD,
          r.2.mem ((c.tc : Thread Cert.NormQRefIdeal.nD Cert.NormQRefIdeal.τ).loc Cert.NormQRefIdeal.main_v12) = v0 c
          ∧ r.2.mem ((c.tc : Thread Cert.NormQRefIdeal.nD Cert.NormQRefIdeal.τ).loc Cert.NormQRefIdeal.main_arg0) = m' ((c.tc : Thread Cert.NormQRefIdeal.nD Cert.NormQRefIdeal.τ).loc Cert.NormQRefIdeal.main_arg0)
          ∧ r.2.mem ((c.tc : Thread Cert.NormQRefIdeal.nD Cert.NormQRefIdeal.τ).loc Cert.NormQRefIdeal.main_arg1) = m' ((c.tc : Thread Cert.NormQRefIdeal.nD Cert.NormQRefIdeal.τ).loc Cert.NormQRefIdeal.main_arg1))

def preserves_NormKv_NormKvIdeal : Prop :=
  True

def algebraic_NormKvIdeal_NormKvRefIdeal [hNormKvIdeal : Cert.NormKvIdeal.Facts] [hNormKvRefIdeal : Cert.NormKvRefIdeal.Facts] : Prop :=
  ∀ (m : (ℓ : Loc Cert.NormKvIdeal.nD Cert.NormKvIdeal.τ Cert.NormKvIdeal.sig) → Buf (Elt Ideal) ℓ) (g : Dev Cert.NormKvIdeal.nD → PrngReg)
    (m' : (ℓ : Loc Cert.NormKvRefIdeal.nD Cert.NormKvRefIdeal.τ Cert.NormKvRefIdeal.sig) → Buf (Elt Ideal) ℓ) (g' : Dev Cert.NormKvRefIdeal.nD → PrngReg), Pre_NormKvIdeal m →
    (∀ c : Dev Cert.NormKvIdeal.nD,
      m' ((c.tc : Thread Cert.NormKvRefIdeal.nD Cert.NormKvRefIdeal.τ).loc Cert.NormKvRefIdeal.main_arg0) = m ((c.tc : Thread Cert.NormKvIdeal.nD Cert.NormKvIdeal.τ).loc Cert.NormKvIdeal.main_arg0)
      ∧ m' ((c.tc : Thread Cert.NormKvRefIdeal.nD Cert.NormKvRefIdeal.τ).loc Cert.NormKvRefIdeal.main_arg1) = m ((c.tc : Thread Cert.NormKvIdeal.nD Cert.NormKvIdeal.τ).loc Cert.NormKvIdeal.main_arg1)) →
    ∃ (v0 : (c : Dev Cert.NormKvIdeal.nD) → Buf (Elt Ideal) ((c.tc : Thread Cert.NormKvIdeal.nD Cert.NormKvIdeal.τ).loc Cert.NormKvIdeal.main_v0)),
      θ_run (Cert.NormKvIdeal.defs (F := Ideal)) (onTc (τ := Cert.NormKvIdeal.τ) (Cert.NormKvIdeal.main (F := Ideal))) ⟨m, fun _ => 0, g⟩ (fun r => ∀ c : Dev Cert.NormKvIdeal.nD,
          r.2.mem ((c.tc : Thread Cert.NormKvIdeal.nD Cert.NormKvIdeal.τ).loc Cert.NormKvIdeal.main_v0) = v0 c
          ∧ r.2.mem ((c.tc : Thread Cert.NormKvIdeal.nD Cert.NormKvIdeal.τ).loc Cert.NormKvIdeal.main_arg0) = m ((c.tc : Thread Cert.NormKvIdeal.nD Cert.NormKvIdeal.τ).loc Cert.NormKvIdeal.main_arg0)
          ∧ r.2.mem ((c.tc : Thread Cert.NormKvIdeal.nD Cert.NormKvIdeal.τ).loc Cert.NormKvIdeal.main_arg1) = m ((c.tc : Thread Cert.NormKvIdeal.nD Cert.NormKvIdeal.τ).loc Cert.NormKvIdeal.main_arg1))
      ∧ θ_run (Cert.NormKvRefIdeal.defs (F := Ideal)) (onTc (τ := Cert.NormKvRefIdeal.τ) (Cert.NormKvRefIdeal.main (F := Ideal))) ⟨m', fun _ => 0, g'⟩ (fun r => ∀ c : Dev Cert.NormKvRefIdeal.nD,
          r.2.mem ((c.tc : Thread Cert.NormKvRefIdeal.nD Cert.NormKvRefIdeal.τ).loc Cert.NormKvRefIdeal.main_v12) = v0 c
          ∧ r.2.mem ((c.tc : Thread Cert.NormKvRefIdeal.nD Cert.NormKvRefIdeal.τ).loc Cert.NormKvRefIdeal.main_arg0) = m' ((c.tc : Thread Cert.NormKvRefIdeal.nD Cert.NormKvRefIdeal.τ).loc Cert.NormKvRefIdeal.main_arg0)
          ∧ r.2.mem ((c.tc : Thread Cert.NormKvRefIdeal.nD Cert.NormKvRefIdeal.τ).loc Cert.NormKvRefIdeal.main_arg1) = m' ((c.tc : Thread Cert.NormKvRefIdeal.nD Cert.NormKvRefIdeal.τ).loc Cert.NormKvRefIdeal.main_arg1))

def preserves_NormInB_NormInBIdeal : Prop :=
  True

def algebraic_NormInBIdeal_NormInBRefIdeal_pre_finite_norm_in [hNormInBIdeal : Cert.NormInBIdeal.Facts] [hNormInBRefIdeal : Cert.NormInBRefIdeal.Facts] [hPre_finite_norm_in : Cert.Pre_finite_norm_in.Facts] : Prop :=
  ∀ (m : (ℓ : Loc Cert.NormInBIdeal.nD Cert.NormInBIdeal.τ Cert.NormInBIdeal.sig) → Buf (Elt Ideal) ℓ) (g : Dev Cert.NormInBIdeal.nD → PrngReg)
    (m' : (ℓ : Loc Cert.NormInBRefIdeal.nD Cert.NormInBRefIdeal.τ Cert.NormInBRefIdeal.sig) → Buf (Elt Ideal) ℓ) (g' : Dev Cert.NormInBRefIdeal.nD → PrngReg), Pre_NormInBIdeal_finite_norm_in m →
    (∀ c : Dev Cert.NormInBIdeal.nD,
      m' ((c.tc : Thread Cert.NormInBRefIdeal.nD Cert.NormInBRefIdeal.τ).loc Cert.NormInBRefIdeal.main_arg0) = m ((c.tc : Thread Cert.NormInBIdeal.nD Cert.NormInBIdeal.τ).loc Cert.NormInBIdeal.main_arg0)
      ∧ m' ((c.tc : Thread Cert.NormInBRefIdeal.nD Cert.NormInBRefIdeal.τ).loc Cert.NormInBRefIdeal.main_arg1) = m ((c.tc : Thread Cert.NormInBIdeal.nD Cert.NormInBIdeal.τ).loc Cert.NormInBIdeal.main_arg1)
      ∧ m' ((c.tc : Thread Cert.NormInBRefIdeal.nD Cert.NormInBRefIdeal.τ).loc Cert.NormInBRefIdeal.main_arg2) = m ((c.tc : Thread Cert.NormInBIdeal.nD Cert.NormInBIdeal.τ).loc Cert.NormInBIdeal.main_arg2)
      ∧ m' ((c.tc : Thread Cert.NormInBRefIdeal.nD Cert.NormInBRefIdeal.τ).loc Cert.NormInBRefIdeal.main_arg3) = m ((c.tc : Thread Cert.NormInBIdeal.nD Cert.NormInBIdeal.τ).loc Cert.NormInBIdeal.main_arg3)) →
    ∃ (v0 : (c : Dev Cert.NormInBIdeal.nD) → Buf (Elt Ideal) ((c.tc : Thread Cert.NormInBIdeal.nD Cert.NormInBIdeal.τ).loc Cert.NormInBIdeal.main_v0_0)) (v1 : (c : Dev Cert.NormInBIdeal.nD) → Buf (Elt Ideal) ((c.tc : Thread Cert.NormInBIdeal.nD Cert.NormInBIdeal.τ).loc Cert.NormInBIdeal.main_v0_1)),
      θ_run (Cert.NormInBIdeal.defs (F := Ideal)) (onTc (τ := Cert.NormInBIdeal.τ) (Cert.NormInBIdeal.main (F := Ideal))) ⟨m, fun _ => 0, g⟩ (fun r => ∀ c : Dev Cert.NormInBIdeal.nD,
          r.2.mem ((c.tc : Thread Cert.NormInBIdeal.nD Cert.NormInBIdeal.τ).loc Cert.NormInBIdeal.main_v0_0) = v0 c
          ∧ r.2.mem ((c.tc : Thread Cert.NormInBIdeal.nD Cert.NormInBIdeal.τ).loc Cert.NormInBIdeal.main_v0_1) = v1 c
          ∧ r.2.mem ((c.tc : Thread Cert.NormInBIdeal.nD Cert.NormInBIdeal.τ).loc Cert.NormInBIdeal.main_arg0) = m ((c.tc : Thread Cert.NormInBIdeal.nD Cert.NormInBIdeal.τ).loc Cert.NormInBIdeal.main_arg0)
          ∧ r.2.mem ((c.tc : Thread Cert.NormInBIdeal.nD Cert.NormInBIdeal.τ).loc Cert.NormInBIdeal.main_arg1) = m ((c.tc : Thread Cert.NormInBIdeal.nD Cert.NormInBIdeal.τ).loc Cert.NormInBIdeal.main_arg1)
          ∧ r.2.mem ((c.tc : Thread Cert.NormInBIdeal.nD Cert.NormInBIdeal.τ).loc Cert.NormInBIdeal.main_arg2) = m ((c.tc : Thread Cert.NormInBIdeal.nD Cert.NormInBIdeal.τ).loc Cert.NormInBIdeal.main_arg2)
          ∧ r.2.mem ((c.tc : Thread Cert.NormInBIdeal.nD Cert.NormInBIdeal.τ).loc Cert.NormInBIdeal.main_arg3) = m ((c.tc : Thread Cert.NormInBIdeal.nD Cert.NormInBIdeal.τ).loc Cert.NormInBIdeal.main_arg3))
      ∧ θ_run (Cert.NormInBRefIdeal.defs (F := Ideal)) (onTc (τ := Cert.NormInBRefIdeal.τ) (Cert.NormInBRefIdeal.main (F := Ideal))) ⟨m', fun _ => 0, g'⟩ (fun r => ∀ c : Dev Cert.NormInBRefIdeal.nD,
          r.2.mem ((c.tc : Thread Cert.NormInBRefIdeal.nD Cert.NormInBRefIdeal.τ).loc Cert.NormInBRefIdeal.main_v34) = v0 c
          ∧ r.2.mem ((c.tc : Thread Cert.NormInBRefIdeal.nD Cert.NormInBRefIdeal.τ).loc Cert.NormInBRefIdeal.main_v17) = v1 c
          ∧ r.2.mem ((c.tc : Thread Cert.NormInBRefIdeal.nD Cert.NormInBRefIdeal.τ).loc Cert.NormInBRefIdeal.main_arg0) = m' ((c.tc : Thread Cert.NormInBRefIdeal.nD Cert.NormInBRefIdeal.τ).loc Cert.NormInBRefIdeal.main_arg0)
          ∧ r.2.mem ((c.tc : Thread Cert.NormInBRefIdeal.nD Cert.NormInBRefIdeal.τ).loc Cert.NormInBRefIdeal.main_arg1) = m' ((c.tc : Thread Cert.NormInBRefIdeal.nD Cert.NormInBRefIdeal.τ).loc Cert.NormInBRefIdeal.main_arg1)
          ∧ r.2.mem ((c.tc : Thread Cert.NormInBRefIdeal.nD Cert.NormInBRefIdeal.τ).loc Cert.NormInBRefIdeal.main_arg2) = m' ((c.tc : Thread Cert.NormInBRefIdeal.nD Cert.NormInBRefIdeal.τ).loc Cert.NormInBRefIdeal.main_arg2)
          ∧ r.2.mem ((c.tc : Thread Cert.NormInBRefIdeal.nD Cert.NormInBRefIdeal.τ).loc Cert.NormInBRefIdeal.main_arg3) = m' ((c.tc : Thread Cert.NormInBRefIdeal.nD Cert.NormInBRefIdeal.τ).loc Cert.NormInBRefIdeal.main_arg3))

def preserves_NormOutB_NormOutBIdeal : Prop :=
  True

def algebraic_NormOutBIdeal_NormOutBRefIdeal_pre_finite_norm [hNormOutBIdeal : Cert.NormOutBIdeal.Facts] [hNormOutBRefIdeal : Cert.NormOutBRefIdeal.Facts] [hPre_finite_norm : Cert.Pre_finite_norm.Facts] : Prop :=
  ∀ (m : (ℓ : Loc Cert.NormOutBIdeal.nD Cert.NormOutBIdeal.τ Cert.NormOutBIdeal.sig) → Buf (Elt Ideal) ℓ) (g : Dev Cert.NormOutBIdeal.nD → PrngReg)
    (m' : (ℓ : Loc Cert.NormOutBRefIdeal.nD Cert.NormOutBRefIdeal.τ Cert.NormOutBRefIdeal.sig) → Buf (Elt Ideal) ℓ) (g' : Dev Cert.NormOutBRefIdeal.nD → PrngReg), Pre_NormOutBIdeal_finite_norm m →
    (∀ c : Dev Cert.NormOutBIdeal.nD,
      m' ((c.tc : Thread Cert.NormOutBRefIdeal.nD Cert.NormOutBRefIdeal.τ).loc Cert.NormOutBRefIdeal.main_arg0) = m ((c.tc : Thread Cert.NormOutBIdeal.nD Cert.NormOutBIdeal.τ).loc Cert.NormOutBIdeal.main_arg0)
      ∧ m' ((c.tc : Thread Cert.NormOutBRefIdeal.nD Cert.NormOutBRefIdeal.τ).loc Cert.NormOutBRefIdeal.main_arg1) = m ((c.tc : Thread Cert.NormOutBIdeal.nD Cert.NormOutBIdeal.τ).loc Cert.NormOutBIdeal.main_arg1)
      ∧ m' ((c.tc : Thread Cert.NormOutBRefIdeal.nD Cert.NormOutBRefIdeal.τ).loc Cert.NormOutBRefIdeal.main_arg2) = m ((c.tc : Thread Cert.NormOutBIdeal.nD Cert.NormOutBIdeal.τ).loc Cert.NormOutBIdeal.main_arg2)) →
    ∃ (v0 : (c : Dev Cert.NormOutBIdeal.nD) → Buf (Elt Ideal) ((c.tc : Thread Cert.NormOutBIdeal.nD Cert.NormOutBIdeal.τ).loc Cert.NormOutBIdeal.main_v0_0)) (v1 : (c : Dev Cert.NormOutBIdeal.nD) → Buf (Elt Ideal) ((c.tc : Thread Cert.NormOutBIdeal.nD Cert.NormOutBIdeal.τ).loc Cert.NormOutBIdeal.main_v0_1)),
      θ_run (Cert.NormOutBIdeal.defs (F := Ideal)) (onTc (τ := Cert.NormOutBIdeal.τ) (Cert.NormOutBIdeal.main (F := Ideal))) ⟨m, fun _ => 0, g⟩ (fun r => ∀ c : Dev Cert.NormOutBIdeal.nD,
          r.2.mem ((c.tc : Thread Cert.NormOutBIdeal.nD Cert.NormOutBIdeal.τ).loc Cert.NormOutBIdeal.main_v0_0) = v0 c
          ∧ r.2.mem ((c.tc : Thread Cert.NormOutBIdeal.nD Cert.NormOutBIdeal.τ).loc Cert.NormOutBIdeal.main_v0_1) = v1 c
          ∧ r.2.mem ((c.tc : Thread Cert.NormOutBIdeal.nD Cert.NormOutBIdeal.τ).loc Cert.NormOutBIdeal.main_arg0) = m ((c.tc : Thread Cert.NormOutBIdeal.nD Cert.NormOutBIdeal.τ).loc Cert.NormOutBIdeal.main_arg0)
          ∧ r.2.mem ((c.tc : Thread Cert.NormOutBIdeal.nD Cert.NormOutBIdeal.τ).loc Cert.NormOutBIdeal.main_arg1) = m ((c.tc : Thread Cert.NormOutBIdeal.nD Cert.NormOutBIdeal.τ).loc Cert.NormOutBIdeal.main_arg1)
          ∧ r.2.mem ((c.tc : Thread Cert.NormOutBIdeal.nD Cert.NormOutBIdeal.τ).loc Cert.NormOutBIdeal.main_arg2) = m ((c.tc : Thread Cert.NormOutBIdeal.nD Cert.NormOutBIdeal.τ).loc Cert.NormOutBIdeal.main_arg2))
      ∧ θ_run (Cert.NormOutBRefIdeal.defs (F := Ideal)) (onTc (τ := Cert.NormOutBRefIdeal.τ) (Cert.NormOutBRefIdeal.main (F := Ideal))) ⟨m', fun _ => 0, g'⟩ (fun r => ∀ c : Dev Cert.NormOutBRefIdeal.nD,
          r.2.mem ((c.tc : Thread Cert.NormOutBRefIdeal.nD Cert.NormOutBRefIdeal.τ).loc Cert.NormOutBRefIdeal.main_v34) = v0 c
          ∧ r.2.mem ((c.tc : Thread Cert.NormOutBRefIdeal.nD Cert.NormOutBRefIdeal.τ).loc Cert.NormOutBRefIdeal.main_v17) = v1 c
          ∧ r.2.mem ((c.tc : Thread Cert.NormOutBRefIdeal.nD Cert.NormOutBRefIdeal.τ).loc Cert.NormOutBRefIdeal.main_arg0) = m' ((c.tc : Thread Cert.NormOutBRefIdeal.nD Cert.NormOutBRefIdeal.τ).loc Cert.NormOutBRefIdeal.main_arg0)
          ∧ r.2.mem ((c.tc : Thread Cert.NormOutBRefIdeal.nD Cert.NormOutBRefIdeal.τ).loc Cert.NormOutBRefIdeal.main_arg1) = m' ((c.tc : Thread Cert.NormOutBRefIdeal.nD Cert.NormOutBRefIdeal.τ).loc Cert.NormOutBRefIdeal.main_arg1)
          ∧ r.2.mem ((c.tc : Thread Cert.NormOutBRefIdeal.nD Cert.NormOutBRefIdeal.τ).loc Cert.NormOutBRefIdeal.main_arg2) = m' ((c.tc : Thread Cert.NormOutBRefIdeal.nD Cert.NormOutBRefIdeal.τ).loc Cert.NormOutBRefIdeal.main_arg2))

def preserves_GateB_GateBIdeal : Prop :=
  True

def algebraic_GateBIdeal_GateBRefIdeal [hGateBIdeal : Cert.GateBIdeal.Facts] [hGateBRefIdeal : Cert.GateBRefIdeal.Facts] : Prop :=
  ∀ (m : (ℓ : Loc Cert.GateBIdeal.nD Cert.GateBIdeal.τ Cert.GateBIdeal.sig) → Buf (Elt Ideal) ℓ) (g : Dev Cert.GateBIdeal.nD → PrngReg)
    (m' : (ℓ : Loc Cert.GateBRefIdeal.nD Cert.GateBRefIdeal.τ Cert.GateBRefIdeal.sig) → Buf (Elt Ideal) ℓ) (g' : Dev Cert.GateBRefIdeal.nD → PrngReg), Pre_GateBIdeal m →
    (∀ c : Dev Cert.GateBIdeal.nD,
      m' ((c.tc : Thread Cert.GateBRefIdeal.nD Cert.GateBRefIdeal.τ).loc Cert.GateBRefIdeal.main_arg0) = m ((c.tc : Thread Cert.GateBIdeal.nD Cert.GateBIdeal.τ).loc Cert.GateBIdeal.main_arg0)
      ∧ m' ((c.tc : Thread Cert.GateBRefIdeal.nD Cert.GateBRefIdeal.τ).loc Cert.GateBRefIdeal.main_arg1) = m ((c.tc : Thread Cert.GateBIdeal.nD Cert.GateBIdeal.τ).loc Cert.GateBIdeal.main_arg1)
      ∧ m' ((c.tc : Thread Cert.GateBRefIdeal.nD Cert.GateBRefIdeal.τ).loc Cert.GateBRefIdeal.main_arg2) = m ((c.tc : Thread Cert.GateBIdeal.nD Cert.GateBIdeal.τ).loc Cert.GateBIdeal.main_arg2)
      ∧ m' ((c.tc : Thread Cert.GateBRefIdeal.nD Cert.GateBRefIdeal.τ).loc Cert.GateBRefIdeal.main_arg3) = m ((c.tc : Thread Cert.GateBIdeal.nD Cert.GateBIdeal.τ).loc Cert.GateBIdeal.main_arg3)) →
    ∃ (v0 : (c : Dev Cert.GateBIdeal.nD) → Buf (Elt Ideal) ((c.tc : Thread Cert.GateBIdeal.nD Cert.GateBIdeal.τ).loc Cert.GateBIdeal.main_v0_0)) (v1 : (c : Dev Cert.GateBIdeal.nD) → Buf (Elt Ideal) ((c.tc : Thread Cert.GateBIdeal.nD Cert.GateBIdeal.τ).loc Cert.GateBIdeal.main_v0_1)),
      θ_run (Cert.GateBIdeal.defs (F := Ideal)) (onTc (τ := Cert.GateBIdeal.τ) (Cert.GateBIdeal.main (F := Ideal))) ⟨m, fun _ => 0, g⟩ (fun r => ∀ c : Dev Cert.GateBIdeal.nD,
          r.2.mem ((c.tc : Thread Cert.GateBIdeal.nD Cert.GateBIdeal.τ).loc Cert.GateBIdeal.main_v0_0) = v0 c
          ∧ r.2.mem ((c.tc : Thread Cert.GateBIdeal.nD Cert.GateBIdeal.τ).loc Cert.GateBIdeal.main_v0_1) = v1 c
          ∧ r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
          ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1)
          ∧ r.2.mem ((c.tc : Thread Cert.GateBIdeal.nD Cert.GateBIdeal.τ).loc Cert.GateBIdeal.main_arg2) = m ((c.tc : Thread Cert.GateBIdeal.nD Cert.GateBIdeal.τ).loc Cert.GateBIdeal.main_arg2)
          ∧ r.2.mem ((c.tc : Thread Cert.GateBIdeal.nD Cert.GateBIdeal.τ).loc Cert.GateBIdeal.main_arg3) = m ((c.tc : Thread Cert.GateBIdeal.nD Cert.GateBIdeal.τ).loc Cert.GateBIdeal.main_arg3))
      ∧ θ_run (Cert.GateBRefIdeal.defs (F := Ideal)) (onTc (τ := Cert.GateBRefIdeal.τ) (Cert.GateBRefIdeal.main (F := Ideal))) ⟨m', fun _ => 0, g'⟩ (fun r => ∀ c : Dev Cert.GateBRefIdeal.nD,
          r.2.mem ((c.tc : Thread Cert.GateBRefIdeal.nD Cert.GateBRefIdeal.τ).loc Cert.GateBRefIdeal.main_v6) = v0 c
          ∧ r.2.mem ((c.tc : Thread Cert.GateBRefIdeal.nD Cert.GateBRefIdeal.τ).loc Cert.GateBRefIdeal.main_v8) = v1 c
          ∧ r.2.mem ((c.tc : Thread Cert.GateBRefIdeal.nD Cert.GateBRefIdeal.τ).loc Cert.GateBRefIdeal.main_arg0) = m' ((c.tc : Thread Cert.GateBRefIdeal.nD Cert.GateBRefIdeal.τ).loc Cert.GateBRefIdeal.main_arg0)
          ∧ r.2.mem ((c.tc : Thread Cert.GateBRefIdeal.nD Cert.GateBRefIdeal.τ).loc Cert.GateBRefIdeal.main_arg1) = m' ((c.tc : Thread Cert.GateBRefIdeal.nD Cert.GateBRefIdeal.τ).loc Cert.GateBRefIdeal.main_arg1)
          ∧ r.2.mem ((c.tc : Thread Cert.GateBRefIdeal.nD Cert.GateBRefIdeal.τ).loc Cert.GateBRefIdeal.main_arg2) = m' ((c.tc : Thread Cert.GateBRefIdeal.nD Cert.GateBRefIdeal.τ).loc Cert.GateBRefIdeal.main_arg2)
          ∧ r.2.mem ((c.tc : Thread Cert.GateBRefIdeal.nD Cert.GateBRefIdeal.τ).loc Cert.GateBRefIdeal.main_arg3) = m' ((c.tc : Thread Cert.GateBRefIdeal.nD Cert.GateBRefIdeal.τ).loc Cert.GateBRefIdeal.main_arg3))

def Claim : Prop :=
  ∃ (hKernel : Cert.Kernel.Facts) (hKernelIdeal : Cert.KernelIdeal.Facts) (hReferenceIdeal : Cert.ReferenceIdeal.Facts) (hDfin : Cert.Dfin.Facts) (hDfinIdeal : Cert.DfinIdeal.Facts) (hDfinRefIdeal : Cert.DfinRefIdeal.Facts) (hDact : Cert.Dact.Facts) (hDactIdeal : Cert.DactIdeal.Facts) (hDactRefIdeal : Cert.DactRefIdeal.Facts) (hFfnIn : Cert.FfnIn.Facts) (hFfnInIdeal : Cert.FfnInIdeal.Facts) (hFfnInRefIdeal : Cert.FfnInRefIdeal.Facts) (hFfnOut : Cert.FfnOut.Facts) (hFfnOutIdeal : Cert.FfnOutIdeal.Facts) (hFfnOutRefIdeal : Cert.FfnOutRefIdeal.Facts) (hDilDhn : Cert.DilDhn.Facts) (hDilDhnIdeal : Cert.DilDhnIdeal.Facts) (hDilDhnRefIdeal : Cert.DilDhnRefIdeal.Facts) (hDilDw : Cert.DilDw.Facts) (hDilDwIdeal : Cert.DilDwIdeal.Facts) (hDilDwRefIdeal : Cert.DilDwRefIdeal.Facts) (hProjDo : Cert.ProjDo.Facts) (hProjDoIdeal : Cert.ProjDoIdeal.Facts) (hProjDoRefIdeal : Cert.ProjDoRefIdeal.Facts) (hProjDw : Cert.ProjDw.Facts) (hProjDwIdeal : Cert.ProjDwIdeal.Facts) (hProjDwRefIdeal : Cert.ProjDwRefIdeal.Facts) (hProj : Cert.Proj.Facts) (hProjIdeal : Cert.ProjIdeal.Facts) (hProjRefIdeal : Cert.ProjRefIdeal.Facts) (hGateDx : Cert.GateDx.Facts) (hGateDxIdeal : Cert.GateDxIdeal.Facts) (hGateDxRefIdeal : Cert.GateDxRefIdeal.Facts) (hFoxIn : Cert.FoxIn.Facts) (hFoxInIdeal : Cert.FoxInIdeal.Facts) (hFoxInRefIdeal : Cert.FoxInRefIdeal.Facts) (hFoxDw : Cert.FoxDw.Facts) (hFoxDwIdeal : Cert.FoxDwIdeal.Facts) (hFoxDwRefIdeal : Cert.FoxDwRefIdeal.Facts) (hFoxDhn : Cert.FoxDhn.Facts) (hFoxDhnIdeal : Cert.FoxDhnIdeal.Facts) (hFoxDhnRefIdeal : Cert.FoxDhnRefIdeal.Facts) (hMlaA : Cert.MlaA.Facts) (hMlaAIdeal : Cert.MlaAIdeal.Facts) (hMlaARefIdeal : Cert.MlaARefIdeal.Facts) (hMlaUq : Cert.MlaUq.Facts) (hMlaUqIdeal : Cert.MlaUqIdeal.Facts) (hMlaUqRefIdeal : Cert.MlaUqRefIdeal.Facts) (hMlaUkv : Cert.MlaUkv.Facts) (hMlaUkvIdeal : Cert.MlaUkvIdeal.Facts) (hMlaUkvRefIdeal : Cert.MlaUkvRefIdeal.Facts) (hMlaDuq : Cert.MlaDuq.Facts) (hMlaDuqIdeal : Cert.MlaDuqIdeal.Facts) (hMlaDuqRefIdeal : Cert.MlaDuqRefIdeal.Facts) (hMlaDcq : Cert.MlaDcq.Facts) (hMlaDcqIdeal : Cert.MlaDcqIdeal.Facts) (hMlaDcqRefIdeal : Cert.MlaDcqRefIdeal.Facts) (hMlaDukv : Cert.MlaDukv.Facts) (hMlaDukvIdeal : Cert.MlaDukvIdeal.Facts) (hMlaDukvRefIdeal : Cert.MlaDukvRefIdeal.Facts) (hMlaDckv : Cert.MlaDckv.Facts) (hMlaDckvIdeal : Cert.MlaDckvIdeal.Facts) (hMlaDckvRefIdeal : Cert.MlaDckvRefIdeal.Facts) (hMlaDa : Cert.MlaDa.Facts) (hMlaDaIdeal : Cert.MlaDaIdeal.Facts) (hMlaDaRefIdeal : Cert.MlaDaRefIdeal.Facts) (hMlaDhn : Cert.MlaDhn.Facts) (hMlaDhnIdeal : Cert.MlaDhnIdeal.Facts) (hMlaDhnRefIdeal : Cert.MlaDhnRefIdeal.Facts) (hDilQkv0 : Cert.DilQkv0.Facts) (hDilQkv0Ideal : Cert.DilQkv0Ideal.Facts) (hDilQkv0RefIdeal : Cert.DilQkv0RefIdeal.Facts) (hDilQkv1 : Cert.DilQkv1.Facts) (hDilQkv1Ideal : Cert.DilQkv1Ideal.Facts) (hDilQkv1RefIdeal : Cert.DilQkv1RefIdeal.Facts) (hDilQkv2 : Cert.DilQkv2.Facts) (hDilQkv2Ideal : Cert.DilQkv2Ideal.Facts) (hDilQkv2RefIdeal : Cert.DilQkv2RefIdeal.Facts) (hDwin0 : Cert.Dwin0.Facts) (hDwin0Ideal : Cert.Dwin0Ideal.Facts) (hDwin0RefIdeal : Cert.Dwin0RefIdeal.Facts) (hDwin1 : Cert.Dwin1.Facts) (hDwin1Ideal : Cert.Dwin1Ideal.Facts) (hDwin1RefIdeal : Cert.Dwin1RefIdeal.Facts) (hDwin2 : Cert.Dwin2.Facts) (hDwin2Ideal : Cert.Dwin2Ideal.Facts) (hDwin2RefIdeal : Cert.Dwin2RefIdeal.Facts) (hDwout0 : Cert.Dwout0.Facts) (hDwout0Ideal : Cert.Dwout0Ideal.Facts) (hDwout0RefIdeal : Cert.Dwout0RefIdeal.Facts) (hDwout1 : Cert.Dwout1.Facts) (hDwout1Ideal : Cert.Dwout1Ideal.Facts) (hDwout1RefIdeal : Cert.Dwout1RefIdeal.Facts) (hDwout2 : Cert.Dwout2.Facts) (hDwout2Ideal : Cert.Dwout2Ideal.Facts) (hDwout2RefIdeal : Cert.Dwout2RefIdeal.Facts) (hDwg0 : Cert.Dwg0.Facts) (hDwg0Ideal : Cert.Dwg0Ideal.Facts) (hDwg0RefIdeal : Cert.Dwg0RefIdeal.Facts) (hDwg1 : Cert.Dwg1.Facts) (hDwg1Ideal : Cert.Dwg1Ideal.Facts) (hDwg1RefIdeal : Cert.Dwg1RefIdeal.Facts) (hDwg2 : Cert.Dwg2.Facts) (hDwg2Ideal : Cert.Dwg2Ideal.Facts) (hDwg2RefIdeal : Cert.Dwg2RefIdeal.Facts) (hDwin3 : Cert.Dwin3.Facts) (hDwin3Ideal : Cert.Dwin3Ideal.Facts) (hDwin3RefIdeal : Cert.Dwin3RefIdeal.Facts) (hDwout3 : Cert.Dwout3.Facts) (hDwout3Ideal : Cert.Dwout3Ideal.Facts) (hDwout3RefIdeal : Cert.Dwout3RefIdeal.Facts) (hDwg3 : Cert.Dwg3.Facts) (hDwg3Ideal : Cert.Dwg3Ideal.Facts) (hDwg3RefIdeal : Cert.Dwg3RefIdeal.Facts) (hPleB : Cert.PleB.Facts) (hPleBIdeal : Cert.PleBIdeal.Facts) (hPleBRefIdeal : Cert.PleBRefIdeal.Facts) (hPle : Cert.Ple.Facts) (hPleIdeal : Cert.PleIdeal.Facts) (hPleRefIdeal : Cert.PleRefIdeal.Facts) (hSwiglu : Cert.Swiglu.Facts) (hSwigluIdeal : Cert.SwigluIdeal.Facts) (hSwigluRefIdeal : Cert.SwigluRefIdeal.Facts) (hSwigluB : Cert.SwigluB.Facts) (hSwigluBIdeal : Cert.SwigluBIdeal.Facts) (hSwigluBRefIdeal : Cert.SwigluBRefIdeal.Facts) (hNormIn : Cert.NormIn.Facts) (hNormInIdeal : Cert.NormInIdeal.Facts) (hNormInRefIdeal : Cert.NormInRefIdeal.Facts) (hNormOut : Cert.NormOut.Facts) (hNormOutIdeal : Cert.NormOutIdeal.Facts) (hNormOutRefIdeal : Cert.NormOutRefIdeal.Facts) (hNormQ : Cert.NormQ.Facts) (hNormQIdeal : Cert.NormQIdeal.Facts) (hNormQRefIdeal : Cert.NormQRefIdeal.Facts) (hNormKv : Cert.NormKv.Facts) (hNormKvIdeal : Cert.NormKvIdeal.Facts) (hNormKvRefIdeal : Cert.NormKvRefIdeal.Facts) (hNormInB : Cert.NormInB.Facts) (hNormInBIdeal : Cert.NormInBIdeal.Facts) (hNormInBRefIdeal : Cert.NormInBRefIdeal.Facts) (hNormOutB : Cert.NormOutB.Facts) (hNormOutBIdeal : Cert.NormOutBIdeal.Facts) (hNormOutBRefIdeal : Cert.NormOutBRefIdeal.Facts) (hGateB : Cert.GateB.Facts) (hGateBIdeal : Cert.GateBIdeal.Facts) (hGateBRefIdeal : Cert.GateBRefIdeal.Facts) (hPre_finite : Cert.Pre_finite.Facts) (hPre_finite_gated : Cert.Pre_finite_gated.Facts) (hPre_finite_norm_in : Cert.Pre_finite_norm_in.Facts) (hPre_finite_norm : Cert.Pre_finite_norm.Facts) (hOn_win_last : Cert.On_win_last.Facts) (hOn_wout_last : Cert.On_wout_last.Facts) (hOn_wg_last : Cert.On_wg_last.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dfin (hDfin := hDfin)
    ∧ quiescent_DfinIdeal (hDfinIdeal := hDfinIdeal)
    ∧ quiescent_DfinRefIdeal (hDfinRefIdeal := hDfinRefIdeal)
    ∧ quiescent_Dact (hDact := hDact)
    ∧ quiescent_DactIdeal (hDactIdeal := hDactIdeal)
    ∧ quiescent_DactRefIdeal (hDactRefIdeal := hDactRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_DilDhn (hDilDhn := hDilDhn)
    ∧ quiescent_DilDhnIdeal (hDilDhnIdeal := hDilDhnIdeal)
    ∧ quiescent_DilDhnRefIdeal (hDilDhnRefIdeal := hDilDhnRefIdeal)
    ∧ quiescent_DilDw (hDilDw := hDilDw)
    ∧ quiescent_DilDwIdeal (hDilDwIdeal := hDilDwIdeal)
    ∧ quiescent_DilDwRefIdeal (hDilDwRefIdeal := hDilDwRefIdeal)
    ∧ quiescent_ProjDo (hProjDo := hProjDo)
    ∧ quiescent_ProjDoIdeal (hProjDoIdeal := hProjDoIdeal)
    ∧ quiescent_ProjDoRefIdeal (hProjDoRefIdeal := hProjDoRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_Proj (hProj := hProj)
    ∧ quiescent_ProjIdeal (hProjIdeal := hProjIdeal)
    ∧ quiescent_ProjRefIdeal (hProjRefIdeal := hProjRefIdeal)
    ∧ quiescent_GateDx (hGateDx := hGateDx)
    ∧ quiescent_GateDxIdeal (hGateDxIdeal := hGateDxIdeal)
    ∧ quiescent_GateDxRefIdeal (hGateDxRefIdeal := hGateDxRefIdeal)
    ∧ quiescent_FoxIn (hFoxIn := hFoxIn)
    ∧ quiescent_FoxInIdeal (hFoxInIdeal := hFoxInIdeal)
    ∧ quiescent_FoxInRefIdeal (hFoxInRefIdeal := hFoxInRefIdeal)
    ∧ quiescent_FoxDw (hFoxDw := hFoxDw)
    ∧ quiescent_FoxDwIdeal (hFoxDwIdeal := hFoxDwIdeal)
    ∧ quiescent_FoxDwRefIdeal (hFoxDwRefIdeal := hFoxDwRefIdeal)
    ∧ quiescent_FoxDhn (hFoxDhn := hFoxDhn)
    ∧ quiescent_FoxDhnIdeal (hFoxDhnIdeal := hFoxDhnIdeal)
    ∧ quiescent_FoxDhnRefIdeal (hFoxDhnRefIdeal := hFoxDhnRefIdeal)
    ∧ quiescent_MlaA (hMlaA := hMlaA)
    ∧ quiescent_MlaAIdeal (hMlaAIdeal := hMlaAIdeal)
    ∧ quiescent_MlaARefIdeal (hMlaARefIdeal := hMlaARefIdeal)
    ∧ quiescent_MlaUq (hMlaUq := hMlaUq)
    ∧ quiescent_MlaUqIdeal (hMlaUqIdeal := hMlaUqIdeal)
    ∧ quiescent_MlaUqRefIdeal (hMlaUqRefIdeal := hMlaUqRefIdeal)
    ∧ quiescent_MlaUkv (hMlaUkv := hMlaUkv)
    ∧ quiescent_MlaUkvIdeal (hMlaUkvIdeal := hMlaUkvIdeal)
    ∧ quiescent_MlaUkvRefIdeal (hMlaUkvRefIdeal := hMlaUkvRefIdeal)
    ∧ quiescent_MlaDuq (hMlaDuq := hMlaDuq)
    ∧ quiescent_MlaDuqIdeal (hMlaDuqIdeal := hMlaDuqIdeal)
    ∧ quiescent_MlaDuqRefIdeal (hMlaDuqRefIdeal := hMlaDuqRefIdeal)
    ∧ quiescent_MlaDcq (hMlaDcq := hMlaDcq)
    ∧ quiescent_MlaDcqIdeal (hMlaDcqIdeal := hMlaDcqIdeal)
    ∧ quiescent_MlaDcqRefIdeal (hMlaDcqRefIdeal := hMlaDcqRefIdeal)
    ∧ quiescent_MlaDukv (hMlaDukv := hMlaDukv)
    ∧ quiescent_MlaDukvIdeal (hMlaDukvIdeal := hMlaDukvIdeal)
    ∧ quiescent_MlaDukvRefIdeal (hMlaDukvRefIdeal := hMlaDukvRefIdeal)
    ∧ quiescent_MlaDckv (hMlaDckv := hMlaDckv)
    ∧ quiescent_MlaDckvIdeal (hMlaDckvIdeal := hMlaDckvIdeal)
    ∧ quiescent_MlaDckvRefIdeal (hMlaDckvRefIdeal := hMlaDckvRefIdeal)
    ∧ quiescent_MlaDa (hMlaDa := hMlaDa)
    ∧ quiescent_MlaDaIdeal (hMlaDaIdeal := hMlaDaIdeal)
    ∧ quiescent_MlaDaRefIdeal (hMlaDaRefIdeal := hMlaDaRefIdeal)
    ∧ quiescent_MlaDhn (hMlaDhn := hMlaDhn)
    ∧ quiescent_MlaDhnIdeal (hMlaDhnIdeal := hMlaDhnIdeal)
    ∧ quiescent_MlaDhnRefIdeal (hMlaDhnRefIdeal := hMlaDhnRefIdeal)
    ∧ quiescent_DilQkv0 (hDilQkv0 := hDilQkv0)
    ∧ quiescent_DilQkv0Ideal (hDilQkv0Ideal := hDilQkv0Ideal)
    ∧ quiescent_DilQkv0RefIdeal (hDilQkv0RefIdeal := hDilQkv0RefIdeal)
    ∧ quiescent_DilQkv1 (hDilQkv1 := hDilQkv1)
    ∧ quiescent_DilQkv1Ideal (hDilQkv1Ideal := hDilQkv1Ideal)
    ∧ quiescent_DilQkv1RefIdeal (hDilQkv1RefIdeal := hDilQkv1RefIdeal)
    ∧ quiescent_DilQkv2 (hDilQkv2 := hDilQkv2)
    ∧ quiescent_DilQkv2Ideal (hDilQkv2Ideal := hDilQkv2Ideal)
    ∧ quiescent_DilQkv2RefIdeal (hDilQkv2RefIdeal := hDilQkv2RefIdeal)
    ∧ quiescent_Dwin0 (hDwin0 := hDwin0)
    ∧ quiescent_Dwin0Ideal (hDwin0Ideal := hDwin0Ideal)
    ∧ quiescent_Dwin0RefIdeal (hDwin0RefIdeal := hDwin0RefIdeal)
    ∧ quiescent_Dwin1 (hDwin1 := hDwin1)
    ∧ quiescent_Dwin1Ideal (hDwin1Ideal := hDwin1Ideal)
    ∧ quiescent_Dwin1RefIdeal (hDwin1RefIdeal := hDwin1RefIdeal)
    ∧ quiescent_Dwin2 (hDwin2 := hDwin2)
    ∧ quiescent_Dwin2Ideal (hDwin2Ideal := hDwin2Ideal)
    ∧ quiescent_Dwin2RefIdeal (hDwin2RefIdeal := hDwin2RefIdeal)
    ∧ quiescent_Dwout0 (hDwout0 := hDwout0)
    ∧ quiescent_Dwout0Ideal (hDwout0Ideal := hDwout0Ideal)
    ∧ quiescent_Dwout0RefIdeal (hDwout0RefIdeal := hDwout0RefIdeal)
    ∧ quiescent_Dwout1 (hDwout1 := hDwout1)
    ∧ quiescent_Dwout1Ideal (hDwout1Ideal := hDwout1Ideal)
    ∧ quiescent_Dwout1RefIdeal (hDwout1RefIdeal := hDwout1RefIdeal)
    ∧ quiescent_Dwout2 (hDwout2 := hDwout2)
    ∧ quiescent_Dwout2Ideal (hDwout2Ideal := hDwout2Ideal)
    ∧ quiescent_Dwout2RefIdeal (hDwout2RefIdeal := hDwout2RefIdeal)
    ∧ quiescent_Dwg0 (hDwg0 := hDwg0)
    ∧ quiescent_Dwg0Ideal (hDwg0Ideal := hDwg0Ideal)
    ∧ quiescent_Dwg0RefIdeal (hDwg0RefIdeal := hDwg0RefIdeal)
    ∧ quiescent_Dwg1 (hDwg1 := hDwg1)
    ∧ quiescent_Dwg1Ideal (hDwg1Ideal := hDwg1Ideal)
    ∧ quiescent_Dwg1RefIdeal (hDwg1RefIdeal := hDwg1RefIdeal)
    ∧ quiescent_Dwg2 (hDwg2 := hDwg2)
    ∧ quiescent_Dwg2Ideal (hDwg2Ideal := hDwg2Ideal)
    ∧ quiescent_Dwg2RefIdeal (hDwg2RefIdeal := hDwg2RefIdeal)
    ∧ quiescent_Dwin3 (hDwin3 := hDwin3)
    ∧ quiescent_Dwin3Ideal (hDwin3Ideal := hDwin3Ideal)
    ∧ quiescent_Dwin3RefIdeal (hDwin3RefIdeal := hDwin3RefIdeal)
    ∧ quiescent_Dwout3 (hDwout3 := hDwout3)
    ∧ quiescent_Dwout3Ideal (hDwout3Ideal := hDwout3Ideal)
    ∧ quiescent_Dwout3RefIdeal (hDwout3RefIdeal := hDwout3RefIdeal)
    ∧ quiescent_Dwg3 (hDwg3 := hDwg3)
    ∧ quiescent_Dwg3Ideal (hDwg3Ideal := hDwg3Ideal)
    ∧ quiescent_Dwg3RefIdeal (hDwg3RefIdeal := hDwg3RefIdeal)
    ∧ quiescent_PleB (hPleB := hPleB)
    ∧ quiescent_PleBIdeal (hPleBIdeal := hPleBIdeal)
    ∧ quiescent_PleBRefIdeal (hPleBRefIdeal := hPleBRefIdeal)
    ∧ quiescent_Ple (hPle := hPle)
    ∧ quiescent_PleIdeal (hPleIdeal := hPleIdeal)
    ∧ quiescent_PleRefIdeal (hPleRefIdeal := hPleRefIdeal)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_SwigluB (hSwigluB := hSwigluB)
    ∧ quiescent_SwigluBIdeal (hSwigluBIdeal := hSwigluBIdeal)
    ∧ quiescent_SwigluBIdeal_pre_finite_gated (hSwigluBIdeal := hSwigluBIdeal) (hPre_finite_gated := hPre_finite_gated)
    ∧ quiescent_SwigluBRefIdeal (hSwigluBRefIdeal := hSwigluBRefIdeal)
    ∧ quiescent_SwigluBRefIdeal_pre_finite_gated (hSwigluBRefIdeal := hSwigluBRefIdeal) (hPre_finite_gated := hPre_finite_gated)
    ∧ quiescent_NormIn (hNormIn := hNormIn)
    ∧ quiescent_NormInIdeal (hNormInIdeal := hNormInIdeal)
    ∧ quiescent_NormInRefIdeal (hNormInRefIdeal := hNormInRefIdeal)
    ∧ quiescent_NormOut (hNormOut := hNormOut)
    ∧ quiescent_NormOutIdeal (hNormOutIdeal := hNormOutIdeal)
    ∧ quiescent_NormOutRefIdeal (hNormOutRefIdeal := hNormOutRefIdeal)
    ∧ quiescent_NormQ (hNormQ := hNormQ)
    ∧ quiescent_NormQIdeal (hNormQIdeal := hNormQIdeal)
    ∧ quiescent_NormQRefIdeal (hNormQRefIdeal := hNormQRefIdeal)
    ∧ quiescent_NormKv (hNormKv := hNormKv)
    ∧ quiescent_NormKvIdeal (hNormKvIdeal := hNormKvIdeal)
    ∧ quiescent_NormKvRefIdeal (hNormKvRefIdeal := hNormKvRefIdeal)
    ∧ quiescent_NormInB (hNormInB := hNormInB)
    ∧ quiescent_NormInBIdeal (hNormInBIdeal := hNormInBIdeal)
    ∧ quiescent_NormInBIdeal_pre_finite_norm_in (hNormInBIdeal := hNormInBIdeal) (hPre_finite_norm_in := hPre_finite_norm_in)
    ∧ quiescent_NormInBRefIdeal (hNormInBRefIdeal := hNormInBRefIdeal)
    ∧ quiescent_NormInBRefIdeal_pre_finite_norm_in (hNormInBRefIdeal := hNormInBRefIdeal) (hPre_finite_norm_in := hPre_finite_norm_in)
    ∧ quiescent_NormOutB (hNormOutB := hNormOutB)
    ∧ quiescent_NormOutBIdeal (hNormOutBIdeal := hNormOutBIdeal)
    ∧ quiescent_NormOutBIdeal_pre_finite_norm (hNormOutBIdeal := hNormOutBIdeal) (hPre_finite_norm := hPre_finite_norm)
    ∧ quiescent_NormOutBRefIdeal (hNormOutBRefIdeal := hNormOutBRefIdeal)
    ∧ quiescent_NormOutBRefIdeal_pre_finite_norm (hNormOutBRefIdeal := hNormOutBRefIdeal) (hPre_finite_norm := hPre_finite_norm)
    ∧ quiescent_GateB (hGateB := hGateB)
    ∧ quiescent_GateBIdeal (hGateBIdeal := hGateBIdeal)
    ∧ quiescent_GateBRefIdeal (hGateBRefIdeal := hGateBRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Dfin_DfinIdeal
    ∧ algebraic_DfinIdeal_DfinRefIdeal (hDfinIdeal := hDfinIdeal) (hDfinRefIdeal := hDfinRefIdeal)
    ∧ preserves_Dact_DactIdeal
    ∧ algebraic_DactIdeal_DactRefIdeal (hDactIdeal := hDactIdeal) (hDactRefIdeal := hDactRefIdeal)
    ∧ preserves_FfnIn_FfnInIdeal
    ∧ algebraic_FfnInIdeal_FfnInRefIdeal (hFfnInIdeal := hFfnInIdeal) (hFfnInRefIdeal := hFfnInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_DilDhn_DilDhnIdeal
    ∧ algebraic_DilDhnIdeal_DilDhnRefIdeal (hDilDhnIdeal := hDilDhnIdeal) (hDilDhnRefIdeal := hDilDhnRefIdeal)
    ∧ preserves_DilDw_DilDwIdeal
    ∧ algebraic_DilDwIdeal_DilDwRefIdeal (hDilDwIdeal := hDilDwIdeal) (hDilDwRefIdeal := hDilDwRefIdeal)
    ∧ preserves_ProjDo_ProjDoIdeal
    ∧ algebraic_ProjDoIdeal_ProjDoRefIdeal (hProjDoIdeal := hProjDoIdeal) (hProjDoRefIdeal := hProjDoRefIdeal)
    ∧ preserves_ProjDw_ProjDwIdeal
    ∧ algebraic_ProjDwIdeal_ProjDwRefIdeal (hProjDwIdeal := hProjDwIdeal) (hProjDwRefIdeal := hProjDwRefIdeal)
    ∧ preserves_Proj_ProjIdeal
    ∧ algebraic_ProjIdeal_ProjRefIdeal (hProjIdeal := hProjIdeal) (hProjRefIdeal := hProjRefIdeal)
    ∧ preserves_GateDx_GateDxIdeal
    ∧ algebraic_GateDxIdeal_GateDxRefIdeal (hGateDxIdeal := hGateDxIdeal) (hGateDxRefIdeal := hGateDxRefIdeal)
    ∧ preserves_FoxIn_FoxInIdeal
    ∧ algebraic_FoxInIdeal_FoxInRefIdeal (hFoxInIdeal := hFoxInIdeal) (hFoxInRefIdeal := hFoxInRefIdeal)
    ∧ preserves_FoxDw_FoxDwIdeal
    ∧ algebraic_FoxDwIdeal_FoxDwRefIdeal (hFoxDwIdeal := hFoxDwIdeal) (hFoxDwRefIdeal := hFoxDwRefIdeal)
    ∧ preserves_FoxDhn_FoxDhnIdeal
    ∧ algebraic_FoxDhnIdeal_FoxDhnRefIdeal (hFoxDhnIdeal := hFoxDhnIdeal) (hFoxDhnRefIdeal := hFoxDhnRefIdeal)
    ∧ preserves_MlaA_MlaAIdeal
    ∧ algebraic_MlaAIdeal_MlaARefIdeal (hMlaAIdeal := hMlaAIdeal) (hMlaARefIdeal := hMlaARefIdeal)
    ∧ preserves_MlaUq_MlaUqIdeal
    ∧ algebraic_MlaUqIdeal_MlaUqRefIdeal (hMlaUqIdeal := hMlaUqIdeal) (hMlaUqRefIdeal := hMlaUqRefIdeal)
    ∧ preserves_MlaUkv_MlaUkvIdeal
    ∧ algebraic_MlaUkvIdeal_MlaUkvRefIdeal (hMlaUkvIdeal := hMlaUkvIdeal) (hMlaUkvRefIdeal := hMlaUkvRefIdeal)
    ∧ preserves_MlaDuq_MlaDuqIdeal
    ∧ algebraic_MlaDuqIdeal_MlaDuqRefIdeal (hMlaDuqIdeal := hMlaDuqIdeal) (hMlaDuqRefIdeal := hMlaDuqRefIdeal)
    ∧ preserves_MlaDcq_MlaDcqIdeal
    ∧ algebraic_MlaDcqIdeal_MlaDcqRefIdeal (hMlaDcqIdeal := hMlaDcqIdeal) (hMlaDcqRefIdeal := hMlaDcqRefIdeal)
    ∧ preserves_MlaDukv_MlaDukvIdeal
    ∧ algebraic_MlaDukvIdeal_MlaDukvRefIdeal (hMlaDukvIdeal := hMlaDukvIdeal) (hMlaDukvRefIdeal := hMlaDukvRefIdeal)
    ∧ preserves_MlaDckv_MlaDckvIdeal
    ∧ algebraic_MlaDckvIdeal_MlaDckvRefIdeal (hMlaDckvIdeal := hMlaDckvIdeal) (hMlaDckvRefIdeal := hMlaDckvRefIdeal)
    ∧ preserves_MlaDa_MlaDaIdeal
    ∧ algebraic_MlaDaIdeal_MlaDaRefIdeal (hMlaDaIdeal := hMlaDaIdeal) (hMlaDaRefIdeal := hMlaDaRefIdeal)
    ∧ preserves_MlaDhn_MlaDhnIdeal
    ∧ algebraic_MlaDhnIdeal_MlaDhnRefIdeal (hMlaDhnIdeal := hMlaDhnIdeal) (hMlaDhnRefIdeal := hMlaDhnRefIdeal)
    ∧ preserves_DilQkv0_DilQkv0Ideal
    ∧ algebraic_DilQkv0Ideal_DilQkv0RefIdeal (hDilQkv0Ideal := hDilQkv0Ideal) (hDilQkv0RefIdeal := hDilQkv0RefIdeal)
    ∧ preserves_DilQkv1_DilQkv1Ideal
    ∧ algebraic_DilQkv1Ideal_DilQkv1RefIdeal (hDilQkv1Ideal := hDilQkv1Ideal) (hDilQkv1RefIdeal := hDilQkv1RefIdeal)
    ∧ preserves_DilQkv2_DilQkv2Ideal
    ∧ algebraic_DilQkv2Ideal_DilQkv2RefIdeal (hDilQkv2Ideal := hDilQkv2Ideal) (hDilQkv2RefIdeal := hDilQkv2RefIdeal)
    ∧ preserves_Dwin0_Dwin0Ideal
    ∧ algebraic_Dwin0Ideal_Dwin0RefIdeal (hDwin0Ideal := hDwin0Ideal) (hDwin0RefIdeal := hDwin0RefIdeal)
    ∧ preserves_Dwin1_Dwin1Ideal
    ∧ algebraic_Dwin1Ideal_Dwin1RefIdeal (hDwin1Ideal := hDwin1Ideal) (hDwin1RefIdeal := hDwin1RefIdeal)
    ∧ preserves_Dwin2_Dwin2Ideal
    ∧ algebraic_Dwin2Ideal_Dwin2RefIdeal (hDwin2Ideal := hDwin2Ideal) (hDwin2RefIdeal := hDwin2RefIdeal)
    ∧ preserves_Dwout0_Dwout0Ideal
    ∧ algebraic_Dwout0Ideal_Dwout0RefIdeal (hDwout0Ideal := hDwout0Ideal) (hDwout0RefIdeal := hDwout0RefIdeal)
    ∧ preserves_Dwout1_Dwout1Ideal
    ∧ algebraic_Dwout1Ideal_Dwout1RefIdeal (hDwout1Ideal := hDwout1Ideal) (hDwout1RefIdeal := hDwout1RefIdeal)
    ∧ preserves_Dwout2_Dwout2Ideal
    ∧ algebraic_Dwout2Ideal_Dwout2RefIdeal (hDwout2Ideal := hDwout2Ideal) (hDwout2RefIdeal := hDwout2RefIdeal)
    ∧ preserves_Dwg0_Dwg0Ideal
    ∧ algebraic_Dwg0Ideal_Dwg0RefIdeal (hDwg0Ideal := hDwg0Ideal) (hDwg0RefIdeal := hDwg0RefIdeal)
    ∧ preserves_Dwg1_Dwg1Ideal
    ∧ algebraic_Dwg1Ideal_Dwg1RefIdeal (hDwg1Ideal := hDwg1Ideal) (hDwg1RefIdeal := hDwg1RefIdeal)
    ∧ preserves_Dwg2_Dwg2Ideal
    ∧ algebraic_Dwg2Ideal_Dwg2RefIdeal (hDwg2Ideal := hDwg2Ideal) (hDwg2RefIdeal := hDwg2RefIdeal)
    ∧ preserves_Dwin3_Dwin3Ideal
    ∧ algebraic_Dwin3Ideal_Dwin3RefIdeal_on_win_last (hDwin3Ideal := hDwin3Ideal) (hDwin3RefIdeal := hDwin3RefIdeal) (hOn_win_last := hOn_win_last)
    ∧ preserves_Dwout3_Dwout3Ideal
    ∧ algebraic_Dwout3Ideal_Dwout3RefIdeal_on_wout_last (hDwout3Ideal := hDwout3Ideal) (hDwout3RefIdeal := hDwout3RefIdeal) (hOn_wout_last := hOn_wout_last)
    ∧ preserves_Dwg3_Dwg3Ideal
    ∧ algebraic_Dwg3Ideal_Dwg3RefIdeal_on_wg_last (hDwg3Ideal := hDwg3Ideal) (hDwg3RefIdeal := hDwg3RefIdeal) (hOn_wg_last := hOn_wg_last)
    ∧ preserves_PleB_PleBIdeal
    ∧ algebraic_PleBIdeal_PleBRefIdeal (hPleBIdeal := hPleBIdeal) (hPleBRefIdeal := hPleBRefIdeal)
    ∧ preserves_Ple_PleIdeal
    ∧ algebraic_PleIdeal_PleRefIdeal (hPleIdeal := hPleIdeal) (hPleRefIdeal := hPleRefIdeal)
    ∧ preserves_Swiglu_SwigluIdeal
    ∧ algebraic_SwigluIdeal_SwigluRefIdeal (hSwigluIdeal := hSwigluIdeal) (hSwigluRefIdeal := hSwigluRefIdeal)
    ∧ preserves_SwigluB_SwigluBIdeal
    ∧ algebraic_SwigluBIdeal_SwigluBRefIdeal_pre_finite_gated (hSwigluBIdeal := hSwigluBIdeal) (hSwigluBRefIdeal := hSwigluBRefIdeal) (hPre_finite_gated := hPre_finite_gated)
    ∧ preserves_NormIn_NormInIdeal
    ∧ algebraic_NormInIdeal_NormInRefIdeal (hNormInIdeal := hNormInIdeal) (hNormInRefIdeal := hNormInRefIdeal)
    ∧ preserves_NormOut_NormOutIdeal
    ∧ algebraic_NormOutIdeal_NormOutRefIdeal (hNormOutIdeal := hNormOutIdeal) (hNormOutRefIdeal := hNormOutRefIdeal)
    ∧ preserves_NormQ_NormQIdeal
    ∧ algebraic_NormQIdeal_NormQRefIdeal (hNormQIdeal := hNormQIdeal) (hNormQRefIdeal := hNormQRefIdeal)
    ∧ preserves_NormKv_NormKvIdeal
    ∧ algebraic_NormKvIdeal_NormKvRefIdeal (hNormKvIdeal := hNormKvIdeal) (hNormKvRefIdeal := hNormKvRefIdeal)
    ∧ preserves_NormInB_NormInBIdeal
    ∧ algebraic_NormInBIdeal_NormInBRefIdeal_pre_finite_norm_in (hNormInBIdeal := hNormInBIdeal) (hNormInBRefIdeal := hNormInBRefIdeal) (hPre_finite_norm_in := hPre_finite_norm_in)
    ∧ preserves_NormOutB_NormOutBIdeal
    ∧ algebraic_NormOutBIdeal_NormOutBRefIdeal_pre_finite_norm (hNormOutBIdeal := hNormOutBIdeal) (hNormOutBRefIdeal := hNormOutBRefIdeal) (hPre_finite_norm := hPre_finite_norm)
    ∧ preserves_GateB_GateBIdeal
    ∧ algebraic_GateBIdeal_GateBRefIdeal (hGateBIdeal := hGateBIdeal) (hGateBRefIdeal := hGateBRefIdeal)
-- ==== On_wg_last.lean ====
abbrev S2048x1024 : Shape := ⟨2, ![2048, 1024]⟩
abbrev S4 : Shape := ⟨1, ![4]⟩
abbrev S4x1x1 : Shape := ⟨3, ![4, 1, 1]⟩
abbrev S_ : Shape := ⟨0, ![]⟩
abbrev S4x1024x1024 : Shape := ⟨3, ![4, 1024, 1024]⟩

class Facts : Prop where
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S4x1x1_S4x1024x1024_0_1_2 : S4x1x1.BroadcastsInDim S4x1024x1024 (![0, 1, 2] : Fin 3 → Fin S4x1024x1024.rank)

variable [Facts]

def fn {F : FTy → Type} [FloatOps F] (main_arg0 : FVec F S2048x1024 .f32) (main_arg1 : FVec F S2048x1024 .f32) : IVec S4x1024x1024 1 :=
  let main_v0 : IVec S4 32 := iotaInDim S4 32 0
  let main_v1 : IVec S4x1x1 32 := broadcastInDim S4x1x1 ![0] bcast_S4_S4x1x1_0 main_v0
  let main_c : IVec S_ 32 := constantI S_ 32 3#32
  let main_v2 : IVec S4x1x1 32 := broadcastInDim S4x1x1 ![] bcast_S_S4x1x1 main_c
  let main_v3 : IVec S4x1x1 1 := cmpi .eq main_v1 main_v2
  let main_v4 : IVec S4x1024x1024 1 := broadcastInDim S4x1024x1024 ![0, 1, 2] bcast_S4x1x1_S4x1024x1024_0_1_2 main_v3
  main_v4
-- ==== On_win_last.lean ====
abbrev S2048x5632 : Shape := ⟨2, ![2048, 5632]⟩
abbrev S2048x1024 : Shape := ⟨2, ![2048, 1024]⟩
abbrev S4 : Shape := ⟨1, ![4]⟩
abbrev S4x1x1 : Shape := ⟨3, ![4, 1, 1]⟩
abbrev S_ : Shape := ⟨0, ![]⟩
abbrev S4x5632x1024 : Shape := ⟨3, ![4, 5632, 1024]⟩

class Facts : Prop where
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S4x1x1_S4x5632x1024_0_1_2 : S4x1x1.BroadcastsInDim S4x5632x1024 (![0, 1, 2] : Fin 3 → Fin S4x5632x1024.rank)

variable [Facts]

def fn {F : FTy → Type} [FloatOps F] (main_arg0 : FVec F S2048x5632 .f32) (main_arg1 : FVec F S2048x1024 .f32) : IVec S4x5632x1024 1 :=
  let main_v0 : IVec S4 32 := iotaInDim S4 32 0
  let main_v1 : IVec S4x1x1 32 := broadcastInDim S4x1x1 ![0] bcast_S4_S4x1x1_0 main_v0
  let main_c : IVec S_ 32 := constantI S_ 32 3#32
  let main_v2 : IVec S4x1x1 32 := broadcastInDim S4x1x1 ![] bcast_S_S4x1x1 main_c
  let main_v3 : IVec S4x1x1 1 := cmpi .eq main_v1 main_v2
  let main_v4 : IVec S4x5632x1024 1 := broadcastInDim S4x5632x1024 ![0, 1, 2] bcast_S4x1x1_S4x5632x1024_0_1_2 main_v3
  main_v4
-- ==== On_wout_last.lean ====
abbrev S2048x2816 : Shape := ⟨2, ![2048, 2816]⟩
abbrev S2048x1024 : Shape := ⟨2, ![2048, 1024]⟩
abbrev S4 : Shape := ⟨1, ![4]⟩
abbrev S4x1x1 : Shape := ⟨3, ![4, 1, 1]⟩
abbrev S_ : Shape := ⟨0, ![]⟩
abbrev S4x2816x1024 : Shape := ⟨3, ![4, 2816, 1024]⟩

class Facts : Prop where
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S4x1x1_S4x2816x1024_0_1_2 : S4x1x1.BroadcastsInDim S4x2816x1024 (![0, 1, 2] : Fin 3 → Fin S4x2816x1024.rank)

variable [Facts]

def fn {F : FTy → Type} [FloatOps F] (main_arg0 : FVec F S2048x2816 .f32) (main_arg1 : FVec F S2048x1024 .f32) : IVec S4x2816x1024 1 :=
  let main_v0 : IVec S4 32 := iotaInDim S4 32 0
  let main_v1 : IVec S4x1x1 32 := broadcastInDim S4x1x1 ![0] bcast_S4_S4x1x1_0 main_v0
  let main_c : IVec S_ 32 := constantI S_ 32 3#32
  let main_v2 : IVec S4x1x1 32 := broadcastInDim S4x1x1 ![] bcast_S_S4x1x1 main_c
  let main_v3 : IVec S4x1x1 1 := cmpi .eq main_v1 main_v2
  let main_v4 : IVec S4x2816x1024 1 := broadcastInDim S4x2816x1024 ![0, 1, 2] bcast_S4x1x1_S4x2816x1024_0_1_2 main_v3
  main_v4
-- ==== Pre_finite.lean ====
abbrev S2048x3072 : Shape := ⟨2, ![2048, 3072]⟩
abbrev S2048x16 : Shape := ⟨2, ![2048, 16]⟩
abbrev S2048x1024 : Shape := ⟨2, ![2048, 1024]⟩
abbrev S_ : Shape := ⟨0, ![]⟩

class Facts : Prop where
  bcast_S_S2048x3072 : S_.BroadcastsInDim S2048x3072 (![] : Fin 0 → Fin S2048x3072.rank)
  bcast_S_S2048x16 : S_.BroadcastsInDim S2048x16 (![] : Fin 0 → Fin S2048x16.rank)
  bcast_S_S2048x1024 : S_.BroadcastsInDim S2048x1024 (![] : Fin 0 → Fin S2048x1024.rank)

variable [Facts]

def fn {F : FTy → Type} [FloatOps F] (main_arg0 : FVec F S2048x3072 .f32) (main_arg1 : FVec F S2048x16 .f32) (main_arg2 : FVec F S2048x1024 .f32) : IVec S2048x3072 1 × IVec S2048x16 1 × IVec S2048x1024 1 :=
  let main_v0 : FVec F S2048x3072 .f32 := Host.absf main_arg0
  let main_cst : FVec F S_ .f32 := constant S_ .f32 0x7F800000#32
  let main_v1 : FVec F S2048x3072 .f32 := broadcastInDim S2048x3072 ![] bcast_S_S2048x3072 main_cst
  let main_v2 : IVec S2048x3072 1 := cmpf .olt main_v0 main_v1
  let main_v3 : FVec F S2048x16 .f32 := Host.absf main_arg1
  let main_cst_0 : FVec F S_ .f32 := constant S_ .f32 0x7F800000#32
  let main_v4 : FVec F S2048x16 .f32 := broadcastInDim S2048x16 ![] bcast_S_S2048x16 main_cst_0
  let main_v5 : IVec S2048x16 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  (main_v2, main_v5, main_v8)
-- ==== Pre_finite_gated.lean ====
abbrev S2048x5632 : Shape := ⟨2, ![2048, 5632]⟩
abbrev S2048x2816 : Shape := ⟨2, ![2048, 2816]⟩
abbrev S_ : Shape := ⟨0, ![]⟩

class Facts : Prop where
  bcast_S_S2048x5632 : S_.BroadcastsInDim S2048x5632 (![] : Fin 0 → Fin S2048x5632.rank)
  bcast_S_S2048x2816 : S_.BroadcastsInDim S2048x2816 (![] : Fin 0 → Fin S2048x2816.rank)

variable [Facts]

def fn {F : FTy → Type} [FloatOps F] (main_arg0 : FVec F S2048x5632 .f32) (main_arg1 : FVec F S2048x2816 .f32) : IVec S2048x5632 1 × IVec S2048x2816 1 :=
  let main_v0 : FVec F S2048x5632 .f32 := Host.absf main_arg0
  let main_cst : FVec F S_ .f32 := constant S_ .f32 0x7F800000#32
  let main_v1 : FVec F S2048x5632 .f32 := broadcastInDim S2048x5632 ![] bcast_S_S2048x5632 main_cst
  let main_v2 : IVec S2048x5632 1 := cmpf .olt main_v0 main_v1
  let main_v3 : FVec F S2048x2816 .f32 := Host.absf main_arg1
  let main_cst_0 : FVec F S_ .f32 := constant S_ .f32 0x7F800000#32
  let main_v4 : FVec F S2048x2816 .f32 := broadcastInDim S2048x2816 ![] bcast_S_S2048x2816 main_cst_0
  let main_v5 : IVec S2048x2816 1 := cmpf .olt main_v3 main_v4
  (main_v2, main_v5)
-- ==== Pre_finite_norm.lean ====
abbrev S2048x1024 : Shape := ⟨2, ![2048, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S2048x1024 .f32) (main_arg1 : FVec F S1x1024 .f32) (main_arg2 : FVec F S2048x1024 .f32) : IVec S2048x1024 1 × IVec S1x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  (main_v2, main_v5, main_v8)
-- ==== Pre_finite_norm_in.lean ====
abbrev S2048x1024 : Shape := ⟨2, ![2048, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S2048x1024 .f32) (main_arg1 : FVec F S1x1024 .f32) (main_arg2 : FVec F S2048x1024 .f32) (main_arg3 : FVec F S2048x1024 .f32) : IVec S2048x1024 1 × IVec S1x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  (main_v2, main_v5, main_v8)
-- ==== Kernel.lean ====
abbrev S2048x3072 : Shape := ⟨2, ![2048, 3072]⟩
abbrev S2048x16 : Shape := ⟨2, ![2048, 16]⟩
abbrev S2048x1024 : Shape := ⟨2, ![2048, 1024]⟩
abbrev S2048x3x16x64 : Shape := ⟨4, ![2048, 3, 16, 64]⟩
abbrev S2048x1x16x64 : Shape := ⟨4, ![2048, 1, 16, 64]⟩
abbrev S2048x16x64 : Shape := ⟨3, ![2048, 16, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S16x1x2048 : Shape := ⟨3, ![16, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x64x2048 : Shape := ⟨3, ![16, 64, 2048]⟩
abbrev S2048x8x2 : Shape := ⟨3, ![2048, 8, 2]⟩
abbrev S8x2048x2 : Shape := ⟨3, ![8, 2048, 2]⟩
abbrev S8x2x2048 : Shape := ⟨3, ![8, 2, 2048]⟩
abbrev S2048x128 : Shape := ⟨2, ![2048, 128]⟩
abbrev S1x2048x2 : Shape := ⟨3, ![1, 2048, 2]⟩
abbrev S1x2x2048 : Shape := ⟨3, ![1, 2, 2048]⟩
abbrev S256x128 : Shape := ⟨2, ![256, 128]⟩
abbrev S1x256x1 : Shape := ⟨3, ![1, 256, 1]⟩
abbrev S256x1 : Shape := ⟨2, ![256, 1]⟩
abbrev S1x1x256 : Shape := ⟨3, ![1, 1, 256]⟩
abbrev S1x256 : Shape := ⟨2, ![1, 256]⟩
abbrev S256x256 : Shape := ⟨2, ![256, 256]⟩
abbrev S256 : Shape := ⟨1, ![256]⟩
abbrev S512x128 : Shape := ⟨2, ![512, 128]⟩
abbrev S1x1x512 : Shape := ⟨3, ![1, 1, 512]⟩
abbrev S1x512 : Shape := ⟨2, ![1, 512]⟩
abbrev S256x512 : Shape := ⟨2, ![256, 512]⟩
abbrev S512 : Shape := ⟨1, ![512]⟩
abbrev S768x128 : Shape := ⟨2, ![768, 128]⟩
abbrev S1x1x768 : Shape := ⟨3, ![1, 1, 768]⟩
abbrev S1x768 : Shape := ⟨2, ![1, 768]⟩
abbrev S256x768 : Shape := ⟨2, ![256, 768]⟩
abbrev S768 : Shape := ⟨1, ![768]⟩
abbrev S1024x128 : Shape := ⟨2, ![1024, 128]⟩
abbrev S1x1x1024 : Shape := ⟨3, ![1, 1, 1024]⟩
abbrev S1x1024 : Shape := ⟨2, ![1, 1024]⟩
abbrev S256x1024 : Shape := ⟨2, ![256, 1024]⟩
abbrev S1024 : Shape := ⟨1, ![1024]⟩
abbrev S1280x128 : Shape := ⟨2, ![1280, 128]⟩
abbrev S1x1x1280 : Shape := ⟨3, ![1, 1, 1280]⟩
abbrev S1x1280 : Shape := ⟨2, ![1, 1280]⟩
abbrev S256x1280 : Shape := ⟨2, ![256, 1280]⟩
abbrev S1280 : Shape := ⟨1, ![1280]⟩
abbrev S1536x128 : Shape := ⟨2, ![1536, 128]⟩
abbrev S1x1x1536 : Shape := ⟨3, ![1, 1, 1536]⟩
abbrev S1x1536 : Shape := ⟨2, ![1, 1536]⟩
abbrev S256x1536 : Shape := ⟨2, ![256, 1536]⟩
abbrev S1536 : Shape := ⟨1, ![1536]⟩
abbrev S1792x128 : Shape := ⟨2, ![1792, 128]⟩
abbrev S1x1x1792 : Shape := ⟨3, ![1, 1, 1792]⟩
abbrev S1x1792 : Shape := ⟨2, ![1, 1792]⟩
abbrev S256x1792 : Shape := ⟨2, ![256, 1792]⟩
abbrev S1792 : Shape := ⟨1, ![1792]⟩
abbrev S1x1x2048 : Shape := ⟨3, ![1, 1, 2048]⟩
abbrev S256x2048 : Shape := ⟨2, ![256, 2048]⟩

abbrev nBuf : Space → Nat
  | .hbm => 60
  | .vmem => 26
  | .smem => 0
  | _ => 0

abbrev bufTy : (tb : Table) → Fin (tcTables nBuf tb) → BufTy
  | .hbm, ⟨0, _⟩ => ⟨S2048x3072, .f32⟩
  | .hbm, ⟨1, _⟩ => ⟨S2048x16, .f32⟩
  | .hbm, ⟨2, _⟩ => ⟨S2048x1024, .f32⟩
  | .hbm, ⟨3, _⟩ => ⟨S2048x3x16x64, .f32⟩
  | .hbm, ⟨4, _⟩ => ⟨S2048x1x16x64, .f32⟩
  | .hbm, ⟨5, _⟩ => ⟨S2048x16x64, .f32⟩
  | .hbm, ⟨6, _⟩ => ⟨S2048x1x16x64, .f32⟩
  | .hbm, ⟨7, _⟩ => ⟨S2048x16x64, .f32⟩
  | .hbm, ⟨8, _⟩ => ⟨S2048x1x16x64, .f32⟩
  | .hbm, ⟨9, _⟩ => ⟨S2048x16x64, .f32⟩
  | .hbm, ⟨10, _⟩ => ⟨S16x2048x2048, .f32⟩
  | .hbm, ⟨11, _⟩ => ⟨S_, .f32⟩
  | .hbm, ⟨12, _⟩ => ⟨S16x2048x2048, .f32⟩
  | .hbm, ⟨13, _⟩ => ⟨S16x2048x2048, .f32⟩
  | .hbm, ⟨14, _⟩ => ⟨S16x2048, .f32⟩
  | .hbm, ⟨15, _⟩ => ⟨S16x2048x1, .f32⟩
  | .hbm, ⟨16, _⟩ => ⟨S16x2048, .f32⟩
  | .hbm, ⟨17, _⟩ => ⟨S16x1x2048, .f32⟩
  | .hbm, ⟨18, _⟩ => ⟨S16x2048x2048, .f32⟩
  | .hbm, ⟨19, _⟩ => ⟨S16x2048x2048, .f32⟩
  | .hbm, ⟨20, _⟩ => ⟨S16x2048x2048, .f32⟩
  | .hbm, ⟨21, _⟩ => ⟨S16x2048x2048, .f32⟩
  | .hbm, ⟨22, _⟩ => ⟨S2048, .i32⟩
  | .hbm, ⟨23, _⟩ => ⟨S1x2048, .i32⟩
  | .hbm, ⟨24, _⟩ => ⟨S2048, .i32⟩
  | .hbm, ⟨25, _⟩ => ⟨S2048x1, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S16x2048x2048, .i1⟩
  | .hbm, ⟨30, _⟩ => ⟨S_, .f32⟩
  | .hbm, ⟨31, _⟩ => ⟨S16x2048x2048, .f32⟩
  | .hbm, ⟨32, _⟩ => ⟨S16x2048x2048, .f32⟩
  | .hbm, ⟨33, _⟩ => ⟨S_, .f32⟩
  | .hbm, ⟨34, _⟩ => ⟨S16x2048, .f32⟩
  | .hbm, ⟨35, _⟩ => ⟨S_, .f32⟩
  | .hbm, ⟨36, _⟩ => ⟨S16x2048, .f32⟩
  | .hbm, ⟨37, _⟩ => ⟨S16x2048, .f32⟩
  | .hbm, ⟨38, _⟩ => ⟨S16x2048x1, .f32⟩
  | .hbm, ⟨39, _⟩ => ⟨S16x2048x2048, .f32⟩
  | .hbm, ⟨40, _⟩ => ⟨S16x2048x2048, .f32⟩
  | .hbm, ⟨41, _⟩ => ⟨S16x2048x2048, .f32⟩
  | .hbm, ⟨42, _⟩ => ⟨S_, .f32⟩
  | .hbm, ⟨43, _⟩ => ⟨S16x2048, .f32⟩
  | .hbm, ⟨44, _⟩ => ⟨S16x2048x1, .f32⟩
  | .hbm, ⟨45, _⟩ => ⟨S16x2048x2048, .f32⟩
  | .hbm, ⟨46, _⟩ => ⟨S16x2048x2048, .f32⟩
  | .hbm, ⟨47, _⟩ => ⟨S16x64x2048, .f32⟩
  | .hbm, ⟨48, _⟩ => ⟨S2048x16x64, .f32⟩
  | .hbm, ⟨49, _⟩ => ⟨S2048x1024, .f32⟩
  | .hbm, ⟨50, _⟩ => ⟨S2048x8x2, .f32⟩
  | .hbm, ⟨51, _⟩ => ⟨S8x2048x2, .f32⟩
  | .hbm, ⟨52, _⟩ => ⟨S16x2048, .f32⟩
  | .hbm, ⟨53, _⟩ => ⟨S8x2x2048, .f32⟩
  | .hbm, ⟨54, _⟩ => ⟨S2048x3072, .bf16⟩
  | .hbm, ⟨55, _⟩ => ⟨S2048x1024, .bf16⟩
  | .hbm, ⟨56, _⟩ => ⟨S2048x1024, .bf16⟩
  | .hbm, ⟨57, _⟩ => ⟨S2048x1024, .bf16⟩
  | .hbm, ⟨58, _⟩ => ⟨S8x2048x2, .f32⟩
  | .hbm, ⟨59, _⟩ => ⟨S8x2x2048, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S1x2048x2, .f32⟩
  | .local _ .vmem, ⟨11, _⟩ => ⟨S1x2048x2, .f32⟩
  | .local _ .vmem, ⟨12, _⟩ => ⟨S1x2x2048, .f32⟩
  | .local _ .vmem, ⟨13, _⟩ => ⟨S1x2x2048, .f32⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S1x2048x2, .f32⟩
  | .local _ .vmem, ⟨21, _⟩ => ⟨S1x2048x2, .f32⟩
  | .local _ .vmem, ⟨22, _⟩ => ⟨S1x2x2048, .f32⟩
  | .local _ .vmem, ⟨23, _⟩ => ⟨S1x2x2048, .f32⟩
  | .local _ .vmem, ⟨24, _⟩ => ⟨S2048x128, .f32⟩
  | .local _ .vmem, ⟨25, _⟩ => ⟨S2048x128, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_v26 : Ref sig .tc := ⟨.hbm, 31, rfl⟩
abbrev main_v27 : Ref sig .tc := ⟨.hbm, 32, rfl⟩
abbrev main_cst_1 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_3 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47_0 : Ref sig .tc := ⟨.hbm, 55, rfl⟩
abbrev main_v47_1 : Ref sig .tc := ⟨.hbm, 56, rfl⟩
abbrev main_v47_2 : Ref sig .tc := ⟨.hbm, 57, rfl⟩
abbrev main_v47_3 : Ref sig .tc := ⟨.hbm, 58, rfl⟩
abbrev main_v47_4 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2048x2 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S2048x3072 : Shape := ⟨2, ![2048, 3072]⟩
abbrev S2048x16 : Shape := ⟨2, ![2048, 16]⟩
abbrev S2048x1024 : Shape := ⟨2, ![2048, 1024]⟩
abbrev S2048x3x16x64 : Shape := ⟨4, ![2048, 3, 16, 64]⟩
abbrev S2048x1x16x64 : Shape := ⟨4, ![2048, 1, 16, 64]⟩
abbrev S2048x16x64 : Shape := ⟨3, ![2048, 16, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S16x1x2048 : Shape := ⟨3, ![16, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x64x2048 : Shape := ⟨3, ![16, 64, 2048]⟩
abbrev S16x2048x64 : Shape := ⟨3, ![16, 2048, 64]⟩
abbrev S2048x8x2 : Shape := ⟨3, ![2048, 8, 2]⟩
abbrev S8x2048x2 : Shape := ⟨3, ![8, 2048, 2]⟩
abbrev S8x2x2048 : Shape := ⟨3, ![8, 2, 2048]⟩

abbrev nBuf : Space → Nat
  | .hbm => 127
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x16, .f32⟩
  | .hbm, ⟨2, _⟩ => ⟨S2048x1024, .f32⟩
  | .hbm, ⟨3, _⟩ => ⟨S2048x3x16x64, .f32⟩
  | .hbm, ⟨4, _⟩ => ⟨S2048x1x16x64, .f32⟩
  | .hbm, ⟨5, _⟩ => ⟨S2048x16x64, .f32⟩
  | .hbm, ⟨6, _⟩ => ⟨S2048x1x16x64, .f32⟩
  | .hbm, ⟨7, _⟩ => ⟨S2048x16x64, .f32⟩
  | .hbm, ⟨8, _⟩ => ⟨S2048x1x16x64, .f32⟩
  | .hbm, ⟨9, _⟩ => ⟨S2048x16x64, .f32⟩
  | .hbm, ⟨10, _⟩ => ⟨S16x2048x2048, .f32⟩
  | .hbm, ⟨11, _⟩ => ⟨S_, .f32⟩
  | .hbm, ⟨12, _⟩ => ⟨S16x2048x2048, .f32⟩
  | .hbm, ⟨13, _⟩ => ⟨S16x2048x2048, .f32⟩
  | .hbm, ⟨14, _⟩ => ⟨S16x2048, .f32⟩
  | .hbm, ⟨15, _⟩ => ⟨S16x2048x1, .f32⟩
  | .hbm, ⟨16, _⟩ => ⟨S16x2048, .f32⟩
  | .hbm, ⟨17, _⟩ => ⟨S16x1x2048, .f32⟩
  | .hbm, ⟨18, _⟩ => ⟨S16x2048x2048, .f32⟩
  | .hbm, ⟨19, _⟩ => ⟨S16x2048x2048, .f32⟩
  | .hbm, ⟨20, _⟩ => ⟨S16x2048x2048, .f32⟩
  | .hbm, ⟨21, _⟩ => ⟨S16x2048x2048, .f32⟩
  | .hbm, ⟨22, _⟩ => ⟨S2048, .i32⟩
  | .hbm, ⟨23, _⟩ => ⟨S1x2048, .i32⟩
  | .hbm, ⟨24, _⟩ => ⟨S2048, .i32⟩
  | .hbm, ⟨25, _⟩ => ⟨S2048x1, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S16x2048x2048, .i1⟩
  | .hbm, ⟨30, _⟩ => ⟨S_, .f32⟩
  | .hbm, ⟨31, _⟩ => ⟨S16x2048x2048, .f32⟩
  | .hbm, ⟨32, _⟩ => ⟨S16x2048x2048, .f32⟩
  | .hbm, ⟨33, _⟩ => ⟨S_, .f32⟩
  | .hbm, ⟨34, _⟩ => ⟨S16x2048x2048, .f32⟩
  | .hbm, ⟨35, _⟩ => ⟨S_, .f32⟩
  | .hbm, ⟨36, _⟩ => ⟨S16x2048, .f32⟩
  | .hbm, ⟨37, _⟩ => ⟨S16x2048x1, .f32⟩
  | .hbm, ⟨38, _⟩ => ⟨S16x2048x2048, .f32⟩
  | .hbm, ⟨39, _⟩ => ⟨S16x2048x2048, .i1⟩
  | .hbm, ⟨40, _⟩ => ⟨S16x2048x2048, .f32⟩
  | .hbm, ⟨41, _⟩ => ⟨S_, .f32⟩
  | .hbm, ⟨42, _⟩ => ⟨S16x2048, .f32⟩
  | .hbm, ⟨43, _⟩ => ⟨S_, .f32⟩
  | .hbm, ⟨44, _⟩ => ⟨S16x2048, .f32⟩
  | .hbm, ⟨45, _⟩ => ⟨S16x2048, .f32⟩
  | .hbm, ⟨46, _⟩ => ⟨S_, .f32⟩
  | .hbm, ⟨47, _⟩ => ⟨S16x2048, .f32⟩
  | .hbm, ⟨48, _⟩ => ⟨S16x2048, .i1⟩
  | .hbm, ⟨49, _⟩ => ⟨S_, .f32⟩
  | .hbm, ⟨50, _⟩ => ⟨S16x2048, .f32⟩
  | .hbm, ⟨51, _⟩ => ⟨S16x2048, .i1⟩
  | .hbm, ⟨52, _⟩ => ⟨S_, .f32⟩
  | .hbm, ⟨53, _⟩ => ⟨S16x2048, .f32⟩
  | .hbm, ⟨54, _⟩ => ⟨S_, .f32⟩
  | .hbm, ⟨55, _⟩ => ⟨S16x2048, .f32⟩
  | .hbm, ⟨56, _⟩ => ⟨S_, .f32⟩
  | .hbm, ⟨57, _⟩ => ⟨S16x2048, .f32⟩
  | .hbm, ⟨58, _⟩ => ⟨S16x2048, .f32⟩
  | .hbm, ⟨59, _⟩ => ⟨S16x2048, .f32⟩
  | .hbm, ⟨60, _⟩ => ⟨S16x2048x1, .f32⟩
  | .hbm, ⟨61, _⟩ => ⟨S16x2048x2048, .f32⟩
  | .hbm, ⟨62, _⟩ => ⟨S16x2048x2048, .f32⟩
  | .hbm, ⟨63, _⟩ => ⟨S16x2048x2048, .f32⟩
  | .hbm, ⟨64, _⟩ => ⟨S_, .f32⟩
  | .hbm, ⟨65, _⟩ => ⟨S16x2048, .f32⟩
  | .hbm, ⟨66, _⟩ => ⟨S16x2048x1, .f32⟩
  | .hbm, ⟨67, _⟩ => ⟨S16x2048x2048, .f32⟩
  | .hbm, ⟨68, _⟩ => ⟨S16x2048x2048, .f32⟩
  | .hbm, ⟨69, _⟩ => ⟨S16x2048x1, .f32⟩
  | .hbm, ⟨70, _⟩ => ⟨S_, .f32⟩
  | .hbm, ⟨71, _⟩ => ⟨S16x2048x1, .f32⟩
  | .hbm, ⟨72, _⟩ => ⟨S16x2048x1, .f32⟩
  | .hbm, ⟨73, _⟩ => ⟨S16x64x2048, .f32⟩
  | .hbm, ⟨74, _⟩ => ⟨S2048x16x64, .f32⟩
  | .hbm, ⟨75, _⟩ => ⟨S2048x16x64, .f32⟩
  | .hbm, ⟨76, _⟩ => ⟨S16x64x2048, .f32⟩
  | .hbm, ⟨77, _⟩ => ⟨S16x2048x2048, .f32⟩
  | .hbm, ⟨78, _⟩ => ⟨S16x64x2048, .f32⟩
  | .hbm, ⟨79, _⟩ => ⟨S2048x16x64, .f32⟩
  | .hbm, ⟨80, _⟩ => ⟨S16x2048x2048, .f32⟩
  | .hbm, ⟨81, _⟩ => ⟨S16x2048x2048, .f32⟩
  | .hbm, ⟨82, _⟩ => ⟨S16x2048x2048, .f32⟩
  | .hbm, ⟨83, _⟩ => ⟨S_, .f32⟩
  | .hbm, ⟨84, _⟩ => ⟨S16x2048, .f32⟩
  | .hbm, ⟨85, _⟩ => ⟨S16x2048x1, .f32⟩
  | .hbm, ⟨86, _⟩ => ⟨S16x2048x1, .f32⟩
  | .hbm, ⟨87, _⟩ => ⟨S16x2048x2048, .f32⟩
  | .hbm, ⟨88, _⟩ => ⟨S16x2048x2048, .f32⟩
  | .hbm, ⟨89, _⟩ => ⟨S_, .f32⟩
  | .hbm, ⟨90, _⟩ => ⟨S16x2048, .f32⟩
  | .hbm, ⟨91, _⟩ => ⟨S16x2048x2048, .f32⟩
  | .hbm, ⟨92, _⟩ => ⟨S16x2048x2048, .f32⟩
  | .hbm, ⟨93, _⟩ => ⟨S16x2048x2048, .f32⟩
  | .hbm, ⟨94, _⟩ => ⟨S_, .f32⟩
  | .hbm, ⟨95, _⟩ => ⟨S16x2048x2048, .f32⟩
  | .hbm, ⟨96, _⟩ => ⟨S16x2048x2048, .f32⟩
  | .hbm, ⟨97, _⟩ => ⟨S_, .f32⟩
  | .hbm, ⟨98, _⟩ => ⟨S16x2048, .f32⟩
  | .hbm, ⟨99, _⟩ => ⟨S16x2048x1, .f32⟩
  | .hbm, ⟨100, _⟩ => ⟨S16x2048x2048, .f32⟩
  | .hbm, ⟨101, _⟩ => ⟨S_, .f32⟩
  | .hbm, ⟨102, _⟩ => ⟨S16x2048, .f32⟩
  | .hbm, ⟨103, _⟩ => ⟨S16x1x2048, .f32⟩
  | .hbm, ⟨104, _⟩ => ⟨S_, .f32⟩
  | .hbm, ⟨105, _⟩ => ⟨S16x2048, .f32⟩
  | .hbm, ⟨106, _⟩ => ⟨S2048x16, .f32⟩
  | .hbm, ⟨107, _⟩ => ⟨S_, .f32⟩
  | .hbm, ⟨108, _⟩ => ⟨S16x2048, .f32⟩
  | .hbm, ⟨109, _⟩ => ⟨S2048x16, .f32⟩
  | .hbm, ⟨110, _⟩ => ⟨S_, .f32⟩
  | .hbm, ⟨111, _⟩ => ⟨S16x2048x2048, .f32⟩
  | .hbm, ⟨112, _⟩ => ⟨S16x2048x2048, .f32⟩
  | .hbm, ⟨113, _⟩ => ⟨S16x2048x64, .f32⟩
  | .hbm, ⟨114, _⟩ => ⟨S2048x16x64, .f32⟩
  | .hbm, ⟨115, _⟩ => ⟨S16x2048x64, .f32⟩
  | .hbm, ⟨116, _⟩ => ⟨S2048x16x64, .f32⟩
  | .hbm, ⟨117, _⟩ => ⟨S2048x1024, .f32⟩
  | .hbm, ⟨118, _⟩ => ⟨S2048x1024, .bf16⟩
  | .hbm, ⟨119, _⟩ => ⟨S2048x1024, .f32⟩
  | .hbm, ⟨120, _⟩ => ⟨S2048x1024, .bf16⟩
  | .hbm, ⟨121, _⟩ => ⟨S2048x1024, .f32⟩
  | .hbm, ⟨122, _⟩ => ⟨S2048x1024, .bf16⟩
  | .hbm, ⟨123, _⟩ => ⟨S2048x8x2, .f32⟩
  | .hbm, ⟨124, _⟩ => ⟨S8x2048x2, .f32⟩
  | .hbm, ⟨125, _⟩ => ⟨S16x2048, .f32⟩
  | .hbm, ⟨126, _⟩ => ⟨S8x2x2048, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_v26 : Ref sig .tc := ⟨.hbm, 31, rfl⟩
abbrev main_v27 : Ref sig .tc := ⟨.hbm, 32, rfl⟩
abbrev main_cst_1 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_cst_8 : Ref sig .tc := ⟨.hbm, 54, rfl⟩
abbrev main_v42 : Ref sig .tc := ⟨.hbm, 55, rfl⟩
abbrev main_cst_9 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_12 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_13 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_14 : Ref sig .tc := ⟨.hbm, 94, rfl⟩
abbrev main_v76 : Ref sig .tc := ⟨.hbm, 95, rfl⟩
abbrev main_v77 : Ref sig .tc := ⟨.hbm, 96, rfl⟩
abbrev main_cst_15 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_16 : Ref sig .tc := ⟨.hbm, 101, rfl⟩
abbrev main_v81 : Ref sig .tc := ⟨.hbm, 102, rfl⟩
abbrev main_v82 : Ref sig .tc := ⟨.hbm, 103, rfl⟩
abbrev main_cst_17 : Ref sig .tc := ⟨.hbm, 104, rfl⟩
abbrev main_v83 : Ref sig .tc := ⟨.hbm, 105, rfl⟩
abbrev main_v84 : Ref sig .tc := ⟨.hbm, 106, rfl⟩
abbrev main_cst_18 : Ref sig .tc := ⟨.hbm, 107, rfl⟩
abbrev main_v85 : Ref sig .tc := ⟨.hbm, 108, rfl⟩
abbrev main_v86 : Ref sig .tc := ⟨.hbm, 109, rfl⟩
abbrev main_cst_19 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩

abbrev nD : Nat := 1
abbrev τ : Topo := Topo.v7x

variable {F : FTy → Type} [FloatOps F]
-- ==== Dfin.lean ====
abbrev S2048x5632 : Shape := ⟨2, ![2048, 5632]⟩
abbrev S1024x5632 : Shape := ⟨2, ![1024, 5632]⟩
abbrev S8x128 : Shape := ⟨2, ![8, 128]⟩
abbrev S5632x1024 : Shape := ⟨2, ![5632, 1024]⟩
abbrev S1x5632x1024 : Shape := ⟨3, ![1, 5632, 1024]⟩
abbrev S2048x1024 : Shape := ⟨2, ![2048, 1024]⟩
abbrev S1024x1408 : Shape := ⟨2, ![1024, 1408]⟩
abbrev S1x1408x512 : Shape := ⟨3, ![1, 1408, 512]⟩
abbrev S1024x512 : Shape := ⟨2, ![1024, 512]⟩
abbrev S1408x512 : Shape := ⟨2, ![1408, 512]⟩

abbrev nBuf : Space → Nat
  | .hbm => 8
  | .vmem => 7
  | .smem => 0
  | _ => 0

abbrev bufTy : (tb : Table) → Fin (tcTables nBuf tb) → BufTy
  | .hbm, ⟨0, _⟩ => ⟨S2048x5632, .f32⟩
  | .hbm, ⟨1, _⟩ => ⟨S1024x5632, .f32⟩
  | .hbm, ⟨2, _⟩ => ⟨S8x128, .f32⟩
  | .hbm, ⟨3, _⟩ => ⟨S2048x5632, .bf16⟩
  | .hbm, ⟨4, _⟩ => ⟨S5632x1024, .f32⟩
  | .hbm, ⟨5, _⟩ => ⟨S5632x1024, .bf16⟩
  | .hbm, ⟨6, _⟩ => ⟨S1x5632x1024, .bf16⟩
  | .hbm, ⟨7, _⟩ => ⟨S2048x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1408x512, .bf16⟩
  | .local _ .vmem, ⟨3, _⟩ => ⟨S1x1408x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DfinRefIdeal.lean ====
abbrev S2048x5632 : Shape := ⟨2, ![2048, 5632]⟩
abbrev S1024x5632 : Shape := ⟨2, ![1024, 5632]⟩
abbrev S8x128 : Shape := ⟨2, ![8, 128]⟩
abbrev S_ : Shape := ⟨0, ![]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S1024x5632, .f32⟩
  | .hbm, ⟨2, _⟩ => ⟨S8x128, .f32⟩
  | .hbm, ⟨3, _⟩ => ⟨S_, .f32⟩
  | .hbm, ⟨4, _⟩ => ⟨S2048x1024, .f32⟩
  | .hbm, ⟨5, _⟩ => ⟨S2048x5632, .f32⟩
  | .hbm, ⟨6, _⟩ => ⟨S2048x1024, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Dact.lean ====
abbrev S2048x1024 : Shape := ⟨2, ![2048, 1024]⟩
abbrev S2816x1024 : Shape := ⟨2, ![2816, 1024]⟩
abbrev S1x2816x1024 : Shape := ⟨3, ![1, 2816, 1024]⟩
abbrev S2048x2816 : Shape := ⟨2, ![2048, 2816]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2816x1024, .f32⟩
  | .hbm, ⟨2, _⟩ => ⟨S2048x1024, .bf16⟩
  | .hbm, ⟨3, _⟩ => ⟨S2816x1024, .bf16⟩
  | .hbm, ⟨4, _⟩ => ⟨S1x2816x1024, .bf16⟩
  | .hbm, ⟨5, _⟩ => ⟨S2048x2816, .f32⟩
  | .local _ .vmem, ⟨0, _⟩ => ⟨S1024x1024, .bf16⟩
  | .local _ .vmem, ⟨1, _⟩ => ⟨S1024x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .f32⟩
  | .local _ .vmem, ⟨5, _⟩ => ⟨S1024x1408, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactRefIdeal.lean ====
abbrev S2048x1024 : Shape := ⟨2, ![2048, 1024]⟩
abbrev S2816x1024 : Shape := ⟨2, ![2816, 1024]⟩
abbrev S_ : Shape := ⟨0, ![]⟩
abbrev S2048x2816 : Shape := ⟨2, ![2048, 2816]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2816x1024, .f32⟩
  | .hbm, ⟨2, _⟩ => ⟨S_, .f32⟩
  | .hbm, ⟨3, _⟩ => ⟨S2048x2816, .f32⟩
  | .hbm, ⟨4, _⟩ => ⟨S2048x1024, .f32⟩
  | .hbm, ⟨5, _⟩ => ⟨S2048x2816, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== FfnIn.lean ====
abbrev S2048x1024 : Shape := ⟨2, ![2048, 1024]⟩
abbrev S1024x5632 : Shape := ⟨2, ![1024, 5632]⟩
abbrev S5632x1024 : Shape := ⟨2, ![5632, 1024]⟩
abbrev S1x5632x1024 : Shape := ⟨3, ![1, 5632, 1024]⟩
abbrev S2048x5632 : Shape := ⟨2, ![2048, 5632]⟩
abbrev S1024x1024 : Shape := ⟨2, ![1024, 1024]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x1024, .bf16⟩
  | .hbm, ⟨3, _⟩ => ⟨S5632x1024, .f32⟩
  | .hbm, ⟨4, _⟩ => ⟨S5632x1024, .bf16⟩
  | .hbm, ⟨5, _⟩ => ⟨S1x5632x1024, .bf16⟩
  | .hbm, ⟨6, _⟩ => ⟨S2048x5632, .f32⟩
  | .local _ .vmem, ⟨0, _⟩ => ⟨S1024x1024, .bf16⟩
  | .local _ .vmem, ⟨1, _⟩ => ⟨S1024x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x512, .f32⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInRefIdeal.lean ====
abbrev S2048x1024 : Shape := ⟨2, ![2048, 1024]⟩
abbrev S1024x5632 : Shape := ⟨2, ![1024, 5632]⟩
abbrev S2048x5632 : Shape := ⟨2, ![2048, 5632]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FfnOut.lean ====
abbrev S2048x2816 : Shape := ⟨2, ![2048, 2816]⟩
abbrev S2816x1024 : Shape := ⟨2, ![2816, 1024]⟩
abbrev S1x2816x1024 : Shape := ⟨3, ![1, 2816, 1024]⟩
abbrev S2048x1024 : Shape := ⟨2, ![2048, 1024]⟩
abbrev S1024x1408 : Shape := ⟨2, ![1024, 1408]⟩
abbrev S1x1408x512 : Shape := ⟨3, ![1, 1408, 512]⟩
abbrev S1024x512 : Shape := ⟨2, ![1024, 512]⟩
abbrev S1408x512 : Shape := ⟨2, ![1408, 512]⟩

abbrev nBuf : Space → Nat
  | .hbm => 6
  | .vmem => 7
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x2816, .bf16⟩
  | .hbm, ⟨3, _⟩ => ⟨S2816x1024, .bf16⟩
  | .hbm, ⟨4, _⟩ => ⟨S1x2816x1024, .bf16⟩
  | .hbm, ⟨5, _⟩ => ⟨S2048x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1408x512, .bf16⟩
  | .local _ .vmem, ⟨3, _⟩ => ⟨S1x1408x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutRefIdeal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DilDhn.lean ====
abbrev S2048x9216 : Shape := ⟨2, ![2048, 9216]⟩
abbrev S1024x9216 : Shape := ⟨2, ![1024, 9216]⟩
abbrev S1024x8x1152 : Shape := ⟨3, ![1024, 8, 1152]⟩
abbrev S8x1024x1152 : Shape := ⟨3, ![8, 1024, 1152]⟩
abbrev S8x1x1024x1152 : Shape := ⟨4, ![8, 1, 1024, 1152]⟩
abbrev S2048x1024 : Shape := ⟨2, ![2048, 1024]⟩
abbrev S1024x1152 : Shape := ⟨2, ![1024, 1152]⟩
abbrev S1x1x512x1152 : Shape := ⟨4, ![1, 1, 512, 1152]⟩
abbrev S1024x512 : Shape := ⟨2, ![1024, 512]⟩
abbrev S512x1152 : Shape := ⟨2, ![512, 1152]⟩

abbrev nBuf : Space → Nat
  | .hbm => 8
  | .vmem => 7
  | .smem => 0
  | _ => 0

abbrev bufTy : (tb : Table) → Fin (tcTables nBuf tb) → BufTy
  | .hbm, ⟨0, _⟩ => ⟨S2048x9216, .f32⟩
  | .hbm, ⟨1, _⟩ => ⟨S1024x9216, .f32⟩
  | .hbm, ⟨2, _⟩ => ⟨S2048x9216, .bf16⟩
  | .hbm, ⟨3, _⟩ => ⟨S1024x9216, .bf16⟩
  | .hbm, ⟨4, _⟩ => ⟨S1024x8x1152, .bf16⟩
  | .hbm, ⟨5, _⟩ => ⟨S8x1024x1152, .bf16⟩
  | .hbm, ⟨6, _⟩ => ⟨S8x1x1024x1152, .bf16⟩
  | .hbm, ⟨7, _⟩ => ⟨S2048x1024, .f32⟩
  | .local _ .vmem, ⟨0, _⟩ => ⟨S1024x1152, .bf16⟩
  | .local _ .vmem, ⟨1, _⟩ => ⟨S1024x1152, .bf16⟩
  | .local _ .vmem, ⟨2, _⟩ => ⟨S1x1x512x1152, .bf16⟩
  | .local _ .vmem, ⟨3, _⟩ => ⟨S1x1x512x1152, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi arg1 c0_i32_5
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let c0_i32_13 : BitVec 32 := 0#32
  ![v16.toNat, c0_i32_12.toNat, v17.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilDhnRefIdeal.lean ====
abbrev S2048x9216 : Shape := ⟨2, ![2048, 9216]⟩
abbrev S1024x9216 : Shape := ⟨2, ![1024, 9216]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x9216, .f32⟩
  | .hbm, ⟨1, _⟩ => ⟨S1024x9216, .f32⟩
  | .hbm, ⟨2, _⟩ => ⟨S_, .f32⟩
  | .hbm, ⟨3, _⟩ => ⟨S2048x1024, .f32⟩
  | .hbm, ⟨4, _⟩ => ⟨S2048x9216, .f32⟩
  | .hbm, ⟨5, _⟩ => ⟨S2048x1024, .f32⟩
  | _, _ => ⟨S2048x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DilDw.lean ====
abbrev S2048x1024 : Shape := ⟨2, ![2048, 1024]⟩
abbrev S2048x9216 : Shape := ⟨2, ![2048, 9216]⟩
abbrev S8x1x1024x1152 : Shape := ⟨4, ![8, 1, 1024, 1152]⟩
abbrev S2048x1152 : Shape := ⟨2, ![2048, 1152]⟩
abbrev S1x1x1024x1152 : Shape := ⟨4, ![1, 1, 1024, 1152]⟩
abbrev S1024x1152 : Shape := ⟨2, ![1024, 1152]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x9216, .f32⟩
  | .hbm, ⟨2, _⟩ => ⟨S2048x1024, .bf16⟩
  | .hbm, ⟨3, _⟩ => ⟨S2048x9216, .bf16⟩
  | .hbm, ⟨4, _⟩ => ⟨S8x1x1024x1152, .bf16⟩
  | .local _ .vmem, ⟨0, _⟩ => ⟨S2048x1024, .bf16⟩
  | .local _ .vmem, ⟨1, _⟩ => ⟨S2048x1152, .bf16⟩
  | .local _ .vmem, ⟨2, _⟩ => ⟨S2048x1152, .bf16⟩
  | .local _ .vmem, ⟨3, _⟩ => ⟨S1x1x1024x1152, .bf16⟩
  | .local _ .vmem, ⟨4, _⟩ => ⟨S1x1x1024x1152, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilDwRefIdeal.lean ====
abbrev S2048x1024 : Shape := ⟨2, ![2048, 1024]⟩
abbrev S2048x9216 : Shape := ⟨2, ![2048, 9216]⟩
abbrev S_ : Shape := ⟨0, ![]⟩
abbrev S1024x9216 : Shape := ⟨2, ![1024, 9216]⟩
abbrev S9216x1024 : Shape := ⟨2, ![9216, 1024]⟩
abbrev S1024x8x1152 : Shape := ⟨3, ![1024, 8, 1152]⟩
abbrev S8x1024x1152 : Shape := ⟨3, ![8, 1024, 1152]⟩
abbrev S8x1x1024x1152 : Shape := ⟨4, ![8, 1, 1024, 1152]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x9216, .f32⟩
  | .hbm, ⟨2, _⟩ => ⟨S_, .f32⟩
  | .hbm, ⟨3, _⟩ => ⟨S1024x9216, .f32⟩
  | .hbm, ⟨4, _⟩ => ⟨S2048x9216, .f32⟩
  | .hbm, ⟨5, _⟩ => ⟨S9216x1024, .f32⟩
  | .hbm, ⟨6, _⟩ => ⟨S1024x9216, .f32⟩
  | .hbm, ⟨7, _⟩ => ⟨S1024x9216, .bf16⟩
  | .hbm, ⟨8, _⟩ => ⟨S1024x8x1152, .bf16⟩
  | .hbm, ⟨9, _⟩ => ⟨S8x1024x1152, .bf16⟩
  | .hbm, ⟨10, _⟩ => ⟨S8x1x1024x1152, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ProjDo.lean ====
abbrev S2048x1024 : Shape := ⟨2, ![2048, 1024]⟩
abbrev S1024x1024 : Shape := ⟨2, ![1024, 1024]⟩
abbrev S1x1024x1024 : Shape := ⟨3, ![1, 1024, 1024]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .bf16⟩
  | .hbm, ⟨3, _⟩ => ⟨S1024x1024, .bf16⟩
  | .hbm, ⟨4, _⟩ => ⟨S1x1024x1024, .bf16⟩
  | .hbm, ⟨5, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x512, .f32⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDoRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ProjDw.lean ====
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S1024x1024, .bf16⟩
  | .local _ .vmem, ⟨0, _⟩ => ⟨S2048x1024, .f32⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDwRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proj.lean ====
abbrev S2048x1024 : Shape := ⟨2, ![2048, 1024]⟩
abbrev S1024x1024 : Shape := ⟨2, ![1024, 1024]⟩
abbrev S1x1024x1024 : Shape := ⟨3, ![1, 1024, 1024]⟩
abbrev S1x1024x512 : Shape := ⟨3, ![1, 1024, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024x1024, .bf16⟩
  | .hbm, ⟨3, _⟩ => ⟨S1x1024x1024, .bf16⟩
  | .hbm, ⟨4, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1024x512, .f32⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S2048x1024 : Shape := ⟨2, ![2048, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GateDx.lean ====
abbrev S2048x1024 : Shape := ⟨2, ![2048, 1024]⟩
abbrev S1024x1024 : Shape := ⟨2, ![1024, 1024]⟩
abbrev S1x1024x1024 : Shape := ⟨3, ![1, 1024, 1024]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 7
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .bf16⟩
  | .hbm, ⟨4, _⟩ => ⟨S1024x1024, .bf16⟩
  | .hbm, ⟨5, _⟩ => ⟨S1x1024x1024, .bf16⟩
  | .hbm, ⟨6, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateDxRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== FoxIn.lean ====
abbrev S2048x1024 : Shape := ⟨2, ![2048, 1024]⟩
abbrev S1024x3200 : Shape := ⟨2, ![1024, 3200]⟩
abbrev S2048x3200 : Shape := ⟨2, ![2048, 3200]⟩
abbrev S1024x1024 : Shape := ⟨2, ![1024, 1024]⟩
abbrev S1024x640 : Shape := ⟨2, ![1024, 640]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x3200, .f32⟩
  | .hbm, ⟨2, _⟩ => ⟨S2048x1024, .bf16⟩
  | .hbm, ⟨3, _⟩ => ⟨S1024x3200, .bf16⟩
  | .hbm, ⟨4, _⟩ => ⟨S2048x3200, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .f32⟩
  | .local _ .vmem, ⟨5, _⟩ => ⟨S1024x640, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxInRefIdeal.lean ====
abbrev S2048x1024 : Shape := ⟨2, ![2048, 1024]⟩
abbrev S1024x3200 : Shape := ⟨2, ![1024, 3200]⟩
abbrev S2048x3200 : Shape := ⟨2, ![2048, 3200]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3200, .f32⟩
  | .hbm, ⟨2, _⟩ => ⟨S2048x3200, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FoxDw.lean ====
abbrev S2048x1024 : Shape := ⟨2, ![2048, 1024]⟩
abbrev S2048x3200 : Shape := ⟨2, ![2048, 3200]⟩
abbrev S1024x3200 : Shape := ⟨2, ![1024, 3200]⟩
abbrev S2048x640 : Shape := ⟨2, ![2048, 640]⟩
abbrev S1024x640 : Shape := ⟨2, ![1024, 640]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x3200, .f32⟩
  | .hbm, ⟨2, _⟩ => ⟨S2048x1024, .bf16⟩
  | .hbm, ⟨3, _⟩ => ⟨S2048x3200, .bf16⟩
  | .hbm, ⟨4, _⟩ => ⟨S1024x3200, .bf16⟩
  | .local _ .vmem, ⟨0, _⟩ => ⟨S2048x1024, .bf16⟩
  | .local _ .vmem, ⟨1, _⟩ => ⟨S2048x640, .bf16⟩
  | .local _ .vmem, ⟨2, _⟩ => ⟨S2048x640, .bf16⟩
  | .local _ .vmem, ⟨3, _⟩ => ⟨S1024x640, .bf16⟩
  | .local _ .vmem, ⟨4, _⟩ => ⟨S1024x640, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxDwRefIdeal.lean ====
abbrev S2048x1024 : Shape := ⟨2, ![2048, 1024]⟩
abbrev S2048x3200 : Shape := ⟨2, ![2048, 3200]⟩
abbrev S_ : Shape := ⟨0, ![]⟩
abbrev S1024x3200 : Shape := ⟨2, ![1024, 3200]⟩
abbrev S3200x1024 : Shape := ⟨2, ![3200, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x3200, .f32⟩
  | .hbm, ⟨2, _⟩ => ⟨S_, .f32⟩
  | .hbm, ⟨3, _⟩ => ⟨S1024x3200, .f32⟩
  | .hbm, ⟨4, _⟩ => ⟨S2048x3200, .f32⟩
  | .hbm, ⟨5, _⟩ => ⟨S3200x1024, .f32⟩
  | .hbm, ⟨6, _⟩ => ⟨S1024x3200, .f32⟩
  | .hbm, ⟨7, _⟩ => ⟨S1024x3200, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FoxDhn.lean ====
abbrev S2048x3200 : Shape := ⟨2, ![2048, 3200]⟩
abbrev S1024x3200 : Shape := ⟨2, ![1024, 3200]⟩
abbrev S2048x1024 : Shape := ⟨2, ![2048, 1024]⟩
abbrev S1024x640 : Shape := ⟨2, ![1024, 640]⟩
abbrev S512x640 : Shape := ⟨2, ![512, 640]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S2048x3200, .f32⟩
  | .hbm, ⟨1, _⟩ => ⟨S1024x3200, .f32⟩
  | .hbm, ⟨2, _⟩ => ⟨S2048x3200, .bf16⟩
  | .hbm, ⟨3, _⟩ => ⟨S1024x3200, .bf16⟩
  | .hbm, ⟨4, _⟩ => ⟨S2048x1024, .f32⟩
  | .local _ .vmem, ⟨0, _⟩ => ⟨S1024x640, .bf16⟩
  | .local _ .vmem, ⟨1, _⟩ => ⟨S1024x640, .bf16⟩
  | .local _ .vmem, ⟨2, _⟩ => ⟨S512x640, .bf16⟩
  | .local _ .vmem, ⟨3, _⟩ => ⟨S512x640, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 5], ![false, false, false]⟩

def k0_cond3 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxDhnRefIdeal.lean ====
abbrev S2048x3200 : Shape := ⟨2, ![2048, 3200]⟩
abbrev S1024x3200 : Shape := ⟨2, ![1024, 3200]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x3200, .f32⟩
  | .hbm, ⟨1, _⟩ => ⟨S1024x3200, .f32⟩
  | .hbm, ⟨2, _⟩ => ⟨S_, .f32⟩
  | .hbm, ⟨3, _⟩ => ⟨S2048x1024, .f32⟩
  | .hbm, ⟨4, _⟩ => ⟨S2048x3200, .f32⟩
  | .hbm, ⟨5, _⟩ => ⟨S2048x1024, .f32⟩
  | _, _ => ⟨S2048x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MlaA.lean ====
abbrev S2048x1024 : Shape := ⟨2, ![2048, 1024]⟩
abbrev S1024x768 : Shape := ⟨2, ![1024, 768]⟩
abbrev S2048x768 : Shape := ⟨2, ![2048, 768]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x768, .f32⟩
  | .hbm, ⟨2, _⟩ => ⟨S2048x1024, .bf16⟩
  | .hbm, ⟨3, _⟩ => ⟨S1024x768, .bf16⟩
  | .hbm, ⟨4, _⟩ => ⟨S2048x768, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .f32⟩
  | .local _ .vmem, ⟨4, _⟩ => ⟨S1024x768, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaARefIdeal.lean ====
abbrev S2048x1024 : Shape := ⟨2, ![2048, 1024]⟩
abbrev S1024x768 : Shape := ⟨2, ![1024, 768]⟩
abbrev S2048x768 : Shape := ⟨2, ![2048, 768]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x768, .f32⟩
  | .hbm, ⟨2, _⟩ => ⟨S2048x768, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MlaUq.lean ====
abbrev S2048x384 : Shape := ⟨2, ![2048, 384]⟩
abbrev S384x2048 : Shape := ⟨2, ![384, 2048]⟩
abbrev S2048x2048 : Shape := ⟨2, ![2048, 2048]⟩
abbrev S1024x384 : Shape := ⟨2, ![1024, 384]⟩
abbrev S384x512 : Shape := ⟨2, ![384, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x384, .f32⟩
  | .hbm, ⟨1, _⟩ => ⟨S384x2048, .f32⟩
  | .hbm, ⟨2, _⟩ => ⟨S2048x384, .bf16⟩
  | .hbm, ⟨3, _⟩ => ⟨S384x2048, .bf16⟩
  | .hbm, ⟨4, _⟩ => ⟨S2048x2048, .f32⟩
  | .local _ .vmem, ⟨0, _⟩ => ⟨S1024x384, .bf16⟩
  | .local _ .vmem, ⟨1, _⟩ => ⟨S1024x384, .bf16⟩
  | .local _ .vmem, ⟨2, _⟩ => ⟨S384x512, .bf16⟩
  | .local _ .vmem, ⟨3, _⟩ => ⟨S384x512, .bf16⟩
  | .local _ .vmem, ⟨4, _⟩ => ⟨S1024x512, .f32⟩
  | .local _ .vmem, ⟨5, _⟩ => ⟨S1024x512, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUqRefIdeal.lean ====
abbrev S2048x384 : Shape := ⟨2, ![2048, 384]⟩
abbrev S384x2048 : Shape := ⟨2, ![384, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S384x2048, .f32⟩
  | .hbm, ⟨2, _⟩ => ⟨S2048x2048, .f32⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MlaUkv.lean ====
abbrev S2048x256 : Shape := ⟨2, ![2048, 256]⟩
abbrev S256x3072 : Shape := ⟨2, ![256, 3072]⟩
abbrev S2048x3072 : Shape := ⟨2, ![2048, 3072]⟩
abbrev S1024x256 : Shape := ⟨2, ![1024, 256]⟩
abbrev S256x512 : Shape := ⟨2, ![256, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S256x3072, .f32⟩
  | .hbm, ⟨2, _⟩ => ⟨S2048x256, .bf16⟩
  | .hbm, ⟨3, _⟩ => ⟨S256x3072, .bf16⟩
  | .hbm, ⟨4, _⟩ => ⟨S2048x3072, .f32⟩
  | .local _ .vmem, ⟨0, _⟩ => ⟨S1024x256, .bf16⟩
  | .local _ .vmem, ⟨1, _⟩ => ⟨S1024x256, .bf16⟩
  | .local _ .vmem, ⟨2, _⟩ => ⟨S256x512, .bf16⟩
  | .local _ .vmem, ⟨3, _⟩ => ⟨S256x512, .bf16⟩
  | .local _ .vmem, ⟨4, _⟩ => ⟨S1024x512, .f32⟩
  | .local _ .vmem, ⟨5, _⟩ => ⟨S1024x512, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaUkvRefIdeal.lean ====
abbrev S2048x256 : Shape := ⟨2, ![2048, 256]⟩
abbrev S256x3072 : Shape := ⟨2, ![256, 3072]⟩
abbrev S2048x3072 : Shape := ⟨2, ![2048, 3072]⟩

abbrev nBuf : Space → Nat
  | .hbm => 3
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x3072, .f32⟩
  | .hbm, ⟨2, _⟩ => ⟨S2048x3072, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MlaDuq.lean ====
abbrev S2048x384 : Shape := ⟨2, ![2048, 384]⟩
abbrev S2048x2048 : Shape := ⟨2, ![2048, 2048]⟩
abbrev S384x2048 : Shape := ⟨2, ![384, 2048]⟩
abbrev S2048x512 : Shape := ⟨2, ![2048, 512]⟩
abbrev S384x512 : Shape := ⟨2, ![384, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x384, .f32⟩
  | .hbm, ⟨1, _⟩ => ⟨S2048x2048, .f32⟩
  | .hbm, ⟨2, _⟩ => ⟨S2048x384, .bf16⟩
  | .hbm, ⟨3, _⟩ => ⟨S2048x2048, .bf16⟩
  | .hbm, ⟨4, _⟩ => ⟨S384x2048, .bf16⟩
  | .local _ .vmem, ⟨0, _⟩ => ⟨S2048x384, .bf16⟩
  | .local _ .vmem, ⟨1, _⟩ => ⟨S2048x512, .bf16⟩
  | .local _ .vmem, ⟨2, _⟩ => ⟨S2048x512, .bf16⟩
  | .local _ .vmem, ⟨3, _⟩ => ⟨S384x512, .bf16⟩
  | .local _ .vmem, ⟨4, _⟩ => ⟨S384x512, .bf16⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaDuqRefIdeal.lean ====
abbrev S2048x384 : Shape := ⟨2, ![2048, 384]⟩
abbrev S2048x2048 : Shape := ⟨2, ![2048, 2048]⟩
abbrev S_ : Shape := ⟨0, ![]⟩
abbrev S384x2048 : Shape := ⟨2, ![384, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S2048x2048, .f32⟩
  | .hbm, ⟨2, _⟩ => ⟨S_, .f32⟩
  | .hbm, ⟨3, _⟩ => ⟨S384x2048, .f32⟩
  | .hbm, ⟨4, _⟩ => ⟨S2048x2048, .f32⟩
  | .hbm, ⟨5, _⟩ => ⟨S2048x384, .f32⟩
  | .hbm, ⟨6, _⟩ => ⟨S384x2048, .f32⟩
  | .hbm, ⟨7, _⟩ => ⟨S384x2048, .bf16⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlaDcq.lean ====
abbrev S2048x2048 : Shape := ⟨2, ![2048, 2048]⟩
abbrev S384x2048 : Shape := ⟨2, ![384, 2048]⟩
abbrev S2048x384 : Shape := ⟨2, ![2048, 384]⟩
abbrev S1024x2048 : Shape := ⟨2, ![1024, 2048]⟩
abbrev S1024x384 : Shape := ⟨2, ![1024, 384]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S384x2048, .f32⟩
  | .hbm, ⟨2, _⟩ => ⟨S2048x2048, .bf16⟩
  | .hbm, ⟨3, _⟩ => ⟨S384x2048, .bf16⟩
  | .hbm, ⟨4, _⟩ => ⟨S2048x384, .f32⟩
  | .local _ .vmem, ⟨0, _⟩ => ⟨S1024x2048, .bf16⟩
  | .local _ .vmem, ⟨1, _⟩ => ⟨S1024x2048, .bf16⟩
  | .local _ .vmem, ⟨2, _⟩ => ⟨S384x2048, .bf16⟩
  | .local _ .vmem, ⟨3, _⟩ => ⟨S1024x384, .f32⟩
  | .local _ .vmem, ⟨4, _⟩ => ⟨S1024x384, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaDcqRefIdeal.lean ====
abbrev S2048x2048 : Shape := ⟨2, ![2048, 2048]⟩
abbrev S384x2048 : Shape := ⟨2, ![384, 2048]⟩
abbrev S_ : Shape := ⟨0, ![]⟩
abbrev S2048x384 : Shape := ⟨2, ![2048, 384]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S384x2048, .f32⟩
  | .hbm, ⟨2, _⟩ => ⟨S_, .f32⟩
  | .hbm, ⟨3, _⟩ => ⟨S2048x384, .f32⟩
  | .hbm, ⟨4, _⟩ => ⟨S2048x2048, .f32⟩
  | .hbm, ⟨5, _⟩ => ⟨S2048x384, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MlaDukv.lean ====
abbrev S2048x256 : Shape := ⟨2, ![2048, 256]⟩
abbrev S2048x3072 : Shape := ⟨2, ![2048, 3072]⟩
abbrev S256x3072 : Shape := ⟨2, ![256, 3072]⟩
abbrev S2048x512 : Shape := ⟨2, ![2048, 512]⟩
abbrev S256x512 : Shape := ⟨2, ![256, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S2048x3072, .f32⟩
  | .hbm, ⟨2, _⟩ => ⟨S2048x256, .bf16⟩
  | .hbm, ⟨3, _⟩ => ⟨S256x3072, .bf16⟩
  | .local _ .vmem, ⟨0, _⟩ => ⟨S2048x256, .bf16⟩
  | .local _ .vmem, ⟨1, _⟩ => ⟨S2048x512, .f32⟩
  | .local _ .vmem, ⟨2, _⟩ => ⟨S2048x512, .f32⟩
  | .local _ .vmem, ⟨3, _⟩ => ⟨S256x512, .bf16⟩
  | .local _ .vmem, ⟨4, _⟩ => ⟨S256x512, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaDukvRefIdeal.lean ====
abbrev S2048x256 : Shape := ⟨2, ![2048, 256]⟩
abbrev S2048x3072 : Shape := ⟨2, ![2048, 3072]⟩
abbrev S_ : Shape := ⟨0, ![]⟩
abbrev S256x3072 : Shape := ⟨2, ![256, 3072]⟩
abbrev S3072x256 : Shape := ⟨2, ![3072, 256]⟩

abbrev nBuf : Space → Nat
  | .hbm => 8
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x3072, .f32⟩
  | .hbm, ⟨2, _⟩ => ⟨S_, .f32⟩
  | .hbm, ⟨3, _⟩ => ⟨S256x3072, .f32⟩
  | .hbm, ⟨4, _⟩ => ⟨S2048x3072, .f32⟩
  | .hbm, ⟨5, _⟩ => ⟨S3072x256, .f32⟩
  | .hbm, ⟨6, _⟩ => ⟨S256x3072, .f32⟩
  | .hbm, ⟨7, _⟩ => ⟨S256x3072, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlaDckv.lean ====
abbrev S2048x3072 : Shape := ⟨2, ![2048, 3072]⟩
abbrev S256x3072 : Shape := ⟨2, ![256, 3072]⟩
abbrev S2048x256 : Shape := ⟨2, ![2048, 256]⟩
abbrev S1024x1536 : Shape := ⟨2, ![1024, 1536]⟩
abbrev S256x1536 : Shape := ⟨2, ![256, 1536]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S2048x3072, .f32⟩
  | .hbm, ⟨1, _⟩ => ⟨S256x3072, .f32⟩
  | .hbm, ⟨2, _⟩ => ⟨S256x3072, .bf16⟩
  | .hbm, ⟨3, _⟩ => ⟨S2048x256, .f32⟩
  | .local _ .vmem, ⟨0, _⟩ => ⟨S1024x1536, .f32⟩
  | .local _ .vmem, ⟨1, _⟩ => ⟨S1024x1536, .f32⟩
  | .local _ .vmem, ⟨2, _⟩ => ⟨S256x1536, .bf16⟩
  | .local _ .vmem, ⟨3, _⟩ => ⟨S256x1536, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaDckvRefIdeal.lean ====
abbrev S2048x3072 : Shape := ⟨2, ![2048, 3072]⟩
abbrev S256x3072 : Shape := ⟨2, ![256, 3072]⟩
abbrev S_ : Shape := ⟨0, ![]⟩
abbrev S2048x256 : Shape := ⟨2, ![2048, 256]⟩

abbrev nBuf : Space → Nat
  | .hbm => 6
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S256x3072, .f32⟩
  | .hbm, ⟨2, _⟩ => ⟨S_, .f32⟩
  | .hbm, ⟨3, _⟩ => ⟨S2048x256, .f32⟩
  | .hbm, ⟨4, _⟩ => ⟨S2048x3072, .f32⟩
  | .hbm, ⟨5, _⟩ => ⟨S2048x256, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MlaDa.lean ====
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 5
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x768, .f32⟩
  | .hbm, ⟨2, _⟩ => ⟨S2048x1024, .bf16⟩
  | .hbm, ⟨3, _⟩ => ⟨S2048x768, .bf16⟩
  | .hbm, ⟨4, _⟩ => ⟨S1024x768, .bf16⟩
  | .local _ .vmem, ⟨0, _⟩ => ⟨S2048x1024, .bf16⟩
  | .local _ .vmem, ⟨1, _⟩ => ⟨S2048x768, .bf16⟩
  | .local _ .vmem, ⟨2, _⟩ => ⟨S1024x768, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MlaDaRefIdeal.lean ====
abbrev S2048x1024 : Shape := ⟨2, ![2048, 1024]⟩
abbrev S2048x768 : Shape := ⟨2, ![2048, 768]⟩
abbrev S_ : Shape := ⟨0, ![]⟩
abbrev S1024x768 : Shape := ⟨2, ![1024, 768]⟩
abbrev S768x1024 : Shape := ⟨2, ![768, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x768, .f32⟩
  | .hbm, ⟨2, _⟩ => ⟨S_, .f32⟩
  | .hbm, ⟨3, _⟩ => ⟨S1024x768, .f32⟩
  | .hbm, ⟨4, _⟩ => ⟨S2048x768, .f32⟩
  | .hbm, ⟨5, _⟩ => ⟨S768x1024, .f32⟩
  | .hbm, ⟨6, _⟩ => ⟨S1024x768, .f32⟩
  | .hbm, ⟨7, _⟩ => ⟨S1024x768, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlaDhn.lean ====
abbrev S2048x768 : Shape := ⟨2, ![2048, 768]⟩
abbrev S1024x768 : Shape := ⟨2, ![1024, 768]⟩
abbrev S2048x1024 : Shape := ⟨2, ![2048, 1024]⟩
abbrev S512x768 : Shape := ⟨2, ![512, 768]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x768, .f32⟩
  | .hbm, ⟨1, _⟩ => ⟨S1024x768, .f32⟩
  | .hbm, ⟨2, _⟩ => ⟨S2048x768, .bf16⟩
  | .hbm, ⟨3, _⟩ => ⟨S1024x768, .bf16⟩
  | .hbm, ⟨4, _⟩ => ⟨S2048x1024, .f32⟩
  | .local _ .vmem, ⟨0, _⟩ => ⟨S1024x768, .bf16⟩
  | .local _ .vmem, ⟨1, _⟩ => ⟨S1024x768, .bf16⟩
  | .local _ .vmem, ⟨2, _⟩ => ⟨S512x768, .bf16⟩
  | .local _ .vmem, ⟨3, _⟩ => ⟨S512x768, .bf16⟩
  | .local _ .vmem, ⟨4, _⟩ => ⟨S1024x512, .f32⟩
  | .local _ .vmem, ⟨5, _⟩ => ⟨S1024x512, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaDhnRefIdeal.lean ====
abbrev S2048x768 : Shape := ⟨2, ![2048, 768]⟩
abbrev S1024x768 : Shape := ⟨2, ![1024, 768]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S1024x768, .f32⟩
  | .hbm, ⟨2, _⟩ => ⟨S_, .f32⟩
  | .hbm, ⟨3, _⟩ => ⟨S2048x1024, .f32⟩
  | .hbm, ⟨4, _⟩ => ⟨S2048x768, .f32⟩
  | .hbm, ⟨5, _⟩ => ⟨S2048x1024, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DilQkv0.lean ====
abbrev S2048x1024 : Shape := ⟨2, ![2048, 1024]⟩
abbrev S1024x9216 : Shape := ⟨2, ![1024, 9216]⟩
abbrev S1024x8x1152 : Shape := ⟨3, ![1024, 8, 1152]⟩
abbrev S8x1024x1152 : Shape := ⟨3, ![8, 1024, 1152]⟩
abbrev S8x1x1024x1152 : Shape := ⟨4, ![8, 1, 1024, 1152]⟩
abbrev S2048x3072 : Shape := ⟨2, ![2048, 3072]⟩
abbrev S1024x1024 : Shape := ⟨2, ![1024, 1024]⟩
abbrev S1x1x1024x384 : Shape := ⟨4, ![1, 1, 1024, 384]⟩
abbrev S1024x384 : Shape := ⟨2, ![1024, 384]⟩

abbrev nBuf : Space → Nat
  | .hbm => 8
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x9216, .f32⟩
  | .hbm, ⟨2, _⟩ => ⟨S2048x1024, .bf16⟩
  | .hbm, ⟨3, _⟩ => ⟨S1024x9216, .bf16⟩
  | .hbm, ⟨4, _⟩ => ⟨S1024x8x1152, .bf16⟩
  | .hbm, ⟨5, _⟩ => ⟨S8x1024x1152, .bf16⟩
  | .hbm, ⟨6, _⟩ => ⟨S8x1x1024x1152, .bf16⟩
  | .hbm, ⟨7, _⟩ => ⟨S2048x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x384, .bf16⟩
  | .local _ .vmem, ⟨3, _⟩ => ⟨S1x1x1024x384, .bf16⟩
  | .local _ .vmem, ⟨4, _⟩ => ⟨S1024x384, .bf16⟩
  | .local _ .vmem, ⟨5, _⟩ => ⟨S1024x384, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c3_i32 : BitVec 32 := 3#32
  let v1 : BitVec 32 := Scalar.divsi v0 c3_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c3_i32 c0_i32_2
  let v8 : BitVec 32 := Scalar.extui v7
  let c0_i32_3 : BitVec 32 := 0#32
  let v9 : BitVec 1 := Scalar.cmpi .slt c3_i32 c0_i32_3
  let v10 : BitVec 32 := Scalar.extui v9
  let v11 : BitVec 32 := Scalar.subi v8 v10
  let v12 : BitVec 1 := Scalar.cmpi .ne v6 v11
  let v13 : BitVec 32 := Scalar.remsi v0 c3_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi arg1 c0_i32_5
  let c3_i32_6 : BitVec 32 := 3#32
  let c0_i32_7 : BitVec 32 := 0#32
  let v19 : BitVec 1 := Scalar.cmpi .eq c3_i32_6 c0_i32_7
  let c1_i32_8 : BitVec 32 := 1#32
  let v20 : BitVec 32 := Scalar.select v19 c1_i32_8 c3_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v17.toNat, c0_i32_12.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilQkv0Ideal.lean ====
abbrev S2048x1024 : Shape := ⟨2, ![2048, 1024]⟩
abbrev S1024x9216 : Shape := ⟨2, ![1024, 9216]⟩
abbrev S1024x8x1152 : Shape := ⟨3, ![1024, 8, 1152]⟩
abbrev S8x1024x1152 : Shape := ⟨3, ![8, 1024, 1152]⟩
abbrev S8x1x1024x1152 : Shape := ⟨4, ![8, 1, 1024, 1152]⟩
abbrev S2048x3072 : Shape := ⟨2, ![2048, 3072]⟩
abbrev S1024x1024 : Shape := ⟨2, ![1024, 1024]⟩
abbrev S1x1x1024x384 : Shape := ⟨4, ![1, 1, 1024, 384]⟩
abbrev S1024x384 : Shape := ⟨2, ![1024, 384]⟩

abbrev nBuf : Space → Nat
  | .hbm => 8
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x9216, .f32⟩
  | .hbm, ⟨2, _⟩ => ⟨S2048x1024, .bf16⟩
  | .hbm, ⟨3, _⟩ => ⟨S1024x9216, .bf16⟩
  | .hbm, ⟨4, _⟩ => ⟨S1024x8x1152, .bf16⟩
  | .hbm, ⟨5, _⟩ => ⟨S8x1024x1152, .bf16⟩
  | .hbm, ⟨6, _⟩ => ⟨S8x1x1024x1152, .bf16⟩
  | .hbm, ⟨7, _⟩ => ⟨S2048x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x384, .bf16⟩
  | .local _ .vmem, ⟨3, _⟩ => ⟨S1x1x1024x384, .bf16⟩
  | .local _ .vmem, ⟨4, _⟩ => ⟨S1024x384, .bf16⟩
  | .local _ .vmem, ⟨5, _⟩ => ⟨S1024x384, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c3_i32 : BitVec 32 := 3#32
  let v1 : BitVec 32 := Scalar.divsi v0 c3_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c3_i32 c0_i32_2
  let v8 : BitVec 32 := Scalar.extui v7
  let c0_i32_3 : BitVec 32 := 0#32
  let v9 : BitVec 1 := Scalar.cmpi .slt c3_i32 c0_i32_3
  let v10 : BitVec 32 := Scalar.extui v9
  let v11 : BitVec 32 := Scalar.subi v8 v10
  let v12 : BitVec 1 := Scalar.cmpi .ne v6 v11
  let v13 : BitVec 32 := Scalar.remsi v0 c3_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi arg1 c0_i32_5
  let c3_i32_6 : BitVec 32 := 3#32
  let c0_i32_7 : BitVec 32 := 0#32
  let v19 : BitVec 1 := Scalar.cmpi .eq c3_i32_6 c0_i32_7
  let c1_i32_8 : BitVec 32 := 1#32
  let v20 : BitVec 32 := Scalar.select v19 c1_i32_8 c3_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v17.toNat, c0_i32_12.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilQkv0RefIdeal.lean ====
abbrev S2048x1024 : Shape := ⟨2, ![2048, 1024]⟩
abbrev S1024x9216 : Shape := ⟨2, ![1024, 9216]⟩
abbrev S1024x3072 : Shape := ⟨2, ![1024, 3072]⟩
abbrev S2048x3072 : Shape := ⟨2, ![2048, 3072]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x9216, .f32⟩
  | .hbm, ⟨2, _⟩ => ⟨S1024x3072, .f32⟩
  | .hbm, ⟨3, _⟩ => ⟨S2048x3072, .f32⟩
  | .hbm, ⟨4, _⟩ => ⟨S2048x3072, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DilQkv1.lean ====
abbrev S2048x1024 : Shape := ⟨2, ![2048, 1024]⟩
abbrev S1024x9216 : Shape := ⟨2, ![1024, 9216]⟩
abbrev S512x4x1024 : Shape := ⟨3, ![512, 4, 1024]⟩
abbrev S4x512x1024 : Shape := ⟨3, ![4, 512, 1024]⟩
abbrev S1024x8x1152 : Shape := ⟨3, ![1024, 8, 1152]⟩
abbrev S8x1024x1152 : Shape := ⟨3, ![8, 1024, 1152]⟩
abbrev S8x1x1024x1152 : Shape := ⟨4, ![8, 1, 1024, 1152]⟩
abbrev S2048x3072 : Shape := ⟨2, ![2048, 3072]⟩
abbrev S1024x1024 : Shape := ⟨2, ![1024, 1024]⟩
abbrev S1x1x1024x384 : Shape := ⟨4, ![1, 1, 1024, 384]⟩
abbrev S1024x384 : Shape := ⟨2, ![1024, 384]⟩

abbrev nBuf : Space → Nat
  | .hbm => 11
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x9216, .f32⟩
  | .hbm, ⟨2, _⟩ => ⟨S2048x1024, .bf16⟩
  | .hbm, ⟨3, _⟩ => ⟨S512x4x1024, .bf16⟩
  | .hbm, ⟨4, _⟩ => ⟨S4x512x1024, .bf16⟩
  | .hbm, ⟨5, _⟩ => ⟨S2048x1024, .bf16⟩
  | .hbm, ⟨6, _⟩ => ⟨S1024x9216, .bf16⟩
  | .hbm, ⟨7, _⟩ => ⟨S1024x8x1152, .bf16⟩
  | .hbm, ⟨8, _⟩ => ⟨S8x1024x1152, .bf16⟩
  | .hbm, ⟨9, _⟩ => ⟨S8x1x1024x1152, .bf16⟩
  | .hbm, ⟨10, _⟩ => ⟨S2048x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x384, .bf16⟩
  | .local _ .vmem, ⟨3, _⟩ => ⟨S1x1x1024x384, .bf16⟩
  | .local _ .vmem, ⟨4, _⟩ => ⟨S1024x384, .bf16⟩
  | .local _ .vmem, ⟨5, _⟩ => ⟨S1024x384, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg1 c8_i32
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.addi arg1 c8_i32_4
  let c3_i32_5 : BitVec 32 := 3#32
  let c0_i32_6 : BitVec 32 := 0#32
  let v19 : BitVec 1 := Scalar.cmpi .eq c3_i32_5 c0_i32_6
  let c1_i32_7 : BitVec 32 := 1#32
  let v20 : BitVec 32 := Scalar.select v19 c1_i32_7 c3_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilQkv1Ideal.lean ====
abbrev S2048x1024 : Shape := ⟨2, ![2048, 1024]⟩
abbrev S1024x9216 : Shape := ⟨2, ![1024, 9216]⟩
abbrev S512x4x1024 : Shape := ⟨3, ![512, 4, 1024]⟩
abbrev S4x512x1024 : Shape := ⟨3, ![4, 512, 1024]⟩
abbrev S1024x8x1152 : Shape := ⟨3, ![1024, 8, 1152]⟩
abbrev S8x1024x1152 : Shape := ⟨3, ![8, 1024, 1152]⟩
abbrev S8x1x1024x1152 : Shape := ⟨4, ![8, 1, 1024, 1152]⟩
abbrev S2048x3072 : Shape := ⟨2, ![2048, 3072]⟩
abbrev S1024x1024 : Shape := ⟨2, ![1024, 1024]⟩
abbrev S1x1x1024x384 : Shape := ⟨4, ![1, 1, 1024, 384]⟩
abbrev S1024x384 : Shape := ⟨2, ![1024, 384]⟩

abbrev nBuf : Space → Nat
  | .hbm => 11
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x9216, .f32⟩
  | .hbm, ⟨2, _⟩ => ⟨S2048x1024, .bf16⟩
  | .hbm, ⟨3, _⟩ => ⟨S512x4x1024, .bf16⟩
  | .hbm, ⟨4, _⟩ => ⟨S4x512x1024, .bf16⟩
  | .hbm, ⟨5, _⟩ => ⟨S2048x1024, .bf16⟩
  | .hbm, ⟨6, _⟩ => ⟨S1024x9216, .bf16⟩
  | .hbm, ⟨7, _⟩ => ⟨S1024x8x1152, .bf16⟩
  | .hbm, ⟨8, _⟩ => ⟨S8x1024x1152, .bf16⟩
  | .hbm, ⟨9, _⟩ => ⟨S8x1x1024x1152, .bf16⟩
  | .hbm, ⟨10, _⟩ => ⟨S2048x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x384, .bf16⟩
  | .local _ .vmem, ⟨3, _⟩ => ⟨S1x1x1024x384, .bf16⟩
  | .local _ .vmem, ⟨4, _⟩ => ⟨S1024x384, .bf16⟩
  | .local _ .vmem, ⟨5, _⟩ => ⟨S1024x384, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg1 c8_i32
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.addi arg1 c8_i32_4
  let c3_i32_5 : BitVec 32 := 3#32
  let c0_i32_6 : BitVec 32 := 0#32
  let v19 : BitVec 1 := Scalar.cmpi .eq c3_i32_5 c0_i32_6
  let c1_i32_7 : BitVec 32 := 1#32
  let v20 : BitVec 32 := Scalar.select v19 c1_i32_7 c3_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilQkv1RefIdeal.lean ====
abbrev S2048x1024 : Shape := ⟨2, ![2048, 1024]⟩
abbrev S1024x9216 : Shape := ⟨2, ![1024, 9216]⟩
abbrev S1024x3072 : Shape := ⟨2, ![1024, 3072]⟩
abbrev S2048x3072 : Shape := ⟨2, ![2048, 3072]⟩
abbrev S512x4x3072 : Shape := ⟨3, ![512, 4, 3072]⟩
abbrev S4x512x3072 : Shape := ⟨3, ![4, 512, 3072]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x9216, .f32⟩
  | .hbm, ⟨2, _⟩ => ⟨S1024x3072, .f32⟩
  | .hbm, ⟨3, _⟩ => ⟨S2048x3072, .f32⟩
  | .hbm, ⟨4, _⟩ => ⟨S2048x3072, .bf16⟩
  | .hbm, ⟨5, _⟩ => ⟨S512x4x3072, .bf16⟩
  | .hbm, ⟨6, _⟩ => ⟨S4x512x3072, .bf16⟩
  | .hbm, ⟨7, _⟩ => ⟨S2048x3072, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DilQkv2.lean ====
abbrev S2048x1024 : Shape := ⟨2, ![2048, 1024]⟩
abbrev S1024x9216 : Shape := ⟨2, ![1024, 9216]⟩
abbrev S128x16x1024 : Shape := ⟨3, ![128, 16, 1024]⟩
abbrev S16x128x1024 : Shape := ⟨3, ![16, 128, 1024]⟩
abbrev S1024x8x1152 : Shape := ⟨3, ![1024, 8, 1152]⟩
abbrev S8x1024x1152 : Shape := ⟨3, ![8, 1024, 1152]⟩
abbrev S8x1x1024x1152 : Shape := ⟨4, ![8, 1, 1024, 1152]⟩
abbrev S2048x3072 : Shape := ⟨2, ![2048, 3072]⟩
abbrev S1024x1024 : Shape := ⟨2, ![1024, 1024]⟩
abbrev S1x1x1024x384 : Shape := ⟨4, ![1, 1, 1024, 384]⟩
abbrev S1024x384 : Shape := ⟨2, ![1024, 384]⟩

abbrev nBuf : Space → Nat
  | .hbm => 11
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x9216, .f32⟩
  | .hbm, ⟨2, _⟩ => ⟨S2048x1024, .bf16⟩
  | .hbm, ⟨3, _⟩ => ⟨S128x16x1024, .bf16⟩
  | .hbm, ⟨4, _⟩ => ⟨S16x128x1024, .bf16⟩
  | .hbm, ⟨5, _⟩ => ⟨S2048x1024, .bf16⟩
  | .hbm, ⟨6, _⟩ => ⟨S1024x9216, .bf16⟩
  | .hbm, ⟨7, _⟩ => ⟨S1024x8x1152, .bf16⟩
  | .hbm, ⟨8, _⟩ => ⟨S8x1024x1152, .bf16⟩
  | .hbm, ⟨9, _⟩ => ⟨S8x1x1024x1152, .bf16⟩
  | .hbm, ⟨10, _⟩ => ⟨S2048x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x384, .bf16⟩
  | .local _ .vmem, ⟨3, _⟩ => ⟨S1x1x1024x384, .bf16⟩
  | .local _ .vmem, ⟨4, _⟩ => ⟨S1024x384, .bf16⟩
  | .local _ .vmem, ⟨5, _⟩ => ⟨S1024x384, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi arg1 c16_i32
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.addi arg1 c16_i32_4
  let c3_i32_5 : BitVec 32 := 3#32
  let c0_i32_6 : BitVec 32 := 0#32
  let v19 : BitVec 1 := Scalar.cmpi .eq c3_i32_5 c0_i32_6
  let c1_i32_7 : BitVec 32 := 1#32
  let v20 : BitVec 32 := Scalar.select v19 c1_i32_7 c3_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, arg2.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilQkv2RefIdeal.lean ====
abbrev S2048x1024 : Shape := ⟨2, ![2048, 1024]⟩
abbrev S1024x9216 : Shape := ⟨2, ![1024, 9216]⟩
abbrev S1024x3072 : Shape := ⟨2, ![1024, 3072]⟩
abbrev S2048x3072 : Shape := ⟨2, ![2048, 3072]⟩
abbrev S128x16x3072 : Shape := ⟨3, ![128, 16, 3072]⟩
abbrev S16x128x3072 : Shape := ⟨3, ![16, 128, 3072]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x9216, .f32⟩
  | .hbm, ⟨2, _⟩ => ⟨S1024x3072, .f32⟩
  | .hbm, ⟨3, _⟩ => ⟨S2048x3072, .f32⟩
  | .hbm, ⟨4, _⟩ => ⟨S2048x3072, .bf16⟩
  | .hbm, ⟨5, _⟩ => ⟨S128x16x3072, .bf16⟩
  | .hbm, ⟨6, _⟩ => ⟨S16x128x3072, .bf16⟩
  | .hbm, ⟨7, _⟩ => ⟨S2048x3072, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Dwin0.lean ====
abbrev S2048x5632 : Shape := ⟨2, ![2048, 5632]⟩
abbrev S2048x1024 : Shape := ⟨2, ![2048, 1024]⟩
abbrev S4x5632x1024 : Shape := ⟨3, ![4, 5632, 1024]⟩
abbrev S2048x512 : Shape := ⟨2, ![2048, 512]⟩
abbrev S1x512x1024 : Shape := ⟨3, ![1, 512, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x5632, .f32⟩
  | .hbm, ⟨1, _⟩ => ⟨S2048x1024, .f32⟩
  | .hbm, ⟨2, _⟩ => ⟨S4x5632x1024, .bf16⟩
  | .hbm, ⟨3, _⟩ => ⟨S2048x5632, .bf16⟩
  | .hbm, ⟨4, _⟩ => ⟨S2048x1024, .bf16⟩
  | .hbm, ⟨5, _⟩ => ⟨S4x5632x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S1x512x1024, .bf16⟩
  | .local _ .vmem, ⟨4, _⟩ => ⟨S1x512x1024, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dwin0Ideal.lean ====
abbrev S2048x5632 : Shape := ⟨2, ![2048, 5632]⟩
abbrev S2048x1024 : Shape := ⟨2, ![2048, 1024]⟩
abbrev S4x5632x1024 : Shape := ⟨3, ![4, 5632, 1024]⟩
abbrev S2048x512 : Shape := ⟨2, ![2048, 512]⟩
abbrev S1x512x1024 : Shape := ⟨3, ![1, 512, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x5632, .f32⟩
  | .hbm, ⟨1, _⟩ => ⟨S2048x1024, .f32⟩
  | .hbm, ⟨2, _⟩ => ⟨S4x5632x1024, .bf16⟩
  | .hbm, ⟨3, _⟩ => ⟨S2048x5632, .bf16⟩
  | .hbm, ⟨4, _⟩ => ⟨S2048x1024, .bf16⟩
  | .hbm, ⟨5, _⟩ => ⟨S4x5632x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S1x512x1024, .bf16⟩
  | .local _ .vmem, ⟨4, _⟩ => ⟨S1x512x1024, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dwin0RefIdeal.lean ====
abbrev S2048x5632 : Shape := ⟨2, ![2048, 5632]⟩
abbrev S2048x1024 : Shape := ⟨2, ![2048, 1024]⟩
abbrev S4x5632x1024 : Shape := ⟨3, ![4, 5632, 1024]⟩
abbrev S4 : Shape := ⟨1, ![4]⟩
abbrev S4x1x1 : Shape := ⟨3, ![4, 1, 1]⟩
abbrev S_ : Shape := ⟨0, ![]⟩
abbrev S1024x5632 : Shape := ⟨2, ![1024, 5632]⟩
abbrev S5632x1024 : Shape := ⟨2, ![5632, 1024]⟩
abbrev S1x5632x1024 : Shape := ⟨3, ![1, 5632, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x1024, .f32⟩
  | .hbm, ⟨2, _⟩ => ⟨S4x5632x1024, .bf16⟩
  | .hbm, ⟨3, _⟩ => ⟨S4, .i32⟩
  | .hbm, ⟨4, _⟩ => ⟨S4x1x1, .i32⟩
  | .hbm, ⟨5, _⟩ => ⟨S_, .i32⟩
  | .hbm, ⟨6, _⟩ => ⟨S4x1x1, .i32⟩
  | .hbm, ⟨7, _⟩ => ⟨S4x1x1, .i1⟩
  | .hbm, ⟨8, _⟩ => ⟨S4x5632x1024, .i1⟩
  | .hbm, ⟨9, _⟩ => ⟨S_, .f32⟩
  | .hbm, ⟨10, _⟩ => ⟨S1024x5632, .f32⟩
  | .hbm, ⟨11, _⟩ => ⟨S2048x5632, .f32⟩
  | .hbm, ⟨12, _⟩ => ⟨S5632x1024, .f32⟩
  | .hbm, ⟨13, _⟩ => ⟨S1024x5632, .f32⟩
  | .hbm, ⟨14, _⟩ => ⟨S5632x1024, .f32⟩
  | .hbm, ⟨15, _⟩ => ⟨S5632x1024, .bf16⟩
  | .hbm, ⟨16, _⟩ => ⟨S1x5632x1024, .bf16⟩
  | .hbm, ⟨17, _⟩ => ⟨S4x5632x1024, .bf16⟩
  | .hbm, ⟨18, _⟩ => ⟨S4x5632x1024, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Dwin1.lean ====
abbrev S2048x5632 : Shape := ⟨2, ![2048, 5632]⟩
abbrev S2048x1024 : Shape := ⟨2, ![2048, 1024]⟩
abbrev S4x5632x1024 : Shape := ⟨3, ![4, 5632, 1024]⟩
abbrev S2048x512 : Shape := ⟨2, ![2048, 512]⟩
abbrev S1x512x1024 : Shape := ⟨3, ![1, 512, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x5632, .f32⟩
  | .hbm, ⟨1, _⟩ => ⟨S2048x1024, .f32⟩
  | .hbm, ⟨2, _⟩ => ⟨S4x5632x1024, .bf16⟩
  | .hbm, ⟨3, _⟩ => ⟨S2048x5632, .bf16⟩
  | .hbm, ⟨4, _⟩ => ⟨S2048x1024, .bf16⟩
  | .hbm, ⟨5, _⟩ => ⟨S4x5632x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S1x512x1024, .bf16⟩
  | .local _ .vmem, ⟨4, _⟩ => ⟨S1x512x1024, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dwin1Ideal.lean ====
abbrev S2048x5632 : Shape := ⟨2, ![2048, 5632]⟩
abbrev S2048x1024 : Shape := ⟨2, ![2048, 1024]⟩
abbrev S4x5632x1024 : Shape := ⟨3, ![4, 5632, 1024]⟩
abbrev S2048x512 : Shape := ⟨2, ![2048, 512]⟩
abbrev S1x512x1024 : Shape := ⟨3, ![1, 512, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x5632, .f32⟩
  | .hbm, ⟨1, _⟩ => ⟨S2048x1024, .f32⟩
  | .hbm, ⟨2, _⟩ => ⟨S4x5632x1024, .bf16⟩
  | .hbm, ⟨3, _⟩ => ⟨S2048x5632, .bf16⟩
  | .hbm, ⟨4, _⟩ => ⟨S2048x1024, .bf16⟩
  | .hbm, ⟨5, _⟩ => ⟨S4x5632x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S1x512x1024, .bf16⟩
  | .local _ .vmem, ⟨4, _⟩ => ⟨S1x512x1024, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dwin1RefIdeal.lean ====
abbrev S2048x5632 : Shape := ⟨2, ![2048, 5632]⟩
abbrev S2048x1024 : Shape := ⟨2, ![2048, 1024]⟩
abbrev S4x5632x1024 : Shape := ⟨3, ![4, 5632, 1024]⟩
abbrev S4 : Shape := ⟨1, ![4]⟩
abbrev S4x1x1 : Shape := ⟨3, ![4, 1, 1]⟩
abbrev S_ : Shape := ⟨0, ![]⟩
abbrev S1024x5632 : Shape := ⟨2, ![1024, 5632]⟩
abbrev S5632x1024 : Shape := ⟨2, ![5632, 1024]⟩
abbrev S1x5632x1024 : Shape := ⟨3, ![1, 5632, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x1024, .f32⟩
  | .hbm, ⟨2, _⟩ => ⟨S4x5632x1024, .bf16⟩
  | .hbm, ⟨3, _⟩ => ⟨S4, .i32⟩
  | .hbm, ⟨4, _⟩ => ⟨S4x1x1, .i32⟩
  | .hbm, ⟨5, _⟩ => ⟨S_, .i32⟩
  | .hbm, ⟨6, _⟩ => ⟨S4x1x1, .i32⟩
  | .hbm, ⟨7, _⟩ => ⟨S4x1x1, .i1⟩
  | .hbm, ⟨8, _⟩ => ⟨S4x5632x1024, .i1⟩
  | .hbm, ⟨9, _⟩ => ⟨S_, .f32⟩
  | .hbm, ⟨10, _⟩ => ⟨S1024x5632, .f32⟩
  | .hbm, ⟨11, _⟩ => ⟨S2048x5632, .f32⟩
  | .hbm, ⟨12, _⟩ => ⟨S5632x1024, .f32⟩
  | .hbm, ⟨13, _⟩ => ⟨S1024x5632, .f32⟩
  | .hbm, ⟨14, _⟩ => ⟨S5632x1024, .f32⟩
  | .hbm, ⟨15, _⟩ => ⟨S5632x1024, .bf16⟩
  | .hbm, ⟨16, _⟩ => ⟨S1x5632x1024, .bf16⟩
  | .hbm, ⟨17, _⟩ => ⟨S4x5632x1024, .bf16⟩
  | .hbm, ⟨18, _⟩ => ⟨S4x5632x1024, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Dwin2.lean ====
abbrev S2048x5632 : Shape := ⟨2, ![2048, 5632]⟩
abbrev S2048x1024 : Shape := ⟨2, ![2048, 1024]⟩
abbrev S4x5632x1024 : Shape := ⟨3, ![4, 5632, 1024]⟩
abbrev S2048x512 : Shape := ⟨2, ![2048, 512]⟩
abbrev S1x512x1024 : Shape := ⟨3, ![1, 512, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x5632, .f32⟩
  | .hbm, ⟨1, _⟩ => ⟨S2048x1024, .f32⟩
  | .hbm, ⟨2, _⟩ => ⟨S4x5632x1024, .bf16⟩
  | .hbm, ⟨3, _⟩ => ⟨S2048x5632, .bf16⟩
  | .hbm, ⟨4, _⟩ => ⟨S2048x1024, .bf16⟩
  | .hbm, ⟨5, _⟩ => ⟨S4x5632x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S1x512x1024, .bf16⟩
  | .local _ .vmem, ⟨4, _⟩ => ⟨S1x512x1024, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dwin2Ideal.lean ====
abbrev S2048x5632 : Shape := ⟨2, ![2048, 5632]⟩
abbrev S2048x1024 : Shape := ⟨2, ![2048, 1024]⟩
abbrev S4x5632x1024 : Shape := ⟨3, ![4, 5632, 1024]⟩
abbrev S2048x512 : Shape := ⟨2, ![2048, 512]⟩
abbrev S1x512x1024 : Shape := ⟨3, ![1, 512, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x5632, .f32⟩
  | .hbm, ⟨1, _⟩ => ⟨S2048x1024, .f32⟩
  | .hbm, ⟨2, _⟩ => ⟨S4x5632x1024, .bf16⟩
  | .hbm, ⟨3, _⟩ => ⟨S2048x5632, .bf16⟩
  | .hbm, ⟨4, _⟩ => ⟨S2048x1024, .bf16⟩
  | .hbm, ⟨5, _⟩ => ⟨S4x5632x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S1x512x1024, .bf16⟩
  | .local _ .vmem, ⟨4, _⟩ => ⟨S1x512x1024, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dwin2RefIdeal.lean ====
abbrev S2048x5632 : Shape := ⟨2, ![2048, 5632]⟩
abbrev S2048x1024 : Shape := ⟨2, ![2048, 1024]⟩
abbrev S4x5632x1024 : Shape := ⟨3, ![4, 5632, 1024]⟩
abbrev S4 : Shape := ⟨1, ![4]⟩
abbrev S4x1x1 : Shape := ⟨3, ![4, 1, 1]⟩
abbrev S_ : Shape := ⟨0, ![]⟩
abbrev S1024x5632 : Shape := ⟨2, ![1024, 5632]⟩
abbrev S5632x1024 : Shape := ⟨2, ![5632, 1024]⟩
abbrev S1x5632x1024 : Shape := ⟨3, ![1, 5632, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x1024, .f32⟩
  | .hbm, ⟨2, _⟩ => ⟨S4x5632x1024, .bf16⟩
  | .hbm, ⟨3, _⟩ => ⟨S4, .i32⟩
  | .hbm, ⟨4, _⟩ => ⟨S4x1x1, .i32⟩
  | .hbm, ⟨5, _⟩ => ⟨S_, .i32⟩
  | .hbm, ⟨6, _⟩ => ⟨S4x1x1, .i32⟩
  | .hbm, ⟨7, _⟩ => ⟨S4x1x1, .i1⟩
  | .hbm, ⟨8, _⟩ => ⟨S4x5632x1024, .i1⟩
  | .hbm, ⟨9, _⟩ => ⟨S_, .f32⟩
  | .hbm, ⟨10, _⟩ => ⟨S1024x5632, .f32⟩
  | .hbm, ⟨11, _⟩ => ⟨S2048x5632, .f32⟩
  | .hbm, ⟨12, _⟩ => ⟨S5632x1024, .f32⟩
  | .hbm, ⟨13, _⟩ => ⟨S1024x5632, .f32⟩
  | .hbm, ⟨14, _⟩ => ⟨S5632x1024, .f32⟩
  | .hbm, ⟨15, _⟩ => ⟨S5632x1024, .bf16⟩
  | .hbm, ⟨16, _⟩ => ⟨S1x5632x1024, .bf16⟩
  | .hbm, ⟨17, _⟩ => ⟨S4x5632x1024, .bf16⟩
  | .hbm, ⟨18, _⟩ => ⟨S4x5632x1024, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Dwout0.lean ====
abbrev S2048x2816 : Shape := ⟨2, ![2048, 2816]⟩
abbrev S2048x1024 : Shape := ⟨2, ![2048, 1024]⟩
abbrev S4x2816x1024 : Shape := ⟨3, ![4, 2816, 1024]⟩
abbrev S2048x1408 : Shape := ⟨2, ![2048, 1408]⟩
abbrev S2048x512 : Shape := ⟨2, ![2048, 512]⟩
abbrev S1x1408x512 : Shape := ⟨3, ![1, 1408, 512]⟩
abbrev S1408x512 : Shape := ⟨2, ![1408, 512]⟩

abbrev nBuf : Space → Nat
  | .hbm => 6
  | .vmem => 6
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S4x2816x1024, .bf16⟩
  | .hbm, ⟨3, _⟩ => ⟨S2048x2816, .bf16⟩
  | .hbm, ⟨4, _⟩ => ⟨S2048x1024, .bf16⟩
  | .hbm, ⟨5, _⟩ => ⟨S4x2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1x1408x512, .bf16⟩
  | .local _ .vmem, ⟨5, _⟩ => ⟨S1x1408x512, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dwout0Ideal.lean ====
abbrev S2048x2816 : Shape := ⟨2, ![2048, 2816]⟩
abbrev S2048x1024 : Shape := ⟨2, ![2048, 1024]⟩
abbrev S4x2816x1024 : Shape := ⟨3, ![4, 2816, 1024]⟩
abbrev S2048x1408 : Shape := ⟨2, ![2048, 1408]⟩
abbrev S2048x512 : Shape := ⟨2, ![2048, 512]⟩
abbrev S1x1408x512 : Shape := ⟨3, ![1, 1408, 512]⟩
abbrev S1408x512 : Shape := ⟨2, ![1408, 512]⟩

abbrev nBuf : Space → Nat
  | .hbm => 6
  | .vmem => 6
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S4x2816x1024, .bf16⟩
  | .hbm, ⟨3, _⟩ => ⟨S2048x2816, .bf16⟩
  | .hbm, ⟨4, _⟩ => ⟨S2048x1024, .bf16⟩
  | .hbm, ⟨5, _⟩ => ⟨S4x2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1x1408x512, .bf16⟩
  | .local _ .vmem, ⟨5, _⟩ => ⟨S1x1408x512, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dwout0RefIdeal.lean ====
abbrev S2048x2816 : Shape := ⟨2, ![2048, 2816]⟩
abbrev S2048x1024 : Shape := ⟨2, ![2048, 1024]⟩
abbrev S4x2816x1024 : Shape := ⟨3, ![4, 2816, 1024]⟩
abbrev S4 : Shape := ⟨1, ![4]⟩
abbrev S4x1x1 : Shape := ⟨3, ![4, 1, 1]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 18
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S4x2816x1024, .bf16⟩
  | .hbm, ⟨3, _⟩ => ⟨S4, .i32⟩
  | .hbm, ⟨4, _⟩ => ⟨S4x1x1, .i32⟩
  | .hbm, ⟨5, _⟩ => ⟨S_, .i32⟩
  | .hbm, ⟨6, _⟩ => ⟨S4x1x1, .i32⟩
  | .hbm, ⟨7, _⟩ => ⟨S4x1x1, .i1⟩
  | .hbm, ⟨8, _⟩ => ⟨S4x2816x1024, .i1⟩
  | .hbm, ⟨9, _⟩ => ⟨S_, .f32⟩
  | .hbm, ⟨10, _⟩ => ⟨S2816x1024, .f32⟩
  | .hbm, ⟨11, _⟩ => ⟨S2048x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | .hbm, ⟨15, _⟩ => ⟨S1x2816x1024, .bf16⟩
  | .hbm, ⟨16, _⟩ => ⟨S4x2816x1024, .bf16⟩
  | .hbm, ⟨17, _⟩ => ⟨S4x2816x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Dwout1.lean ====
abbrev S2048x2816 : Shape := ⟨2, ![2048, 2816]⟩
abbrev S2048x1024 : Shape := ⟨2, ![2048, 1024]⟩
abbrev S4x2816x1024 : Shape := ⟨3, ![4, 2816, 1024]⟩
abbrev S2048x1408 : Shape := ⟨2, ![2048, 1408]⟩
abbrev S2048x512 : Shape := ⟨2, ![2048, 512]⟩
abbrev S1x1408x512 : Shape := ⟨3, ![1, 1408, 512]⟩
abbrev S1408x512 : Shape := ⟨2, ![1408, 512]⟩

abbrev nBuf : Space → Nat
  | .hbm => 6
  | .vmem => 6
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S4x2816x1024, .bf16⟩
  | .hbm, ⟨3, _⟩ => ⟨S2048x2816, .bf16⟩
  | .hbm, ⟨4, _⟩ => ⟨S2048x1024, .bf16⟩
  | .hbm, ⟨5, _⟩ => ⟨S4x2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1x1408x512, .bf16⟩
  | .local _ .vmem, ⟨5, _⟩ => ⟨S1x1408x512, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dwout1Ideal.lean ====
abbrev S2048x2816 : Shape := ⟨2, ![2048, 2816]⟩
abbrev S2048x1024 : Shape := ⟨2, ![2048, 1024]⟩
abbrev S4x2816x1024 : Shape := ⟨3, ![4, 2816, 1024]⟩
abbrev S2048x1408 : Shape := ⟨2, ![2048, 1408]⟩
abbrev S2048x512 : Shape := ⟨2, ![2048, 512]⟩
abbrev S1x1408x512 : Shape := ⟨3, ![1, 1408, 512]⟩
abbrev S1408x512 : Shape := ⟨2, ![1408, 512]⟩

abbrev nBuf : Space → Nat
  | .hbm => 6
  | .vmem => 6
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S4x2816x1024, .bf16⟩
  | .hbm, ⟨3, _⟩ => ⟨S2048x2816, .bf16⟩
  | .hbm, ⟨4, _⟩ => ⟨S2048x1024, .bf16⟩
  | .hbm, ⟨5, _⟩ => ⟨S4x2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1x1408x512, .bf16⟩
  | .local _ .vmem, ⟨5, _⟩ => ⟨S1x1408x512, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dwout1RefIdeal.lean ====
abbrev S2048x2816 : Shape := ⟨2, ![2048, 2816]⟩
abbrev S2048x1024 : Shape := ⟨2, ![2048, 1024]⟩
abbrev S4x2816x1024 : Shape := ⟨3, ![4, 2816, 1024]⟩
abbrev S4 : Shape := ⟨1, ![4]⟩
abbrev S4x1x1 : Shape := ⟨3, ![4, 1, 1]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 18
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S4x2816x1024, .bf16⟩
  | .hbm, ⟨3, _⟩ => ⟨S4, .i32⟩
  | .hbm, ⟨4, _⟩ => ⟨S4x1x1, .i32⟩
  | .hbm, ⟨5, _⟩ => ⟨S_, .i32⟩
  | .hbm, ⟨6, _⟩ => ⟨S4x1x1, .i32⟩
  | .hbm, ⟨7, _⟩ => ⟨S4x1x1, .i1⟩
  | .hbm, ⟨8, _⟩ => ⟨S4x2816x1024, .i1⟩
  | .hbm, ⟨9, _⟩ => ⟨S_, .f32⟩
  | .hbm, ⟨10, _⟩ => ⟨S2816x1024, .f32⟩
  | .hbm, ⟨11, _⟩ => ⟨S2048x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | .hbm, ⟨15, _⟩ => ⟨S1x2816x1024, .bf16⟩
  | .hbm, ⟨16, _⟩ => ⟨S4x2816x1024, .bf16⟩
  | .hbm, ⟨17, _⟩ => ⟨S4x2816x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Dwout2.lean ====
abbrev S2048x2816 : Shape := ⟨2, ![2048, 2816]⟩
abbrev S2048x1024 : Shape := ⟨2, ![2048, 1024]⟩
abbrev S4x2816x1024 : Shape := ⟨3, ![4, 2816, 1024]⟩
abbrev S2048x1408 : Shape := ⟨2, ![2048, 1408]⟩
abbrev S2048x512 : Shape := ⟨2, ![2048, 512]⟩
abbrev S1x1408x512 : Shape := ⟨3, ![1, 1408, 512]⟩
abbrev S1408x512 : Shape := ⟨2, ![1408, 512]⟩

abbrev nBuf : Space → Nat
  | .hbm => 6
  | .vmem => 6
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S4x2816x1024, .bf16⟩
  | .hbm, ⟨3, _⟩ => ⟨S2048x2816, .bf16⟩
  | .hbm, ⟨4, _⟩ => ⟨S2048x1024, .bf16⟩
  | .hbm, ⟨5, _⟩ => ⟨S4x2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1x1408x512, .bf16⟩
  | .local _ .vmem, ⟨5, _⟩ => ⟨S1x1408x512, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dwout2Ideal.lean ====
abbrev S2048x2816 : Shape := ⟨2, ![2048, 2816]⟩
abbrev S2048x1024 : Shape := ⟨2, ![2048, 1024]⟩
abbrev S4x2816x1024 : Shape := ⟨3, ![4, 2816, 1024]⟩
abbrev S2048x1408 : Shape := ⟨2, ![2048, 1408]⟩
abbrev S2048x512 : Shape := ⟨2, ![2048, 512]⟩
abbrev S1x1408x512 : Shape := ⟨3, ![1, 1408, 512]⟩
abbrev S1408x512 : Shape := ⟨2, ![1408, 512]⟩

abbrev nBuf : Space → Nat
  | .hbm => 6
  | .vmem => 6
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S4x2816x1024, .bf16⟩
  | .hbm, ⟨3, _⟩ => ⟨S2048x2816, .bf16⟩
  | .hbm, ⟨4, _⟩ => ⟨S2048x1024, .bf16⟩
  | .hbm, ⟨5, _⟩ => ⟨S4x2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1x1408x512, .bf16⟩
  | .local _ .vmem, ⟨5, _⟩ => ⟨S1x1408x512, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dwout2RefIdeal.lean ====
abbrev S2048x2816 : Shape := ⟨2, ![2048, 2816]⟩
abbrev S2048x1024 : Shape := ⟨2, ![2048, 1024]⟩
abbrev S4x2816x1024 : Shape := ⟨3, ![4, 2816, 1024]⟩
abbrev S4 : Shape := ⟨1, ![4]⟩
abbrev S4x1x1 : Shape := ⟨3, ![4, 1, 1]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 18
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S4x2816x1024, .bf16⟩
  | .hbm, ⟨3, _⟩ => ⟨S4, .i32⟩
  | .hbm, ⟨4, _⟩ => ⟨S4x1x1, .i32⟩
  | .hbm, ⟨5, _⟩ => ⟨S_, .i32⟩
  | .hbm, ⟨6, _⟩ => ⟨S4x1x1, .i32⟩
  | .hbm, ⟨7, _⟩ => ⟨S4x1x1, .i1⟩
  | .hbm, ⟨8, _⟩ => ⟨S4x2816x1024, .i1⟩
  | .hbm, ⟨9, _⟩ => ⟨S_, .f32⟩
  | .hbm, ⟨10, _⟩ => ⟨S2816x1024, .f32⟩
  | .hbm, ⟨11, _⟩ => ⟨S2048x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | .hbm, ⟨15, _⟩ => ⟨S1x2816x1024, .bf16⟩
  | .hbm, ⟨16, _⟩ => ⟨S4x2816x1024, .bf16⟩
  | .hbm, ⟨17, _⟩ => ⟨S4x2816x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Dwg0.lean ====
abbrev S2048x1024 : Shape := ⟨2, ![2048, 1024]⟩
abbrev S4x1024x1024 : Shape := ⟨3, ![4, 1024, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S4x1024x1024, .bf16⟩
  | .hbm, ⟨3, _⟩ => ⟨S2048x1024, .bf16⟩
  | .hbm, ⟨4, _⟩ => ⟨S4x1024x1024, .bf16⟩
  | .local _ .vmem, ⟨0, _⟩ => ⟨S2048x1024, .f32⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dwg0Ideal.lean ====
abbrev S2048x1024 : Shape := ⟨2, ![2048, 1024]⟩
abbrev S4x1024x1024 : Shape := ⟨3, ![4, 1024, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S4x1024x1024, .bf16⟩
  | .hbm, ⟨3, _⟩ => ⟨S2048x1024, .bf16⟩
  | .hbm, ⟨4, _⟩ => ⟨S4x1024x1024, .bf16⟩
  | .local _ .vmem, ⟨0, _⟩ => ⟨S2048x1024, .f32⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dwg0RefIdeal.lean ====
abbrev S2048x1024 : Shape := ⟨2, ![2048, 1024]⟩
abbrev S4x1024x1024 : Shape := ⟨3, ![4, 1024, 1024]⟩
abbrev S4 : Shape := ⟨1, ![4]⟩
abbrev S4x1x1 : Shape := ⟨3, ![4, 1, 1]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S4x1024x1024, .bf16⟩
  | .hbm, ⟨3, _⟩ => ⟨S4, .i32⟩
  | .hbm, ⟨4, _⟩ => ⟨S4x1x1, .i32⟩
  | .hbm, ⟨5, _⟩ => ⟨S_, .i32⟩
  | .hbm, ⟨6, _⟩ => ⟨S4x1x1, .i32⟩
  | .hbm, ⟨7, _⟩ => ⟨S4x1x1, .i1⟩
  | .hbm, ⟨8, _⟩ => ⟨S4x1024x1024, .i1⟩
  | .hbm, ⟨9, _⟩ => ⟨S_, .f32⟩
  | .hbm, ⟨10, _⟩ => ⟨S1024x1024, .f32⟩
  | .hbm, ⟨11, _⟩ => ⟨S2048x1024, .f32⟩
  | .hbm, ⟨12, _⟩ => ⟨S1024x1024, .f32⟩
  | .hbm, ⟨13, _⟩ => ⟨S1024x1024, .f32⟩
  | .hbm, ⟨14, _⟩ => ⟨S1024x1024, .bf16⟩
  | .hbm, ⟨15, _⟩ => ⟨S1x1024x1024, .bf16⟩
  | .hbm, ⟨16, _⟩ => ⟨S4x1024x1024, .bf16⟩
  | .hbm, ⟨17, _⟩ => ⟨S4x1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Dwg1.lean ====
abbrev S2048x1024 : Shape := ⟨2, ![2048, 1024]⟩
abbrev S4x1024x1024 : Shape := ⟨3, ![4, 1024, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S4x1024x1024, .bf16⟩
  | .hbm, ⟨3, _⟩ => ⟨S2048x1024, .bf16⟩
  | .hbm, ⟨4, _⟩ => ⟨S4x1024x1024, .bf16⟩
  | .local _ .vmem, ⟨0, _⟩ => ⟨S2048x1024, .f32⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dwg1Ideal.lean ====
abbrev S2048x1024 : Shape := ⟨2, ![2048, 1024]⟩
abbrev S4x1024x1024 : Shape := ⟨3, ![4, 1024, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S4x1024x1024, .bf16⟩
  | .hbm, ⟨3, _⟩ => ⟨S2048x1024, .bf16⟩
  | .hbm, ⟨4, _⟩ => ⟨S4x1024x1024, .bf16⟩
  | .local _ .vmem, ⟨0, _⟩ => ⟨S2048x1024, .f32⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dwg1RefIdeal.lean ====
abbrev S2048x1024 : Shape := ⟨2, ![2048, 1024]⟩
abbrev S4x1024x1024 : Shape := ⟨3, ![4, 1024, 1024]⟩
abbrev S4 : Shape := ⟨1, ![4]⟩
abbrev S4x1x1 : Shape := ⟨3, ![4, 1, 1]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S4x1024x1024, .bf16⟩
  | .hbm, ⟨3, _⟩ => ⟨S4, .i32⟩
  | .hbm, ⟨4, _⟩ => ⟨S4x1x1, .i32⟩
  | .hbm, ⟨5, _⟩ => ⟨S_, .i32⟩
  | .hbm, ⟨6, _⟩ => ⟨S4x1x1, .i32⟩
  | .hbm, ⟨7, _⟩ => ⟨S4x1x1, .i1⟩
  | .hbm, ⟨8, _⟩ => ⟨S4x1024x1024, .i1⟩
  | .hbm, ⟨9, _⟩ => ⟨S_, .f32⟩
  | .hbm, ⟨10, _⟩ => ⟨S1024x1024, .f32⟩
  | .hbm, ⟨11, _⟩ => ⟨S2048x1024, .f32⟩
  | .hbm, ⟨12, _⟩ => ⟨S1024x1024, .f32⟩
  | .hbm, ⟨13, _⟩ => ⟨S1024x1024, .f32⟩
  | .hbm, ⟨14, _⟩ => ⟨S1024x1024, .bf16⟩
  | .hbm, ⟨15, _⟩ => ⟨S1x1024x1024, .bf16⟩
  | .hbm, ⟨16, _⟩ => ⟨S4x1024x1024, .bf16⟩
  | .hbm, ⟨17, _⟩ => ⟨S4x1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Dwg2.lean ====
abbrev S2048x1024 : Shape := ⟨2, ![2048, 1024]⟩
abbrev S4x1024x1024 : Shape := ⟨3, ![4, 1024, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S4x1024x1024, .bf16⟩
  | .hbm, ⟨3, _⟩ => ⟨S2048x1024, .bf16⟩
  | .hbm, ⟨4, _⟩ => ⟨S4x1024x1024, .bf16⟩
  | .local _ .vmem, ⟨0, _⟩ => ⟨S2048x1024, .f32⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dwg2Ideal.lean ====
abbrev S2048x1024 : Shape := ⟨2, ![2048, 1024]⟩
abbrev S4x1024x1024 : Shape := ⟨3, ![4, 1024, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S4x1024x1024, .bf16⟩
  | .hbm, ⟨3, _⟩ => ⟨S2048x1024, .bf16⟩
  | .hbm, ⟨4, _⟩ => ⟨S4x1024x1024, .bf16⟩
  | .local _ .vmem, ⟨0, _⟩ => ⟨S2048x1024, .f32⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dwg2RefIdeal.lean ====
abbrev S2048x1024 : Shape := ⟨2, ![2048, 1024]⟩
abbrev S4x1024x1024 : Shape := ⟨3, ![4, 1024, 1024]⟩
abbrev S4 : Shape := ⟨1, ![4]⟩
abbrev S4x1x1 : Shape := ⟨3, ![4, 1, 1]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S4x1024x1024, .bf16⟩
  | .hbm, ⟨3, _⟩ => ⟨S4, .i32⟩
  | .hbm, ⟨4, _⟩ => ⟨S4x1x1, .i32⟩
  | .hbm, ⟨5, _⟩ => ⟨S_, .i32⟩
  | .hbm, ⟨6, _⟩ => ⟨S4x1x1, .i32⟩
  | .hbm, ⟨7, _⟩ => ⟨S4x1x1, .i1⟩
  | .hbm, ⟨8, _⟩ => ⟨S4x1024x1024, .i1⟩
  | .hbm, ⟨9, _⟩ => ⟨S_, .f32⟩
  | .hbm, ⟨10, _⟩ => ⟨S1024x1024, .f32⟩
  | .hbm, ⟨11, _⟩ => ⟨S2048x1024, .f32⟩
  | .hbm, ⟨12, _⟩ => ⟨S1024x1024, .f32⟩
  | .hbm, ⟨13, _⟩ => ⟨S1024x1024, .f32⟩
  | .hbm, ⟨14, _⟩ => ⟨S1024x1024, .bf16⟩
  | .hbm, ⟨15, _⟩ => ⟨S1x1024x1024, .bf16⟩
  | .hbm, ⟨16, _⟩ => ⟨S4x1024x1024, .bf16⟩
  | .hbm, ⟨17, _⟩ => ⟨S4x1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Dwin3.lean ====
abbrev S2048x5632 : Shape := ⟨2, ![2048, 5632]⟩
abbrev S2048x1024 : Shape := ⟨2, ![2048, 1024]⟩
abbrev S4x5632x1024 : Shape := ⟨3, ![4, 5632, 1024]⟩
abbrev S2048x512 : Shape := ⟨2, ![2048, 512]⟩
abbrev S1x512x1024 : Shape := ⟨3, ![1, 512, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x5632, .f32⟩
  | .hbm, ⟨1, _⟩ => ⟨S2048x1024, .f32⟩
  | .hbm, ⟨2, _⟩ => ⟨S2048x5632, .bf16⟩
  | .hbm, ⟨3, _⟩ => ⟨S2048x1024, .bf16⟩
  | .hbm, ⟨4, _⟩ => ⟨S4x5632x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S1x512x1024, .bf16⟩
  | .local _ .vmem, ⟨4, _⟩ => ⟨S1x512x1024, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dwin3RefIdeal.lean ====
abbrev S2048x5632 : Shape := ⟨2, ![2048, 5632]⟩
abbrev S2048x1024 : Shape := ⟨2, ![2048, 1024]⟩
abbrev S_ : Shape := ⟨0, ![]⟩
abbrev S1024x5632 : Shape := ⟨2, ![1024, 5632]⟩
abbrev S5632x1024 : Shape := ⟨2, ![5632, 1024]⟩
abbrev S1x5632x1024 : Shape := ⟨3, ![1, 5632, 1024]⟩
abbrev S4x5632x1024 : Shape := ⟨3, ![4, 5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x1024, .f32⟩
  | .hbm, ⟨2, _⟩ => ⟨S_, .f32⟩
  | .hbm, ⟨3, _⟩ => ⟨S1024x5632, .f32⟩
  | .hbm, ⟨4, _⟩ => ⟨S2048x5632, .f32⟩
  | .hbm, ⟨5, _⟩ => ⟨S5632x1024, .f32⟩
  | .hbm, ⟨6, _⟩ => ⟨S1024x5632, .f32⟩
  | .hbm, ⟨7, _⟩ => ⟨S5632x1024, .f32⟩
  | .hbm, ⟨8, _⟩ => ⟨S5632x1024, .bf16⟩
  | .hbm, ⟨9, _⟩ => ⟨S1x5632x1024, .bf16⟩
  | .hbm, ⟨10, _⟩ => ⟨S4x5632x1024, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dwout3.lean ====
abbrev S2048x2816 : Shape := ⟨2, ![2048, 2816]⟩
abbrev S2048x1024 : Shape := ⟨2, ![2048, 1024]⟩
abbrev S4x2816x1024 : Shape := ⟨3, ![4, 2816, 1024]⟩
abbrev S2048x1408 : Shape := ⟨2, ![2048, 1408]⟩
abbrev S2048x512 : Shape := ⟨2, ![2048, 512]⟩
abbrev S1x1408x512 : Shape := ⟨3, ![1, 1408, 512]⟩
abbrev S1408x512 : Shape := ⟨2, ![1408, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S2048x2816, .bf16⟩
  | .hbm, ⟨3, _⟩ => ⟨S2048x1024, .bf16⟩
  | .hbm, ⟨4, _⟩ => ⟨S4x2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1x1408x512, .bf16⟩
  | .local _ .vmem, ⟨5, _⟩ => ⟨S1x1408x512, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dwout3RefIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩
abbrev S4x2816x1024 : Shape := ⟨3, ![4, 2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S2048x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | .hbm, ⟨8, _⟩ => ⟨S1x2816x1024, .bf16⟩
  | .hbm, ⟨9, _⟩ => ⟨S4x2816x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dwg3.lean ====
abbrev S2048x1024 : Shape := ⟨2, ![2048, 1024]⟩
abbrev S4x1024x1024 : Shape := ⟨3, ![4, 1024, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S4x1024x1024, .bf16⟩
  | .local _ .vmem, ⟨0, _⟩ => ⟨S2048x1024, .f32⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dwg3RefIdeal.lean ====
abbrev S2048x1024 : Shape := ⟨2, ![2048, 1024]⟩
abbrev S_ : Shape := ⟨0, ![]⟩
abbrev S1024x1024 : Shape := ⟨2, ![1024, 1024]⟩
abbrev S1x1024x1024 : Shape := ⟨3, ![1, 1024, 1024]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1x1024x1024, .bf16⟩
  | .hbm, ⟨9, _⟩ => ⟨S4x1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== PleB.lean ====
abbrev S2048x1024 : Shape := ⟨2, ![2048, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .bf16⟩
  | .hbm, ⟨4, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PleBRefIdeal.lean ====
abbrev S2048x1024 : Shape := ⟨2, ![2048, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .bf16⟩
  | .hbm, ⟨22, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Ple.lean ====
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PleRefIdeal.lean ====
abbrev S2048x1024 : Shape := ⟨2, ![2048, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Swiglu.lean ====
abbrev S2048x5632 : Shape := ⟨2, ![2048, 5632]⟩
abbrev S2048x2816 : Shape := ⟨2, ![2048, 2816]⟩
abbrev S512x5632 : Shape := ⟨2, ![512, 5632]⟩
abbrev S512x2816 : Shape := ⟨2, ![512, 2816]⟩

abbrev nBuf : Space → Nat
  | .hbm => 2
  | .vmem => 4
  | .smem => 0
  | _ => 0

abbrev bufTy : (tb : Table) → Fin (tcTables nBuf tb) → BufTy
  | .hbm, ⟨0, _⟩ => ⟨S2048x5632, .f32⟩
  | .hbm, ⟨1, _⟩ => ⟨S2048x2816, .bf16⟩
  | .local _ .vmem, ⟨0, _⟩ => ⟨S512x5632, .f32⟩
  | .local _ .vmem, ⟨1, _⟩ => ⟨S512x5632, .f32⟩
  | .local _ .vmem, ⟨2, _⟩ => ⟨S512x2816, .bf16⟩
  | .local _ .vmem, ⟨3, _⟩ => ⟨S512x2816, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SwigluRefIdeal.lean ====
abbrev S2048x5632 : Shape := ⟨2, ![2048, 5632]⟩
abbrev S2048x2816 : Shape := ⟨2, ![2048, 2816]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S_, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S2048x2816, .f32⟩
  | .hbm, ⟨12, _⟩ => ⟨S2048x2816, .f32⟩
  | .hbm, ⟨13, _⟩ => ⟨S2048x2816, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== SwigluB.lean ====
abbrev S2048x5632 : Shape := ⟨2, ![2048, 5632]⟩
abbrev S2048x2816 : Shape := ⟨2, ![2048, 2816]⟩
abbrev S256x5632 : Shape := ⟨2, ![256, 5632]⟩
abbrev S256x2816 : Shape := ⟨2, ![256, 2816]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S2048x2816, .f32⟩
  | .hbm, ⟨2, _⟩ => ⟨S2048x5632, .bf16⟩
  | .local _ .vmem, ⟨0, _⟩ => ⟨S256x5632, .f32⟩
  | .local _ .vmem, ⟨1, _⟩ => ⟨S256x5632, .f32⟩
  | .local _ .vmem, ⟨2, _⟩ => ⟨S256x2816, .f32⟩
  | .local _ .vmem, ⟨3, _⟩ => ⟨S256x2816, .f32⟩
  | .local _ .vmem, ⟨4, _⟩ => ⟨S256x5632, .bf16⟩
  | .local _ .vmem, ⟨5, _⟩ => ⟨S256x5632, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SwigluBRefIdeal.lean ====
abbrev S2048x5632 : Shape := ⟨2, ![2048, 5632]⟩
abbrev S2048x2816 : Shape := ⟨2, ![2048, 2816]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S_, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S_, .f32⟩
  | .hbm, ⟨21, _⟩ => ⟨S2048x5632, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x5632, .f32⟩
  | .hbm, ⟨28, _⟩ => ⟨S2048x5632, .f32⟩
  | .hbm, ⟨29, _⟩ => ⟨S2048x5632, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v1_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v1_1 : Ref sig .tc := ⟨.hbm, 14, rfl⟩
abbrev main_v1_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== NormIn.lean ====
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormInIdeal.lean ====
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormInRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormOut.lean ====
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormOutRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== NormQ.lean ====
abbrev S2048x384 : Shape := ⟨2, ![2048, 384]⟩
abbrev S1x384 : Shape := ⟨2, ![1, 384]⟩
abbrev S1024x384 : Shape := ⟨2, ![1024, 384]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x384, .f32⟩
  | .hbm, ⟨1, _⟩ => ⟨S1x384, .f32⟩
  | .hbm, ⟨2, _⟩ => ⟨S2048x384, .bf16⟩
  | .local _ .vmem, ⟨0, _⟩ => ⟨S1024x384, .f32⟩
  | .local _ .vmem, ⟨1, _⟩ => ⟨S1024x384, .f32⟩
  | .local _ .vmem, ⟨2, _⟩ => ⟨S1x384, .f32⟩
  | .local _ .vmem, ⟨3, _⟩ => ⟨S1024x384, .bf16⟩
  | .local _ .vmem, ⟨4, _⟩ => ⟨S1024x384, .bf16⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormQIdeal.lean ====
abbrev S2048x384 : Shape := ⟨2, ![2048, 384]⟩
abbrev S1x384 : Shape := ⟨2, ![1, 384]⟩
abbrev S1024x384 : Shape := ⟨2, ![1024, 384]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x384, .f32⟩
  | .hbm, ⟨1, _⟩ => ⟨S1x384, .f32⟩
  | .hbm, ⟨2, _⟩ => ⟨S2048x384, .bf16⟩
  | .local _ .vmem, ⟨0, _⟩ => ⟨S1024x384, .f32⟩
  | .local _ .vmem, ⟨1, _⟩ => ⟨S1024x384, .f32⟩
  | .local _ .vmem, ⟨2, _⟩ => ⟨S1x384, .f32⟩
  | .local _ .vmem, ⟨3, _⟩ => ⟨S1024x384, .bf16⟩
  | .local _ .vmem, ⟨4, _⟩ => ⟨S1024x384, .bf16⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormQRefIdeal.lean ====
abbrev S2048x384 : Shape := ⟨2, ![2048, 384]⟩
abbrev S1x384 : Shape := ⟨2, ![1, 384]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S1x384, .f32⟩
  | .hbm, ⟨2, _⟩ => ⟨S2048x384, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x384, .f32⟩
  | .hbm, ⟨14, _⟩ => ⟨S2048x384, .f32⟩
  | .hbm, ⟨15, _⟩ => ⟨S2048x384, .f32⟩
  | .hbm, ⟨16, _⟩ => ⟨S2048x384, .f32⟩
  | .hbm, ⟨17, _⟩ => ⟨S2048x384, .bf16⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormKv.lean ====
abbrev S2048x256 : Shape := ⟨2, ![2048, 256]⟩
abbrev S1x256 : Shape := ⟨2, ![1, 256]⟩
abbrev S1024x256 : Shape := ⟨2, ![1024, 256]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S1x256, .f32⟩
  | .hbm, ⟨2, _⟩ => ⟨S2048x256, .bf16⟩
  | .local _ .vmem, ⟨0, _⟩ => ⟨S1024x256, .f32⟩
  | .local _ .vmem, ⟨1, _⟩ => ⟨S1024x256, .f32⟩
  | .local _ .vmem, ⟨2, _⟩ => ⟨S1x256, .f32⟩
  | .local _ .vmem, ⟨3, _⟩ => ⟨S1024x256, .bf16⟩
  | .local _ .vmem, ⟨4, _⟩ => ⟨S1024x256, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormKvRefIdeal.lean ====
abbrev S2048x256 : Shape := ⟨2, ![2048, 256]⟩
abbrev S1x256 : Shape := ⟨2, ![1, 256]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S1x256, .f32⟩
  | .hbm, ⟨2, _⟩ => ⟨S2048x256, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x256, .f32⟩
  | .hbm, ⟨14, _⟩ => ⟨S2048x256, .f32⟩
  | .hbm, ⟨15, _⟩ => ⟨S2048x256, .f32⟩
  | .hbm, ⟨16, _⟩ => ⟨S2048x256, .f32⟩
  | .hbm, ⟨17, _⟩ => ⟨S2048x256, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormInB.lean ====
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormInBRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== NormOutB.lean ====
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .bf16⟩
  | .hbm, ⟨4, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormOutBRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048, .f32⟩
  | .hbm, ⟨31, _⟩ => ⟨S2048x1, .f32⟩
  | .hbm, ⟨32, _⟩ => ⟨S2048x1024, .f32⟩
  | .hbm, ⟨33, _⟩ => ⟨S2048x1024, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S2048, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== GateB.lean ====
abbrev S2048x128 : Shape := ⟨2, ![2048, 128]⟩
abbrev S1x128 : Shape := ⟨2, ![1, 128]⟩
abbrev S128x128 : Shape := ⟨2, ![128, 128]⟩
abbrev S128 : Shape := ⟨1, ![128]⟩

abbrev nBuf : Space → Nat
  | .hbm => 6
  | .vmem => 6
  | .smem => 0
  | _ => 0

abbrev bufTy : (tb : Table) → Fin (tcTables nBuf tb) → BufTy
  | .hbm, ⟨0, _⟩ => ⟨S2048x128, .f32⟩
  | .hbm, ⟨1, _⟩ => ⟨S1x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S1x128, .f32⟩
  | .local _ .vmem, ⟨0, _⟩ => ⟨S2048x128, .f32⟩
  | .local _ .vmem, ⟨1, _⟩ => ⟨S1x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S1x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== GateBRefIdeal.lean ====
abbrev S2048x128 : Shape := ⟨2, ![2048, 128]⟩
abbrev S1x128 : Shape := ⟨2, ![1, 128]⟩
abbrev S_ : Shape := ⟨0, ![]⟩
abbrev S128 : Shape := ⟨1, ![128]⟩

abbrev nBuf : Space → Nat
  | .hbm => 67
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S1x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S_, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S2048x128, .f32⟩
  | .hbm, ⟨12, _⟩ => ⟨S2048x128, .i1⟩
  | .hbm, ⟨13, _⟩ => ⟨S2048x128, .f32⟩
  | .hbm, ⟨14, _⟩ => ⟨S2048x128, .f32⟩
  | .hbm, ⟨15, _⟩ => ⟨S2048x128, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S2048x128, .f32⟩
  | .hbm, ⟨20, _⟩ => ⟨S2048x128, .f32⟩
  | .hbm, ⟨21, _⟩ => ⟨S_, .f32⟩
  | .hbm, ⟨22, _⟩ => ⟨S2048x128, .f32⟩
  | .hbm, ⟨23, _⟩ => ⟨S2048x128, .i1⟩
  | .hbm, ⟨24, _⟩ => ⟨S_, .f32⟩
  | .hbm, ⟨25, _⟩ => ⟨S2048x128, .f32⟩
  | .hbm, ⟨26, _⟩ => ⟨S2048x128, .f32⟩
  | .hbm, ⟨27, _⟩ => ⟨S_, .f32⟩
  | .hbm, ⟨28, _⟩ => ⟨S2048x128, .f32⟩
  | .hbm, ⟨29, _⟩ => ⟨S2048x128, .i1⟩
  | .hbm, ⟨30, _⟩ => ⟨S_, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S2048x128, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S2048x128, .f32⟩
  | .hbm, ⟨43, _⟩ => ⟨S2048x128, .i1⟩
  | .hbm, ⟨44, _⟩ => ⟨S_, .f32⟩
  | .hbm, ⟨45, _⟩ => ⟨S2048x128, .f32⟩
  | .hbm, ⟨46, _⟩ => ⟨S2048x128, .f32⟩
  | .hbm, ⟨47, _⟩ => ⟨S2048x128, .f32⟩
  | .hbm, ⟨48, _⟩ => ⟨S2048x128, .f32⟩
  | .hbm, ⟨49, _⟩ => ⟨S2048x128, .f32⟩
  | .hbm, ⟨50, _⟩ => ⟨S_, .f32⟩
  | .hbm, ⟨51, _⟩ => ⟨S2048x128, .f32⟩
  | .hbm, ⟨52, _⟩ => ⟨S2048x128, .f32⟩
  | .hbm, ⟨53, _⟩ => ⟨S2048x128, .f32⟩
  | .hbm, ⟨54, _⟩ => ⟨S_, .f32⟩
  | .hbm, ⟨55, _⟩ => ⟨S_, .f32⟩
  | .hbm, ⟨56, _⟩ => ⟨S2048x128, .f32⟩
  | .hbm, ⟨57, _⟩ => ⟨S2048x128, .f32⟩
  | .hbm, ⟨58, _⟩ => ⟨S_, .f32⟩
  | .hbm, ⟨59, _⟩ => ⟨S_, .f32⟩
  | .hbm, ⟨60, _⟩ => ⟨S2048x128, .f32⟩
  | .hbm, ⟨61, _⟩ => ⟨S2048x128, .f32⟩
  | .hbm, ⟨62, _⟩ => ⟨S2048x128, .f32⟩
  | .hbm, ⟨63, _⟩ => ⟨S2048x128, .f32⟩
  | .hbm, ⟨64, _⟩ => ⟨S_, .f32⟩
  | .hbm, ⟨65, _⟩ => ⟨S128, .f32⟩
  | .hbm, ⟨66, _⟩ => ⟨S1x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1_0 : Ref sig .tc := ⟨.hbm, 20, rfl⟩
abbrev main_call0_call0_cst_0 : Ref sig .tc := ⟨.hbm, 21, rfl⟩
abbrev main_call0_call0_v13 : Ref sig .tc := ⟨.hbm, 22, rfl⟩
abbrev main_call0_call0_v14 : Ref sig .tc := ⟨.hbm, 23, rfl⟩
abbrev main_call0_call0_cst_1 : Ref sig .tc := ⟨.hbm, 24, rfl⟩
abbrev main_call0_call0_v15 : Ref sig .tc := ⟨.hbm, 25, rfl⟩
abbrev main_call0_call0_v16 : Ref sig .tc := ⟨.hbm, 26, rfl⟩
abbrev main_call0_call0_cst_2 : Ref sig .tc := ⟨.hbm, 27, rfl⟩
abbrev main_call0_call0_v17 : Ref sig .tc := ⟨.hbm, 28, rfl⟩
abbrev main_call0_call0_v18 : Ref sig .tc := ⟨.hbm, 29, rfl⟩
abbrev main_call0_call0_cst_3 : Ref sig .tc := ⟨.hbm, 30, rfl⟩
abbrev main_call0_call0_v19 : Ref sig .tc := ⟨.hbm, 31, rfl⟩
abbrev main_call0_call0_v20 : Ref sig .tc := ⟨.hbm, 32, rfl⟩
abbrev main_call0_call0_v21 : Ref sig .tc := ⟨.hbm, 33, rfl⟩
abbrev main_v2_1 : Ref sig .tc := ⟨.hbm, 34, rfl⟩
abbrev main_call0_call0_cst_4 : Ref sig .tc := ⟨.hbm, 35, rfl⟩
abbrev main_call0_call0_cst_5 : Ref sig .tc := ⟨.hbm, 36, rfl⟩
abbrev main_call0_call0_v23 : Ref sig .tc := ⟨.hbm, 37, rfl⟩
abbrev main_call0_call0_cst_6 : Ref sig .tc := ⟨.hbm, 38, rfl⟩
abbrev main_call0_call0_cst_7 : Ref sig .tc := ⟨.hbm, 39, rfl⟩
abbrev main_call0_call0_v24 : Ref sig .tc := ⟨.hbm, 40, rfl⟩
abbrev main_call0_call0_cst_8 : Ref sig .tc := ⟨.hbm, 41, rfl⟩
abbrev main_call0_call0_v25 : Ref sig .tc := ⟨.hbm, 42, rfl⟩
abbrev main_call0_call0_v26 : Ref sig .tc := ⟨.hbm, 43, rfl⟩
abbrev main_call0_call0_cst_9 : Ref sig .tc := ⟨.hbm, 44, rfl⟩
abbrev main_call0_call0_v27 : Ref sig .tc := ⟨.hbm, 45, rfl⟩
abbrev main_call0_call0_v28 : Ref sig .tc := ⟨.hbm, 46, rfl⟩
abbrev main_call0_call0_v29 : Ref sig .tc := ⟨.hbm, 47, rfl⟩
abbrev main_call0_call0_v30 : Ref sig .tc := ⟨.hbm, 48, rfl⟩
abbrev main_call0_call0_v31 : Ref sig .tc := ⟨.hbm, 49, rfl⟩
abbrev main_call0_call0_cst_10 : Ref sig .tc := ⟨.hbm, 50, rfl⟩
abbrev main_call0_call0_v32 : Ref sig .tc := ⟨.hbm, 51, rfl⟩
abbrev main_v2_2 : Ref sig .tc := ⟨.hbm, 52, rfl⟩
abbrev main_v2_0 : Ref sig .tc := ⟨.hbm, 53, rfl⟩
abbrev main_call1_call0_cst : Ref sig .tc := ⟨.hbm, 54, rfl⟩
abbrev main_call1_call0_v0 : Ref sig .tc := ⟨.hbm, 55, rfl⟩
abbrev main_v3 : Ref sig .tc := ⟨.hbm, 56, rfl⟩
abbrev main_v4 : Ref sig .tc := ⟨.hbm, 57, rfl⟩
abbrev main_call2_call0_cst : Ref sig .tc := ⟨.hbm, 58, rfl⟩
abbrev main_call2_call0_v0 : Ref sig .tc := ⟨.hbm, 59, rfl⟩
abbrev main_v5 : Ref sig .tc := ⟨.hbm, 60, rfl⟩
abbrev main_call3_v0 : Ref sig .tc := ⟨.hbm, 61, rfl⟩
abbrev main_call3_v1 : Ref sig .tc := ⟨.hbm, 62, rfl⟩
abbrev main_v6 : Ref sig .tc := ⟨.hbm, 63, rfl⟩
abbrev main_cst : Ref sig .tc := ⟨.hbm, 64, rfl⟩
abbrev main_v7 : Ref sig .tc := ⟨.hbm, 65, rfl⟩
abbrev main_v8 : Ref sig .tc := ⟨.hbm, 66, rfl⟩

abbrev nD : Nat := 1
abbrev τ : Topo := Topo.v7x

variable {F : FTy → Type} [FloatOps F]
-- ==== Proof.Softmax.lean ====
/-
  Causal softmax over the extended reals. A row whose first `i + 1` entries are numbers and whose other entries are -∞ has
  a finite largest entry, and its exponentials less that entry, over their sum, are the softmax of the numbers, whatever
  finite number was taken off.
-/
module

public import Idealize.ShloMosaic.PureOps.Ideal.Laws

@[expose] public section

noncomputable section

namespace Cert.Proof

open Idealize.ShloMosaic
open scoped BigOperators

/-- The softmax of row `i` of `s` over its first `i + 1` columns. -/
def prob (s : ℕ → ℕ → ℝ) (i j : ℕ) : ℝ :=
  if j ≤ i then Real.exp (s i j) / ∑ x ∈ Finset.range (i + 1), Real.exp (s i x) else 0

theorem prob_eq_zero {s : ℕ → ℕ → ℝ} {i j : ℕ} (h : i < j) : prob s i j = 0 := if_neg (by omega)

/-- A sum over `Fin n` of a function that vanishes past `i`. -/
theorem sum_fin_le {n i : ℕ} (hi : i < n) (f : ℕ → ℝ) :
    ∑ x : Fin n, (if x.val ≤ i then f x.val else 0) = ∑ x ∈ Finset.range (i + 1), f x := by
  rw [Fin.sum_univ_eq_sum_range (fun x => if x ≤ i then f x else 0) n, ← Finset.sum_filter]
  refine Finset.sum_congr (Finset.ext fun x => ?_) fun _ _ => rfl
  simp only [Finset.mem_filter, Finset.mem_range]
  omega

/-- A sum of real numbers read in the extended reals. -/
theorem coe_sum {ι : Type} (t : Finset ι) (f : ι → ℝ) : ∑ x ∈ t, ((f x : ℝ) : EReal) = ((∑ x ∈ t, f x : ℝ) : EReal) := by
  classical
  induction t using Finset.induction_on with
  | empty => simp
  | insert a t ha ih => rw [Finset.sum_insert ha, Finset.sum_insert ha, ih, EReal.coe_add]

/-- The total less the largest entry, whatever that was: a row's exponentials sum to a positive number. -/
theorem sum_exp_pos (i : ℕ) (f : ℕ → ℝ) : 0 < ∑ x ∈ Finset.range (i + 1), Real.exp (f x) :=
  Finset.sum_pos (fun _ _ => Real.exp_pos _) ⟨0, by simp⟩

/-- The softmax does not see a constant taken off its row. -/
theorem prob_shift (s : ℕ → ℕ → ℝ) (i j : ℕ) (M : ℝ) :
    (if j ≤ i then Real.exp (s i j - M) else 0) / ∑ x ∈ Finset.range (i + 1), Real.exp (s i x - M) = prob s i j := by
  have hM : ∀ x, Real.exp (s i x - M) = Real.exp (s i x) * Real.exp (-M) := fun x => by rw [sub_eq_add_neg, Real.exp_add]
  unfold prob
  split
  · simp only [hM, ← Finset.sum_mul]
    rw [mul_div_mul_right _ _ (Real.exp_pos _).ne']
  · simp

section Row

variable {n i : ℕ} (hi : i < n) (s : ℕ → ℝ) (m : Fin n → EReal) (hm : ∀ j, m j = if j.val ≤ i then ((s j.val : ℝ) : EReal) else ⊥)

include hi hm

/-- The largest entry is a number. -/
theorem row_max : ∃ M : ℝ, (Finset.univ : Finset (Fin n)).fold max ⊥ m = (M : EReal) := by
  have hlt : (Finset.univ : Finset (Fin n)).fold max ⊥ m < ⊤ := by
    rw [Finset.fold_max_lt]
    refine ⟨bot_lt_top, fun j _ => ?_⟩
    rw [hm]; split
    · exact EReal.coe_lt_top _
    · exact bot_lt_top
  have hgt : ⊥ < (Finset.univ : Finset (Fin n)).fold max ⊥ m := by
    rw [Finset.lt_fold_max]
    refine .inr ⟨⟨i, hi⟩, Finset.mem_univ _, ?_⟩
    rw [hm, if_pos le_rfl]
    exact EReal.bot_lt_coe _
  exact ⟨_, (EReal.coe_toReal hlt.ne hgt.ne').symm⟩

omit hi in
/-- The exponential of an entry less a number. -/
theorem row_exp (M : ℝ) (j : Fin n) :
    Ideal.exp (m j - (M : EReal)) = ((if j.val ≤ i then Real.exp (s j.val - M) else 0 : ℝ) : EReal) := by
  rw [hm]; split
  · rw [← EReal.coe_sub, Ideal.exp_coe]
  · rw [EReal.bot_sub, Ideal.exp_bot, EReal.coe_zero]

/-- The exponentials' sum. -/
theorem row_sum (M : ℝ) : ∑ j : Fin n, Ideal.exp (m j - (M : EReal)) = ((∑ x ∈ Finset.range (i + 1), Real.exp (s x - M) : ℝ) : EReal) := by
  rw [Finset.sum_congr rfl fun j _ => row_exp s m hm M j, coe_sum, sum_fin_le hi fun x => Real.exp (s x - M)]

end Row

end Cert.Proof
-- ==== Proof.Block.lean ====
/-
  One pair of heads as real numbers: 2048 rows of 128 lanes of queries, keys, values, outputs and outputs' cotangents, of
  which head `a` has the lanes `l` with `l / 64 = a`, and the two heads' gate sums; and the kernel's gradients in them.
-/
module

public import proofs.«01_k».proof.Proof.Softmax

@[expose] public section

noncomputable section

namespace Cert.Proof.Fox

open scoped BigOperators

/-- The real contents of one grid point's blocks. -/
structure Block where
  q : ℕ → ℕ → ℝ
  k : ℕ → ℕ → ℝ
  v : ℕ → ℕ → ℝ
  o : ℕ → ℕ → ℝ
  g : ℕ → ℕ → ℝ
  c : ℕ → ℕ → ℝ

namespace Block

variable (D : Block)

/-- A lane's value on head `a`'s lanes and zero elsewhere. -/
def sel (a l : ℕ) (x : ℝ) : ℝ := if l / 64 = a then x else 0

/-- The logits of head `a`. -/
def s (a i j : ℕ) : ℝ := (∑ l : Fin 128, sel a l (D.q i l) * (1 / 8) * D.k j l) + (D.c i a - D.c j a)
/-- The probabilities. -/
def p (a i j : ℕ) : ℝ := prob (D.s a) i j
/-- The probabilities' cotangent. -/
def dp (a i j : ℕ) : ℝ := ∑ l : Fin 128, sel a l (D.g i l) * D.v j l
/-- A row's sum of the cotangent times the output. -/
def delta (a i : ℕ) : ℝ := ∑ l : Fin 128, sel a l (D.g i l * D.o i l)
/-- The logits' cotangent. -/
def ds (a i j : ℕ) : ℝ := D.p a i j * (D.dp a i j - D.delta a i)

theorem p_eq_zero {a i j : ℕ} (h : i < j) : D.p a i j = 0 := prob_eq_zero h
theorem ds_eq_zero {a i j : ℕ} (h : i < j) : D.ds a i j = 0 := by rw [ds, D.p_eq_zero h, zero_mul]

/-! ### The totals of the sixteen steps -/

/-- What head `a`'s rows `b … b + 255` add to the keys' gradient. -/
def kAdd (a b j l : ℕ) : ℝ := ∑ r : Fin 256, D.ds a (b + r) j * (sel a l (D.q (b + r) l) * (1 / 8))
/-- What they add to the values' gradient. -/
def vAdd (a b j l : ℕ) : ℝ := sel a l (∑ r : Fin 256, D.p a (b + r) j * D.g (b + r) l)
/-- What they take off the gradient of the keys' gate sums. -/
def cAdd (a b e j : ℕ) : ℝ := if e = a then ∑ r : Fin 256, D.ds a (b + r) j else 0

/-- The keys' gradient after `t` steps. -/
def kSum (t j l : ℕ) : ℝ := ∑ s ∈ Finset.range t, D.kAdd (s % 2) (256 * (s / 2)) j l
/-- The values' gradient after `t` steps. -/
def vSum (t j l : ℕ) : ℝ := ∑ s ∈ Finset.range t, D.vAdd (s % 2) (256 * (s / 2)) j l
/-- The gradient of the keys' gate sums after `t` steps. -/
def cSum (t e j : ℕ) : ℝ := 0 - ∑ s ∈ Finset.range t, D.cAdd (s % 2) (256 * (s / 2)) e j

theorem kSum_succ (t j l : ℕ) : D.kSum (t + 1) j l = D.kSum t j l + D.kAdd (t % 2) (256 * (t / 2)) j l := Finset.sum_range_succ _ _
theorem vSum_succ (t j l : ℕ) : D.vSum (t + 1) j l = D.vSum t j l + D.vAdd (t % 2) (256 * (t / 2)) j l := Finset.sum_range_succ _ _
theorem cSum_succ (t e j : ℕ) : D.cSum (t + 1) e j = D.cSum t e j - D.cAdd (t % 2) (256 * (t / 2)) e j := by
  unfold cSum; rw [Finset.sum_range_succ]; ring

/-- The queries' gradient. -/
def dq (i l : ℕ) : ℝ := (∑ j ∈ Finset.range 2048, D.ds (l / 64) i j * D.k j l) * (1 / 8)
/-- The gradient of the queries' gate sums. -/
def dcq (a i : ℕ) : ℝ := ∑ j ∈ Finset.range 2048, D.ds a i j

/-- Sixteen steps of two heads' blocks are the sum over all rows. -/
theorem sum_steps (f : ℕ → ℕ → ℝ) :
    ∑ s ∈ Finset.range 16, ∑ r : Fin 256, f (s % 2) (256 * (s / 2) + r) = ∑ i ∈ Finset.range 2048, (f 0 i + f 1 i) := by
  have e : ∀ m : ℕ, ∑ s ∈ Finset.range (2 * m), ∑ r : Fin 256, f (s % 2) (256 * (s / 2) + r) = ∑ i ∈ Finset.range (256 * m), (f 0 i + f 1 i) := by
    intro m
    induction m with
    | zero => simp
    | succ m ih =>
      rw [show 2 * (m + 1) = 2 * m + 1 + 1 by ring, Finset.sum_range_succ, Finset.sum_range_succ, ih, show 256 * (m + 1) = 256 * m + 256 by ring,
        Finset.sum_range_add]
      rw [show (2 * m) % 2 = 0 by omega, show (2 * m) / 2 = m by omega, show (2 * m + 1) % 2 = 1 by omega, show (2 * m + 1) / 2 = m by omega,
        add_assoc, ← Finset.sum_add_distrib, Fin.sum_univ_eq_sum_range (fun r => f 0 (256 * m + r) + f 1 (256 * m + r)) 256]
  exact e 8

/-- A sum over the first `n` columns of what vanishes past row `i < n`. -/
theorem sum_cols {n i : ℕ} (hi : i < n) (hn : n ≤ 2048) (f : ℕ → ℝ) (hf : ∀ j, i < j → f j = 0) :
    ∑ j : Fin n, f j = ∑ j ∈ Finset.range 2048, f j := by
  rw [Fin.sum_univ_eq_sum_range f n]
  refine Finset.sum_subset (Finset.range_subset_range.2 hn) fun j _ hj => hf j ?_
  rw [Finset.mem_range] at hj; omega

end Block

end Cert.Proof.Fox
-- ==== Proof.Spec.lean ====
/-
  The gradients of the forgetting attention as real numbers, in the arrays as the step holds them: queries, keys and values
  side by side, one column of gate sums per head, and the outputs' cotangents. And what the kernel's blocks of one pair of
  heads come to in those terms.
-/
module

public import proofs.«01_k».proof.Proof.Block

@[expose] public section

noncomputable section

namespace Cert.Proof.Fox

open scoped BigOperators

/-- The three arguments' real contents. -/
structure Raw where
  a : ℕ → ℕ → ℝ
  c : ℕ → ℕ → ℝ
  g : ℕ → ℕ → ℝ

namespace Raw

variable (R : Raw)

/-- The logits of head `h`. -/
def s (h i j : ℕ) : ℝ := (∑ d : Fin 64, R.a i (64 * h + d) * R.a j (1024 + 64 * h + d)) * (1 / 8) + (R.c i h - R.c j h)
/-- The probabilities. -/
def p (h i j : ℕ) : ℝ := prob (R.s h) i j
/-- The attention's output. -/
def out (i n : ℕ) : ℝ := ∑ x ∈ Finset.range (i + 1), R.p (n / 64) i x * R.a x (2048 + n)
/-- The probabilities' cotangent. -/
def dp (h i j : ℕ) : ℝ := ∑ d : Fin 64, R.g i (64 * h + d) * R.a j (2048 + 64 * h + d)
/-- The mean of a row of it under the row's probabilities. -/
def mean (h i : ℕ) : ℝ := ∑ x ∈ Finset.range (i + 1), R.p h i x * R.dp h i x
/-- The logits' cotangent. -/
def ds (h i j : ℕ) : ℝ := R.p h i j * (R.dp h i j - R.mean h i)

/-- The gradient of the queries. -/
def dq (i n : ℕ) : ℝ := ∑ j ∈ Finset.range 2048, R.ds (n / 64) i j * (1 / 8) * R.a j (1024 + n)
/-- The gradient of the keys. -/
def dk (j n : ℕ) : ℝ := ∑ i ∈ Finset.range 2048, R.ds (n / 64) i j * (1 / 8) * R.a i n
/-- The gradient of the values. -/
def dv (j n : ℕ) : ℝ := ∑ i ∈ Finset.range 2048, R.g i n * R.p (n / 64) i j
/-- The gradient of the queries' gate sums. -/
def dcq (h i : ℕ) : ℝ := ∑ j ∈ Finset.range 2048, R.ds h i j
/-- The gradient of the keys' gate sums. -/
def dck (h j : ℕ) : ℝ := ∑ i ∈ Finset.range 2048, -R.ds h i j

/-- The blocks of the pair of heads `2 t` and `2 t + 1`. -/
def pair (t : ℕ) : Block where
  q i l := R.a i (128 * t + l)
  k i l := R.a i (1024 + 128 * t + l)
  v i l := R.a i (2048 + 128 * t + l)
  o i l := R.out i (128 * t + l)
  g i l := R.g i (128 * t + l)
  c i e := R.c i (2 * t + e)

/-- A sum over the lanes of one head. -/
theorem sum_sel {b : ℕ} (hb : b < 2) (f : ℕ → ℝ) : ∑ l : Fin 128, Block.sel b l (f l) = ∑ d : Fin 64, f (64 * b + d) := by
  rw [Fin.sum_univ_eq_sum_range (fun l => Block.sel b l (f l)) 128, Fin.sum_univ_eq_sum_range (fun d => f (64 * b + d)) 64,
    show 128 = 64 + 64 from rfl, Finset.sum_range_add]
  have h : b = 0 ∨ b = 1 := by omega
  rcases h with rfl | rfl
  · rw [Finset.sum_eq_zero (s := Finset.range 64) (f := fun x => Block.sel 0 (64 + x) (f (64 + x))) fun x hx => if_neg (by rw [Finset.mem_range] at hx; omega), add_zero]
    exact Finset.sum_congr rfl fun x hx => by rw [Block.sel, if_pos (by rw [Finset.mem_range] at hx; omega), Nat.mul_zero, Nat.zero_add]
  · rw [Finset.sum_eq_zero (s := Finset.range 64) (f := fun x => Block.sel 1 x (f x)) fun x hx => if_neg (by rw [Finset.mem_range] at hx; omega), zero_add]
    exact Finset.sum_congr rfl fun x hx => by rw [Block.sel, if_pos (by rw [Finset.mem_range] at hx; omega)]

theorem sel_mul (b l : ℕ) (x y : ℝ) : Block.sel b l x * y = Block.sel b l (x * y) := by
  unfold Block.sel; split <;> simp

variable {b : ℕ} (hb : b < 2) (t : ℕ)

include hb

theorem pair_s (i j : ℕ) : (R.pair t).s b i j = R.s (2 * t + b) i j := by
  have h := sum_sel hb fun l => R.a i (128 * t + l) * (1 / 8) * R.a j (1024 + 128 * t + l)
  have e : ∀ l : Fin 128, Block.sel b l ((R.pair t).q i l) * (1 / 8) * (R.pair t).k j l
      = Block.sel b l (R.a i (128 * t + l) * (1 / 8) * R.a j (1024 + 128 * t + l)) := fun l => by
    rw [sel_mul, sel_mul]; rfl
  unfold Block.s s
  rw [Finset.sum_congr rfl fun l _ => e l, h, Finset.sum_mul]
  refine congrArg₂ _ (Finset.sum_congr rfl fun d _ => ?_) rfl
  rw [show 128 * t + (64 * b + (d : ℕ)) = 64 * (2 * t + b) + d by ring, show 1024 + 128 * t + (64 * b + (d : ℕ)) = 1024 + 64 * (2 * t + b) + d by ring]
  ring

theorem pair_p (i j : ℕ) : (R.pair t).p b i j = R.p (2 * t + b) i j := by
  unfold Block.p p
  rw [show (R.pair t).s b = R.s (2 * t + b) from funext fun i => funext fun j => R.pair_s hb t i j]

theorem pair_dp (i j : ℕ) : (R.pair t).dp b i j = R.dp (2 * t + b) i j := by
  have h := sum_sel hb fun l => R.g i (128 * t + l) * R.a j (2048 + 128 * t + l)
  have e : ∀ l : Fin 128, Block.sel b l ((R.pair t).g i l) * (R.pair t).v j l
      = Block.sel b l (R.g i (128 * t + l) * R.a j (2048 + 128 * t + l)) := fun l => by rw [sel_mul]; rfl
  unfold Block.dp dp
  rw [Finset.sum_congr rfl fun l _ => e l, h]
  refine Finset.sum_congr rfl fun d _ => ?_
  rw [show 128 * t + (64 * b + (d : ℕ)) = 64 * (2 * t + b) + d by ring, show 2048 + 128 * t + (64 * b + (d : ℕ)) = 2048 + 64 * (2 * t + b) + d by ring]

/-- The row's sum of cotangent times output is the mean of the probabilities' cotangent. -/
theorem pair_delta (i : ℕ) : (R.pair t).delta b i = R.mean (2 * t + b) i := by
  have h := sum_sel hb fun l => R.g i (128 * t + l) * R.out i (128 * t + l)
  unfold Block.delta mean
  refine h.trans ?_
  simp only [out, dp, Finset.mul_sum]
  rw [Finset.sum_comm]
  refine Finset.sum_congr rfl fun x _ => Finset.sum_congr rfl fun d _ => ?_
  have hd := d.isLt
  rw [show (128 * t + (64 * b + (d : ℕ))) / 64 = 2 * t + b by omega, show 128 * t + (64 * b + (d : ℕ)) = 64 * (2 * t + b) + d by ring,
    show 2048 + (64 * (2 * t + b) + (d : ℕ)) = 2048 + 64 * (2 * t + b) + d by ring]
  ring

theorem pair_ds (i j : ℕ) : (R.pair t).ds b i j = R.ds (2 * t + b) i j := by
  unfold Block.ds ds; rw [R.pair_p hb, R.pair_dp hb, R.pair_delta hb]

omit hb

variable {l : ℕ} (hl : l < 128)

include hl

theorem pair_dq (i : ℕ) : (R.pair t).dq i l = R.dq i (128 * t + l) := by
  unfold Block.dq dq
  rw [Finset.sum_mul]
  refine Finset.sum_congr rfl fun j _ => ?_
  rw [R.pair_ds (by omega), show (128 * t + l) / 64 = 2 * t + l / 64 by omega, ← Nat.add_assoc]
  exact mul_right_comm _ _ _

/-- Only the lane's own head adds to it. -/
theorem pick (f : ℕ → ℝ) : (Block.sel 0 l (f 0) + Block.sel 1 l (f 1)) = f (l / 64) := by
  have h : l / 64 = 0 ∨ l / 64 = 1 := by omega
  unfold Block.sel
  rcases h with h | h <;> rw [h] <;> simp

theorem pair_dk (j : ℕ) : (R.pair t).kSum 16 j l = R.dk j (128 * t + l) := by
  unfold Block.kSum Block.kAdd
  rw [Block.sum_steps fun a i => (R.pair t).ds a i j * (Block.sel a l ((R.pair t).q i l) * (1 / 8))]
  refine Finset.sum_congr rfl fun i _ => ?_
  have h := pick hl fun a => (R.pair t).ds a i j * ((R.pair t).q i l * (1 / 8))
  have e : ∀ a, (R.pair t).ds a i j * (Block.sel a l ((R.pair t).q i l) * (1 / 8)) = Block.sel a l ((R.pair t).ds a i j * ((R.pair t).q i l * (1 / 8))) := fun a => by
    unfold Block.sel; split <;> simp
  simp only [e]
  rw [h, R.pair_ds (by omega), show (128 * t + l) / 64 = 2 * t + l / 64 by omega]
  show _ * (R.a i (128 * t + l) * (1 / 8)) = _
  ring

theorem pair_dv (j : ℕ) : (R.pair t).vSum 16 j l = R.dv j (128 * t + l) := by
  unfold Block.vSum Block.vAdd
  have e : ∀ a b : ℕ, Block.sel a l (∑ r : Fin 256, (R.pair t).p a (b + r) j * (R.pair t).g (b + r) l)
      = ∑ r : Fin 256, Block.sel a l ((R.pair t).p a (b + r) j * (R.pair t).g (b + r) l) := fun a b => by
    unfold Block.sel; split <;> simp
  simp only [e]
  rw [Block.sum_steps fun a i => Block.sel a l ((R.pair t).p a i j * (R.pair t).g i l)]
  refine Finset.sum_congr rfl fun i _ => ?_
  rw [pick hl fun a => (R.pair t).p a i j * (R.pair t).g i l, R.pair_p (by omega), show (128 * t + l) / 64 = 2 * t + l / 64 by omega]
  exact mul_comm _ _

omit hl

theorem pair_dcq {e : ℕ} (he : e < 2) (i : ℕ) : (R.pair t).dcq e i = R.dcq (2 * t + e) i :=
  Finset.sum_congr rfl fun j _ => R.pair_ds he t i j

theorem pair_dck {e : ℕ} (he : e < 2) (j : ℕ) : (R.pair t).cSum 16 e j = R.dck (2 * t + e) j := by
  unfold Block.cSum Block.cAdd dck
  have h : ∀ a b : ℕ, (if e = a then ∑ r : Fin 256, (R.pair t).ds a (b + r) j else 0)
      = ∑ r : Fin 256, (if e = a then (R.pair t).ds a (b + r) j else 0) := fun a b => by
    split <;> simp
  simp only [h]
  rw [Block.sum_steps fun a i => if e = a then (R.pair t).ds a i j else 0, zero_sub, ← Finset.sum_neg_distrib]
  refine Finset.sum_congr rfl fun i _ => ?_
  rw [← R.pair_ds he]
  have h : e = 0 ∨ e = 1 := by omega
  rcases h with rfl | rfl <;> simp

end Raw

end Cert.Proof.Fox
-- ==== Proof.Consts.lean ====
/-
  The words of the programs' literals as real numbers.
-/
module

public import Idealize.ShloMosaic.PureOps.Ideal.Laws

@[expose] public section

namespace Cert.Proof

open Idealize.ShloMosaic

theorem word_zero : Ideal.ofBits .f32 0x00000000#32 = ((0 : ℝ) : EReal) := by simp [Ideal.ofBits, Ideal.ieee]
theorem word_zero_half : Ideal.ofBits .bf16 0x0000#16 = ((0 : ℝ) : EReal) := by simp [Ideal.ofBits, Ideal.ieee]
theorem word_one : Ideal.ofBits .f32 0x3F800000#32 = ((1 : ℝ) : EReal) := by
  simp [Ideal.ofBits, Ideal.ieee, -EReal.coe_mul]; norm_num
theorem word_eighth : Ideal.ofBits .f32 0x3E000000#32 = ((1 / 8 : ℝ) : EReal) := by
  simp [Ideal.ofBits, Ideal.ieee, -EReal.coe_mul]; norm_num
theorem word_eighth_half : Ideal.ofBits .bf16 0x3E00#16 = ((1 / 8 : ℝ) : EReal) := by
  simp [Ideal.ofBits, Ideal.ieee, -EReal.coe_mul]; norm_num
theorem word_neg_inf : Ideal.ofBits .f32 0xFF800000#32 = ⊥ := by simp [Ideal.ofBits, Ideal.ieee]
theorem word_inf : Ideal.ofBits .f32 0x7F800000#32 = ⊤ := by simp [Ideal.ofBits, Ideal.ieee]

end Cert.Proof
-- ==== Proof.RefRead.lean ====
/-
  The reference read from its arguments when they hold numbers: the logits, their exponentials less the row's largest entry,
  the exponentials' sums, the probabilities and the attention's output.
-/
module

public import proofs.«01_k».proof.Proof.Gen.ReferenceIdeal.Read
public import proofs.«01_k».proof.Proof.Spec
public import proofs.«01_k».proof.Proof.Consts
public import Idealize.ShloMosaic.Lib.KernelVsHost

@[expose] public section

set_option maxRecDepth 16384

noncomputable section

namespace Cert.Proof.Fox

open Cert.ReferenceIdeal Cert.ReferenceIdeal.Gen Cert.ReferenceIdeal.Read
open Idealize.ShloMosaic Idealize.ShloMosaic.ValueIdx
open scoped BigOperators

/-- Arguments whose entries are the numbers of `R`. -/
structure Raw.Holds (R : Raw) (x0 : (⟨S2048x3072, .f32⟩ : BufTy).Contents (Elt Ideal)) (x1 : (⟨S2048x16, .f32⟩ : BufTy).Contents (Elt Ideal))
    (x2 : (⟨S2048x1024, .f32⟩ : BufTy).Contents (Elt Ideal)) : Prop where
  a : ∀ i, (x0 i : EReal) = ((R.a (i 0).val (i 1).val : ℝ) : EReal)
  c : ∀ i, (x1 i : EReal) = ((R.c (i 0).val (i 1).val : ℝ) : EReal)
  g : ∀ i, (x2 i : EReal) = ((R.g (i 0).val (i 1).val : ℝ) : EReal)

namespace Raw.Holds

variable {R : Raw} {x0 : (⟨S2048x3072, .f32⟩ : BufTy).Contents (Elt Ideal)} {x1 : (⟨S2048x16, .f32⟩ : BufTy).Contents (Elt Ideal)}
  {x2 : (⟨S2048x1024, .f32⟩ : BufTy).Contents (Elt Ideal)} (H : R.Holds x0 x1 x2)

include H

theorem q (i : S2048x16x64.Idx) : (val_main_v2 (F := Ideal) x0 i : EReal) = ((R.a (i 0).val (64 * (i 1).val + (i 2).val) : ℝ) : EReal) := by
  rw [val_main_v2_apply, val_main_v1_apply, val_main_v0_apply, H.a]
  have h1 : (i 1).val < 16 := (i 1).isLt
  have h2 : (i 2).val < 64 := (i 2).isLt
  have e0 : (idx_main_v2 i 0).val = (i 0).val := by show (((i 0).val * 16 + (i 1).val) * 64 + (i 2).val) / 1024 = _; omega
  have e2 : (idx_main_v2 i 2).val = (i 1).val := by show (((i 0).val * 16 + (i 1).val) * 64 + (i 2).val) / 64 % 16 = _; omega
  have e3 : (idx_main_v2 i 3).val = (i 2).val := by show (((i 0).val * 16 + (i 1).val) * 64 + (i 2).val) % 64 = _; omega
  refine congrArg _ (congrArg₂ R.a ?_ ?_)
  · show ((((idx_main_v2 i 0).val * 3 + 0) * 16 + (idx_main_v2 i 2).val) * 64 + (idx_main_v2 i 3).val) / 3072 = _
    rw [e0, e2, e3]; omega
  · show ((((idx_main_v2 i 0).val * 3 + 0) * 16 + (idx_main_v2 i 2).val) * 64 + (idx_main_v2 i 3).val) % 3072 = _
    rw [e0, e2, e3]; omega

theorem k (i : S2048x16x64.Idx) : (val_main_v4 (F := Ideal) x0 i : EReal) = ((R.a (i 0).val (1024 + 64 * (i 1).val + (i 2).val) : ℝ) : EReal) := by
  rw [val_main_v4_apply, val_main_v3_apply, val_main_v0_apply, H.a]
  have h1 : (i 1).val < 16 := (i 1).isLt
  have h2 : (i 2).val < 64 := (i 2).isLt
  have e0 : (idx_main_v4 i 0).val = (i 0).val := by show (((i 0).val * 16 + (i 1).val) * 64 + (i 2).val) / 1024 = _; omega
  have e2 : (idx_main_v4 i 2).val = (i 1).val := by show (((i 0).val * 16 + (i 1).val) * 64 + (i 2).val) / 64 % 16 = _; omega
  have e3 : (idx_main_v4 i 3).val = (i 2).val := by show (((i 0).val * 16 + (i 1).val) * 64 + (i 2).val) % 64 = _; omega
  refine congrArg _ (congrArg₂ R.a ?_ ?_)
  · show ((((idx_main_v4 i 0).val * 3 + (1 + 0)) * 16 + (idx_main_v4 i 2).val) * 64 + (idx_main_v4 i 3).val) / 3072 = _
    rw [e0, e2, e3]; omega
  · show ((((idx_main_v4 i 0).val * 3 + (1 + 0)) * 16 + (idx_main_v4 i 2).val) * 64 + (idx_main_v4 i 3).val) % 3072 = _
    rw [e0, e2, e3]; omega

theorem v (i : S2048x16x64.Idx) : (val_main_v6 (F := Ideal) x0 i : EReal) = ((R.a (i 0).val (2048 + 64 * (i 1).val + (i 2).val) : ℝ) : EReal) := by
  rw [val_main_v6_apply, val_main_v5_apply, val_main_v0_apply, H.a]
  have h1 : (i 1).val < 16 := (i 1).isLt
  have h2 : (i 2).val < 64 := (i 2).isLt
  have e0 : (idx_main_v6 i 0).val = (i 0).val := by show (((i 0).val * 16 + (i 1).val) * 64 + (i 2).val) / 1024 = _; omega
  have e2 : (idx_main_v6 i 2).val = (i 1).val := by show (((i 0).val * 16 + (i 1).val) * 64 + (i 2).val) / 64 % 16 = _; omega
  have e3 : (idx_main_v6 i 3).val = (i 2).val := by show (((i 0).val * 16 + (i 1).val) * 64 + (i 2).val) % 64 = _; omega
  refine congrArg _ (congrArg₂ R.a ?_ ?_)
  · show ((((idx_main_v6 i 0).val * 3 + (2 + 0)) * 16 + (idx_main_v6 i 2).val) * 64 + (idx_main_v6 i 3).val) / 3072 = _
    rw [e0, e2, e3]; omega
  · show ((((idx_main_v6 i 0).val * 3 + (2 + 0)) * 16 + (idx_main_v6 i 2).val) * 64 + (idx_main_v6 i 3).val) % 3072 = _
    rw [e0, e2, e3]; omega

/-- The outputs' cotangents, head by head. -/
theorem co (i : S16x64x2048.Idx) : (val_main_v60 (F := Ideal) x2 i : EReal) = ((R.g (i 2).val (64 * (i 0).val + (i 1).val) : ℝ) : EReal) := by
  rw [val_main_v60_apply, val_main_v59_apply, H.g]
  have h0 : (i 0).val < 16 := (i 0).isLt
  have h1 : (i 1).val < 64 := (i 1).isLt
  refine congrArg _ (congrArg₂ R.g ?_ ?_)
  · show (((i 2).val * 16 + (i 0).val) * 64 + (i 1).val) / 1024 = _; omega
  · show (((i 2).val * 16 + (i 0).val) * 64 + (i 1).val) % 1024 = _; omega

/-- The logits before the mask. -/
theorem logit (i : S16x2048x2048.Idx) : (val_main_v17 (F := Ideal) x0 x1 i : EReal) = ((R.s (i 0).val (i 1).val (i 2).val : ℝ) : EReal) := by
  have e : (val_main_v7 (F := Ideal) x0 i : EReal) = ((∑ d : Fin 64, R.a (i 1).val (64 * (i 0).val + d) * R.a (i 2).val (1024 + 64 * (i 0).val + d) : ℝ) : EReal) := by
    rw [val_main_v7_apply, ← coe_sum]
    refine Finset.sum_congr rfl fun d _ => ?_
    rw [H.q, H.k, EReal.coe_mul]
  have e8 : (val_main_v8 (F := Ideal) i : EReal) = ((1 / 8 : ℝ) : EReal) := by
    rw [val_main_v8_apply, val_main_cst_apply]; exact word_eighth
  have e14 : (val_main_v14 (F := Ideal) x1 i : EReal) = ((R.c (i 1).val (i 0).val : ℝ) : EReal) := by
    rw [val_main_v14_apply, val_main_v11_apply, val_main_v10_apply, H.c]
  have e15 : (val_main_v15 (F := Ideal) x1 i : EReal) = ((R.c (i 2).val (i 0).val : ℝ) : EReal) := by
    rw [val_main_v15_apply, val_main_v13_apply, val_main_v12_apply, H.c]
  rw [val_main_v17_apply, val_main_v9_apply, val_main_v16_apply]
  show ((val_main_v7 (F := Ideal) x0 i : EReal) * (val_main_v8 (F := Ideal) i : EReal)) + ((val_main_v14 (F := Ideal) x1 i : EReal) - (val_main_v15 (F := Ideal) x1 i : EReal)) = _
  rw [e, e8, e14, e15, ← EReal.coe_mul, ← EReal.coe_sub, ← EReal.coe_add]
  rfl

omit H in
/-- The mask keeps the columns up to the row. -/
theorem keep (i : S16x2048x2048.Idx) : val_main_v25 (F := Ideal) i = if (i 2).val ≤ (i 1).val then 1#1 else 0#1 := by
  rw [val_main_v25_apply, val_main_v24_apply, val_main_v22_apply, val_main_v23_apply, val_main_v19_apply, val_main_v21_apply,
    val_main_v18_apply, val_main_v20_apply]
  show IntOp.cmpi .sle (BitVec.ofNat 32 (i 2).val) (BitVec.ofNat 32 (i 1).val) = _
  have h1 : (i 1).val < 2048 := (i 1).isLt
  have h2 : (i 2).val < 2048 := (i 2).isLt
  have t : ∀ n : ℕ, n < 2048 → (BitVec.ofNat 32 n).toInt = n := fun n hn => by
    rw [BitVec.toInt_ofNat', Int.bmod_eq_of_le] <;> omega
  have e : (BitVec.ofNat 32 (i 2).val).sle (BitVec.ofNat 32 (i 1).val) = decide ((i 2).val ≤ (i 1).val) := by
    rw [BitVec.sle, t _ h1, t _ h2]; exact decide_eq_decide.2 Int.ofNat_le
  show BitVec.ofBool ((BitVec.ofNat 32 (i 2).val).sle (BitVec.ofNat 32 (i 1).val)) = _
  rw [e]
  by_cases h : (i 2).val ≤ (i 1).val <;> simp [h]

/-- The masked logits. -/
theorem masked (i : S16x2048x2048.Idx) :
    (val_main_v27 (F := Ideal) x0 x1 i : EReal) = if (i 2).val ≤ (i 1).val then ((R.s (i 0).val (i 1).val (i 2).val : ℝ) : EReal) else ⊥ := by
  rw [val_main_v27_apply, keep]
  split
  · rw [select_one, H.logit]
  · rw [select_zero, val_main_v26_apply, val_main_cst_0_apply]; exact word_neg_inf

/-- A row's largest masked logit is a number. -/
theorem largest (i : S16x2048.Idx) : ∃ M : ℝ, (val_main_v36 (F := Ideal) x0 x1 i : EReal) = (M : EReal) := by
  have hr : S16x2048x2048.Reduces [2] S16x2048 := by decide
  have e29 : (val_main_v29 (F := Ideal) x0 x1 i : EReal)
      = (Finset.univ : Finset (Fin 2048)).fold max (⊥ : EReal) fun k => (val_main_v27 (F := Ideal) x0 x1 (idx_main_v50 i k) : EReal) := by
    have h := congrFun (hostReduce_maximumf_eq_multiReduction (F := Ideal) (φ := .f32) (val_main_v27 (F := Ideal) x0 x1) 0xFF800000#32 reducesTo_S16x2048x2048_S16x2048_d2
      h_S_ hr (.inl rfl) rfl) i
    refine (show val_main_v29 (F := Ideal) x0 x1 i = _ from h).trans ?_
    refine (Ideal.multiReduction_maximumf_single (φ := .f32) (val_main_v27 (F := Ideal) x0 x1) 0xFF800000#32 hr (.inl rfl) rfl i).trans ?_
    refine congrArg₂ (fun b f => (Finset.univ : Finset (Fin 2048)).fold max (b : EReal) f) word_neg_inf (funext fun k => ?_)
    exact congrArg (val_main_v27 (F := Ideal) x0 x1) (funext fun a => Fin.ext (by match a with | ⟨0, _⟩ => rfl | ⟨1, _⟩ => rfl | ⟨2, _⟩ => rfl))
  obtain ⟨M, hM⟩ := row_max (n := 2048) (i 1).isLt (fun j => R.s (i 0).val (i 1).val j)
    (fun k => (val_main_v27 (F := Ideal) x0 x1 (idx_main_v50 i k) : EReal)) (fun k => H.masked (idx_main_v50 i k))
  refine ⟨M, ?_⟩
  rw [val_main_v36_apply, val_main_v35_apply, val_main_cst_4_apply]
  show max (Ideal.ofBits .f32 0xFF800000#32) (val_main_v29 (F := Ideal) x0 x1 i : EReal) = _
  rw [e29, hM, word_neg_inf, max_eq_right bot_le]

theorem exists_largest : ∃ M : ℕ → ℕ → ℝ, ∀ i : S16x2048.Idx, (val_main_v36 (F := Ideal) x0 x1 i : EReal) = ((M (i 0).val (i 1).val : ℝ) : EReal) := by
  choose m hm using fun i => H.largest i
  refine ⟨fun h q => if b : h < 16 ∧ q < 2048 then m (ix2 ⟨h, b.1⟩ ⟨q, b.2⟩) else 0, fun i => ?_⟩
  rw [hm i]
  refine congrArg _ ?_
  beta_reduce
  rw [dif_pos ⟨(i 0).isLt, (i 1).isLt⟩]
  exact congrArg m (funext fun a => Fin.ext (by match a with | ⟨0, _⟩ => rfl | ⟨1, _⟩ => rfl))

/-- An exponential of row `q` of head `h`, less the number `M`. -/
def _root_.Cert.Proof.Fox.Raw.e (R : Raw) (M : ℕ → ℕ → ℝ) (h i j : ℕ) : ℝ := if j ≤ i then Real.exp (R.s h i j - M h i) else 0
/-- The row's sum of them. -/
def _root_.Cert.Proof.Fox.Raw.l (R : Raw) (M : ℕ → ℕ → ℝ) (h i : ℕ) : ℝ := ∑ x ∈ Finset.range (i + 1), Real.exp (R.s h i x - M h i)

omit H in
theorem _root_.Cert.Proof.Fox.Raw.l_pos (M : ℕ → ℕ → ℝ) (h i : ℕ) : 0 < R.l M h i := sum_exp_pos i fun x => R.s h i x - M h i
omit H in
theorem _root_.Cert.Proof.Fox.Raw.e_div_l (M : ℕ → ℕ → ℝ) (h i j : ℕ) : R.e M h i j / R.l M h i = R.p h i j := prob_shift (R.s h) i j (M h i)

variable {M : ℕ → ℕ → ℝ} (hM : ∀ i : S16x2048.Idx, (val_main_v36 (F := Ideal) x0 x1 i : EReal) = ((M (i 0).val (i 1).val : ℝ) : EReal))

include hM

theorem exps (i : S16x2048x2048.Idx) : (val_main_v49 (F := Ideal) x0 x1 i : EReal) = ((R.e M (i 0).val (i 1).val (i 2).val : ℝ) : EReal) := by
  rw [val_main_v49_apply, val_main_v48_apply, val_main_v47_apply, val_main_v46_apply]
  show Ideal.exp ((val_main_v27 (F := Ideal) x0 x1 i : EReal) - (val_main_v36 (F := Ideal) x0 x1 (idx_main_v46 (idx_main_v47 i)) : EReal)) = _
  rw [hM, H.masked]
  show Ideal.exp (_ - ((M (i 0).val (i 1).val : ℝ) : EReal)) = _
  unfold Raw.e
  split
  · rw [← EReal.coe_sub, Ideal.exp_coe]
  · rw [EReal.bot_sub, Ideal.exp_bot, EReal.coe_zero]

theorem total (i : S16x2048.Idx) : (val_main_v50 (F := Ideal) x0 x1 i : EReal) = ((R.l M (i 0).val (i 1).val : ℝ) : EReal) := by
  rw [val_main_v50_apply, val_main_cst_10_apply, Finset.sum_congr rfl fun k _ => H.exps hM (idx_main_v50 i k)]
  show Ideal.ofBits .f32 0x00000000#32 + ∑ k : Fin 2048, ((R.e M (i 0).val (i 1).val k.val : ℝ) : EReal) = _
  rw [word_zero, coe_sum, ← EReal.coe_add, zero_add]
  exact congrArg _ (sum_fin_le (n := 2048) (i 1).isLt fun x => Real.exp (R.s (i 0).val (i 1).val x - M (i 0).val (i 1).val))

omit H hM in
/-- A quotient by a positive number. -/
theorem _root_.Cert.Proof.Fox.div_real (x : ℝ) {y : ℝ} (hy : 0 < y) : Ideal.div (x : EReal) (y : EReal) = ((x / y : ℝ) : EReal) := by
  rw [Ideal.div_coe hy.ne', ← EReal.coe_mul, mul_one_div]

theorem prob_apply (i : S16x2048x2048.Idx) : (val_main_v53 (F := Ideal) x0 x1 i : EReal) = ((R.p (i 0).val (i 1).val (i 2).val : ℝ) : EReal) := by
  rw [val_main_v53_apply, val_main_v52_apply, val_main_v51_apply]
  show Ideal.div (val_main_v49 (F := Ideal) x0 x1 i : EReal) (val_main_v50 (F := Ideal) x0 x1 (idx_main_v51 (idx_main_v52 i)) : EReal) = _
  rw [H.exps hM, H.total hM]
  show Ideal.div _ ((R.l M (i 0).val (i 1).val : ℝ) : EReal) = _
  rw [div_real _ (R.l_pos M _ _), R.e_div_l]

/-- The attention's output. -/
theorem out_apply (i : S2048x16x64.Idx) : (val_main_v58 (F := Ideal) x0 x1 i : EReal) = ((R.out (i 0).val (64 * (i 1).val + (i 2).val) : ℝ) : EReal) := by
  rw [val_main_v58_apply, val_main_v57_apply]
  have h2 : (i 2).val < 64 := (i 2).isLt
  have e : ∀ k : Fin 2048, (val_main_v6 (F := Ideal) x0 (lidx_main_v57 (idx_main_v58 i) k) : EReal) * (val_main_v53 (F := Ideal) x0 x1 (ridx_main_v57 (idx_main_v58 i) k) : EReal)
      = (((if k.val ≤ (i 0).val then R.p (i 1).val (i 0).val k.val * R.a k.val (2048 + (64 * (i 1).val + (i 2).val)) else 0 : ℝ)) : EReal) := fun k => by
    rw [H.v, H.prob_apply hM, ← EReal.coe_mul]
    refine congrArg _ ?_
    show R.a k.val (2048 + 64 * (i 1).val + (i 2).val) * R.p (i 1).val (i 0).val k.val = _
    rw [mul_comm, ← Nat.add_assoc]
    split
    · rfl
    · rw [show R.p (i 1).val (i 0).val k.val = 0 from prob_eq_zero (by omega), zero_mul]
  rw [Finset.sum_congr rfl fun k _ => e k, coe_sum]
  refine congrArg _ ?_
  rw [sum_fin_le (n := 2048) (i 0).isLt fun x => R.p (i 1).val (i 0).val x * R.a x (2048 + (64 * (i 1).val + (i 2).val))]
  unfold Raw.out
  rw [show (64 * (i 1).val + (i 2).val) / 64 = (i 1).val by omega]

end Raw.Holds

end Cert.Proof.Fox
-- ==== Proof.RefValue.lean ====
/-
  The reference's five results when its arguments hold numbers: the gradients of the forgetting attention.
-/
module

public import proofs.«01_k».proof.Proof.RefRead

@[expose] public section

set_option maxRecDepth 16384

noncomputable section

namespace Cert.Proof.Fox.Raw

open scoped BigOperators

variable (R : Raw)

/-- The gradient through the quotient, with the exponentials and their sum, is the gradient through the probabilities. -/
theorem through_quotient (M : ℕ → ℕ → ℝ) (h i j : ℕ) :
    (R.dp h i j / R.l M h i + (0 + -(0 + ∑ x ∈ Finset.range (i + 1), R.dp h i x * (1 / (R.l M h i * R.l M h i)) * R.e M h i x))) * R.e M h i j = R.ds h i j := by
  have hl := (R.l_pos M h i).ne'
  have he : ∀ x, R.e M h i x = R.p h i x * R.l M h i := fun x => by rw [← R.e_div_l M h i x, div_mul_cancel₀ _ hl]
  have hm : ∑ x ∈ Finset.range (i + 1), R.dp h i x * (1 / (R.l M h i * R.l M h i)) * R.e M h i x = R.mean h i / R.l M h i := by
    unfold mean
    rw [Finset.sum_div]
    refine Finset.sum_congr rfl fun x _ => ?_
    rw [he]; field_simp
  rw [hm, he, ds]
  field_simp
  ring

theorem e_eq_zero (M : ℕ → ℕ → ℝ) {h i j : ℕ} (hj : i < j) : R.e M h i j = 0 := if_neg (by omega)
theorem ds_eq_zero {h i j : ℕ} (hj : i < j) : R.ds h i j = 0 := by
  rw [ds, p, prob_eq_zero hj, zero_mul]

/-- A sum over `Fin n` of what vanishes past `i`. -/
theorem sum_past {n i : ℕ} (hi : i < n) (f : ℕ → ℝ) (hf : ∀ j, i < j → f j = 0) : ∑ j : Fin n, f j = ∑ j ∈ Finset.range (i + 1), f j := by
  rw [← sum_fin_le hi f]
  refine Finset.sum_congr rfl fun j _ => ?_
  split
  · rfl
  · exact hf _ (by omega)

end Cert.Proof.Fox.Raw

namespace Cert.Proof.Fox.Raw.Holds

open Cert.ReferenceIdeal Cert.ReferenceIdeal.Gen Cert.ReferenceIdeal.Read
open Idealize.ShloMosaic Idealize.ShloMosaic.ValueIdx
open scoped BigOperators

variable {R : Raw} {x0 : (⟨S2048x3072, .f32⟩ : BufTy).Contents (Elt Ideal)} {x1 : (⟨S2048x16, .f32⟩ : BufTy).Contents (Elt Ideal)}
  {x2 : (⟨S2048x1024, .f32⟩ : BufTy).Contents (Elt Ideal)} (H : R.Holds x0 x1 x2)

include H

/-- The probabilities' cotangent. -/
theorem dp_apply (i : S16x2048x2048.Idx) : (val_main_v61 (F := Ideal) x0 x2 i : EReal) = ((R.dp (i 0).val (i 1).val (i 2).val : ℝ) : EReal) := by
  rw [val_main_v61_apply]
  unfold Raw.dp
  rw [← coe_sum]
  refine Finset.sum_congr rfl fun d _ => ?_
  rw [H.co, H.v, EReal.coe_mul]

variable {M : ℕ → ℕ → ℝ} (hM : ∀ i : S16x2048.Idx, (val_main_v36 (F := Ideal) x0 x1 i : EReal) = ((M (i 0).val (i 1).val : ℝ) : EReal))

include hM

/-- What the quotient's denominator passes back. -/
theorem through_total (i : S16x2048.Idx) : (val_main_v67 (F := Ideal) x0 x1 x2 i : EReal)
    = ((0 + ∑ x ∈ Finset.range ((i 1).val + 1), R.dp (i 0).val (i 1).val x * (1 / (R.l M (i 0).val (i 1).val * R.l M (i 0).val (i 1).val)) * R.e M (i 0).val (i 1).val x : ℝ) : EReal) := by
  have hl := R.l_pos M (i 0).val (i 1).val
  have e : ∀ k : Fin 2048, (val_main_v66 (F := Ideal) x0 x1 x2 (idx_main_v67 i k) : EReal)
      = ((R.dp (i 0).val (i 1).val k.val * (1 / (R.l M (i 0).val (i 1).val * R.l M (i 0).val (i 1).val)) * R.e M (i 0).val (i 1).val k.val : ℝ) : EReal) := fun k => by
    rw [val_main_v66_apply, val_main_v65_apply, val_main_v64_apply, val_main_v56_apply, val_main_v55_apply, val_main_cst_11_apply,
      val_main_v54_apply, val_main_v51_apply]
    show ((val_main_v61 (F := Ideal) x0 x2 (idx_main_v67 i k) : EReal) * Ideal.div (Ideal.ofBits .f32 0x3F800000#32)
      ((val_main_v50 (F := Ideal) x0 x1 (idx_main_v51 (idx_main_v64 (idx_main_v67 i k))) : EReal) * (val_main_v50 (F := Ideal) x0 x1 (idx_main_v51 (idx_main_v64 (idx_main_v67 i k))) : EReal)))
      * (val_main_v49 (F := Ideal) x0 x1 (idx_main_v67 i k) : EReal) = _
    rw [H.dp_apply, H.total hM, H.exps hM, word_one]
    show (_ * Ideal.div _ (((R.l M (i 0).val (i 1).val : ℝ) : EReal) * ((R.l M (i 0).val (i 1).val : ℝ) : EReal))) * _ = _
    rw [← EReal.coe_mul, div_real _ (mul_pos hl hl), ← EReal.coe_mul, ← EReal.coe_mul]
  rw [val_main_v67_apply, val_main_cst_12_apply, Finset.sum_congr rfl fun k _ => e k, coe_sum]
  show Ideal.ofBits .f32 0x00000000#32 + _ = _
  rw [word_zero, ← EReal.coe_add]
  refine congrArg (fun t : ℝ => ((0 + t : ℝ) : EReal)) ?_
  exact sum_past (n := 2048) (i 1).isLt (fun x => R.dp (i 0).val (i 1).val x * (1 / (R.l M (i 0).val (i 1).val * R.l M (i 0).val (i 1).val)) * R.e M (i 0).val (i 1).val x)
    fun j hj => by rw [R.e_eq_zero M hj, mul_zero]

/-- The logits' cotangent. -/
theorem ds_apply (i : S16x2048x2048.Idx) : (val_main_v77 (F := Ideal) x0 x1 x2 i : EReal) = ((R.ds (i 0).val (i 1).val (i 2).val : ℝ) : EReal) := by
  have h0 : (i 0).val < 16 := (i 0).isLt
  have h1 : (i 1).val < 2048 := (i 1).isLt
  have hl := R.l_pos M (i 0).val (i 1).val
  have e73 : (val_main_v73 (F := Ideal) x0 x1 x2 i : EReal) = ((0 + -(0 + ∑ x ∈ Finset.range ((i 1).val + 1),
      R.dp (i 0).val (i 1).val x * (1 / (R.l M (i 0).val (i 1).val * R.l M (i 0).val (i 1).val)) * R.e M (i 0).val (i 1).val x) : ℝ) : EReal) := by
    rw [val_main_v73_apply, val_main_v72_apply, Fin.sum_univ_one, val_main_cst_13_apply, val_main_v69_apply, val_main_v68_apply]
    show Ideal.ofBits .f32 0x00000000#32 + -(val_main_v67 (F := Ideal) x0 x1 x2 (idx_main_v68 (idx_main_v72 (idx_main_v73 i) 0)) : EReal) = _
    have a0 : (idx_main_v68 (idx_main_v72 (idx_main_v73 i) 0) 0).val = (i 0).val := by
      show (((i 0).val * 2048 + (i 1).val) * 1 + 0) / 2048 = _; omega
    have a1 : (idx_main_v68 (idx_main_v72 (idx_main_v73 i) 0) 1).val = (i 1).val := by
      show (((i 0).val * 2048 + (i 1).val) * 1 + 0) % 2048 = _; omega
    rw [H.through_total hM, a0, a1, word_zero, ← EReal.coe_neg, ← EReal.coe_add]
  rw [val_main_v77_apply, keep]
  split
  · rw [select_one, val_main_v75_apply, val_main_v74_apply, val_main_v71_apply, val_main_v70_apply, val_main_v51_apply]
    show (Ideal.div (val_main_v61 (F := Ideal) x0 x2 i : EReal) (val_main_v50 (F := Ideal) x0 x1 (idx_main_v51 (idx_main_v70 i)) : EReal)
      + (val_main_v73 (F := Ideal) x0 x1 x2 i : EReal)) * (val_main_v49 (F := Ideal) x0 x1 i : EReal) = _
    rw [e73, H.dp_apply, H.total hM, H.exps hM]
    show (Ideal.div _ ((R.l M (i 0).val (i 1).val : ℝ) : EReal) + _) * _ = _
    rw [div_real _ hl, ← EReal.coe_add, ← EReal.coe_mul, R.through_quotient]
  · rw [select_zero, val_main_v76_apply, val_main_cst_14_apply]
    show Ideal.ofBits .f32 0x00000000#32 = _
    rw [word_zero, R.ds_eq_zero (by omega)]

/-- The logits' cotangent times the scale. -/
theorem scaled_apply (i : S16x2048x2048.Idx) : (val_main_v88 (F := Ideal) x0 x1 x2 i : EReal) = ((R.ds (i 0).val (i 1).val (i 2).val * (1 / 8) : ℝ) : EReal) := by
  rw [val_main_v88_apply, val_main_v87_apply, val_main_cst_19_apply]
  show (val_main_v77 (F := Ideal) x0 x1 x2 i : EReal) * Ideal.ofBits .f32 0x3E000000#32 = _
  rw [H.ds_apply hM, word_eighth, ← EReal.coe_mul]

theorem dq_apply (i : S2048x1024.Idx) : (val_main_v94 (F := Ideal) x0 x1 x2 i : EReal) = ((R.dq (i 0).val (i 1).val : ℝ) : EReal) := by
  have h1 : (i 1).val < 1024 := (i 1).isLt
  have a0 : (idx_main_v93 i 0).val = (i 0).val := by show ((i 0).val * 1024 + (i 1).val) / 1024 = _; omega
  have a1 : (idx_main_v93 i 1).val = (i 1).val / 64 := by show ((i 0).val * 1024 + (i 1).val) / 64 % 16 = _; omega
  have a2 : (idx_main_v93 i 2).val = (i 1).val % 64 := by show ((i 0).val * 1024 + (i 1).val) % 64 = _; omega
  rw [val_main_v94_apply]
  show (val_main_v93 (F := Ideal) x0 x1 x2 i : EReal) = _
  rw [val_main_v93_apply, val_main_v92_apply, val_main_v91_apply]
  unfold Raw.dq
  rw [← Fin.sum_univ_eq_sum_range (fun j => R.ds ((i 1).val / 64) (i 0).val j * (1 / 8) * R.a j (1024 + (i 1).val)) 2048, ← coe_sum]
  refine Finset.sum_congr rfl fun j _ => ?_
  rw [H.scaled_apply hM, H.k, ← EReal.coe_mul]
  show (((R.ds (idx_main_v93 i 1).val (idx_main_v93 i 0).val j.val * (1 / 8)) * R.a j.val (1024 + 64 * (idx_main_v93 i 1).val + (idx_main_v93 i 2).val) : ℝ) : EReal) = _
  rw [a0, a1, a2, show 1024 + 64 * ((i 1).val / 64) + (i 1).val % 64 = 1024 + (i 1).val by omega]

theorem dk_apply (i : S2048x1024.Idx) : (val_main_v96 (F := Ideal) x0 x1 x2 i : EReal) = ((R.dk (i 0).val (i 1).val : ℝ) : EReal) := by
  have h1 : (i 1).val < 1024 := (i 1).isLt
  have a0 : (idx_main_v95 i 0).val = (i 0).val := by show ((i 0).val * 1024 + (i 1).val) / 1024 = _; omega
  have a1 : (idx_main_v95 i 1).val = (i 1).val / 64 := by show ((i 0).val * 1024 + (i 1).val) / 64 % 16 = _; omega
  have a2 : (idx_main_v95 i 2).val = (i 1).val % 64 := by show ((i 0).val * 1024 + (i 1).val) % 64 = _; omega
  rw [val_main_v96_apply]
  show (val_main_v95 (F := Ideal) x0 x1 x2 i : EReal) = _
  rw [val_main_v95_apply, val_main_v90_apply, val_main_v89_apply]
  unfold Raw.dk
  rw [← Fin.sum_univ_eq_sum_range (fun j => R.ds ((i 1).val / 64) j (i 0).val * (1 / 8) * R.a j (i 1).val) 2048, ← coe_sum]
  refine Finset.sum_congr rfl fun j _ => ?_
  rw [H.scaled_apply hM, H.q, ← EReal.coe_mul]
  show (((R.ds (idx_main_v95 i 1).val j.val (idx_main_v95 i 0).val * (1 / 8)) * R.a j.val (64 * (idx_main_v95 i 1).val + (idx_main_v95 i 2).val) : ℝ) : EReal) = _
  rw [a0, a1, a2, show 64 * ((i 1).val / 64) + (i 1).val % 64 = (i 1).val by omega]

theorem dv_apply (i : S2048x1024.Idx) : (val_main_v98 (F := Ideal) x0 x1 x2 i : EReal) = ((R.dv (i 0).val (i 1).val : ℝ) : EReal) := by
  have h1 : (i 1).val < 1024 := (i 1).isLt
  have a0 : (idx_main_v97 i 0).val = (i 0).val := by show ((i 0).val * 1024 + (i 1).val) / 1024 = _; omega
  have a1 : (idx_main_v97 i 1).val = (i 1).val / 64 := by show ((i 0).val * 1024 + (i 1).val) / 64 % 16 = _; omega
  have a2 : (idx_main_v97 i 2).val = (i 1).val % 64 := by show ((i 0).val * 1024 + (i 1).val) % 64 = _; omega
  rw [val_main_v98_apply]
  show (val_main_v97 (F := Ideal) x0 x1 x2 i : EReal) = _
  rw [val_main_v97_apply, val_main_v63_apply, val_main_v62_apply]
  unfold Raw.dv
  rw [← Fin.sum_univ_eq_sum_range (fun j => R.g j (i 1).val * R.p ((i 1).val / 64) j (i 0).val) 2048, ← coe_sum]
  refine Finset.sum_congr rfl fun j _ => ?_
  rw [H.co, H.prob_apply hM, ← EReal.coe_mul]
  show ((R.g j.val (64 * (idx_main_v97 i 1).val + (idx_main_v97 i 2).val) * R.p (idx_main_v97 i 1).val j.val (idx_main_v97 i 0).val : ℝ) : EReal) = _
  rw [a0, a1, a2, show 64 * ((i 1).val / 64) + (i 1).val % 64 = (i 1).val by omega]

theorem dcq_apply (i : S8x2048x2.Idx) : (val_main_v100 (F := Ideal) x0 x1 x2 i : EReal) = ((R.dcq (2 * (i 0).val + (i 2).val) (i 1).val : ℝ) : EReal) := by
  have h0 : (i 0).val < 8 := (i 0).isLt
  have h1 : (i 1).val < 2048 := (i 1).isLt
  have h2 : (i 2).val < 2 := (i 2).isLt
  have a0 : (idx_main_v99 (idx_main_v100 i) 0).val = (i 1).val := by show (((i 1).val * 8 + (i 0).val) * 2 + (i 2).val) / 16 = _; omega
  have a1 : (idx_main_v99 (idx_main_v100 i) 1).val = 2 * (i 0).val + (i 2).val := by show (((i 1).val * 8 + (i 0).val) * 2 + (i 2).val) % 16 = _; omega
  rw [val_main_v100_apply, val_main_v99_apply, val_main_v86_apply, val_main_v85_apply, Fin.sum_univ_one, val_main_cst_18_apply, val_main_v79_apply,
    val_main_v78_apply, val_main_cst_15_apply]
  generalize hn : idx_main_v99 (idx_main_v100 i) = n at a0 a1
  have b0 : (idx_main_v79 (idx_main_v85 (idx_main_v86 n) 0) 0).val = (n 1).val := by
    have : (n 0).val < 2048 := (n 0).isLt
    show (((n 1).val * 2048 + (n 0).val) * 1 + 0) / 2048 = _; omega
  have b1 : (idx_main_v79 (idx_main_v85 (idx_main_v86 n) 0) 1).val = (n 0).val := by
    have : (n 0).val < 2048 := (n 0).isLt
    show (((n 1).val * 2048 + (n 0).val) * 1 + 0) % 2048 = _; omega
  show Ideal.ofBits .f32 0x00000000#32 + (Ideal.ofBits .f32 0x00000000#32 + ∑ k : Fin 2048, _) = _
  rw [Finset.sum_congr rfl fun k _ => H.ds_apply hM (idx_main_v78 (idx_main_v79 (idx_main_v85 (idx_main_v86 n) 0)) k)]
  show _ + (_ + ∑ k : Fin 2048, ((R.ds (idx_main_v79 (idx_main_v85 (idx_main_v86 n) 0) 0).val (idx_main_v79 (idx_main_v85 (idx_main_v86 n) 0) 1).val k.val : ℝ) : EReal)) = _
  rw [b0, b1, a0, a1, coe_sum, word_zero, ← EReal.coe_add, ← EReal.coe_add, zero_add, zero_add,
    Fin.sum_univ_eq_sum_range (fun j => R.ds (2 * (i 0).val + (i 2).val) (i 1).val j) 2048]
  rfl

theorem dck_apply (i : S8x2x2048.Idx) : (val_main_v102 (F := Ideal) x0 x1 x2 i : EReal) = ((R.dck (2 * (i 0).val + (i 1).val) (i 2).val : ℝ) : EReal) := by
  have h0 : (i 0).val < 8 := (i 0).isLt
  have h1 : (i 1).val < 2 := (i 1).isLt
  have h2 : (i 2).val < 2048 := (i 2).isLt
  have a0 : (idx_main_v102 i 0).val = 2 * (i 0).val + (i 1).val := by show (((i 0).val * 2 + (i 1).val) * 2048 + (i 2).val) / 2048 = _; omega
  have a1 : (idx_main_v102 i 1).val = (i 2).val := by show (((i 0).val * 2 + (i 1).val) * 2048 + (i 2).val) % 2048 = _; omega
  rw [val_main_v102_apply, val_main_v101_apply, val_main_v84_apply, val_main_v83_apply, Fin.sum_univ_one, val_main_cst_17_apply, val_main_v82_apply,
    val_main_v81_apply, val_main_cst_16_apply]
  generalize hn : idx_main_v102 i = n at a0 a1
  have b0 : (idx_main_v82 (idx_main_v83 (idx_main_v84 (idx_main_v101 n)) 0) 0).val = (n 0).val := by
    have : (n 1).val < 2048 := (n 1).isLt
    show (((n 0).val * 1 + 0) * 2048 + (n 1).val) / 2048 = _; omega
  have b1 : (idx_main_v82 (idx_main_v83 (idx_main_v84 (idx_main_v101 n)) 0) 1).val = (n 1).val := by
    have : (n 1).val < 2048 := (n 1).isLt
    show (((n 0).val * 1 + 0) * 2048 + (n 1).val) % 2048 = _; omega
  have e : ∀ k : Fin 2048, (val_main_v80 (F := Ideal) x0 x1 x2 (idx_main_v81 (idx_main_v82 (idx_main_v83 (idx_main_v84 (idx_main_v101 n)) 0)) k) : EReal)
      = ((-R.ds (2 * (i 0).val + (i 1).val) k.val (i 2).val : ℝ) : EReal) := fun k => by
    rw [val_main_v80_apply]
    show -(val_main_v77 (F := Ideal) x0 x1 x2 _ : EReal) = _
    rw [H.ds_apply hM]
    show -((R.ds (idx_main_v82 (idx_main_v83 (idx_main_v84 (idx_main_v101 n)) 0) 0).val k.val (idx_main_v82 (idx_main_v83 (idx_main_v84 (idx_main_v101 n)) 0) 1).val : ℝ) : EReal) = _
    rw [b0, b1, a0, a1, EReal.coe_neg]
  show Ideal.ofBits .f32 0x00000000#32 + (Ideal.ofBits .f32 0x00000000#32 + ∑ k : Fin 2048, _) = _
  rw [Finset.sum_congr rfl fun k _ => e k, coe_sum, word_zero, ← EReal.coe_add, ← EReal.coe_add, zero_add, zero_add,
    Fin.sum_univ_eq_sum_range (fun j => -R.ds (2 * (i 0).val + (i 1).val) j (i 2).val) 2048]
  rfl

end Cert.Proof.Fox.Raw.Holds
-- ==== Proof.Contract.lean ====
/-
  Products of matrices over the extended reals, read at an entry: the three ways the kernels contract, as sums over numbers,
  and how such a sum grows when the contraction is taken in chunks. Addition of extended reals is commutative and
  associative, so nothing is asked of the entries.
-/
module

public import Idealize.ShloMosaic.Lib.MatmulPlain
public import Idealize.ShloMosaic.Lib.Pipeline.Value
public import Idealize.ShloMosaic.Lib.ValueIdx
public import Idealize.ShloMosaic.Lib.ValueLayout
public import Idealize.ShloMosaic.PureOps.Ideal.Laws

@[expose] public section

set_option maxRecDepth 16384

noncomputable section

namespace Cert.Proof

open Idealize.ShloMosaic Idealize.ShloMosaic.ValueIdx
open scoped BigOperators

/-- A matrix of `a` rows and `b` columns. -/
abbrev Mat (a b : ℕ) : Shape := ⟨2, ![a, b]⟩
/-- One matrix of `a` rows and `b` columns under a unit axis. -/
abbrev Box (a b : ℕ) : Shape := ⟨3, ![1, a, b]⟩

/-- The same under two unit axes. -/
abbrev Box2 (a b : ℕ) : Shape := ⟨4, ![1, 1, a, b]⟩

/-- The product of a transposed matrix `[k, m]` with `[k, n]`: both contract their rows. -/
def tn (k m n : ℕ) (h : 0 < m ∧ 0 < n) : DotDims (Mat k m) (Mat k n) (Mat m n) where
  lhsContracting := [0]
  rhsContracting := [0]
  lhsNonContracting := [1]
  rhsNonContracting := [1]
  lhsBatch := []
  rhsBatch := []
  wf := ⟨rfl, by simp, rfl, by simp, by simp, by simp,
    (by decide : ([] ++ [1] ++ [0] : List (Fin 2)).Perm (List.finRange 2)),
    (by decide : ([] ++ [1] ++ [0] : List (Fin 2)).Perm (List.finRange 2)), rfl, by show 0 < 2; decide,
    fun a => by fin_cases a <;> rfl⟩

theorem tn_rank (k m n : ℕ) (h : 0 < m ∧ 0 < n) : (tn k m n h).contr.rank = 1 := rfl
theorem tn_size (k m n : ℕ) (h : 0 < m ∧ 0 < n) : (tn k m n h).contr.size ⟨0, by rw [tn_rank]; exact Nat.one_pos⟩ = k := rfl

theorem tn_apply {k m n : ℕ} (h : 0 < m ∧ 0 < n) {φ₁ φ₂ : FTy} (x : FVec Ideal (Mat k m) φ₁) (y : FVec Ideal (Mat k n) φ₂)
    (acc : FVec Ideal (Mat m n) .f32) (i : Fin m) (j : Fin n) :
    (matmul (tn k m n h) none x y acc (ix2 i j) : EReal) = (acc (ix2 i j) : EReal) + ∑ r : Fin k, (x (ix2 r i) : EReal) * (y (ix2 r j) : EReal) := by
  refine (Ideal.matmul_apply (tn k m n h) none x y acc (ix2 i j)).trans (congrArg (acc (ix2 i j) + ·) ?_)
  rw [← Equiv.sum_comp (contrEquiv1 _ k (tn_rank k m n h) (tn_size k m n h)).symm]
  refine Finset.sum_congr rfl fun r _ => congrArg₂ (fun u v : EReal => u * v) (congrArg x ?_) (congrArg y ?_)
  all_goals
    funext c; apply Fin.ext
    have e := contrEquiv1_symm_val _ k (tn_rank k m n h) (tn_size k m n h) r
    match c with
    | ⟨0, _⟩ => exact e
    | ⟨1, _⟩ => rfl

/-! ### Places in a block -/

/-- An index in block `a` of `n`, in the array. -/
theorem at_block {w a n v : ℕ} (h : w = a) : w * n + 1 * v = n * a + v := by subst h; rw [one_mul, mul_comm]
/-- An index in the one block along an axis. -/
theorem at_whole {w n v : ℕ} (h : w = 0) : w * n + 1 * v = v := by subst h; omega

/-! ### Entries by number -/

/-- The entry of a matrix at row `i` and column `j`; zero outside. -/
def entry {a b : ℕ} (x : (Mat a b).Idx → EReal) (i j : ℕ) : EReal := if h : i < a ∧ j < b then x (ix2 ⟨i, h.1⟩ ⟨j, h.2⟩) else 0

theorem entry_idx {a b : ℕ} (x : (Mat a b).Idx → EReal) (y : (Mat a b).Idx) : entry x (y 0).val (y 1).val = x y := by
  unfold entry
  rw [dif_pos ⟨(y 0).isLt, (y 1).isLt⟩]
  congr 1; funext c
  match c with
  | ⟨0, _⟩ => rfl
  | ⟨1, _⟩ => rfl

/-- A matrix at an index, by the index's two numbers. -/
theorem eq_entry {a b : ℕ} (x : (Mat a b).Idx → EReal) (y : (Mat a b).Idx) {i j : ℕ} (hi : (y 0).val = i) (hj : (y 1).val = j) :
    x y = entry x i j := by
  subst hi hj; exact (entry_idx x y).symm

/-- The matrix under a unit axis. -/
theorem unbox_apply {α : Type} {a b : ℕ} (x : (Box a b).Idx → α) (w : (Box a b).ShapeCasts (Mat a b)) (i : Fin a) (j : Fin b) :
    shapeCast (Mat a b) x w (ix2 i j) = x (ix3 0 i j) :=
  shapeCast_apply x w _ _ (by
    rw [Shape.rowMajor_val_two, Shape.rowMajor_val_three]
    show (0 * a + i.val) * b + j.val = i.val * b + j.val
    rw [Nat.zero_mul, Nat.zero_add])

/-- The matrix under two unit axes. -/
theorem unbox2_apply {α : Type} {a b : ℕ} (x : (Box2 a b).Idx → α) (w : (Box2 a b).ShapeCasts (Mat a b)) (i : Fin a) (j : Fin b) :
    shapeCast (Mat a b) x w (ix2 i j) = x (ix4 0 0 i j) :=
  shapeCast_apply x w _ _ (by
    rw [Shape.rowMajor_val_two, Shape.rowMajor_val_four]
    show ((0 * 1 + 0) * a + i.val) * b + j.val = i.val * b + j.val
    simp only [Nat.zero_mul, Nat.zero_add])

/-- Putting a matrix under a unit axis. -/
theorem box_apply {α : Type} {a b : ℕ} (x : (Mat a b).Idx → α) (w : (Mat a b).ShapeCasts (Box a b)) (i : Fin a) (j : Fin b) :
    shapeCast (Box a b) x w (ix3 0 i j) = x (ix2 i j) :=
  shapeCast_apply x w _ _ (by
    rw [Shape.rowMajor_val_two, Shape.rowMajor_val_three]
    show i.val * b + j.val = (0 * a + i.val) * b + j.val
    rw [Nat.zero_mul, Nat.zero_add])

/-- Putting a matrix under two unit axes. -/
theorem box2_apply {α : Type} {a b : ℕ} (x : (Mat a b).Idx → α) (w : (Mat a b).ShapeCasts (Box2 a b)) (i : Fin a) (j : Fin b) :
    shapeCast (Box2 a b) x w (ix4 0 0 i j) = x (ix2 i j) :=
  shapeCast_apply x w _ _ (by
    rw [Shape.rowMajor_val_two, Shape.rowMajor_val_four]
    show i.val * b + j.val = ((0 * 1 + 0) * a + i.val) * b + j.val
    simp only [Nat.zero_mul, Nat.zero_add])

/-! ### Sums of products -/

/-- The sum of the products of the first `n` terms. -/
def upTo (f g : ℕ → EReal) (n : ℕ) : EReal := ∑ k ∈ Finset.range n, f k * g k

theorem upTo_fin (f g : ℕ → EReal) (n : ℕ) : upTo f g n = ∑ k : Fin n, f k.val * g k.val :=
  Finset.sum_range fun k => f k * g k

theorem upTo_swap (f g : ℕ → EReal) (n : ℕ) : upTo f g n = upTo g f n :=
  Finset.sum_congr rfl fun _ _ => mul_comm _ _

/-- The next `d` terms. -/
theorem upTo_add (f g : ℕ → EReal) (n d : ℕ) : upTo f g (n + d) = upTo f g n + upTo (fun k => f (n + k)) (fun k => g (n + k)) d :=
  Finset.sum_range_add _ n d

/-- Rows against columns. -/
theorem nn_upTo {M K N : ℕ} {φ₁ φ₂ : FTy} (x : FVec Ideal (Mat M K) φ₁) (y : FVec Ideal (Mat K N) φ₂) (i : Fin M) (j : Fin N)
    (f g : ℕ → EReal) (hx : ∀ k : Fin K, x (ix2 i k) = f k.val) (hy : ∀ k : Fin K, y (ix2 k j) = g k.val) :
    (matmul (DotDims.plain M K N) none x y (constant (Mat M N) .f32 0x00000000#32) (ix2 i j) : EReal) = upTo f g K := by
  refine (Ideal.matmul_plain_apply none x y _ i j).trans ?_
  rw [upTo_fin]
  refine (congrArg (· + _) Ideal.ofBits_zero_f32).trans ((zero_add _).trans ?_)
  exact Finset.sum_congr rfl fun k _ => congrArg₂ (fun u v : EReal => u * v) (hx k) (hy k)

/-- Rows against rows. -/
theorem nt_upTo {M K N : ℕ} {φ₁ φ₂ : FTy} (x : FVec Ideal (Mat M K) φ₁) (y : FVec Ideal (Mat N K) φ₂) (i : Fin M) (j : Fin N)
    (f g : ℕ → EReal) (hx : ∀ k : Fin K, x (ix2 i k) = f k.val) (hy : ∀ k : Fin K, y (ix2 j k) = g k.val) :
    (matmul (DotDims.transposedRhs M K N) none x y (constant (Mat M N) .f32 0x00000000#32) (ix2 i j) : EReal) = upTo f g K := by
  refine (Ideal.matmul_transposedRhs_apply none x y _ i j).trans ?_
  rw [upTo_fin]
  refine (congrArg (· + _) Ideal.ofBits_zero_f32).trans ((zero_add _).trans ?_)
  exact Finset.sum_congr rfl fun k _ => congrArg₂ (fun u v : EReal => u * v) (hx k) (hy k)

/-- Columns against columns. -/
theorem tn_upTo {M K N : ℕ} {φ₁ φ₂ : FTy} (h : 0 < M ∧ 0 < N) (x : FVec Ideal (Mat K M) φ₁) (y : FVec Ideal (Mat K N) φ₂) (i : Fin M) (j : Fin N)
    (f g : ℕ → EReal) (hx : ∀ k : Fin K, x (ix2 k i) = f k.val) (hy : ∀ k : Fin K, y (ix2 k j) = g k.val) :
    (matmul (tn K M N h) none x y (constant (Mat M N) .f32 0x00000000#32) (ix2 i j) : EReal) = upTo f g K := by
  refine (tn_apply h x y _ i j).trans ?_
  rw [upTo_fin]
  refine (congrArg (· + _) Ideal.ofBits_zero_f32).trans ((zero_add _).trans ?_)
  exact Finset.sum_congr rfl fun k _ => congrArg₂ (fun u v : EReal => u * v) (hx k) (hy k)

/-! ### Zero offsets -/

theorem zero2 : (![0, 0] : Fin 2 → ℕ) = fun _ => 0 := funext fun a => by fin_cases a <;> rfl
theorem zero3 : (![0, 0, 0] : Fin 3 → ℕ) = fun _ => 0 := funext fun a => by fin_cases a <;> rfl
theorem zero4 : (![0, 0, 0, 0] : Fin 4 → ℕ) = fun _ => 0 := funext fun a => by fin_cases a <;> rfl

end Cert.Proof

end
-- ==== Proof.Stage.lean ====
/-
  The stages of the kernel's body, named once for every prefix length. At query block rows `b … b + 255` and for one of
  the two heads that share a block of 128 lanes the kernel forms the scores against the `n = b + 256` keys that can be
  visible, masks the last 256 columns below the diagonal, takes the softmax, and from it the five gradients. The printed
  body spells this out sixteen times at different lengths; here each intermediate value is one function of the ones
  before it, at any length.
-/
module

public import proofs.«01_k».proof.Proof.Gen.KernelIdeal.Value
public import proofs.«01_k».proof.Proof.Contract
public import Idealize.ShloMosaic.Lib.MatmulPlain

@[expose] public section

set_option maxRecDepth 16384

noncomputable section

namespace Cert.Proof.Fox

open Idealize.ShloMosaic

/-- A vector of `a` entries. -/
abbrev Row (a : ℕ) : Shape := ⟨1, ![a]⟩

/-- The shape conditions of one step at `n` keys. -/
structure Fits (n : ℕ) : Prop where
  sameK : (Mat n 128).ShapeCasts (Mat n 128)
  sameQ : (Mat 256 128).ShapeCasts (Mat 256 128)
  castQ : (Box 256 1).ShapeCasts (Mat 256 1)
  castK : (Box 1 n).ShapeCasts (Mat 1 n)
  backQ : (Mat 256 1).ShapeCasts (Box 256 1)
  backK : (Mat 1 n).ShapeCasts (Box 1 n)
  overCols : (Mat 256 1).Broadcasts (Mat 256 n)
  overRows : (Mat 1 n).Broadcasts (Mat 256 n)
  alongRow : (Mat 256 n).Reduces [1] (Row 256)
  alongCol : (Mat 256 n).Reduces [0] (Row n)
  alongLane : (Mat 256 128).Reduces [1] (Row 256)
  asCol : (Row 256).ShapeCasts (Mat 256 1)
  asRow : (Row n).ShapeCasts (Mat 1 n)
  iotaR : (Mat 256 256).Iotas .tc 32 [0]
  iotaC : (Mat 256 256).Iotas .tc 32 [1]
  pos : 0 < n

/-- The shape conditions of splitting `n` columns at `b`, 256 before the end. -/
structure Splits (b n : ℕ) : Prop where
  left : (Mat 256 n).Slices ![0, 0] (Mat 256 b)
  right : (Mat 256 n).Slices ![0, b] (Mat 256 256)
  join : Shape.Concatenates [Mat 256 b, Mat 256 256] (Mat 256 n) 1

variable {F : FTy → Type} [FloatOps F] [Named F] {n : ℕ} (h : Fits n)

/-- The head's lanes of the query block, the rest zero, times the scale. -/
def qSel (mk : IVec (Mat 256 128) 1) (q : Vec F (Mat 256 128) .bf16) : FVec F (Mat 256 128) .bf16 :=
  mulf (select mk (shapeCast (Mat 256 128) q h.sameQ) (broadcast (Mat 256 128) (Scalar.ofBits .bf16 0x0000#16)))
    (broadcast (Mat 256 128) (Scalar.ofBits .bf16 0x3E00#16))

/-- The scores with the difference of the gates' sums. -/
def scores (q : FVec F (Mat 256 128) .bf16) (k : Vec F (Mat n 128) .bf16) (cq : Vec F (Box 256 1) .f32) (ck : Vec F (Box 1 n) .f32) :
    FVec F (Mat 256 n) .f32 :=
  addf (matmul (DotDims.transposedRhs 256 128 n) none q (shapeCast (Mat n 128) k h.sameK) (constant (Mat 256 n) .f32 0x00000000#32))
    (subf (broadcastTo (Mat 256 n) (shapeCast (Mat 256 1) cq h.castQ) h.overCols)
      (broadcastTo (Mat 256 n) (shapeCast (Mat 1 n) ck h.castK) h.overRows))

/-- Below or on the diagonal of a square block. -/
def tri : IVec (Mat 256 256) 1 := cmpi .sle (iota .tc (Mat 256 256) 32 [1] h.iotaC) (iota .tc (Mat 256 256) 32 [0] h.iotaR)

/-- The mask on a square block. -/
def maskSquare (s : FVec F (Mat 256 256) .f32) : FVec F (Mat 256 256) .f32 :=
  select (tri h) s (broadcast (Mat 256 256) (Named.named Cert.KernelIdeal.κ "mask" 0xF149F2CA#32))

/-- The mask on the last 256 columns. -/
def maskLast {b : ℕ} (w : Splits b n) (s : FVec F (Mat 256 n) .f32) : FVec F (Mat 256 n) .f32 :=
  concatenate (Mat 256 n) 1 [⟨Mat 256 b, extractStridedSlice (Mat 256 b) ![0, 0] s w.left⟩,
    ⟨Mat 256 256, maskSquare h (extractStridedSlice (Mat 256 256) ![0, b] s w.right)⟩] w.join

/-- The exponentials of the masked scores less their row's largest. -/
def expo (s : FVec F (Mat 256 n) .f32) : FVec F (Mat 256 n) .f32 :=
  exp (subf s (broadcastTo (Mat 256 n)
    (shapeCast (Mat 256 1) (multiReduction .maximumf [1] (Row 256) s 0xFF800000#32 h.alongRow (.inl rfl) rfl) h.asCol) h.overCols))

/-- The probabilities: the exponentials times the reciprocal of their row's sum. -/
def probs (e : FVec F (Mat 256 n) .f32) : FVec F (Mat 256 n) .f32 :=
  mulf e (broadcastTo (Mat 256 n) (divf (broadcast (Mat 256 1) (Scalar.ofBits .f32 0x3F800000#32))
    (shapeCast (Mat 256 1) (multiReduction .add [1] (Row 256) e 0x00000000#32 h.alongRow (.inl rfl) rfl) h.asCol)) h.overCols)

/-- The probabilities' cotangent: the output's cotangent against the values. -/
def dprob (mk : IVec (Mat 256 128) 1) (g : FVec F (Mat 256 128) .bf16) (v : Vec F (Mat n 128) .bf16) : FVec F (Mat 256 n) .f32 :=
  matmul (DotDims.transposedRhs 256 128 n) none (select mk g (broadcast (Mat 256 128) (Scalar.ofBits .bf16 0x0000#16)))
    (shapeCast (Mat n 128) v h.sameK) (constant (Mat 256 n) .f32 0x00000000#32)

/-- Each row's sum over the head's lanes of the cotangent times the output. -/
def delta (mk : IVec (Mat 256 128) 1) (dd : FVec F (Mat 256 128) .f32) : FVec F (Mat 256 1) .f32 :=
  shapeCast (Mat 256 1) (multiReduction .add [1] (Row 256) (select mk dd (broadcast (Mat 256 128) (Scalar.ofBits .f32 0x00000000#32)))
    0x00000000#32 h.alongLane (.inl rfl) rfl) h.asCol

/-- The scores' cotangent. -/
def dscore (p dp : FVec F (Mat 256 n) .f32) (dl : FVec F (Mat 256 1) .f32) : FVec F (Mat 256 n) .f32 :=
  mulf p (subf dp (broadcastTo (Mat 256 n) dl h.overCols))

/-- The gradient of the query's gate sums: the cotangent's row sums. -/
def dcq (ds : FVec F (Mat 256 n) .f32) : FVec F (Box 256 1) .f32 :=
  shapeCast (Box 256 1) (shapeCast (Mat 256 1) (multiReduction .add [1] (Row 256) ds 0x00000000#32 h.alongRow (.inl rfl) rfl) h.asCol) h.backQ

/-- The gradient of the keys' gate sums: the cotangent's column sums off what is there. -/
def dck (ds : FVec F (Mat 256 n) .f32) (old : Vec F (Box 1 n) .f32) : FVec F (Box 1 n) .f32 :=
  shapeCast (Box 1 n) (subf (shapeCast (Mat 1 n) old h.castK)
    (shapeCast (Mat 1 n) (multiReduction .add [0] (Row n) ds 0x00000000#32 h.alongCol (.inl rfl) rfl) h.asRow)) h.backK

/-- One head's gradient of the queries, over all 128 lanes. -/
def dq (ds : FVec F (Mat 256 n) .f32) (k : Vec F (Mat n 128) .bf16) : FVec F (Mat 256 128) .f32 :=
  mulf (matmul (DotDims.plain 256 n 128) none (truncf .bf16 ds Cert.KernelIdeal.Facts₀.bitsLt_bf16_f32) (shapeCast (Mat n 128) k h.sameK)
    (constant (Mat 256 128) .f32 0x00000000#32)) (broadcast (Mat 256 128) (Scalar.ofBits .f32 0x3E000000#32))

/-- The gradient of the keys added onto what is there. -/
def dk (ds : FVec F (Mat 256 n) .f32) (q : FVec F (Mat 256 128) .bf16) (old : Vec F (Mat n 128) .f32) : FVec F (Mat n 128) .f32 :=
  shapeCast (Mat n 128) (addf old (matmul (tn 256 n 128 ⟨h.pos, by decide⟩) none (truncf .bf16 ds Cert.KernelIdeal.Facts₀.bitsLt_bf16_f32) q
    (constant (Mat n 128) .f32 0x00000000#32))) h.sameK

/-- The gradient of the values, on the head's lanes, added onto what is there. -/
def dv (mkn : IVec (Mat n 128) 1) (p : FVec F (Mat 256 n) .f32) (g : FVec F (Mat 256 128) .bf16) (old : Vec F (Mat n 128) .f32) :
    FVec F (Mat n 128) .f32 :=
  shapeCast (Mat n 128) (addf old (select mkn (matmul (tn 256 n 128 ⟨h.pos, by decide⟩) none (truncf .bf16 p Cert.KernelIdeal.Facts₀.bitsLt_bf16_f32) g
    (constant (Mat n 128) .f32 0x00000000#32)) (broadcast (Mat n 128) (Scalar.ofBits .f32 0x00000000#32)))) h.sameK

/-- What one step loads: the query block's rows and the keys' prefix of each argument. -/
structure Loads (F : FTy → Type) (n : ℕ) where
  q : Vec F (Mat 256 128) .bf16
  k : Vec F (Mat n 128) .bf16
  v : Vec F (Mat n 128) .bf16
  o : Vec F (Mat 256 128) .f32
  g : Vec F (Mat 256 128) .f32
  cq : Vec F (Box 256 1) .f32
  ck : Vec F (Box 1 n) .f32

namespace Loads

variable (L : Loads F n) (mask : FVec F (Mat 256 n) .f32 → FVec F (Mat 256 n) .f32) (mk : IVec (Mat 256 128) 1)

/-- The output's cotangent as the products read it. -/
def gb : FVec F (Mat 256 128) .bf16 := truncf .bf16 L.g Cert.KernelIdeal.Facts₀.bitsLt_bf16_f32

/-- The step's probabilities. -/
def p : FVec F (Mat 256 n) .f32 := probs h (expo h (mask (scores h (qSel h mk L.q) L.k L.cq L.ck)))

/-- The step's cotangent of the scores. -/
def ds : FVec F (Mat 256 n) .f32 :=
  dscore h (L.p h mask mk) (dprob h mk L.gb L.v) (delta h mk (mulf L.g (shapeCast (Mat 256 128) L.o h.sameQ)))

end Loads

/-- The rectangles of step (b, a) lie inside the arrays. -/
structure At (b n a : ℕ) : Prop where
  rows : ∀ x, (![b, 0] : Fin 2 → ℕ) x + (Mat 256 128).size x ≤ (Mat 2048 128).size x
  pre : ∀ x, (![0, 0] : Fin 2 → ℕ) x + (Mat n 128).size x ≤ (Mat 2048 128).size x
  colQ : ∀ x, (![0, b, a] : Fin 3 → ℕ) x + (Box 256 1).size x ≤ (Box 2048 2).size x
  rowK : ∀ x, (![0, a, 0] : Fin 3 → ℕ) x + (Box 1 n).size x ≤ (Box 2 2048).size x

section Words

open Cert.KernelIdeal

variable {b a : ℕ} (w : At b n a)
  (arg1 : Memref sig .tc .vmem S2048x128 .bf16) (harg1 : arg1.IsWhole) (arg2 : Memref sig .tc .vmem S2048x128 .bf16) (harg2 : arg2.IsWhole)
  (arg3 : Memref sig .tc .vmem S2048x128 .bf16) (harg3 : arg3.IsWhole) (arg4 : Memref sig .tc .vmem S2048x128 .f32) (harg4 : arg4.IsWhole)
  (arg5 : Memref sig .tc .vmem S2048x128 .f32) (harg5 : arg5.IsWhole) (arg6 : Memref sig .tc .vmem S1x2048x2 .f32) (harg6 : arg6.IsWhole)
  (arg7 : Memref sig .tc .vmem S1x2x2048 .f32) (harg7 : arg7.IsWhole)
  (x0 : Vec F S2048x128 .bf16) (x1 : Vec F S2048x128 .bf16) (x2 : Vec F S2048x128 .bf16) (x3 : Vec F S2048x128 .f32) (x4 : Vec F S2048x128 .f32)
  (x5 : Vec F S1x2048x2 .f32) (x6 : Vec F S1x2x2048 .f32)

/-- The loads of step (b, a) off the staged blocks. -/
def loads : Loads F n where
  q := View.readAt (Elt F) arg1.view (Rect.unit (s := S2048x128) ![b, 0] (Mat 256 128).size w.rows).toLoadRect (harg1.unread x0)
  k := View.readAt (Elt F) arg2.view (Rect.unit (s := S2048x128) ![0, 0] (Mat n 128).size w.pre).toLoadRect (harg2.unread x1)
  v := View.readAt (Elt F) arg3.view (Rect.unit (s := S2048x128) ![0, 0] (Mat n 128).size w.pre).toLoadRect (harg3.unread x2)
  o := View.readAt (Elt F) arg4.view (Rect.unit (s := S2048x128) ![b, 0] (Mat 256 128).size w.rows).toLoadRect (harg4.unread x3)
  g := View.readAt (Elt F) arg5.view (Rect.unit (s := S2048x128) ![b, 0] (Mat 256 128).size w.rows).toLoadRect (harg5.unread x4)
  cq := View.readAt (Elt F) arg6.view (Rect.unit (s := S1x2048x2) ![0, b, a] (Box 256 1).size w.colQ).toLoadRect (harg6.unread x5)
  ck := View.readAt (Elt F) arg7.view (Rect.unit (s := S1x2x2048) ![0, a, 0] (Box 1 n).size w.rowK).toLoadRect (harg7.unread x6)

end Words

/-- The first head's lanes of a matrix of 128 lanes. -/
def lo (m : ℕ) (i : (Mat m 128).Iotas .tc 32 [1]) : IVec (Mat m 128) 1 :=
  cmpi .slt (iota .tc (Mat m 128) 32 [1] i) (broadcast (Mat m 128) 64#32)

/-- The second head's lanes. -/
def hi (m : ℕ) (i : (Mat m 128).Iotas .tc 32 [1]) : IVec (Mat m 128) 1 :=
  cmpi .sge (iota .tc (Mat m 128) 32 [1] i) (broadcast (Mat m 128) 64#32)

end Cert.Proof.Fox
-- ==== Proof.StageValue.lean ====
/-
  The stages read at an index over the extended reals, at any number of keys: when the loads are real numbers, so is every
  stage, and it is the quantity of Block.lean that its name says.
-/
module

public import proofs.«01_k».proof.Proof.Stage
public import proofs.«01_k».proof.Proof.Block
public import proofs.«01_k».proof.Proof.Consts
public import Idealize.ShloMosaic.Lib.ValueLayout
public import Idealize.ShloMosaic.Lib.ValueIdx
public import Idealize.ShloMosaic.Lib.Pipeline.Value
public import Idealize.ShloMosaic.PureOps.IdealRules

@[expose] public section

set_option maxRecDepth 16384

noncomputable section

namespace Cert.Proof.Fox

open Idealize.ShloMosaic Idealize.ShloMosaic.ValueIdx
open scoped BigOperators

/-! ### Layout -/

/-- A column `[a, 1]` out of a vector `[a]`. -/
theorem asCol_apply {α : Type} {a : ℕ} (x : (Row a).Idx → α) (w : (Row a).ShapeCasts (Mat a 1)) (i : Fin a) (u : Fin 1) :
    shapeCast (Mat a 1) x w (ix2 i u) = x (ix1 i) :=
  shapeCast_apply x w _ _ (by
    rw [Shape.rowMajor_val_two, Shape.rowMajor_val_one]
    show i.val = i.val * 1 + u.val
    omega)

/-- A column laid along a matrix. -/
theorem overCols_apply {α : Type} {a b : ℕ} (ha : a ≠ 1) (x : (Mat a 1).Idx → α) (w : (Mat a 1).Broadcasts (Mat a b)) (i : Fin a) (j : Fin b) :
    broadcastTo (Mat a b) x w (ix2 i j) = x (ix2 i 0) :=
  broadcastTo_apply x w _ _ fun c => match c with
    | ⟨0, _⟩ => (if_neg ha).symm
    | ⟨1, _⟩ => rfl

/-- A row laid along a matrix. -/
theorem overRows_apply {α : Type} {a b : ℕ} (hb : b ≠ 1) (x : (Mat 1 b).Idx → α) (w : (Mat 1 b).Broadcasts (Mat a b)) (i : Fin a) (j : Fin b) :
    broadcastTo (Mat a b) x w (ix2 i j) = x (ix2 0 j) :=
  broadcastTo_apply x w _ _ fun c => match c with
    | ⟨0, _⟩ => rfl
    | ⟨1, _⟩ => (if_neg hb).symm

/-! ### Reductions -/

theorem rowSum_apply {a b : ℕ} (x : FVec Ideal (Mat a b) .f32) (w : (Mat a b).Reduces [1] (Row a)) (i : Fin a) :
    (multiReduction .add [1] (Row a) x 0x00000000#32 w (.inl rfl) rfl (ix1 i) : EReal) = ∑ j : Fin b, (x (ix2 i j) : EReal) :=
  (Ideal.multiReduction_add_single x _ w (.inl rfl) rfl (ix1 i)).trans
    (Finset.sum_congr rfl fun j _ => congrArg x (by funext c; apply Fin.ext; match c with | ⟨0, _⟩ => rfl | ⟨1, _⟩ => rfl))

theorem colSum_apply {a b : ℕ} (x : FVec Ideal (Mat a b) .f32) (w : (Mat a b).Reduces [0] (Row b)) (j : Fin b) :
    (multiReduction .add [0] (Row b) x 0x00000000#32 w (.inl rfl) rfl (ix1 j) : EReal) = ∑ i : Fin a, (x (ix2 i j) : EReal) :=
  (Ideal.multiReduction_add_single x _ w (.inl rfl) rfl (ix1 j)).trans
    (Finset.sum_congr rfl fun i _ => congrArg x (by funext c; apply Fin.ext; match c with | ⟨0, _⟩ => rfl | ⟨1, _⟩ => rfl))

theorem rowMax_apply {a b : ℕ} (x : FVec Ideal (Mat a b) .f32) (w : (Mat a b).Reduces [1] (Row a)) (i : Fin a) :
    (multiReduction .maximumf [1] (Row a) x 0xFF800000#32 w (.inl rfl) rfl (ix1 i) : EReal)
      = (Finset.univ : Finset (Fin b)).fold max ⊥ (fun j => (x (ix2 i j) : EReal)) := by
  refine (Ideal.multiReduction_maximumf_single x _ w (.inl rfl) rfl (ix1 i)).trans ?_
  refine congrArg₂ (fun z f => (Finset.univ : Finset (Fin b)).fold max z f) word_neg_inf (funext fun j => congrArg x ?_)
  funext c; apply Fin.ext; match c with | ⟨0, _⟩ => rfl | ⟨1, _⟩ => rfl

/-! ### What the loads and masks say -/

/-- The loads of block `b`, head `a`, are `D`'s numbers. -/
structure Reads {n : ℕ} (D : Block) (L : Loads Ideal n) (b a : ℕ) : Prop where
  q : ∀ (r : Fin 256) (l : Fin 128), (L.q (ix2 r l) : EReal) = ((D.q (b + r) l : ℝ) : EReal)
  k : ∀ (j : Fin n) (l : Fin 128), (L.k (ix2 j l) : EReal) = ((D.k j l : ℝ) : EReal)
  v : ∀ (j : Fin n) (l : Fin 128), (L.v (ix2 j l) : EReal) = ((D.v j l : ℝ) : EReal)
  o : ∀ (r : Fin 256) (l : Fin 128), (L.o (ix2 r l) : EReal) = ((D.o (b + r) l : ℝ) : EReal)
  g : ∀ (r : Fin 256) (l : Fin 128), (L.g (ix2 r l) : EReal) = ((D.g (b + r) l : ℝ) : EReal)
  cq : ∀ r : Fin 256, (L.cq (ix3 0 r 0) : EReal) = ((D.c (b + r) a : ℝ) : EReal)
  ck : ∀ j : Fin n, (L.ck (ix3 0 0 j) : EReal) = ((D.c j a : ℝ) : EReal)

/-- A mask of head `a`'s lanes. -/
def Side {m : ℕ} (mk : IVec (Mat m 128) 1) (a : ℕ) : Prop := ∀ (r : Fin m) (l : Fin 128), mk (ix2 r l) = if l.val / 64 = a then 1#1 else 0#1

/-- The causal mask of the rows from `b` on. -/
def Masks {n : ℕ} (mask : FVec Ideal (Mat 256 n) .f32 → FVec Ideal (Mat 256 n) .f32) (b : ℕ) : Prop :=
  ∀ (s : FVec Ideal (Mat 256 n) .f32) (r : Fin 256) (j : Fin n), (mask s (ix2 r j) : EReal) = if j.val ≤ b + r.val then (s (ix2 r j) : EReal) else ⊥

theorem lo_side {m : ℕ} (i : (Mat m 128).Iotas .tc 32 [1]) : Side (lo m i) 0 := fun r l =>
  (show lo m i (ix2 r l) = _ from congrArg (fun z => Scalar.cmpi .slt z 64#32) (iota_single_apply .tc (Mat m 128) 32 1 i (ix2 r l))).trans
    ((by decide +kernel : ∀ l : Fin 128, Scalar.cmpi .slt (BitVec.ofNat 32 l.val) 64#32 = if l.val / 64 = 0 then 1#1 else 0#1) l)

theorem hi_side {m : ℕ} (i : (Mat m 128).Iotas .tc 32 [1]) : Side (hi m i) 1 := fun r l =>
  (show hi m i (ix2 r l) = _ from congrArg (fun z => Scalar.cmpi .sge z 64#32) (iota_single_apply .tc (Mat m 128) 32 1 i (ix2 r l))).trans
    ((by decide +kernel : ∀ l : Fin 128, Scalar.cmpi .sge (BitVec.ofNat 32 l.val) 64#32 = if l.val / 64 = 1 then 1#1 else 0#1) l)

/-- A choice by a head's lanes. -/
theorem sel_apply {m a : ℕ} {φ : FTy} {mk : IVec (Mat m 128) 1} (hm : Side mk a) {x y : FVec Ideal (Mat m 128) φ} {r : Fin m} {l : Fin 128} {z : ℝ}
    (hx : (x (ix2 r l) : EReal) = (z : EReal)) (hy : (y (ix2 r l) : EReal) = ((0 : ℝ) : EReal)) :
    (select mk x y (ix2 r l) : EReal) = ((Block.sel a l z : ℝ) : EReal) := by
  rw [ValueIdx.select_apply, hm r l]
  unfold Block.sel
  split
  · exact (ValueIdx.select_one _ _).trans hx
  · exact (ValueIdx.select_zero _ _).trans hy

variable {n : ℕ} (h : Fits n)

theorem tri_apply (r c : Fin 256) : tri h (ix2 r c) = if c.val ≤ r.val then 1#1 else 0#1 := by
  have e : tri h (ix2 r c) = Scalar.cmpi .sle (BitVec.ofNat 32 c.val) (BitVec.ofNat 32 r.val) :=
    congrArg₂ (fun u v => Scalar.cmpi .sle u v) (iota_single_apply .tc (Mat 256 256) 32 1 h.iotaC (ix2 r c))
      (iota_single_apply .tc (Mat 256 256) 32 0 h.iotaR (ix2 r c))
  rw [e]
  have hc := c.isLt
  have hr := r.isLt
  have hs : (BitVec.ofNat 32 c.val).sle (BitVec.ofNat 32 r.val) = decide (c.val ≤ r.val) := by
    rw [BitVec.sle_eq_decide, BitVec.toInt_ofNat', BitVec.toInt_ofNat']
    congr 1
    rw [Int.bmod_eq_of_le (by omega) (by omega), Int.bmod_eq_of_le (by omega) (by omega)]
    simp
  show (BitVec.ofBool ((BitVec.ofNat 32 c.val).sle (BitVec.ofNat 32 r.val)) : BitVec 1) = _
  rw [hs]
  by_cases hcr : c.val ≤ r.val <;> simp [hcr]

theorem named_mask : (Named.named (F := Ideal) (φ := .f32) Cert.KernelIdeal.κ "mask" 0xF149F2CA#32 : EReal) = ⊥ :=
  IdealRules.named_const.ideal_named_scalar _ _ _ _ rfl

theorem maskSquare_masks (h : Fits 256) : Masks (maskSquare h) 0 := fun s r j => by
  show (Scalar.select (tri h (ix2 r j)) (s (ix2 r j)) _ : EReal) = _
  rw [tri_apply, Nat.zero_add]
  split
  · exact ValueIdx.select_one _ _
  · exact (ValueIdx.select_zero _ _).trans named_mask

theorem maskLast_masks {b : ℕ} (w : Splits b n) (hb : b + 256 = n) : Masks (maskLast h w) b := fun s r j => by
  by_cases hj : j.val < b
  · rw [if_pos (by omega)]
    refine (concatenate_pair_apply_left (t := Mat 256 n) 1 _ _ w.join (ix2 r j) rfl (ix2 r ⟨j.val, hj⟩) fun c => ?_).trans ?_
    · match c with | ⟨0, _⟩ => rfl | ⟨1, _⟩ => rfl
    · exact slice2_axis1_apply 0 s w.left r ⟨j.val, hj⟩ j (by simp)
  · have hj' : j.val - b < 256 := by have := j.isLt; omega
    refine (concatenate_pair_apply_right (t := Mat 256 n) 1 _ _ w.join (ix2 r j) rfl rfl (ix2 r ⟨j.val - b, hj'⟩) (fun c hc => ?_) ?_).trans ?_
    · match c with | ⟨0, _⟩ => rfl | ⟨1, _⟩ => exact absurd rfl hc
    · show j.val - b + b = j.val; omega
    · show (Scalar.select (tri h (ix2 r ⟨j.val - b, hj'⟩)) (extractStridedSlice (Mat 256 256) ![0, b] s w.right (ix2 r ⟨j.val - b, hj'⟩)) _ : EReal) = _
      rw [tri_apply]
      by_cases hle : j.val - b ≤ r.val
      · rw [if_pos hle, if_pos (by omega)]
        exact (ValueIdx.select_one _ _).trans (slice2_axis1_apply b s w.right r ⟨j.val - b, hj'⟩ j (by show j.val = b + (j.val - b); omega))
      · rw [if_neg hle, if_neg (by omega)]
        exact (ValueIdx.select_zero _ _).trans named_mask

/-! ### The stages -/

theorem cols_ne (h : Fits n) (hn : 256 ≤ n) : n ≠ 1 := by omega

variable {D : Block} {L : Loads Ideal n} {b a : ℕ} {mk : IVec (Mat 256 128) 1} {mask : FVec Ideal (Mat 256 n) .f32 → FVec Ideal (Mat 256 n) .f32}

theorem qSel_apply (hL : Reads D L b a) (hm : Side mk a) (r : Fin 256) (l : Fin 128) :
    (qSel h mk L.q (ix2 r l) : EReal) = ((Block.sel a l (D.q (b + r) l) * (1 / 8) : ℝ) : EReal) := by
  rw [EReal.coe_mul]
  refine congrArg₂ (fun u v : EReal => u * v) (sel_apply hm ?_ word_zero_half) word_eighth_half
  rw [shapeCast_self]
  exact hL.q r l

theorem scores_apply (hL : Reads D L b a) (hm : Side mk a) (hn : b + 256 = n) (r : Fin 256) (j : Fin n) :
    (scores h (qSel h mk L.q) L.k L.cq L.ck (ix2 r j) : EReal) = ((D.s a (b + r) j : ℝ) : EReal) := by
  unfold Block.s
  rw [EReal.coe_add, EReal.coe_sub, ← coe_sum]
  refine congrArg₂ (fun u v : EReal => u + v) ?_ (congrArg₂ (fun u v : EReal => u - v) ?_ ?_)
  · refine (Ideal.matmul_transposedRhs_apply none (qSel h mk L.q) _ _ r j).trans ?_
    refine (congrArg₂ (fun u v : EReal => u + v) word_zero (Finset.sum_congr
      (g := fun l : Fin 128 => ((Block.sel a l (D.q (b + r) l) * (1 / 8) : ℝ) : EReal) * ((D.k j l : ℝ) : EReal)) rfl fun l _ =>
      congrArg₂ (fun u v : EReal => u * v) (qSel_apply h hL hm r l) ?_)).trans ?_
    · rw [shapeCast_self]; exact hL.k j l
    · rw [EReal.coe_zero, zero_add]
      exact Finset.sum_congr rfl fun l _ => (EReal.coe_mul _ _).symm
  · refine (overCols_apply (by decide) _ h.overCols r j).trans ?_
    exact (shapeCast_1ab_ab_apply L.cq h.castQ r 0).trans (hL.cq r)
  · refine (overRows_apply (by omega) _ h.overRows r j).trans ?_
    exact (shapeCast_1ab_ab_apply L.ck h.castK 0 j).trans (hL.ck j)

theorem probs_apply (s : FVec Ideal (Mat 256 n) .f32) (f : ℕ → ℕ → ℝ) (hn : b + 256 = n)
    (hs : ∀ (r : Fin 256) (j : Fin n), (s (ix2 r j) : EReal) = if j.val ≤ b + r.val then ((f (b + r) j : ℝ) : EReal) else ⊥)
    (r : Fin 256) (j : Fin n) : (probs h (expo h s) (ix2 r j) : EReal) = ((prob f (b + r) j : ℝ) : EReal) := by
  have hi : b + r.val < n := by have := r.isLt; omega
  obtain ⟨M, hM⟩ := row_max hi (f (b + r)) (fun j => (s (ix2 r j) : EReal)) (hs r)
  have he : ∀ x : Fin n, (expo h s (ix2 r x) : EReal) = Ideal.exp ((s (ix2 r x) : EReal) - (M : EReal)) := fun x => by
    refine congrArg (fun z : EReal => Ideal.exp ((s (ix2 r x) : EReal) - z)) ?_
    refine (overCols_apply (by decide) _ h.overCols r x).trans ?_
    exact (asCol_apply _ h.asCol r 0).trans ((rowMax_apply s h.alongRow r).trans hM)
  have hsum := row_sum hi (f (b + r)) (fun j => (s (ix2 r j) : EReal)) (hs r) M
  have hpos := sum_exp_pos (b + r) fun x => f (b + r) x - M
  rw [← prob_shift f (b + r) j M, div_eq_mul_one_div, EReal.coe_mul]
  refine congrArg₂ (fun u v : EReal => u * v) ((he j).trans (row_exp (f (b + r)) _ (hs r) M j)) ?_
  refine (overCols_apply (by decide) _ h.overCols r j).trans ?_
  refine (congrArg₂ Ideal.div word_one ((asCol_apply _ h.asCol r 0).trans ((rowSum_apply (expo h s) h.alongRow r).trans
    ((Finset.sum_congr rfl fun x _ => he x).trans hsum)))).trans ?_
  rw [Ideal.div_coe hpos.ne', ← EReal.coe_mul, one_mul]

theorem p_apply (hL : Reads D L b a) (hm : Side mk a) (hk : Masks mask b) (hn : b + 256 = n) (r : Fin 256) (j : Fin n) :
    (L.p h mask mk (ix2 r j) : EReal) = ((D.p a (b + r) j : ℝ) : EReal) :=
  probs_apply h _ (D.s a) hn (fun r j => by rw [hk, scores_apply h hL hm hn]) r j

theorem dprob_apply (hL : Reads D L b a) (hm : Side mk a) (r : Fin 256) (j : Fin n) :
    (dprob h mk L.gb L.v (ix2 r j) : EReal) = ((D.dp a (b + r) j : ℝ) : EReal) := by
  unfold Block.dp
  rw [← coe_sum]
  refine (Ideal.matmul_transposedRhs_apply none _ _ _ r j).trans ?_
  refine (congrArg₂ (fun u v : EReal => u + v) word_zero (Finset.sum_congr
    (g := fun l : Fin 128 => ((Block.sel a l (D.g (b + r) l) : ℝ) : EReal) * ((D.v j l : ℝ) : EReal)) rfl fun l _ =>
    congrArg₂ (fun u v : EReal => u * v) (sel_apply hm (hL.g r l) word_zero_half) ?_)).trans ?_
  · rw [shapeCast_self]; exact hL.v j l
  · rw [EReal.coe_zero, zero_add]
    exact Finset.sum_congr rfl fun l _ => (EReal.coe_mul _ _).symm

theorem delta_apply (hL : Reads D L b a) (hm : Side mk a) (r : Fin 256) (u : Fin 1) :
    (delta (F := Ideal) h mk (mulf L.g (shapeCast (Mat 256 128) L.o h.sameQ)) (ix2 r u) : EReal) = ((D.delta a (b + r) : ℝ) : EReal) := by
  unfold Block.delta
  rw [← coe_sum]
  refine (asCol_apply _ h.asCol r u).trans ((rowSum_apply _ h.alongLane r).trans (Finset.sum_congr rfl fun l _ => sel_apply hm ?_ word_zero))
  rw [EReal.coe_mul]
  refine congrArg₂ (fun u v : EReal => u * v) (hL.g r l) ?_
  rw [shapeCast_self]
  exact hL.o r l

theorem ds_apply (hL : Reads D L b a) (hm : Side mk a) (hk : Masks mask b) (hn : b + 256 = n) (r : Fin 256) (j : Fin n) :
    (L.ds h mask mk (ix2 r j) : EReal) = ((D.ds a (b + r) j : ℝ) : EReal) := by
  unfold Block.ds
  rw [EReal.coe_mul, EReal.coe_sub]
  refine congrArg₂ (fun u v : EReal => u * v) (p_apply h hL hm hk hn r j)
    (congrArg₂ (fun u v : EReal => u - v) (dprob_apply h hL hm r j) ?_)
  exact (overCols_apply (by decide) _ h.overCols r j).trans (delta_apply h hL hm r 0)

/-! ### The gradients a step adds or writes -/

variable {ds p : FVec Ideal (Mat 256 n) .f32} {f : ℕ → ℕ → ℝ}

theorem dcq_apply (hd : ∀ (r : Fin 256) (j : Fin n), (ds (ix2 r j) : EReal) = ((f (b + r) j : ℝ) : EReal)) (u : Fin 1) (r : Fin 256) (w : Fin 1) :
    (dcq h ds (ix3 u r w) : EReal) = ((∑ j : Fin n, f (b + r) j : ℝ) : EReal) := by
  rw [← coe_sum]
  refine (shapeCast_ab_1ab_apply _ h.backQ u r w).trans ((asCol_apply _ h.asCol r w).trans ((rowSum_apply ds h.alongRow r).trans ?_))
  exact Finset.sum_congr rfl fun j _ => hd r j

theorem dck_apply (hd : ∀ (r : Fin 256) (j : Fin n), (ds (ix2 r j) : EReal) = ((f (b + r) j : ℝ) : EReal))
    (old : Vec Ideal (Box 1 n) .f32) (T : ℝ) (u v : Fin 1) (j : Fin n) (ho : (old (ix3 0 0 j) : EReal) = (T : EReal)) :
    (dck h ds old (ix3 u v j) : EReal) = ((T - ∑ r : Fin 256, f (b + r) j : ℝ) : EReal) := by
  obtain rfl : v = 0 := Subsingleton.elim _ _
  rw [EReal.coe_sub, ← coe_sum]
  refine (shapeCast_ab_1ab_apply _ h.backK u 0 j).trans (congrArg₂ (fun u v : EReal => u - v) ?_ ?_)
  · exact (shapeCast_1ab_ab_apply old h.castK 0 j).trans ho
  · refine (shapeCast_a_1a_apply _ h.asRow 0 j).trans ((colSum_apply ds h.alongCol j).trans ?_)
    exact Finset.sum_congr rfl fun r _ => hd r j

theorem dq_apply (hL : Reads D L b a) (hd : ∀ (r : Fin 256) (j : Fin n), (ds (ix2 r j) : EReal) = ((f (b + r) j : ℝ) : EReal))
    (r : Fin 256) (l : Fin 128) : (dq h ds L.k (ix2 r l) : EReal) = (((∑ j : Fin n, f (b + r) j * D.k j l) * (1 / 8) : ℝ) : EReal) := by
  rw [EReal.coe_mul, ← coe_sum]
  refine congrArg₂ (fun u v : EReal => u * v) ?_ word_eighth
  refine (Ideal.matmul_plain_apply none _ _ _ r l).trans ?_
  refine (congrArg₂ (fun u v : EReal => u + v) word_zero (Finset.sum_congr (g := fun j : Fin n => ((f (b + r) j : ℝ) : EReal) * ((D.k j l : ℝ) : EReal)) rfl fun j _ =>
    congrArg₂ (fun u v : EReal => u * v) (hd r j) ?_)).trans ?_
  · rw [shapeCast_self]; exact hL.k j l
  · rw [EReal.coe_zero, zero_add]
    exact Finset.sum_congr rfl fun j _ => (EReal.coe_mul _ _).symm

theorem dk_apply (hL : Reads D L b a) (hm : Side mk a) (hd : ∀ (r : Fin 256) (j : Fin n), (ds (ix2 r j) : EReal) = ((f (b + r) j : ℝ) : EReal))
    (old : Vec Ideal (Mat n 128) .f32) (T : ℝ) (j : Fin n) (l : Fin 128) (ho : (old (ix2 j l) : EReal) = (T : EReal)) :
    (dk h ds (qSel h mk L.q) old (ix2 j l) : EReal)
      = ((T + ∑ r : Fin 256, f (b + r) j * (Block.sel a l (D.q (b + r) l) * (1 / 8)) : ℝ) : EReal) := by
  unfold dk
  rw [shapeCast_self, EReal.coe_add, ← coe_sum]
  refine congrArg₂ (fun u v : EReal => u + v) ho ((tn_apply _ _ _ _ j l).trans ?_)
  refine (congrArg₂ (fun u v : EReal => u + v) word_zero (Finset.sum_congr rfl fun r _ =>
    congrArg₂ (fun u v : EReal => u * v) (hd r j) (qSel_apply h hL hm r l))).trans ?_
  rw [EReal.coe_zero, zero_add]
  exact Finset.sum_congr rfl fun r _ => (EReal.coe_mul _ _).symm

theorem dv_apply (hL : Reads D L b a) {mkn : IVec (Mat n 128) 1} (hm : Side mkn a)
    (hp : ∀ (r : Fin 256) (j : Fin n), (p (ix2 r j) : EReal) = ((f (b + r) j : ℝ) : EReal))
    (old : Vec Ideal (Mat n 128) .f32) (T : ℝ) (j : Fin n) (l : Fin 128) (ho : (old (ix2 j l) : EReal) = (T : EReal)) :
    (dv h mkn p L.gb old (ix2 j l) : EReal) = ((T + Block.sel a l (∑ r : Fin 256, f (b + r) j * D.g (b + r) l) : ℝ) : EReal) := by
  unfold dv
  rw [shapeCast_self, EReal.coe_add]
  refine congrArg₂ (fun u v : EReal => u + v) ho (sel_apply hm ((tn_apply _ _ _ _ j l).trans ?_) word_zero)
  rw [← coe_sum]
  refine (congrArg₂ (fun u v : EReal => u + v) word_zero (Finset.sum_congr rfl fun r _ =>
    congrArg₂ (fun u v : EReal => u * v) (hp r j) (hL.g r l))).trans ?_
  rw [EReal.coe_zero, zero_add]
  exact Finset.sum_congr rfl fun r _ => (EReal.coe_mul _ _).symm

end Cert.Proof.Fox
-- ==== Proof.Args.lean ====
/-
  One grid point's run of the kernel's body, its parameters gathered in one structure: the staged blocks' references and
  the blocks' contents. The running contents of the three accumulators are named by how many steps have been written.
-/
module

public import proofs.«01_k».proof.Proof.Stage

@[expose] public section

set_option maxRecDepth 16384

noncomputable section

namespace Cert.Proof.Fox

open Idealize.ShloMosaic Cert.KernelIdeal Cert.KernelIdeal.Gen Cert.KernelIdeal.Gen.kernelRun0_A

/-- The parameters of one run of the body. -/
structure Args (F : FTy → Type) where
  c : Dev nD
  i : grid0.Coords
  a1 : Memref sig .tc .vmem S2048x128 .bf16
  h1 : a1.IsWhole
  a2 : Memref sig .tc .vmem S2048x128 .bf16
  h2 : a2.IsWhole
  a3 : Memref sig .tc .vmem S2048x128 .bf16
  h3 : a3.IsWhole
  a4 : Memref sig .tc .vmem S2048x128 .f32
  h4 : a4.IsWhole
  a5 : Memref sig .tc .vmem S2048x128 .f32
  h5 : a5.IsWhole
  a6 : Memref sig .tc .vmem S1x2048x2 .f32
  h6 : a6.IsWhole
  a7 : Memref sig .tc .vmem S1x2x2048 .f32
  h7 : a7.IsWhole
  a8 : Memref sig .tc .vmem S2048x128 .bf16
  h8 : a8.IsWhole
  a9 : Memref sig .tc .vmem S2048x128 .bf16
  h9 : a9.IsWhole
  a10 : Memref sig .tc .vmem S2048x128 .bf16
  h10 : a10.IsWhole
  a11 : Memref sig .tc .vmem S1x2048x2 .f32
  h11 : a11.IsWhole
  a12 : Memref sig .tc .vmem S1x2x2048 .f32
  h12 : a12.IsWhole
  a13 : Memref sig .tc .vmem S2048x128 .f32
  h13 : a13.IsWhole
  a14 : Memref sig .tc .vmem S2048x128 .f32
  h14 : a14.IsWhole
  x0 : Vec F S2048x128 .bf16
  x1 : Vec F S2048x128 .bf16
  x2 : Vec F S2048x128 .bf16
  x3 : Vec F S2048x128 .f32
  x4 : Vec F S2048x128 .f32
  x5 : Vec F S1x2048x2 .f32
  x6 : Vec F S1x2x2048 .f32

namespace Args

variable {F : FTy → Type} [FloatOps F] [Named F] (A : Args F) {b n a : ℕ}

/-- The loads of step (b, a). -/
def loads (w : At b n a) : Loads F n := Fox.loads w A.a1 A.h1 A.a2 A.h2 A.a3 A.h3 A.a4 A.h4 A.a5 A.h5 A.a6 A.h6 A.a7 A.h7 A.x0 A.x1 A.x2 A.x3 A.x4 A.x5 A.x6

/-- The run itself. -/
abbrev run := kernelRun0_A A.c A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.x0 A.x1 A.x2 A.x3 A.x4 A.x5 A.x6

/-- What the run leaves in output 7. -/
def out7 := out0_A_7 A.c A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.x0 A.x1 A.x2 A.x3 A.x4 A.x5 A.x6

/-- What the run leaves in output 8. -/
def out8 := out0_A_8 A.c A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.x0 A.x1 A.x2 A.x3 A.x4 A.x5 A.x6

/-- What the run leaves in output 9. -/
def out9 := out0_A_9 A.c A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.x0 A.x1 A.x2 A.x3 A.x4 A.x5 A.x6

/-- What the run leaves in output 10. -/
def out10 := out0_A_10 A.c A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.x0 A.x1 A.x2 A.x3 A.x4 A.x5 A.x6

/-- What the run leaves in output 11. -/
def out11 := out0_A_11 A.c A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.x0 A.x1 A.x2 A.x3 A.x4 A.x5 A.x6

/-- The zeros before the first step. -/
def kAt0 : List (View.Piece (Elt F) S2048x128 .f32) := sl.HS0_1
/-- The keys' gradient's pieces after steps `0 … 0`. -/
def kAt1 : List (View.Piece (Elt F) S2048x128 .f32) := sl.HS0_2 A.c A.a1 A.h1 A.a2 A.h2 A.a3 A.h3 A.a4 A.h4 A.a5 A.h5 A.a6 A.h6 A.a7 A.h7 A.a13 A.x0 A.x1 A.x2 A.x3 A.x4 A.x5 A.x6
/-- The keys' gradient's pieces after steps `0 … 1`. -/
def kAt2 : List (View.Piece (Elt F) S2048x128 .f32) := sl.HS0_3 A.c A.a1 A.h1 A.a2 A.h2 A.a3 A.h3 A.a4 A.h4 A.a5 A.h5 A.a6 A.h6 A.a7 A.h7 A.a13 A.x0 A.x1 A.x2 A.x3 A.x4 A.x5 A.x6
/-- The keys' gradient's pieces after steps `0 … 2`. -/
def kAt3 : List (View.Piece (Elt F) S2048x128 .f32) := sl.HS0_4 A.c A.a1 A.h1 A.a2 A.h2 A.a3 A.h3 A.a4 A.h4 A.a5 A.h5 A.a6 A.h6 A.a7 A.h7 A.a13 A.x0 A.x1 A.x2 A.x3 A.x4 A.x5 A.x6
/-- The keys' gradient's pieces after steps `0 … 3`. -/
def kAt4 : List (View.Piece (Elt F) S2048x128 .f32) := sl.HS0_5 A.c A.a1 A.h1 A.a2 A.h2 A.a3 A.h3 A.a4 A.h4 A.a5 A.h5 A.a6 A.h6 A.a7 A.h7 A.a13 A.x0 A.x1 A.x2 A.x3 A.x4 A.x5 A.x6
/-- The keys' gradient's pieces after steps `0 … 4`. -/
def kAt5 : List (View.Piece (Elt F) S2048x128 .f32) := sl.HS0_6 A.c A.a1 A.h1 A.a2 A.h2 A.a3 A.h3 A.a4 A.h4 A.a5 A.h5 A.a6 A.h6 A.a7 A.h7 A.a13 A.x0 A.x1 A.x2 A.x3 A.x4 A.x5 A.x6
/-- The keys' gradient's pieces after steps `0 … 5`. -/
def kAt6 : List (View.Piece (Elt F) S2048x128 .f32) := sl.HS0_7 A.c A.a1 A.h1 A.a2 A.h2 A.a3 A.h3 A.a4 A.h4 A.a5 A.h5 A.a6 A.h6 A.a7 A.h7 A.a13 A.x0 A.x1 A.x2 A.x3 A.x4 A.x5 A.x6
/-- The keys' gradient's pieces after steps `0 … 6`. -/
def kAt7 : List (View.Piece (Elt F) S2048x128 .f32) := sl.HS0_8 A.c A.a1 A.h1 A.a2 A.h2 A.a3 A.h3 A.a4 A.h4 A.a5 A.h5 A.a6 A.h6 A.a7 A.h7 A.a13 A.x0 A.x1 A.x2 A.x3 A.x4 A.x5 A.x6
/-- The keys' gradient's pieces after steps `0 … 7`. -/
def kAt8 : List (View.Piece (Elt F) S2048x128 .f32) := sl.HS0_9 A.c A.a1 A.h1 A.a2 A.h2 A.a3 A.h3 A.a4 A.h4 A.a5 A.h5 A.a6 A.h6 A.a7 A.h7 A.a13 A.x0 A.x1 A.x2 A.x3 A.x4 A.x5 A.x6
/-- The keys' gradient's pieces after steps `0 … 8`. -/
def kAt9 : List (View.Piece (Elt F) S2048x128 .f32) := sl.HS0_10 A.c A.a1 A.h1 A.a2 A.h2 A.a3 A.h3 A.a4 A.h4 A.a5 A.h5 A.a6 A.h6 A.a7 A.h7 A.a13 A.x0 A.x1 A.x2 A.x3 A.x4 A.x5 A.x6
/-- The keys' gradient's pieces after steps `0 … 9`. -/
def kAt10 : List (View.Piece (Elt F) S2048x128 .f32) := sl.HS0_11 A.c A.a1 A.h1 A.a2 A.h2 A.a3 A.h3 A.a4 A.h4 A.a5 A.h5 A.a6 A.h6 A.a7 A.h7 A.a13 A.x0 A.x1 A.x2 A.x3 A.x4 A.x5 A.x6
/-- The keys' gradient's pieces after steps `0 … 10`. -/
def kAt11 : List (View.Piece (Elt F) S2048x128 .f32) := sl.HS0_12 A.c A.a1 A.h1 A.a2 A.h2 A.a3 A.h3 A.a4 A.h4 A.a5 A.h5 A.a6 A.h6 A.a7 A.h7 A.a13 A.x0 A.x1 A.x2 A.x3 A.x4 A.x5 A.x6
/-- The keys' gradient's pieces after steps `0 … 11`. -/
def kAt12 : List (View.Piece (Elt F) S2048x128 .f32) := sl.HS0_13 A.c A.a1 A.h1 A.a2 A.h2 A.a3 A.h3 A.a4 A.h4 A.a5 A.h5 A.a6 A.h6 A.a7 A.h7 A.a13 A.x0 A.x1 A.x2 A.x3 A.x4 A.x5 A.x6
/-- The keys' gradient's pieces after steps `0 … 12`. -/
def kAt13 : List (View.Piece (Elt F) S2048x128 .f32) := sl.HS0_14 A.c A.a1 A.h1 A.a2 A.h2 A.a3 A.h3 A.a4 A.h4 A.a5 A.h5 A.a6 A.h6 A.a7 A.h7 A.a13 A.x0 A.x1 A.x2 A.x3 A.x4 A.x5 A.x6
/-- The keys' gradient's pieces after steps `0 … 13`. -/
def kAt14 : List (View.Piece (Elt F) S2048x128 .f32) := sl.HS0_15 A.c A.a1 A.h1 A.a2 A.h2 A.a3 A.h3 A.a4 A.h4 A.a5 A.h5 A.a6 A.h6 A.a7 A.h7 A.a13 A.x0 A.x1 A.x2 A.x3 A.x4 A.x5 A.x6
/-- The keys' gradient's pieces after steps `0 … 14`. -/
def kAt15 : List (View.Piece (Elt F) S2048x128 .f32) := sl.HS0_16 A.c A.a1 A.h1 A.a2 A.h2 A.a3 A.h3 A.a4 A.h4 A.a5 A.h5 A.a6 A.h6 A.a7 A.h7 A.a13 A.x0 A.x1 A.x2 A.x3 A.x4 A.x5 A.x6
/-- The keys' gradient's pieces after steps `0 … 15`. -/
def kAt16 : List (View.Piece (Elt F) S2048x128 .f32) := sl.HS0_17 A.c A.a1 A.h1 A.a2 A.h2 A.a3 A.h3 A.a4 A.h4 A.a5 A.h5 A.a6 A.h6 A.a7 A.h7 A.a13 A.x0 A.x1 A.x2 A.x3 A.x4 A.x5 A.x6

/-- The zeros before the first step. -/
def vAt0 : List (View.Piece (Elt F) S2048x128 .f32) := sl.HS0_1
/-- The values' gradient's pieces after steps `0 … 0`. -/
def vAt1 : List (View.Piece (Elt F) S2048x128 .f32) := sl.HS1_2 A.c A.a1 A.h1 A.a2 A.h2 A.a5 A.h5 A.a6 A.h6 A.a7 A.h7 A.a14 A.x0 A.x1 A.x4 A.x5 A.x6
/-- The values' gradient's pieces after steps `0 … 1`. -/
def vAt2 : List (View.Piece (Elt F) S2048x128 .f32) := sl.HS1_3 A.c A.a1 A.h1 A.a2 A.h2 A.a5 A.h5 A.a6 A.h6 A.a7 A.h7 A.a14 A.x0 A.x1 A.x4 A.x5 A.x6
/-- The values' gradient's pieces after steps `0 … 2`. -/
def vAt3 : List (View.Piece (Elt F) S2048x128 .f32) := sl.HS1_4 A.c A.a1 A.h1 A.a2 A.h2 A.a5 A.h5 A.a6 A.h6 A.a7 A.h7 A.a14 A.x0 A.x1 A.x4 A.x5 A.x6
/-- The values' gradient's pieces after steps `0 … 3`. -/
def vAt4 : List (View.Piece (Elt F) S2048x128 .f32) := sl.HS1_5 A.c A.a1 A.h1 A.a2 A.h2 A.a5 A.h5 A.a6 A.h6 A.a7 A.h7 A.a14 A.x0 A.x1 A.x4 A.x5 A.x6
/-- The values' gradient's pieces after steps `0 … 4`. -/
def vAt5 : List (View.Piece (Elt F) S2048x128 .f32) := sl.HS1_6 A.c A.a1 A.h1 A.a2 A.h2 A.a5 A.h5 A.a6 A.h6 A.a7 A.h7 A.a14 A.x0 A.x1 A.x4 A.x5 A.x6
/-- The values' gradient's pieces after steps `0 … 5`. -/
def vAt6 : List (View.Piece (Elt F) S2048x128 .f32) := sl.HS1_7 A.c A.a1 A.h1 A.a2 A.h2 A.a5 A.h5 A.a6 A.h6 A.a7 A.h7 A.a14 A.x0 A.x1 A.x4 A.x5 A.x6
/-- The values' gradient's pieces after steps `0 … 6`. -/
def vAt7 : List (View.Piece (Elt F) S2048x128 .f32) := sl.HS1_8 A.c A.a1 A.h1 A.a2 A.h2 A.a5 A.h5 A.a6 A.h6 A.a7 A.h7 A.a14 A.x0 A.x1 A.x4 A.x5 A.x6
/-- The values' gradient's pieces after steps `0 … 7`. -/
def vAt8 : List (View.Piece (Elt F) S2048x128 .f32) := sl.HS1_9 A.c A.a1 A.h1 A.a2 A.h2 A.a5 A.h5 A.a6 A.h6 A.a7 A.h7 A.a14 A.x0 A.x1 A.x4 A.x5 A.x6
/-- The values' gradient's pieces after steps `0 … 8`. -/
def vAt9 : List (View.Piece (Elt F) S2048x128 .f32) := sl.HS1_10 A.c A.a1 A.h1 A.a2 A.h2 A.a5 A.h5 A.a6 A.h6 A.a7 A.h7 A.a14 A.x0 A.x1 A.x4 A.x5 A.x6
/-- The values' gradient's pieces after steps `0 … 9`. -/
def vAt10 : List (View.Piece (Elt F) S2048x128 .f32) := sl.HS1_11 A.c A.a1 A.h1 A.a2 A.h2 A.a5 A.h5 A.a6 A.h6 A.a7 A.h7 A.a14 A.x0 A.x1 A.x4 A.x5 A.x6
/-- The values' gradient's pieces after steps `0 … 10`. -/
def vAt11 : List (View.Piece (Elt F) S2048x128 .f32) := sl.HS1_12 A.c A.a1 A.h1 A.a2 A.h2 A.a5 A.h5 A.a6 A.h6 A.a7 A.h7 A.a14 A.x0 A.x1 A.x4 A.x5 A.x6
/-- The values' gradient's pieces after steps `0 … 11`. -/
def vAt12 : List (View.Piece (Elt F) S2048x128 .f32) := sl.HS1_13 A.c A.a1 A.h1 A.a2 A.h2 A.a5 A.h5 A.a6 A.h6 A.a7 A.h7 A.a14 A.x0 A.x1 A.x4 A.x5 A.x6
/-- The values' gradient's pieces after steps `0 … 12`. -/
def vAt13 : List (View.Piece (Elt F) S2048x128 .f32) := sl.HS1_14 A.c A.a1 A.h1 A.a2 A.h2 A.a5 A.h5 A.a6 A.h6 A.a7 A.h7 A.a14 A.x0 A.x1 A.x4 A.x5 A.x6
/-- The values' gradient's pieces after steps `0 … 13`. -/
def vAt14 : List (View.Piece (Elt F) S2048x128 .f32) := sl.HS1_15 A.c A.a1 A.h1 A.a2 A.h2 A.a5 A.h5 A.a6 A.h6 A.a7 A.h7 A.a14 A.x0 A.x1 A.x4 A.x5 A.x6
/-- The values' gradient's pieces after steps `0 … 14`. -/
def vAt15 : List (View.Piece (Elt F) S2048x128 .f32) := sl.HS1_16 A.c A.a1 A.h1 A.a2 A.h2 A.a5 A.h5 A.a6 A.h6 A.a7 A.h7 A.a14 A.x0 A.x1 A.x4 A.x5 A.x6
/-- The values' gradient's pieces after steps `0 … 15`. -/
def vAt16 : List (View.Piece (Elt F) S2048x128 .f32) := sl.HS1_17 A.c A.a1 A.h1 A.a2 A.h2 A.a5 A.h5 A.a6 A.h6 A.a7 A.h7 A.a14 A.x0 A.x1 A.x4 A.x5 A.x6

/-- The zeros before the first step. -/
def cAt0 : List (View.Piece (Elt F) S1x2x2048 .f32) := sl.H11_1
/-- The keys' gate sums' gradient's pieces after steps `0 … 0`. -/
def cAt1 : List (View.Piece (Elt F) S1x2x2048 .f32) := sl.H11_2 A.c A.a1 A.h1 A.a2 A.h2 A.a3 A.h3 A.a4 A.h4 A.a5 A.h5 A.a6 A.h6 A.a7 A.h7 A.a12 A.x0 A.x1 A.x2 A.x3 A.x4 A.x5 A.x6
/-- The keys' gate sums' gradient's pieces after steps `0 … 1`. -/
def cAt2 : List (View.Piece (Elt F) S1x2x2048 .f32) := sl.H11_3 A.c A.a1 A.h1 A.a2 A.h2 A.a3 A.h3 A.a4 A.h4 A.a5 A.h5 A.a6 A.h6 A.a7 A.h7 A.a12 A.x0 A.x1 A.x2 A.x3 A.x4 A.x5 A.x6
/-- The keys' gate sums' gradient's pieces after steps `0 … 2`. -/
def cAt3 : List (View.Piece (Elt F) S1x2x2048 .f32) := sl.H11_4 A.c A.a1 A.h1 A.a2 A.h2 A.a3 A.h3 A.a4 A.h4 A.a5 A.h5 A.a6 A.h6 A.a7 A.h7 A.a12 A.x0 A.x1 A.x2 A.x3 A.x4 A.x5 A.x6
/-- The keys' gate sums' gradient's pieces after steps `0 … 3`. -/
def cAt4 : List (View.Piece (Elt F) S1x2x2048 .f32) := sl.H11_5 A.c A.a1 A.h1 A.a2 A.h2 A.a3 A.h3 A.a4 A.h4 A.a5 A.h5 A.a6 A.h6 A.a7 A.h7 A.a12 A.x0 A.x1 A.x2 A.x3 A.x4 A.x5 A.x6
/-- The keys' gate sums' gradient's pieces after steps `0 … 4`. -/
def cAt5 : List (View.Piece (Elt F) S1x2x2048 .f32) := sl.H11_6 A.c A.a1 A.h1 A.a2 A.h2 A.a3 A.h3 A.a4 A.h4 A.a5 A.h5 A.a6 A.h6 A.a7 A.h7 A.a12 A.x0 A.x1 A.x2 A.x3 A.x4 A.x5 A.x6
/-- The keys' gate sums' gradient's pieces after steps `0 … 5`. -/
def cAt6 : List (View.Piece (Elt F) S1x2x2048 .f32) := sl.H11_7 A.c A.a1 A.h1 A.a2 A.h2 A.a3 A.h3 A.a4 A.h4 A.a5 A.h5 A.a6 A.h6 A.a7 A.h7 A.a12 A.x0 A.x1 A.x2 A.x3 A.x4 A.x5 A.x6
/-- The keys' gate sums' gradient's pieces after steps `0 … 6`. -/
def cAt7 : List (View.Piece (Elt F) S1x2x2048 .f32) := sl.H11_8 A.c A.a1 A.h1 A.a2 A.h2 A.a3 A.h3 A.a4 A.h4 A.a5 A.h5 A.a6 A.h6 A.a7 A.h7 A.a12 A.x0 A.x1 A.x2 A.x3 A.x4 A.x5 A.x6
/-- The keys' gate sums' gradient's pieces after steps `0 … 7`. -/
def cAt8 : List (View.Piece (Elt F) S1x2x2048 .f32) := sl.H11_9 A.c A.a1 A.h1 A.a2 A.h2 A.a3 A.h3 A.a4 A.h4 A.a5 A.h5 A.a6 A.h6 A.a7 A.h7 A.a12 A.x0 A.x1 A.x2 A.x3 A.x4 A.x5 A.x6
/-- The keys' gate sums' gradient's pieces after steps `0 … 8`. -/
def cAt9 : List (View.Piece (Elt F) S1x2x2048 .f32) := sl.H11_10 A.c A.a1 A.h1 A.a2 A.h2 A.a3 A.h3 A.a4 A.h4 A.a5 A.h5 A.a6 A.h6 A.a7 A.h7 A.a12 A.x0 A.x1 A.x2 A.x3 A.x4 A.x5 A.x6
/-- The keys' gate sums' gradient's pieces after steps `0 … 9`. -/
def cAt10 : List (View.Piece (Elt F) S1x2x2048 .f32) := sl.H11_11 A.c A.a1 A.h1 A.a2 A.h2 A.a3 A.h3 A.a4 A.h4 A.a5 A.h5 A.a6 A.h6 A.a7 A.h7 A.a12 A.x0 A.x1 A.x2 A.x3 A.x4 A.x5 A.x6
/-- The keys' gate sums' gradient's pieces after steps `0 … 10`. -/
def cAt11 : List (View.Piece (Elt F) S1x2x2048 .f32) := sl.H11_12 A.c A.a1 A.h1 A.a2 A.h2 A.a3 A.h3 A.a4 A.h4 A.a5 A.h5 A.a6 A.h6 A.a7 A.h7 A.a12 A.x0 A.x1 A.x2 A.x3 A.x4 A.x5 A.x6
/-- The keys' gate sums' gradient's pieces after steps `0 … 11`. -/
def cAt12 : List (View.Piece (Elt F) S1x2x2048 .f32) := sl.H11_13 A.c A.a1 A.h1 A.a2 A.h2 A.a3 A.h3 A.a4 A.h4 A.a5 A.h5 A.a6 A.h6 A.a7 A.h7 A.a12 A.x0 A.x1 A.x2 A.x3 A.x4 A.x5 A.x6
/-- The keys' gate sums' gradient's pieces after steps `0 … 12`. -/
def cAt13 : List (View.Piece (Elt F) S1x2x2048 .f32) := sl.H11_14 A.c A.a1 A.h1 A.a2 A.h2 A.a3 A.h3 A.a4 A.h4 A.a5 A.h5 A.a6 A.h6 A.a7 A.h7 A.a12 A.x0 A.x1 A.x2 A.x3 A.x4 A.x5 A.x6
/-- The keys' gate sums' gradient's pieces after steps `0 … 13`. -/
def cAt14 : List (View.Piece (Elt F) S1x2x2048 .f32) := sl.H11_15 A.c A.a1 A.h1 A.a2 A.h2 A.a3 A.h3 A.a4 A.h4 A.a5 A.h5 A.a6 A.h6 A.a7 A.h7 A.a12 A.x0 A.x1 A.x2 A.x3 A.x4 A.x5 A.x6
/-- The keys' gate sums' gradient's pieces after steps `0 … 14`. -/
def cAt15 : List (View.Piece (Elt F) S1x2x2048 .f32) := sl.H11_16 A.c A.a1 A.h1 A.a2 A.h2 A.a3 A.h3 A.a4 A.h4 A.a5 A.h5 A.a6 A.h6 A.a7 A.h7 A.a12 A.x0 A.x1 A.x2 A.x3 A.x4 A.x5 A.x6
/-- The keys' gate sums' gradient's pieces after steps `0 … 15`. -/
def cAt16 : List (View.Piece (Elt F) S1x2x2048 .f32) := A.run.2.2.2.2.1

end Args

end Cert.Proof.Fox
-- ==== Proof.Acc.lean ====
/-
  One step's effect on the accumulators, and one block of the queries' gradient, read at an index: the prefix the step
  rewrites gains the step's sum, and past the prefix that sum is zero.
-/
module

public import proofs.«01_k».proof.Proof.StageValue
public import proofs.«01_k».proof.Proof.Args
public import Idealize.ShloMosaic.Lib.WholeRead

@[expose] public section

set_option maxRecDepth 16384

noncomputable section

namespace Cert.Proof.Fox

open Idealize.ShloMosaic Idealize.ShloMosaic.ValueIdx Cert.KernelIdeal
open scoped BigOperators

/-- The blocks of a run hold `D`'s numbers. -/
structure Args.Holds (A : Args Ideal) (D : Block) : Prop where
  q : ∀ (i : Fin 2048) (l : Fin 128), (A.x0 (ix2 i l) : EReal) = ((D.q i l : ℝ) : EReal)
  k : ∀ (i : Fin 2048) (l : Fin 128), (A.x1 (ix2 i l) : EReal) = ((D.k i l : ℝ) : EReal)
  v : ∀ (i : Fin 2048) (l : Fin 128), (A.x2 (ix2 i l) : EReal) = ((D.v i l : ℝ) : EReal)
  o : ∀ (i : Fin 2048) (l : Fin 128), (A.x3 (ix2 i l) : EReal) = ((D.o i l : ℝ) : EReal)
  g : ∀ (i : Fin 2048) (l : Fin 128), (A.x4 (ix2 i l) : EReal) = ((D.g i l : ℝ) : EReal)
  cq : ∀ (i : Fin 2048) (a : Fin 2), (A.x5 (ix3 0 i a) : EReal) = ((D.c i a : ℝ) : EReal)
  ck : ∀ (a : Fin 2) (i : Fin 2048), (A.x6 (ix3 0 a i) : EReal) = ((D.c i a : ℝ) : EReal)

variable {n b a : ℕ}

/-- A rectangle of rows of a 2048 × 128 block, at an index. -/
theorem rows_idx {m : ℕ} (w : ∀ x, (![b, 0] : Fin 2 → ℕ) x + (Mat m 128).size x ≤ (Mat 2048 128).size x) (r : Fin m) (l : Fin 128) (hr : b + r.val < 2048) :
    (Rect.unit (s := S2048x128) ![b, 0] (Mat m 128).size w).toLoadRect.idx (ix2 r l) = ix2 ⟨b + r.val, hr⟩ l := by
  funext c; apply Fin.ext
  match c with
  | ⟨0, _⟩ => show b + 1 * r.val = b + r.val; omega
  | ⟨1, _⟩ => show 0 + 1 * l.val = l.val; omega

theorem colQ_idx (w : ∀ x, (![0, b, a] : Fin 3 → ℕ) x + (Box 256 1).size x ≤ (Box 2048 2).size x) (u : Fin 1) (r : Fin 256) (e : Fin 1)
    (hr : b + r.val < 2048) (ha : a < 2) :
    (Rect.unit (s := S1x2048x2) ![0, b, a] (Box 256 1).size w).toLoadRect.idx (ix3 u r e) = ix3 0 ⟨b + r.val, hr⟩ ⟨a, ha⟩ := by
  funext c; apply Fin.ext
  match c with
  | ⟨0, _⟩ => show 0 + 1 * u.val = 0; omega
  | ⟨1, _⟩ => show b + 1 * r.val = b + r.val; omega
  | ⟨2, _⟩ => show a + 1 * e.val = a; omega

theorem rowK_idx (w : ∀ x, (![0, a, 0] : Fin 3 → ℕ) x + (Box 1 n).size x ≤ (Box 2 2048).size x) (u v : Fin 1) (j : Fin n)
    (hj : j.val < 2048) (ha : a < 2) :
    (Rect.unit (s := S1x2x2048) ![0, a, 0] (Box 1 n).size w).toLoadRect.idx (ix3 u v j) = ix3 0 ⟨a, ha⟩ ⟨j.val, hj⟩ := by
  funext c; apply Fin.ext
  match c with
  | ⟨0, _⟩ => show 0 + 1 * u.val = 0; omega
  | ⟨1, _⟩ => show a + 1 * v.val = a; omega
  | ⟨2, _⟩ => show 0 + 1 * j.val = j.val; omega

theorem At.rows_lt (w : At b n a) (r : Fin 256) : b + r.val < 2048 := by
  have h : b + 256 ≤ 2048 := w.rows 0
  have := r.isLt; omega

theorem At.pre_lt (w : At b n a) (j : Fin n) : 0 + j.val < 2048 := by
  have h : 0 + n ≤ 2048 := w.pre 0
  have := j.isLt; omega

theorem At.head_lt (w : At b n a) : a < 2 := by
  have h : a + 1 ≤ 2 := w.colQ 2
  omega

/-- The loads of a run whose blocks hold `D`'s numbers. -/
theorem Args.Holds.reads {A : Args Ideal} {D : Block} (hA : A.Holds D) (w : At b n a) : Reads D (A.loads w) b a where
  q r l := by
    refine (Memref.IsWhole.readAt_unread (Val := Elt Ideal) A.h1 A.x0 (Rect.unit (s := S2048x128) ![b, 0] (Mat 256 128).size w.rows).toLoadRect (ix2 r l)).trans ?_
    rw [rows_idx w.rows r l (w.rows_lt r)]
    exact hA.q _ l
  k j l := by
    refine (Memref.IsWhole.readAt_unread (Val := Elt Ideal) A.h2 A.x1 (Rect.unit (s := S2048x128) ![0, 0] (Mat n 128).size w.pre).toLoadRect (ix2 j l)).trans ?_
    rw [rows_idx w.pre j l (w.pre_lt j)]
    exact (hA.k _ l).trans (by simp only [Nat.zero_add])
  v j l := by
    refine (Memref.IsWhole.readAt_unread (Val := Elt Ideal) A.h3 A.x2 (Rect.unit (s := S2048x128) ![0, 0] (Mat n 128).size w.pre).toLoadRect (ix2 j l)).trans ?_
    rw [rows_idx w.pre j l (w.pre_lt j)]
    exact (hA.v _ l).trans (by simp only [Nat.zero_add])
  o r l := by
    refine (Memref.IsWhole.readAt_unread (Val := Elt Ideal) A.h4 A.x3 (Rect.unit (s := S2048x128) ![b, 0] (Mat 256 128).size w.rows).toLoadRect (ix2 r l)).trans ?_
    rw [rows_idx w.rows r l (w.rows_lt r)]
    exact hA.o _ l
  g r l := by
    refine (Memref.IsWhole.readAt_unread (Val := Elt Ideal) A.h5 A.x4 (Rect.unit (s := S2048x128) ![b, 0] (Mat 256 128).size w.rows).toLoadRect (ix2 r l)).trans ?_
    rw [rows_idx w.rows r l (w.rows_lt r)]
    exact hA.g _ l
  cq r := by
    refine (Memref.IsWhole.readAt_unread (Val := Elt Ideal) A.h6 A.x5 (Rect.unit (s := S1x2048x2) ![0, b, a] (Box 256 1).size w.colQ).toLoadRect (ix3 0 r 0)).trans ?_
    rw [colQ_idx w.colQ 0 r 0 (w.rows_lt r) w.head_lt]
    exact hA.cq _ _
  ck j := by
    refine (Memref.IsWhole.readAt_unread (Val := Elt Ideal) A.h7 A.x6 (Rect.unit (s := S1x2x2048) ![0, a, 0] (Box 1 n).size w.rowK).toLoadRect (ix3 0 0 j)).trans ?_
    rw [rowK_idx w.rowK 0 0 j (by have := w.pre_lt j; omega) w.head_lt]
    exact hA.ck _ _

variable (h : Fits n) {D : Block} {L : Loads Ideal n} {mk : IVec (Mat 256 128) 1} {ds p : FVec Ideal (Mat 256 n) .f32}

/-- The keys' gradient after a step. -/
theorem kStep (w : At b n a) (hn : b + 256 = n) (hL : Reads D L b a) (hm : Side mk a)
    (hd : ∀ (r : Fin 256) (j : Fin n), (ds (ix2 r j) : EReal) = ((D.ds a (b + r) j : ℝ) : EReal))
    {κ : Kind} {sp : Space} (v : View sig κ sp S2048x128 .f32) (P : List (View.Piece (Elt Ideal) S2048x128 .f32)) (T : ℕ → ℕ → ℝ)
    (hT : ∀ (j : Fin 2048) (l : Fin 128), (View.canon P (ix2 j l) : EReal) = ((T j l : ℝ) : EReal)) (j : Fin 2048) (l : Fin 128) :
    (View.canon (⟨Rect.unit (s := S2048x128) ![0, 0] (Mat n 128).size w.pre,
        dk h ds (qSel h mk L.q) (v.readCov P (Rect.unit (s := S2048x128) ![0, 0] (Mat n 128).size w.pre).toLoadRect)⟩ :: P) (ix2 j l) : EReal)
      = ((T j l + D.kAdd a b j l : ℝ) : EReal) := by
  by_cases hj : j.val < n
  · have e : (ix2 j l : S2048x128.Idx) = (Rect.unit (s := S2048x128) ![0, 0] (Mat n 128).size w.pre).emb (ix2 ⟨j.val, hj⟩ l) :=
      ((rows_idx w.pre ⟨j.val, hj⟩ l (w.pre_lt _)).trans (congrArg (fun z => ix2 z l) (Fin.ext (Nat.zero_add _)))).symm
    refine (congrArg _ e).trans ((View.canon_cons_emb _ _ _ _).trans ?_)
    refine dk_apply h hL hm hd _ (T j l) ⟨j.val, hj⟩ l ?_
    rw [View.readCov_eq_canon']
    exact (congrArg (View.canon P) e.symm).trans (hT j l)
  · refine (View.canon_cons_of_not_mem _ _ fun hmem => hj ?_).trans ((hT j l).trans ?_)
    · have hq : j.val < 0 + n := ((Rect.mem_set_unit (s := S2048x128) (inb := w.pre)).1 hmem 0).2
      omega
    · have hz : D.kAdd a b j l = 0 := Finset.sum_eq_zero fun r _ => by
        rw [D.ds_eq_zero (by have := r.isLt; omega), zero_mul]
      rw [hz, add_zero]

/-- The values' gradient after a step. -/
theorem vStep (w : At b n a) (hn : b + 256 = n) (hL : Reads D L b a) {mkn : IVec (Mat n 128) 1} (hm : Side mkn a)
    (hp : ∀ (r : Fin 256) (j : Fin n), (p (ix2 r j) : EReal) = ((D.p a (b + r) j : ℝ) : EReal))
    {κ : Kind} {sp : Space} (v : View sig κ sp S2048x128 .f32) (P : List (View.Piece (Elt Ideal) S2048x128 .f32)) (T : ℕ → ℕ → ℝ)
    (hT : ∀ (j : Fin 2048) (l : Fin 128), (View.canon P (ix2 j l) : EReal) = ((T j l : ℝ) : EReal)) (j : Fin 2048) (l : Fin 128) :
    (View.canon (⟨Rect.unit (s := S2048x128) ![0, 0] (Mat n 128).size w.pre,
        dv h mkn p L.gb (v.readCov P (Rect.unit (s := S2048x128) ![0, 0] (Mat n 128).size w.pre).toLoadRect)⟩ :: P) (ix2 j l) : EReal)
      = ((T j l + D.vAdd a b j l : ℝ) : EReal) := by
  by_cases hj : j.val < n
  · have e : (ix2 j l : S2048x128.Idx) = (Rect.unit (s := S2048x128) ![0, 0] (Mat n 128).size w.pre).emb (ix2 ⟨j.val, hj⟩ l) :=
      ((rows_idx w.pre ⟨j.val, hj⟩ l (w.pre_lt _)).trans (congrArg (fun z => ix2 z l) (Fin.ext (Nat.zero_add _)))).symm
    refine (congrArg _ e).trans ((View.canon_cons_emb _ _ _ _).trans ?_)
    refine dv_apply h hL hm hp _ (T j l) ⟨j.val, hj⟩ l ?_
    rw [View.readCov_eq_canon']
    exact (congrArg (View.canon P) e.symm).trans (hT j l)
  · refine (View.canon_cons_of_not_mem _ _ fun hmem => hj ?_).trans ((hT j l).trans ?_)
    · have hq : j.val < 0 + n := ((Rect.mem_set_unit (s := S2048x128) (inb := w.pre)).1 hmem 0).2
      omega
    · have hz : D.vAdd a b j l = 0 := by
        unfold Block.vAdd Block.sel
        rw [Finset.sum_eq_zero fun r _ => by rw [D.p_eq_zero (by have := r.isLt; omega), zero_mul], ite_self]
      rw [hz, add_zero]

/-- The gradient of the keys' gate sums after a step. -/
theorem cStep (w : At b n a) (hn : b + 256 = n)
    (hd : ∀ (r : Fin 256) (j : Fin n), (ds (ix2 r j) : EReal) = ((D.ds a (b + r) j : ℝ) : EReal))
    {κ : Kind} {sp : Space} (v : View sig κ sp S1x2x2048 .f32) (P : List (View.Piece (Elt Ideal) S1x2x2048 .f32)) (T : ℕ → ℕ → ℝ)
    (hT : ∀ (e : Fin 2) (j : Fin 2048), (View.canon P (ix3 0 e j) : EReal) = ((T e j : ℝ) : EReal)) (e : Fin 2) (j : Fin 2048) :
    (View.canon (⟨Rect.unit (s := S1x2x2048) ![0, a, 0] (Box 1 n).size w.rowK,
        dck h ds (v.readCov P (Rect.unit (s := S1x2x2048) ![0, a, 0] (Box 1 n).size w.rowK).toLoadRect)⟩ :: P) (ix3 0 e j) : EReal)
      = ((T e j - D.cAdd a b e j : ℝ) : EReal) := by
  by_cases hj : j.val < n ∧ e.val = a
  · have he : (ix3 0 e j : S1x2x2048.Idx) = (Rect.unit (s := S1x2x2048) ![0, a, 0] (Box 1 n).size w.rowK).emb (ix3 0 0 ⟨j.val, hj.1⟩) :=
      ((rowK_idx w.rowK 0 0 ⟨j.val, hj.1⟩ j.isLt w.head_lt).trans (congrArg (fun z => ix3 0 z j) (Fin.ext hj.2.symm))).symm
    refine (congrArg _ he).trans ((View.canon_cons_emb _ _ _ _).trans ?_)
    refine (dck_apply h hd _ (T e j) 0 0 ⟨j.val, hj.1⟩ ?_).trans ?_
    · rw [View.readCov_eq_canon']
      exact (congrArg (View.canon P) he.symm).trans (hT e j)
    · rw [Block.cAdd, if_pos hj.2]
  · refine (View.canon_cons_of_not_mem _ _ fun hmem => hj ⟨?_, ?_⟩).trans ((hT e j).trans ?_)
    · have hq : j.val < 0 + n := ((Rect.mem_set_unit (s := S1x2x2048) (inb := w.rowK)).1 hmem 2).2
      omega
    · have h1 : a ≤ e.val := ((Rect.mem_set_unit (s := S1x2x2048) (inb := w.rowK)).1 hmem 1).1
      have h2 : e.val < a + 1 := ((Rect.mem_set_unit (s := S1x2x2048) (inb := w.rowK)).1 hmem 1).2
      omega
    · have hz : D.cAdd a b e j = 0 := by
        unfold Block.cAdd
        split
        · next he => exact Finset.sum_eq_zero fun r _ => D.ds_eq_zero (by have := r.isLt; have : ¬ j.val < n := fun hlt => hj ⟨hlt, he⟩; omega)
        · rfl
      rw [hz, sub_zero]

/-- One column of the gradient of the queries' gate sums. -/
theorem cqPiece (w : At b n a) (hn : b + 256 = n)
    (hd : ∀ (r : Fin 256) (j : Fin n), (ds (ix2 r j) : EReal) = ((D.ds a (b + r) j : ℝ) : EReal))
    (x : (Rect.unit (s := S1x2048x2) ![0, b, a] (Box 256 1).size w.colQ).shape.Idx) :
    (dcq h ds x : EReal) = ((D.dcq ((Rect.unit (s := S1x2048x2) ![0, b, a] (Box 256 1).size w.colQ).emb x 2).val
      ((Rect.unit (s := S1x2048x2) ![0, b, a] (Box 256 1).size w.colQ).emb x 1).val : ℝ) : EReal) := by
  obtain ⟨u, r, e, rfl⟩ : ∃ (u : Fin 1) (r : Fin 256) (e : Fin 1), x = ix3 u r e := ⟨x 0, x 1, x 2, eq_ix3 x⟩
  have he : (Rect.unit (s := S1x2048x2) ![0, b, a] (Box 256 1).size w.colQ).emb (ix3 u r e) = _ := colQ_idx w.colQ u r e (w.rows_lt r) w.head_lt
  have hr := w.rows_lt r
  have hr' := r.isLt
  rw [he]
  refine (dcq_apply h hd u r e).trans (congrArg _ ?_)
  have hn' := w.pre 0
  exact Block.sum_cols (by omega) (by show n ≤ 2048; have : 0 + n ≤ 2048 := hn'; omega) (D.ds a (b + r)) fun j hj => D.ds_eq_zero hj

/-- One block of the queries' gradient. -/
theorem qPiece (w : At b n 0) (w' : At b n 1) (hn : b + 256 = n) {L' : Loads Ideal n} {ds' : FVec Ideal (Mat 256 n) .f32}
    (hL : Reads D L b 0) (hL' : Reads D L' b 1) {lo : IVec (Mat 256 128) 1} (hm : Side lo 0)
    (hd : ∀ (r : Fin 256) (j : Fin n), (ds (ix2 r j) : EReal) = ((D.ds 0 (b + r) j : ℝ) : EReal))
    (hd' : ∀ (r : Fin 256) (j : Fin n), (ds' (ix2 r j) : EReal) = ((D.ds 1 (b + r) j : ℝ) : EReal))
    (x : (Rect.unit (s := S2048x128) ![b, 0] (Mat 256 128).size w.rows).shape.Idx) :
    (truncf (F := Ideal) (s := Mat 256 128) .bf16 (select lo (dq h ds L.k) (dq h ds' L'.k)) Cert.KernelIdeal.Facts₀.bitsLt_bf16_f32 x : EReal)
      = ((D.dq ((Rect.unit (s := S2048x128) ![b, 0] (Mat 256 128).size w.rows).emb x 0).val
          ((Rect.unit (s := S2048x128) ![b, 0] (Mat 256 128).size w.rows).emb x 1).val : ℝ) : EReal) := by
  obtain ⟨r, l, rfl⟩ : ∃ (r : Fin 256) (l : Fin 128), x = ix2 r l := ⟨x 0, x 1, eq_ix2 x⟩
  have he : (Rect.unit (s := S2048x128) ![b, 0] (Mat 256 128).size w.rows).emb (ix2 r l) = _ := rows_idx w.rows r l (w.rows_lt r)
  rw [he]
  have hr' := r.isLt
  have hl := l.isLt
  have hn' : 0 + n ≤ 2048 := w.pre 0
  have sums : ∀ a, ∑ j : Fin n, D.ds a (b + r) j * D.k j l = ∑ j ∈ Finset.range 2048, D.ds a (b + r) j * D.k j l := fun a =>
    Block.sum_cols (i := b + r.val) (by omega) (by omega) (fun j => D.ds a (b + r) j * D.k j l) fun j hj => by rw [D.ds_eq_zero hj, zero_mul]
  show (select lo (dq h ds L.k) (dq h ds' L'.k) (ix2 r l) : EReal) = ((D.dq (b + r) l : ℝ) : EReal)
  rw [ValueIdx.select_apply, hm r l]
  unfold Block.dq
  split
  · next h0 => rw [h0, ← sums]; exact (ValueIdx.select_one _ _).trans (dq_apply h hL hd r l)
  · next h0 =>
    rw [show l.val / 64 = 1 by omega, ← sums]
    exact (ValueIdx.select_zero _ _).trans (dq_apply h hL' hd' r l)

end Cert.Proof.Fox
-- ==== Proof.Steps.lean ====
/-
  The sixteen steps of the body: query block `q`, head `a`, `n = 256 (q + 1)` keys. Their shape conditions, and each step's
  probabilities and cotangent of the scores.
-/
module

public import proofs.«01_k».proof.Proof.Args

@[expose] public section

set_option maxRecDepth 16384

noncomputable section

namespace Cert.Proof.Fox

open Idealize.ShloMosaic Cert.KernelIdeal Cert.KernelIdeal.Gen Cert.KernelIdeal.Gen.kernelRun0_A

theorem fits256 : Fits 256 := by constructor <;> decide
theorem lanes256 : (Mat 256 128).Iotas .tc 32 [1] := by decide
theorem at256_0 : At 0 256 0 := by constructor <;> decide
theorem at256_1 : At 0 256 1 := by constructor <;> decide
theorem fits512 : Fits 512 := by constructor <;> decide
theorem lanes512 : (Mat 512 128).Iotas .tc 32 [1] := by decide
theorem splits512 : Splits 256 512 := by constructor <;> decide
theorem at512_0 : At 256 512 0 := by constructor <;> decide
theorem at512_1 : At 256 512 1 := by constructor <;> decide
theorem fits768 : Fits 768 := by constructor <;> decide
theorem lanes768 : (Mat 768 128).Iotas .tc 32 [1] := by decide
theorem splits768 : Splits 512 768 := by constructor <;> decide
theorem at768_0 : At 512 768 0 := by constructor <;> decide
theorem at768_1 : At 512 768 1 := by constructor <;> decide
theorem fits1024 : Fits 1024 := by constructor <;> decide
theorem lanes1024 : (Mat 1024 128).Iotas .tc 32 [1] := by decide
theorem splits1024 : Splits 768 1024 := by constructor <;> decide
theorem at1024_0 : At 768 1024 0 := by constructor <;> decide
theorem at1024_1 : At 768 1024 1 := by constructor <;> decide
theorem fits1280 : Fits 1280 := by constructor <;> decide
theorem lanes1280 : (Mat 1280 128).Iotas .tc 32 [1] := by decide
theorem splits1280 : Splits 1024 1280 := by constructor <;> decide
theorem at1280_0 : At 1024 1280 0 := by constructor <;> decide
theorem at1280_1 : At 1024 1280 1 := by constructor <;> decide
theorem fits1536 : Fits 1536 := by constructor <;> decide
theorem lanes1536 : (Mat 1536 128).Iotas .tc 32 [1] := by decide
theorem splits1536 : Splits 1280 1536 := by constructor <;> decide
theorem at1536_0 : At 1280 1536 0 := by constructor <;> decide
theorem at1536_1 : At 1280 1536 1 := by constructor <;> decide
theorem fits1792 : Fits 1792 := by constructor <;> decide
theorem lanes1792 : (Mat 1792 128).Iotas .tc 32 [1] := by decide
theorem splits1792 : Splits 1536 1792 := by constructor <;> decide
theorem at1792_0 : At 1536 1792 0 := by constructor <;> decide
theorem at1792_1 : At 1536 1792 1 := by constructor <;> decide
theorem fits2048 : Fits 2048 := by constructor <;> decide
theorem lanes2048 : (Mat 2048 128).Iotas .tc 32 [1] := by decide
theorem splits2048 : Splits 1792 2048 := by constructor <;> decide
theorem at2048_0 : At 1792 2048 0 := by constructor <;> decide
theorem at2048_1 : At 1792 2048 1 := by constructor <;> decide

namespace Args

variable {F : FTy → Type} [FloatOps F] [Named F] (A : Args F)

/-- The probabilities of block 0, head 0. -/
def p0 : FVec F (Mat 256 256) .f32 := (A.loads at256_0).p fits256 (maskSquare fits256) (lo 256 lanes256)
/-- The scores' cotangent of block 0, head 0. -/
def ds0 : FVec F (Mat 256 256) .f32 := (A.loads at256_0).ds fits256 (maskSquare fits256) (lo 256 lanes256)
/-- The probabilities of block 0, head 1. -/
def p1 : FVec F (Mat 256 256) .f32 := (A.loads at256_1).p fits256 (maskSquare fits256) (hi 256 lanes256)
/-- The scores' cotangent of block 0, head 1. -/
def ds1 : FVec F (Mat 256 256) .f32 := (A.loads at256_1).ds fits256 (maskSquare fits256) (hi 256 lanes256)
/-- The probabilities of block 1, head 0. -/
def p2 : FVec F (Mat 256 512) .f32 := (A.loads at512_0).p fits512 (maskLast fits512 splits512) (lo 256 lanes256)
/-- The scores' cotangent of block 1, head 0. -/
def ds2 : FVec F (Mat 256 512) .f32 := (A.loads at512_0).ds fits512 (maskLast fits512 splits512) (lo 256 lanes256)
/-- The probabilities of block 1, head 1. -/
def p3 : FVec F (Mat 256 512) .f32 := (A.loads at512_1).p fits512 (maskLast fits512 splits512) (hi 256 lanes256)
/-- The scores' cotangent of block 1, head 1. -/
def ds3 : FVec F (Mat 256 512) .f32 := (A.loads at512_1).ds fits512 (maskLast fits512 splits512) (hi 256 lanes256)
/-- The probabilities of block 2, head 0. -/
def p4 : FVec F (Mat 256 768) .f32 := (A.loads at768_0).p fits768 (maskLast fits768 splits768) (lo 256 lanes256)
/-- The scores' cotangent of block 2, head 0. -/
def ds4 : FVec F (Mat 256 768) .f32 := (A.loads at768_0).ds fits768 (maskLast fits768 splits768) (lo 256 lanes256)
/-- The probabilities of block 2, head 1. -/
def p5 : FVec F (Mat 256 768) .f32 := (A.loads at768_1).p fits768 (maskLast fits768 splits768) (hi 256 lanes256)
/-- The scores' cotangent of block 2, head 1. -/
def ds5 : FVec F (Mat 256 768) .f32 := (A.loads at768_1).ds fits768 (maskLast fits768 splits768) (hi 256 lanes256)
/-- The probabilities of block 3, head 0. -/
def p6 : FVec F (Mat 256 1024) .f32 := (A.loads at1024_0).p fits1024 (maskLast fits1024 splits1024) (lo 256 lanes256)
/-- The scores' cotangent of block 3, head 0. -/
def ds6 : FVec F (Mat 256 1024) .f32 := (A.loads at1024_0).ds fits1024 (maskLast fits1024 splits1024) (lo 256 lanes256)
/-- The probabilities of block 3, head 1. -/
def p7 : FVec F (Mat 256 1024) .f32 := (A.loads at1024_1).p fits1024 (maskLast fits1024 splits1024) (hi 256 lanes256)
/-- The scores' cotangent of block 3, head 1. -/
def ds7 : FVec F (Mat 256 1024) .f32 := (A.loads at1024_1).ds fits1024 (maskLast fits1024 splits1024) (hi 256 lanes256)
/-- The probabilities of block 4, head 0. -/
def p8 : FVec F (Mat 256 1280) .f32 := (A.loads at1280_0).p fits1280 (maskLast fits1280 splits1280) (lo 256 lanes256)
/-- The scores' cotangent of block 4, head 0. -/
def ds8 : FVec F (Mat 256 1280) .f32 := (A.loads at1280_0).ds fits1280 (maskLast fits1280 splits1280) (lo 256 lanes256)
/-- The probabilities of block 4, head 1. -/
def p9 : FVec F (Mat 256 1280) .f32 := (A.loads at1280_1).p fits1280 (maskLast fits1280 splits1280) (hi 256 lanes256)
/-- The scores' cotangent of block 4, head 1. -/
def ds9 : FVec F (Mat 256 1280) .f32 := (A.loads at1280_1).ds fits1280 (maskLast fits1280 splits1280) (hi 256 lanes256)
/-- The probabilities of block 5, head 0. -/
def p10 : FVec F (Mat 256 1536) .f32 := (A.loads at1536_0).p fits1536 (maskLast fits1536 splits1536) (lo 256 lanes256)
/-- The scores' cotangent of block 5, head 0. -/
def ds10 : FVec F (Mat 256 1536) .f32 := (A.loads at1536_0).ds fits1536 (maskLast fits1536 splits1536) (lo 256 lanes256)
/-- The probabilities of block 5, head 1. -/
def p11 : FVec F (Mat 256 1536) .f32 := (A.loads at1536_1).p fits1536 (maskLast fits1536 splits1536) (hi 256 lanes256)
/-- The scores' cotangent of block 5, head 1. -/
def ds11 : FVec F (Mat 256 1536) .f32 := (A.loads at1536_1).ds fits1536 (maskLast fits1536 splits1536) (hi 256 lanes256)
/-- The probabilities of block 6, head 0. -/
def p12 : FVec F (Mat 256 1792) .f32 := (A.loads at1792_0).p fits1792 (maskLast fits1792 splits1792) (lo 256 lanes256)
/-- The scores' cotangent of block 6, head 0. -/
def ds12 : FVec F (Mat 256 1792) .f32 := (A.loads at1792_0).ds fits1792 (maskLast fits1792 splits1792) (lo 256 lanes256)
/-- The probabilities of block 6, head 1. -/
def p13 : FVec F (Mat 256 1792) .f32 := (A.loads at1792_1).p fits1792 (maskLast fits1792 splits1792) (hi 256 lanes256)
/-- The scores' cotangent of block 6, head 1. -/
def ds13 : FVec F (Mat 256 1792) .f32 := (A.loads at1792_1).ds fits1792 (maskLast fits1792 splits1792) (hi 256 lanes256)
/-- The probabilities of block 7, head 0. -/
def p14 : FVec F (Mat 256 2048) .f32 := (A.loads at2048_0).p fits2048 (maskLast fits2048 splits2048) (lo 256 lanes256)
/-- The scores' cotangent of block 7, head 0. -/
def ds14 : FVec F (Mat 256 2048) .f32 := (A.loads at2048_0).ds fits2048 (maskLast fits2048 splits2048) (lo 256 lanes256)
/-- The probabilities of block 7, head 1. -/
def p15 : FVec F (Mat 256 2048) .f32 := (A.loads at2048_1).p fits2048 (maskLast fits2048 splits2048) (hi 256 lanes256)
/-- The scores' cotangent of block 7, head 1. -/
def ds15 : FVec F (Mat 256 2048) .f32 := (A.loads at2048_1).ds fits2048 (maskLast fits2048 splits2048) (hi 256 lanes256)

end Args

end Cert.Proof.Fox
-- ==== Proof.Br0.lean ====
/-
  Steps 0 to 3 of the printed body are the named stages: what each step writes into the three accumulators.
-/
module

public import proofs.«01_k».proof.Proof.Steps

@[expose] public section

set_option maxRecDepth 16384

noncomputable section

namespace Cert.Proof.Fox

open Idealize.ShloMosaic Cert.KernelIdeal Cert.KernelIdeal.Gen Cert.KernelIdeal.Gen.kernelRun0_A

namespace Args

variable {F : FTy → Type} [FloatOps F] [Named F] (A : Args F)

theorem kAt1_eq : A.kAt1 = ⟨Rect.unit (s := S2048x128) ![0, 0] (Mat 256 128).size at256_0.pre,
    dk fits256 A.ds0 (qSel fits256 (lo 256 lanes256) (A.loads at256_0).q) (A.a13.view.readCov kAt0 (Rect.unit (s := S2048x128) ![0, 0] (Mat 256 128).size at256_0.pre).toLoadRect)⟩ :: kAt0 := rfl

theorem vAt1_eq : A.vAt1 = ⟨Rect.unit (s := S2048x128) ![0, 0] (Mat 256 128).size at256_0.pre,
    dv fits256 (lo 256 lanes256) A.p0 (A.loads at256_0).gb (A.a14.view.readCov vAt0 (Rect.unit (s := S2048x128) ![0, 0] (Mat 256 128).size at256_0.pre).toLoadRect)⟩ :: vAt0 := rfl

theorem cAt1_eq : A.cAt1 = ⟨Rect.unit (s := S1x2x2048) ![0, 0, 0] (Box 1 256).size at256_0.rowK,
    dck fits256 A.ds0 (A.a12.view.readCov cAt0 (Rect.unit (s := S1x2x2048) ![0, 0, 0] (Box 1 256).size at256_0.rowK).toLoadRect)⟩ :: cAt0 := rfl

theorem kAt2_eq : A.kAt2 = ⟨Rect.unit (s := S2048x128) ![0, 0] (Mat 256 128).size at256_1.pre,
    dk fits256 A.ds1 (qSel fits256 (hi 256 lanes256) (A.loads at256_1).q) (A.a13.view.readCov A.kAt1 (Rect.unit (s := S2048x128) ![0, 0] (Mat 256 128).size at256_1.pre).toLoadRect)⟩ :: A.kAt1 := rfl

theorem vAt2_eq : A.vAt2 = ⟨Rect.unit (s := S2048x128) ![0, 0] (Mat 256 128).size at256_1.pre,
    dv fits256 (hi 256 lanes256) A.p1 (A.loads at256_1).gb (A.a14.view.readCov A.vAt1 (Rect.unit (s := S2048x128) ![0, 0] (Mat 256 128).size at256_1.pre).toLoadRect)⟩ :: A.vAt1 := rfl

theorem cAt2_eq : A.cAt2 = ⟨Rect.unit (s := S1x2x2048) ![0, 1, 0] (Box 1 256).size at256_1.rowK,
    dck fits256 A.ds1 (A.a12.view.readCov A.cAt1 (Rect.unit (s := S1x2x2048) ![0, 1, 0] (Box 1 256).size at256_1.rowK).toLoadRect)⟩ :: A.cAt1 := rfl

theorem kAt3_eq : A.kAt3 = ⟨Rect.unit (s := S2048x128) ![0, 0] (Mat 512 128).size at512_0.pre,
    dk fits512 A.ds2 (qSel fits512 (lo 256 lanes256) (A.loads at512_0).q) (A.a13.view.readCov A.kAt2 (Rect.unit (s := S2048x128) ![0, 0] (Mat 512 128).size at512_0.pre).toLoadRect)⟩ :: A.kAt2 := rfl

theorem vAt3_eq : A.vAt3 = ⟨Rect.unit (s := S2048x128) ![0, 0] (Mat 512 128).size at512_0.pre,
    dv fits512 (lo 512 lanes512) A.p2 (A.loads at512_0).gb (A.a14.view.readCov A.vAt2 (Rect.unit (s := S2048x128) ![0, 0] (Mat 512 128).size at512_0.pre).toLoadRect)⟩ :: A.vAt2 := rfl

theorem cAt3_eq : A.cAt3 = ⟨Rect.unit (s := S1x2x2048) ![0, 0, 0] (Box 1 512).size at512_0.rowK,
    dck fits512 A.ds2 (A.a12.view.readCov A.cAt2 (Rect.unit (s := S1x2x2048) ![0, 0, 0] (Box 1 512).size at512_0.rowK).toLoadRect)⟩ :: A.cAt2 := rfl

theorem kAt4_eq : A.kAt4 = ⟨Rect.unit (s := S2048x128) ![0, 0] (Mat 512 128).size at512_1.pre,
    dk fits512 A.ds3 (qSel fits512 (hi 256 lanes256) (A.loads at512_1).q) (A.a13.view.readCov A.kAt3 (Rect.unit (s := S2048x128) ![0, 0] (Mat 512 128).size at512_1.pre).toLoadRect)⟩ :: A.kAt3 := rfl

theorem vAt4_eq : A.vAt4 = ⟨Rect.unit (s := S2048x128) ![0, 0] (Mat 512 128).size at512_1.pre,
    dv fits512 (hi 512 lanes512) A.p3 (A.loads at512_1).gb (A.a14.view.readCov A.vAt3 (Rect.unit (s := S2048x128) ![0, 0] (Mat 512 128).size at512_1.pre).toLoadRect)⟩ :: A.vAt3 := rfl

theorem cAt4_eq : A.cAt4 = ⟨Rect.unit (s := S1x2x2048) ![0, 1, 0] (Box 1 512).size at512_1.rowK,
    dck fits512 A.ds3 (A.a12.view.readCov A.cAt3 (Rect.unit (s := S1x2x2048) ![0, 1, 0] (Box 1 512).size at512_1.rowK).toLoadRect)⟩ :: A.cAt3 := rfl

end Args

end Cert.Proof.Fox
-- ==== Proof.Br1.lean ====
/-
  Steps 4 to 7 of the printed body are the named stages: what each step writes into the three accumulators.
-/
module

public import proofs.«01_k».proof.Proof.Steps

@[expose] public section

set_option maxRecDepth 16384

noncomputable section

namespace Cert.Proof.Fox

open Idealize.ShloMosaic Cert.KernelIdeal Cert.KernelIdeal.Gen Cert.KernelIdeal.Gen.kernelRun0_A

namespace Args

variable {F : FTy → Type} [FloatOps F] [Named F] (A : Args F)

theorem kAt5_eq : A.kAt5 = ⟨Rect.unit (s := S2048x128) ![0, 0] (Mat 768 128).size at768_0.pre,
    dk fits768 A.ds4 (qSel fits768 (lo 256 lanes256) (A.loads at768_0).q) (A.a13.view.readCov A.kAt4 (Rect.unit (s := S2048x128) ![0, 0] (Mat 768 128).size at768_0.pre).toLoadRect)⟩ :: A.kAt4 := rfl

theorem vAt5_eq : A.vAt5 = ⟨Rect.unit (s := S2048x128) ![0, 0] (Mat 768 128).size at768_0.pre,
    dv fits768 (lo 768 lanes768) A.p4 (A.loads at768_0).gb (A.a14.view.readCov A.vAt4 (Rect.unit (s := S2048x128) ![0, 0] (Mat 768 128).size at768_0.pre).toLoadRect)⟩ :: A.vAt4 := rfl

theorem cAt5_eq : A.cAt5 = ⟨Rect.unit (s := S1x2x2048) ![0, 0, 0] (Box 1 768).size at768_0.rowK,
    dck fits768 A.ds4 (A.a12.view.readCov A.cAt4 (Rect.unit (s := S1x2x2048) ![0, 0, 0] (Box 1 768).size at768_0.rowK).toLoadRect)⟩ :: A.cAt4 := rfl

theorem kAt6_eq : A.kAt6 = ⟨Rect.unit (s := S2048x128) ![0, 0] (Mat 768 128).size at768_1.pre,
    dk fits768 A.ds5 (qSel fits768 (hi 256 lanes256) (A.loads at768_1).q) (A.a13.view.readCov A.kAt5 (Rect.unit (s := S2048x128) ![0, 0] (Mat 768 128).size at768_1.pre).toLoadRect)⟩ :: A.kAt5 := rfl

theorem vAt6_eq : A.vAt6 = ⟨Rect.unit (s := S2048x128) ![0, 0] (Mat 768 128).size at768_1.pre,
    dv fits768 (hi 768 lanes768) A.p5 (A.loads at768_1).gb (A.a14.view.readCov A.vAt5 (Rect.unit (s := S2048x128) ![0, 0] (Mat 768 128).size at768_1.pre).toLoadRect)⟩ :: A.vAt5 := rfl

theorem cAt6_eq : A.cAt6 = ⟨Rect.unit (s := S1x2x2048) ![0, 1, 0] (Box 1 768).size at768_1.rowK,
    dck fits768 A.ds5 (A.a12.view.readCov A.cAt5 (Rect.unit (s := S1x2x2048) ![0, 1, 0] (Box 1 768).size at768_1.rowK).toLoadRect)⟩ :: A.cAt5 := rfl

theorem kAt7_eq : A.kAt7 = ⟨Rect.unit (s := S2048x128) ![0, 0] (Mat 1024 128).size at1024_0.pre,
    dk fits1024 A.ds6 (qSel fits1024 (lo 256 lanes256) (A.loads at1024_0).q) (A.a13.view.readCov A.kAt6 (Rect.unit (s := S2048x128) ![0, 0] (Mat 1024 128).size at1024_0.pre).toLoadRect)⟩ :: A.kAt6 := rfl

theorem vAt7_eq : A.vAt7 = ⟨Rect.unit (s := S2048x128) ![0, 0] (Mat 1024 128).size at1024_0.pre,
    dv fits1024 (lo 1024 lanes1024) A.p6 (A.loads at1024_0).gb (A.a14.view.readCov A.vAt6 (Rect.unit (s := S2048x128) ![0, 0] (Mat 1024 128).size at1024_0.pre).toLoadRect)⟩ :: A.vAt6 := rfl

theorem cAt7_eq : A.cAt7 = ⟨Rect.unit (s := S1x2x2048) ![0, 0, 0] (Box 1 1024).size at1024_0.rowK,
    dck fits1024 A.ds6 (A.a12.view.readCov A.cAt6 (Rect.unit (s := S1x2x2048) ![0, 0, 0] (Box 1 1024).size at1024_0.rowK).toLoadRect)⟩ :: A.cAt6 := rfl

theorem kAt8_eq : A.kAt8 = ⟨Rect.unit (s := S2048x128) ![0, 0] (Mat 1024 128).size at1024_1.pre,
    dk fits1024 A.ds7 (qSel fits1024 (hi 256 lanes256) (A.loads at1024_1).q) (A.a13.view.readCov A.kAt7 (Rect.unit (s := S2048x128) ![0, 0] (Mat 1024 128).size at1024_1.pre).toLoadRect)⟩ :: A.kAt7 := rfl

theorem vAt8_eq : A.vAt8 = ⟨Rect.unit (s := S2048x128) ![0, 0] (Mat 1024 128).size at1024_1.pre,
    dv fits1024 (hi 1024 lanes1024) A.p7 (A.loads at1024_1).gb (A.a14.view.readCov A.vAt7 (Rect.unit (s := S2048x128) ![0, 0] (Mat 1024 128).size at1024_1.pre).toLoadRect)⟩ :: A.vAt7 := rfl

theorem cAt8_eq : A.cAt8 = ⟨Rect.unit (s := S1x2x2048) ![0, 1, 0] (Box 1 1024).size at1024_1.rowK,
    dck fits1024 A.ds7 (A.a12.view.readCov A.cAt7 (Rect.unit (s := S1x2x2048) ![0, 1, 0] (Box 1 1024).size at1024_1.rowK).toLoadRect)⟩ :: A.cAt7 := rfl

end Args

end Cert.Proof.Fox
-- ==== Proof.Br2.lean ====
/-
  Steps 8 to 11 of the printed body are the named stages: what each step writes into the three accumulators.
-/
module

public import proofs.«01_k».proof.Proof.Steps

@[expose] public section

set_option maxRecDepth 16384

noncomputable section

namespace Cert.Proof.Fox

open Idealize.ShloMosaic Cert.KernelIdeal Cert.KernelIdeal.Gen Cert.KernelIdeal.Gen.kernelRun0_A

namespace Args

variable {F : FTy → Type} [FloatOps F] [Named F] (A : Args F)

theorem kAt9_eq : A.kAt9 = ⟨Rect.unit (s := S2048x128) ![0, 0] (Mat 1280 128).size at1280_0.pre,
    dk fits1280 A.ds8 (qSel fits1280 (lo 256 lanes256) (A.loads at1280_0).q) (A.a13.view.readCov A.kAt8 (Rect.unit (s := S2048x128) ![0, 0] (Mat 1280 128).size at1280_0.pre).toLoadRect)⟩ :: A.kAt8 := rfl

theorem vAt9_eq : A.vAt9 = ⟨Rect.unit (s := S2048x128) ![0, 0] (Mat 1280 128).size at1280_0.pre,
    dv fits1280 (lo 1280 lanes1280) A.p8 (A.loads at1280_0).gb (A.a14.view.readCov A.vAt8 (Rect.unit (s := S2048x128) ![0, 0] (Mat 1280 128).size at1280_0.pre).toLoadRect)⟩ :: A.vAt8 := rfl

theorem cAt9_eq : A.cAt9 = ⟨Rect.unit (s := S1x2x2048) ![0, 0, 0] (Box 1 1280).size at1280_0.rowK,
    dck fits1280 A.ds8 (A.a12.view.readCov A.cAt8 (Rect.unit (s := S1x2x2048) ![0, 0, 0] (Box 1 1280).size at1280_0.rowK).toLoadRect)⟩ :: A.cAt8 := rfl

theorem kAt10_eq : A.kAt10 = ⟨Rect.unit (s := S2048x128) ![0, 0] (Mat 1280 128).size at1280_1.pre,
    dk fits1280 A.ds9 (qSel fits1280 (hi 256 lanes256) (A.loads at1280_1).q) (A.a13.view.readCov A.kAt9 (Rect.unit (s := S2048x128) ![0, 0] (Mat 1280 128).size at1280_1.pre).toLoadRect)⟩ :: A.kAt9 := rfl

theorem vAt10_eq : A.vAt10 = ⟨Rect.unit (s := S2048x128) ![0, 0] (Mat 1280 128).size at1280_1.pre,
    dv fits1280 (hi 1280 lanes1280) A.p9 (A.loads at1280_1).gb (A.a14.view.readCov A.vAt9 (Rect.unit (s := S2048x128) ![0, 0] (Mat 1280 128).size at1280_1.pre).toLoadRect)⟩ :: A.vAt9 := rfl

theorem cAt10_eq : A.cAt10 = ⟨Rect.unit (s := S1x2x2048) ![0, 1, 0] (Box 1 1280).size at1280_1.rowK,
    dck fits1280 A.ds9 (A.a12.view.readCov A.cAt9 (Rect.unit (s := S1x2x2048) ![0, 1, 0] (Box 1 1280).size at1280_1.rowK).toLoadRect)⟩ :: A.cAt9 := rfl

theorem kAt11_eq : A.kAt11 = ⟨Rect.unit (s := S2048x128) ![0, 0] (Mat 1536 128).size at1536_0.pre,
    dk fits1536 A.ds10 (qSel fits1536 (lo 256 lanes256) (A.loads at1536_0).q) (A.a13.view.readCov A.kAt10 (Rect.unit (s := S2048x128) ![0, 0] (Mat 1536 128).size at1536_0.pre).toLoadRect)⟩ :: A.kAt10 := rfl

theorem vAt11_eq : A.vAt11 = ⟨Rect.unit (s := S2048x128) ![0, 0] (Mat 1536 128).size at1536_0.pre,
    dv fits1536 (lo 1536 lanes1536) A.p10 (A.loads at1536_0).gb (A.a14.view.readCov A.vAt10 (Rect.unit (s := S2048x128) ![0, 0] (Mat 1536 128).size at1536_0.pre).toLoadRect)⟩ :: A.vAt10 := rfl

theorem cAt11_eq : A.cAt11 = ⟨Rect.unit (s := S1x2x2048) ![0, 0, 0] (Box 1 1536).size at1536_0.rowK,
    dck fits1536 A.ds10 (A.a12.view.readCov A.cAt10 (Rect.unit (s := S1x2x2048) ![0, 0, 0] (Box 1 1536).size at1536_0.rowK).toLoadRect)⟩ :: A.cAt10 := rfl

theorem kAt12_eq : A.kAt12 = ⟨Rect.unit (s := S2048x128) ![0, 0] (Mat 1536 128).size at1536_1.pre,
    dk fits1536 A.ds11 (qSel fits1536 (hi 256 lanes256) (A.loads at1536_1).q) (A.a13.view.readCov A.kAt11 (Rect.unit (s := S2048x128) ![0, 0] (Mat 1536 128).size at1536_1.pre).toLoadRect)⟩ :: A.kAt11 := rfl

theorem vAt12_eq : A.vAt12 = ⟨Rect.unit (s := S2048x128) ![0, 0] (Mat 1536 128).size at1536_1.pre,
    dv fits1536 (hi 1536 lanes1536) A.p11 (A.loads at1536_1).gb (A.a14.view.readCov A.vAt11 (Rect.unit (s := S2048x128) ![0, 0] (Mat 1536 128).size at1536_1.pre).toLoadRect)⟩ :: A.vAt11 := rfl

theorem cAt12_eq : A.cAt12 = ⟨Rect.unit (s := S1x2x2048) ![0, 1, 0] (Box 1 1536).size at1536_1.rowK,
    dck fits1536 A.ds11 (A.a12.view.readCov A.cAt11 (Rect.unit (s := S1x2x2048) ![0, 1, 0] (Box 1 1536).size at1536_1.rowK).toLoadRect)⟩ :: A.cAt11 := rfl

end Args

end Cert.Proof.Fox
-- ==== Proof.Br3.lean ====
/-
  Steps 12 to 15 of the printed body are the named stages: what each step writes into the three accumulators.
-/
module

public import proofs.«01_k».proof.Proof.Steps

@[expose] public section

set_option maxRecDepth 16384

noncomputable section

namespace Cert.Proof.Fox

open Idealize.ShloMosaic Cert.KernelIdeal Cert.KernelIdeal.Gen Cert.KernelIdeal.Gen.kernelRun0_A

namespace Args

variable {F : FTy → Type} [FloatOps F] [Named F] (A : Args F)

theorem kAt13_eq : A.kAt13 = ⟨Rect.unit (s := S2048x128) ![0, 0] (Mat 1792 128).size at1792_0.pre,
    dk fits1792 A.ds12 (qSel fits1792 (lo 256 lanes256) (A.loads at1792_0).q) (A.a13.view.readCov A.kAt12 (Rect.unit (s := S2048x128) ![0, 0] (Mat 1792 128).size at1792_0.pre).toLoadRect)⟩ :: A.kAt12 := rfl

theorem vAt13_eq : A.vAt13 = ⟨Rect.unit (s := S2048x128) ![0, 0] (Mat 1792 128).size at1792_0.pre,
    dv fits1792 (lo 1792 lanes1792) A.p12 (A.loads at1792_0).gb (A.a14.view.readCov A.vAt12 (Rect.unit (s := S2048x128) ![0, 0] (Mat 1792 128).size at1792_0.pre).toLoadRect)⟩ :: A.vAt12 := rfl

theorem cAt13_eq : A.cAt13 = ⟨Rect.unit (s := S1x2x2048) ![0, 0, 0] (Box 1 1792).size at1792_0.rowK,
    dck fits1792 A.ds12 (A.a12.view.readCov A.cAt12 (Rect.unit (s := S1x2x2048) ![0, 0, 0] (Box 1 1792).size at1792_0.rowK).toLoadRect)⟩ :: A.cAt12 := rfl

theorem kAt14_eq : A.kAt14 = ⟨Rect.unit (s := S2048x128) ![0, 0] (Mat 1792 128).size at1792_1.pre,
    dk fits1792 A.ds13 (qSel fits1792 (hi 256 lanes256) (A.loads at1792_1).q) (A.a13.view.readCov A.kAt13 (Rect.unit (s := S2048x128) ![0, 0] (Mat 1792 128).size at1792_1.pre).toLoadRect)⟩ :: A.kAt13 := rfl

theorem vAt14_eq : A.vAt14 = ⟨Rect.unit (s := S2048x128) ![0, 0] (Mat 1792 128).size at1792_1.pre,
    dv fits1792 (hi 1792 lanes1792) A.p13 (A.loads at1792_1).gb (A.a14.view.readCov A.vAt13 (Rect.unit (s := S2048x128) ![0, 0] (Mat 1792 128).size at1792_1.pre).toLoadRect)⟩ :: A.vAt13 := rfl

theorem cAt14_eq : A.cAt14 = ⟨Rect.unit (s := S1x2x2048) ![0, 1, 0] (Box 1 1792).size at1792_1.rowK,
    dck fits1792 A.ds13 (A.a12.view.readCov A.cAt13 (Rect.unit (s := S1x2x2048) ![0, 1, 0] (Box 1 1792).size at1792_1.rowK).toLoadRect)⟩ :: A.cAt13 := rfl

theorem kAt15_eq : A.kAt15 = ⟨Rect.unit (s := S2048x128) ![0, 0] (Mat 2048 128).size at2048_0.pre,
    dk fits2048 A.ds14 (qSel fits2048 (lo 256 lanes256) (A.loads at2048_0).q) (A.a13.view.readCov A.kAt14 (Rect.unit (s := S2048x128) ![0, 0] (Mat 2048 128).size at2048_0.pre).toLoadRect)⟩ :: A.kAt14 := rfl

theorem vAt15_eq : A.vAt15 = ⟨Rect.unit (s := S2048x128) ![0, 0] (Mat 2048 128).size at2048_0.pre,
    dv fits2048 (lo 2048 lanes2048) A.p14 (A.loads at2048_0).gb (A.a14.view.readCov A.vAt14 (Rect.unit (s := S2048x128) ![0, 0] (Mat 2048 128).size at2048_0.pre).toLoadRect)⟩ :: A.vAt14 := rfl

theorem cAt15_eq : A.cAt15 = ⟨Rect.unit (s := S1x2x2048) ![0, 0, 0] (Box 1 2048).size at2048_0.rowK,
    dck fits2048 A.ds14 (A.a12.view.readCov A.cAt14 (Rect.unit (s := S1x2x2048) ![0, 0, 0] (Box 1 2048).size at2048_0.rowK).toLoadRect)⟩ :: A.cAt14 := rfl

theorem kAt16_eq : A.kAt16 = ⟨Rect.unit (s := S2048x128) ![0, 0] (Mat 2048 128).size at2048_1.pre,
    dk fits2048 A.ds15 (qSel fits2048 (hi 256 lanes256) (A.loads at2048_1).q) (A.a13.view.readCov A.kAt15 (Rect.unit (s := S2048x128) ![0, 0] (Mat 2048 128).size at2048_1.pre).toLoadRect)⟩ :: A.kAt15 := rfl

theorem vAt16_eq : A.vAt16 = ⟨Rect.unit (s := S2048x128) ![0, 0] (Mat 2048 128).size at2048_1.pre,
    dv fits2048 (hi 2048 lanes2048) A.p15 (A.loads at2048_1).gb (A.a14.view.readCov A.vAt15 (Rect.unit (s := S2048x128) ![0, 0] (Mat 2048 128).size at2048_1.pre).toLoadRect)⟩ :: A.vAt15 := rfl

theorem cAt16_eq : A.cAt16 = ⟨Rect.unit (s := S1x2x2048) ![0, 1, 0] (Box 1 2048).size at2048_1.rowK,
    dck fits2048 A.ds15 (A.a12.view.readCov A.cAt15 (Rect.unit (s := S1x2x2048) ![0, 1, 0] (Box 1 2048).size at2048_1.rowK).toLoadRect)⟩ :: A.cAt15 := rfl

end Args

end Cert.Proof.Fox
-- ==== Proof.BrOut.lean ====
/-
  The pieces of the five outputs: eight blocks of the queries' gradient, the two accumulators' final contents, sixteen columns
  of the query gate sums' gradient.
-/
module

public import proofs.«01_k».proof.Proof.Steps

@[expose] public section

set_option maxRecDepth 16384

noncomputable section

namespace Cert.Proof.Fox

open Idealize.ShloMosaic Cert.KernelIdeal Cert.KernelIdeal.Gen Cert.KernelIdeal.Gen.kernelRun0_A

namespace Args

variable {F : FTy → Type} [FloatOps F] [Named F] (A : Args F)

/-- The query gradient of one block: each half of the lanes from its head. -/
def dqBlock {n : ℕ} (h : Fits n) (d0 d1 : FVec F (Mat 256 n) .f32) (k0 k1 : Vec F (Mat n 128) .bf16) : FVec F (Mat 256 128) .bf16 :=
  truncf .bf16 (select (lo 256 lanes256) (dq h d0 k0) (dq h d1 k1)) Cert.KernelIdeal.Facts₀.bitsLt_bf16_f32

/-- The pieces of the queries' gradient. -/
def dqPieces : List (View.Piece (Elt F) S2048x128 .bf16) := [
    ⟨Rect.unit (s := S2048x128) ![1792, 0] (Mat 256 128).size at2048_0.rows, dqBlock fits2048 A.ds14 A.ds15 (A.loads at2048_0).k (A.loads at2048_1).k⟩,
    ⟨Rect.unit (s := S2048x128) ![1536, 0] (Mat 256 128).size at1792_0.rows, dqBlock fits1792 A.ds12 A.ds13 (A.loads at1792_0).k (A.loads at1792_1).k⟩,
    ⟨Rect.unit (s := S2048x128) ![1280, 0] (Mat 256 128).size at1536_0.rows, dqBlock fits1536 A.ds10 A.ds11 (A.loads at1536_0).k (A.loads at1536_1).k⟩,
    ⟨Rect.unit (s := S2048x128) ![1024, 0] (Mat 256 128).size at1280_0.rows, dqBlock fits1280 A.ds8 A.ds9 (A.loads at1280_0).k (A.loads at1280_1).k⟩,
    ⟨Rect.unit (s := S2048x128) ![768, 0] (Mat 256 128).size at1024_0.rows, dqBlock fits1024 A.ds6 A.ds7 (A.loads at1024_0).k (A.loads at1024_1).k⟩,
    ⟨Rect.unit (s := S2048x128) ![512, 0] (Mat 256 128).size at768_0.rows, dqBlock fits768 A.ds4 A.ds5 (A.loads at768_0).k (A.loads at768_1).k⟩,
    ⟨Rect.unit (s := S2048x128) ![256, 0] (Mat 256 128).size at512_0.rows, dqBlock fits512 A.ds2 A.ds3 (A.loads at512_0).k (A.loads at512_1).k⟩,
    ⟨Rect.unit (s := S2048x128) ![0, 0] (Mat 256 128).size at256_0.rows, dqBlock fits256 A.ds0 A.ds1 (A.loads at256_0).k (A.loads at256_1).k⟩]

/-- The pieces of the query gate sums' gradient. -/
def dcqPieces : List (View.Piece (Elt F) S1x2048x2 .f32) := [
    ⟨Rect.unit (s := S1x2048x2) ![0, 1792, 1] (Box 256 1).size at2048_1.colQ, dcq fits2048 A.ds15⟩,
    ⟨Rect.unit (s := S1x2048x2) ![0, 1792, 0] (Box 256 1).size at2048_0.colQ, dcq fits2048 A.ds14⟩,
    ⟨Rect.unit (s := S1x2048x2) ![0, 1536, 1] (Box 256 1).size at1792_1.colQ, dcq fits1792 A.ds13⟩,
    ⟨Rect.unit (s := S1x2048x2) ![0, 1536, 0] (Box 256 1).size at1792_0.colQ, dcq fits1792 A.ds12⟩,
    ⟨Rect.unit (s := S1x2048x2) ![0, 1280, 1] (Box 256 1).size at1536_1.colQ, dcq fits1536 A.ds11⟩,
    ⟨Rect.unit (s := S1x2048x2) ![0, 1280, 0] (Box 256 1).size at1536_0.colQ, dcq fits1536 A.ds10⟩,
    ⟨Rect.unit (s := S1x2048x2) ![0, 1024, 1] (Box 256 1).size at1280_1.colQ, dcq fits1280 A.ds9⟩,
    ⟨Rect.unit (s := S1x2048x2) ![0, 1024, 0] (Box 256 1).size at1280_0.colQ, dcq fits1280 A.ds8⟩,
    ⟨Rect.unit (s := S1x2048x2) ![0, 768, 1] (Box 256 1).size at1024_1.colQ, dcq fits1024 A.ds7⟩,
    ⟨Rect.unit (s := S1x2048x2) ![0, 768, 0] (Box 256 1).size at1024_0.colQ, dcq fits1024 A.ds6⟩,
    ⟨Rect.unit (s := S1x2048x2) ![0, 512, 1] (Box 256 1).size at768_1.colQ, dcq fits768 A.ds5⟩,
    ⟨Rect.unit (s := S1x2048x2) ![0, 512, 0] (Box 256 1).size at768_0.colQ, dcq fits768 A.ds4⟩,
    ⟨Rect.unit (s := S1x2048x2) ![0, 256, 1] (Box 256 1).size at512_1.colQ, dcq fits512 A.ds3⟩,
    ⟨Rect.unit (s := S1x2048x2) ![0, 256, 0] (Box 256 1).size at512_0.colQ, dcq fits512 A.ds2⟩,
    ⟨Rect.unit (s := S1x2048x2) ![0, 0, 1] (Box 256 1).size at256_1.colQ, dcq fits256 A.ds1⟩,
    ⟨Rect.unit (s := S1x2048x2) ![0, 0, 0] (Box 256 1).size at256_0.colQ, dcq fits256 A.ds0⟩]

theorem wholeBlock : ∀ x, (![0, 0] : Fin 2 → ℕ) x + (Mat 2048 128).size x ≤ (Mat 2048 128).size x := by decide

set_option maxHeartbeats 4000000

theorem pieces8 : A.run.2.1 = [⟨Rect.unit (s := S2048x128) ![0, 0] (Mat 2048 128).size wholeBlock, truncf (F := F) (s := Mat 2048 128) .bf16 (A.a13.view.readCov (sl.HS0_17 A.c A.a1 A.h1 A.a2 A.h2 A.a3 A.h3 A.a4 A.h4 A.a5 A.h5 A.a6 A.h6 A.a7 A.h7 A.a13 A.x0 A.x1 A.x2 A.x3 A.x4 A.x5 A.x6) (Rect.unit (s := S2048x128) ![0, 0] (Mat 2048 128).size wholeBlock).toLoadRect) Cert.KernelIdeal.Facts₀.bitsLt_bf16_f32⟩] := rfl

theorem pieces9 : A.run.2.2.1 = [⟨Rect.unit (s := S2048x128) ![0, 0] (Mat 2048 128).size wholeBlock, truncf (F := F) (s := Mat 2048 128) .bf16 (A.a14.view.readCov (sl.HS1_17 A.c A.a1 A.h1 A.a2 A.h2 A.a5 A.h5 A.a6 A.h6 A.a7 A.h7 A.a14 A.x0 A.x1 A.x4 A.x5 A.x6) (Rect.unit (s := S2048x128) ![0, 0] (Mat 2048 128).size wholeBlock).toLoadRect) Cert.KernelIdeal.Facts₀.bitsLt_bf16_f32⟩] := rfl

theorem pieces7 : A.run.1 = A.dqPieces := rfl

theorem pieces10 : A.run.2.2.2.1 = A.dcqPieces := rfl

theorem out7_eq : A.out7 = View.canon A.dqPieces := by
  unfold out7 out0_A_7
  refine (View.read_writes_eq_canon _ _ _ (cover0_A_7 A.c A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.x0 A.x1 A.x2 A.x3 A.x4 A.x5 A.x6)).trans ?_
  exact congrArg _ A.pieces7

theorem out8_eq : A.out8 = View.canon [⟨Rect.unit (s := S2048x128) ![0, 0] (Mat 2048 128).size wholeBlock, truncf (F := F) (s := Mat 2048 128) .bf16 (A.a13.view.readCov A.kAt16 (Rect.unit (s := S2048x128) ![0, 0] (Mat 2048 128).size wholeBlock).toLoadRect) Cert.KernelIdeal.Facts₀.bitsLt_bf16_f32⟩] := by
  unfold out8 out0_A_8
  refine (View.read_writes_eq_canon _ _ _ (cover0_A_8 A.c A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.x0 A.x1 A.x2 A.x3 A.x4 A.x5 A.x6)).trans ?_
  exact congrArg _ A.pieces8

theorem out9_eq : A.out9 = View.canon [⟨Rect.unit (s := S2048x128) ![0, 0] (Mat 2048 128).size wholeBlock, truncf (F := F) (s := Mat 2048 128) .bf16 (A.a14.view.readCov A.vAt16 (Rect.unit (s := S2048x128) ![0, 0] (Mat 2048 128).size wholeBlock).toLoadRect) Cert.KernelIdeal.Facts₀.bitsLt_bf16_f32⟩] := by
  unfold out9 out0_A_9
  refine (View.read_writes_eq_canon _ _ _ (cover0_A_9 A.c A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.x0 A.x1 A.x2 A.x3 A.x4 A.x5 A.x6)).trans ?_
  exact congrArg _ A.pieces9

theorem out10_eq : A.out10 = View.canon A.dcqPieces := by
  unfold out10 out0_A_10
  refine (View.read_writes_eq_canon _ _ _ (cover0_A_10 A.c A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.x0 A.x1 A.x2 A.x3 A.x4 A.x5 A.x6)).trans ?_
  exact congrArg _ A.pieces10

theorem out11_eq : A.out11 = View.canon A.cAt16 := by
  unfold out11 out0_A_11
  refine (View.read_writes_eq_canon _ _ _ (cover0_A_11 A.c A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.x0 A.x1 A.x2 A.x3 A.x4 A.x5 A.x6)).trans ?_
  rfl

end Args

end Cert.Proof.Fox
-- ==== Proof.Chain.lean ====
/-
  A run of the body whose blocks hold real numbers: after each of the sixteen steps the accumulators hold the sums of the
  steps so far, and the five outputs are the gradients of Block.lean.
-/
module

public import proofs.«01_k».proof.Proof.Acc
public import proofs.«01_k».proof.Proof.Br0
public import proofs.«01_k».proof.Proof.Br1
public import proofs.«01_k».proof.Proof.Br2
public import proofs.«01_k».proof.Proof.Br3
public import proofs.«01_k».proof.Proof.BrOut

@[expose] public section

set_option maxRecDepth 16384

noncomputable section

namespace Cert.Proof.Fox

open Idealize.ShloMosaic Idealize.ShloMosaic.ValueIdx Cert.KernelIdeal Cert.KernelIdeal.Gen Cert.KernelIdeal.Gen.kernelRun0_A

namespace Args

variable (A : Args Ideal) {D : Block}

theorem zeroOff2 : (![0, 0] : Fin 2 → ℕ) = fun _ => 0 := by decide
theorem zeroOff3 : (![0, 0, 0] : Fin 3 → ℕ) = fun _ => 0 := by decide

theorem kValue0 (j : Fin 2048) (l : Fin 128) : (View.canon (kAt0 (F := Ideal)) (ix2 j l) : EReal) = ((D.kSum 0 j l : ℝ) : EReal) :=
  (congrFun (View.canon_unit_zero (Val := Elt Ideal) (S := S2048x128) (e := .f32) zeroOff2 _ _) (ix2 j l)).trans word_zero

theorem vValue0 (j : Fin 2048) (l : Fin 128) : (View.canon (vAt0 (F := Ideal)) (ix2 j l) : EReal) = ((D.vSum 0 j l : ℝ) : EReal) :=
  (congrFun (View.canon_unit_zero (Val := Elt Ideal) (S := S2048x128) (e := .f32) zeroOff2 _ _) (ix2 j l)).trans word_zero

theorem cValue0 (e : Fin 2) (j : Fin 2048) : (View.canon (cAt0 (F := Ideal)) (ix3 0 e j) : EReal) = ((D.cSum 0 e j : ℝ) : EReal) :=
  (congrFun (View.canon_unit_zero (Val := Elt Ideal) (S := S1x2x2048) (e := .f32) zeroOff3 _ _) (ix3 0 e j)).trans
    (word_zero.trans (congrArg _ (show (0 : ℝ) = 0 - ∑ s ∈ Finset.range 0, _ by simp)))

variable {A} (hA : A.Holds D)
include hA

theorem pValue0 (r : Fin 256) (j : Fin 256) : (A.p0 (ix2 r j) : EReal) = ((D.p 0 (0 + r) j : ℝ) : EReal) :=
  p_apply fits256 (hA.reads at256_0) (lo_side lanes256) (maskSquare_masks fits256) rfl r j

theorem dsValue0 (r : Fin 256) (j : Fin 256) : (A.ds0 (ix2 r j) : EReal) = ((D.ds 0 (0 + r) j : ℝ) : EReal) :=
  ds_apply fits256 (hA.reads at256_0) (lo_side lanes256) (maskSquare_masks fits256) rfl r j

theorem kValue1 (j : Fin 2048) (l : Fin 128) : (View.canon A.kAt1 (ix2 j l) : EReal) = ((D.kSum 1 j l : ℝ) : EReal) := by
  rw [A.kAt1_eq, D.kSum_succ 0]
  exact kStep fits256 at256_0 rfl (hA.reads at256_0) (lo_side lanes256) (dsValue0 hA) A.a13.view kAt0 (D.kSum 0) (kValue0) j l

theorem vValue1 (j : Fin 2048) (l : Fin 128) : (View.canon A.vAt1 (ix2 j l) : EReal) = ((D.vSum 1 j l : ℝ) : EReal) := by
  rw [A.vAt1_eq, D.vSum_succ 0]
  exact vStep fits256 at256_0 rfl (hA.reads at256_0) (lo_side lanes256) (pValue0 hA) A.a14.view vAt0 (D.vSum 0) (vValue0) j l

theorem cValue1 (e : Fin 2) (j : Fin 2048) : (View.canon A.cAt1 (ix3 0 e j) : EReal) = ((D.cSum 1 e j : ℝ) : EReal) := by
  rw [A.cAt1_eq, D.cSum_succ 0]
  exact cStep fits256 at256_0 rfl (dsValue0 hA) A.a12.view cAt0 (D.cSum 0) (cValue0) e j

theorem pValue1 (r : Fin 256) (j : Fin 256) : (A.p1 (ix2 r j) : EReal) = ((D.p 1 (0 + r) j : ℝ) : EReal) :=
  p_apply fits256 (hA.reads at256_1) (hi_side lanes256) (maskSquare_masks fits256) rfl r j

theorem dsValue1 (r : Fin 256) (j : Fin 256) : (A.ds1 (ix2 r j) : EReal) = ((D.ds 1 (0 + r) j : ℝ) : EReal) :=
  ds_apply fits256 (hA.reads at256_1) (hi_side lanes256) (maskSquare_masks fits256) rfl r j

theorem kValue2 (j : Fin 2048) (l : Fin 128) : (View.canon A.kAt2 (ix2 j l) : EReal) = ((D.kSum 2 j l : ℝ) : EReal) := by
  rw [A.kAt2_eq, D.kSum_succ 1]
  exact kStep fits256 at256_1 rfl (hA.reads at256_1) (hi_side lanes256) (dsValue1 hA) A.a13.view A.kAt1 (D.kSum 1) (kValue1 hA) j l

theorem vValue2 (j : Fin 2048) (l : Fin 128) : (View.canon A.vAt2 (ix2 j l) : EReal) = ((D.vSum 2 j l : ℝ) : EReal) := by
  rw [A.vAt2_eq, D.vSum_succ 1]
  exact vStep fits256 at256_1 rfl (hA.reads at256_1) (hi_side lanes256) (pValue1 hA) A.a14.view A.vAt1 (D.vSum 1) (vValue1 hA) j l

theorem cValue2 (e : Fin 2) (j : Fin 2048) : (View.canon A.cAt2 (ix3 0 e j) : EReal) = ((D.cSum 2 e j : ℝ) : EReal) := by
  rw [A.cAt2_eq, D.cSum_succ 1]
  exact cStep fits256 at256_1 rfl (dsValue1 hA) A.a12.view A.cAt1 (D.cSum 1) (cValue1 hA) e j

theorem pValue2 (r : Fin 256) (j : Fin 512) : (A.p2 (ix2 r j) : EReal) = ((D.p 0 (256 + r) j : ℝ) : EReal) :=
  p_apply fits512 (hA.reads at512_0) (lo_side lanes256) (maskLast_masks fits512 splits512 rfl) rfl r j

theorem dsValue2 (r : Fin 256) (j : Fin 512) : (A.ds2 (ix2 r j) : EReal) = ((D.ds 0 (256 + r) j : ℝ) : EReal) :=
  ds_apply fits512 (hA.reads at512_0) (lo_side lanes256) (maskLast_masks fits512 splits512 rfl) rfl r j

theorem kValue3 (j : Fin 2048) (l : Fin 128) : (View.canon A.kAt3 (ix2 j l) : EReal) = ((D.kSum 3 j l : ℝ) : EReal) := by
  rw [A.kAt3_eq, D.kSum_succ 2]
  exact kStep fits512 at512_0 rfl (hA.reads at512_0) (lo_side lanes256) (dsValue2 hA) A.a13.view A.kAt2 (D.kSum 2) (kValue2 hA) j l

theorem vValue3 (j : Fin 2048) (l : Fin 128) : (View.canon A.vAt3 (ix2 j l) : EReal) = ((D.vSum 3 j l : ℝ) : EReal) := by
  rw [A.vAt3_eq, D.vSum_succ 2]
  exact vStep fits512 at512_0 rfl (hA.reads at512_0) (lo_side lanes512) (pValue2 hA) A.a14.view A.vAt2 (D.vSum 2) (vValue2 hA) j l

theorem cValue3 (e : Fin 2) (j : Fin 2048) : (View.canon A.cAt3 (ix3 0 e j) : EReal) = ((D.cSum 3 e j : ℝ) : EReal) := by
  rw [A.cAt3_eq, D.cSum_succ 2]
  exact cStep fits512 at512_0 rfl (dsValue2 hA) A.a12.view A.cAt2 (D.cSum 2) (cValue2 hA) e j

theorem pValue3 (r : Fin 256) (j : Fin 512) : (A.p3 (ix2 r j) : EReal) = ((D.p 1 (256 + r) j : ℝ) : EReal) :=
  p_apply fits512 (hA.reads at512_1) (hi_side lanes256) (maskLast_masks fits512 splits512 rfl) rfl r j

theorem dsValue3 (r : Fin 256) (j : Fin 512) : (A.ds3 (ix2 r j) : EReal) = ((D.ds 1 (256 + r) j : ℝ) : EReal) :=
  ds_apply fits512 (hA.reads at512_1) (hi_side lanes256) (maskLast_masks fits512 splits512 rfl) rfl r j

theorem kValue4 (j : Fin 2048) (l : Fin 128) : (View.canon A.kAt4 (ix2 j l) : EReal) = ((D.kSum 4 j l : ℝ) : EReal) := by
  rw [A.kAt4_eq, D.kSum_succ 3]
  exact kStep fits512 at512_1 rfl (hA.reads at512_1) (hi_side lanes256) (dsValue3 hA) A.a13.view A.kAt3 (D.kSum 3) (kValue3 hA) j l

theorem vValue4 (j : Fin 2048) (l : Fin 128) : (View.canon A.vAt4 (ix2 j l) : EReal) = ((D.vSum 4 j l : ℝ) : EReal) := by
  rw [A.vAt4_eq, D.vSum_succ 3]
  exact vStep fits512 at512_1 rfl (hA.reads at512_1) (hi_side lanes512) (pValue3 hA) A.a14.view A.vAt3 (D.vSum 3) (vValue3 hA) j l

theorem cValue4 (e : Fin 2) (j : Fin 2048) : (View.canon A.cAt4 (ix3 0 e j) : EReal) = ((D.cSum 4 e j : ℝ) : EReal) := by
  rw [A.cAt4_eq, D.cSum_succ 3]
  exact cStep fits512 at512_1 rfl (dsValue3 hA) A.a12.view A.cAt3 (D.cSum 3) (cValue3 hA) e j

theorem pValue4 (r : Fin 256) (j : Fin 768) : (A.p4 (ix2 r j) : EReal) = ((D.p 0 (512 + r) j : ℝ) : EReal) :=
  p_apply fits768 (hA.reads at768_0) (lo_side lanes256) (maskLast_masks fits768 splits768 rfl) rfl r j

theorem dsValue4 (r : Fin 256) (j : Fin 768) : (A.ds4 (ix2 r j) : EReal) = ((D.ds 0 (512 + r) j : ℝ) : EReal) :=
  ds_apply fits768 (hA.reads at768_0) (lo_side lanes256) (maskLast_masks fits768 splits768 rfl) rfl r j

theorem kValue5 (j : Fin 2048) (l : Fin 128) : (View.canon A.kAt5 (ix2 j l) : EReal) = ((D.kSum 5 j l : ℝ) : EReal) := by
  rw [A.kAt5_eq, D.kSum_succ 4]
  exact kStep fits768 at768_0 rfl (hA.reads at768_0) (lo_side lanes256) (dsValue4 hA) A.a13.view A.kAt4 (D.kSum 4) (kValue4 hA) j l

theorem vValue5 (j : Fin 2048) (l : Fin 128) : (View.canon A.vAt5 (ix2 j l) : EReal) = ((D.vSum 5 j l : ℝ) : EReal) := by
  rw [A.vAt5_eq, D.vSum_succ 4]
  exact vStep fits768 at768_0 rfl (hA.reads at768_0) (lo_side lanes768) (pValue4 hA) A.a14.view A.vAt4 (D.vSum 4) (vValue4 hA) j l

theorem cValue5 (e : Fin 2) (j : Fin 2048) : (View.canon A.cAt5 (ix3 0 e j) : EReal) = ((D.cSum 5 e j : ℝ) : EReal) := by
  rw [A.cAt5_eq, D.cSum_succ 4]
  exact cStep fits768 at768_0 rfl (dsValue4 hA) A.a12.view A.cAt4 (D.cSum 4) (cValue4 hA) e j

theorem pValue5 (r : Fin 256) (j : Fin 768) : (A.p5 (ix2 r j) : EReal) = ((D.p 1 (512 + r) j : ℝ) : EReal) :=
  p_apply fits768 (hA.reads at768_1) (hi_side lanes256) (maskLast_masks fits768 splits768 rfl) rfl r j

theorem dsValue5 (r : Fin 256) (j : Fin 768) : (A.ds5 (ix2 r j) : EReal) = ((D.ds 1 (512 + r) j : ℝ) : EReal) :=
  ds_apply fits768 (hA.reads at768_1) (hi_side lanes256) (maskLast_masks fits768 splits768 rfl) rfl r j

theorem kValue6 (j : Fin 2048) (l : Fin 128) : (View.canon A.kAt6 (ix2 j l) : EReal) = ((D.kSum 6 j l : ℝ) : EReal) := by
  rw [A.kAt6_eq, D.kSum_succ 5]
  exact kStep fits768 at768_1 rfl (hA.reads at768_1) (hi_side lanes256) (dsValue5 hA) A.a13.view A.kAt5 (D.kSum 5) (kValue5 hA) j l

theorem vValue6 (j : Fin 2048) (l : Fin 128) : (View.canon A.vAt6 (ix2 j l) : EReal) = ((D.vSum 6 j l : ℝ) : EReal) := by
  rw [A.vAt6_eq, D.vSum_succ 5]
  exact vStep fits768 at768_1 rfl (hA.reads at768_1) (hi_side lanes768) (pValue5 hA) A.a14.view A.vAt5 (D.vSum 5) (vValue5 hA) j l

theorem cValue6 (e : Fin 2) (j : Fin 2048) : (View.canon A.cAt6 (ix3 0 e j) : EReal) = ((D.cSum 6 e j : ℝ) : EReal) := by
  rw [A.cAt6_eq, D.cSum_succ 5]
  exact cStep fits768 at768_1 rfl (dsValue5 hA) A.a12.view A.cAt5 (D.cSum 5) (cValue5 hA) e j

theorem pValue6 (r : Fin 256) (j : Fin 1024) : (A.p6 (ix2 r j) : EReal) = ((D.p 0 (768 + r) j : ℝ) : EReal) :=
  p_apply fits1024 (hA.reads at1024_0) (lo_side lanes256) (maskLast_masks fits1024 splits1024 rfl) rfl r j

theorem dsValue6 (r : Fin 256) (j : Fin 1024) : (A.ds6 (ix2 r j) : EReal) = ((D.ds 0 (768 + r) j : ℝ) : EReal) :=
  ds_apply fits1024 (hA.reads at1024_0) (lo_side lanes256) (maskLast_masks fits1024 splits1024 rfl) rfl r j

theorem kValue7 (j : Fin 2048) (l : Fin 128) : (View.canon A.kAt7 (ix2 j l) : EReal) = ((D.kSum 7 j l : ℝ) : EReal) := by
  rw [A.kAt7_eq, D.kSum_succ 6]
  exact kStep fits1024 at1024_0 rfl (hA.reads at1024_0) (lo_side lanes256) (dsValue6 hA) A.a13.view A.kAt6 (D.kSum 6) (kValue6 hA) j l

theorem vValue7 (j : Fin 2048) (l : Fin 128) : (View.canon A.vAt7 (ix2 j l) : EReal) = ((D.vSum 7 j l : ℝ) : EReal) := by
  rw [A.vAt7_eq, D.vSum_succ 6]
  exact vStep fits1024 at1024_0 rfl (hA.reads at1024_0) (lo_side lanes1024) (pValue6 hA) A.a14.view A.vAt6 (D.vSum 6) (vValue6 hA) j l

theorem cValue7 (e : Fin 2) (j : Fin 2048) : (View.canon A.cAt7 (ix3 0 e j) : EReal) = ((D.cSum 7 e j : ℝ) : EReal) := by
  rw [A.cAt7_eq, D.cSum_succ 6]
  exact cStep fits1024 at1024_0 rfl (dsValue6 hA) A.a12.view A.cAt6 (D.cSum 6) (cValue6 hA) e j

theorem pValue7 (r : Fin 256) (j : Fin 1024) : (A.p7 (ix2 r j) : EReal) = ((D.p 1 (768 + r) j : ℝ) : EReal) :=
  p_apply fits1024 (hA.reads at1024_1) (hi_side lanes256) (maskLast_masks fits1024 splits1024 rfl) rfl r j

theorem dsValue7 (r : Fin 256) (j : Fin 1024) : (A.ds7 (ix2 r j) : EReal) = ((D.ds 1 (768 + r) j : ℝ) : EReal) :=
  ds_apply fits1024 (hA.reads at1024_1) (hi_side lanes256) (maskLast_masks fits1024 splits1024 rfl) rfl r j

theorem kValue8 (j : Fin 2048) (l : Fin 128) : (View.canon A.kAt8 (ix2 j l) : EReal) = ((D.kSum 8 j l : ℝ) : EReal) := by
  rw [A.kAt8_eq, D.kSum_succ 7]
  exact kStep fits1024 at1024_1 rfl (hA.reads at1024_1) (hi_side lanes256) (dsValue7 hA) A.a13.view A.kAt7 (D.kSum 7) (kValue7 hA) j l

theorem vValue8 (j : Fin 2048) (l : Fin 128) : (View.canon A.vAt8 (ix2 j l) : EReal) = ((D.vSum 8 j l : ℝ) : EReal) := by
  rw [A.vAt8_eq, D.vSum_succ 7]
  exact vStep fits1024 at1024_1 rfl (hA.reads at1024_1) (hi_side lanes1024) (pValue7 hA) A.a14.view A.vAt7 (D.vSum 7) (vValue7 hA) j l

theorem cValue8 (e : Fin 2) (j : Fin 2048) : (View.canon A.cAt8 (ix3 0 e j) : EReal) = ((D.cSum 8 e j : ℝ) : EReal) := by
  rw [A.cAt8_eq, D.cSum_succ 7]
  exact cStep fits1024 at1024_1 rfl (dsValue7 hA) A.a12.view A.cAt7 (D.cSum 7) (cValue7 hA) e j

theorem pValue8 (r : Fin 256) (j : Fin 1280) : (A.p8 (ix2 r j) : EReal) = ((D.p 0 (1024 + r) j : ℝ) : EReal) :=
  p_apply fits1280 (hA.reads at1280_0) (lo_side lanes256) (maskLast_masks fits1280 splits1280 rfl) rfl r j

theorem dsValue8 (r : Fin 256) (j : Fin 1280) : (A.ds8 (ix2 r j) : EReal) = ((D.ds 0 (1024 + r) j : ℝ) : EReal) :=
  ds_apply fits1280 (hA.reads at1280_0) (lo_side lanes256) (maskLast_masks fits1280 splits1280 rfl) rfl r j

theorem kValue9 (j : Fin 2048) (l : Fin 128) : (View.canon A.kAt9 (ix2 j l) : EReal) = ((D.kSum 9 j l : ℝ) : EReal) := by
  rw [A.kAt9_eq, D.kSum_succ 8]
  exact kStep fits1280 at1280_0 rfl (hA.reads at1280_0) (lo_side lanes256) (dsValue8 hA) A.a13.view A.kAt8 (D.kSum 8) (kValue8 hA) j l

theorem vValue9 (j : Fin 2048) (l : Fin 128) : (View.canon A.vAt9 (ix2 j l) : EReal) = ((D.vSum 9 j l : ℝ) : EReal) := by
  rw [A.vAt9_eq, D.vSum_succ 8]
  exact vStep fits1280 at1280_0 rfl (hA.reads at1280_0) (lo_side lanes1280) (pValue8 hA) A.a14.view A.vAt8 (D.vSum 8) (vValue8 hA) j l

theorem cValue9 (e : Fin 2) (j : Fin 2048) : (View.canon A.cAt9 (ix3 0 e j) : EReal) = ((D.cSum 9 e j : ℝ) : EReal) := by
  rw [A.cAt9_eq, D.cSum_succ 8]
  exact cStep fits1280 at1280_0 rfl (dsValue8 hA) A.a12.view A.cAt8 (D.cSum 8) (cValue8 hA) e j

theorem pValue9 (r : Fin 256) (j : Fin 1280) : (A.p9 (ix2 r j) : EReal) = ((D.p 1 (1024 + r) j : ℝ) : EReal) :=
  p_apply fits1280 (hA.reads at1280_1) (hi_side lanes256) (maskLast_masks fits1280 splits1280 rfl) rfl r j

theorem dsValue9 (r : Fin 256) (j : Fin 1280) : (A.ds9 (ix2 r j) : EReal) = ((D.ds 1 (1024 + r) j : ℝ) : EReal) :=
  ds_apply fits1280 (hA.reads at1280_1) (hi_side lanes256) (maskLast_masks fits1280 splits1280 rfl) rfl r j

theorem kValue10 (j : Fin 2048) (l : Fin 128) : (View.canon A.kAt10 (ix2 j l) : EReal) = ((D.kSum 10 j l : ℝ) : EReal) := by
  rw [A.kAt10_eq, D.kSum_succ 9]
  exact kStep fits1280 at1280_1 rfl (hA.reads at1280_1) (hi_side lanes256) (dsValue9 hA) A.a13.view A.kAt9 (D.kSum 9) (kValue9 hA) j l

theorem vValue10 (j : Fin 2048) (l : Fin 128) : (View.canon A.vAt10 (ix2 j l) : EReal) = ((D.vSum 10 j l : ℝ) : EReal) := by
  rw [A.vAt10_eq, D.vSum_succ 9]
  exact vStep fits1280 at1280_1 rfl (hA.reads at1280_1) (hi_side lanes1280) (pValue9 hA) A.a14.view A.vAt9 (D.vSum 9) (vValue9 hA) j l

theorem cValue10 (e : Fin 2) (j : Fin 2048) : (View.canon A.cAt10 (ix3 0 e j) : EReal) = ((D.cSum 10 e j : ℝ) : EReal) := by
  rw [A.cAt10_eq, D.cSum_succ 9]
  exact cStep fits1280 at1280_1 rfl (dsValue9 hA) A.a12.view A.cAt9 (D.cSum 9) (cValue9 hA) e j

theorem pValue10 (r : Fin 256) (j : Fin 1536) : (A.p10 (ix2 r j) : EReal) = ((D.p 0 (1280 + r) j : ℝ) : EReal) :=
  p_apply fits1536 (hA.reads at1536_0) (lo_side lanes256) (maskLast_masks fits1536 splits1536 rfl) rfl r j

theorem dsValue10 (r : Fin 256) (j : Fin 1536) : (A.ds10 (ix2 r j) : EReal) = ((D.ds 0 (1280 + r) j : ℝ) : EReal) :=
  ds_apply fits1536 (hA.reads at1536_0) (lo_side lanes256) (maskLast_masks fits1536 splits1536 rfl) rfl r j

theorem kValue11 (j : Fin 2048) (l : Fin 128) : (View.canon A.kAt11 (ix2 j l) : EReal) = ((D.kSum 11 j l : ℝ) : EReal) := by
  rw [A.kAt11_eq, D.kSum_succ 10]
  exact kStep fits1536 at1536_0 rfl (hA.reads at1536_0) (lo_side lanes256) (dsValue10 hA) A.a13.view A.kAt10 (D.kSum 10) (kValue10 hA) j l

theorem vValue11 (j : Fin 2048) (l : Fin 128) : (View.canon A.vAt11 (ix2 j l) : EReal) = ((D.vSum 11 j l : ℝ) : EReal) := by
  rw [A.vAt11_eq, D.vSum_succ 10]
  exact vStep fits1536 at1536_0 rfl (hA.reads at1536_0) (lo_side lanes1536) (pValue10 hA) A.a14.view A.vAt10 (D.vSum 10) (vValue10 hA) j l

theorem cValue11 (e : Fin 2) (j : Fin 2048) : (View.canon A.cAt11 (ix3 0 e j) : EReal) = ((D.cSum 11 e j : ℝ) : EReal) := by
  rw [A.cAt11_eq, D.cSum_succ 10]
  exact cStep fits1536 at1536_0 rfl (dsValue10 hA) A.a12.view A.cAt10 (D.cSum 10) (cValue10 hA) e j

theorem pValue11 (r : Fin 256) (j : Fin 1536) : (A.p11 (ix2 r j) : EReal) = ((D.p 1 (1280 + r) j : ℝ) : EReal) :=
  p_apply fits1536 (hA.reads at1536_1) (hi_side lanes256) (maskLast_masks fits1536 splits1536 rfl) rfl r j

theorem dsValue11 (r : Fin 256) (j : Fin 1536) : (A.ds11 (ix2 r j) : EReal) = ((D.ds 1 (1280 + r) j : ℝ) : EReal) :=
  ds_apply fits1536 (hA.reads at1536_1) (hi_side lanes256) (maskLast_masks fits1536 splits1536 rfl) rfl r j

theorem kValue12 (j : Fin 2048) (l : Fin 128) : (View.canon A.kAt12 (ix2 j l) : EReal) = ((D.kSum 12 j l : ℝ) : EReal) := by
  rw [A.kAt12_eq, D.kSum_succ 11]
  exact kStep fits1536 at1536_1 rfl (hA.reads at1536_1) (hi_side lanes256) (dsValue11 hA) A.a13.view A.kAt11 (D.kSum 11) (kValue11 hA) j l

theorem vValue12 (j : Fin 2048) (l : Fin 128) : (View.canon A.vAt12 (ix2 j l) : EReal) = ((D.vSum 12 j l : ℝ) : EReal) := by
  rw [A.vAt12_eq, D.vSum_succ 11]
  exact vStep fits1536 at1536_1 rfl (hA.reads at1536_1) (hi_side lanes1536) (pValue11 hA) A.a14.view A.vAt11 (D.vSum 11) (vValue11 hA) j l

theorem cValue12 (e : Fin 2) (j : Fin 2048) : (View.canon A.cAt12 (ix3 0 e j) : EReal) = ((D.cSum 12 e j : ℝ) : EReal) := by
  rw [A.cAt12_eq, D.cSum_succ 11]
  exact cStep fits1536 at1536_1 rfl (dsValue11 hA) A.a12.view A.cAt11 (D.cSum 11) (cValue11 hA) e j

theorem pValue12 (r : Fin 256) (j : Fin 1792) : (A.p12 (ix2 r j) : EReal) = ((D.p 0 (1536 + r) j : ℝ) : EReal) :=
  p_apply fits1792 (hA.reads at1792_0) (lo_side lanes256) (maskLast_masks fits1792 splits1792 rfl) rfl r j

theorem dsValue12 (r : Fin 256) (j : Fin 1792) : (A.ds12 (ix2 r j) : EReal) = ((D.ds 0 (1536 + r) j : ℝ) : EReal) :=
  ds_apply fits1792 (hA.reads at1792_0) (lo_side lanes256) (maskLast_masks fits1792 splits1792 rfl) rfl r j

theorem kValue13 (j : Fin 2048) (l : Fin 128) : (View.canon A.kAt13 (ix2 j l) : EReal) = ((D.kSum 13 j l : ℝ) : EReal) := by
  rw [A.kAt13_eq, D.kSum_succ 12]
  exact kStep fits1792 at1792_0 rfl (hA.reads at1792_0) (lo_side lanes256) (dsValue12 hA) A.a13.view A.kAt12 (D.kSum 12) (kValue12 hA) j l

theorem vValue13 (j : Fin 2048) (l : Fin 128) : (View.canon A.vAt13 (ix2 j l) : EReal) = ((D.vSum 13 j l : ℝ) : EReal) := by
  rw [A.vAt13_eq, D.vSum_succ 12]
  exact vStep fits1792 at1792_0 rfl (hA.reads at1792_0) (lo_side lanes1792) (pValue12 hA) A.a14.view A.vAt12 (D.vSum 12) (vValue12 hA) j l

theorem cValue13 (e : Fin 2) (j : Fin 2048) : (View.canon A.cAt13 (ix3 0 e j) : EReal) = ((D.cSum 13 e j : ℝ) : EReal) := by
  rw [A.cAt13_eq, D.cSum_succ 12]
  exact cStep fits1792 at1792_0 rfl (dsValue12 hA) A.a12.view A.cAt12 (D.cSum 12) (cValue12 hA) e j

theorem pValue13 (r : Fin 256) (j : Fin 1792) : (A.p13 (ix2 r j) : EReal) = ((D.p 1 (1536 + r) j : ℝ) : EReal) :=
  p_apply fits1792 (hA.reads at1792_1) (hi_side lanes256) (maskLast_masks fits1792 splits1792 rfl) rfl r j

theorem dsValue13 (r : Fin 256) (j : Fin 1792) : (A.ds13 (ix2 r j) : EReal) = ((D.ds 1 (1536 + r) j : ℝ) : EReal) :=
  ds_apply fits1792 (hA.reads at1792_1) (hi_side lanes256) (maskLast_masks fits1792 splits1792 rfl) rfl r j

theorem kValue14 (j : Fin 2048) (l : Fin 128) : (View.canon A.kAt14 (ix2 j l) : EReal) = ((D.kSum 14 j l : ℝ) : EReal) := by
  rw [A.kAt14_eq, D.kSum_succ 13]
  exact kStep fits1792 at1792_1 rfl (hA.reads at1792_1) (hi_side lanes256) (dsValue13 hA) A.a13.view A.kAt13 (D.kSum 13) (kValue13 hA) j l

theorem vValue14 (j : Fin 2048) (l : Fin 128) : (View.canon A.vAt14 (ix2 j l) : EReal) = ((D.vSum 14 j l : ℝ) : EReal) := by
  rw [A.vAt14_eq, D.vSum_succ 13]
  exact vStep fits1792 at1792_1 rfl (hA.reads at1792_1) (hi_side lanes1792) (pValue13 hA) A.a14.view A.vAt13 (D.vSum 13) (vValue13 hA) j l

theorem cValue14 (e : Fin 2) (j : Fin 2048) : (View.canon A.cAt14 (ix3 0 e j) : EReal) = ((D.cSum 14 e j : ℝ) : EReal) := by
  rw [A.cAt14_eq, D.cSum_succ 13]
  exact cStep fits1792 at1792_1 rfl (dsValue13 hA) A.a12.view A.cAt13 (D.cSum 13) (cValue13 hA) e j

theorem pValue14 (r : Fin 256) (j : Fin 2048) : (A.p14 (ix2 r j) : EReal) = ((D.p 0 (1792 + r) j : ℝ) : EReal) :=
  p_apply fits2048 (hA.reads at2048_0) (lo_side lanes256) (maskLast_masks fits2048 splits2048 rfl) rfl r j

theorem dsValue14 (r : Fin 256) (j : Fin 2048) : (A.ds14 (ix2 r j) : EReal) = ((D.ds 0 (1792 + r) j : ℝ) : EReal) :=
  ds_apply fits2048 (hA.reads at2048_0) (lo_side lanes256) (maskLast_masks fits2048 splits2048 rfl) rfl r j

theorem kValue15 (j : Fin 2048) (l : Fin 128) : (View.canon A.kAt15 (ix2 j l) : EReal) = ((D.kSum 15 j l : ℝ) : EReal) := by
  rw [A.kAt15_eq, D.kSum_succ 14]
  exact kStep fits2048 at2048_0 rfl (hA.reads at2048_0) (lo_side lanes256) (dsValue14 hA) A.a13.view A.kAt14 (D.kSum 14) (kValue14 hA) j l

theorem vValue15 (j : Fin 2048) (l : Fin 128) : (View.canon A.vAt15 (ix2 j l) : EReal) = ((D.vSum 15 j l : ℝ) : EReal) := by
  rw [A.vAt15_eq, D.vSum_succ 14]
  exact vStep fits2048 at2048_0 rfl (hA.reads at2048_0) (lo_side lanes2048) (pValue14 hA) A.a14.view A.vAt14 (D.vSum 14) (vValue14 hA) j l

theorem cValue15 (e : Fin 2) (j : Fin 2048) : (View.canon A.cAt15 (ix3 0 e j) : EReal) = ((D.cSum 15 e j : ℝ) : EReal) := by
  rw [A.cAt15_eq, D.cSum_succ 14]
  exact cStep fits2048 at2048_0 rfl (dsValue14 hA) A.a12.view A.cAt14 (D.cSum 14) (cValue14 hA) e j

theorem pValue15 (r : Fin 256) (j : Fin 2048) : (A.p15 (ix2 r j) : EReal) = ((D.p 1 (1792 + r) j : ℝ) : EReal) :=
  p_apply fits2048 (hA.reads at2048_1) (hi_side lanes256) (maskLast_masks fits2048 splits2048 rfl) rfl r j

theorem dsValue15 (r : Fin 256) (j : Fin 2048) : (A.ds15 (ix2 r j) : EReal) = ((D.ds 1 (1792 + r) j : ℝ) : EReal) :=
  ds_apply fits2048 (hA.reads at2048_1) (hi_side lanes256) (maskLast_masks fits2048 splits2048 rfl) rfl r j

theorem kValue16 (j : Fin 2048) (l : Fin 128) : (View.canon A.kAt16 (ix2 j l) : EReal) = ((D.kSum 16 j l : ℝ) : EReal) := by
  rw [A.kAt16_eq, D.kSum_succ 15]
  exact kStep fits2048 at2048_1 rfl (hA.reads at2048_1) (hi_side lanes256) (dsValue15 hA) A.a13.view A.kAt15 (D.kSum 15) (kValue15 hA) j l

theorem vValue16 (j : Fin 2048) (l : Fin 128) : (View.canon A.vAt16 (ix2 j l) : EReal) = ((D.vSum 16 j l : ℝ) : EReal) := by
  rw [A.vAt16_eq, D.vSum_succ 15]
  exact vStep fits2048 at2048_1 rfl (hA.reads at2048_1) (hi_side lanes2048) (pValue15 hA) A.a14.view A.vAt15 (D.vSum 15) (vValue15 hA) j l

theorem cValue16 (e : Fin 2) (j : Fin 2048) : (View.canon A.cAt16 (ix3 0 e j) : EReal) = ((D.cSum 16 e j : ℝ) : EReal) := by
  rw [A.cAt16_eq, D.cSum_succ 15]
  exact cStep fits2048 at2048_1 rfl (dsValue15 hA) A.a12.view A.cAt15 (D.cSum 15) (cValue15 hA) e j

theorem out8_value (j : Fin 2048) (l : Fin 128) : (A.out8 (ix2 j l) : EReal) = ((D.kSum 16 j l : ℝ) : EReal) := by
  rw [A.out8_eq, View.canon_unit_zero (S := S2048x128) zeroOff2]
  show (A.a13.view.readCov A.kAt16 (Rect.unit (s := S2048x128) ![0, 0] (Mat 2048 128).size wholeBlock).toLoadRect (ix2 j l) : EReal) = _
  rw [View.readCov_eq_canon']
  refine Eq.trans (congrArg (View.canon A.kAt16) ?_) (kValue16 hA j l)
  exact (rows_idx wholeBlock j l (by omega)).trans (congrArg (fun z => ix2 z l) (Fin.ext (Nat.zero_add _)))

theorem out9_value (j : Fin 2048) (l : Fin 128) : (A.out9 (ix2 j l) : EReal) = ((D.vSum 16 j l : ℝ) : EReal) := by
  rw [A.out9_eq, View.canon_unit_zero (S := S2048x128) zeroOff2]
  show (A.a14.view.readCov A.vAt16 (Rect.unit (s := S2048x128) ![0, 0] (Mat 2048 128).size wholeBlock).toLoadRect (ix2 j l) : EReal) = _
  rw [View.readCov_eq_canon']
  refine Eq.trans (congrArg (View.canon A.vAt16) ?_) (vValue16 hA j l)
  exact (rows_idx wholeBlock j l (by omega)).trans (congrArg (fun z => ix2 z l) (Fin.ext (Nat.zero_add _)))

theorem out11_value (e : Fin 2) (j : Fin 2048) : (A.out11 (ix3 0 e j) : EReal) = ((D.cSum 16 e j : ℝ) : EReal) := by
  rw [A.out11_eq]
  exact cValue16 hA e j

omit hA in
theorem cover7 (y : S2048x128.Idx) : ∃ pc ∈ A.dqPieces, y ∈ pc.1.set := by
  rw [← A.pieces7]
  exact cover0_A_7 A.c A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.x0 A.x1 A.x2 A.x3 A.x4 A.x5 A.x6 y

omit hA in
theorem cover10 (y : S1x2048x2.Idx) : ∃ pc ∈ A.dcqPieces, y ∈ pc.1.set := by
  rw [← A.pieces10]
  exact cover0_A_10 A.c A.i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.x0 A.x1 A.x2 A.x3 A.x4 A.x5 A.x6 y

theorem dqPieces_value : ∀ p ∈ A.dqPieces, ∀ x : p.1.shape.Idx, p.2 x = (fun y : S2048x128.Idx => ((D.dq (y 0).val (y 1).val : ℝ) : EReal)) (p.1.emb x) :=
  List.forall_mem_cons.2 ⟨
    qPiece fits2048 at2048_0 at2048_1 rfl (hA.reads at2048_0) (hA.reads at2048_1) (lo_side lanes256) (dsValue14 hA) (dsValue15 hA), List.forall_mem_cons.2 ⟨
    qPiece fits1792 at1792_0 at1792_1 rfl (hA.reads at1792_0) (hA.reads at1792_1) (lo_side lanes256) (dsValue12 hA) (dsValue13 hA), List.forall_mem_cons.2 ⟨
    qPiece fits1536 at1536_0 at1536_1 rfl (hA.reads at1536_0) (hA.reads at1536_1) (lo_side lanes256) (dsValue10 hA) (dsValue11 hA), List.forall_mem_cons.2 ⟨
    qPiece fits1280 at1280_0 at1280_1 rfl (hA.reads at1280_0) (hA.reads at1280_1) (lo_side lanes256) (dsValue8 hA) (dsValue9 hA), List.forall_mem_cons.2 ⟨
    qPiece fits1024 at1024_0 at1024_1 rfl (hA.reads at1024_0) (hA.reads at1024_1) (lo_side lanes256) (dsValue6 hA) (dsValue7 hA), List.forall_mem_cons.2 ⟨
    qPiece fits768 at768_0 at768_1 rfl (hA.reads at768_0) (hA.reads at768_1) (lo_side lanes256) (dsValue4 hA) (dsValue5 hA), List.forall_mem_cons.2 ⟨
    qPiece fits512 at512_0 at512_1 rfl (hA.reads at512_0) (hA.reads at512_1) (lo_side lanes256) (dsValue2 hA) (dsValue3 hA), List.forall_mem_cons.2 ⟨
    qPiece fits256 at256_0 at256_1 rfl (hA.reads at256_0) (hA.reads at256_1) (lo_side lanes256) (dsValue0 hA) (dsValue1 hA), List.forall_mem_nil _⟩⟩⟩⟩⟩⟩⟩⟩

theorem dcqPieces_value : ∀ p ∈ A.dcqPieces, ∀ x : p.1.shape.Idx, p.2 x = (fun y : S1x2048x2.Idx => ((D.dcq (y 2).val (y 1).val : ℝ) : EReal)) (p.1.emb x) :=
  List.forall_mem_cons.2 ⟨
    cqPiece fits2048 at2048_1 rfl (dsValue15 hA), List.forall_mem_cons.2 ⟨
    cqPiece fits2048 at2048_0 rfl (dsValue14 hA), List.forall_mem_cons.2 ⟨
    cqPiece fits1792 at1792_1 rfl (dsValue13 hA), List.forall_mem_cons.2 ⟨
    cqPiece fits1792 at1792_0 rfl (dsValue12 hA), List.forall_mem_cons.2 ⟨
    cqPiece fits1536 at1536_1 rfl (dsValue11 hA), List.forall_mem_cons.2 ⟨
    cqPiece fits1536 at1536_0 rfl (dsValue10 hA), List.forall_mem_cons.2 ⟨
    cqPiece fits1280 at1280_1 rfl (dsValue9 hA), List.forall_mem_cons.2 ⟨
    cqPiece fits1280 at1280_0 rfl (dsValue8 hA), List.forall_mem_cons.2 ⟨
    cqPiece fits1024 at1024_1 rfl (dsValue7 hA), List.forall_mem_cons.2 ⟨
    cqPiece fits1024 at1024_0 rfl (dsValue6 hA), List.forall_mem_cons.2 ⟨
    cqPiece fits768 at768_1 rfl (dsValue5 hA), List.forall_mem_cons.2 ⟨
    cqPiece fits768 at768_0 rfl (dsValue4 hA), List.forall_mem_cons.2 ⟨
    cqPiece fits512 at512_1 rfl (dsValue3 hA), List.forall_mem_cons.2 ⟨
    cqPiece fits512 at512_0 rfl (dsValue2 hA), List.forall_mem_cons.2 ⟨
    cqPiece fits256 at256_1 rfl (dsValue1 hA), List.forall_mem_cons.2 ⟨
    cqPiece fits256 at256_0 rfl (dsValue0 hA), List.forall_mem_nil _⟩⟩⟩⟩⟩⟩⟩⟩⟩⟩⟩⟩⟩⟩⟩⟩

theorem out7_value (i : Fin 2048) (l : Fin 128) : (A.out7 (ix2 i l) : EReal) = ((D.dq i l : ℝ) : EReal) := by
  rw [A.out7_eq]
  exact View.canon_apply_of_pieces (Val := Elt Ideal) (e := .bf16) (fun y : S2048x128.Idx => ((D.dq (y 0).val (y 1).val : ℝ) : EReal)) A.dqPieces (dqPieces_value hA) (ix2 i l) (cover7 (ix2 i l))

theorem out10_value (i : Fin 2048) (e : Fin 2) : (A.out10 (ix3 0 i e) : EReal) = ((D.dcq e i : ℝ) : EReal) := by
  rw [A.out10_eq]
  exact View.canon_apply_of_pieces (Val := Elt Ideal) (e := .f32) (fun y : S1x2048x2.Idx => ((D.dcq (y 2).val (y 1).val : ℝ) : EReal)) A.dcqPieces (dcqPieces_value hA) (ix3 0 i e) (cover10 (ix3 0 i e))

end Args

end Cert.Proof.Fox
-- ==== Proof.Host.lean ====
/-
  What the call is handed: the arrays the host prepares from the arguments, read entry by entry, and from them the blocks each
  grid point stages. When the arguments hold the numbers of `R`, point `t` stages the numbers of `R.pair t`.
-/
module

public import proofs.«01_k».proof.Proof.Gen.KernelIdeal.Value
public import proofs.«01_k».proof.Proof.RefValue
public import proofs.«01_k».proof.Proof.Chain
public import Idealize.ShloMosaic.Lib.StableHlo.RunRead

@[expose] public section

set_option maxRecDepth 16384

noncomputable section

namespace Cert.Proof.Fox

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-- The queries, keys and values, rounded: as extended reals, the argument itself. -/
theorem entry_a (i : S2048x3072.Idx) : (V m c main_v46 i : EReal) = (m ((c : Thread nD τ).loc main_arg0) i : EReal) := by
  unfold V; after_reads_simp; rfl

/-- The queries' gate sums, one pair of heads to a block. -/
theorem entry_cq : V m c main_v43 = transpose S8x2048x2 [1, 0, 2] (shapeCast S2048x8x2 (m ((c : Thread nD τ).loc main_arg1)) shapeCasts_S2048x16_S2048x8x2) transposes_S2048x8x2_S8x2048x2_1_0_2 := by
  unfold V; after_reads_simp; rfl

/-- The keys' gate sums, rows for columns. -/
theorem entry_ck : V m c main_v45 = shapeCast S8x2x2048 (transpose S16x2048 [1, 0] (m ((c : Thread nD τ).loc main_arg1)) transposes_S2048x16_S16x2048_1_0) shapeCasts_S16x2048_S8x2x2048 := by
  unfold V; after_reads_simp; rfl

/-- The attention's output, as the reference computes it. -/
theorem entry_o : V m c main_v41 = shapeCast S2048x1024 (Cert.ReferenceIdeal.Read.val_main_v58 (F := Ideal) (m ((c : Thread nD τ).loc main_arg0)) (m ((c : Thread nD τ).loc main_arg1))) shapeCasts_S2048x16x64_S2048x1024 := by
  unfold V; after_reads_simp; rfl

theorem entry_g : V m c main_arg2 = m ((c : Thread nD τ).loc main_arg2) := V_main_arg2 m c

/-! ### Where each window sits -/

theorem at0 : ∀ t : Fin grid0.N, win0_0.index t 0 = 0 ∧ win0_0.index t 1 = t.val := by decide +kernel
theorem at1 : ∀ t : Fin grid0.N, win0_1.index t 0 = 0 ∧ win0_1.index t 1 = 8 + t.val := by decide +kernel
theorem at2 : ∀ t : Fin grid0.N, win0_2.index t 0 = 0 ∧ win0_2.index t 1 = 16 + t.val := by decide +kernel
theorem at3 : ∀ t : Fin grid0.N, win0_3.index t 0 = 0 ∧ win0_3.index t 1 = t.val := by decide +kernel
theorem at4 : ∀ t : Fin grid0.N, win0_4.index t 0 = 0 ∧ win0_4.index t 1 = t.val := by decide +kernel
theorem at5 : ∀ t : Fin grid0.N, win0_5.index t 0 = t.val ∧ win0_5.index t 1 = 0 ∧ win0_5.index t 2 = 0 := by decide +kernel
theorem at6 : ∀ t : Fin grid0.N, win0_6.index t 0 = t.val ∧ win0_6.index t 1 = 0 ∧ win0_6.index t 2 = 0 := by decide +kernel

theorem lt8 (t : Fin cfg0.N) : t.val < 8 := by
  have h := t.isLt; have e : cfg0.N = 8 := N_0; omega

/-- Column `l` of the block of a pair of heads, in an array that holds several such groups of columns. -/
theorem col_lt {t l w : ℕ} (b : ℕ) (ht : t < 8) (hl : l < 128) (hb : b + 1024 ≤ w) : b + 128 * t + l < w := by omega

/-! ### The staged blocks, entry by entry -/

theorem blk0 (t : Fin cfg0.N) (i : Fin 2048) (l : Fin 128) :
    (iblk m c 0 t : Vec Ideal S2048x128 .bf16) (ix2 i l) = V m c main_v46 (ix2 i ⟨128 * t.val + l.val, by have := lt8 t; have := l.isLt; omega⟩) := by
  unfold iblk
  rw [View.read_apply]
  show V m c main_v46 _ = V m c main_v46 _
  congr 1; funext a; apply Fin.ext
  match a with
  | ⟨0, _⟩ => show win0_0.index t 0 * 2048 + 1 * i.val = i.val; rw [(at0 t).1]; omega
  | ⟨1, _⟩ => show win0_0.index t 1 * 128 + 1 * l.val = 128 * t.val + l.val; rw [(at0 t).2]; omega

theorem blk1 (t : Fin cfg0.N) (i : Fin 2048) (l : Fin 128) :
    (iblk m c 1 t : Vec Ideal S2048x128 .bf16) (ix2 i l) = V m c main_v46 (ix2 i ⟨1024 + 128 * t.val + l.val, by have := lt8 t; have := l.isLt; omega⟩) := by
  unfold iblk
  rw [View.read_apply]
  show V m c main_v46 _ = V m c main_v46 _
  congr 1; funext a; apply Fin.ext
  match a with
  | ⟨0, _⟩ => show win0_1.index t 0 * 2048 + 1 * i.val = i.val; rw [(at1 t).1]; omega
  | ⟨1, _⟩ => show win0_1.index t 1 * 128 + 1 * l.val = 1024 + 128 * t.val + l.val; rw [(at1 t).2]; omega

theorem blk2 (t : Fin cfg0.N) (i : Fin 2048) (l : Fin 128) :
    (iblk m c 2 t : Vec Ideal S2048x128 .bf16) (ix2 i l) = V m c main_v46 (ix2 i ⟨2048 + 128 * t.val + l.val, by have := lt8 t; have := l.isLt; omega⟩) := by
  unfold iblk
  rw [View.read_apply]
  show V m c main_v46 _ = V m c main_v46 _
  congr 1; funext a; apply Fin.ext
  match a with
  | ⟨0, _⟩ => show win0_2.index t 0 * 2048 + 1 * i.val = i.val; rw [(at2 t).1]; omega
  | ⟨1, _⟩ => show win0_2.index t 1 * 128 + 1 * l.val = 2048 + 128 * t.val + l.val; rw [(at2 t).2]; omega

theorem blk3 (t : Fin cfg0.N) (i : Fin 2048) (l : Fin 128) :
    (iblk m c 3 t : Vec Ideal S2048x128 .f32) (ix2 i l) = V m c main_v41 (ix2 i ⟨128 * t.val + l.val, by have := lt8 t; have := l.isLt; omega⟩) := by
  unfold iblk
  rw [View.read_apply]
  show V m c main_v41 _ = V m c main_v41 _
  congr 1; funext a; apply Fin.ext
  match a with
  | ⟨0, _⟩ => show win0_3.index t 0 * 2048 + 1 * i.val = i.val; rw [(at3 t).1]; omega
  | ⟨1, _⟩ => show win0_3.index t 1 * 128 + 1 * l.val = 128 * t.val + l.val; rw [(at3 t).2]; omega

theorem blk4 (t : Fin cfg0.N) (i : Fin 2048) (l : Fin 128) :
    (iblk m c 4 t : Vec Ideal S2048x128 .f32) (ix2 i l) = V m c main_arg2 (ix2 i ⟨128 * t.val + l.val, by have := lt8 t; have := l.isLt; omega⟩) := by
  unfold iblk
  rw [View.read_apply]
  show V m c main_arg2 _ = V m c main_arg2 _
  congr 1; funext a; apply Fin.ext
  match a with
  | ⟨0, _⟩ => show win0_4.index t 0 * 2048 + 1 * i.val = i.val; rw [(at4 t).1]; omega
  | ⟨1, _⟩ => show win0_4.index t 1 * 128 + 1 * l.val = 128 * t.val + l.val; rw [(at4 t).2]; omega

theorem blk5 (t : Fin cfg0.N) (i : Fin 2048) (e : Fin 2) :
    (iblk m c 5 t : Vec Ideal S1x2048x2 .f32) (ix3 0 i e) = V m c main_v43 (ix3 ⟨t.val, lt8 t⟩ i e) := by
  unfold iblk
  rw [View.read_apply]
  show V m c main_v43 _ = V m c main_v43 _
  congr 1; funext a; apply Fin.ext
  match a with
  | ⟨0, _⟩ => show win0_5.index t 0 * 1 + 1 * 0 = t.val; rw [(at5 t).1]; omega
  | ⟨1, _⟩ => show win0_5.index t 1 * 2048 + 1 * i.val = i.val; rw [(at5 t).2.1]; omega
  | ⟨2, _⟩ => show win0_5.index t 2 * 2 + 1 * e.val = e.val; rw [(at5 t).2.2]; omega

theorem blk6 (t : Fin cfg0.N) (e : Fin 2) (i : Fin 2048) :
    (iblk m c 6 t : Vec Ideal S1x2x2048 .f32) (ix3 0 e i) = V m c main_v45 (ix3 ⟨t.val, lt8 t⟩ e i) := by
  unfold iblk
  rw [View.read_apply]
  show V m c main_v45 _ = V m c main_v45 _
  congr 1; funext a; apply Fin.ext
  match a with
  | ⟨0, _⟩ => show win0_6.index t 0 * 1 + 1 * 0 = t.val; rw [(at6 t).1]; omega
  | ⟨1, _⟩ => show win0_6.index t 1 * 2 + 1 * e.val = e.val; rw [(at6 t).2.1]; omega
  | ⟨2, _⟩ => show win0_6.index t 2 * 2048 + 1 * i.val = i.val; rw [(at6 t).2.2]; omega

/-! ### One point's run -/

/-- The parameters of the body's run at point `t`. -/
def point (t : Fin cfg0.N) : Args Ideal where
  c := c
  i := grid0.coords t
  a1 := ms0_0 t
  h1 := hs0_0 t
  a2 := ms0_1 t
  h2 := hs0_1 t
  a3 := ms0_2 t
  h3 := hs0_2 t
  a4 := ms0_3 t
  h4 := hs0_3 t
  a5 := ms0_4 t
  h5 := hs0_4 t
  a6 := ms0_5 t
  h6 := hs0_5 t
  a7 := ms0_6 t
  h7 := hs0_6 t
  a8 := ms0_7 t
  h8 := hs0_7 t
  a9 := ms0_8 t
  h9 := hs0_8 t
  a10 := ms0_9 t
  h10 := hs0_9 t
  a11 := ms0_10 t
  h11 := hs0_10 t
  a12 := ms0_11 t
  h12 := hs0_11 t
  a13 := scM0_0
  h13 := Memref.isWhole_whole _
  a14 := scM0_1
  h14 := Memref.isWhole_whole _
  x0 := iblk m c 0 t
  x1 := iblk m c 1 t
  x2 := iblk m c 2 t
  x3 := iblk m c 3 t
  x4 := iblk m c 4 t
  x5 := iblk m c 5 t
  x6 := iblk m c 6 t

variable {R : Raw} (H : R.Holds (m ((c : Thread nD τ).loc main_arg0)) (m ((c : Thread nD τ).loc main_arg1)) (m ((c : Thread nD τ).loc main_arg2)))

include H

theorem point_q (t : Fin cfg0.N) (i : Fin 2048) (l : Fin 128) :
    ((point m c t).x0 (ix2 i l) : EReal) = (((R.pair t.val).q i l : ℝ) : EReal) := by
  refine (blk0 m c t i l).trans ?_
  exact (entry_a m c _).trans (H.a _)

theorem point_k (t : Fin cfg0.N) (i : Fin 2048) (l : Fin 128) :
    ((point m c t).x1 (ix2 i l) : EReal) = (((R.pair t.val).k i l : ℝ) : EReal) := by
  refine (blk1 m c t i l).trans ?_
  exact (entry_a m c _).trans (H.a _)

theorem point_v (t : Fin cfg0.N) (i : Fin 2048) (l : Fin 128) :
    ((point m c t).x2 (ix2 i l) : EReal) = (((R.pair t.val).v i l : ℝ) : EReal) := by
  refine (blk2 m c t i l).trans ?_
  exact (entry_a m c _).trans (H.a _)

theorem point_o (t : Fin cfg0.N) (i : Fin 2048) (l : Fin 128) :
    ((point m c t).x3 (ix2 i l) : EReal) = (((R.pair t.val).o i l : ℝ) : EReal) := by
  obtain ⟨M, hM⟩ := H.exists_largest
  have ht := lt8 t
  have hl := l.isLt
  refine (blk3 m c t i l).trans ?_
  rw [entry_o]
  refine (shapeCast_apply _ _ _ (ix3 (n0 := 2048) (n1 := 16) (n2 := 64) i ⟨(128 * t.val + l.val) / 64, by omega⟩ ⟨(128 * t.val + l.val) % 64, by omega⟩) ?_).trans
    ((H.out_apply hM _).trans (congrArg _ (congrArg (R.out i.val) ?_)))
  · rw [Shape.rowMajor_val_three, Shape.rowMajor_val_two]
    show (i.val * 16 + (128 * t.val + l.val) / 64) * 64 + (128 * t.val + l.val) % 64 = i.val * 1024 + (128 * t.val + l.val)
    omega
  · show 64 * ((128 * t.val + l.val) / 64) + (128 * t.val + l.val) % 64 = 128 * t.val + l.val
    omega

theorem point_g (t : Fin cfg0.N) (i : Fin 2048) (l : Fin 128) :
    ((point m c t).x4 (ix2 i l) : EReal) = (((R.pair t.val).g i l : ℝ) : EReal) := by
  refine (blk4 m c t i l).trans ?_
  rw [entry_g]
  exact H.g _

theorem point_cq (t : Fin cfg0.N) (i : Fin 2048) (e : Fin 2) :
    ((point m c t).x5 (ix3 0 i e) : EReal) = (((R.pair t.val).c i e : ℝ) : EReal) := by
  have ht := lt8 t
  have he := e.isLt
  refine (blk5 m c t i e).trans ?_
  rw [entry_cq]
  refine (transpose_apply _ _ _ _ (ix3 (n0 := 2048) (n1 := 8) (n2 := 2) i ⟨t.val, ht⟩ e) fun b => ?_).trans
    ((shapeCast_apply _ _ _ (ix2 (n0 := 2048) (n1 := 16) i ⟨2 * t.val + e.val, by omega⟩) ?_).trans (H.c _))
  · match b with
    | ⟨0, _⟩ => rfl
    | ⟨1, _⟩ => rfl
    | ⟨2, _⟩ => rfl
  · rw [Shape.rowMajor_val_three, Shape.rowMajor_val_two]
    show i.val * 16 + (2 * t.val + e.val) = (i.val * 8 + t.val) * 2 + e.val
    omega

theorem point_ck (t : Fin cfg0.N) (e : Fin 2) (i : Fin 2048) :
    ((point m c t).x6 (ix3 0 e i) : EReal) = (((R.pair t.val).c i e : ℝ) : EReal) := by
  have ht := lt8 t
  have he := e.isLt
  refine (blk6 m c t e i).trans ?_
  rw [entry_ck]
  refine (shapeCast_apply _ _ _ (ix2 (n0 := 16) (n1 := 2048) ⟨2 * t.val + e.val, by omega⟩ i) ?_).trans
    ((transpose_apply _ _ _ _ (ix2 (n0 := 2048) (n1 := 16) i ⟨2 * t.val + e.val, by omega⟩) fun b => ?_).trans (H.c _))
  · rw [Shape.rowMajor_val_three, Shape.rowMajor_val_two]
    show (2 * t.val + e.val) * 2048 + i.val = (t.val * 2 + e.val) * 2048 + i.val
    omega
  · match b with
    | ⟨0, _⟩ => rfl
    | ⟨1, _⟩ => rfl

/-- Point `t` stages the numbers of its pair of heads. -/
theorem point_holds (t : Fin cfg0.N) : (point m c t).Holds (R.pair t.val) :=
  ⟨point_q m c H t, point_k m c H t, point_v m c H t, point_o m c H t, point_g m c H t, point_cq m c H t, point_ck m c H t⟩

end Cert.Proof.Fox

end
-- ==== Proof.Claims.lean ====
/-
  The arrays after the kernel's run and after the reference's, as one function of the arguments' numbers; and the claims.
-/
module

public import proofs.«01_k».proof.Defs
public import proofs.«01_k».proof.Proof.Host
public import Idealize.ShloMosaic.Lib.Pipeline.ValueKit.Geometry
public import proofs.«01_k».proof.Proof.Gen.Kernel.Frame
public import proofs.«01_k».proof.Proof.Gen.KernelIdeal.Frame

@[expose] public section

set_option maxRecDepth 16384

noncomputable section

namespace Cert.Proof.Fox

open Cert.KernelIdeal Cert.KernelIdeal.Gen
open Idealize.ShloMosaic Idealize.ShloMosaic.TcCoe Idealize.SL.Sem Idealize.ShloMosaic.StableHlo Idealize.ShloMosaic.ValueIdx

/-! ### The results -/

/-- The gradient of the queries. -/
def gq (R : Raw) : Vec Ideal S2048x1024 .bf16 := fun i => ((R.dq (i 0).val (i 1).val : ℝ) : EReal)
/-- The gradient of the keys. -/
def gk (R : Raw) : Vec Ideal S2048x1024 .bf16 := fun i => ((R.dk (i 0).val (i 1).val : ℝ) : EReal)
/-- The gradient of the values. -/
def gv (R : Raw) : Vec Ideal S2048x1024 .bf16 := fun i => ((R.dv (i 0).val (i 1).val : ℝ) : EReal)
/-- The gradient of the queries' gate sums. -/
def gcq (R : Raw) : Vec Ideal S8x2048x2 .f32 := fun i => ((R.dcq (2 * (i 0).val + (i 2).val) (i 1).val : ℝ) : EReal)
/-- The gradient of the keys' gate sums. -/
def gck (R : Raw) : Vec Ideal S8x2x2048 .f32 := fun i => ((R.dck (2 * (i 0).val + (i 1).val) (i 2).val : ℝ) : EReal)

section Kernel

variable (m : (ℓ : Loc nD τ sig) → Buf (Elt Ideal) ℓ) (c : Dev nD)

theorem at7 : ∀ t : Fin grid0.N, win0_7.index t 0 = 0 ∧ win0_7.index t 1 = t.val := by decide +kernel
theorem at8 : ∀ t : Fin grid0.N, win0_8.index t 0 = 0 ∧ win0_8.index t 1 = t.val := by decide +kernel
theorem at9 : ∀ t : Fin grid0.N, win0_9.index t 0 = 0 ∧ win0_9.index t 1 = t.val := by decide +kernel
theorem at10 : ∀ t : Fin grid0.N, win0_10.index t 0 = t.val ∧ win0_10.index t 1 = 0 ∧ win0_10.index t 2 = 0 := by decide +kernel
theorem at11 : ∀ t : Fin grid0.N, win0_11.index t 0 = t.val ∧ win0_11.index t 1 = 0 ∧ win0_11.index t 2 = 0 := by decide +kernel

/-- What point `t` leaves in the block of window 7. -/
theorem after7 (t : Fin cfg0.N) : (dats m 0 c).after 7 t = (point m c t).out7 := by
  rw [after0_7]; simp only [outsAt0]; rfl
/-- What point `t` leaves in the block of window 8. -/
theorem after8 (t : Fin cfg0.N) : (dats m 0 c).after 8 t = (point m c t).out8 := by
  rw [after0_8]; simp only [outsAt0]; rfl
/-- What point `t` leaves in the block of window 9. -/
theorem after9 (t : Fin cfg0.N) : (dats m 0 c).after 9 t = (point m c t).out9 := by
  rw [after0_9]; simp only [outsAt0]; rfl
/-- What point `t` leaves in the block of window 10. -/
theorem after10 (t : Fin cfg0.N) : (dats m 0 c).after 10 t = (point m c t).out10 := by
  rw [after0_10]; simp only [outsAt0]; rfl
/-- What point `t` leaves in the block of window 11. -/
theorem after11 (t : Fin cfg0.N) : (dats m 0 c).after 11 t = (point m c t).out11 := by
  rw [after0_11]; simp only [outsAt0]; rfl

variable {R : Raw} (H : R.Holds (m ((c : Thread nD τ).loc main_arg0)) (m ((c : Thread nD τ).loc main_arg1)) (m ((c : Thread nD τ).loc main_arg2)))

include H

theorem arr7 : (dats m 0 c).arrAt 7 cfg0.N = gq R := by
  refine (dats m 0 c).arrAt_eq_of_covers 7 (gq R) (by decide +kernel) fun t _ y => ?_
  refine (cast_eq _ _).trans ((congrFun (after7 m c t) _).trans ?_)
  have hl : (y 1).val < 128 := (y 1).isLt
  have e : (cfg0.win 7).xinj (cfg0.grid.coords t) y = ix2 (n0 := 2048) (n1 := 128) (y 0) (y 1) := by
    funext a; match a with
    | ⟨0, _⟩ => rfl
    | ⟨1, _⟩ => rfl
  rw [e]
  refine (Args.out7_value (point_holds m c H t) _ _).trans ?_
  exact congrArg _ ((R.pair_dq t.val hl _).trans (congrArg₂ R.dq (at_whole (at7 t).1).symm (at_block (at7 t).2).symm))

theorem arr8 : (dats m 0 c).arrAt 8 cfg0.N = gk R := by
  refine (dats m 0 c).arrAt_eq_of_covers 8 (gk R) (by decide +kernel) fun t _ y => ?_
  refine (cast_eq _ _).trans ((congrFun (after8 m c t) _).trans ?_)
  have hl : (y 1).val < 128 := (y 1).isLt
  have e : (cfg0.win 8).xinj (cfg0.grid.coords t) y = ix2 (n0 := 2048) (n1 := 128) (y 0) (y 1) := by
    funext a; match a with
    | ⟨0, _⟩ => rfl
    | ⟨1, _⟩ => rfl
  rw [e]
  refine (Args.out8_value (point_holds m c H t) _ _).trans ?_
  exact congrArg _ ((R.pair_dk t.val hl _).trans (congrArg₂ R.dk (at_whole (at8 t).1).symm (at_block (at8 t).2).symm))

theorem arr9 : (dats m 0 c).arrAt 9 cfg0.N = gv R := by
  refine (dats m 0 c).arrAt_eq_of_covers 9 (gv R) (by decide +kernel) fun t _ y => ?_
  refine (cast_eq _ _).trans ((congrFun (after9 m c t) _).trans ?_)
  have hl : (y 1).val < 128 := (y 1).isLt
  have e : (cfg0.win 9).xinj (cfg0.grid.coords t) y = ix2 (n0 := 2048) (n1 := 128) (y 0) (y 1) := by
    funext a; match a with
    | ⟨0, _⟩ => rfl
    | ⟨1, _⟩ => rfl
  rw [e]
  refine (Args.out9_value (point_holds m c H t) _ _).trans ?_
  exact congrArg _ ((R.pair_dv t.val hl _).trans (congrArg₂ R.dv (at_whole (at9 t).1).symm (at_block (at9 t).2).symm))

theorem arr10 : (dats m 0 c).arrAt 10 cfg0.N = gcq R := by
  refine (dats m 0 c).arrAt_eq_of_covers 10 (gcq R) (by decide +kernel) fun t _ y => ?_
  refine (cast_eq _ _).trans ((congrFun (after10 m c t) _).trans ?_)
  have h0 : (y 0).val < 1 := (y 0).isLt
  have he : (y 2).val < 2 := (y 2).isLt
  have e : (cfg0.win 10).xinj (cfg0.grid.coords t) y = ix3 (n0 := 1) (n1 := 2048) (n2 := 2) 0 (y 1) (y 2) := by
    funext a; apply Fin.ext; match a with
    | ⟨0, _⟩ => show (y 0).val = 0; omega
    | ⟨1, _⟩ => rfl
    | ⟨2, _⟩ => rfl
  rw [e]
  refine (Args.out10_value (point_holds m c H t) _ _).trans ?_
  refine congrArg _ ((R.pair_dcq t.val he _).trans (congrArg₂ R.dcq ?_ ?_))
  · show 2 * t.val + (y 2).val = 2 * (win0_10.index t 0 * 1 + 1 * (y 0).val) + (win0_10.index t 2 * 2 + 1 * (y 2).val)
    rw [(at10 t).1, (at10 t).2.2]; omega
  · show (y 1).val = win0_10.index t 1 * 2048 + 1 * (y 1).val
    rw [(at10 t).2.1]; omega

theorem arr11 : (dats m 0 c).arrAt 11 cfg0.N = gck R := by
  refine (dats m 0 c).arrAt_eq_of_covers 11 (gck R) (by decide +kernel) fun t _ y => ?_
  refine (cast_eq _ _).trans ((congrFun (after11 m c t) _).trans ?_)
  have h0 : (y 0).val < 1 := (y 0).isLt
  have he : (y 1).val < 2 := (y 1).isLt
  have e : (cfg0.win 11).xinj (cfg0.grid.coords t) y = ix3 (n0 := 1) (n1 := 2) (n2 := 2048) 0 (y 1) (y 2) := by
    funext a; apply Fin.ext; match a with
    | ⟨0, _⟩ => show (y 0).val = 0; omega
    | ⟨1, _⟩ => rfl
    | ⟨2, _⟩ => rfl
  rw [e]
  refine (Args.out11_value (point_holds m c H t) _ _).trans ?_
  refine congrArg _ ((R.pair_dck t.val he _).trans (congrArg₂ R.dck ?_ ?_))
  · show 2 * t.val + (y 1).val = 2 * (win0_11.index t 0 * 1 + 1 * (y 0).val) + (win0_11.index t 1 * 2 + 1 * (y 1).val)
    rw [(at11 t).1, (at11 t).2.1]; omega
  · show (y 2).val = win0_11.index t 2 * 2048 + 1 * (y 2).val
    rw [(at11 t).2.2]; omega

end Kernel

/-! ### Finite arguments hold numbers -/

/-- An extended real below infinity in absolute value is a number. -/
theorem real_of_abs_lt (x : Ideal .f32)
    (h : FloatOps.cmpf .olt (FloatOps.hostAbsf x) (FloatOps.ofBits (F := Ideal) .f32 0x7F800000#32) = 1#1) :
    (x : EReal) = (((x : EReal).toReal : ℝ) : EReal) := by
  have ht : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [ht] at h'
  have hlt : max (x : EReal) (-(x : EReal)) < ⊤ := by
    by_contra hn
    simp [Ideal.cmp, hn] at h'
  refine (EReal.coe_toReal ?_ ?_).symm
  · rintro e; rw [e] at hlt; simp at hlt
  · rintro e; rw [e] at hlt; simp at hlt

/-- The numbers of three arrays. -/
def Raw.of (x0 : (⟨S2048x3072, .f32⟩ : BufTy).Contents (Elt Ideal)) (x1 : (⟨S2048x16, .f32⟩ : BufTy).Contents (Elt Ideal))
    (x2 : (⟨S2048x1024, .f32⟩ : BufTy).Contents (Elt Ideal)) : Raw where
  a i n := if h : i < 2048 ∧ n < 3072 then (x0 (ix2 ⟨i, h.1⟩ ⟨n, h.2⟩) : EReal).toReal else 0
  c i n := if h : i < 2048 ∧ n < 16 then (x1 (ix2 ⟨i, h.1⟩ ⟨n, h.2⟩) : EReal).toReal else 0
  g i n := if h : i < 2048 ∧ n < 1024 then (x2 (ix2 ⟨i, h.1⟩ ⟨n, h.2⟩) : EReal).toReal else 0

theorem of_holds [Cert.Pre_finite.Facts] (x0 : (⟨S2048x3072, .f32⟩ : BufTy).Contents (Elt Ideal)) (x1 : (⟨S2048x16, .f32⟩ : BufTy).Contents (Elt Ideal))
    (x2 : (⟨S2048x1024, .f32⟩ : BufTy).Contents (Elt Ideal))
    (h : (Cert.Pre_finite.fn (F := Ideal) x0 x1 x2).1 = (fun _ => 1#1) ∧ (Cert.Pre_finite.fn (F := Ideal) x0 x1 x2).2.1 = (fun _ => 1#1)
      ∧ (Cert.Pre_finite.fn (F := Ideal) x0 x1 x2).2.2 = (fun _ => 1#1)) : (Raw.of x0 x1 x2).Holds x0 x1 x2 where
  a i := by
    have hi : (i 0).val < 2048 ∧ (i 1).val < 3072 := ⟨(i 0).isLt, (i 1).isLt⟩
    have e : ix2 (n0 := 2048) (n1 := 3072) ⟨(i 0).val, hi.1⟩ ⟨(i 1).val, hi.2⟩ = i := by
      funext a; match a with
      | ⟨0, _⟩ => rfl
      | ⟨1, _⟩ => rfl
    show _ = (((if h : (i 0).val < 2048 ∧ (i 1).val < 3072 then _ else _ : ℝ)) : EReal)
    rw [dif_pos hi, e]
    exact real_of_abs_lt (x0 i) (congrFun h.1 i)
  c i := by
    have hi : (i 0).val < 2048 ∧ (i 1).val < 16 := ⟨(i 0).isLt, (i 1).isLt⟩
    have e : ix2 (n0 := 2048) (n1 := 16) ⟨(i 0).val, hi.1⟩ ⟨(i 1).val, hi.2⟩ = i := by
      funext a; match a with
      | ⟨0, _⟩ => rfl
      | ⟨1, _⟩ => rfl
    show _ = (((if h : (i 0).val < 2048 ∧ (i 1).val < 16 then _ else _ : ℝ)) : EReal)
    rw [dif_pos hi, e]
    exact real_of_abs_lt (x1 i) (congrFun h.2.1 i)
  g i := by
    have hi : (i 0).val < 2048 ∧ (i 1).val < 1024 := ⟨(i 0).isLt, (i 1).isLt⟩
    have e : ix2 (n0 := 2048) (n1 := 1024) ⟨(i 0).val, hi.1⟩ ⟨(i 1).val, hi.2⟩ = i := by
      funext a; match a with
      | ⟨0, _⟩ => rfl
      | ⟨1, _⟩ => rfl
    show _ = (((if h : (i 0).val < 2048 ∧ (i 1).val < 1024 then _ else _ : ℝ)) : EReal)
    rw [dif_pos hi, e]
    exact real_of_abs_lt (x2 i) (congrFun h.2.2 i)

/-! ### The claims -/

instance preFacts : Cert.Pre_finite.Facts where
  bcast_S_S2048x3072 := by decide
  bcast_S_S2048x16 := by decide
  bcast_S_S2048x1024 := by decide

theorem frame_p : Cert.quiescent_Kernel := fun m ρ _ => Cert.Kernel.Gen.frame m ρ
theorem frame_pi : Cert.quiescent_KernelIdeal := fun m ρ _ => Cert.KernelIdeal.Gen.frame m ρ
theorem frame_pi_finite : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)
theorem frame_ri_finite : Cert.quiescent_ReferenceIdeal_pre_finite := fun m ρ _ => frame_ri m ρ trivial

theorem preserves : Cert.preserves_Kernel_KernelIdeal :=
  IdealRules.named_const.statement Cert.KernelIdeal.κ "mask" .f32 0xF149F2CA#32 ⊥ rfl

/-- The kernel's five arrays are the reference's five, for finite arguments. -/
theorem algebraic : Cert.algebraic_KernelIdeal_ReferenceIdeal_pre_finite := by
  intro m ρ m' ρ' hfin hagree
  let R : Dev nD → Raw := fun c => Raw.of (m ((c : Thread nD τ).loc main_arg0)) (m ((c : Thread nD τ).loc main_arg1)) (m ((c : Thread nD τ).loc main_arg2))
  have H : ∀ c : Dev nD, (R c).Holds (m ((c : Thread nD τ).loc main_arg0)) (m ((c : Thread nD τ).loc main_arg1)) (m ((c : Thread nD τ).loc main_arg2)) :=
    fun c => of_holds _ _ _ (hfin c)
  refine ⟨fun c => gq (R c), fun c => gk (R c), fun c => gv (R c), fun c => gcq (R c), fun c => gck (R c), ?_, ?_⟩
  · refine (θ_run defs _ _).mono (fun r h c => ?_) (Cert.KernelIdeal.Value.run_blocks (F := Ideal) m ρ)
    obtain ⟨h7, h8, h9, h10, h11, hk⟩ := h c
    exact ⟨h7.trans (arr7 m c (H c)), h8.trans (arr8 m c (H c)), h9.trans (arr9 m c (H c)), h10.trans (arr10 m c (H c)),
      h11.trans (arr11 m c (H c)), hk⟩
  · refine (θ_run Cert.ReferenceIdeal.defs _ _).mono (fun r h c => ?_) (Cert.ReferenceIdeal.Value.run (F := Ideal) m' ρ')
    obtain ⟨h0, h1, h2, h3, h4, hk⟩ := h c
    have H' := H c
    obtain ⟨ea, ec, eg⟩ := hagree c
    rw [← ea, ← ec, ← eg] at H'
    obtain ⟨M, hM⟩ := H'.exists_largest
    exact ⟨h0.trans ((Cert.ReferenceIdeal.Read.val_main_v94_eq m' c).trans (funext fun i => H'.dq_apply hM i)),
      h1.trans ((Cert.ReferenceIdeal.Read.val_main_v96_eq m' c).trans (funext fun i => H'.dk_apply hM i)),
      h2.trans ((Cert.ReferenceIdeal.Read.val_main_v98_eq m' c).trans (funext fun i => H'.dv_apply hM i)),
      h3.trans ((Cert.ReferenceIdeal.Read.val_main_v100_eq m' c).trans (funext fun i => H'.dcq_apply hM i)),
      h4.trans ((Cert.ReferenceIdeal.Read.val_main_v102_eq m' c).trans (funext fun i => H'.dck_apply hM i)), hk⟩

end Cert.Proof.Fox

end
-- ==== Proof.Dfin.lean ====
/-
  The gradient of the feed-forward input: `dgu` against the transposed input matrix, contracted in four chunks of 1408.
-/
module

public import proofs.«01_k».proof.Defs
public import proofs.«01_k».proof.Proof.Contract
public import proofs.«01_k».proof.Proof.Gen.Dfin.Frame
public import proofs.«01_k».proof.Proof.Gen.DfinIdeal.Value
public import proofs.«01_k».proof.Proof.Gen.DfinRefIdeal.Run
public import proofs.«01_k».proof.Proof.Gen.DfinRefIdeal.Read
public import Idealize.ShloMosaic.Lib.StableHlo.RunRead
public import Idealize.ShloMosaic.Lib.Pipeline.ValueKit.Geometry
public import Idealize.ShloMosaic.Lib.Tactic

@[expose] public section

set_option maxRecDepth 16384

noncomputable section

namespace Cert.Proof.Dfin

open Cert.DfinIdeal Cert.DfinIdeal.Gen Cert.DfinRefIdeal.Read
open Idealize.ShloMosaic Idealize.ShloMosaic.TcCoe Idealize.SL.Sem Idealize.ShloMosaic.StableHlo Idealize.ShloMosaic.ValueIdx

/-- The result. -/
def prod (x0 : (Mat 2048 5632).Idx → EReal) (x1 : (Mat 1024 5632).Idx → EReal) : (Mat 2048 1024).Idx → EReal := fun y =>
  upTo (fun k => entry x0 ((y 0).val) k) (fun k => entry x1 ((y 1).val) k) 5632

section Kernel

variable (m : (ℓ : Loc nD τ sig) → Buf (Elt Ideal) ℓ) (c : Dev nD)

/-- The first argument. -/
abbrev in0 : (Mat 2048 5632).Idx → EReal := m ((c : Thread nD τ).loc main_arg0)
/-- The second argument. -/
abbrev in1 : (Mat 1024 5632).Idx → EReal := m ((c : Thread nD τ).loc main_arg1)

/-! ### The staged blocks -/

theorem host0 (y : S2048x5632.Idx) : (V m c main_v0 y : EReal) = entry (in0 m c) (y 0).val (y 1).val := by
  rw [entry_idx]; unfold V; after_reads_simp; rfl

theorem at0 : ∀ t : Fin grid0.N, win0_0.index t 0 = t.val / 4 / 2 ∧ win0_0.index t 1 = t.val % 4 := by decide +kernel

theorem blk0 (t : Fin cfg0.N) (i : Fin 1024) (k : Fin 1408) :
    ((iblk m c 0 t : Vec Ideal S1024x1408 .bf16) (ix2 i k) : EReal) = entry (in0 m c) (1024 * (t.val / 4 / 2) + i.val) (1408 * (t.val % 4) + k.val) := by
  unfold iblk
  rw [View.read_apply]
  exact (host0 m c _).trans (congrArg₂ (entry (in0 m c)) (at_block (at0 t).1) (at_block (at0 t).2))

theorem host1 (y : S1x5632x1024.Idx) : (V m c main_v3 y : EReal) = entry (in1 m c) (y 2).val (y 1).val := by
  unfold V; after_reads_simp
  refine (broadcastInDim_apply _ _ _ y (ix2 (n0 := 5632) (n1 := 1024) (y 1) (y 2)) (fun a => by
    match a with
    | ⟨0, _⟩ => rfl
    | ⟨1, _⟩ => rfl)).trans ?_
  refine (transpose_apply _ _ _ _ (ix2 (n0 := 1024) (n1 := 5632) (y 2) (y 1)) (fun b => by
    match b with
    | ⟨0, _⟩ => rfl
    | ⟨1, _⟩ => rfl)).trans ?_
  exact eq_entry (in1 m c) _ rfl rfl

theorem at1 : ∀ t : Fin grid0.N, win0_1.index t 0 = 0 ∧ win0_1.index t 1 = t.val % 4 ∧ win0_1.index t 2 = t.val / 4 % 2 := by decide +kernel

theorem blk1 (t : Fin cfg0.N) (i : Fin 1408) (k : Fin 512) :
    ((iblk m c 1 t : Vec Ideal S1x1408x512 .bf16) (ix3 0 i k) : EReal) = entry (in1 m c) (512 * (t.val / 4 % 2) + k.val) (1408 * (t.val % 4) + i.val) := by
  unfold iblk
  rw [View.read_apply]
  exact (host1 m c _).trans (congrArg₂ (entry (in1 m c)) (at_block (at1 t).2.2) (at_block (at1 t).2.1))

theorem at2 : ∀ t : Fin grid0.N, win0_2.index t 0 = t.val / 4 / 2 ∧ win0_2.index t 1 = t.val / 4 % 2 := by decide +kernel

/-- What a point multiplies, at an entry. -/
theorem pay_apply (x0 : Vec Ideal S1024x1408 .bf16) (x1 : Vec Ideal S1x1408x512 .bf16) (i : Fin 1024) (j : Fin 512) (f g : ℕ → EReal)
    (hf : ∀ k : Fin 1408, (x0 (ix2 i k) : EReal) = f k.val) (hg : ∀ k : Fin 1408, (x1 (ix3 0 k j) : EReal) = g k.val) :
    (k0_pay1 x0 x1 (ix2 i j) : EReal) = upTo f g 1408 := by
  unfold k0_pay1
  try simp only [shapeCast_self]
  exact nn_upTo (φ₁ := .bf16) (φ₂ := .bf16) x0 _ i j f g hf (fun k => (unbox_apply x1 _ k j).trans (hg k))

/-! ### What a point leaves -/

theorem carry_A (c : Dev nD) (i : grid0.Coords) (arg3 : Memref sig .tc .vmem S1024x1408 .bf16) (harg3 : arg3.IsWhole) (arg4 : Memref sig .tc .vmem S1x1408x512 .bf16) (harg4 : arg4.IsWhole) (arg6 : Memref sig .tc .vmem S1024x512 .f32) (harg6 : arg6.IsWhole) (arg7 : Memref sig .tc .vmem S1024x512 .f32) (harg7 : arg7.IsWhole) (hc0 : cond0_0 i) (hc1 : ¬cond0_1 i) (hc2 : ¬cond0_2 i)
    (x0 : Vec Ideal S1024x1408 .bf16) (x1 : Vec Ideal S1x1408x512 .bf16) :
    sout0_A_0 c i arg3 harg3 arg4 harg4 arg6 harg6 arg7 harg7 hc0 hc1 hc2 x0 x1 = k0_pay1 x0 x1 := by
  unfold sout0_A_0
  rw [View.read_writes_eq_canon _ _ _ (scover0_A_0 c i arg3 harg3 arg4 harg4 arg6 harg6 arg7 harg7 hc0 hc1 hc2 x0 x1)]
  unfold kernelRun0_A
  dsimp only
  rw [View.canon_unit_zero (S := S1024x512) zero2]
  try unfold k0_pay2
  simp only [View.readAt_eq_ld, harg3.read_unread, harg4.read_unread, harg6.read_unread, harg7.read_unread, View.ld_unit_zero (S := S1024x1408) zero2, View.ld_unit_zero (S := S1x1408x512) zero3, View.ld_unit_zero (S := S1024x512) zero2, shapeCast_self]

theorem carry_B (c : Dev nD) (i : grid0.Coords) (arg3 : Memref sig .tc .vmem S1024x1408 .bf16) (harg3 : arg3.IsWhole) (arg4 : Memref sig .tc .vmem S1x1408x512 .bf16) (harg4 : arg4.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i) (hc2 : ¬cond0_2 i)
    (x0 : Vec Ideal S1024x1408 .bf16) (x1 : Vec Ideal S1x1408x512 .bf16) (xs0 : Vec Ideal S1024x512 .f32) :
    sout0_B_0 c i arg3 harg3 arg4 harg4 arg6 harg6 arg7 harg7 hc0 hc1 hc2 x0 x1 xs0 = addf xs0 (k0_pay1 x0 x1) := by
  unfold sout0_B_0
  rw [View.read_writes_eq_canon _ _ _ (scover0_B_0 c i arg3 harg3 arg4 harg4 arg6 harg6 arg7 harg7 hc0 hc1 hc2 x0 x1 xs0)]
  unfold kernelRun0_B
  dsimp only
  rw [View.canon_unit_zero (S := S1024x512) zero2]
  try unfold k0_pay3
  simp only [View.readAt_eq_ld, harg3.read_unread, harg4.read_unread, harg6.read_unread, harg7.read_unread, View.ld_unit_zero (S := S1024x1408) zero2, View.ld_unit_zero (S := S1x1408x512) zero3, View.ld_unit_zero (S := S1024x512) zero2, shapeCast_self]

theorem carry_C (c : Dev nD) (i : grid0.Coords) (arg3 : Memref sig .tc .vmem S1024x1408 .bf16) (harg3 : arg3.IsWhole) (arg4 : Memref sig .tc .vmem S1x1408x512 .bf16) (harg4 : arg4.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i) (hc2 : cond0_2 i)
    (x0 : Vec Ideal S1024x1408 .bf16) (x1 : Vec Ideal S1x1408x512 .bf16) (xs0 : Vec Ideal S1024x512 .f32) :
    sout0_C_0 c i arg3 harg3 arg4 harg4 arg6 harg6 arg7 harg7 hc0 hc1 hc2 x0 x1 xs0 = addf xs0 (k0_pay1 x0 x1) := by
  unfold sout0_C_0
  rw [View.read_writes_eq_canon _ _ _ (scover0_C_0 c i arg3 harg3 arg4 harg4 arg6 harg6 arg7 harg7 hc0 hc1 hc2 x0 x1 xs0)]
  unfold kernelRun0_C
  dsimp only
  sl_unfold_words
  rw [View.canon_unit_zero (S := S1024x512) zero2]
  try unfold k0_pay3
  simp only [View.readAt_eq_ld, harg3.read_unread, harg4.read_unread, harg6.read_unread, harg7.read_unread, View.ld_unit_zero (S := S1024x1408) zero2, View.ld_unit_zero (S := S1x1408x512) zero3, View.ld_unit_zero (S := S1024x512) zero2, shapeCast_self]

theorem out_last (c : Dev nD) (i : grid0.Coords) (arg3 : Memref sig .tc .vmem S1024x1408 .bf16) (harg3 : arg3.IsWhole) (arg4 : Memref sig .tc .vmem S1x1408x512 .bf16) (harg4 : arg4.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i) (hc2 : cond0_2 i)
    (x0 : Vec Ideal S1024x1408 .bf16) (x1 : Vec Ideal S1x1408x512 .bf16) (xs0 : Vec Ideal S1024x512 .f32) :
    out0_C_2 c i arg3 harg3 arg4 harg4 arg6 harg6 arg7 harg7 hc0 hc1 hc2 x0 x1 xs0 = addf xs0 (k0_pay1 x0 x1) := by
  unfold out0_C_2
  rw [View.read_writes_eq_canon _ _ _ (cover0_C_2 c i arg3 harg3 arg4 harg4 arg6 harg6 arg7 harg7 hc0 hc1 hc2 x0 x1 xs0)]
  unfold kernelRun0_C
  dsimp only
  sl_unfold_words
  rw [View.canon_unit_zero (S := S1024x512) zero2, View.readCov_unit_zero (S := S1024x512) _ zero2]
  try unfold k0_pay3
  simp only [View.readAt_eq_ld, harg3.read_unread, harg4.read_unread, harg6.read_unread, harg7.read_unread, View.ld_unit_zero (S := S1024x1408) zero2, View.ld_unit_zero (S := S1x1408x512) zero3, View.ld_unit_zero (S := S1024x512) zero2, shapeCast_self]

/-- The chunk a point multiplies. -/
theorem chunk (t : Fin cfg0.N) (i : Fin 1024) (j : Fin 512) : (k0_pay1 (iblk m c 0 t) (iblk m c 1 t) (ix2 i j) : EReal)
    = upTo (fun k => entry (in0 m c) (1024 * (t.val / 4 / 2) + i.val) (1408 * (t.val % 4) + k)) (fun k => entry (in1 m c) (512 * (t.val / 4 % 2) + j.val) (1408 * (t.val % 4) + k)) 1408 :=
  pay_apply _ _ i j _ _ (fun k => blk0 m c t i k) (fun k => blk1 m c t k j)

theorem first_apply (t : Fin cfg0.N) (h : t.val % 4 = 0) (i : Fin 1024) (j : Fin 512) :
    ((outsAt0 m c t.val t.isLt).2 (ix2 i j) : EReal) = upTo (fun k => entry (in0 m c) (1024 * (t.val / 4 / 2) + i.val) k) (fun k => entry (in1 m c) (512 * (t.val / 4 % 2) + j.val) k) (1408 * (t.val % 4 + 1)) := by
  rw [outsAt0_A m c t (by omega) (by omega) (by omega)]
  dsimp only
  rw [carry_A]
  refine (chunk m c t i j).trans ?_
  rw [h]
  simp only [Nat.mul_zero, Nat.zero_add, Nat.mul_one]

/-- A later point adds its chunk to what the point before left. -/
theorem step (t : Fin cfg0.N) (s : Vec Ideal S1024x512 .f32) (i : Fin 1024) (j : Fin 512)
    (hs : (s (ix2 i j) : EReal) = upTo (fun k => entry (in0 m c) (1024 * (t.val / 4 / 2) + i.val) k) (fun k => entry (in1 m c) (512 * (t.val / 4 % 2) + j.val) k) (1408 * (t.val % 4))) :
    (addf s (k0_pay1 (iblk m c 0 t) (iblk m c 1 t)) (ix2 i j) : EReal) = upTo (fun k => entry (in0 m c) (1024 * (t.val / 4 / 2) + i.val) k) (fun k => entry (in1 m c) (512 * (t.val / 4 % 2) + j.val) k) (1408 * (t.val % 4 + 1)) := by
  rw [Nat.mul_add, Nat.mul_one, upTo_add]
  exact congrArg₂ (fun a b : EReal => a + b) hs (chunk m c t i j)

theorem next_apply (t : Fin cfg0.N) (h : ¬t.val % 4 = 0) (i : Fin 1024) (j : Fin 512)
    (hs : ((outsAt0 m c (t.val - 1) (Nat.lt_of_le_of_lt (Nat.sub_le _ _) t.isLt)).2 (ix2 i j) : EReal) = upTo (fun k => entry (in0 m c) (1024 * (t.val / 4 / 2) + i.val) k) (fun k => entry (in1 m c) (512 * (t.val / 4 % 2) + j.val) k) (1408 * (t.val % 4))) :
    ((outsAt0 m c t.val t.isLt).2 (ix2 i j) : EReal) = upTo (fun k => entry (in0 m c) (1024 * (t.val / 4 / 2) + i.val) k) (fun k => entry (in1 m c) (512 * (t.val / 4 % 2) + j.val) k) (1408 * (t.val % 4 + 1)) := by
  by_cases hl : t.val % 4 = 3
  · rw [outsAt0_C m c t (by omega) (by omega) (by omega)]
    dsimp only
    rw [carry_C]
    exact step m c t _ i j hs
  · rw [outsAt0_B m c t (by omega) (by omega) (by omega)]
    dsimp only
    rw [carry_B]
    exact step m c t _ i j hs

/-- What is carried after a point: the sum of the chunks so far. -/
theorem carried (i : Fin 1024) (j : Fin 512) : ∀ (n : ℕ) (h : n < cfg0.N),
    ((outsAt0 m c n h).2 (ix2 i j) : EReal) = upTo (fun k => entry (in0 m c) (1024 * (n / 4 / 2) + i.val) k) (fun k => entry (in1 m c) (512 * (n / 4 % 2) + j.val) k) (1408 * (n % 4 + 1))
  | 0, h => first_apply m c ⟨0, h⟩ (Nat.zero_mod _) i j
  | n + 1, h => by
    by_cases h0 : (n + 1) % 4 = 0
    · exact first_apply m c ⟨n + 1, h⟩ h0 i j
    · refine next_apply m c ⟨n + 1, h⟩ h0 i j ((carried i j n (by omega)).trans ?_)
      have e : n / 4 = (n + 1) / 4 := by omega
      have e' : n % 4 + 1 = (n + 1) % 4 := by omega
      dsimp only
      rw [e, e']

/-- What the last point of a block leaves in it. -/
theorem last_apply (t : Fin cfg0.N) (h : t.val % 4 = 3) (i : Fin 1024) (j : Fin 512) :
    ((outsAt0 m c t.val t.isLt).1 (ix2 i j) : EReal) = upTo (fun k => entry (in0 m c) (1024 * (t.val / 4 / 2) + i.val) k) (fun k => entry (in1 m c) (512 * (t.val / 4 % 2) + j.val) k) 5632 := by
  have hn : t.val - 1 < cfg0.N := Nat.lt_of_le_of_lt (Nat.sub_le _ _) t.isLt
  rw [outsAt0_C m c t (by omega) (by omega) (by omega)]
  dsimp only
  rw [out_last]
  have e : (t.val - 1) / 4 = t.val / 4 := by omega
  have e' : (t.val - 1) % 4 + 1 = t.val % 4 := by omega
  refine (step m c t _ i j ((carried m c i j (t.val - 1) hn).trans ?_)).trans ?_
  · rw [e, e']
  · rw [h]

/-- The array after the run. -/
theorem arr : (dats m 0 c).arrAt 2 cfg0.N = prod (in0 m c) (in1 m c) := by
  refine (dats m 0 c).arrAt_eq_of_covers 2 (prod (in0 m c) (in1 m c)) (by decide +kernel) fun t hf y => ?_
  refine (cast_eq _ _).trans ((congrFun (after0_2 m c t) _).trans ?_)
  have e : (cfg0.win 2).xinj (cfg0.grid.coords t) y = ix2 (n0 := 1024) (n1 := 512) (y 0) (y 1) := by
    funext a; match a with
    | ⟨0, _⟩ => rfl
    | ⟨1, _⟩ => rfl
  rw [e]
  refine (last_apply m c t ((flush0_2 t).mp hf) _ _).trans ?_
  exact congrArg₂ (fun a b : ℕ => upTo (fun k => entry (in0 m c) a k) (fun k => entry (in1 m c) b k) 5632)
    (at_block (at2 t).1).symm (at_block (at2 t).2).symm

end Kernel

theorem ref (x0 : (Mat 2048 5632).Idx → EReal) (x1 : (Mat 1024 5632).Idx → EReal) : val_main_v2 (F := Ideal) x0 x1 = prod x0 x1 := by
  funext y
  refine (val_main_v2_apply x0 x1 y).trans ((Finset.sum_congr rfl fun k _ => ?_).trans (upTo_fin _ _ 5632).symm)
  exact congrArg₂ (fun u v : EReal => u * v) (eq_entry x0 _ rfl rfl) (eq_entry x1 _ rfl rfl)

/-! ### The claims -/

theorem frame_p : Cert.quiescent_Dfin := fun m ρ _ => Cert.Dfin.Gen.frame m ρ
theorem frame_pi : Cert.quiescent_DfinIdeal := fun m ρ _ => Cert.DfinIdeal.Gen.frame m ρ
theorem frame_ri : Cert.quiescent_DfinRefIdeal := fun m ρ _ =>
  (θ_run Cert.DfinRefIdeal.defs _ _).mono (fun r h => ⟨fun c => (h c).2, sem_eq_zero_of_no_sems (by decide) r.2⟩)
    (Cert.DfinRefIdeal.Value.run (F := Ideal) m ρ)

theorem preserves : Cert.preserves_Dfin_DfinIdeal := trivial

/-- The kernel's array is the reference's. -/
theorem algebraic : Cert.algebraic_DfinIdeal_DfinRefIdeal := by
  intro m ρ m' ρ' _ hagree
  refine ⟨fun c => prod (in0 m c) (in1 m c), ?_, ?_⟩
  · exact (θ_run defs _ _).mono (fun r h c => ⟨(h c).1.trans (arr m c), (h c).2⟩) (Cert.DfinIdeal.Value.run_blocks (F := Ideal) m ρ)
  · refine (θ_run Cert.DfinRefIdeal.defs _ _).mono (fun r h c => ⟨(h c).1.trans ?_, (h c).2⟩) (Cert.DfinRefIdeal.Value.run (F := Ideal) m' ρ')
    refine (val_main_v2_eq _ _).trans ((ref _ _ ).trans ?_)
    obtain ⟨e0, e1, _⟩ := hagree c
    exact congrArg₂ prod e0 e1

end Cert.Proof.Dfin

end
-- ==== Proof.Dact.lean ====
/-
  The gradient of the gated product: `df` against the rows of the output matrix, in blocks of 1024 rows by 1408 columns.
-/
module

public import proofs.«01_k».proof.Defs
public import proofs.«01_k».proof.Proof.Contract
public import proofs.«01_k».proof.Proof.Gen.Dact.Frame
public import proofs.«01_k».proof.Proof.Gen.DactIdeal.Value
public import proofs.«01_k».proof.Proof.Gen.DactRefIdeal.Run
public import proofs.«01_k».proof.Proof.Gen.DactRefIdeal.Read
public import Idealize.ShloMosaic.Lib.StableHlo.RunRead
public import Idealize.ShloMosaic.Lib.Pipeline.ValueKit.Geometry
public import Idealize.ShloMosaic.Lib.Pipeline.ValueKit.Acc

@[expose] public section

set_option maxRecDepth 16384

noncomputable section

namespace Cert.Proof.Dact

open Cert.DactIdeal Cert.DactIdeal.Gen Cert.DactRefIdeal.Read
open Idealize.ShloMosaic Idealize.ShloMosaic.TcCoe Idealize.SL.Sem Idealize.ShloMosaic.StableHlo Idealize.ShloMosaic.ValueIdx

/-- The result. -/
def prod (x0 : (Mat 2048 1024).Idx → EReal) (x1 : (Mat 2816 1024).Idx → EReal) : (Mat 2048 2816).Idx → EReal := fun y =>
  upTo (fun k => entry x0 ((y 0).val) k) (fun k => entry x1 ((y 1).val) k) 1024

section Kernel

variable (m : (ℓ : Loc nD τ sig) → Buf (Elt Ideal) ℓ) (c : Dev nD)

/-- The first argument. -/
abbrev in0 : (Mat 2048 1024).Idx → EReal := m ((c : Thread nD τ).loc main_arg0)
/-- The second argument. -/
abbrev in1 : (Mat 2816 1024).Idx → EReal := m ((c : Thread nD τ).loc main_arg1)

/-! ### The staged blocks -/

theorem host0 (y : S2048x1024.Idx) : (V m c main_v0 y : EReal) = entry (in0 m c) (y 0).val (y 1).val := by
  rw [entry_idx]; unfold V; after_reads_simp; rfl

theorem at0 : ∀ t : Fin grid0.N, win0_0.index t 0 = t.val / 2 ∧ win0_0.index t 1 = 0 := by decide +kernel

theorem blk0 (t : Fin cfg0.N) (i : Fin 1024) (k : Fin 1024) :
    ((iblk m c 0 t : Vec Ideal S1024x1024 .bf16) (ix2 i k) : EReal) = entry (in0 m c) (1024 * (t.val / 2) + i.val) (k.val) := by
  unfold iblk
  rw [View.read_apply]
  exact (host0 m c _).trans (congrArg₂ (entry (in0 m c)) (at_block (at0 t).1) (at_whole (at0 t).2))

theorem host1 (y : S1x2816x1024.Idx) : (V m c main_v2 y : EReal) = entry (in1 m c) (y 1).val (y 2).val := by
  unfold V; after_reads_simp
  refine (broadcastInDim_apply _ _ _ y (ix2 (n0 := 2816) (n1 := 1024) (y 1) (y 2)) (fun a => by
    match a with
    | ⟨0, _⟩ => rfl
    | ⟨1, _⟩ => rfl)).trans ?_
  exact eq_entry (in1 m c) _ rfl rfl

theorem at1 : ∀ t : Fin grid0.N, win0_1.index t 0 = 0 ∧ win0_1.index t 1 = t.val % 2 ∧ win0_1.index t 2 = 0 := by decide +kernel

theorem blk1 (t : Fin cfg0.N) (i : Fin 1408) (k : Fin 1024) :
    ((iblk m c 1 t : Vec Ideal S1x1408x1024 .bf16) (ix3 0 i k) : EReal) = entry (in1 m c) (1408 * (t.val % 2) + i.val) (k.val) := by
  unfold iblk
  rw [View.read_apply]
  exact (host1 m c _).trans (congrArg₂ (entry (in1 m c)) (at_block (at1 t).2.1) (at_whole (at1 t).2.2))

theorem at2 : ∀ t : Fin grid0.N, win0_2.index t 0 = t.val / 2 ∧ win0_2.index t 1 = t.val % 2 := by decide +kernel

/-- What a point multiplies, at an entry. -/
theorem pay_apply (x0 : Vec Ideal S1024x1024 .bf16) (x1 : Vec Ideal S1x1408x1024 .bf16) (i : Fin 1024) (j : Fin 1408) (f g : ℕ → EReal)
    (hf : ∀ k : Fin 1024, (x0 (ix2 i k) : EReal) = f k.val) (hg : ∀ k : Fin 1024, (x1 (ix3 0 j k) : EReal) = g k.val) :
    (k0_pay1 x0 x1 (ix2 i j) : EReal) = upTo f g 1024 := by
  unfold k0_pay1
  try simp only [shapeCast_self]
  exact nt_upTo (φ₁ := .bf16) (φ₂ := .bf16) x0 _ i j f g hf (fun k => (unbox_apply x1 _ j k).trans (hg k))

/-- The array after the run. -/
theorem arr : (dats m 0 c).arrAt 2 cfg0.N = prod (in0 m c) (in1 m c) := by
  refine (dats m 0 c).arrAt_eq_of_covers 2 (prod (in0 m c) (in1 m c)) (by decide +kernel) fun t _ y => ?_
  refine (cast_eq _ _).trans ((congrFun (after0_2 m c t) _).trans ?_)
  have e : (cfg0.win 2).xinj (cfg0.grid.coords t) y = ix2 (n0 := 1024) (n1 := 1408) (y 0) (y 1) := by
    funext a; match a with
    | ⟨0, _⟩ => rfl
    | ⟨1, _⟩ => rfl
  rw [e]; frame_out
  refine (pay_apply _ _ _ _ (fun k => entry (in0 m c) (1024 * (t.val / 2) + (y 0).val) k) (fun k => entry (in1 m c) (1408 * (t.val % 2) + (y 1).val) k) (fun k => blk0 m c t (y 0) k) (fun k => blk1 m c t (y 1) k)).trans ?_
  exact congrArg₂ (fun a b : ℕ => upTo (fun k => entry (in0 m c) a k) (fun k => entry (in1 m c) b k) 1024)
    (at_block (at2 t).1).symm (at_block (at2 t).2).symm

end Kernel

theorem ref (x0 : (Mat 2048 1024).Idx → EReal) (x1 : (Mat 2816 1024).Idx → EReal) : val_main_v2 (F := Ideal) x0 x1 = prod x0 x1 := by
  funext y
  refine (val_main_v2_apply x0 x1 y).trans ((Finset.sum_congr rfl fun k _ => ?_).trans (upTo_fin _ _ 1024).symm)
  exact congrArg₂ (fun u v : EReal => u * v) (eq_entry x0 _ rfl rfl) (eq_entry x1 _ rfl rfl)

/-! ### The claims -/

theorem frame_p : Cert.quiescent_Dact := fun m ρ _ => Cert.Dact.Gen.frame m ρ
theorem frame_pi : Cert.quiescent_DactIdeal := fun m ρ _ => Cert.DactIdeal.Gen.frame m ρ
theorem frame_ri : Cert.quiescent_DactRefIdeal := fun m ρ _ =>
  (θ_run Cert.DactRefIdeal.defs _ _).mono (fun r h => ⟨fun c => (h c).2, sem_eq_zero_of_no_sems (by decide) r.2⟩)
    (Cert.DactRefIdeal.Value.run (F := Ideal) m ρ)

theorem preserves : Cert.preserves_Dact_DactIdeal := trivial

/-- The kernel's array is the reference's. -/
theorem algebraic : Cert.algebraic_DactIdeal_DactRefIdeal := by
  intro m ρ m' ρ' _ hagree
  refine ⟨fun c => prod (in0 m c) (in1 m c), ?_, ?_⟩
  · exact (θ_run defs _ _).mono (fun r h c => ⟨(h c).1.trans (arr m c), (h c).2⟩) (Cert.DactIdeal.Value.run_blocks (F := Ideal) m ρ)
  · refine (θ_run Cert.DactRefIdeal.defs _ _).mono (fun r h c => ⟨(h c).1.trans ?_, (h c).2⟩) (Cert.DactRefIdeal.Value.run (F := Ideal) m' ρ')
    refine (val_main_v2_eq _ _).trans ((ref _ _ ).trans ?_)
    obtain ⟨e0, e1⟩ := hagree c
    exact congrArg₂ prod e0 e1

end Cert.Proof.Dact

end
-- ==== Proof.FfnIn.lean ====
/-
  The feed-forward input product, against the transposed matrix, in blocks of 1024 rows by 512 columns.
-/
module

public import proofs.«01_k».proof.Defs
public import proofs.«01_k».proof.Proof.Contract
public import proofs.«01_k».proof.Proof.Gen.FfnIn.Frame
public import proofs.«01_k».proof.Proof.Gen.FfnInIdeal.Value
public import proofs.«01_k».proof.Proof.Gen.FfnInRefIdeal.Run
public import proofs.«01_k».proof.Proof.Gen.FfnInRefIdeal.Read
public import Idealize.ShloMosaic.Lib.StableHlo.RunRead
public import Idealize.ShloMosaic.Lib.Pipeline.ValueKit.Geometry
public import Idealize.ShloMosaic.Lib.Pipeline.ValueKit.Acc

@[expose] public section

set_option maxRecDepth 16384

noncomputable section

namespace Cert.Proof.FfnIn

open Cert.FfnInIdeal Cert.FfnInIdeal.Gen Cert.FfnInRefIdeal.Read
open Idealize.ShloMosaic Idealize.ShloMosaic.TcCoe Idealize.SL.Sem Idealize.ShloMosaic.StableHlo Idealize.ShloMosaic.ValueIdx

/-- The result. -/
def prod (x0 : (Mat 2048 1024).Idx → EReal) (x1 : (Mat 1024 5632).Idx → EReal) : (Mat 2048 5632).Idx → EReal := fun y =>
  upTo (fun k => entry x0 ((y 0).val) k) (fun k => entry x1 k ((y 1).val)) 1024

section Kernel

variable (m : (ℓ : Loc nD τ sig) → Buf (Elt Ideal) ℓ) (c : Dev nD)

/-- The first argument. -/
abbrev in0 : (Mat 2048 1024).Idx → EReal := m ((c : Thread nD τ).loc main_arg0)
/-- The second argument. -/
abbrev in1 : (Mat 1024 5632).Idx → EReal := m ((c : Thread nD τ).loc main_arg1)

/-! ### The staged blocks -/

theorem host0 (y : S2048x1024.Idx) : (V m c main_v0 y : EReal) = entry (in0 m c) (y 0).val (y 1).val := by
  rw [entry_idx]; unfold V; after_reads_simp; rfl

theorem at0 : ∀ t : Fin grid0.N, win0_0.index t 0 = t.val / 11 ∧ win0_0.index t 1 = 0 := by decide +kernel

theorem blk0 (t : Fin cfg0.N) (i : Fin 1024) (k : Fin 1024) :
    ((iblk m c 0 t : Vec Ideal S1024x1024 .bf16) (ix2 i k) : EReal) = entry (in0 m c) (1024 * (t.val / 11) + i.val) (k.val) := by
  unfold iblk
  rw [View.read_apply]
  exact (host0 m c _).trans (congrArg₂ (entry (in0 m c)) (at_block (at0 t).1) (at_whole (at0 t).2))

theorem host1 (y : S1x5632x1024.Idx) : (V m c main_v3 y : EReal) = entry (in1 m c) (y 2).val (y 1).val := by
  unfold V; after_reads_simp
  refine (broadcastInDim_apply _ _ _ y (ix2 (n0 := 5632) (n1 := 1024) (y 1) (y 2)) (fun a => by
    match a with
    | ⟨0, _⟩ => rfl
    | ⟨1, _⟩ => rfl)).trans ?_
  refine (transpose_apply _ _ _ _ (ix2 (n0 := 1024) (n1 := 5632) (y 2) (y 1)) (fun b => by
    match b with
    | ⟨0, _⟩ => rfl
    | ⟨1, _⟩ => rfl)).trans ?_
  exact eq_entry (in1 m c) _ rfl rfl

theorem at1 : ∀ t : Fin grid0.N, win0_1.index t 0 = 0 ∧ win0_1.index t 1 = t.val % 11 ∧ win0_1.index t 2 = 0 := by decide +kernel

theorem blk1 (t : Fin cfg0.N) (i : Fin 512) (k : Fin 1024) :
    ((iblk m c 1 t : Vec Ideal S1x512x1024 .bf16) (ix3 0 i k) : EReal) = entry (in1 m c) (k.val) (512 * (t.val % 11) + i.val) := by
  unfold iblk
  rw [View.read_apply]
  exact (host1 m c _).trans (congrArg₂ (entry (in1 m c)) (at_whole (at1 t).2.2) (at_block (at1 t).2.1))

theorem at2 : ∀ t : Fin grid0.N, win0_2.index t 0 = t.val / 11 ∧ win0_2.index t 1 = t.val % 11 := by decide +kernel

/-- What a point multiplies, at an entry. -/
theorem pay_apply (x0 : Vec Ideal S1024x1024 .bf16) (x1 : Vec Ideal S1x512x1024 .bf16) (i : Fin 1024) (j : Fin 512) (f g : ℕ → EReal)
    (hf : ∀ k : Fin 1024, (x0 (ix2 i k) : EReal) = f k.val) (hg : ∀ k : Fin 1024, (x1 (ix3 0 j k) : EReal) = g k.val) :
    (k0_pay1 x0 x1 (ix2 i j) : EReal) = upTo f g 1024 := by
  unfold k0_pay1
  try simp only [shapeCast_self]
  exact nt_upTo (φ₁ := .bf16) (φ₂ := .bf16) x0 _ i j f g hf (fun k => (unbox_apply x1 _ j k).trans (hg k))

/-- The array after the run. -/
theorem arr : (dats m 0 c).arrAt 2 cfg0.N = prod (in0 m c) (in1 m c) := by
  refine (dats m 0 c).arrAt_eq_of_covers 2 (prod (in0 m c) (in1 m c)) (by decide +kernel) fun t _ y => ?_
  refine (cast_eq _ _).trans ((congrFun (after0_2 m c t) _).trans ?_)
  have e : (cfg0.win 2).xinj (cfg0.grid.coords t) y = ix2 (n0 := 1024) (n1 := 512) (y 0) (y 1) := by
    funext a; match a with
    | ⟨0, _⟩ => rfl
    | ⟨1, _⟩ => rfl
  rw [e]; frame_out
  refine (pay_apply _ _ _ _ (fun k => entry (in0 m c) (1024 * (t.val / 11) + (y 0).val) k) (fun k => entry (in1 m c) k (512 * (t.val % 11) + (y 1).val)) (fun k => blk0 m c t (y 0) k) (fun k => blk1 m c t (y 1) k)).trans ?_
  exact congrArg₂ (fun a b : ℕ => upTo (fun k => entry (in0 m c) a k) (fun k => entry (in1 m c) k b) 1024)
    (at_block (at2 t).1).symm (at_block (at2 t).2).symm

end Kernel

theorem ref (x0 : (Mat 2048 1024).Idx → EReal) (x1 : (Mat 1024 5632).Idx → EReal) : val_main_v0 (F := Ideal) x0 x1 = prod x0 x1 := by
  funext y
  refine (val_main_v0_apply x0 x1 y).trans ((Finset.sum_congr rfl fun k _ => ?_).trans (upTo_fin _ _ 1024).symm)
  exact congrArg₂ (fun u v : EReal => u * v) (eq_entry x0 _ rfl rfl) (eq_entry x1 _ rfl rfl)

/-! ### The claims -/

theorem frame_p : Cert.quiescent_FfnIn := fun m ρ _ => Cert.FfnIn.Gen.frame m ρ
theorem frame_pi : Cert.quiescent_FfnInIdeal := fun m ρ _ => Cert.FfnInIdeal.Gen.frame m ρ
theorem frame_ri : Cert.quiescent_FfnInRefIdeal := fun m ρ _ =>
  (θ_run Cert.FfnInRefIdeal.defs _ _).mono (fun r h => ⟨fun c => (h c).2, sem_eq_zero_of_no_sems (by decide) r.2⟩)
    (Cert.FfnInRefIdeal.Value.run (F := Ideal) m ρ)

theorem preserves : Cert.preserves_FfnIn_FfnInIdeal := trivial

/-- The kernel's array is the reference's. -/
theorem algebraic : Cert.algebraic_FfnInIdeal_FfnInRefIdeal := by
  intro m ρ m' ρ' _ hagree
  refine ⟨fun c => prod (in0 m c) (in1 m c), ?_, ?_⟩
  · exact (θ_run defs _ _).mono (fun r h c => ⟨(h c).1.trans (arr m c), (h c).2⟩) (Cert.FfnInIdeal.Value.run_blocks (F := Ideal) m ρ)
  · refine (θ_run Cert.FfnInRefIdeal.defs _ _).mono (fun r h c => ⟨(h c).1.trans ?_, (h c).2⟩) (Cert.FfnInRefIdeal.Value.run (F := Ideal) m' ρ')
    refine (val_main_v0_eq _ _).trans ((ref _ _ ).trans ?_)
    obtain ⟨e0, e1⟩ := hagree c
    exact congrArg₂ prod e0 e1

end Cert.Proof.FfnIn

end
-- ==== Proof.FfnOut.lean ====
/-
  The feed-forward output product, contracted in two chunks of 1408.
-/
module

public import proofs.«01_k».proof.Defs
public import proofs.«01_k».proof.Proof.Contract
public import proofs.«01_k».proof.Proof.Gen.FfnOut.Frame
public import proofs.«01_k».proof.Proof.Gen.FfnOutIdeal.Value
public import proofs.«01_k».proof.Proof.Gen.FfnOutRefIdeal.Run
public import proofs.«01_k».proof.Proof.Gen.FfnOutRefIdeal.Read
public import Idealize.ShloMosaic.Lib.StableHlo.RunRead
public import Idealize.ShloMosaic.Lib.Pipeline.ValueKit.Geometry
public import Idealize.ShloMosaic.Lib.Tactic

@[expose] public section

set_option maxRecDepth 16384

noncomputable section

namespace Cert.Proof.FfnOut

open Cert.FfnOutIdeal Cert.FfnOutIdeal.Gen Cert.FfnOutRefIdeal.Read
open Idealize.ShloMosaic Idealize.ShloMosaic.TcCoe Idealize.SL.Sem Idealize.ShloMosaic.StableHlo Idealize.ShloMosaic.ValueIdx

/-- The result. -/
def prod (x0 : (Mat 2048 2816).Idx → EReal) (x1 : (Mat 2816 1024).Idx → EReal) : (Mat 2048 1024).Idx → EReal := fun y =>
  upTo (fun k => entry x0 ((y 0).val) k) (fun k => entry x1 k ((y 1).val)) 2816

section Kernel

variable (m : (ℓ : Loc nD τ sig) → Buf (Elt Ideal) ℓ) (c : Dev nD)

/-- The first argument. -/
abbrev in0 : (Mat 2048 2816).Idx → EReal := m ((c : Thread nD τ).loc main_arg0)
/-- The second argument. -/
abbrev in1 : (Mat 2816 1024).Idx → EReal := m ((c : Thread nD τ).loc main_arg1)

/-! ### The staged blocks -/

theorem host0 (y : S2048x2816.Idx) : (V m c main_v0 y : EReal) = entry (in0 m c) (y 0).val (y 1).val := by
  rw [entry_idx]; unfold V; after_reads_simp; rfl

theorem at0 : ∀ t : Fin grid0.N, win0_0.index t 0 = t.val / 2 / 2 ∧ win0_0.index t 1 = t.val % 2 := by decide +kernel

theorem blk0 (t : Fin cfg0.N) (i : Fin 1024) (k : Fin 1408) :
    ((iblk m c 0 t : Vec Ideal S1024x1408 .bf16) (ix2 i k) : EReal) = entry (in0 m c) (1024 * (t.val / 2 / 2) + i.val) (1408 * (t.val % 2) + k.val) := by
  unfold iblk
  rw [View.read_apply]
  exact (host0 m c _).trans (congrArg₂ (entry (in0 m c)) (at_block (at0 t).1) (at_block (at0 t).2))

theorem host1 (y : S1x2816x1024.Idx) : (V m c main_v2 y : EReal) = entry (in1 m c) (y 1).val (y 2).val := by
  unfold V; after_reads_simp
  refine (broadcastInDim_apply _ _ _ y (ix2 (n0 := 2816) (n1 := 1024) (y 1) (y 2)) (fun a => by
    match a with
    | ⟨0, _⟩ => rfl
    | ⟨1, _⟩ => rfl)).trans ?_
  exact eq_entry (in1 m c) _ rfl rfl

theorem at1 : ∀ t : Fin grid0.N, win0_1.index t 0 = 0 ∧ win0_1.index t 1 = t.val % 2 ∧ win0_1.index t 2 = t.val / 2 % 2 := by decide +kernel

theorem blk1 (t : Fin cfg0.N) (i : Fin 1408) (k : Fin 512) :
    ((iblk m c 1 t : Vec Ideal S1x1408x512 .bf16) (ix3 0 i k) : EReal) = entry (in1 m c) (1408 * (t.val % 2) + i.val) (512 * (t.val / 2 % 2) + k.val) := by
  unfold iblk
  rw [View.read_apply]
  exact (host1 m c _).trans (congrArg₂ (entry (in1 m c)) (at_block (at1 t).2.1) (at_block (at1 t).2.2))

theorem at2 : ∀ t : Fin grid0.N, win0_2.index t 0 = t.val / 2 / 2 ∧ win0_2.index t 1 = t.val / 2 % 2 := by decide +kernel

/-- What a point multiplies, at an entry. -/
theorem pay_apply (x0 : Vec Ideal S1024x1408 .bf16) (x1 : Vec Ideal S1x1408x512 .bf16) (i : Fin 1024) (j : Fin 512) (f g : ℕ → EReal)
    (hf : ∀ k : Fin 1408, (x0 (ix2 i k) : EReal) = f k.val) (hg : ∀ k : Fin 1408, (x1 (ix3 0 k j) : EReal) = g k.val) :
    (k0_pay1 x0 x1 (ix2 i j) : EReal) = upTo f g 1408 := by
  unfold k0_pay1
  try simp only [shapeCast_self]
  exact nn_upTo (φ₁ := .bf16) (φ₂ := .bf16) x0 _ i j f g hf (fun k => (unbox_apply x1 _ k j).trans (hg k))

/-! ### What a point leaves -/

theorem carry_A (c : Dev nD) (i : grid0.Coords) (arg3 : Memref sig .tc .vmem S1024x1408 .bf16) (harg3 : arg3.IsWhole) (arg4 : Memref sig .tc .vmem S1x1408x512 .bf16) (harg4 : arg4.IsWhole) (arg5 : Memref sig .tc .vmem S1024x512 .f32) (harg5 : arg5.IsWhole) (arg6 : Memref sig .tc .vmem S1024x512 .f32) (harg6 : arg6.IsWhole) (hc0 : cond0_0 i) (hc1 : ¬cond0_1 i) (hc2 : ¬cond0_2 i)
    (x0 : Vec Ideal S1024x1408 .bf16) (x1 : Vec Ideal S1x1408x512 .bf16) :
    sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero (S := S1024x512) zero2]
  try unfold k0_pay2
  simp only [View.readAt_eq_ld, harg3.read_unread, harg4.read_unread, harg5.read_unread, harg6.read_unread, View.ld_unit_zero (S := S1024x1408) zero2, View.ld_unit_zero (S := S1x1408x512) zero3, View.ld_unit_zero (S := S1024x512) zero2, shapeCast_self]

theorem carry_B (c : Dev nD) (i : grid0.Coords) (arg3 : Memref sig .tc .vmem S1024x1408 .bf16) (harg3 : arg3.IsWhole) (arg4 : Memref sig .tc .vmem S1x1408x512 .bf16) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i) (hc2 : cond0_2 i)
    (x0 : Vec Ideal S1024x1408 .bf16) (x1 : Vec Ideal S1x1408x512 .bf16) (xs0 : Vec Ideal S1024x512 .f32) :
    sout0_B_0 c i arg3 harg3 arg4 harg4 arg5 harg5 arg6 harg6 hc0 hc1 hc2 x0 x1 xs0 = addf xs0 (k0_pay1 x0 x1) := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  rw [View.canon_unit_zero (S := S1024x512) zero2]
  try unfold k0_pay3
  simp only [View.readAt_eq_ld, harg3.read_unread, harg4.read_unread, harg5.read_unread, harg6.read_unread, View.ld_unit_zero (S := S1024x1408) zero2, View.ld_unit_zero (S := S1x1408x512) zero3, View.ld_unit_zero (S := S1024x512) zero2, shapeCast_self]

theorem out_last (c : Dev nD) (i : grid0.Coords) (arg3 : Memref sig .tc .vmem S1024x1408 .bf16) (harg3 : arg3.IsWhole) (arg4 : Memref sig .tc .vmem S1x1408x512 .bf16) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i) (hc2 : cond0_2 i)
    (x0 : Vec Ideal S1024x1408 .bf16) (x1 : Vec Ideal S1x1408x512 .bf16) (xs0 : Vec Ideal S1024x512 .f32) :
    out0_B_2 c i arg3 harg3 arg4 harg4 arg5 harg5 arg6 harg6 hc0 hc1 hc2 x0 x1 xs0 = addf xs0 (k0_pay1 x0 x1) := by
  unfold out0_B_2
  rw [View.read_writes_eq_canon _ _ _ (cover0_B_2 c i arg3 harg3 arg4 harg4 arg5 harg5 arg6 harg6 hc0 hc1 hc2 x0 x1 xs0)]
  unfold kernelRun0_B
  dsimp only
  sl_unfold_words
  rw [View.canon_unit_zero (S := S1024x512) zero2, View.readCov_unit_zero (S := S1024x512) _ zero2]
  try unfold k0_pay3
  simp only [View.readAt_eq_ld, harg3.read_unread, harg4.read_unread, harg5.read_unread, harg6.read_unread, View.ld_unit_zero (S := S1024x1408) zero2, View.ld_unit_zero (S := S1x1408x512) zero3, View.ld_unit_zero (S := S1024x512) zero2, shapeCast_self]

/-- The chunk a point multiplies. -/
theorem chunk (t : Fin cfg0.N) (i : Fin 1024) (j : Fin 512) : (k0_pay1 (iblk m c 0 t) (iblk m c 1 t) (ix2 i j) : EReal)
    = upTo (fun k => entry (in0 m c) (1024 * (t.val / 2 / 2) + i.val) (1408 * (t.val % 2) + k)) (fun k => entry (in1 m c) (1408 * (t.val % 2) + k) (512 * (t.val / 2 % 2) + j.val)) 1408 :=
  pay_apply _ _ i j _ _ (fun k => blk0 m c t i k) (fun k => blk1 m c t k j)

theorem first_apply (t : Fin cfg0.N) (h : t.val % 2 = 0) (i : Fin 1024) (j : Fin 512) :
    ((outsAt0 m c t.val t.isLt).2 (ix2 i j) : EReal) = upTo (fun k => entry (in0 m c) (1024 * (t.val / 2 / 2) + i.val) k) (fun k => entry (in1 m c) k (512 * (t.val / 2 % 2) + j.val)) (1408 * (t.val % 2 + 1)) := by
  rw [outsAt0_A m c t (by omega) (by omega) (by omega)]
  dsimp only
  rw [carry_A]
  refine (chunk m c t i j).trans ?_
  rw [h]
  simp only [Nat.mul_zero, Nat.zero_add, Nat.mul_one]

/-- A later point adds its chunk to what the point before left. -/
theorem step (t : Fin cfg0.N) (s : Vec Ideal S1024x512 .f32) (i : Fin 1024) (j : Fin 512)
    (hs : (s (ix2 i j) : EReal) = upTo (fun k => entry (in0 m c) (1024 * (t.val / 2 / 2) + i.val) k) (fun k => entry (in1 m c) k (512 * (t.val / 2 % 2) + j.val)) (1408 * (t.val % 2))) :
    (addf s (k0_pay1 (iblk m c 0 t) (iblk m c 1 t)) (ix2 i j) : EReal) = upTo (fun k => entry (in0 m c) (1024 * (t.val / 2 / 2) + i.val) k) (fun k => entry (in1 m c) k (512 * (t.val / 2 % 2) + j.val)) (1408 * (t.val % 2 + 1)) := by
  rw [Nat.mul_add, Nat.mul_one, upTo_add]
  exact congrArg₂ (fun a b : EReal => a + b) hs (chunk m c t i j)

theorem next_apply (t : Fin cfg0.N) (h : ¬t.val % 2 = 0) (i : Fin 1024) (j : Fin 512)
    (hs : ((outsAt0 m c (t.val - 1) (Nat.lt_of_le_of_lt (Nat.sub_le _ _) t.isLt)).2 (ix2 i j) : EReal) = upTo (fun k => entry (in0 m c) (1024 * (t.val / 2 / 2) + i.val) k) (fun k => entry (in1 m c) k (512 * (t.val / 2 % 2) + j.val)) (1408 * (t.val % 2))) :
    ((outsAt0 m c t.val t.isLt).2 (ix2 i j) : EReal) = upTo (fun k => entry (in0 m c) (1024 * (t.val / 2 / 2) + i.val) k) (fun k => entry (in1 m c) k (512 * (t.val / 2 % 2) + j.val)) (1408 * (t.val % 2 + 1)) := by
  rw [outsAt0_B m c t (by omega) (by omega) (by omega)]
  dsimp only
  rw [carry_B]
  exact step m c t _ i j hs

/-- What is carried after a point: the sum of the chunks so far. -/
theorem carried (i : Fin 1024) (j : Fin 512) : ∀ (n : ℕ) (h : n < cfg0.N),
    ((outsAt0 m c n h).2 (ix2 i j) : EReal) = upTo (fun k => entry (in0 m c) (1024 * (n / 2 / 2) + i.val) k) (fun k => entry (in1 m c) k (512 * (n / 2 % 2) + j.val)) (1408 * (n % 2 + 1))
  | 0, h => first_apply m c ⟨0, h⟩ (Nat.zero_mod _) i j
  | n + 1, h => by
    by_cases h0 : (n + 1) % 2 = 0
    · exact first_apply m c ⟨n + 1, h⟩ h0 i j
    · refine next_apply m c ⟨n + 1, h⟩ h0 i j ((carried i j n (by omega)).trans ?_)
      have e : n / 2 = (n + 1) / 2 := by omega
      have e' : n % 2 + 1 = (n + 1) % 2 := by omega
      dsimp only
      rw [e, e']

/-- What the last point of a block leaves in it. -/
theorem last_apply (t : Fin cfg0.N) (h : t.val % 2 = 1) (i : Fin 1024) (j : Fin 512) :
    ((outsAt0 m c t.val t.isLt).1 (ix2 i j) : EReal) = upTo (fun k => entry (in0 m c) (1024 * (t.val / 2 / 2) + i.val) k) (fun k => entry (in1 m c) k (512 * (t.val / 2 % 2) + j.val)) 2816 := by
  have hn : t.val - 1 < cfg0.N := Nat.lt_of_le_of_lt (Nat.sub_le _ _) t.isLt
  rw [outsAt0_B m c t (by omega) (by omega) (by omega)]
  dsimp only
  rw [out_last]
  have e : (t.val - 1) / 2 = t.val / 2 := by omega
  have e' : (t.val - 1) % 2 + 1 = t.val % 2 := by omega
  refine (step m c t _ i j ((carried m c i j (t.val - 1) hn).trans ?_)).trans ?_
  · rw [e, e']
  · rw [h]

/-- The array after the run. -/
theorem arr : (dats m 0 c).arrAt 2 cfg0.N = prod (in0 m c) (in1 m c) := by
  refine (dats m 0 c).arrAt_eq_of_covers 2 (prod (in0 m c) (in1 m c)) (by decide +kernel) fun t hf y => ?_
  refine (cast_eq _ _).trans ((congrFun (after0_2 m c t) _).trans ?_)
  have e : (cfg0.win 2).xinj (cfg0.grid.coords t) y = ix2 (n0 := 1024) (n1 := 512) (y 0) (y 1) := by
    funext a; match a with
    | ⟨0, _⟩ => rfl
    | ⟨1, _⟩ => rfl
  rw [e]
  refine (last_apply m c t ((flush0_2 t).mp hf) _ _).trans ?_
  exact congrArg₂ (fun a b : ℕ => upTo (fun k => entry (in0 m c) a k) (fun k => entry (in1 m c) k b) 2816)
    (at_block (at2 t).1).symm (at_block (at2 t).2).symm

end Kernel

theorem ref (x0 : (Mat 2048 2816).Idx → EReal) (x1 : (Mat 2816 1024).Idx → EReal) : val_main_v0 (F := Ideal) x0 x1 = prod x0 x1 := by
  funext y
  refine (val_main_v0_apply x0 x1 y).trans ((Finset.sum_congr rfl fun k _ => ?_).trans (upTo_fin _ _ 2816).symm)
  exact congrArg₂ (fun u v : EReal => u * v) (eq_entry x0 _ rfl rfl) (eq_entry x1 _ rfl rfl)

/-! ### The claims -/

theorem frame_p : Cert.quiescent_FfnOut := fun m ρ _ => Cert.FfnOut.Gen.frame m ρ
theorem frame_pi : Cert.quiescent_FfnOutIdeal := fun m ρ _ => Cert.FfnOutIdeal.Gen.frame m ρ
theorem frame_ri : Cert.quiescent_FfnOutRefIdeal := fun m ρ _ =>
  (θ_run Cert.FfnOutRefIdeal.defs _ _).mono (fun r h => ⟨fun c => (h c).2, sem_eq_zero_of_no_sems (by decide) r.2⟩)
    (Cert.FfnOutRefIdeal.Value.run (F := Ideal) m ρ)

theorem preserves : Cert.preserves_FfnOut_FfnOutIdeal := trivial

/-- The kernel's array is the reference's. -/
theorem algebraic : Cert.algebraic_FfnOutIdeal_FfnOutRefIdeal := by
  intro m ρ m' ρ' _ hagree
  refine ⟨fun c => prod (in0 m c) (in1 m c), ?_, ?_⟩
  · exact (θ_run defs _ _).mono (fun r h c => ⟨(h c).1.trans (arr m c), (h c).2⟩) (Cert.FfnOutIdeal.Value.run_blocks (F := Ideal) m ρ)
  · refine (θ_run Cert.FfnOutRefIdeal.defs _ _).mono (fun r h c => ⟨(h c).1.trans ?_, (h c).2⟩) (Cert.FfnOutRefIdeal.Value.run (F := Ideal) m' ρ')
    refine (val_main_v0_eq _ _).trans ((ref _ _ ).trans ?_)
    obtain ⟨e0, e1⟩ := hagree c
    exact congrArg₂ prod e0 e1

end Cert.Proof.FfnOut

end
-- ==== Proof.DilDhn.lean ====
/-
  The gradient of the dilated attention's input: `dqkv` against the projection matrix, kept as the eight devices' columns, one device's 1152 columns to a chunk.
-/
module

public import proofs.«01_k».proof.Defs
public import proofs.«01_k».proof.Proof.Contract
public import proofs.«01_k».proof.Proof.Gen.DilDhn.Frame
public import proofs.«01_k».proof.Proof.Gen.DilDhnIdeal.Value
public import proofs.«01_k».proof.Proof.Gen.DilDhnRefIdeal.Run
public import proofs.«01_k».proof.Proof.Gen.DilDhnRefIdeal.Read
public import Idealize.ShloMosaic.Lib.StableHlo.RunRead
public import Idealize.ShloMosaic.Lib.Pipeline.ValueKit.Geometry
public import Idealize.ShloMosaic.Lib.Tactic

@[expose] public section

set_option maxRecDepth 16384

noncomputable section

namespace Cert.Proof.DilDhn

open Cert.DilDhnIdeal Cert.DilDhnIdeal.Gen Cert.DilDhnRefIdeal.Read
open Idealize.ShloMosaic Idealize.ShloMosaic.TcCoe Idealize.SL.Sem Idealize.ShloMosaic.StableHlo Idealize.ShloMosaic.ValueIdx

/-- The result. -/
def prod (x0 : (Mat 2048 9216).Idx → EReal) (x1 : (Mat 1024 9216).Idx → EReal) : (Mat 2048 1024).Idx → EReal := fun y =>
  upTo (fun k => entry x0 ((y 0).val) k) (fun k => entry x1 ((y 1).val) k) 9216

section Kernel

variable (m : (ℓ : Loc nD τ sig) → Buf (Elt Ideal) ℓ) (c : Dev nD)

/-- The first argument. -/
abbrev in0 : (Mat 2048 9216).Idx → EReal := m ((c : Thread nD τ).loc main_arg0)
/-- The second argument. -/
abbrev in1 : (Mat 1024 9216).Idx → EReal := m ((c : Thread nD τ).loc main_arg1)

/-! ### The staged blocks -/

theorem host0 (y : S2048x9216.Idx) : (V m c main_v0 y : EReal) = entry (in0 m c) (y 0).val (y 1).val := by
  rw [entry_idx]; unfold V; after_reads_simp; rfl

theorem at0 : ∀ t : Fin grid0.N, win0_0.index t 0 = t.val / 8 / 2 ∧ win0_0.index t 1 = t.val % 8 := by decide +kernel

theorem blk0 (t : Fin cfg0.N) (i : Fin 1024) (k : Fin 1152) :
    ((iblk m c 0 t : Vec Ideal S1024x1152 .bf16) (ix2 i k) : EReal) = entry (in0 m c) (1024 * (t.val / 8 / 2) + i.val) (1152 * (t.val % 8) + k.val) := by
  unfold iblk
  rw [View.read_apply]
  exact (host0 m c _).trans (congrArg₂ (entry (in0 m c)) (at_block (at0 t).1) (at_block (at0 t).2))

theorem host1 (y : S8x1x1024x1152.Idx) : (V m c main_v4 y : EReal) = entry (in1 m c) (y 2).val (1152 * (y 0).val + (y 3).val) := by
  have h0 : (y 0).val < 8 := (y 0).isLt
  have h3 : (y 3).val < 1152 := (y 3).isLt
  unfold V; after_reads_simp
  refine (broadcastInDim_apply _ _ _ y (ix3 (n0 := 8) (n1 := 1024) (n2 := 1152) (y 0) (y 2) (y 3)) (fun a => by
    match a with
    | ⟨0, _⟩ => rfl
    | ⟨1, _⟩ => rfl
    | ⟨2, _⟩ => rfl)).trans ?_
  refine (transpose_apply _ _ _ _ (ix3 (n0 := 1024) (n1 := 8) (n2 := 1152) (y 2) (y 0) (y 3)) (fun b => by
    match b with
    | ⟨0, _⟩ => rfl
    | ⟨1, _⟩ => rfl
    | ⟨2, _⟩ => rfl)).trans ?_
  refine (shapeCast_apply _ _ _ (ix2 (n0 := 1024) (n1 := 9216) (y 2) ⟨1152 * (y 0).val + (y 3).val, by omega⟩) (by
    show _ = ((⟨3, ![1024, 8, 1152]⟩ : Shape).rowMajor (ix3 (n0 := 1024) (n1 := 8) (n2 := 1152) (y 2) (y 0) (y 3))).val
    rw [Shape.rowMajor_val_two, Shape.rowMajor_val_three]
    show (y 2).val * 9216 + (1152 * (y 0).val + (y 3).val) = ((y 2).val * 8 + (y 0).val) * 1152 + (y 3).val
    omega)).trans ?_
  exact eq_entry (in1 m c) _ rfl rfl

theorem at1 : ∀ t : Fin grid0.N, win0_1.index t 0 = t.val % 8 ∧ win0_1.index t 1 = 0 ∧ win0_1.index t 2 = t.val / 8 % 2 ∧ win0_1.index t 3 = 0 := by decide +kernel

theorem blk1 (t : Fin cfg0.N) (i : Fin 512) (k : Fin 1152) :
    ((iblk m c 1 t : Vec Ideal S1x1x512x1152 .bf16) (ix4 0 0 i k) : EReal) = entry (in1 m c) (512 * (t.val / 8 % 2) + i.val) (1152 * (t.val % 8) + k.val) := by
  unfold iblk
  rw [View.read_apply]
  refine (host1 m c _).trans (congrArg₂ (entry (in1 m c)) ?_ ?_)
  · show win0_1.index t 2 * 512 + 1 * i.val = _
    rw [(at1 t).2.2.1]; omega
  · show 1152 * (win0_1.index t 0 * 1 + 1 * 0) + (win0_1.index t 3 * 1152 + 1 * k.val) = _
    rw [(at1 t).1, (at1 t).2.2.2]; omega

theorem at2 : ∀ t : Fin grid0.N, win0_2.index t 0 = t.val / 8 / 2 ∧ win0_2.index t 1 = t.val / 8 % 2 := by decide +kernel

/-- What a point multiplies, at an entry. -/
theorem pay_apply (x0 : Vec Ideal S1024x1152 .bf16) (x1 : Vec Ideal S1x1x512x1152 .bf16) (i : Fin 1024) (j : Fin 512) (f g : ℕ → EReal)
    (hf : ∀ k : Fin 1152, (x0 (ix2 i k) : EReal) = f k.val) (hg : ∀ k : Fin 1152, (x1 (ix4 0 0 j k) : EReal) = g k.val) :
    (k0_pay1 x0 x1 (ix2 i j) : EReal) = upTo f g 1152 := by
  unfold k0_pay1
  try simp only [shapeCast_self]
  exact nt_upTo (φ₁ := .bf16) (φ₂ := .bf16) x0 _ i j f g hf (fun k => (unbox2_apply x1 _ j k).trans (hg k))

/-! ### What a point leaves -/

theorem carry_A (c : Dev nD) (i : grid0.Coords) (arg3 : Memref sig .tc .vmem S1024x1152 .bf16) (harg3 : arg3.IsWhole) (arg4 : Memref sig .tc .vmem S1x1x512x1152 .bf16) (harg4 : arg4.IsWhole) (arg5 : Memref sig .tc .vmem S1024x512 .f32) (harg5 : arg5.IsWhole) (arg6 : Memref sig .tc .vmem S1024x512 .f32) (harg6 : arg6.IsWhole) (hc0 : cond0_0 i) (hc1 : ¬cond0_1 i) (hc2 : ¬cond0_2 i)
    (x0 : Vec Ideal S1024x1152 .bf16) (x1 : Vec Ideal S1x1x512x1152 .bf16) :
    sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero (S := S1024x512) zero2]
  try unfold k0_pay2
  simp only [View.readAt_eq_ld, harg3.read_unread, harg4.read_unread, harg5.read_unread, harg6.read_unread, View.ld_unit_zero (S := S1024x1152) zero2, View.ld_unit_zero (S := S1x1x512x1152) zero4, View.ld_unit_zero (S := S1024x512) zero2, shapeCast_self]

theorem carry_B (c : Dev nD) (i : grid0.Coords) (arg3 : Memref sig .tc .vmem S1024x1152 .bf16) (harg3 : arg3.IsWhole) (arg4 : Memref sig .tc .vmem S1x1x512x1152 .bf16) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i) (hc2 : ¬cond0_2 i)
    (x0 : Vec Ideal S1024x1152 .bf16) (x1 : Vec Ideal S1x1x512x1152 .bf16) (xs0 : Vec Ideal S1024x512 .f32) :
    sout0_B_0 c i arg3 harg3 arg4 harg4 arg5 harg5 arg6 harg6 hc0 hc1 hc2 x0 x1 xs0 = addf xs0 (k0_pay1 x0 x1) := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  rw [View.canon_unit_zero (S := S1024x512) zero2]
  try unfold k0_pay3
  simp only [View.readAt_eq_ld, harg3.read_unread, harg4.read_unread, harg5.read_unread, harg6.read_unread, View.ld_unit_zero (S := S1024x1152) zero2, View.ld_unit_zero (S := S1x1x512x1152) zero4, View.ld_unit_zero (S := S1024x512) zero2, shapeCast_self]

theorem carry_C (c : Dev nD) (i : grid0.Coords) (arg3 : Memref sig .tc .vmem S1024x1152 .bf16) (harg3 : arg3.IsWhole) (arg4 : Memref sig .tc .vmem S1x1x512x1152 .bf16) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i) (hc2 : cond0_2 i)
    (x0 : Vec Ideal S1024x1152 .bf16) (x1 : Vec Ideal S1x1x512x1152 .bf16) (xs0 : Vec Ideal S1024x512 .f32) :
    sout0_C_0 c i arg3 harg3 arg4 harg4 arg5 harg5 arg6 harg6 hc0 hc1 hc2 x0 x1 xs0 = addf xs0 (k0_pay1 x0 x1) := by
  unfold sout0_C_0
  rw [View.read_writes_eq_canon _ _ _ (scover0_C_0 c i arg3 harg3 arg4 harg4 arg5 harg5 arg6 harg6 hc0 hc1 hc2 x0 x1 xs0)]
  unfold kernelRun0_C
  dsimp only
  sl_unfold_words
  rw [View.canon_unit_zero (S := S1024x512) zero2]
  try unfold k0_pay3
  simp only [View.readAt_eq_ld, harg3.read_unread, harg4.read_unread, harg5.read_unread, harg6.read_unread, View.ld_unit_zero (S := S1024x1152) zero2, View.ld_unit_zero (S := S1x1x512x1152) zero4, View.ld_unit_zero (S := S1024x512) zero2, shapeCast_self]

theorem out_last (c : Dev nD) (i : grid0.Coords) (arg3 : Memref sig .tc .vmem S1024x1152 .bf16) (harg3 : arg3.IsWhole) (arg4 : Memref sig .tc .vmem S1x1x512x1152 .bf16) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i) (hc2 : cond0_2 i)
    (x0 : Vec Ideal S1024x1152 .bf16) (x1 : Vec Ideal S1x1x512x1152 .bf16) (xs0 : Vec Ideal S1024x512 .f32) :
    out0_C_2 c i arg3 harg3 arg4 harg4 arg5 harg5 arg6 harg6 hc0 hc1 hc2 x0 x1 xs0 = addf xs0 (k0_pay1 x0 x1) := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero (S := S1024x512) zero2, View.readCov_unit_zero (S := S1024x512) _ zero2]
  try unfold k0_pay3
  simp only [View.readAt_eq_ld, harg3.read_unread, harg4.read_unread, harg5.read_unread, harg6.read_unread, View.ld_unit_zero (S := S1024x1152) zero2, View.ld_unit_zero (S := S1x1x512x1152) zero4, View.ld_unit_zero (S := S1024x512) zero2, shapeCast_self]

/-- The chunk a point multiplies. -/
theorem chunk (t : Fin cfg0.N) (i : Fin 1024) (j : Fin 512) : (k0_pay1 (iblk m c 0 t) (iblk m c 1 t) (ix2 i j) : EReal)
    = upTo (fun k => entry (in0 m c) (1024 * (t.val / 8 / 2) + i.val) (1152 * (t.val % 8) + k)) (fun k => entry (in1 m c) (512 * (t.val / 8 % 2) + j.val) (1152 * (t.val % 8) + k)) 1152 :=
  pay_apply _ _ i j _ _ (fun k => blk0 m c t i k) (fun k => blk1 m c t j k)

theorem first_apply (t : Fin cfg0.N) (h : t.val % 8 = 0) (i : Fin 1024) (j : Fin 512) :
    ((outsAt0 m c t.val t.isLt).2 (ix2 i j) : EReal) = upTo (fun k => entry (in0 m c) (1024 * (t.val / 8 / 2) + i.val) k) (fun k => entry (in1 m c) (512 * (t.val / 8 % 2) + j.val) k) (1152 * (t.val % 8 + 1)) := by
  rw [outsAt0_A m c t (by omega) (by omega) (by omega)]
  dsimp only
  rw [carry_A]
  refine (chunk m c t i j).trans ?_
  rw [h]
  simp only [Nat.mul_zero, Nat.zero_add, Nat.mul_one]

/-- A later point adds its chunk to what the point before left. -/
theorem step (t : Fin cfg0.N) (s : Vec Ideal S1024x512 .f32) (i : Fin 1024) (j : Fin 512)
    (hs : (s (ix2 i j) : EReal) = upTo (fun k => entry (in0 m c) (1024 * (t.val / 8 / 2) + i.val) k) (fun k => entry (in1 m c) (512 * (t.val / 8 % 2) + j.val) k) (1152 * (t.val % 8))) :
    (addf s (k0_pay1 (iblk m c 0 t) (iblk m c 1 t)) (ix2 i j) : EReal) = upTo (fun k => entry (in0 m c) (1024 * (t.val / 8 / 2) + i.val) k) (fun k => entry (in1 m c) (512 * (t.val / 8 % 2) + j.val) k) (1152 * (t.val % 8 + 1)) := by
  rw [Nat.mul_add, Nat.mul_one, upTo_add]
  exact congrArg₂ (fun a b : EReal => a + b) hs (chunk m c t i j)

theorem next_apply (t : Fin cfg0.N) (h : ¬t.val % 8 = 0) (i : Fin 1024) (j : Fin 512)
    (hs : ((outsAt0 m c (t.val - 1) (Nat.lt_of_le_of_lt (Nat.sub_le _ _) t.isLt)).2 (ix2 i j) : EReal) = upTo (fun k => entry (in0 m c) (1024 * (t.val / 8 / 2) + i.val) k) (fun k => entry (in1 m c) (512 * (t.val / 8 % 2) + j.val) k) (1152 * (t.val % 8))) :
    ((outsAt0 m c t.val t.isLt).2 (ix2 i j) : EReal) = upTo (fun k => entry (in0 m c) (1024 * (t.val / 8 / 2) + i.val) k) (fun k => entry (in1 m c) (512 * (t.val / 8 % 2) + j.val) k) (1152 * (t.val % 8 + 1)) := by
  by_cases hl : t.val % 8 = 7
  · rw [outsAt0_C m c t (by omega) (by omega) (by omega)]
    dsimp only
    rw [carry_C]
    exact step m c t _ i j hs
  · rw [outsAt0_B m c t (by omega) (by omega) (by omega)]
    dsimp only
    rw [carry_B]
    exact step m c t _ i j hs

/-- What is carried after a point: the sum of the chunks so far. -/
theorem carried (i : Fin 1024) (j : Fin 512) : ∀ (n : ℕ) (h : n < cfg0.N),
    ((outsAt0 m c n h).2 (ix2 i j) : EReal) = upTo (fun k => entry (in0 m c) (1024 * (n / 8 / 2) + i.val) k) (fun k => entry (in1 m c) (512 * (n / 8 % 2) + j.val) k) (1152 * (n % 8 + 1))
  | 0, h => first_apply m c ⟨0, h⟩ (Nat.zero_mod _) i j
  | n + 1, h => by
    by_cases h0 : (n + 1) % 8 = 0
    · exact first_apply m c ⟨n + 1, h⟩ h0 i j
    · refine next_apply m c ⟨n + 1, h⟩ h0 i j ((carried i j n (by omega)).trans ?_)
      have e : n / 8 = (n + 1) / 8 := by omega
      have e' : n % 8 + 1 = (n + 1) % 8 := by omega
      dsimp only
      rw [e, e']

/-- What the last point of a block leaves in it. -/
theorem last_apply (t : Fin cfg0.N) (h : t.val % 8 = 7) (i : Fin 1024) (j : Fin 512) :
    ((outsAt0 m c t.val t.isLt).1 (ix2 i j) : EReal) = upTo (fun k => entry (in0 m c) (1024 * (t.val / 8 / 2) + i.val) k) (fun k => entry (in1 m c) (512 * (t.val / 8 % 2) + j.val) k) 9216 := by
  have hn : t.val - 1 < cfg0.N := Nat.lt_of_le_of_lt (Nat.sub_le _ _) t.isLt
  rw [outsAt0_C m c t (by omega) (by omega) (by omega)]
  dsimp only
  rw [out_last]
  have e : (t.val - 1) / 8 = t.val / 8 := by omega
  have e' : (t.val - 1) % 8 + 1 = t.val % 8 := by omega
  refine (step m c t _ i j ((carried m c i j (t.val - 1) hn).trans ?_)).trans ?_
  · rw [e, e']
  · rw [h]

/-- The array after the run. -/
theorem arr : (dats m 0 c).arrAt 2 cfg0.N = prod (in0 m c) (in1 m c) := by
  refine (dats m 0 c).arrAt_eq_of_covers 2 (prod (in0 m c) (in1 m c)) (by decide +kernel) fun t hf y => ?_
  refine (cast_eq _ _).trans ((congrFun (after0_2 m c t) _).trans ?_)
  have e : (cfg0.win 2).xinj (cfg0.grid.coords t) y = ix2 (n0 := 1024) (n1 := 512) (y 0) (y 1) := by
    funext a; match a with
    | ⟨0, _⟩ => rfl
    | ⟨1, _⟩ => rfl
  rw [e]
  refine (last_apply m c t ((flush0_2 t).mp hf) _ _).trans ?_
  exact congrArg₂ (fun a b : ℕ => upTo (fun k => entry (in0 m c) a k) (fun k => entry (in1 m c) b k) 9216)
    (at_block (at2 t).1).symm (at_block (at2 t).2).symm

end Kernel

theorem ref (x0 : (Mat 2048 9216).Idx → EReal) (x1 : (Mat 1024 9216).Idx → EReal) : val_main_v2 (F := Ideal) x0 x1 = prod x0 x1 := by
  funext y
  refine (val_main_v2_apply x0 x1 y).trans ((Finset.sum_congr rfl fun k _ => ?_).trans (upTo_fin _ _ 9216).symm)
  exact congrArg₂ (fun u v : EReal => u * v) (eq_entry x0 _ rfl rfl) (eq_entry x1 _ rfl rfl)

/-! ### The claims -/

theorem frame_p : Cert.quiescent_DilDhn := fun m ρ _ => Cert.DilDhn.Gen.frame m ρ
theorem frame_pi : Cert.quiescent_DilDhnIdeal := fun m ρ _ => Cert.DilDhnIdeal.Gen.frame m ρ
theorem frame_ri : Cert.quiescent_DilDhnRefIdeal := fun m ρ _ =>
  (θ_run Cert.DilDhnRefIdeal.defs _ _).mono (fun r h => ⟨fun c => (h c).2, sem_eq_zero_of_no_sems (by decide) r.2⟩)
    (Cert.DilDhnRefIdeal.Value.run (F := Ideal) m ρ)

theorem preserves : Cert.preserves_DilDhn_DilDhnIdeal := trivial

/-- The kernel's array is the reference's. -/
theorem algebraic : Cert.algebraic_DilDhnIdeal_DilDhnRefIdeal := by
  intro m ρ m' ρ' _ hagree
  refine ⟨fun c => prod (in0 m c) (in1 m c), ?_, ?_⟩
  · exact (θ_run defs _ _).mono (fun r h c => ⟨(h c).1.trans (arr m c), (h c).2⟩) (Cert.DilDhnIdeal.Value.run_blocks (F := Ideal) m ρ)
  · refine (θ_run Cert.DilDhnRefIdeal.defs _ _).mono (fun r h c => ⟨(h c).1.trans ?_, (h c).2⟩) (Cert.DilDhnRefIdeal.Value.run (F := Ideal) m' ρ')
    refine (val_main_v2_eq _ _).trans ((ref _ _ ).trans ?_)
    obtain ⟨e0, e1⟩ := hagree c
    exact congrArg₂ prod e0 e1

end Cert.Proof.DilDhn

end
-- ==== Proof.DilDw.lean ====
/-
  The gradient of the dilated attention's projection matrix, each device's 1152 columns a slice of the result.
-/
module

public import proofs.«01_k».proof.Defs
public import proofs.«01_k».proof.Proof.Contract
public import proofs.«01_k».proof.Proof.Gen.DilDw.Frame
public import proofs.«01_k».proof.Proof.Gen.DilDwIdeal.Value
public import proofs.«01_k».proof.Proof.Gen.DilDwRefIdeal.Run
public import proofs.«01_k».proof.Proof.Gen.DilDwRefIdeal.Read
public import Idealize.ShloMosaic.Lib.StableHlo.RunRead
public import Idealize.ShloMosaic.Lib.Pipeline.ValueKit.Geometry
public import Idealize.ShloMosaic.Lib.Pipeline.ValueKit.Acc

@[expose] public section

set_option maxRecDepth 16384

noncomputable section

namespace Cert.Proof.DilDw

open Cert.DilDwIdeal Cert.DilDwIdeal.Gen Cert.DilDwRefIdeal.Read
open Idealize.ShloMosaic Idealize.ShloMosaic.TcCoe Idealize.SL.Sem Idealize.ShloMosaic.StableHlo Idealize.ShloMosaic.ValueIdx

/-- The result. -/
def prod (x0 : (Mat 2048 1024).Idx → EReal) (x1 : (Mat 2048 9216).Idx → EReal) : S8x1x1024x1152.Idx → EReal := fun y =>
  upTo (fun k => entry x0 k ((y 2).val)) (fun k => entry x1 k (1152 * (y 0).val + (y 3).val)) 2048

section Kernel

variable (m : (ℓ : Loc nD τ sig) → Buf (Elt Ideal) ℓ) (c : Dev nD)

/-- The first argument. -/
abbrev in0 : (Mat 2048 1024).Idx → EReal := m ((c : Thread nD τ).loc main_arg0)
/-- The second argument. -/
abbrev in1 : (Mat 2048 9216).Idx → EReal := m ((c : Thread nD τ).loc main_arg1)

/-! ### The staged blocks -/

theorem host0 (y : S2048x1024.Idx) : (V m c main_v0 y : EReal) = entry (in0 m c) (y 0).val (y 1).val := by
  rw [entry_idx]; unfold V; after_reads_simp; rfl

theorem at0 : ∀ t : Fin grid0.N, win0_0.index t 0 = 0 ∧ win0_0.index t 1 = 0 := by decide +kernel

theorem blk0 (t : Fin cfg0.N) (i : Fin 2048) (k : Fin 1024) :
    ((iblk m c 0 t : Vec Ideal S2048x1024 .bf16) (ix2 i k) : EReal) = entry (in0 m c) (i.val) (k.val) := by
  unfold iblk
  rw [View.read_apply]
  exact (host0 m c _).trans (congrArg₂ (entry (in0 m c)) (at_whole (at0 t).1) (at_whole (at0 t).2))

theorem host1 (y : S2048x9216.Idx) : (V m c main_v1 y : EReal) = entry (in1 m c) (y 0).val (y 1).val := by
  rw [entry_idx]; unfold V; after_reads_simp; rfl

theorem at1 : ∀ t : Fin grid0.N, win0_1.index t 0 = 0 ∧ win0_1.index t 1 = t.val := by decide +kernel

theorem blk1 (t : Fin cfg0.N) (i : Fin 2048) (k : Fin 1152) :
    ((iblk m c 1 t : Vec Ideal S2048x1152 .bf16) (ix2 i k) : EReal) = entry (in1 m c) (i.val) (1152 * (t.val) + k.val) := by
  unfold iblk
  rw [View.read_apply]
  exact (host1 m c _).trans (congrArg₂ (entry (in1 m c)) (at_whole (at1 t).1) (at_block (at1 t).2))

theorem at2 : ∀ t : Fin grid0.N, win0_2.index t 0 = t.val ∧ win0_2.index t 1 = 0 ∧ win0_2.index t 2 = 0 ∧ win0_2.index t 3 = 0 := by decide +kernel

/-- What a point multiplies, at an entry. -/
theorem pay_apply (x0 : Vec Ideal S2048x1024 .bf16) (x1 : Vec Ideal S2048x1152 .bf16) (i : Fin 1024) (j : Fin 1152) (f g : ℕ → EReal)
    (hf : ∀ k : Fin 2048, (x0 (ix2 k i) : EReal) = f k.val) (hg : ∀ k : Fin 2048, (x1 (ix2 k j) : EReal) = g k.val) :
    (k0_pay1 x0 x1 (ix4 0 0 i j) : EReal) = upTo f g 2048 := by
  unfold k0_pay1
  try simp only [shapeCast_self]
  refine (box2_apply _ _ i j).trans ?_
  exact tn_upTo (by decide) (φ₁ := .bf16) (φ₂ := .bf16) x0 _ i j f g hf hg

/-- The array after the run. -/
theorem arr : (dats m 0 c).arrAt 2 cfg0.N = prod (in0 m c) (in1 m c) := by
  refine (dats m 0 c).arrAt_eq_of_covers 2 (prod (in0 m c) (in1 m c)) (by decide +kernel) fun t _ y => ?_
  refine (cast_eq _ _).trans ((congrFun (after0_2 m c t) _).trans ?_)
  have h0 : (y 0).val < 1 := (y 0).isLt
  have h1 : (y 1).val < 1 := (y 1).isLt
  have e : (cfg0.win 2).xinj (cfg0.grid.coords t) y = ix4 (n0 := 1) (n1 := 1) (n2 := 1024) (n3 := 1152) 0 0 (y 2) (y 3) := by
    funext a; apply Fin.ext; match a with
    | ⟨0, _⟩ => show (y 0).val = 0; omega
    | ⟨1, _⟩ => show (y 1).val = 0; omega
    | ⟨2, _⟩ => rfl
    | ⟨3, _⟩ => rfl
  rw [e]; frame_out
  refine (pay_apply _ _ _ _ (fun k => entry (in0 m c) k ((y 2).val)) (fun k => entry (in1 m c) k (1152 * (t.val) + (y 3).val)) (fun k => blk0 m c t k (y 2)) (fun k => blk1 m c t k (y 3))).trans ?_
  refine congrArg₂ (fun a b : ℕ => upTo (fun k => entry (in0 m c) k a) (fun k => entry (in1 m c) k b) 2048) ?_ ?_
  · show _ = win0_2.index t 2 * 1024 + 1 * (y 2).val
    rw [(at2 t).2.2.1]; omega
  · show _ = 1152 * (win0_2.index t 0 * 1 + 1 * (y 0).val) + (win0_2.index t 3 * 1152 + 1 * (y 3).val)
    rw [(at2 t).1, (at2 t).2.2.2]; omega

end Kernel

theorem ref (x0 : (Mat 2048 1024).Idx → EReal) (x1 : (Mat 2048 9216).Idx → EReal) : val_main_v7 (F := Ideal) x0 x1 = prod x0 x1 := by
  funext y
  have h0 : (y 0).val < 8 := (y 0).isLt
  have h1 : (y 1).val < 1 := (y 1).isLt
  have h3 : (y 3).val < 1152 := (y 3).isLt
  rw [val_main_v7_apply, val_main_v6_apply, val_main_v5_apply]
  refine (val_main_v3_apply (F := Ideal) x0 x1 _).trans ?_
  refine (val_main_v2_apply x0 x1 _).trans ((Finset.sum_congr rfl fun k _ => ?_).trans (upTo_fin _ _ 2048).symm)
  exact (congrArg₂ (fun u v : EReal => u * v) (eq_entry x1 _ rfl (by show (((y 2).val * 8 + (y 0).val) * 1152 + (y 3).val) % 9216 = _; omega)) (eq_entry x0 _ rfl (by show (((y 2).val * 8 + (y 0).val) * 1152 + (y 3).val) / 9216 = _; omega))).trans (mul_comm _ _)

/-! ### The claims -/

theorem frame_p : Cert.quiescent_DilDw := fun m ρ _ => Cert.DilDw.Gen.frame m ρ
theorem frame_pi : Cert.quiescent_DilDwIdeal := fun m ρ _ => Cert.DilDwIdeal.Gen.frame m ρ
theorem frame_ri : Cert.quiescent_DilDwRefIdeal := fun m ρ _ =>
  (θ_run Cert.DilDwRefIdeal.defs _ _).mono (fun r h => ⟨fun c => (h c).2, sem_eq_zero_of_no_sems (by decide) r.2⟩)
    (Cert.DilDwRefIdeal.Value.run (F := Ideal) m ρ)

theorem preserves : Cert.preserves_DilDw_DilDwIdeal := trivial

/-- The kernel's array is the reference's. -/
theorem algebraic : Cert.algebraic_DilDwIdeal_DilDwRefIdeal := by
  intro m ρ m' ρ' _ hagree
  refine ⟨fun c => prod (in0 m c) (in1 m c), ?_, ?_⟩
  · exact (θ_run defs _ _).mono (fun r h c => ⟨(h c).1.trans (arr m c), (h c).2⟩) (Cert.DilDwIdeal.Value.run_blocks (F := Ideal) m ρ)
  · refine (θ_run Cert.DilDwRefIdeal.defs _ _).mono (fun r h c => ⟨(h c).1.trans ?_, (h c).2⟩) (Cert.DilDwRefIdeal.Value.run (F := Ideal) m' ρ')
    refine (val_main_v7_eq _ _).trans ((ref _ _ ).trans ?_)
    obtain ⟨e0, e1⟩ := hagree c
    exact congrArg₂ prod e0 e1

end Cert.Proof.DilDw

end
-- ==== Proof.ProjDo.lean ====
/-
  The gradient of the attention's output: `dy` against the rows of the output projection.
-/
module

public import proofs.«01_k».proof.Defs
public import proofs.«01_k».proof.Proof.Contract
public import proofs.«01_k».proof.Proof.Gen.ProjDo.Frame
public import proofs.«01_k».proof.Proof.Gen.ProjDoIdeal.Value
public import proofs.«01_k».proof.Proof.Gen.ProjDoRefIdeal.Run
public import proofs.«01_k».proof.Proof.Gen.ProjDoRefIdeal.Read
public import Idealize.ShloMosaic.Lib.StableHlo.RunRead
public import Idealize.ShloMosaic.Lib.Pipeline.ValueKit.Geometry
public import Idealize.ShloMosaic.Lib.Pipeline.ValueKit.Acc

@[expose] public section

set_option maxRecDepth 16384

noncomputable section

namespace Cert.Proof.ProjDo

open Cert.ProjDoIdeal Cert.ProjDoIdeal.Gen Cert.ProjDoRefIdeal.Read
open Idealize.ShloMosaic Idealize.ShloMosaic.TcCoe Idealize.SL.Sem Idealize.ShloMosaic.StableHlo Idealize.ShloMosaic.ValueIdx

/-- The result. -/
def prod (x0 : (Mat 2048 1024).Idx → EReal) (x1 : (Mat 1024 1024).Idx → EReal) : (Mat 2048 1024).Idx → EReal := fun y =>
  upTo (fun k => entry x0 ((y 0).val) k) (fun k => entry x1 ((y 1).val) k) 1024

section Kernel

variable (m : (ℓ : Loc nD τ sig) → Buf (Elt Ideal) ℓ) (c : Dev nD)

/-- The first argument. -/
abbrev in0 : (Mat 2048 1024).Idx → EReal := m ((c : Thread nD τ).loc main_arg0)
/-- The second argument. -/
abbrev in1 : (Mat 1024 1024).Idx → EReal := m ((c : Thread nD τ).loc main_arg1)

/-! ### The staged blocks -/

theorem host0 (y : S2048x1024.Idx) : (V m c main_v0 y : EReal) = entry (in0 m c) (y 0).val (y 1).val := by
  rw [entry_idx]; unfold V; after_reads_simp; rfl

theorem at0 : ∀ t : Fin grid0.N, win0_0.index t 0 = t.val / 2 ∧ win0_0.index t 1 = 0 := by decide +kernel

theorem blk0 (t : Fin cfg0.N) (i : Fin 1024) (k : Fin 1024) :
    ((iblk m c 0 t : Vec Ideal S1024x1024 .bf16) (ix2 i k) : EReal) = entry (in0 m c) (1024 * (t.val / 2) + i.val) (k.val) := by
  unfold iblk
  rw [View.read_apply]
  exact (host0 m c _).trans (congrArg₂ (entry (in0 m c)) (at_block (at0 t).1) (at_whole (at0 t).2))

theorem host1 (y : S1x1024x1024.Idx) : (V m c main_v2 y : EReal) = entry (in1 m c) (y 1).val (y 2).val := by
  unfold V; after_reads_simp
  refine (broadcastInDim_apply _ _ _ y (ix2 (n0 := 1024) (n1 := 1024) (y 1) (y 2)) (fun a => by
    match a with
    | ⟨0, _⟩ => rfl
    | ⟨1, _⟩ => rfl)).trans ?_
  exact eq_entry (in1 m c) _ rfl rfl

theorem at1 : ∀ t : Fin grid0.N, win0_1.index t 0 = 0 ∧ win0_1.index t 1 = t.val % 2 ∧ win0_1.index t 2 = 0 := by decide +kernel

theorem blk1 (t : Fin cfg0.N) (i : Fin 512) (k : Fin 1024) :
    ((iblk m c 1 t : Vec Ideal S1x512x1024 .bf16) (ix3 0 i k) : EReal) = entry (in1 m c) (512 * (t.val % 2) + i.val) (k.val) := by
  unfold iblk
  rw [View.read_apply]
  exact (host1 m c _).trans (congrArg₂ (entry (in1 m c)) (at_block (at1 t).2.1) (at_whole (at1 t).2.2))

theorem at2 : ∀ t : Fin grid0.N, win0_2.index t 0 = t.val / 2 ∧ win0_2.index t 1 = t.val % 2 := by decide +kernel

/-- What a point multiplies, at an entry. -/
theorem pay_apply (x0 : Vec Ideal S1024x1024 .bf16) (x1 : Vec Ideal S1x512x1024 .bf16) (i : Fin 1024) (j : Fin 512) (f g : ℕ → EReal)
    (hf : ∀ k : Fin 1024, (x0 (ix2 i k) : EReal) = f k.val) (hg : ∀ k : Fin 1024, (x1 (ix3 0 j k) : EReal) = g k.val) :
    (k0_pay1 x0 x1 (ix2 i j) : EReal) = upTo f g 1024 := by
  unfold k0_pay1
  try simp only [shapeCast_self]
  exact nt_upTo (φ₁ := .bf16) (φ₂ := .bf16) x0 _ i j f g hf (fun k => (unbox_apply x1 _ j k).trans (hg k))

/-- The array after the run. -/
theorem arr : (dats m 0 c).arrAt 2 cfg0.N = prod (in0 m c) (in1 m c) := by
  refine (dats m 0 c).arrAt_eq_of_covers 2 (prod (in0 m c) (in1 m c)) (by decide +kernel) fun t _ y => ?_
  refine (cast_eq _ _).trans ((congrFun (after0_2 m c t) _).trans ?_)
  have e : (cfg0.win 2).xinj (cfg0.grid.coords t) y = ix2 (n0 := 1024) (n1 := 512) (y 0) (y 1) := by
    funext a; match a with
    | ⟨0, _⟩ => rfl
    | ⟨1, _⟩ => rfl
  rw [e]; frame_out
  refine (pay_apply _ _ _ _ (fun k => entry (in0 m c) (1024 * (t.val / 2) + (y 0).val) k) (fun k => entry (in1 m c) (512 * (t.val % 2) + (y 1).val) k) (fun k => blk0 m c t (y 0) k) (fun k => blk1 m c t (y 1) k)).trans ?_
  exact congrArg₂ (fun a b : ℕ => upTo (fun k => entry (in0 m c) a k) (fun k => entry (in1 m c) b k) 1024)
    (at_block (at2 t).1).symm (at_block (at2 t).2).symm

end Kernel

theorem ref (x0 : (Mat 2048 1024).Idx → EReal) (x1 : (Mat 1024 1024).Idx → EReal) : val_main_v2 (F := Ideal) x0 x1 = prod x0 x1 := by
  funext y
  refine (val_main_v2_apply x0 x1 y).trans ((Finset.sum_congr rfl fun k _ => ?_).trans (upTo_fin _ _ 1024).symm)
  exact congrArg₂ (fun u v : EReal => u * v) (eq_entry x0 _ rfl rfl) (eq_entry x1 _ rfl rfl)

/-! ### The claims -/

theorem frame_p : Cert.quiescent_ProjDo := fun m ρ _ => Cert.ProjDo.Gen.frame m ρ
theorem frame_pi : Cert.quiescent_ProjDoIdeal := fun m ρ _ => Cert.ProjDoIdeal.Gen.frame m ρ
theorem frame_ri : Cert.quiescent_ProjDoRefIdeal := fun m ρ _ =>
  (θ_run Cert.ProjDoRefIdeal.defs _ _).mono (fun r h => ⟨fun c => (h c).2, sem_eq_zero_of_no_sems (by decide) r.2⟩)
    (Cert.ProjDoRefIdeal.Value.run (F := Ideal) m ρ)

theorem preserves : Cert.preserves_ProjDo_ProjDoIdeal := trivial

/-- The kernel's array is the reference's. -/
theorem algebraic : Cert.algebraic_ProjDoIdeal_ProjDoRefIdeal := by
  intro m ρ m' ρ' _ hagree
  refine ⟨fun c => prod (in0 m c) (in1 m c), ?_, ?_⟩
  · exact (θ_run defs _ _).mono (fun r h c => ⟨(h c).1.trans (arr m c), (h c).2⟩) (Cert.ProjDoIdeal.Value.run_blocks (F := Ideal) m ρ)
  · refine (θ_run Cert.ProjDoRefIdeal.defs _ _).mono (fun r h c => ⟨(h c).1.trans ?_, (h c).2⟩) (Cert.ProjDoRefIdeal.Value.run (F := Ideal) m' ρ')
    refine (val_main_v2_eq _ _).trans ((ref _ _ ).trans ?_)
    obtain ⟨e0, e1⟩ := hagree c
    exact congrArg₂ prod e0 e1

end Cert.Proof.ProjDo

end
-- ==== Proof.ProjDw.lean ====
/-
  The gradient of the output projection: columns of the attention output against columns of `dy`.
-/
module

public import proofs.«01_k».proof.Defs
public import proofs.«01_k».proof.Proof.Contract
public import proofs.«01_k».proof.Proof.Gen.ProjDw.Frame
public import proofs.«01_k».proof.Proof.Gen.ProjDwIdeal.Value
public import proofs.«01_k».proof.Proof.Gen.ProjDwRefIdeal.Run
public import proofs.«01_k».proof.Proof.Gen.ProjDwRefIdeal.Read
public import Idealize.ShloMosaic.Lib.StableHlo.RunRead
public import Idealize.ShloMosaic.Lib.Pipeline.ValueKit.Geometry
public import Idealize.ShloMosaic.Lib.Pipeline.ValueKit.Acc

@[expose] public section

set_option maxRecDepth 16384

noncomputable section

namespace Cert.Proof.ProjDw

open Cert.ProjDwIdeal Cert.ProjDwIdeal.Gen Cert.ProjDwRefIdeal.Read
open Idealize.ShloMosaic Idealize.ShloMosaic.TcCoe Idealize.SL.Sem Idealize.ShloMosaic.StableHlo Idealize.ShloMosaic.ValueIdx

/-- The result. -/
def prod (x0 : (Mat 2048 1024).Idx → EReal) (x1 : (Mat 2048 1024).Idx → EReal) : (Mat 1024 1024).Idx → EReal := fun y =>
  upTo (fun k => entry x0 k ((y 0).val)) (fun k => entry x1 k ((y 1).val)) 2048

section Kernel

variable (m : (ℓ : Loc nD τ sig) → Buf (Elt Ideal) ℓ) (c : Dev nD)

/-- The first argument. -/
abbrev in0 : (Mat 2048 1024).Idx → EReal := m ((c : Thread nD τ).loc main_arg0)
/-- The second argument. -/
abbrev in1 : (Mat 2048 1024).Idx → EReal := m ((c : Thread nD τ).loc main_arg1)

/-! ### The staged blocks -/

theorem host0 (y : S2048x1024.Idx) : (V m c main_arg0 y : EReal) = entry (in0 m c) (y 0).val (y 1).val := by
  rw [entry_idx]; exact congrFun (V_main_arg0 m c) y

theorem at0 : ∀ t : Fin grid0.N, win0_0.index t 0 = 0 ∧ win0_0.index t 1 = 0 := by decide +kernel

theorem blk0 (t : Fin cfg0.N) (i : Fin 2048) (k : Fin 1024) :
    ((iblk m c 0 t : Vec Ideal S2048x1024 .f32) (ix2 i k) : EReal) = entry (in0 m c) (i.val) (k.val) := by
  unfold iblk
  rw [View.read_apply]
  exact (host0 m c _).trans (congrArg₂ (entry (in0 m c)) (at_whole (at0 t).1) (at_whole (at0 t).2))

theorem host1 (y : S2048x1024.Idx) : (V m c main_v0 y : EReal) = entry (in1 m c) (y 0).val (y 1).val := by
  rw [entry_idx]; unfold V; after_reads_simp; rfl

theorem at1 : ∀ t : Fin grid0.N, win0_1.index t 0 = 0 ∧ win0_1.index t 1 = t.val := by decide +kernel

theorem blk1 (t : Fin cfg0.N) (i : Fin 2048) (k : Fin 512) :
    ((iblk m c 1 t : Vec Ideal S2048x512 .bf16) (ix2 i k) : EReal) = entry (in1 m c) (i.val) (512 * (t.val) + k.val) := by
  unfold iblk
  rw [View.read_apply]
  exact (host1 m c _).trans (congrArg₂ (entry (in1 m c)) (at_whole (at1 t).1) (at_block (at1 t).2))

theorem at2 : ∀ t : Fin grid0.N, win0_2.index t 0 = 0 ∧ win0_2.index t 1 = t.val := by decide +kernel

/-- What a point multiplies, at an entry. -/
theorem pay_apply (x0 : Vec Ideal S2048x1024 .f32) (x1 : Vec Ideal S2048x512 .bf16) (i : Fin 1024) (j : Fin 512) (f g : ℕ → EReal)
    (hf : ∀ k : Fin 2048, (x0 (ix2 k i) : EReal) = f k.val) (hg : ∀ k : Fin 2048, (x1 (ix2 k j) : EReal) = g k.val) :
    (k0_pay1 x0 x1 (ix2 i j) : EReal) = upTo f g 2048 := by
  unfold k0_pay1
  try simp only [shapeCast_self]
  exact tn_upTo (by decide) (φ₁ := .bf16) (φ₂ := .bf16) x0 _ i j f g hf hg

/-- The array after the run. -/
theorem arr : (dats m 0 c).arrAt 2 cfg0.N = prod (in0 m c) (in1 m c) := by
  refine (dats m 0 c).arrAt_eq_of_covers 2 (prod (in0 m c) (in1 m c)) (by decide +kernel) fun t _ y => ?_
  refine (cast_eq _ _).trans ((congrFun (after0_2 m c t) _).trans ?_)
  have e : (cfg0.win 2).xinj (cfg0.grid.coords t) y = ix2 (n0 := 1024) (n1 := 512) (y 0) (y 1) := by
    funext a; match a with
    | ⟨0, _⟩ => rfl
    | ⟨1, _⟩ => rfl
  rw [e]; frame_out
  refine (pay_apply _ _ _ _ (fun k => entry (in0 m c) k ((y 0).val)) (fun k => entry (in1 m c) k (512 * (t.val) + (y 1).val)) (fun k => blk0 m c t k (y 0)) (fun k => blk1 m c t k (y 1))).trans ?_
  exact congrArg₂ (fun a b : ℕ => upTo (fun k => entry (in0 m c) k a) (fun k => entry (in1 m c) k b) 2048)
    (at_whole (at2 t).1).symm (at_block (at2 t).2).symm

end Kernel

theorem ref (x0 : (Mat 2048 1024).Idx → EReal) (x1 : (Mat 2048 1024).Idx → EReal) : val_main_v4 (F := Ideal) x0 x1 = prod x0 x1 := by
  funext y
  refine (val_main_v3_apply (F := Ideal) x0 x1 y).trans ?_
  refine (val_main_v2_apply x0 x1 _).trans ((Finset.sum_congr rfl fun k _ => ?_).trans (upTo_fin _ _ 2048).symm)
  exact (congrArg₂ (fun u v : EReal => u * v) (eq_entry x1 _ rfl rfl) (eq_entry x0 _ rfl rfl)).trans (mul_comm _ _)

/-! ### The claims -/

theorem frame_p : Cert.quiescent_ProjDw := fun m ρ _ => Cert.ProjDw.Gen.frame m ρ
theorem frame_pi : Cert.quiescent_ProjDwIdeal := fun m ρ _ => Cert.ProjDwIdeal.Gen.frame m ρ
theorem frame_ri : Cert.quiescent_ProjDwRefIdeal := fun m ρ _ =>
  (θ_run Cert.ProjDwRefIdeal.defs _ _).mono (fun r h => ⟨fun c => (h c).2, sem_eq_zero_of_no_sems (by decide) r.2⟩)
    (Cert.ProjDwRefIdeal.Value.run (F := Ideal) m ρ)

theorem preserves : Cert.preserves_ProjDw_ProjDwIdeal := trivial

/-- The kernel's array is the reference's. -/
theorem algebraic : Cert.algebraic_ProjDwIdeal_ProjDwRefIdeal := by
  intro m ρ m' ρ' _ hagree
  refine ⟨fun c => prod (in0 m c) (in1 m c), ?_, ?_⟩
  · exact (θ_run defs _ _).mono (fun r h c => ⟨(h c).1.trans (arr m c), (h c).2⟩) (Cert.ProjDwIdeal.Value.run_blocks (F := Ideal) m ρ)
  · refine (θ_run Cert.ProjDwRefIdeal.defs _ _).mono (fun r h c => ⟨(h c).1.trans ?_, (h c).2⟩) (Cert.ProjDwRefIdeal.Value.run (F := Ideal) m' ρ')
    refine (val_main_v4_eq _ _).trans ((ref _ _ ).trans ?_)
    obtain ⟨e0, e1⟩ := hagree c
    exact congrArg₂ prod e0 e1

end Cert.Proof.ProjDw

end
-- ==== Proof.Proj.lean ====
/-
  The output projection.
-/
module

public import proofs.«01_k».proof.Defs
public import proofs.«01_k».proof.Proof.Contract
public import proofs.«01_k».proof.Proof.Gen.Proj.Frame
public import proofs.«01_k».proof.Proof.Gen.ProjIdeal.Value
public import proofs.«01_k».proof.Proof.Gen.ProjRefIdeal.Run
public import proofs.«01_k».proof.Proof.Gen.ProjRefIdeal.Read
public import Idealize.ShloMosaic.Lib.StableHlo.RunRead
public import Idealize.ShloMosaic.Lib.Pipeline.ValueKit.Geometry
public import Idealize.ShloMosaic.Lib.Pipeline.ValueKit.Acc

@[expose] public section

set_option maxRecDepth 16384

noncomputable section

namespace Cert.Proof.Proj

open Cert.ProjIdeal Cert.ProjIdeal.Gen Cert.ProjRefIdeal.Read
open Idealize.ShloMosaic Idealize.ShloMosaic.TcCoe Idealize.SL.Sem Idealize.ShloMosaic.StableHlo Idealize.ShloMosaic.ValueIdx

/-- The result. -/
def prod (x0 : (Mat 2048 1024).Idx → EReal) (x1 : (Mat 1024 1024).Idx → EReal) : (Mat 2048 1024).Idx → EReal := fun y =>
  upTo (fun k => entry x0 ((y 0).val) k) (fun k => entry x1 k ((y 1).val)) 1024

section Kernel

variable (m : (ℓ : Loc nD τ sig) → Buf (Elt Ideal) ℓ) (c : Dev nD)

/-- The first argument. -/
abbrev in0 : (Mat 2048 1024).Idx → EReal := m ((c : Thread nD τ).loc main_arg0)
/-- The second argument. -/
abbrev in1 : (Mat 1024 1024).Idx → EReal := m ((c : Thread nD τ).loc main_arg1)

/-! ### The staged blocks -/

theorem host0 (y : S2048x1024.Idx) : (V m c main_arg0 y : EReal) = entry (in0 m c) (y 0).val (y 1).val := by
  rw [entry_idx]; exact congrFun (V_main_arg0 m c) y

theorem at0 : ∀ t : Fin grid0.N, win0_0.index t 0 = t.val / 2 ∧ win0_0.index t 1 = 0 := by decide +kernel

theorem blk0 (t : Fin cfg0.N) (i : Fin 1024) (k : Fin 1024) :
    ((iblk m c 0 t : Vec Ideal S1024x1024 .f32) (ix2 i k) : EReal) = entry (in0 m c) (1024 * (t.val / 2) + i.val) (k.val) := by
  unfold iblk
  rw [View.read_apply]
  exact (host0 m c _).trans (congrArg₂ (entry (in0 m c)) (at_block (at0 t).1) (at_whole (at0 t).2))

theorem host1 (y : S1x1024x1024.Idx) : (V m c main_v1 y : EReal) = entry (in1 m c) (y 1).val (y 2).val := by
  unfold V; after_reads_simp
  refine (broadcastInDim_apply _ _ _ y (ix2 (n0 := 1024) (n1 := 1024) (y 1) (y 2)) (fun a => by
    match a with
    | ⟨0, _⟩ => rfl
    | ⟨1, _⟩ => rfl)).trans ?_
  exact eq_entry (in1 m c) _ rfl rfl

theorem at1 : ∀ t : Fin grid0.N, win0_1.index t 0 = 0 ∧ win0_1.index t 1 = 0 ∧ win0_1.index t 2 = t.val % 2 := by decide +kernel

theorem blk1 (t : Fin cfg0.N) (i : Fin 1024) (k : Fin 512) :
    ((iblk m c 1 t : Vec Ideal S1x1024x512 .bf16) (ix3 0 i k) : EReal) = entry (in1 m c) (i.val) (512 * (t.val % 2) + k.val) := by
  unfold iblk
  rw [View.read_apply]
  exact (host1 m c _).trans (congrArg₂ (entry (in1 m c)) (at_whole (at1 t).2.1) (at_block (at1 t).2.2))

theorem at2 : ∀ t : Fin grid0.N, win0_2.index t 0 = t.val / 2 ∧ win0_2.index t 1 = t.val % 2 := by decide +kernel

/-- What a point multiplies, at an entry. -/
theorem pay_apply (x0 : Vec Ideal S1024x1024 .f32) (x1 : Vec Ideal S1x1024x512 .bf16) (i : Fin 1024) (j : Fin 512) (f g : ℕ → EReal)
    (hf : ∀ k : Fin 1024, (x0 (ix2 i k) : EReal) = f k.val) (hg : ∀ k : Fin 1024, (x1 (ix3 0 k j) : EReal) = g k.val) :
    (k0_pay1 x0 x1 (ix2 i j) : EReal) = upTo f g 1024 := by
  unfold k0_pay1
  try simp only [shapeCast_self]
  exact nn_upTo (φ₁ := .bf16) (φ₂ := .bf16) x0 _ i j f g hf (fun k => (unbox_apply x1 _ k j).trans (hg k))

/-- The array after the run. -/
theorem arr : (dats m 0 c).arrAt 2 cfg0.N = prod (in0 m c) (in1 m c) := by
  refine (dats m 0 c).arrAt_eq_of_covers 2 (prod (in0 m c) (in1 m c)) (by decide +kernel) fun t _ y => ?_
  refine (cast_eq _ _).trans ((congrFun (after0_2 m c t) _).trans ?_)
  have e : (cfg0.win 2).xinj (cfg0.grid.coords t) y = ix2 (n0 := 1024) (n1 := 512) (y 0) (y 1) := by
    funext a; match a with
    | ⟨0, _⟩ => rfl
    | ⟨1, _⟩ => rfl
  rw [e]; frame_out
  refine (pay_apply _ _ _ _ (fun k => entry (in0 m c) (1024 * (t.val / 2) + (y 0).val) k) (fun k => entry (in1 m c) k (512 * (t.val % 2) + (y 1).val)) (fun k => blk0 m c t (y 0) k) (fun k => blk1 m c t k (y 1))).trans ?_
  exact congrArg₂ (fun a b : ℕ => upTo (fun k => entry (in0 m c) a k) (fun k => entry (in1 m c) k b) 1024)
    (at_block (at2 t).1).symm (at_block (at2 t).2).symm

end Kernel

theorem ref (x0 : (Mat 2048 1024).Idx → EReal) (x1 : (Mat 1024 1024).Idx → EReal) : val_main_v0 (F := Ideal) x0 x1 = prod x0 x1 := by
  funext y
  refine (val_main_v0_apply x0 x1 y).trans ((Finset.sum_congr rfl fun k _ => ?_).trans (upTo_fin _ _ 1024).symm)
  exact congrArg₂ (fun u v : EReal => u * v) (eq_entry x0 _ rfl rfl) (eq_entry x1 _ rfl rfl)

/-! ### The claims -/

theorem frame_p : Cert.quiescent_Proj := fun m ρ _ => Cert.Proj.Gen.frame m ρ
theorem frame_pi : Cert.quiescent_ProjIdeal := fun m ρ _ => Cert.ProjIdeal.Gen.frame m ρ
theorem frame_ri : Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

theorem preserves : Cert.preserves_Proj_ProjIdeal := trivial

/-- The kernel's array is the reference's. -/
theorem algebraic : Cert.algebraic_ProjIdeal_ProjRefIdeal := by
  intro m ρ m' ρ' _ hagree
  refine ⟨fun c => prod (in0 m c) (in1 m c), ?_, ?_⟩
  · exact (θ_run defs _ _).mono (fun r h c => ⟨(h c).1.trans (arr m c), (h c).2⟩) (Cert.ProjIdeal.Value.run_blocks (F := Ideal) m ρ)
  · refine (θ_run Cert.ProjRefIdeal.defs _ _).mono (fun r h c => ⟨(h c).1.trans ?_, (h c).2⟩) (Cert.ProjRefIdeal.Value.run (F := Ideal) m' ρ')
    refine (val_main_v0_eq _ _).trans ((ref _ _ ).trans ?_)
    obtain ⟨e0, e1⟩ := hagree c
    exact congrArg₂ prod e0 e1

end Cert.Proof.Proj

end
-- ==== Proof.GateDx.lean ====
/-
  The gradient through the gate of the per-layer embedding, added to the gradient that goes round it.
-/
module

public import proofs.«01_k».proof.Defs
public import proofs.«01_k».proof.Proof.Contract
public import proofs.«01_k».proof.Proof.Gen.GateDx.Frame
public import proofs.«01_k».proof.Proof.Gen.GateDxIdeal.Value
public import proofs.«01_k».proof.Proof.Gen.GateDxRefIdeal.Run
public import proofs.«01_k».proof.Proof.Gen.GateDxRefIdeal.Read
public import Idealize.ShloMosaic.Lib.StableHlo.RunRead
public import Idealize.ShloMosaic.Lib.Pipeline.ValueKit.Geometry
public import Idealize.ShloMosaic.Lib.Pipeline.ValueKit.Acc

@[expose] public section

set_option maxRecDepth 16384

noncomputable section

namespace Cert.Proof.GateDx

open Cert.GateDxIdeal Cert.GateDxIdeal.Gen Cert.GateDxRefIdeal.Read
open Idealize.ShloMosaic Idealize.ShloMosaic.TcCoe Idealize.SL.Sem Idealize.ShloMosaic.StableHlo Idealize.ShloMosaic.ValueIdx

/-- The result. -/
def prod (x0 : (Mat 2048 1024).Idx → EReal) (x1 : (Mat 1024 1024).Idx → EReal) (x2 : (Mat 2048 1024).Idx → EReal) : (Mat 2048 1024).Idx → EReal := fun y =>
  upTo (fun k => entry x0 ((y 0).val) k) (fun k => entry x1 ((y 1).val) k) 1024 + x2 y

section Kernel

variable (m : (ℓ : Loc nD τ sig) → Buf (Elt Ideal) ℓ) (c : Dev nD)

/-- The first argument. -/
abbrev in0 : (Mat 2048 1024).Idx → EReal := m ((c : Thread nD τ).loc main_arg0)
/-- The second argument. -/
abbrev in1 : (Mat 1024 1024).Idx → EReal := m ((c : Thread nD τ).loc main_arg1)
/-- The addend. -/
abbrev in2 : (Mat 2048 1024).Idx → EReal := m ((c : Thread nD τ).loc main_arg2)

/-! ### The staged blocks -/

theorem host0 (y : S2048x1024.Idx) : (V m c main_v0 y : EReal) = entry (in0 m c) (y 0).val (y 1).val := by
  rw [entry_idx]; unfold V; after_reads_simp; rfl

theorem at0 : ∀ t : Fin grid0.N, win0_0.index t 0 = t.val / 2 ∧ win0_0.index t 1 = 0 := by decide +kernel

theorem blk0 (t : Fin cfg0.N) (i : Fin 1024) (k : Fin 1024) :
    ((iblk m c 0 t : Vec Ideal S1024x1024 .bf16) (ix2 i k) : EReal) = entry (in0 m c) (1024 * (t.val / 2) + i.val) (k.val) := by
  unfold iblk
  rw [View.read_apply]
  exact (host0 m c _).trans (congrArg₂ (entry (in0 m c)) (at_block (at0 t).1) (at_whole (at0 t).2))

theorem host1 (y : S1x1024x1024.Idx) : (V m c main_v2 y : EReal) = entry (in1 m c) (y 1).val (y 2).val := by
  unfold V; after_reads_simp
  refine (broadcastInDim_apply _ _ _ y (ix2 (n0 := 1024) (n1 := 1024) (y 1) (y 2)) (fun a => by
    match a with
    | ⟨0, _⟩ => rfl
    | ⟨1, _⟩ => rfl)).trans ?_
  exact eq_entry (in1 m c) _ rfl rfl

theorem at1 : ∀ t : Fin grid0.N, win0_1.index t 0 = 0 ∧ win0_1.index t 1 = t.val % 2 ∧ win0_1.index t 2 = 0 := by decide +kernel

theorem blk1 (t : Fin cfg0.N) (i : Fin 512) (k : Fin 1024) :
    ((iblk m c 1 t : Vec Ideal S1x512x1024 .bf16) (ix3 0 i k) : EReal) = entry (in1 m c) (512 * (t.val % 2) + i.val) (k.val) := by
  unfold iblk
  rw [View.read_apply]
  exact (host1 m c _).trans (congrArg₂ (entry (in1 m c)) (at_block (at1 t).2.1) (at_whole (at1 t).2.2))

theorem at2 : ∀ t : Fin grid0.N, win0_2.index t 0 = t.val / 2 ∧ win0_2.index t 1 = t.val % 2 := by decide +kernel

theorem blk2 (t : Fin cfg0.N) (i : Fin 1024) (j : Fin 512) :
    ((iblk m c 2 t : Vec Ideal S1024x512 .f32) (ix2 i j) : EReal) = entry (in2 m c) (1024 * (t.val / 2) + i.val) (512 * (t.val % 2) + j.val) := by
  unfold iblk
  rw [View.read_apply]
  exact (congrFun (V_main_arg2 m c) _).trans (eq_entry (in2 m c) _ (at_block (at2 t).1) (at_block (at2 t).2))

theorem at3 : ∀ t : Fin grid0.N, win0_3.index t 0 = t.val / 2 ∧ win0_3.index t 1 = t.val % 2 := by decide +kernel

/-- What a point multiplies, at an entry. -/
theorem pay_apply (x0 : Vec Ideal S1024x1024 .bf16) (x1 : Vec Ideal S1x512x1024 .bf16) (x2 : Vec Ideal S1024x512 .f32) (i : Fin 1024) (j : Fin 512) (f g : ℕ → EReal)
    (hf : ∀ k : Fin 1024, (x0 (ix2 i k) : EReal) = f k.val) (hg : ∀ k : Fin 1024, (x1 (ix3 0 j k) : EReal) = g k.val) :
    (k0_pay1 x0 x1 x2 (ix2 i j) : EReal) = upTo f g 1024 + (x2 (ix2 i j) : EReal) := by
  unfold k0_pay1
  try simp only [shapeCast_self]
  exact congrArg (· + (x2 (ix2 i j) : EReal)) (nt_upTo (φ₁ := .bf16) (φ₂ := .bf16) x0 _ i j f g hf (fun k => (unbox_apply x1 _ j k).trans (hg k)))

/-- The array after the run. -/
theorem arr : (dats m 0 c).arrAt 3 cfg0.N = prod (in0 m c) (in1 m c) (in2 m c) := by
  refine (dats m 0 c).arrAt_eq_of_covers 3 (prod (in0 m c) (in1 m c) (in2 m c)) (by decide +kernel) fun t _ y => ?_
  refine (cast_eq _ _).trans ((congrFun (after0_3 m c t) _).trans ?_)
  have e : (cfg0.win 3).xinj (cfg0.grid.coords t) y = ix2 (n0 := 1024) (n1 := 512) (y 0) (y 1) := by
    funext a; match a with
    | ⟨0, _⟩ => rfl
    | ⟨1, _⟩ => rfl
  rw [e]; frame_out
  refine (pay_apply _ _ _ _ _ (fun k => entry (in0 m c) (1024 * (t.val / 2) + (y 0).val) k) (fun k => entry (in1 m c) (512 * (t.val % 2) + (y 1).val) k) (fun k => blk0 m c t (y 0) k) (fun k => blk1 m c t (y 1) k)).trans ?_
  refine congrArg₂ (fun u v : EReal => u + v)
    (congrArg₂ (fun a b : ℕ => upTo (fun k => entry (in0 m c) a k) (fun k => entry (in1 m c) b k) 1024) ?_ ?_)
    ((blk2 m c t (y 0) (y 1)).trans (eq_entry (in2 m c) _ ?_ ?_).symm)
  · show _ = win0_3.index t 0 * 1024 + 1 * (y 0).val
    rw [(at3 t).1]; omega
  · show _ = win0_3.index t 1 * 512 + 1 * (y 1).val
    rw [(at3 t).2]; omega
  · show win0_3.index t 0 * 1024 + 1 * (y 0).val = _
    rw [(at3 t).1]; omega
  · show win0_3.index t 1 * 512 + 1 * (y 1).val = _
    rw [(at3 t).2]; omega

end Kernel

theorem ref (x0 : (Mat 2048 1024).Idx → EReal) (x1 : (Mat 1024 1024).Idx → EReal) (x2 : (Mat 2048 1024).Idx → EReal) : val_main_v3 (F := Ideal) x0 x1 x2 = prod x0 x1 x2 := by
  funext y
  refine (val_main_v3_apply (F := Ideal) x0 x1 x2 y).trans ?_
  refine congrArg (fun u : EReal => u + x2 y) (a₂ := upTo (fun k => entry x0 ((y 0).val) k) (fun k => entry x1 ((y 1).val) k) 1024) ?_
  refine (val_main_v2_apply x0 x1 y).trans ((Finset.sum_congr rfl fun k _ => ?_).trans (upTo_fin _ _ 1024).symm)
  exact congrArg₂ (fun u v : EReal => u * v) (eq_entry x0 _ rfl rfl) (eq_entry x1 _ rfl rfl)

/-! ### The claims -/

theorem frame_p : Cert.quiescent_GateDx := fun m ρ _ => Cert.GateDx.Gen.frame m ρ
theorem frame_pi : Cert.quiescent_GateDxIdeal := fun m ρ _ => Cert.GateDxIdeal.Gen.frame m ρ
theorem frame_ri : Cert.quiescent_GateDxRefIdeal := fun m ρ _ =>
  (θ_run Cert.GateDxRefIdeal.defs _ _).mono (fun r h => ⟨fun c => (h c).2, sem_eq_zero_of_no_sems (by decide) r.2⟩)
    (Cert.GateDxRefIdeal.Value.run (F := Ideal) m ρ)

theorem preserves : Cert.preserves_GateDx_GateDxIdeal := trivial

/-- The kernel's array is the reference's. -/
theorem algebraic : Cert.algebraic_GateDxIdeal_GateDxRefIdeal := by
  intro m ρ m' ρ' _ hagree
  refine ⟨fun c => prod (in0 m c) (in1 m c) (in2 m c), ?_, ?_⟩
  · exact (θ_run defs _ _).mono (fun r h c => ⟨(h c).1.trans (arr m c), (h c).2⟩) (Cert.GateDxIdeal.Value.run_blocks (F := Ideal) m ρ)
  · refine (θ_run Cert.GateDxRefIdeal.defs _ _).mono (fun r h c => ⟨(h c).1.trans ?_, (h c).2⟩) (Cert.GateDxRefIdeal.Value.run (F := Ideal) m' ρ')
    refine (val_main_v3_eq _ _ _).trans ((ref _ _ _ ).trans ?_)
    obtain ⟨e0, e1, e2⟩ := hagree c
    rw [e0, e1, e2]

end Cert.Proof.GateDx

end
-- ==== Proof.FoxIn.lean ====
/-
  The forgetting attention's projection into q, k, v and the gates.
-/
module

public import proofs.«01_k».proof.Defs
public import proofs.«01_k».proof.Proof.Contract
public import proofs.«01_k».proof.Proof.Gen.FoxIn.Frame
public import proofs.«01_k».proof.Proof.Gen.FoxInIdeal.Value
public import proofs.«01_k».proof.Proof.Gen.FoxInRefIdeal.Run
public import proofs.«01_k».proof.Proof.Gen.FoxInRefIdeal.Read
public import Idealize.ShloMosaic.Lib.StableHlo.RunRead
public import Idealize.ShloMosaic.Lib.Pipeline.ValueKit.Geometry
public import Idealize.ShloMosaic.Lib.Pipeline.ValueKit.Acc

@[expose] public section

set_option maxRecDepth 16384

noncomputable section

namespace Cert.Proof.FoxIn

open Cert.FoxInIdeal Cert.FoxInIdeal.Gen Cert.FoxInRefIdeal.Read
open Idealize.ShloMosaic Idealize.ShloMosaic.TcCoe Idealize.SL.Sem Idealize.ShloMosaic.StableHlo Idealize.ShloMosaic.ValueIdx

/-- The result. -/
def prod (x0 : (Mat 2048 1024).Idx → EReal) (x1 : (Mat 1024 3200).Idx → EReal) : (Mat 2048 3200).Idx → EReal := fun y =>
  upTo (fun k => entry x0 ((y 0).val) k) (fun k => entry x1 k ((y 1).val)) 1024

section Kernel

variable (m : (ℓ : Loc nD τ sig) → Buf (Elt Ideal) ℓ) (c : Dev nD)

/-- The first argument. -/
abbrev in0 : (Mat 2048 1024).Idx → EReal := m ((c : Thread nD τ).loc main_arg0)
/-- The second argument. -/
abbrev in1 : (Mat 1024 3200).Idx → EReal := m ((c : Thread nD τ).loc main_arg1)

/-! ### The staged blocks -/

theorem host0 (y : S2048x1024.Idx) : (V m c main_v0 y : EReal) = entry (in0 m c) (y 0).val (y 1).val := by
  rw [entry_idx]; unfold V; after_reads_simp; rfl

theorem at0 : ∀ t : Fin grid0.N, win0_0.index t 0 = t.val / 5 ∧ win0_0.index t 1 = 0 := by decide +kernel

theorem blk0 (t : Fin cfg0.N) (i : Fin 1024) (k : Fin 1024) :
    ((iblk m c 0 t : Vec Ideal S1024x1024 .bf16) (ix2 i k) : EReal) = entry (in0 m c) (1024 * (t.val / 5) + i.val) (k.val) := by
  unfold iblk
  rw [View.read_apply]
  exact (host0 m c _).trans (congrArg₂ (entry (in0 m c)) (at_block (at0 t).1) (at_whole (at0 t).2))

theorem host1 (y : S1024x3200.Idx) : (V m c main_v1 y : EReal) = entry (in1 m c) (y 0).val (y 1).val := by
  rw [entry_idx]; unfold V; after_reads_simp; rfl

theorem at1 : ∀ t : Fin grid0.N, win0_1.index t 0 = 0 ∧ win0_1.index t 1 = t.val % 5 := by decide +kernel

theorem blk1 (t : Fin cfg0.N) (i : Fin 1024) (k : Fin 640) :
    ((iblk m c 1 t : Vec Ideal S1024x640 .bf16) (ix2 i k) : EReal) = entry (in1 m c) (i.val) (640 * (t.val % 5) + k.val) := by
  unfold iblk
  rw [View.read_apply]
  exact (host1 m c _).trans (congrArg₂ (entry (in1 m c)) (at_whole (at1 t).1) (at_block (at1 t).2))

theorem at2 : ∀ t : Fin grid0.N, win0_2.index t 0 = t.val / 5 ∧ win0_2.index t 1 = t.val % 5 := by decide +kernel

/-- What a point multiplies, at an entry. -/
theorem pay_apply (x0 : Vec Ideal S1024x1024 .bf16) (x1 : Vec Ideal S1024x640 .bf16) (i : Fin 1024) (j : Fin 640) (f g : ℕ → EReal)
    (hf : ∀ k : Fin 1024, (x0 (ix2 i k) : EReal) = f k.val) (hg : ∀ k : Fin 1024, (x1 (ix2 k j) : EReal) = g k.val) :
    (k0_pay1 x0 x1 (ix2 i j) : EReal) = upTo f g 1024 := by
  unfold k0_pay1
  try simp only [shapeCast_self]
  exact nn_upTo (φ₁ := .bf16) (φ₂ := .bf16) x0 _ i j f g hf hg

/-- The array after the run. -/
theorem arr : (dats m 0 c).arrAt 2 cfg0.N = prod (in0 m c) (in1 m c) := by
  refine (dats m 0 c).arrAt_eq_of_covers 2 (prod (in0 m c) (in1 m c)) (by decide +kernel) fun t _ y => ?_
  refine (cast_eq _ _).trans ((congrFun (after0_2 m c t) _).trans ?_)
  have e : (cfg0.win 2).xinj (cfg0.grid.coords t) y = ix2 (n0 := 1024) (n1 := 640) (y 0) (y 1) := by
    funext a; match a with
    | ⟨0, _⟩ => rfl
    | ⟨1, _⟩ => rfl
  rw [e]; frame_out
  refine (pay_apply _ _ _ _ (fun k => entry (in0 m c) (1024 * (t.val / 5) + (y 0).val) k) (fun k => entry (in1 m c) k (640 * (t.val % 5) + (y 1).val)) (fun k => blk0 m c t (y 0) k) (fun k => blk1 m c t k (y 1))).trans ?_
  exact congrArg₂ (fun a b : ℕ => upTo (fun k => entry (in0 m c) a k) (fun k => entry (in1 m c) k b) 1024)
    (at_block (at2 t).1).symm (at_block (at2 t).2).symm

end Kernel

theorem ref (x0 : (Mat 2048 1024).Idx → EReal) (x1 : (Mat 1024 3200).Idx → EReal) : val_main_v0 (F := Ideal) x0 x1 = prod x0 x1 := by
  funext y
  refine (val_main_v0_apply x0 x1 y).trans ((Finset.sum_congr rfl fun k _ => ?_).trans (upTo_fin _ _ 1024).symm)
  exact congrArg₂ (fun u v : EReal => u * v) (eq_entry x0 _ rfl rfl) (eq_entry x1 _ rfl rfl)

/-! ### The claims -/

theorem frame_p : Cert.quiescent_FoxIn := fun m ρ _ => Cert.FoxIn.Gen.frame m ρ
theorem frame_pi : Cert.quiescent_FoxInIdeal := fun m ρ _ => Cert.FoxInIdeal.Gen.frame m ρ
theorem frame_ri : Cert.quiescent_FoxInRefIdeal := fun m ρ _ =>
  (θ_run Cert.FoxInRefIdeal.defs _ _).mono (fun r h => ⟨fun c => (h c).2, sem_eq_zero_of_no_sems (by decide) r.2⟩)
    (Cert.FoxInRefIdeal.Value.run (F := Ideal) m ρ)

theorem preserves : Cert.preserves_FoxIn_FoxInIdeal := trivial

/-- The kernel's array is the reference's. -/
theorem algebraic : Cert.algebraic_FoxInIdeal_FoxInRefIdeal := by
  intro m ρ m' ρ' _ hagree
  refine ⟨fun c => prod (in0 m c) (in1 m c), ?_, ?_⟩
  · exact (θ_run defs _ _).mono (fun r h c => ⟨(h c).1.trans (arr m c), (h c).2⟩) (Cert.FoxInIdeal.Value.run_blocks (F := Ideal) m ρ)
  · refine (θ_run Cert.FoxInRefIdeal.defs _ _).mono (fun r h c => ⟨(h c).1.trans ?_, (h c).2⟩) (Cert.FoxInRefIdeal.Value.run (F := Ideal) m' ρ')
    refine (val_main_v0_eq _ _).trans ((ref _ _ ).trans ?_)
    obtain ⟨e0, e1⟩ := hagree c
    exact congrArg₂ prod e0 e1

end Cert.Proof.FoxIn

end
-- ==== Proof.FoxDw.lean ====
/-
  The gradient of the forgetting attention's projection matrix.
-/
module

public import proofs.«01_k».proof.Defs
public import proofs.«01_k».proof.Proof.Contract
public import proofs.«01_k».proof.Proof.Gen.FoxDw.Frame
public import proofs.«01_k».proof.Proof.Gen.FoxDwIdeal.Value
public import proofs.«01_k».proof.Proof.Gen.FoxDwRefIdeal.Run
public import proofs.«01_k».proof.Proof.Gen.FoxDwRefIdeal.Read
public import Idealize.ShloMosaic.Lib.StableHlo.RunRead
public import Idealize.ShloMosaic.Lib.Pipeline.ValueKit.Geometry
public import Idealize.ShloMosaic.Lib.Pipeline.ValueKit.Acc

@[expose] public section

set_option maxRecDepth 16384

noncomputable section

namespace Cert.Proof.FoxDw

open Cert.FoxDwIdeal Cert.FoxDwIdeal.Gen Cert.FoxDwRefIdeal.Read
open Idealize.ShloMosaic Idealize.ShloMosaic.TcCoe Idealize.SL.Sem Idealize.ShloMosaic.StableHlo Idealize.ShloMosaic.ValueIdx

/-- The result. -/
def prod (x0 : (Mat 2048 1024).Idx → EReal) (x1 : (Mat 2048 3200).Idx → EReal) : (Mat 1024 3200).Idx → EReal := fun y =>
  upTo (fun k => entry x0 k ((y 0).val)) (fun k => entry x1 k ((y 1).val)) 2048

section Kernel

variable (m : (ℓ : Loc nD τ sig) → Buf (Elt Ideal) ℓ) (c : Dev nD)

/-- The first argument. -/
abbrev in0 : (Mat 2048 1024).Idx → EReal := m ((c : Thread nD τ).loc main_arg0)
/-- The second argument. -/
abbrev in1 : (Mat 2048 3200).Idx → EReal := m ((c : Thread nD τ).loc main_arg1)

/-! ### The staged blocks -/

theorem host0 (y : S2048x1024.Idx) : (V m c main_v0 y : EReal) = entry (in0 m c) (y 0).val (y 1).val := by
  rw [entry_idx]; unfold V; after_reads_simp; rfl

theorem at0 : ∀ t : Fin grid0.N, win0_0.index t 0 = 0 ∧ win0_0.index t 1 = 0 := by decide +kernel

theorem blk0 (t : Fin cfg0.N) (i : Fin 2048) (k : Fin 1024) :
    ((iblk m c 0 t : Vec Ideal S2048x1024 .bf16) (ix2 i k) : EReal) = entry (in0 m c) (i.val) (k.val) := by
  unfold iblk
  rw [View.read_apply]
  exact (host0 m c _).trans (congrArg₂ (entry (in0 m c)) (at_whole (at0 t).1) (at_whole (at0 t).2))

theorem host1 (y : S2048x3200.Idx) : (V m c main_v1 y : EReal) = entry (in1 m c) (y 0).val (y 1).val := by
  rw [entry_idx]; unfold V; after_reads_simp; rfl

theorem at1 : ∀ t : Fin grid0.N, win0_1.index t 0 = 0 ∧ win0_1.index t 1 = t.val := by decide +kernel

theorem blk1 (t : Fin cfg0.N) (i : Fin 2048) (k : Fin 640) :
    ((iblk m c 1 t : Vec Ideal S2048x640 .bf16) (ix2 i k) : EReal) = entry (in1 m c) (i.val) (640 * (t.val) + k.val) := by
  unfold iblk
  rw [View.read_apply]
  exact (host1 m c _).trans (congrArg₂ (entry (in1 m c)) (at_whole (at1 t).1) (at_block (at1 t).2))

theorem at2 : ∀ t : Fin grid0.N, win0_2.index t 0 = 0 ∧ win0_2.index t 1 = t.val := by decide +kernel

/-- What a point multiplies, at an entry. -/
theorem pay_apply (x0 : Vec Ideal S2048x1024 .bf16) (x1 : Vec Ideal S2048x640 .bf16) (i : Fin 1024) (j : Fin 640) (f g : ℕ → EReal)
    (hf : ∀ k : Fin 2048, (x0 (ix2 k i) : EReal) = f k.val) (hg : ∀ k : Fin 2048, (x1 (ix2 k j) : EReal) = g k.val) :
    (k0_pay1 x0 x1 (ix2 i j) : EReal) = upTo f g 2048 := by
  unfold k0_pay1
  try simp only [shapeCast_self]
  exact tn_upTo (by decide) (φ₁ := .bf16) (φ₂ := .bf16) x0 _ i j f g hf hg

/-- The array after the run. -/
theorem arr : (dats m 0 c).arrAt 2 cfg0.N = prod (in0 m c) (in1 m c) := by
  refine (dats m 0 c).arrAt_eq_of_covers 2 (prod (in0 m c) (in1 m c)) (by decide +kernel) fun t _ y => ?_
  refine (cast_eq _ _).trans ((congrFun (after0_2 m c t) _).trans ?_)
  have e : (cfg0.win 2).xinj (cfg0.grid.coords t) y = ix2 (n0 := 1024) (n1 := 640) (y 0) (y 1) := by
    funext a; match a with
    | ⟨0, _⟩ => rfl
    | ⟨1, _⟩ => rfl
  rw [e]; frame_out
  refine (pay_apply _ _ _ _ (fun k => entry (in0 m c) k ((y 0).val)) (fun k => entry (in1 m c) k (640 * (t.val) + (y 1).val)) (fun k => blk0 m c t k (y 0)) (fun k => blk1 m c t k (y 1))).trans ?_
  exact congrArg₂ (fun a b : ℕ => upTo (fun k => entry (in0 m c) k a) (fun k => entry (in1 m c) k b) 2048)
    (at_whole (at2 t).1).symm (at_block (at2 t).2).symm

end Kernel

theorem ref (x0 : (Mat 2048 1024).Idx → EReal) (x1 : (Mat 2048 3200).Idx → EReal) : val_main_v4 (F := Ideal) x0 x1 = prod x0 x1 := by
  funext y
  refine (val_main_v3_apply (F := Ideal) x0 x1 y).trans ?_
  refine (val_main_v2_apply x0 x1 _).trans ((Finset.sum_congr rfl fun k _ => ?_).trans (upTo_fin _ _ 2048).symm)
  exact (congrArg₂ (fun u v : EReal => u * v) (eq_entry x1 _ rfl rfl) (eq_entry x0 _ rfl rfl)).trans (mul_comm _ _)

/-! ### The claims -/

theorem frame_p : Cert.quiescent_FoxDw := fun m ρ _ => Cert.FoxDw.Gen.frame m ρ
theorem frame_pi : Cert.quiescent_FoxDwIdeal := fun m ρ _ => Cert.FoxDwIdeal.Gen.frame m ρ
theorem frame_ri : Cert.quiescent_FoxDwRefIdeal := fun m ρ _ =>
  (θ_run Cert.FoxDwRefIdeal.defs _ _).mono (fun r h => ⟨fun c => (h c).2, sem_eq_zero_of_no_sems (by decide) r.2⟩)
    (Cert.FoxDwRefIdeal.Value.run (F := Ideal) m ρ)

theorem preserves : Cert.preserves_FoxDw_FoxDwIdeal := trivial

/-- The kernel's array is the reference's. -/
theorem algebraic : Cert.algebraic_FoxDwIdeal_FoxDwRefIdeal := by
  intro m ρ m' ρ' _ hagree
  refine ⟨fun c => prod (in0 m c) (in1 m c), ?_, ?_⟩
  · exact (θ_run defs _ _).mono (fun r h c => ⟨(h c).1.trans (arr m c), (h c).2⟩) (Cert.FoxDwIdeal.Value.run_blocks (F := Ideal) m ρ)
  · refine (θ_run Cert.FoxDwRefIdeal.defs _ _).mono (fun r h c => ⟨(h c).1.trans ?_, (h c).2⟩) (Cert.FoxDwRefIdeal.Value.run (F := Ideal) m' ρ')
    refine (val_main_v4_eq _ _).trans ((ref _ _ ).trans ?_)
    obtain ⟨e0, e1⟩ := hagree c
    exact congrArg₂ prod e0 e1

end Cert.Proof.FoxDw

end
-- ==== Proof.FoxDhn.lean ====
/-
  The gradient of the forgetting attention's input, contracted in five chunks of 640.
-/
module

public import proofs.«01_k».proof.Defs
public import proofs.«01_k».proof.Proof.Contract
public import proofs.«01_k».proof.Proof.Gen.FoxDhn.Frame
public import proofs.«01_k».proof.Proof.Gen.FoxDhnIdeal.Value
public import proofs.«01_k».proof.Proof.Gen.FoxDhnRefIdeal.Run
public import proofs.«01_k».proof.Proof.Gen.FoxDhnRefIdeal.Read
public import Idealize.ShloMosaic.Lib.StableHlo.RunRead
public import Idealize.ShloMosaic.Lib.Pipeline.ValueKit.Geometry
public import Idealize.ShloMosaic.Lib.Tactic

@[expose] public section

set_option maxRecDepth 16384

noncomputable section

namespace Cert.Proof.FoxDhn

open Cert.FoxDhnIdeal Cert.FoxDhnIdeal.Gen Cert.FoxDhnRefIdeal.Read
open Idealize.ShloMosaic Idealize.ShloMosaic.TcCoe Idealize.SL.Sem Idealize.ShloMosaic.StableHlo Idealize.ShloMosaic.ValueIdx

/-- The result. -/
def prod (x0 : (Mat 2048 3200).Idx → EReal) (x1 : (Mat 1024 3200).Idx → EReal) : (Mat 2048 1024).Idx → EReal := fun y =>
  upTo (fun k => entry x0 ((y 0).val) k) (fun k => entry x1 ((y 1).val) k) 3200

section Kernel

variable (m : (ℓ : Loc nD τ sig) → Buf (Elt Ideal) ℓ) (c : Dev nD)

/-- The first argument. -/
abbrev in0 : (Mat 2048 3200).Idx → EReal := m ((c : Thread nD τ).loc main_arg0)
/-- The second argument. -/
abbrev in1 : (Mat 1024 3200).Idx → EReal := m ((c : Thread nD τ).loc main_arg1)

/-! ### The staged blocks -/

theorem host0 (y : S2048x3200.Idx) : (V m c main_v0 y : EReal) = entry (in0 m c) (y 0).val (y 1).val := by
  rw [entry_idx]; unfold V; after_reads_simp; rfl

theorem at0 : ∀ t : Fin grid0.N, win0_0.index t 0 = t.val / 5 / 2 ∧ win0_0.index t 1 = t.val % 5 := by decide +kernel

theorem blk0 (t : Fin cfg0.N) (i : Fin 1024) (k : Fin 640) :
    ((iblk m c 0 t : Vec Ideal S1024x640 .bf16) (ix2 i k) : EReal) = entry (in0 m c) (1024 * (t.val / 5 / 2) + i.val) (640 * (t.val % 5) + k.val) := by
  unfold iblk
  rw [View.read_apply]
  exact (host0 m c _).trans (congrArg₂ (entry (in0 m c)) (at_block (at0 t).1) (at_block (at0 t).2))

theorem host1 (y : S1024x3200.Idx) : (V m c main_v1 y : EReal) = entry (in1 m c) (y 0).val (y 1).val := by
  rw [entry_idx]; unfold V; after_reads_simp; rfl

theorem at1 : ∀ t : Fin grid0.N, win0_1.index t 0 = t.val / 5 % 2 ∧ win0_1.index t 1 = t.val % 5 := by decide +kernel

theorem blk1 (t : Fin cfg0.N) (i : Fin 512) (k : Fin 640) :
    ((iblk m c 1 t : Vec Ideal S512x640 .bf16) (ix2 i k) : EReal) = entry (in1 m c) (512 * (t.val / 5 % 2) + i.val) (640 * (t.val % 5) + k.val) := by
  unfold iblk
  rw [View.read_apply]
  exact (host1 m c _).trans (congrArg₂ (entry (in1 m c)) (at_block (at1 t).1) (at_block (at1 t).2))

theorem at2 : ∀ t : Fin grid0.N, win0_2.index t 0 = t.val / 5 / 2 ∧ win0_2.index t 1 = t.val / 5 % 2 := by decide +kernel

/-- What a point multiplies, at an entry. -/
theorem pay_apply (x0 : Vec Ideal S1024x640 .bf16) (x1 : Vec Ideal S512x640 .bf16) (i : Fin 1024) (j : Fin 512) (f g : ℕ → EReal)
    (hf : ∀ k : Fin 640, (x0 (ix2 i k) : EReal) = f k.val) (hg : ∀ k : Fin 640, (x1 (ix2 j k) : EReal) = g k.val) :
    (k0_pay1 x0 x1 (ix2 i j) : EReal) = upTo f g 640 := by
  unfold k0_pay1
  try simp only [shapeCast_self]
  exact nt_upTo (φ₁ := .bf16) (φ₂ := .bf16) x0 _ i j f g hf hg

/-! ### What a point leaves -/

theorem carry_A (c : Dev nD) (i : grid0.Coords) (arg3 : Memref sig .tc .vmem S1024x640 .bf16) (harg3 : arg3.IsWhole) (arg4 : Memref sig .tc .vmem S512x640 .bf16) (harg4 : arg4.IsWhole) (arg5 : Memref sig .tc .vmem S1024x512 .f32) (harg5 : arg5.IsWhole) (arg6 : Memref sig .tc .vmem S1024x512 .f32) (harg6 : arg6.IsWhole) (hc0 : cond0_0 i) (hc1 : ¬cond0_1 i) (hc2 : ¬cond0_2 i)
    (x0 : Vec Ideal S1024x640 .bf16) (x1 : Vec Ideal S512x640 .bf16) :
    sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero (S := S1024x512) zero2]
  try unfold k0_pay2
  simp only [View.readAt_eq_ld, harg3.read_unread, harg4.read_unread, harg5.read_unread, harg6.read_unread, View.ld_unit_zero (S := S1024x640) zero2, View.ld_unit_zero (S := S512x640) zero2, View.ld_unit_zero (S := S1024x512) zero2, shapeCast_self]

theorem carry_B (c : Dev nD) (i : grid0.Coords) (arg3 : Memref sig .tc .vmem S1024x640 .bf16) (harg3 : arg3.IsWhole) (arg4 : Memref sig .tc .vmem S512x640 .bf16) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i) (hc2 : ¬cond0_2 i)
    (x0 : Vec Ideal S1024x640 .bf16) (x1 : Vec Ideal S512x640 .bf16) (xs0 : Vec Ideal S1024x512 .f32) :
    sout0_B_0 c i arg3 harg3 arg4 harg4 arg5 harg5 arg6 harg6 hc0 hc1 hc2 x0 x1 xs0 = addf xs0 (k0_pay1 x0 x1) := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  rw [View.canon_unit_zero (S := S1024x512) zero2]
  try unfold k0_pay3
  simp only [View.readAt_eq_ld, harg3.read_unread, harg4.read_unread, harg5.read_unread, harg6.read_unread, View.ld_unit_zero (S := S1024x640) zero2, View.ld_unit_zero (S := S512x640) zero2, View.ld_unit_zero (S := S1024x512) zero2, shapeCast_self]

theorem carry_C (c : Dev nD) (i : grid0.Coords) (arg3 : Memref sig .tc .vmem S1024x640 .bf16) (harg3 : arg3.IsWhole) (arg4 : Memref sig .tc .vmem S512x640 .bf16) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i) (hc2 : cond0_2 i)
    (x0 : Vec Ideal S1024x640 .bf16) (x1 : Vec Ideal S512x640 .bf16) (xs0 : Vec Ideal S1024x512 .f32) :
    sout0_C_0 c i arg3 harg3 arg4 harg4 arg5 harg5 arg6 harg6 hc0 hc1 hc2 x0 x1 xs0 = addf xs0 (k0_pay1 x0 x1) := by
  unfold sout0_C_0
  rw [View.read_writes_eq_canon _ _ _ (scover0_C_0 c i arg3 harg3 arg4 harg4 arg5 harg5 arg6 harg6 hc0 hc1 hc2 x0 x1 xs0)]
  unfold kernelRun0_C
  dsimp only
  sl_unfold_words
  rw [View.canon_unit_zero (S := S1024x512) zero2]
  try unfold k0_pay3
  simp only [View.readAt_eq_ld, harg3.read_unread, harg4.read_unread, harg5.read_unread, harg6.read_unread, View.ld_unit_zero (S := S1024x640) zero2, View.ld_unit_zero (S := S512x640) zero2, View.ld_unit_zero (S := S1024x512) zero2, shapeCast_self]

theorem out_last (c : Dev nD) (i : grid0.Coords) (arg3 : Memref sig .tc .vmem S1024x640 .bf16) (harg3 : arg3.IsWhole) (arg4 : Memref sig .tc .vmem S512x640 .bf16) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i) (hc2 : cond0_2 i)
    (x0 : Vec Ideal S1024x640 .bf16) (x1 : Vec Ideal S512x640 .bf16) (xs0 : Vec Ideal S1024x512 .f32) :
    out0_C_2 c i arg3 harg3 arg4 harg4 arg5 harg5 arg6 harg6 hc0 hc1 hc2 x0 x1 xs0 = addf xs0 (k0_pay1 x0 x1) := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero (S := S1024x512) zero2, View.readCov_unit_zero (S := S1024x512) _ zero2]
  try unfold k0_pay3
  simp only [View.readAt_eq_ld, harg3.read_unread, harg4.read_unread, harg5.read_unread, harg6.read_unread, View.ld_unit_zero (S := S1024x640) zero2, View.ld_unit_zero (S := S512x640) zero2, View.ld_unit_zero (S := S1024x512) zero2, shapeCast_self]

/-- The chunk a point multiplies. -/
theorem chunk (t : Fin cfg0.N) (i : Fin 1024) (j : Fin 512) : (k0_pay1 (iblk m c 0 t) (iblk m c 1 t) (ix2 i j) : EReal)
    = upTo (fun k => entry (in0 m c) (1024 * (t.val / 5 / 2) + i.val) (640 * (t.val % 5) + k)) (fun k => entry (in1 m c) (512 * (t.val / 5 % 2) + j.val) (640 * (t.val % 5) + k)) 640 :=
  pay_apply _ _ i j _ _ (fun k => blk0 m c t i k) (fun k => blk1 m c t j k)

theorem first_apply (t : Fin cfg0.N) (h : t.val % 5 = 0) (i : Fin 1024) (j : Fin 512) :
    ((outsAt0 m c t.val t.isLt).2 (ix2 i j) : EReal) = upTo (fun k => entry (in0 m c) (1024 * (t.val / 5 / 2) + i.val) k) (fun k => entry (in1 m c) (512 * (t.val / 5 % 2) + j.val) k) (640 * (t.val % 5 + 1)) := by
  rw [outsAt0_A m c t (by omega) (by omega) (by omega)]
  dsimp only
  rw [carry_A]
  refine (chunk m c t i j).trans ?_
  rw [h]
  simp only [Nat.mul_zero, Nat.zero_add, Nat.mul_one]

/-- A later point adds its chunk to what the point before left. -/
theorem step (t : Fin cfg0.N) (s : Vec Ideal S1024x512 .f32) (i : Fin 1024) (j : Fin 512)
    (hs : (s (ix2 i j) : EReal) = upTo (fun k => entry (in0 m c) (1024 * (t.val / 5 / 2) + i.val) k) (fun k => entry (in1 m c) (512 * (t.val / 5 % 2) + j.val) k) (640 * (t.val % 5))) :
    (addf s (k0_pay1 (iblk m c 0 t) (iblk m c 1 t)) (ix2 i j) : EReal) = upTo (fun k => entry (in0 m c) (1024 * (t.val / 5 / 2) + i.val) k) (fun k => entry (in1 m c) (512 * (t.val / 5 % 2) + j.val) k) (640 * (t.val % 5 + 1)) := by
  rw [Nat.mul_add, Nat.mul_one, upTo_add]
  exact congrArg₂ (fun a b : EReal => a + b) hs (chunk m c t i j)

theorem next_apply (t : Fin cfg0.N) (h : ¬t.val % 5 = 0) (i : Fin 1024) (j : Fin 512)
    (hs : ((outsAt0 m c (t.val - 1) (Nat.lt_of_le_of_lt (Nat.sub_le _ _) t.isLt)).2 (ix2 i j) : EReal) = upTo (fun k => entry (in0 m c) (1024 * (t.val / 5 / 2) + i.val) k) (fun k => entry (in1 m c) (512 * (t.val / 5 % 2) + j.val) k) (640 * (t.val % 5))) :
    ((outsAt0 m c t.val t.isLt).2 (ix2 i j) : EReal) = upTo (fun k => entry (in0 m c) (1024 * (t.val / 5 / 2) + i.val) k) (fun k => entry (in1 m c) (512 * (t.val / 5 % 2) + j.val) k) (640 * (t.val % 5 + 1)) := by
  by_cases hl : t.val % 5 = 4
  · rw [outsAt0_C m c t (by omega) (by omega) (by omega)]
    dsimp only
    rw [carry_C]
    exact step m c t _ i j hs
  · rw [outsAt0_B m c t (by omega) (by omega) (by omega)]
    dsimp only
    rw [carry_B]
    exact step m c t _ i j hs

/-- What is carried after a point: the sum of the chunks so far. -/
theorem carried (i : Fin 1024) (j : Fin 512) : ∀ (n : ℕ) (h : n < cfg0.N),
    ((outsAt0 m c n h).2 (ix2 i j) : EReal) = upTo (fun k => entry (in0 m c) (1024 * (n / 5 / 2) + i.val) k) (fun k => entry (in1 m c) (512 * (n / 5 % 2) + j.val) k) (640 * (n % 5 + 1))
  | 0, h => first_apply m c ⟨0, h⟩ (Nat.zero_mod _) i j
  | n + 1, h => by
    by_cases h0 : (n + 1) % 5 = 0
    · exact first_apply m c ⟨n + 1, h⟩ h0 i j
    · refine next_apply m c ⟨n + 1, h⟩ h0 i j ((carried i j n (by omega)).trans ?_)
      have e : n / 5 = (n + 1) / 5 := by omega
      have e' : n % 5 + 1 = (n + 1) % 5 := by omega
      dsimp only
      rw [e, e']

/-- What the last point of a block leaves in it. -/
theorem last_apply (t : Fin cfg0.N) (h : t.val % 5 = 4) (i : Fin 1024) (j : Fin 512) :
    ((outsAt0 m c t.val t.isLt).1 (ix2 i j) : EReal) = upTo (fun k => entry (in0 m c) (1024 * (t.val / 5 / 2) + i.val) k) (fun k => entry (in1 m c) (512 * (t.val / 5 % 2) + j.val) k) 3200 := by
  have hn : t.val - 1 < cfg0.N := Nat.lt_of_le_of_lt (Nat.sub_le _ _) t.isLt
  rw [outsAt0_C m c t (by omega) (by omega) (by omega)]
  dsimp only
  rw [out_last]
  have e : (t.val - 1) / 5 = t.val / 5 := by omega
  have e' : (t.val - 1) % 5 + 1 = t.val % 5 := by omega
  refine (step m c t _ i j ((carried m c i j (t.val - 1) hn).trans ?_)).trans ?_
  · rw [e, e']
  · rw [h]

/-- The array after the run. -/
theorem arr : (dats m 0 c).arrAt 2 cfg0.N = prod (in0 m c) (in1 m c) := by
  refine (dats m 0 c).arrAt_eq_of_covers 2 (prod (in0 m c) (in1 m c)) (by decide +kernel) fun t hf y => ?_
  refine (cast_eq _ _).trans ((congrFun (after0_2 m c t) _).trans ?_)
  have e : (cfg0.win 2).xinj (cfg0.grid.coords t) y = ix2 (n0 := 1024) (n1 := 512) (y 0) (y 1) := by
    funext a; match a with
    | ⟨0, _⟩ => rfl
    | ⟨1, _⟩ => rfl
  rw [e]
  refine (last_apply m c t ((flush0_2 t).mp hf) _ _).trans ?_
  exact congrArg₂ (fun a b : ℕ => upTo (fun k => entry (in0 m c) a k) (fun k => entry (in1 m c) b k) 3200)
    (at_block (at2 t).1).symm (at_block (at2 t).2).symm

end Kernel

theorem ref (x0 : (Mat 2048 3200).Idx → EReal) (x1 : (Mat 1024 3200).Idx → EReal) : val_main_v2 (F := Ideal) x0 x1 = prod x0 x1 := by
  funext y
  refine (val_main_v2_apply x0 x1 y).trans ((Finset.sum_congr rfl fun k _ => ?_).trans (upTo_fin _ _ 3200).symm)
  exact congrArg₂ (fun u v : EReal => u * v) (eq_entry x0 _ rfl rfl) (eq_entry x1 _ rfl rfl)

/-! ### The claims -/

theorem frame_p : Cert.quiescent_FoxDhn := fun m ρ _ => Cert.FoxDhn.Gen.frame m ρ
theorem frame_pi : Cert.quiescent_FoxDhnIdeal := fun m ρ _ => Cert.FoxDhnIdeal.Gen.frame m ρ
theorem frame_ri : Cert.quiescent_FoxDhnRefIdeal := fun m ρ _ =>
  (θ_run Cert.FoxDhnRefIdeal.defs _ _).mono (fun r h => ⟨fun c => (h c).2, sem_eq_zero_of_no_sems (by decide) r.2⟩)
    (Cert.FoxDhnRefIdeal.Value.run (F := Ideal) m ρ)

theorem preserves : Cert.preserves_FoxDhn_FoxDhnIdeal := trivial

/-- The kernel's array is the reference's. -/
theorem algebraic : Cert.algebraic_FoxDhnIdeal_FoxDhnRefIdeal := by
  intro m ρ m' ρ' _ hagree
  refine ⟨fun c => prod (in0 m c) (in1 m c), ?_, ?_⟩
  · exact (θ_run defs _ _).mono (fun r h c => ⟨(h c).1.trans (arr m c), (h c).2⟩) (Cert.FoxDhnIdeal.Value.run_blocks (F := Ideal) m ρ)
  · refine (θ_run Cert.FoxDhnRefIdeal.defs _ _).mono (fun r h c => ⟨(h c).1.trans ?_, (h c).2⟩) (Cert.FoxDhnRefIdeal.Value.run (F := Ideal) m' ρ')
    refine (val_main_v2_eq _ _).trans ((ref _ _ ).trans ?_)
    obtain ⟨e0, e1⟩ := hagree c
    exact congrArg₂ prod e0 e1

end Cert.Proof.FoxDhn

end
-- ==== Proof.MlaA.lean ====
/-
  The first projection of the latent attention: down to the ranks of q and of k and v, and the shared rotary key.
-/
module

public import proofs.«01_k».proof.Defs
public import proofs.«01_k».proof.Proof.Contract
public import proofs.«01_k».proof.Proof.Gen.MlaA.Frame
public import proofs.«01_k».proof.Proof.Gen.MlaAIdeal.Value
public import proofs.«01_k».proof.Proof.Gen.MlaARefIdeal.Run
public import proofs.«01_k».proof.Proof.Gen.MlaARefIdeal.Read
public import Idealize.ShloMosaic.Lib.StableHlo.RunRead
public import Idealize.ShloMosaic.Lib.Pipeline.ValueKit.Geometry
public import Idealize.ShloMosaic.Lib.Pipeline.ValueKit.Acc

@[expose] public section

set_option maxRecDepth 16384

noncomputable section

namespace Cert.Proof.MlaA

open Cert.MlaAIdeal Cert.MlaAIdeal.Gen Cert.MlaARefIdeal.Read
open Idealize.ShloMosaic Idealize.ShloMosaic.TcCoe Idealize.SL.Sem Idealize.ShloMosaic.StableHlo Idealize.ShloMosaic.ValueIdx

/-- The result. -/
def prod (x0 : (Mat 2048 1024).Idx → EReal) (x1 : (Mat 1024 768).Idx → EReal) : (Mat 2048 768).Idx → EReal := fun y =>
  upTo (fun k => entry x0 ((y 0).val) k) (fun k => entry x1 k ((y 1).val)) 1024

section Kernel

variable (m : (ℓ : Loc nD τ sig) → Buf (Elt Ideal) ℓ) (c : Dev nD)

/-- The first argument. -/
abbrev in0 : (Mat 2048 1024).Idx → EReal := m ((c : Thread nD τ).loc main_arg0)
/-- The second argument. -/
abbrev in1 : (Mat 1024 768).Idx → EReal := m ((c : Thread nD τ).loc main_arg1)

/-! ### The staged blocks -/

theorem host0 (y : S2048x1024.Idx) : (V m c main_v0 y : EReal) = entry (in0 m c) (y 0).val (y 1).val := by
  rw [entry_idx]; unfold V; after_reads_simp; rfl

theorem at0 : ∀ t : Fin grid0.N, win0_0.index t 0 = t.val ∧ win0_0.index t 1 = 0 := by decide +kernel

theorem blk0 (t : Fin cfg0.N) (i : Fin 1024) (k : Fin 1024) :
    ((iblk m c 0 t : Vec Ideal S1024x1024 .bf16) (ix2 i k) : EReal) = entry (in0 m c) (1024 * (t.val) + i.val) (k.val) := by
  unfold iblk
  rw [View.read_apply]
  exact (host0 m c _).trans (congrArg₂ (entry (in0 m c)) (at_block (at0 t).1) (at_whole (at0 t).2))

theorem host1 (y : S1024x768.Idx) : (V m c main_v1 y : EReal) = entry (in1 m c) (y 0).val (y 1).val := by
  rw [entry_idx]; unfold V; after_reads_simp; rfl

theorem at1 : ∀ t : Fin grid0.N, win0_1.index t 0 = 0 ∧ win0_1.index t 1 = 0 := by decide +kernel

theorem blk1 (t : Fin cfg0.N) (i : Fin 1024) (k : Fin 768) :
    ((iblk m c 1 t : Vec Ideal S1024x768 .bf16) (ix2 i k) : EReal) = entry (in1 m c) (i.val) (k.val) := by
  unfold iblk
  rw [View.read_apply]
  exact (host1 m c _).trans (congrArg₂ (entry (in1 m c)) (at_whole (at1 t).1) (at_whole (at1 t).2))

theorem at2 : ∀ t : Fin grid0.N, win0_2.index t 0 = t.val ∧ win0_2.index t 1 = 0 := by decide +kernel

/-- What a point multiplies, at an entry. -/
theorem pay_apply (x0 : Vec Ideal S1024x1024 .bf16) (x1 : Vec Ideal S1024x768 .bf16) (i : Fin 1024) (j : Fin 768) (f g : ℕ → EReal)
    (hf : ∀ k : Fin 1024, (x0 (ix2 i k) : EReal) = f k.val) (hg : ∀ k : Fin 1024, (x1 (ix2 k j) : EReal) = g k.val) :
    (k0_pay1 x0 x1 (ix2 i j) : EReal) = upTo f g 1024 := by
  unfold k0_pay1
  try simp only [shapeCast_self]
  exact nn_upTo (φ₁ := .bf16) (φ₂ := .bf16) x0 _ i j f g hf hg

/-- The array after the run. -/
theorem arr : (dats m 0 c).arrAt 2 cfg0.N = prod (in0 m c) (in1 m c) := by
  refine (dats m 0 c).arrAt_eq_of_covers 2 (prod (in0 m c) (in1 m c)) (by decide +kernel) fun t _ y => ?_
  refine (cast_eq _ _).trans ((congrFun (after0_2 m c t) _).trans ?_)
  have e : (cfg0.win 2).xinj (cfg0.grid.coords t) y = ix2 (n0 := 1024) (n1 := 768) (y 0) (y 1) := by
    funext a; match a with
    | ⟨0, _⟩ => rfl
    | ⟨1, _⟩ => rfl
  rw [e]; frame_out
  refine (pay_apply _ _ _ _ (fun k => entry (in0 m c) (1024 * (t.val) + (y 0).val) k) (fun k => entry (in1 m c) k ((y 1).val)) (fun k => blk0 m c t (y 0) k) (fun k => blk1 m c t k (y 1))).trans ?_
  exact congrArg₂ (fun a b : ℕ => upTo (fun k => entry (in0 m c) a k) (fun k => entry (in1 m c) k b) 1024)
    (at_block (at2 t).1).symm (at_whole (at2 t).2).symm

end Kernel

theorem ref (x0 : (Mat 2048 1024).Idx → EReal) (x1 : (Mat 1024 768).Idx → EReal) : val_main_v0 (F := Ideal) x0 x1 = prod x0 x1 := by
  funext y
  refine (val_main_v0_apply x0 x1 y).trans ((Finset.sum_congr rfl fun k _ => ?_).trans (upTo_fin _ _ 1024).symm)
  exact congrArg₂ (fun u v : EReal => u * v) (eq_entry x0 _ rfl rfl) (eq_entry x1 _ rfl rfl)

/-! ### The claims -/

theorem frame_p : Cert.quiescent_MlaA := fun m ρ _ => Cert.MlaA.Gen.frame m ρ
theorem frame_pi : Cert.quiescent_MlaAIdeal := fun m ρ _ => Cert.MlaAIdeal.Gen.frame m ρ
theorem frame_ri : Cert.quiescent_MlaARefIdeal := fun m ρ _ =>
  (θ_run Cert.MlaARefIdeal.defs _ _).mono (fun r h => ⟨fun c => (h c).2, sem_eq_zero_of_no_sems (by decide) r.2⟩)
    (Cert.MlaARefIdeal.Value.run (F := Ideal) m ρ)

theorem preserves : Cert.preserves_MlaA_MlaAIdeal := trivial

/-- The kernel's array is the reference's. -/
theorem algebraic : Cert.algebraic_MlaAIdeal_MlaARefIdeal := by
  intro m ρ m' ρ' _ hagree
  refine ⟨fun c => prod (in0 m c) (in1 m c), ?_, ?_⟩
  · exact (θ_run defs _ _).mono (fun r h c => ⟨(h c).1.trans (arr m c), (h c).2⟩) (Cert.MlaAIdeal.Value.run_blocks (F := Ideal) m ρ)
  · refine (θ_run Cert.MlaARefIdeal.defs _ _).mono (fun r h c => ⟨(h c).1.trans ?_, (h c).2⟩) (Cert.MlaARefIdeal.Value.run (F := Ideal) m' ρ')
    refine (val_main_v0_eq _ _).trans ((ref _ _ ).trans ?_)
    obtain ⟨e0, e1⟩ := hagree c
    exact congrArg₂ prod e0 e1

end Cert.Proof.MlaA

end
-- ==== Proof.MlaUq.lean ====
/-
  The latent attention's queries, up from their rank.
-/
module

public import proofs.«01_k».proof.Defs
public import proofs.«01_k».proof.Proof.Contract
public import proofs.«01_k».proof.Proof.Gen.MlaUq.Frame
public import proofs.«01_k».proof.Proof.Gen.MlaUqIdeal.Value
public import proofs.«01_k».proof.Proof.Gen.MlaUqRefIdeal.Run
public import proofs.«01_k».proof.Proof.Gen.MlaUqRefIdeal.Read
public import Idealize.ShloMosaic.Lib.StableHlo.RunRead
public import Idealize.ShloMosaic.Lib.Pipeline.ValueKit.Geometry
public import Idealize.ShloMosaic.Lib.Pipeline.ValueKit.Acc

@[expose] public section

set_option maxRecDepth 16384

noncomputable section

namespace Cert.Proof.MlaUq

open Cert.MlaUqIdeal Cert.MlaUqIdeal.Gen Cert.MlaUqRefIdeal.Read
open Idealize.ShloMosaic Idealize.ShloMosaic.TcCoe Idealize.SL.Sem Idealize.ShloMosaic.StableHlo Idealize.ShloMosaic.ValueIdx

/-- The result. -/
def prod (x0 : (Mat 2048 384).Idx → EReal) (x1 : (Mat 384 2048).Idx → EReal) : (Mat 2048 2048).Idx → EReal := fun y =>
  upTo (fun k => entry x0 ((y 0).val) k) (fun k => entry x1 k ((y 1).val)) 384

section Kernel

variable (m : (ℓ : Loc nD τ sig) → Buf (Elt Ideal) ℓ) (c : Dev nD)

/-- The first argument. -/
abbrev in0 : (Mat 2048 384).Idx → EReal := m ((c : Thread nD τ).loc main_arg0)
/-- The second argument. -/
abbrev in1 : (Mat 384 2048).Idx → EReal := m ((c : Thread nD τ).loc main_arg1)

/-! ### The staged blocks -/

theorem host0 (y : S2048x384.Idx) : (V m c main_v0 y : EReal) = entry (in0 m c) (y 0).val (y 1).val := by
  rw [entry_idx]; unfold V; after_reads_simp; rfl

theorem at0 : ∀ t : Fin grid0.N, win0_0.index t 0 = t.val / 4 ∧ win0_0.index t 1 = 0 := by decide +kernel

theorem blk0 (t : Fin cfg0.N) (i : Fin 1024) (k : Fin 384) :
    ((iblk m c 0 t : Vec Ideal S1024x384 .bf16) (ix2 i k) : EReal) = entry (in0 m c) (1024 * (t.val / 4) + i.val) (k.val) := by
  unfold iblk
  rw [View.read_apply]
  exact (host0 m c _).trans (congrArg₂ (entry (in0 m c)) (at_block (at0 t).1) (at_whole (at0 t).2))

theorem host1 (y : S384x2048.Idx) : (V m c main_v1 y : EReal) = entry (in1 m c) (y 0).val (y 1).val := by
  rw [entry_idx]; unfold V; after_reads_simp; rfl

theorem at1 : ∀ t : Fin grid0.N, win0_1.index t 0 = 0 ∧ win0_1.index t 1 = t.val % 4 := by decide +kernel

theorem blk1 (t : Fin cfg0.N) (i : Fin 384) (k : Fin 512) :
    ((iblk m c 1 t : Vec Ideal S384x512 .bf16) (ix2 i k) : EReal) = entry (in1 m c) (i.val) (512 * (t.val % 4) + k.val) := by
  unfold iblk
  rw [View.read_apply]
  exact (host1 m c _).trans (congrArg₂ (entry (in1 m c)) (at_whole (at1 t).1) (at_block (at1 t).2))

theorem at2 : ∀ t : Fin grid0.N, win0_2.index t 0 = t.val / 4 ∧ win0_2.index t 1 = t.val % 4 := by decide +kernel

/-- What a point multiplies, at an entry. -/
theorem pay_apply (x0 : Vec Ideal S1024x384 .bf16) (x1 : Vec Ideal S384x512 .bf16) (i : Fin 1024) (j : Fin 512) (f g : ℕ → EReal)
    (hf : ∀ k : Fin 384, (x0 (ix2 i k) : EReal) = f k.val) (hg : ∀ k : Fin 384, (x1 (ix2 k j) : EReal) = g k.val) :
    (k0_pay1 x0 x1 (ix2 i j) : EReal) = upTo f g 384 := by
  unfold k0_pay1
  try simp only [shapeCast_self]
  exact nn_upTo (φ₁ := .bf16) (φ₂ := .bf16) x0 _ i j f g hf hg

/-- The array after the run. -/
theorem arr : (dats m 0 c).arrAt 2 cfg0.N = prod (in0 m c) (in1 m c) := by
  refine (dats m 0 c).arrAt_eq_of_covers 2 (prod (in0 m c) (in1 m c)) (by decide +kernel) fun t _ y => ?_
  refine (cast_eq _ _).trans ((congrFun (after0_2 m c t) _).trans ?_)
  have e : (cfg0.win 2).xinj (cfg0.grid.coords t) y = ix2 (n0 := 1024) (n1 := 512) (y 0) (y 1) := by
    funext a; match a with
    | ⟨0, _⟩ => rfl
    | ⟨1, _⟩ => rfl
  rw [e]; frame_out
  refine (pay_apply _ _ _ _ (fun k => entry (in0 m c) (1024 * (t.val / 4) + (y 0).val) k) (fun k => entry (in1 m c) k (512 * (t.val % 4) + (y 1).val)) (fun k => blk0 m c t (y 0) k) (fun k => blk1 m c t k (y 1))).trans ?_
  exact congrArg₂ (fun a b : ℕ => upTo (fun k => entry (in0 m c) a k) (fun k => entry (in1 m c) k b) 384)
    (at_block (at2 t).1).symm (at_block (at2 t).2).symm

end Kernel

theorem ref (x0 : (Mat 2048 384).Idx → EReal) (x1 : (Mat 384 2048).Idx → EReal) : val_main_v0 (F := Ideal) x0 x1 = prod x0 x1 := by
  funext y
  refine (val_main_v0_apply x0 x1 y).trans ((Finset.sum_congr rfl fun k _ => ?_).trans (upTo_fin _ _ 384).symm)
  exact congrArg₂ (fun u v : EReal => u * v) (eq_entry x0 _ rfl rfl) (eq_entry x1 _ rfl rfl)

/-! ### The claims -/

theorem frame_p : Cert.quiescent_MlaUq := fun m ρ _ => Cert.MlaUq.Gen.frame m ρ
theorem frame_pi : Cert.quiescent_MlaUqIdeal := fun m ρ _ => Cert.MlaUqIdeal.Gen.frame m ρ
theorem frame_ri : Cert.quiescent_MlaUqRefIdeal := fun m ρ _ =>
  (θ_run Cert.MlaUqRefIdeal.defs _ _).mono (fun r h => ⟨fun c => (h c).2, sem_eq_zero_of_no_sems (by decide) r.2⟩)
    (Cert.MlaUqRefIdeal.Value.run (F := Ideal) m ρ)

theorem preserves : Cert.preserves_MlaUq_MlaUqIdeal := trivial

/-- The kernel's array is the reference's. -/
theorem algebraic : Cert.algebraic_MlaUqIdeal_MlaUqRefIdeal := by
  intro m ρ m' ρ' _ hagree
  refine ⟨fun c => prod (in0 m c) (in1 m c), ?_, ?_⟩
  · exact (θ_run defs _ _).mono (fun r h c => ⟨(h c).1.trans (arr m c), (h c).2⟩) (Cert.MlaUqIdeal.Value.run_blocks (F := Ideal) m ρ)
  · refine (θ_run Cert.MlaUqRefIdeal.defs _ _).mono (fun r h c => ⟨(h c).1.trans ?_, (h c).2⟩) (Cert.MlaUqRefIdeal.Value.run (F := Ideal) m' ρ')
    refine (val_main_v0_eq _ _).trans ((ref _ _ ).trans ?_)
    obtain ⟨e0, e1⟩ := hagree c
    exact congrArg₂ prod e0 e1

end Cert.Proof.MlaUq

end
-- ==== Proof.MlaUkv.lean ====
/-
  The latent attention's keys and values, up from their rank.
-/
module

public import proofs.«01_k».proof.Defs
public import proofs.«01_k».proof.Proof.Contract
public import proofs.«01_k».proof.Proof.Gen.MlaUkv.Frame
public import proofs.«01_k».proof.Proof.Gen.MlaUkvIdeal.Value
public import proofs.«01_k».proof.Proof.Gen.MlaUkvRefIdeal.Run
public import proofs.«01_k».proof.Proof.Gen.MlaUkvRefIdeal.Read
public import Idealize.ShloMosaic.Lib.StableHlo.RunRead
public import Idealize.ShloMosaic.Lib.Pipeline.ValueKit.Geometry
public import Idealize.ShloMosaic.Lib.Pipeline.ValueKit.Acc

@[expose] public section

set_option maxRecDepth 16384

noncomputable section

namespace Cert.Proof.MlaUkv

open Cert.MlaUkvIdeal Cert.MlaUkvIdeal.Gen Cert.MlaUkvRefIdeal.Read
open Idealize.ShloMosaic Idealize.ShloMosaic.TcCoe Idealize.SL.Sem Idealize.ShloMosaic.StableHlo Idealize.ShloMosaic.ValueIdx

/-- The result. -/
def prod (x0 : (Mat 2048 256).Idx → EReal) (x1 : (Mat 256 3072).Idx → EReal) : (Mat 2048 3072).Idx → EReal := fun y =>
  upTo (fun k => entry x0 ((y 0).val) k) (fun k => entry x1 k ((y 1).val)) 256

section Kernel

variable (m : (ℓ : Loc nD τ sig) → Buf (Elt Ideal) ℓ) (c : Dev nD)

/-- The first argument. -/
abbrev in0 : (Mat 2048 256).Idx → EReal := m ((c : Thread nD τ).loc main_arg0)
/-- The second argument. -/
abbrev in1 : (Mat 256 3072).Idx → EReal := m ((c : Thread nD τ).loc main_arg1)

/-! ### The staged blocks -/

theorem host0 (y : S2048x256.Idx) : (V m c main_v0 y : EReal) = entry (in0 m c) (y 0).val (y 1).val := by
  rw [entry_idx]; unfold V; after_reads_simp; rfl

theorem at0 : ∀ t : Fin grid0.N, win0_0.index t 0 = t.val / 6 ∧ win0_0.index t 1 = 0 := by decide +kernel

theorem blk0 (t : Fin cfg0.N) (i : Fin 1024) (k : Fin 256) :
    ((iblk m c 0 t : Vec Ideal S1024x256 .bf16) (ix2 i k) : EReal) = entry (in0 m c) (1024 * (t.val / 6) + i.val) (k.val) := by
  unfold iblk
  rw [View.read_apply]
  exact (host0 m c _).trans (congrArg₂ (entry (in0 m c)) (at_block (at0 t).1) (at_whole (at0 t).2))

theorem host1 (y : S256x3072.Idx) : (V m c main_v1 y : EReal) = entry (in1 m c) (y 0).val (y 1).val := by
  rw [entry_idx]; unfold V; after_reads_simp; rfl

theorem at1 : ∀ t : Fin grid0.N, win0_1.index t 0 = 0 ∧ win0_1.index t 1 = t.val % 6 := by decide +kernel

theorem blk1 (t : Fin cfg0.N) (i : Fin 256) (k : Fin 512) :
    ((iblk m c 1 t : Vec Ideal S256x512 .bf16) (ix2 i k) : EReal) = entry (in1 m c) (i.val) (512 * (t.val % 6) + k.val) := by
  unfold iblk
  rw [View.read_apply]
  exact (host1 m c _).trans (congrArg₂ (entry (in1 m c)) (at_whole (at1 t).1) (at_block (at1 t).2))

theorem at2 : ∀ t : Fin grid0.N, win0_2.index t 0 = t.val / 6 ∧ win0_2.index t 1 = t.val % 6 := by decide +kernel

/-- What a point multiplies, at an entry. -/
theorem pay_apply (x0 : Vec Ideal S1024x256 .bf16) (x1 : Vec Ideal S256x512 .bf16) (i : Fin 1024) (j : Fin 512) (f g : ℕ → EReal)
    (hf : ∀ k : Fin 256, (x0 (ix2 i k) : EReal) = f k.val) (hg : ∀ k : Fin 256, (x1 (ix2 k j) : EReal) = g k.val) :
    (k0_pay1 x0 x1 (ix2 i j) : EReal) = upTo f g 256 := by
  unfold k0_pay1
  try simp only [shapeCast_self]
  exact nn_upTo (φ₁ := .bf16) (φ₂ := .bf16) x0 _ i j f g hf hg

/-- The array after the run. -/
theorem arr : (dats m 0 c).arrAt 2 cfg0.N = prod (in0 m c) (in1 m c) := by
  refine (dats m 0 c).arrAt_eq_of_covers 2 (prod (in0 m c) (in1 m c)) (by decide +kernel) fun t _ y => ?_
  refine (cast_eq _ _).trans ((congrFun (after0_2 m c t) _).trans ?_)
  have e : (cfg0.win 2).xinj (cfg0.grid.coords t) y = ix2 (n0 := 1024) (n1 := 512) (y 0) (y 1) := by
    funext a; match a with
    | ⟨0, _⟩ => rfl
    | ⟨1, _⟩ => rfl
  rw [e]; frame_out
  refine (pay_apply _ _ _ _ (fun k => entry (in0 m c) (1024 * (t.val / 6) + (y 0).val) k) (fun k => entry (in1 m c) k (512 * (t.val % 6) + (y 1).val)) (fun k => blk0 m c t (y 0) k) (fun k => blk1 m c t k (y 1))).trans ?_
  exact congrArg₂ (fun a b : ℕ => upTo (fun k => entry (in0 m c) a k) (fun k => entry (in1 m c) k b) 256)
    (at_block (at2 t).1).symm (at_block (at2 t).2).symm

end Kernel

theorem ref (x0 : (Mat 2048 256).Idx → EReal) (x1 : (Mat 256 3072).Idx → EReal) : val_main_v0 (F := Ideal) x0 x1 = prod x0 x1 := by
  funext y
  refine (val_main_v0_apply x0 x1 y).trans ((Finset.sum_congr rfl fun k _ => ?_).trans (upTo_fin _ _ 256).symm)
  exact congrArg₂ (fun u v : EReal => u * v) (eq_entry x0 _ rfl rfl) (eq_entry x1 _ rfl rfl)

/-! ### The claims -/

theorem frame_p : Cert.quiescent_MlaUkv := fun m ρ _ => Cert.MlaUkv.Gen.frame m ρ
theorem frame_pi : Cert.quiescent_MlaUkvIdeal := fun m ρ _ => Cert.MlaUkvIdeal.Gen.frame m ρ
theorem frame_ri : Cert.quiescent_MlaUkvRefIdeal := fun m ρ _ =>
  (θ_run Cert.MlaUkvRefIdeal.defs _ _).mono (fun r h => ⟨fun c => (h c).2, sem_eq_zero_of_no_sems (by decide) r.2⟩)
    (Cert.MlaUkvRefIdeal.Value.run (F := Ideal) m ρ)

theorem preserves : Cert.preserves_MlaUkv_MlaUkvIdeal := trivial

/-- The kernel's array is the reference's. -/
theorem algebraic : Cert.algebraic_MlaUkvIdeal_MlaUkvRefIdeal := by
  intro m ρ m' ρ' _ hagree
  refine ⟨fun c => prod (in0 m c) (in1 m c), ?_, ?_⟩
  · exact (θ_run defs _ _).mono (fun r h c => ⟨(h c).1.trans (arr m c), (h c).2⟩) (Cert.MlaUkvIdeal.Value.run_blocks (F := Ideal) m ρ)
  · refine (θ_run Cert.MlaUkvRefIdeal.defs _ _).mono (fun r h c => ⟨(h c).1.trans ?_, (h c).2⟩) (Cert.MlaUkvRefIdeal.Value.run (F := Ideal) m' ρ')
    refine (val_main_v0_eq _ _).trans ((ref _ _ ).trans ?_)
    obtain ⟨e0, e1⟩ := hagree c
    exact congrArg₂ prod e0 e1

end Cert.Proof.MlaUkv

end
-- ==== Proof.MlaDuq.lean ====
/-
  The gradient of the matrix that makes the latent attention's queries.
-/
module

public import proofs.«01_k».proof.Defs
public import proofs.«01_k».proof.Proof.Contract
public import proofs.«01_k».proof.Proof.Gen.MlaDuq.Frame
public import proofs.«01_k».proof.Proof.Gen.MlaDuqIdeal.Value
public import proofs.«01_k».proof.Proof.Gen.MlaDuqRefIdeal.Run
public import proofs.«01_k».proof.Proof.Gen.MlaDuqRefIdeal.Read
public import Idealize.ShloMosaic.Lib.StableHlo.RunRead
public import Idealize.ShloMosaic.Lib.Pipeline.ValueKit.Geometry
public import Idealize.ShloMosaic.Lib.Pipeline.ValueKit.Acc

@[expose] public section

set_option maxRecDepth 16384

noncomputable section

namespace Cert.Proof.MlaDuq

open Cert.MlaDuqIdeal Cert.MlaDuqIdeal.Gen Cert.MlaDuqRefIdeal.Read
open Idealize.ShloMosaic Idealize.ShloMosaic.TcCoe Idealize.SL.Sem Idealize.ShloMosaic.StableHlo Idealize.ShloMosaic.ValueIdx

/-- The result. -/
def prod (x0 : (Mat 2048 384).Idx → EReal) (x1 : (Mat 2048 2048).Idx → EReal) : (Mat 384 2048).Idx → EReal := fun y =>
  upTo (fun k => entry x0 k ((y 0).val)) (fun k => entry x1 k ((y 1).val)) 2048

section Kernel

variable (m : (ℓ : Loc nD τ sig) → Buf (Elt Ideal) ℓ) (c : Dev nD)

/-- The first argument. -/
abbrev in0 : (Mat 2048 384).Idx → EReal := m ((c : Thread nD τ).loc main_arg0)
/-- The second argument. -/
abbrev in1 : (Mat 2048 2048).Idx → EReal := m ((c : Thread nD τ).loc main_arg1)

/-! ### The staged blocks -/

theorem host0 (y : S2048x384.Idx) : (V m c main_v0 y : EReal) = entry (in0 m c) (y 0).val (y 1).val := by
  rw [entry_idx]; unfold V; after_reads_simp; rfl

theorem at0 : ∀ t : Fin grid0.N, win0_0.index t 0 = 0 ∧ win0_0.index t 1 = 0 := by decide +kernel

theorem blk0 (t : Fin cfg0.N) (i : Fin 2048) (k : Fin 384) :
    ((iblk m c 0 t : Vec Ideal S2048x384 .bf16) (ix2 i k) : EReal) = entry (in0 m c) (i.val) (k.val) := by
  unfold iblk
  rw [View.read_apply]
  exact (host0 m c _).trans (congrArg₂ (entry (in0 m c)) (at_whole (at0 t).1) (at_whole (at0 t).2))

theorem host1 (y : S2048x2048.Idx) : (V m c main_v1 y : EReal) = entry (in1 m c) (y 0).val (y 1).val := by
  rw [entry_idx]; unfold V; after_reads_simp; rfl

theorem at1 : ∀ t : Fin grid0.N, win0_1.index t 0 = 0 ∧ win0_1.index t 1 = t.val := by decide +kernel

theorem blk1 (t : Fin cfg0.N) (i : Fin 2048) (k : Fin 512) :
    ((iblk m c 1 t : Vec Ideal S2048x512 .bf16) (ix2 i k) : EReal) = entry (in1 m c) (i.val) (512 * (t.val) + k.val) := by
  unfold iblk
  rw [View.read_apply]
  exact (host1 m c _).trans (congrArg₂ (entry (in1 m c)) (at_whole (at1 t).1) (at_block (at1 t).2))

theorem at2 : ∀ t : Fin grid0.N, win0_2.index t 0 = 0 ∧ win0_2.index t 1 = t.val := by decide +kernel

/-- What a point multiplies, at an entry. -/
theorem pay_apply (x0 : Vec Ideal S2048x384 .bf16) (x1 : Vec Ideal S2048x512 .bf16) (i : Fin 384) (j : Fin 512) (f g : ℕ → EReal)
    (hf : ∀ k : Fin 2048, (x0 (ix2 k i) : EReal) = f k.val) (hg : ∀ k : Fin 2048, (x1 (ix2 k j) : EReal) = g k.val) :
    (k0_pay1 x0 x1 (ix2 i j) : EReal) = upTo f g 2048 := by
  unfold k0_pay1
  try simp only [shapeCast_self]
  exact tn_upTo (by decide) (φ₁ := .bf16) (φ₂ := .bf16) x0 _ i j f g hf hg

/-- The array after the run. -/
theorem arr : (dats m 0 c).arrAt 2 cfg0.N = prod (in0 m c) (in1 m c) := by
  refine (dats m 0 c).arrAt_eq_of_covers 2 (prod (in0 m c) (in1 m c)) (by decide +kernel) fun t _ y => ?_
  refine (cast_eq _ _).trans ((congrFun (after0_2 m c t) _).trans ?_)
  have e : (cfg0.win 2).xinj (cfg0.grid.coords t) y = ix2 (n0 := 384) (n1 := 512) (y 0) (y 1) := by
    funext a; match a with
    | ⟨0, _⟩ => rfl
    | ⟨1, _⟩ => rfl
  rw [e]; frame_out
  refine (pay_apply _ _ _ _ (fun k => entry (in0 m c) k ((y 0).val)) (fun k => entry (in1 m c) k (512 * (t.val) + (y 1).val)) (fun k => blk0 m c t k (y 0)) (fun k => blk1 m c t k (y 1))).trans ?_
  exact congrArg₂ (fun a b : ℕ => upTo (fun k => entry (in0 m c) k a) (fun k => entry (in1 m c) k b) 2048)
    (at_whole (at2 t).1).symm (at_block (at2 t).2).symm

end Kernel

theorem ref (x0 : (Mat 2048 384).Idx → EReal) (x1 : (Mat 2048 2048).Idx → EReal) : val_main_v4 (F := Ideal) x0 x1 = prod x0 x1 := by
  funext y
  refine (val_main_v3_apply (F := Ideal) x0 x1 y).trans ?_
  refine (val_main_v2_apply x0 x1 _).trans ((Finset.sum_congr rfl fun k _ => ?_).trans (upTo_fin _ _ 2048).symm)
  exact (congrArg₂ (fun u v : EReal => u * v) (eq_entry x1 _ rfl rfl) (eq_entry x0 _ rfl rfl)).trans (mul_comm _ _)

/-! ### The claims -/

theorem frame_p : Cert.quiescent_MlaDuq := fun m ρ _ => Cert.MlaDuq.Gen.frame m ρ
theorem frame_pi : Cert.quiescent_MlaDuqIdeal := fun m ρ _ => Cert.MlaDuqIdeal.Gen.frame m ρ
theorem frame_ri : Cert.quiescent_MlaDuqRefIdeal := fun m ρ _ =>
  (θ_run Cert.MlaDuqRefIdeal.defs _ _).mono (fun r h => ⟨fun c => (h c).2, sem_eq_zero_of_no_sems (by decide) r.2⟩)
    (Cert.MlaDuqRefIdeal.Value.run (F := Ideal) m ρ)

theorem preserves : Cert.preserves_MlaDuq_MlaDuqIdeal := trivial

/-- The kernel's array is the reference's. -/
theorem algebraic : Cert.algebraic_MlaDuqIdeal_MlaDuqRefIdeal := by
  intro m ρ m' ρ' _ hagree
  refine ⟨fun c => prod (in0 m c) (in1 m c), ?_, ?_⟩
  · exact (θ_run defs _ _).mono (fun r h c => ⟨(h c).1.trans (arr m c), (h c).2⟩) (Cert.MlaDuqIdeal.Value.run_blocks (F := Ideal) m ρ)
  · refine (θ_run Cert.MlaDuqRefIdeal.defs _ _).mono (fun r h c => ⟨(h c).1.trans ?_, (h c).2⟩) (Cert.MlaDuqRefIdeal.Value.run (F := Ideal) m' ρ')
    refine (val_main_v4_eq _ _).trans ((ref _ _ ).trans ?_)
    obtain ⟨e0, e1⟩ := hagree c
    exact congrArg₂ prod e0 e1

end Cert.Proof.MlaDuq

end
-- ==== Proof.MlaDcq.lean ====
/-
  The gradient of the queries' latent.
-/
module

public import proofs.«01_k».proof.Defs
public import proofs.«01_k».proof.Proof.Contract
public import proofs.«01_k».proof.Proof.Gen.MlaDcq.Frame
public import proofs.«01_k».proof.Proof.Gen.MlaDcqIdeal.Value
public import proofs.«01_k».proof.Proof.Gen.MlaDcqRefIdeal.Run
public import proofs.«01_k».proof.Proof.Gen.MlaDcqRefIdeal.Read
public import Idealize.ShloMosaic.Lib.StableHlo.RunRead
public import Idealize.ShloMosaic.Lib.Pipeline.ValueKit.Geometry
public import Idealize.ShloMosaic.Lib.Pipeline.ValueKit.Acc

@[expose] public section

set_option maxRecDepth 16384

noncomputable section

namespace Cert.Proof.MlaDcq

open Cert.MlaDcqIdeal Cert.MlaDcqIdeal.Gen Cert.MlaDcqRefIdeal.Read
open Idealize.ShloMosaic Idealize.ShloMosaic.TcCoe Idealize.SL.Sem Idealize.ShloMosaic.StableHlo Idealize.ShloMosaic.ValueIdx

/-- The result. -/
def prod (x0 : (Mat 2048 2048).Idx → EReal) (x1 : (Mat 384 2048).Idx → EReal) : (Mat 2048 384).Idx → EReal := fun y =>
  upTo (fun k => entry x0 ((y 0).val) k) (fun k => entry x1 ((y 1).val) k) 2048

section Kernel

variable (m : (ℓ : Loc nD τ sig) → Buf (Elt Ideal) ℓ) (c : Dev nD)

/-- The first argument. -/
abbrev in0 : (Mat 2048 2048).Idx → EReal := m ((c : Thread nD τ).loc main_arg0)
/-- The second argument. -/
abbrev in1 : (Mat 384 2048).Idx → EReal := m ((c : Thread nD τ).loc main_arg1)

/-! ### The staged blocks -/

theorem host0 (y : S2048x2048.Idx) : (V m c main_v0 y : EReal) = entry (in0 m c) (y 0).val (y 1).val := by
  rw [entry_idx]; unfold V; after_reads_simp; rfl

theorem at0 : ∀ t : Fin grid0.N, win0_0.index t 0 = t.val ∧ win0_0.index t 1 = 0 := by decide +kernel

theorem blk0 (t : Fin cfg0.N) (i : Fin 1024) (k : Fin 2048) :
    ((iblk m c 0 t : Vec Ideal S1024x2048 .bf16) (ix2 i k) : EReal) = entry (in0 m c) (1024 * (t.val) + i.val) (k.val) := by
  unfold iblk
  rw [View.read_apply]
  exact (host0 m c _).trans (congrArg₂ (entry (in0 m c)) (at_block (at0 t).1) (at_whole (at0 t).2))

theorem host1 (y : S384x2048.Idx) : (V m c main_v1 y : EReal) = entry (in1 m c) (y 0).val (y 1).val := by
  rw [entry_idx]; unfold V; after_reads_simp; rfl

theorem at1 : ∀ t : Fin grid0.N, win0_1.index t 0 = 0 ∧ win0_1.index t 1 = 0 := by decide +kernel

theorem blk1 (t : Fin cfg0.N) (i : Fin 384) (k : Fin 2048) :
    ((iblk m c 1 t : Vec Ideal S384x2048 .bf16) (ix2 i k) : EReal) = entry (in1 m c) (i.val) (k.val) := by
  unfold iblk
  rw [View.read_apply]
  exact (host1 m c _).trans (congrArg₂ (entry (in1 m c)) (at_whole (at1 t).1) (at_whole (at1 t).2))

theorem at2 : ∀ t : Fin grid0.N, win0_2.index t 0 = t.val ∧ win0_2.index t 1 = 0 := by decide +kernel

/-- What a point multiplies, at an entry. -/
theorem pay_apply (x0 : Vec Ideal S1024x2048 .bf16) (x1 : Vec Ideal S384x2048 .bf16) (i : Fin 1024) (j : Fin 384) (f g : ℕ → EReal)
    (hf : ∀ k : Fin 2048, (x0 (ix2 i k) : EReal) = f k.val) (hg : ∀ k : Fin 2048, (x1 (ix2 j k) : EReal) = g k.val) :
    (k0_pay1 x0 x1 (ix2 i j) : EReal) = upTo f g 2048 := by
  unfold k0_pay1
  try simp only [shapeCast_self]
  exact nt_upTo (φ₁ := .bf16) (φ₂ := .bf16) x0 _ i j f g hf hg

/-- The array after the run. -/
theorem arr : (dats m 0 c).arrAt 2 cfg0.N = prod (in0 m c) (in1 m c) := by
  refine (dats m 0 c).arrAt_eq_of_covers 2 (prod (in0 m c) (in1 m c)) (by decide +kernel) fun t _ y => ?_
  refine (cast_eq _ _).trans ((congrFun (after0_2 m c t) _).trans ?_)
  have e : (cfg0.win 2).xinj (cfg0.grid.coords t) y = ix2 (n0 := 1024) (n1 := 384) (y 0) (y 1) := by
    funext a; match a with
    | ⟨0, _⟩ => rfl
    | ⟨1, _⟩ => rfl
  rw [e]; frame_out
  refine (pay_apply _ _ _ _ (fun k => entry (in0 m c) (1024 * (t.val) + (y 0).val) k) (fun k => entry (in1 m c) ((y 1).val) k) (fun k => blk0 m c t (y 0) k) (fun k => blk1 m c t (y 1) k)).trans ?_
  exact congrArg₂ (fun a b : ℕ => upTo (fun k => entry (in0 m c) a k) (fun k => entry (in1 m c) b k) 2048)
    (at_block (at2 t).1).symm (at_whole (at2 t).2).symm

end Kernel

theorem ref (x0 : (Mat 2048 2048).Idx → EReal) (x1 : (Mat 384 2048).Idx → EReal) : val_main_v2 (F := Ideal) x0 x1 = prod x0 x1 := by
  funext y
  refine (val_main_v2_apply x0 x1 y).trans ((Finset.sum_congr rfl fun k _ => ?_).trans (upTo_fin _ _ 2048).symm)
  exact congrArg₂ (fun u v : EReal => u * v) (eq_entry x0 _ rfl rfl) (eq_entry x1 _ rfl rfl)

/-! ### The claims -/

theorem frame_p : Cert.quiescent_MlaDcq := fun m ρ _ => Cert.MlaDcq.Gen.frame m ρ
theorem frame_pi : Cert.quiescent_MlaDcqIdeal := fun m ρ _ => Cert.MlaDcqIdeal.Gen.frame m ρ
theorem frame_ri : Cert.quiescent_MlaDcqRefIdeal := fun m ρ _ =>
  (θ_run Cert.MlaDcqRefIdeal.defs _ _).mono (fun r h => ⟨fun c => (h c).2, sem_eq_zero_of_no_sems (by decide) r.2⟩)
    (Cert.MlaDcqRefIdeal.Value.run (F := Ideal) m ρ)

theorem preserves : Cert.preserves_MlaDcq_MlaDcqIdeal := trivial

/-- The kernel's array is the reference's. -/
theorem algebraic : Cert.algebraic_MlaDcqIdeal_MlaDcqRefIdeal := by
  intro m ρ m' ρ' _ hagree
  refine ⟨fun c => prod (in0 m c) (in1 m c), ?_, ?_⟩
  · exact (θ_run defs _ _).mono (fun r h c => ⟨(h c).1.trans (arr m c), (h c).2⟩) (Cert.MlaDcqIdeal.Value.run_blocks (F := Ideal) m ρ)
  · refine (θ_run Cert.MlaDcqRefIdeal.defs _ _).mono (fun r h c => ⟨(h c).1.trans ?_, (h c).2⟩) (Cert.MlaDcqRefIdeal.Value.run (F := Ideal) m' ρ')
    refine (val_main_v2_eq _ _).trans ((ref _ _ ).trans ?_)
    obtain ⟨e0, e1⟩ := hagree c
    exact congrArg₂ prod e0 e1

end Cert.Proof.MlaDcq

end
-- ==== Proof.MlaDukv.lean ====
/-
  The gradient of the matrix that makes the latent attention's keys and values.
-/
module

public import proofs.«01_k».proof.Defs
public import proofs.«01_k».proof.Proof.Contract
public import proofs.«01_k».proof.Proof.Gen.MlaDukv.Frame
public import proofs.«01_k».proof.Proof.Gen.MlaDukvIdeal.Value
public import proofs.«01_k».proof.Proof.Gen.MlaDukvRefIdeal.Run
public import proofs.«01_k».proof.Proof.Gen.MlaDukvRefIdeal.Read
public import Idealize.ShloMosaic.Lib.StableHlo.RunRead
public import Idealize.ShloMosaic.Lib.Pipeline.ValueKit.Geometry
public import Idealize.ShloMosaic.Lib.Pipeline.ValueKit.Acc

@[expose] public section

set_option maxRecDepth 16384

noncomputable section

namespace Cert.Proof.MlaDukv

open Cert.MlaDukvIdeal Cert.MlaDukvIdeal.Gen Cert.MlaDukvRefIdeal.Read
open Idealize.ShloMosaic Idealize.ShloMosaic.TcCoe Idealize.SL.Sem Idealize.ShloMosaic.StableHlo Idealize.ShloMosaic.ValueIdx

/-- The result. -/
def prod (x0 : (Mat 2048 256).Idx → EReal) (x1 : (Mat 2048 3072).Idx → EReal) : (Mat 256 3072).Idx → EReal := fun y =>
  upTo (fun k => entry x0 k ((y 0).val)) (fun k => entry x1 k ((y 1).val)) 2048

section Kernel

variable (m : (ℓ : Loc nD τ sig) → Buf (Elt Ideal) ℓ) (c : Dev nD)

/-- The first argument. -/
abbrev in0 : (Mat 2048 256).Idx → EReal := m ((c : Thread nD τ).loc main_arg0)
/-- The second argument. -/
abbrev in1 : (Mat 2048 3072).Idx → EReal := m ((c : Thread nD τ).loc main_arg1)

/-! ### The staged blocks -/

theorem host0 (y : S2048x256.Idx) : (V m c main_v0 y : EReal) = entry (in0 m c) (y 0).val (y 1).val := by
  rw [entry_idx]; unfold V; after_reads_simp; rfl

theorem at0 : ∀ t : Fin grid0.N, win0_0.index t 0 = 0 ∧ win0_0.index t 1 = 0 := by decide +kernel

theorem blk0 (t : Fin cfg0.N) (i : Fin 2048) (k : Fin 256) :
    ((iblk m c 0 t : Vec Ideal S2048x256 .bf16) (ix2 i k) : EReal) = entry (in0 m c) (i.val) (k.val) := by
  unfold iblk
  rw [View.read_apply]
  exact (host0 m c _).trans (congrArg₂ (entry (in0 m c)) (at_whole (at0 t).1) (at_whole (at0 t).2))

theorem host1 (y : S2048x3072.Idx) : (V m c main_arg1 y : EReal) = entry (in1 m c) (y 0).val (y 1).val := by
  rw [entry_idx]; exact congrFun (V_main_arg1 m c) y

theorem at1 : ∀ t : Fin grid0.N, win0_1.index t 0 = 0 ∧ win0_1.index t 1 = t.val := by decide +kernel

theorem blk1 (t : Fin cfg0.N) (i : Fin 2048) (k : Fin 512) :
    ((iblk m c 1 t : Vec Ideal S2048x512 .f32) (ix2 i k) : EReal) = entry (in1 m c) (i.val) (512 * (t.val) + k.val) := by
  unfold iblk
  rw [View.read_apply]
  exact (host1 m c _).trans (congrArg₂ (entry (in1 m c)) (at_whole (at1 t).1) (at_block (at1 t).2))

theorem at2 : ∀ t : Fin grid0.N, win0_2.index t 0 = 0 ∧ win0_2.index t 1 = t.val := by decide +kernel

/-- What a point multiplies, at an entry. -/
theorem pay_apply (x0 : Vec Ideal S2048x256 .bf16) (x1 : Vec Ideal S2048x512 .f32) (i : Fin 256) (j : Fin 512) (f g : ℕ → EReal)
    (hf : ∀ k : Fin 2048, (x0 (ix2 k i) : EReal) = f k.val) (hg : ∀ k : Fin 2048, (x1 (ix2 k j) : EReal) = g k.val) :
    (k0_pay1 x0 x1 (ix2 i j) : EReal) = upTo f g 2048 := by
  unfold k0_pay1
  try simp only [shapeCast_self]
  exact tn_upTo (by decide) (φ₁ := .bf16) (φ₂ := .bf16) x0 _ i j f g hf hg

/-- The array after the run. -/
theorem arr : (dats m 0 c).arrAt 2 cfg0.N = prod (in0 m c) (in1 m c) := by
  refine (dats m 0 c).arrAt_eq_of_covers 2 (prod (in0 m c) (in1 m c)) (by decide +kernel) fun t _ y => ?_
  refine (cast_eq _ _).trans ((congrFun (after0_2 m c t) _).trans ?_)
  have e : (cfg0.win 2).xinj (cfg0.grid.coords t) y = ix2 (n0 := 256) (n1 := 512) (y 0) (y 1) := by
    funext a; match a with
    | ⟨0, _⟩ => rfl
    | ⟨1, _⟩ => rfl
  rw [e]; frame_out
  refine (pay_apply _ _ _ _ (fun k => entry (in0 m c) k ((y 0).val)) (fun k => entry (in1 m c) k (512 * (t.val) + (y 1).val)) (fun k => blk0 m c t k (y 0)) (fun k => blk1 m c t k (y 1))).trans ?_
  exact congrArg₂ (fun a b : ℕ => upTo (fun k => entry (in0 m c) k a) (fun k => entry (in1 m c) k b) 2048)
    (at_whole (at2 t).1).symm (at_block (at2 t).2).symm

end Kernel

theorem ref (x0 : (Mat 2048 256).Idx → EReal) (x1 : (Mat 2048 3072).Idx → EReal) : val_main_v4 (F := Ideal) x0 x1 = prod x0 x1 := by
  funext y
  refine (val_main_v3_apply (F := Ideal) x0 x1 y).trans ?_
  refine (val_main_v2_apply x0 x1 _).trans ((Finset.sum_congr rfl fun k _ => ?_).trans (upTo_fin _ _ 2048).symm)
  exact (congrArg₂ (fun u v : EReal => u * v) (eq_entry x1 _ rfl rfl) (eq_entry x0 _ rfl rfl)).trans (mul_comm _ _)

/-! ### The claims -/

theorem frame_p : Cert.quiescent_MlaDukv := fun m ρ _ => Cert.MlaDukv.Gen.frame m ρ
theorem frame_pi : Cert.quiescent_MlaDukvIdeal := fun m ρ _ => Cert.MlaDukvIdeal.Gen.frame m ρ
theorem frame_ri : Cert.quiescent_MlaDukvRefIdeal := fun m ρ _ =>
  (θ_run Cert.MlaDukvRefIdeal.defs _ _).mono (fun r h => ⟨fun c => (h c).2, sem_eq_zero_of_no_sems (by decide) r.2⟩)
    (Cert.MlaDukvRefIdeal.Value.run (F := Ideal) m ρ)

theorem preserves : Cert.preserves_MlaDukv_MlaDukvIdeal := trivial

/-- The kernel's array is the reference's. -/
theorem algebraic : Cert.algebraic_MlaDukvIdeal_MlaDukvRefIdeal := by
  intro m ρ m' ρ' _ hagree
  refine ⟨fun c => prod (in0 m c) (in1 m c), ?_, ?_⟩
  · exact (θ_run defs _ _).mono (fun r h c => ⟨(h c).1.trans (arr m c), (h c).2⟩) (Cert.MlaDukvIdeal.Value.run_blocks (F := Ideal) m ρ)
  · refine (θ_run Cert.MlaDukvRefIdeal.defs _ _).mono (fun r h c => ⟨(h c).1.trans ?_, (h c).2⟩) (Cert.MlaDukvRefIdeal.Value.run (F := Ideal) m' ρ')
    refine (val_main_v4_eq _ _).trans ((ref _ _ ).trans ?_)
    obtain ⟨e0, e1⟩ := hagree c
    exact congrArg₂ prod e0 e1

end Cert.Proof.MlaDukv

end
-- ==== Proof.MlaDckv.lean ====
/-
  The gradient of the keys' and values' latent, contracted in two chunks of 1536.
-/
module

public import proofs.«01_k».proof.Defs
public import proofs.«01_k».proof.Proof.Contract
public import proofs.«01_k».proof.Proof.Gen.MlaDckv.Frame
public import proofs.«01_k».proof.Proof.Gen.MlaDckvIdeal.Value
public import proofs.«01_k».proof.Proof.Gen.MlaDckvRefIdeal.Run
public import proofs.«01_k».proof.Proof.Gen.MlaDckvRefIdeal.Read
public import Idealize.ShloMosaic.Lib.StableHlo.RunRead
public import Idealize.ShloMosaic.Lib.Pipeline.ValueKit.Geometry
public import Idealize.ShloMosaic.Lib.Tactic

@[expose] public section

set_option maxRecDepth 16384

noncomputable section

namespace Cert.Proof.MlaDckv

open Cert.MlaDckvIdeal Cert.MlaDckvIdeal.Gen Cert.MlaDckvRefIdeal.Read
open Idealize.ShloMosaic Idealize.ShloMosaic.TcCoe Idealize.SL.Sem Idealize.ShloMosaic.StableHlo Idealize.ShloMosaic.ValueIdx

/-- The result. -/
def prod (x0 : (Mat 2048 3072).Idx → EReal) (x1 : (Mat 256 3072).Idx → EReal) : (Mat 2048 256).Idx → EReal := fun y =>
  upTo (fun k => entry x0 ((y 0).val) k) (fun k => entry x1 ((y 1).val) k) 3072

section Kernel

variable (m : (ℓ : Loc nD τ sig) → Buf (Elt Ideal) ℓ) (c : Dev nD)

/-- The first argument. -/
abbrev in0 : (Mat 2048 3072).Idx → EReal := m ((c : Thread nD τ).loc main_arg0)
/-- The second argument. -/
abbrev in1 : (Mat 256 3072).Idx → EReal := m ((c : Thread nD τ).loc main_arg1)

/-! ### The staged blocks -/

theorem host0 (y : S2048x3072.Idx) : (V m c main_arg0 y : EReal) = entry (in0 m c) (y 0).val (y 1).val := by
  rw [entry_idx]; exact congrFun (V_main_arg0 m c) y

theorem at0 : ∀ t : Fin grid0.N, win0_0.index t 0 = t.val / 2 ∧ win0_0.index t 1 = t.val % 2 := by decide +kernel

theorem blk0 (t : Fin cfg0.N) (i : Fin 1024) (k : Fin 1536) :
    ((iblk m c 0 t : Vec Ideal S1024x1536 .f32) (ix2 i k) : EReal) = entry (in0 m c) (1024 * (t.val / 2) + i.val) (1536 * (t.val % 2) + k.val) := by
  unfold iblk
  rw [View.read_apply]
  exact (host0 m c _).trans (congrArg₂ (entry (in0 m c)) (at_block (at0 t).1) (at_block (at0 t).2))

theorem host1 (y : S256x3072.Idx) : (V m c main_v0 y : EReal) = entry (in1 m c) (y 0).val (y 1).val := by
  rw [entry_idx]; unfold V; after_reads_simp; rfl

theorem at1 : ∀ t : Fin grid0.N, win0_1.index t 0 = 0 ∧ win0_1.index t 1 = t.val % 2 := by decide +kernel

theorem blk1 (t : Fin cfg0.N) (i : Fin 256) (k : Fin 1536) :
    ((iblk m c 1 t : Vec Ideal S256x1536 .bf16) (ix2 i k) : EReal) = entry (in1 m c) (i.val) (1536 * (t.val % 2) + k.val) := by
  unfold iblk
  rw [View.read_apply]
  exact (host1 m c _).trans (congrArg₂ (entry (in1 m c)) (at_whole (at1 t).1) (at_block (at1 t).2))

theorem at2 : ∀ t : Fin grid0.N, win0_2.index t 0 = t.val / 2 ∧ win0_2.index t 1 = 0 := by decide +kernel

/-- What a point multiplies, at an entry. -/
theorem pay_apply (x0 : Vec Ideal S1024x1536 .f32) (x1 : Vec Ideal S256x1536 .bf16) (i : Fin 1024) (j : Fin 256) (f g : ℕ → EReal)
    (hf : ∀ k : Fin 1536, (x0 (ix2 i k) : EReal) = f k.val) (hg : ∀ k : Fin 1536, (x1 (ix2 j k) : EReal) = g k.val) :
    (k0_pay1 x0 x1 (ix2 i j) : EReal) = upTo f g 1536 := by
  unfold k0_pay1
  try simp only [shapeCast_self]
  exact nt_upTo (φ₁ := .bf16) (φ₂ := .bf16) x0 _ i j f g hf hg

/-! ### What a point leaves -/

theorem carry_A (c : Dev nD) (i : grid0.Coords) (arg3 : Memref sig .tc .vmem S1024x1536 .f32) (harg3 : arg3.IsWhole) (arg4 : Memref sig .tc .vmem S256x1536 .bf16) (harg4 : arg4.IsWhole) (arg5 : Memref sig .tc .vmem S1024x256 .f32) (harg5 : arg5.IsWhole) (arg6 : Memref sig .tc .vmem S1024x256 .f32) (harg6 : arg6.IsWhole) (hc0 : cond0_0 i) (hc1 : ¬cond0_1 i) (hc2 : ¬cond0_2 i)
    (x0 : Vec Ideal S1024x1536 .f32) (x1 : Vec Ideal S256x1536 .bf16) :
    sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero (S := S1024x256) zero2]
  try unfold k0_pay2
  simp only [View.readAt_eq_ld, harg3.read_unread, harg4.read_unread, harg5.read_unread, harg6.read_unread, View.ld_unit_zero (S := S1024x1536) zero2, View.ld_unit_zero (S := S256x1536) zero2, View.ld_unit_zero (S := S1024x256) zero2, shapeCast_self]

theorem carry_B (c : Dev nD) (i : grid0.Coords) (arg3 : Memref sig .tc .vmem S1024x1536 .f32) (harg3 : arg3.IsWhole) (arg4 : Memref sig .tc .vmem S256x1536 .bf16) (harg4 : arg4.IsWhole) (arg5 : Memref sig .tc .vmem S1024x256 .f32) (harg5 : arg5.IsWhole) (arg6 : Memref sig .tc .vmem S1024x256 .f32) (harg6 : arg6.IsWhole) (hc0 : ¬cond0_0 i) (hc1 : cond0_1 i) (hc2 : cond0_2 i)
    (x0 : Vec Ideal S1024x1536 .f32) (x1 : Vec Ideal S256x1536 .bf16) (xs0 : Vec Ideal S1024x256 .f32) :
    sout0_B_0 c i arg3 harg3 arg4 harg4 arg5 harg5 arg6 harg6 hc0 hc1 hc2 x0 x1 xs0 = addf xs0 (k0_pay1 x0 x1) := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  rw [View.canon_unit_zero (S := S1024x256) zero2]
  try unfold k0_pay3
  simp only [View.readAt_eq_ld, harg3.read_unread, harg4.read_unread, harg5.read_unread, harg6.read_unread, View.ld_unit_zero (S := S1024x1536) zero2, View.ld_unit_zero (S := S256x1536) zero2, View.ld_unit_zero (S := S1024x256) zero2, shapeCast_self]

theorem out_last (c : Dev nD) (i : grid0.Coords) (arg3 : Memref sig .tc .vmem S1024x1536 .f32) (harg3 : arg3.IsWhole) (arg4 : Memref sig .tc .vmem S256x1536 .bf16) (harg4 : arg4.IsWhole) (arg5 : Memref sig .tc .vmem S1024x256 .f32) (harg5 : arg5.IsWhole) (arg6 : Memref sig .tc .vmem S1024x256 .f32) (harg6 : arg6.IsWhole) (hc0 : ¬cond0_0 i) (hc1 : cond0_1 i) (hc2 : cond0_2 i)
    (x0 : Vec Ideal S1024x1536 .f32) (x1 : Vec Ideal S256x1536 .bf16) (xs0 : Vec Ideal S1024x256 .f32) :
    out0_B_2 c i arg3 harg3 arg4 harg4 arg5 harg5 arg6 harg6 hc0 hc1 hc2 x0 x1 xs0 = addf xs0 (k0_pay1 x0 x1) := by
  unfold out0_B_2
  rw [View.read_writes_eq_canon _ _ _ (cover0_B_2 c i arg3 harg3 arg4 harg4 arg5 harg5 arg6 harg6 hc0 hc1 hc2 x0 x1 xs0)]
  unfold kernelRun0_B
  dsimp only
  sl_unfold_words
  rw [View.canon_unit_zero (S := S1024x256) zero2, View.readCov_unit_zero (S := S1024x256) _ zero2]
  try unfold k0_pay3
  simp only [View.readAt_eq_ld, harg3.read_unread, harg4.read_unread, harg5.read_unread, harg6.read_unread, View.ld_unit_zero (S := S1024x1536) zero2, View.ld_unit_zero (S := S256x1536) zero2, View.ld_unit_zero (S := S1024x256) zero2, shapeCast_self]

/-- The chunk a point multiplies. -/
theorem chunk (t : Fin cfg0.N) (i : Fin 1024) (j : Fin 256) : (k0_pay1 (iblk m c 0 t) (iblk m c 1 t) (ix2 i j) : EReal)
    = upTo (fun k => entry (in0 m c) (1024 * (t.val / 2) + i.val) (1536 * (t.val % 2) + k)) (fun k => entry (in1 m c) (j.val) (1536 * (t.val % 2) + k)) 1536 :=
  pay_apply _ _ i j _ _ (fun k => blk0 m c t i k) (fun k => blk1 m c t j k)

theorem first_apply (t : Fin cfg0.N) (h : t.val % 2 = 0) (i : Fin 1024) (j : Fin 256) :
    ((outsAt0 m c t.val t.isLt).2 (ix2 i j) : EReal) = upTo (fun k => entry (in0 m c) (1024 * (t.val / 2) + i.val) k) (fun k => entry (in1 m c) (j.val) k) (1536 * (t.val % 2 + 1)) := by
  rw [outsAt0_A m c t (by omega) (by omega) (by omega)]
  dsimp only
  rw [carry_A]
  refine (chunk m c t i j).trans ?_
  rw [h]
  simp only [Nat.mul_zero, Nat.zero_add, Nat.mul_one]

/-- A later point adds its chunk to what the point before left. -/
theorem step (t : Fin cfg0.N) (s : Vec Ideal S1024x256 .f32) (i : Fin 1024) (j : Fin 256)
    (hs : (s (ix2 i j) : EReal) = upTo (fun k => entry (in0 m c) (1024 * (t.val / 2) + i.val) k) (fun k => entry (in1 m c) (j.val) k) (1536 * (t.val % 2))) :
    (addf s (k0_pay1 (iblk m c 0 t) (iblk m c 1 t)) (ix2 i j) : EReal) = upTo (fun k => entry (in0 m c) (1024 * (t.val / 2) + i.val) k) (fun k => entry (in1 m c) (j.val) k) (1536 * (t.val % 2 + 1)) := by
  rw [Nat.mul_add, Nat.mul_one, upTo_add]
  exact congrArg₂ (fun a b : EReal => a + b) hs (chunk m c t i j)

theorem next_apply (t : Fin cfg0.N) (h : ¬t.val % 2 = 0) (i : Fin 1024) (j : Fin 256)
    (hs : ((outsAt0 m c (t.val - 1) (Nat.lt_of_le_of_lt (Nat.sub_le _ _) t.isLt)).2 (ix2 i j) : EReal) = upTo (fun k => entry (in0 m c) (1024 * (t.val / 2) + i.val) k) (fun k => entry (in1 m c) (j.val) k) (1536 * (t.val % 2))) :
    ((outsAt0 m c t.val t.isLt).2 (ix2 i j) : EReal) = upTo (fun k => entry (in0 m c) (1024 * (t.val / 2) + i.val) k) (fun k => entry (in1 m c) (j.val) k) (1536 * (t.val % 2 + 1)) := by
  rw [outsAt0_B m c t (by omega) (by omega) (by omega)]
  dsimp only
  rw [carry_B]
  exact step m c t _ i j hs

/-- What is carried after a point: the sum of the chunks so far. -/
theorem carried (i : Fin 1024) (j : Fin 256) : ∀ (n : ℕ) (h : n < cfg0.N),
    ((outsAt0 m c n h).2 (ix2 i j) : EReal) = upTo (fun k => entry (in0 m c) (1024 * (n / 2) + i.val) k) (fun k => entry (in1 m c) (j.val) k) (1536 * (n % 2 + 1))
  | 0, h => first_apply m c ⟨0, h⟩ (Nat.zero_mod _) i j
  | n + 1, h => by
    by_cases h0 : (n + 1) % 2 = 0
    · exact first_apply m c ⟨n + 1, h⟩ h0 i j
    · refine next_apply m c ⟨n + 1, h⟩ h0 i j ((carried i j n (by omega)).trans ?_)
      have e : n / 2 = (n + 1) / 2 := by omega
      have e' : n % 2 + 1 = (n + 1) % 2 := by omega
      dsimp only
      rw [e, e']

/-- What the last point of a block leaves in it. -/
theorem last_apply (t : Fin cfg0.N) (h : t.val % 2 = 1) (i : Fin 1024) (j : Fin 256) :
    ((outsAt0 m c t.val t.isLt).1 (ix2 i j) : EReal) = upTo (fun k => entry (in0 m c) (1024 * (t.val / 2) + i.val) k) (fun k => entry (in1 m c) (j.val) k) 3072 := by
  have hn : t.val - 1 < cfg0.N := Nat.lt_of_le_of_lt (Nat.sub_le _ _) t.isLt
  rw [outsAt0_B m c t (by omega) (by omega) (by omega)]
  dsimp only
  rw [out_last]
  have e : (t.val - 1) / 2 = t.val / 2 := by omega
  have e' : (t.val - 1) % 2 + 1 = t.val % 2 := by omega
  refine (step m c t _ i j ((carried m c i j (t.val - 1) hn).trans ?_)).trans ?_
  · rw [e, e']
  · rw [h]

/-- The array after the run. -/
theorem arr : (dats m 0 c).arrAt 2 cfg0.N = prod (in0 m c) (in1 m c) := by
  refine (dats m 0 c).arrAt_eq_of_covers 2 (prod (in0 m c) (in1 m c)) (by decide +kernel) fun t hf y => ?_
  refine (cast_eq _ _).trans ((congrFun (after0_2 m c t) _).trans ?_)
  have e : (cfg0.win 2).xinj (cfg0.grid.coords t) y = ix2 (n0 := 1024) (n1 := 256) (y 0) (y 1) := by
    funext a; match a with
    | ⟨0, _⟩ => rfl
    | ⟨1, _⟩ => rfl
  rw [e]
  refine (last_apply m c t ((flush0_2 t).mp hf) _ _).trans ?_
  exact congrArg₂ (fun a b : ℕ => upTo (fun k => entry (in0 m c) a k) (fun k => entry (in1 m c) b k) 3072)
    (at_block (at2 t).1).symm (at_whole (at2 t).2).symm

end Kernel

theorem ref (x0 : (Mat 2048 3072).Idx → EReal) (x1 : (Mat 256 3072).Idx → EReal) : val_main_v2 (F := Ideal) x0 x1 = prod x0 x1 := by
  funext y
  refine (val_main_v2_apply x0 x1 y).trans ((Finset.sum_congr rfl fun k _ => ?_).trans (upTo_fin _ _ 3072).symm)
  exact congrArg₂ (fun u v : EReal => u * v) (eq_entry x0 _ rfl rfl) (eq_entry x1 _ rfl rfl)

/-! ### The claims -/

theorem frame_p : Cert.quiescent_MlaDckv := fun m ρ _ => Cert.MlaDckv.Gen.frame m ρ
theorem frame_pi : Cert.quiescent_MlaDckvIdeal := fun m ρ _ => Cert.MlaDckvIdeal.Gen.frame m ρ
theorem frame_ri : Cert.quiescent_MlaDckvRefIdeal := fun m ρ _ =>
  (θ_run Cert.MlaDckvRefIdeal.defs _ _).mono (fun r h => ⟨fun c => (h c).2, sem_eq_zero_of_no_sems (by decide) r.2⟩)
    (Cert.MlaDckvRefIdeal.Value.run (F := Ideal) m ρ)

theorem preserves : Cert.preserves_MlaDckv_MlaDckvIdeal := trivial

/-- The kernel's array is the reference's. -/
theorem algebraic : Cert.algebraic_MlaDckvIdeal_MlaDckvRefIdeal := by
  intro m ρ m' ρ' _ hagree
  refine ⟨fun c => prod (in0 m c) (in1 m c), ?_, ?_⟩
  · exact (θ_run defs _ _).mono (fun r h c => ⟨(h c).1.trans (arr m c), (h c).2⟩) (Cert.MlaDckvIdeal.Value.run_blocks (F := Ideal) m ρ)
  · refine (θ_run Cert.MlaDckvRefIdeal.defs _ _).mono (fun r h c => ⟨(h c).1.trans ?_, (h c).2⟩) (Cert.MlaDckvRefIdeal.Value.run (F := Ideal) m' ρ')
    refine (val_main_v2_eq _ _).trans ((ref _ _ ).trans ?_)
    obtain ⟨e0, e1⟩ := hagree c
    exact congrArg₂ prod e0 e1

end Cert.Proof.MlaDckv

end
-- ==== Proof.MlaDa.lean ====
/-
  The gradient of the latent attention's first projection matrix.
-/
module

public import proofs.«01_k».proof.Defs
public import proofs.«01_k».proof.Proof.Contract
public import proofs.«01_k».proof.Proof.Gen.MlaDa.Frame
public import proofs.«01_k».proof.Proof.Gen.MlaDaIdeal.Value
public import proofs.«01_k».proof.Proof.Gen.MlaDaRefIdeal.Run
public import proofs.«01_k».proof.Proof.Gen.MlaDaRefIdeal.Read
public import Idealize.ShloMosaic.Lib.StableHlo.RunRead
public import Idealize.ShloMosaic.Lib.Pipeline.ValueKit.Geometry
public import Idealize.ShloMosaic.Lib.Pipeline.ValueKit.Acc

@[expose] public section

set_option maxRecDepth 16384

noncomputable section

namespace Cert.Proof.MlaDa

open Cert.MlaDaIdeal Cert.MlaDaIdeal.Gen Cert.MlaDaRefIdeal.Read
open Idealize.ShloMosaic Idealize.ShloMosaic.TcCoe Idealize.SL.Sem Idealize.ShloMosaic.StableHlo Idealize.ShloMosaic.ValueIdx

/-- The result. -/
def prod (x0 : (Mat 2048 1024).Idx → EReal) (x1 : (Mat 2048 768).Idx → EReal) : (Mat 1024 768).Idx → EReal := fun y =>
  upTo (fun k => entry x0 k ((y 0).val)) (fun k => entry x1 k ((y 1).val)) 2048

section Kernel

variable (m : (ℓ : Loc nD τ sig) → Buf (Elt Ideal) ℓ) (c : Dev nD)

/-- The first argument. -/
abbrev in0 : (Mat 2048 1024).Idx → EReal := m ((c : Thread nD τ).loc main_arg0)
/-- The second argument. -/
abbrev in1 : (Mat 2048 768).Idx → EReal := m ((c : Thread nD τ).loc main_arg1)

/-! ### The staged blocks -/

theorem host0 (y : S2048x1024.Idx) : (V m c main_v0 y : EReal) = entry (in0 m c) (y 0).val (y 1).val := by
  rw [entry_idx]; unfold V; after_reads_simp; rfl

theorem at0 : ∀ t : Fin grid0.N, win0_0.index t 0 = 0 ∧ win0_0.index t 1 = 0 := by decide +kernel

theorem blk0 (t : Fin cfg0.N) (i : Fin 2048) (k : Fin 1024) :
    ((iblk m c 0 t : Vec Ideal S2048x1024 .bf16) (ix2 i k) : EReal) = entry (in0 m c) (i.val) (k.val) := by
  unfold iblk
  rw [View.read_apply]
  exact (host0 m c _).trans (congrArg₂ (entry (in0 m c)) (at_whole (at0 t).1) (at_whole (at0 t).2))

theorem host1 (y : S2048x768.Idx) : (V m c main_v1 y : EReal) = entry (in1 m c) (y 0).val (y 1).val := by
  rw [entry_idx]; unfold V; after_reads_simp; rfl

theorem at1 : ∀ t : Fin grid0.N, win0_1.index t 0 = 0 ∧ win0_1.index t 1 = 0 := by decide +kernel

theorem blk1 (t : Fin cfg0.N) (i : Fin 2048) (k : Fin 768) :
    ((iblk m c 1 t : Vec Ideal S2048x768 .bf16) (ix2 i k) : EReal) = entry (in1 m c) (i.val) (k.val) := by
  unfold iblk
  rw [View.read_apply]
  exact (host1 m c _).trans (congrArg₂ (entry (in1 m c)) (at_whole (at1 t).1) (at_whole (at1 t).2))

theorem at2 : ∀ t : Fin grid0.N, win0_2.index t 0 = 0 ∧ win0_2.index t 1 = 0 := by decide +kernel

/-- What a point multiplies, at an entry. -/
theorem pay_apply (x0 : Vec Ideal S2048x1024 .bf16) (x1 : Vec Ideal S2048x768 .bf16) (i : Fin 1024) (j : Fin 768) (f g : ℕ → EReal)
    (hf : ∀ k : Fin 2048, (x0 (ix2 k i) : EReal) = f k.val) (hg : ∀ k : Fin 2048, (x1 (ix2 k j) : EReal) = g k.val) :
    (k0_pay1 x0 x1 (ix2 i j) : EReal) = upTo f g 2048 := by
  unfold k0_pay1
  try simp only [shapeCast_self]
  exact tn_upTo (by decide) (φ₁ := .bf16) (φ₂ := .bf16) x0 _ i j f g hf hg

/-- The array after the run. -/
theorem arr : (dats m 0 c).arrAt 2 cfg0.N = prod (in0 m c) (in1 m c) := by
  refine (dats m 0 c).arrAt_eq_of_covers 2 (prod (in0 m c) (in1 m c)) (by decide +kernel) fun t _ y => ?_
  refine (cast_eq _ _).trans ((congrFun (after0_2 m c t) _).trans ?_)
  have e : (cfg0.win 2).xinj (cfg0.grid.coords t) y = ix2 (n0 := 1024) (n1 := 768) (y 0) (y 1) := by
    funext a; match a with
    | ⟨0, _⟩ => rfl
    | ⟨1, _⟩ => rfl
  rw [e]; frame_out
  refine (pay_apply _ _ _ _ (fun k => entry (in0 m c) k ((y 0).val)) (fun k => entry (in1 m c) k ((y 1).val)) (fun k => blk0 m c t k (y 0)) (fun k => blk1 m c t k (y 1))).trans ?_
  exact congrArg₂ (fun a b : ℕ => upTo (fun k => entry (in0 m c) k a) (fun k => entry (in1 m c) k b) 2048)
    (at_whole (at2 t).1).symm (at_whole (at2 t).2).symm

end Kernel

theorem ref (x0 : (Mat 2048 1024).Idx → EReal) (x1 : (Mat 2048 768).Idx → EReal) : val_main_v4 (F := Ideal) x0 x1 = prod x0 x1 := by
  funext y
  refine (val_main_v3_apply (F := Ideal) x0 x1 y).trans ?_
  refine (val_main_v2_apply x0 x1 _).trans ((Finset.sum_congr rfl fun k _ => ?_).trans (upTo_fin _ _ 2048).symm)
  exact (congrArg₂ (fun u v : EReal => u * v) (eq_entry x1 _ rfl rfl) (eq_entry x0 _ rfl rfl)).trans (mul_comm _ _)

/-! ### The claims -/

theorem frame_p : Cert.quiescent_MlaDa := fun m ρ _ => Cert.MlaDa.Gen.frame m ρ
theorem frame_pi : Cert.quiescent_MlaDaIdeal := fun m ρ _ => Cert.MlaDaIdeal.Gen.frame m ρ
theorem frame_ri : Cert.quiescent_MlaDaRefIdeal := fun m ρ _ =>
  (θ_run Cert.MlaDaRefIdeal.defs _ _).mono (fun r h => ⟨fun c => (h c).2, sem_eq_zero_of_no_sems (by decide) r.2⟩)
    (Cert.MlaDaRefIdeal.Value.run (F := Ideal) m ρ)

theorem preserves : Cert.preserves_MlaDa_MlaDaIdeal := trivial

/-- The kernel's array is the reference's. -/
theorem algebraic : Cert.algebraic_MlaDaIdeal_MlaDaRefIdeal := by
  intro m ρ m' ρ' _ hagree
  refine ⟨fun c => prod (in0 m c) (in1 m c), ?_, ?_⟩
  · exact (θ_run defs _ _).mono (fun r h c => ⟨(h c).1.trans (arr m c), (h c).2⟩) (Cert.MlaDaIdeal.Value.run_blocks (F := Ideal) m ρ)
  · refine (θ_run Cert.MlaDaRefIdeal.defs _ _).mono (fun r h c => ⟨(h c).1.trans ?_, (h c).2⟩) (Cert.MlaDaRefIdeal.Value.run (F := Ideal) m' ρ')
    refine (val_main_v4_eq _ _).trans ((ref _ _ ).trans ?_)
    obtain ⟨e0, e1⟩ := hagree c
    exact congrArg₂ prod e0 e1

end Cert.Proof.MlaDa

end
-- ==== Proof.MlaDhn.lean ====
/-
  The gradient of the latent attention's input.
-/
module

public import proofs.«01_k».proof.Defs
public import proofs.«01_k».proof.Proof.Contract
public import proofs.«01_k».proof.Proof.Gen.MlaDhn.Frame
public import proofs.«01_k».proof.Proof.Gen.MlaDhnIdeal.Value
public import proofs.«01_k».proof.Proof.Gen.MlaDhnRefIdeal.Run
public import proofs.«01_k».proof.Proof.Gen.MlaDhnRefIdeal.Read
public import Idealize.ShloMosaic.Lib.StableHlo.RunRead
public import Idealize.ShloMosaic.Lib.Pipeline.ValueKit.Geometry
public import Idealize.ShloMosaic.Lib.Pipeline.ValueKit.Acc

@[expose] public section

set_option maxRecDepth 16384

noncomputable section

namespace Cert.Proof.MlaDhn

open Cert.MlaDhnIdeal Cert.MlaDhnIdeal.Gen Cert.MlaDhnRefIdeal.Read
open Idealize.ShloMosaic Idealize.ShloMosaic.TcCoe Idealize.SL.Sem Idealize.ShloMosaic.StableHlo Idealize.ShloMosaic.ValueIdx

/-- The result. -/
def prod (x0 : (Mat 2048 768).Idx → EReal) (x1 : (Mat 1024 768).Idx → EReal) : (Mat 2048 1024).Idx → EReal := fun y =>
  upTo (fun k => entry x0 ((y 0).val) k) (fun k => entry x1 ((y 1).val) k) 768

section Kernel

variable (m : (ℓ : Loc nD τ sig) → Buf (Elt Ideal) ℓ) (c : Dev nD)

/-- The first argument. -/
abbrev in0 : (Mat 2048 768).Idx → EReal := m ((c : Thread nD τ).loc main_arg0)
/-- The second argument. -/
abbrev in1 : (Mat 1024 768).Idx → EReal := m ((c : Thread nD τ).loc main_arg1)

/-! ### The staged blocks -/

theorem host0 (y : S2048x768.Idx) : (V m c main_v0 y : EReal) = entry (in0 m c) (y 0).val (y 1).val := by
  rw [entry_idx]; unfold V; after_reads_simp; rfl

theorem at0 : ∀ t : Fin grid0.N, win0_0.index t 0 = t.val / 2 ∧ win0_0.index t 1 = 0 := by decide +kernel

theorem blk0 (t : Fin cfg0.N) (i : Fin 1024) (k : Fin 768) :
    ((iblk m c 0 t : Vec Ideal S1024x768 .bf16) (ix2 i k) : EReal) = entry (in0 m c) (1024 * (t.val / 2) + i.val) (k.val) := by
  unfold iblk
  rw [View.read_apply]
  exact (host0 m c _).trans (congrArg₂ (entry (in0 m c)) (at_block (at0 t).1) (at_whole (at0 t).2))

theorem host1 (y : S1024x768.Idx) : (V m c main_v1 y : EReal) = entry (in1 m c) (y 0).val (y 1).val := by
  rw [entry_idx]; unfold V; after_reads_simp; rfl

theorem at1 : ∀ t : Fin grid0.N, win0_1.index t 0 = t.val % 2 ∧ win0_1.index t 1 = 0 := by decide +kernel

theorem blk1 (t : Fin cfg0.N) (i : Fin 512) (k : Fin 768) :
    ((iblk m c 1 t : Vec Ideal S512x768 .bf16) (ix2 i k) : EReal) = entry (in1 m c) (512 * (t.val % 2) + i.val) (k.val) := by
  unfold iblk
  rw [View.read_apply]
  exact (host1 m c _).trans (congrArg₂ (entry (in1 m c)) (at_block (at1 t).1) (at_whole (at1 t).2))

theorem at2 : ∀ t : Fin grid0.N, win0_2.index t 0 = t.val / 2 ∧ win0_2.index t 1 = t.val % 2 := by decide +kernel

/-- What a point multiplies, at an entry. -/
theorem pay_apply (x0 : Vec Ideal S1024x768 .bf16) (x1 : Vec Ideal S512x768 .bf16) (i : Fin 1024) (j : Fin 512) (f g : ℕ → EReal)
    (hf : ∀ k : Fin 768, (x0 (ix2 i k) : EReal) = f k.val) (hg : ∀ k : Fin 768, (x1 (ix2 j k) : EReal) = g k.val) :
    (k0_pay1 x0 x1 (ix2 i j) : EReal) = upTo f g 768 := by
  unfold k0_pay1
  try simp only [shapeCast_self]
  exact nt_upTo (φ₁ := .bf16) (φ₂ := .bf16) x0 _ i j f g hf hg

/-- The array after the run. -/
theorem arr : (dats m 0 c).arrAt 2 cfg0.N = prod (in0 m c) (in1 m c) := by
  refine (dats m 0 c).arrAt_eq_of_covers 2 (prod (in0 m c) (in1 m c)) (by decide +kernel) fun t _ y => ?_
  refine (cast_eq _ _).trans ((congrFun (after0_2 m c t) _).trans ?_)
  have e : (cfg0.win 2).xinj (cfg0.grid.coords t) y = ix2 (n0 := 1024) (n1 := 512) (y 0) (y 1) := by
    funext a; match a with
    | ⟨0, _⟩ => rfl
    | ⟨1, _⟩ => rfl
  rw [e]; frame_out
  refine (pay_apply _ _ _ _ (fun k => entry (in0 m c) (1024 * (t.val / 2) + (y 0).val) k) (fun k => entry (in1 m c) (512 * (t.val % 2) + (y 1).val) k) (fun k => blk0 m c t (y 0) k) (fun k => blk1 m c t (y 1) k)).trans ?_
  exact congrArg₂ (fun a b : ℕ => upTo (fun k => entry (in0 m c) a k) (fun k => entry (in1 m c) b k) 768)
    (at_block (at2 t).1).symm (at_block (at2 t).2).symm

end Kernel

theorem ref (x0 : (Mat 2048 768).Idx → EReal) (x1 : (Mat 1024 768).Idx → EReal) : val_main_v2 (F := Ideal) x0 x1 = prod x0 x1 := by
  funext y
  refine (val_main_v2_apply x0 x1 y).trans ((Finset.sum_congr rfl fun k _ => ?_).trans (upTo_fin _ _ 768).symm)
  exact congrArg₂ (fun u v : EReal => u * v) (eq_entry x0 _ rfl rfl) (eq_entry x1 _ rfl rfl)

/-! ### The claims -/

theorem frame_p : Cert.quiescent_MlaDhn := fun m ρ _ => Cert.MlaDhn.Gen.frame m ρ
theorem frame_pi : Cert.quiescent_MlaDhnIdeal := fun m ρ _ => Cert.MlaDhnIdeal.Gen.frame m ρ
theorem frame_ri : Cert.quiescent_MlaDhnRefIdeal := fun m ρ _ =>
  (θ_run Cert.MlaDhnRefIdeal.defs _ _).mono (fun r h => ⟨fun c => (h c).2, sem_eq_zero_of_no_sems (by decide) r.2⟩)
    (Cert.MlaDhnRefIdeal.Value.run (F := Ideal) m ρ)

theorem preserves : Cert.preserves_MlaDhn_MlaDhnIdeal := trivial

/-- The kernel's array is the reference's. -/
theorem algebraic : Cert.algebraic_MlaDhnIdeal_MlaDhnRefIdeal := by
  intro m ρ m' ρ' _ hagree
  refine ⟨fun c => prod (in0 m c) (in1 m c), ?_, ?_⟩
  · exact (θ_run defs _ _).mono (fun r h c => ⟨(h c).1.trans (arr m c), (h c).2⟩) (Cert.MlaDhnIdeal.Value.run_blocks (F := Ideal) m ρ)
  · refine (θ_run Cert.MlaDhnRefIdeal.defs _ _).mono (fun r h c => ⟨(h c).1.trans ?_, (h c).2⟩) (Cert.MlaDhnRefIdeal.Value.run (F := Ideal) m' ρ')
    refine (val_main_v2_eq _ _).trans ((ref _ _ ).trans ?_)
    obtain ⟨e0, e1⟩ := hagree c
    exact congrArg₂ prod e0 e1

end Cert.Proof.MlaDhn

end
-- ==== Proof.DilQkv0.lean ====
/-
  The dilated attention's projection for group 0 of heads: 3072 of the matrix's columns, kept as the eight devices' columns.
-/
module

public import proofs.«01_k».proof.Defs
public import proofs.«01_k».proof.Proof.Contract
public import proofs.«01_k».proof.Proof.Gen.DilQkv0.Frame
public import proofs.«01_k».proof.Proof.Gen.DilQkv0Ideal.Value
public import proofs.«01_k».proof.Proof.Gen.DilQkv0RefIdeal.Run
public import proofs.«01_k».proof.Proof.Gen.DilQkv0RefIdeal.Read
public import Idealize.ShloMosaic.Lib.StableHlo.RunRead
public import Idealize.ShloMosaic.Lib.Pipeline.ValueKit.Geometry
public import Idealize.ShloMosaic.Lib.Pipeline.ValueKit.Acc

@[expose] public section

set_option maxRecDepth 16384

noncomputable section

namespace Cert.Proof.DilQkv0

open Cert.DilQkv0Ideal Cert.DilQkv0Ideal.Gen Cert.DilQkv0RefIdeal.Read
open Idealize.ShloMosaic Idealize.ShloMosaic.TcCoe Idealize.SL.Sem Idealize.ShloMosaic.StableHlo Idealize.ShloMosaic.ValueIdx

/-- The result. -/
def prod (x0 : (Mat 2048 1024).Idx → EReal) (x1 : (Mat 1024 9216).Idx → EReal) : (Mat 2048 3072).Idx → EReal := fun y =>
  upTo (fun k => entry x0 ((y 0).val) k) (fun k => entry x1 k ((y 1).val)) 1024

section Kernel

variable (m : (ℓ : Loc nD τ sig) → Buf (Elt Ideal) ℓ) (c : Dev nD)

/-- The first argument. -/
abbrev in0 : (Mat 2048 1024).Idx → EReal := m ((c : Thread nD τ).loc main_arg0)
/-- The second argument. -/
abbrev in1 : (Mat 1024 9216).Idx → EReal := m ((c : Thread nD τ).loc main_arg1)

/-! ### The staged blocks -/

theorem host0 (y : S2048x1024.Idx) : (V m c main_v0 y : EReal) = entry (in0 m c) (y 0).val (y 1).val := by
  rw [entry_idx]; unfold V; after_reads_simp; rfl

theorem at0 : ∀ t : Fin grid0.N, win0_0.index t 0 = t.val / 8 ∧ win0_0.index t 1 = 0 := by decide +kernel

theorem blk0 (t : Fin cfg0.N) (i : Fin 1024) (k : Fin 1024) :
    ((iblk m c 0 t : Vec Ideal S1024x1024 .bf16) (ix2 i k) : EReal) = entry (in0 m c) (1024 * (t.val / 8) + i.val) (k.val) := by
  unfold iblk
  rw [View.read_apply]
  exact (host0 m c _).trans (congrArg₂ (entry (in0 m c)) (at_block (at0 t).1) (at_whole (at0 t).2))

theorem host1 (y : S8x1x1024x1152.Idx) : (V m c main_v4 y : EReal) = entry (in1 m c) (y 2).val (1152 * (y 0).val + (y 3).val) := by
  have h0 : (y 0).val < 8 := (y 0).isLt
  have h3 : (y 3).val < 1152 := (y 3).isLt
  unfold V; after_reads_simp
  refine (broadcastInDim_apply _ _ _ y (ix3 (n0 := 8) (n1 := 1024) (n2 := 1152) (y 0) (y 2) (y 3)) (fun a => by
    match a with
    | ⟨0, _⟩ => rfl
    | ⟨1, _⟩ => rfl
    | ⟨2, _⟩ => rfl)).trans ?_
  refine (transpose_apply _ _ _ _ (ix3 (n0 := 1024) (n1 := 8) (n2 := 1152) (y 2) (y 0) (y 3)) (fun b => by
    match b with
    | ⟨0, _⟩ => rfl
    | ⟨1, _⟩ => rfl
    | ⟨2, _⟩ => rfl)).trans ?_
  refine (shapeCast_apply _ _ _ (ix2 (n0 := 1024) (n1 := 9216) (y 2) ⟨1152 * (y 0).val + (y 3).val, by omega⟩) (by
    show _ = ((⟨3, ![1024, 8, 1152]⟩ : Shape).rowMajor (ix3 (n0 := 1024) (n1 := 8) (n2 := 1152) (y 2) (y 0) (y 3))).val
    rw [Shape.rowMajor_val_two, Shape.rowMajor_val_three]
    show (y 2).val * 9216 + (1152 * (y 0).val + (y 3).val) = ((y 2).val * 8 + (y 0).val) * 1152 + (y 3).val
    omega)).trans ?_
  exact eq_entry (in1 m c) _ rfl rfl

theorem at1 : ∀ t : Fin grid0.N, win0_1.index t 0 = (t.val % 8 + 0) / 3 ∧ win0_1.index t 1 = 0 ∧ win0_1.index t 2 = 0 ∧ win0_1.index t 3 = (t.val % 8 + 0) % 3 := by decide +kernel

theorem blk1 (t : Fin cfg0.N) (i : Fin 1024) (k : Fin 384) :
    ((iblk m c 1 t : Vec Ideal S1x1x1024x384 .bf16) (ix4 0 0 i k) : EReal) = entry (in1 m c) (i.val) (384 * (t.val % 8) + k.val) := by
  unfold iblk
  rw [View.read_apply]
  refine (host1 m c _).trans (congrArg₂ (entry (in1 m c)) ?_ ?_)
  · show win0_1.index t 2 * 1024 + 1 * i.val = _
    rw [(at1 t).2.2.1]; omega
  · show 1152 * (win0_1.index t 0 * 1 + 1 * 0) + (win0_1.index t 3 * 384 + 1 * k.val) = _
    rw [(at1 t).1, (at1 t).2.2.2]; omega

theorem at2 : ∀ t : Fin grid0.N, win0_2.index t 0 = t.val / 8 ∧ win0_2.index t 1 = t.val % 8 := by decide +kernel

/-- What a point multiplies, at an entry. -/
theorem pay_apply (x0 : Vec Ideal S1024x1024 .bf16) (x1 : Vec Ideal S1x1x1024x384 .bf16) (i : Fin 1024) (j : Fin 384) (f g : ℕ → EReal)
    (hf : ∀ k : Fin 1024, (x0 (ix2 i k) : EReal) = f k.val) (hg : ∀ k : Fin 1024, (x1 (ix4 0 0 k j) : EReal) = g k.val) :
    (k0_pay1 x0 x1 (ix2 i j) : EReal) = upTo f g 1024 := by
  unfold k0_pay1
  try simp only [shapeCast_self]
  exact nn_upTo (φ₁ := .bf16) (φ₂ := .bf16) x0 _ i j f g hf (fun k => (unbox2_apply x1 _ k j).trans (hg k))

/-- The array after the run. -/
theorem arr : (dats m 0 c).arrAt 2 cfg0.N = prod (in0 m c) (in1 m c) := by
  refine (dats m 0 c).arrAt_eq_of_covers 2 (prod (in0 m c) (in1 m c)) (by decide +kernel) fun t _ y => ?_
  refine (cast_eq _ _).trans ((congrFun (after0_2 m c t) _).trans ?_)
  have e : (cfg0.win 2).xinj (cfg0.grid.coords t) y = ix2 (n0 := 1024) (n1 := 384) (y 0) (y 1) := by
    funext a; match a with
    | ⟨0, _⟩ => rfl
    | ⟨1, _⟩ => rfl
  rw [e]; frame_out
  refine (pay_apply _ _ _ _ (fun k => entry (in0 m c) (1024 * (t.val / 8) + (y 0).val) k) (fun k => entry (in1 m c) k (384 * (t.val % 8) + (y 1).val)) (fun k => blk0 m c t (y 0) k) (fun k => blk1 m c t k (y 1))).trans ?_
  exact congrArg₂ (fun a b : ℕ => upTo (fun k => entry (in0 m c) a k) (fun k => entry (in1 m c) k b) 1024)
    (at_block (at2 t).1).symm (at_block (at2 t).2).symm

end Kernel

theorem ref (x0 : (Mat 2048 1024).Idx → EReal) (x1 : (Mat 1024 9216).Idx → EReal) : val_main_v2 (F := Ideal) x0 x1 = prod x0 x1 := by
  funext y
  refine (val_main_v2_apply (F := Ideal) x0 x1 y).trans ?_
  refine (val_main_v1_apply x0 x1 _).trans ((Finset.sum_congr rfl fun k _ => ?_).trans (upTo_fin _ _ 1024).symm)
  exact congrArg₂ (fun u v : EReal => u * v) (eq_entry x0 _ rfl rfl) ((val_main_v0_apply (F := Ideal) x1 _).trans (eq_entry x1 _ rfl rfl))

/-! ### The claims -/

theorem frame_p : Cert.quiescent_DilQkv0 := fun m ρ _ => Cert.DilQkv0.Gen.frame m ρ
theorem frame_pi : Cert.quiescent_DilQkv0Ideal := fun m ρ _ => Cert.DilQkv0Ideal.Gen.frame m ρ
theorem frame_ri : Cert.quiescent_DilQkv0RefIdeal := fun m ρ _ =>
  (θ_run Cert.DilQkv0RefIdeal.defs _ _).mono (fun r h => ⟨fun c => (h c).2, sem_eq_zero_of_no_sems (by decide) r.2⟩)
    (Cert.DilQkv0RefIdeal.Value.run (F := Ideal) m ρ)

theorem preserves : Cert.preserves_DilQkv0_DilQkv0Ideal := trivial

/-- The kernel's array is the reference's. -/
theorem algebraic : Cert.algebraic_DilQkv0Ideal_DilQkv0RefIdeal := by
  intro m ρ m' ρ' _ hagree
  refine ⟨fun c => prod (in0 m c) (in1 m c), ?_, ?_⟩
  · exact (θ_run defs _ _).mono (fun r h c => ⟨(h c).1.trans (arr m c), (h c).2⟩) (Cert.DilQkv0Ideal.Value.run_blocks (F := Ideal) m ρ)
  · refine (θ_run Cert.DilQkv0RefIdeal.defs _ _).mono (fun r h c => ⟨(h c).1.trans ?_, (h c).2⟩) (Cert.DilQkv0RefIdeal.Value.run (F := Ideal) m' ρ')
    refine (val_main_v2_eq _ _).trans ((ref _ _ ).trans ?_)
    obtain ⟨e0, e1⟩ := hagree c
    exact congrArg₂ prod e0 e1

end Cert.Proof.DilQkv0

end
-- ==== Proof.DilQkv1.lean ====
/-
  The dilated attention's projection for group 1 of heads: 3072 of the matrix's columns, kept as the eight devices' columns.
-/
module

public import proofs.«01_k».proof.Defs
public import proofs.«01_k».proof.Proof.Contract
public import proofs.«01_k».proof.Proof.Gen.DilQkv1.Frame
public import proofs.«01_k».proof.Proof.Gen.DilQkv1Ideal.Value
public import proofs.«01_k».proof.Proof.Gen.DilQkv1RefIdeal.Run
public import proofs.«01_k».proof.Proof.Gen.DilQkv1RefIdeal.Read
public import Idealize.ShloMosaic.Lib.StableHlo.RunRead
public import Idealize.ShloMosaic.Lib.Pipeline.ValueKit.Geometry
public import Idealize.ShloMosaic.Lib.Pipeline.ValueKit.Acc

@[expose] public section

set_option maxRecDepth 16384

noncomputable section

namespace Cert.Proof.DilQkv1

open Cert.DilQkv1Ideal Cert.DilQkv1Ideal.Gen Cert.DilQkv1RefIdeal.Read
open Idealize.ShloMosaic Idealize.ShloMosaic.TcCoe Idealize.SL.Sem Idealize.ShloMosaic.StableHlo Idealize.ShloMosaic.ValueIdx

/-- The token of a row, where the rows of one residue modulo 4 lie together. -/
def tok (r : ℕ) : ℕ := r % 512 * 4 + r / 512

/-- The result. -/
def prod (x0 : (Mat 2048 1024).Idx → EReal) (x1 : (Mat 1024 9216).Idx → EReal) : (Mat 2048 3072).Idx → EReal := fun y =>
  upTo (fun k => entry x0 (tok ((y 0).val)) k) (fun k => entry x1 k (3072 + ((y 1).val))) 1024

section Kernel

variable (m : (ℓ : Loc nD τ sig) → Buf (Elt Ideal) ℓ) (c : Dev nD)

/-- The first argument. -/
abbrev in0 : (Mat 2048 1024).Idx → EReal := m ((c : Thread nD τ).loc main_arg0)
/-- The second argument. -/
abbrev in1 : (Mat 1024 9216).Idx → EReal := m ((c : Thread nD τ).loc main_arg1)

/-! ### The staged blocks -/

theorem host0 (y : S2048x1024.Idx) : (V m c main_v3 y : EReal) = entry (in0 m c) (tok (y 0).val) (y 1).val := by
  have h0 : (y 0).val < 2048 := (y 0).isLt
  unfold V; after_reads_simp
  refine (shapeCast_apply _ _ _ (ix3 (n0 := 4) (n1 := 512) (n2 := 1024) ⟨(y 0).val / 512, by omega⟩ ⟨(y 0).val % 512, by omega⟩ (y 1)) (by
    show ((⟨3, ![4, 512, 1024]⟩ : Shape).rowMajor (ix3 (n0 := 4) (n1 := 512) (n2 := 1024) ⟨(y 0).val / 512, by omega⟩ ⟨(y 0).val % 512, by omega⟩ (y 1))).val = ((⟨2, ![2048, 1024]⟩ : Shape).rowMajor y).val
    rw [Shape.rowMajor_val_two, Shape.rowMajor_val_three]
    show ((y 0).val / 512 * 512 + (y 0).val % 512) * 1024 + (y 1).val = (y 0).val * 1024 + (y 1).val
    omega)).trans ?_
  refine (transpose_apply _ _ _ _ (ix3 (n0 := 512) (n1 := 4) (n2 := 1024) ⟨(y 0).val % 512, by omega⟩ ⟨(y 0).val / 512, by omega⟩ (y 1)) (fun b => by
    match b with
    | ⟨0, _⟩ => rfl
    | ⟨1, _⟩ => rfl
    | ⟨2, _⟩ => rfl)).trans ?_
  refine (shapeCast_apply _ _ _ (ix2 (n0 := 2048) (n1 := 1024) ⟨(y 0).val % 512 * 4 + (y 0).val / 512, by omega⟩ (y 1)) (by
    show _ = ((⟨3, ![512, 4, 1024]⟩ : Shape).rowMajor (ix3 (n0 := 512) (n1 := 4) (n2 := 1024) ⟨(y 0).val % 512, by omega⟩ ⟨(y 0).val / 512, by omega⟩ (y 1))).val
    rw [Shape.rowMajor_val_two, Shape.rowMajor_val_three]
    rfl)).trans ?_
  exact eq_entry (in0 m c) _ rfl rfl

theorem at0 : ∀ t : Fin grid0.N, win0_0.index t 0 = t.val / 8 ∧ win0_0.index t 1 = 0 := by decide +kernel

theorem blk0 (t : Fin cfg0.N) (i : Fin 1024) (k : Fin 1024) :
    ((iblk m c 0 t : Vec Ideal S1024x1024 .bf16) (ix2 i k) : EReal) = entry (in0 m c) (tok (1024 * (t.val / 8) + i.val)) (k.val) := by
  unfold iblk
  rw [View.read_apply]
  refine (host0 m c _).trans (congrArg₂ (entry (in0 m c)) ?_ ?_)
  · refine congrArg tok ?_
    show win0_0.index t 0 * 1024 + 1 * i.val = _
    rw [(at0 t).1]; omega
  · show win0_0.index t 1 * 1024 + 1 * k.val = _
    rw [(at0 t).2]; omega

theorem host1 (y : S8x1x1024x1152.Idx) : (V m c main_v7 y : EReal) = entry (in1 m c) (y 2).val (1152 * (y 0).val + (y 3).val) := by
  have h0 : (y 0).val < 8 := (y 0).isLt
  have h3 : (y 3).val < 1152 := (y 3).isLt
  unfold V; after_reads_simp
  refine (broadcastInDim_apply _ _ _ y (ix3 (n0 := 8) (n1 := 1024) (n2 := 1152) (y 0) (y 2) (y 3)) (fun a => by
    match a with
    | ⟨0, _⟩ => rfl
    | ⟨1, _⟩ => rfl
    | ⟨2, _⟩ => rfl)).trans ?_
  refine (transpose_apply _ _ _ _ (ix3 (n0 := 1024) (n1 := 8) (n2 := 1152) (y 2) (y 0) (y 3)) (fun b => by
    match b with
    | ⟨0, _⟩ => rfl
    | ⟨1, _⟩ => rfl
    | ⟨2, _⟩ => rfl)).trans ?_
  refine (shapeCast_apply _ _ _ (ix2 (n0 := 1024) (n1 := 9216) (y 2) ⟨1152 * (y 0).val + (y 3).val, by omega⟩) (by
    show _ = ((⟨3, ![1024, 8, 1152]⟩ : Shape).rowMajor (ix3 (n0 := 1024) (n1 := 8) (n2 := 1152) (y 2) (y 0) (y 3))).val
    rw [Shape.rowMajor_val_two, Shape.rowMajor_val_three]
    show (y 2).val * 9216 + (1152 * (y 0).val + (y 3).val) = ((y 2).val * 8 + (y 0).val) * 1152 + (y 3).val
    omega)).trans ?_
  exact eq_entry (in1 m c) _ rfl rfl

theorem at1 : ∀ t : Fin grid0.N, win0_1.index t 0 = (t.val % 8 + 8) / 3 ∧ win0_1.index t 1 = 0 ∧ win0_1.index t 2 = 0 ∧ win0_1.index t 3 = (t.val % 8 + 8) % 3 := by decide +kernel

theorem blk1 (t : Fin cfg0.N) (i : Fin 1024) (k : Fin 384) :
    ((iblk m c 1 t : Vec Ideal S1x1x1024x384 .bf16) (ix4 0 0 i k) : EReal) = entry (in1 m c) (i.val) (3072 + (384 * (t.val % 8) + k.val)) := by
  unfold iblk
  rw [View.read_apply]
  refine (host1 m c _).trans (congrArg₂ (entry (in1 m c)) ?_ ?_)
  · show win0_1.index t 2 * 1024 + 1 * i.val = _
    rw [(at1 t).2.2.1]; omega
  · show 1152 * (win0_1.index t 0 * 1 + 1 * 0) + (win0_1.index t 3 * 384 + 1 * k.val) = _
    rw [(at1 t).1, (at1 t).2.2.2]; omega

theorem at2 : ∀ t : Fin grid0.N, win0_2.index t 0 = t.val / 8 ∧ win0_2.index t 1 = t.val % 8 := by decide +kernel

/-- What a point multiplies, at an entry. -/
theorem pay_apply (x0 : Vec Ideal S1024x1024 .bf16) (x1 : Vec Ideal S1x1x1024x384 .bf16) (i : Fin 1024) (j : Fin 384) (f g : ℕ → EReal)
    (hf : ∀ k : Fin 1024, (x0 (ix2 i k) : EReal) = f k.val) (hg : ∀ k : Fin 1024, (x1 (ix4 0 0 k j) : EReal) = g k.val) :
    (k0_pay1 x0 x1 (ix2 i j) : EReal) = upTo f g 1024 := by
  unfold k0_pay1
  try simp only [shapeCast_self]
  exact nn_upTo (φ₁ := .bf16) (φ₂ := .bf16) x0 _ i j f g hf (fun k => (unbox2_apply x1 _ k j).trans (hg k))

/-- The array after the run. -/
theorem arr : (dats m 0 c).arrAt 2 cfg0.N = prod (in0 m c) (in1 m c) := by
  refine (dats m 0 c).arrAt_eq_of_covers 2 (prod (in0 m c) (in1 m c)) (by decide +kernel) fun t _ y => ?_
  refine (cast_eq _ _).trans ((congrFun (after0_2 m c t) _).trans ?_)
  have e : (cfg0.win 2).xinj (cfg0.grid.coords t) y = ix2 (n0 := 1024) (n1 := 384) (y 0) (y 1) := by
    funext a; match a with
    | ⟨0, _⟩ => rfl
    | ⟨1, _⟩ => rfl
  rw [e]; frame_out
  refine (pay_apply _ _ _ _ (fun k => entry (in0 m c) (tok (1024 * (t.val / 8) + (y 0).val)) k) (fun k => entry (in1 m c) k (3072 + (384 * (t.val % 8) + (y 1).val))) (fun k => blk0 m c t (y 0) k) (fun k => blk1 m c t k (y 1))).trans ?_
  exact congrArg₂ (fun a b : ℕ => upTo (fun k => entry (in0 m c) (tok (a)) k) (fun k => entry (in1 m c) k (3072 + (b))) 1024)
    (at_block (at2 t).1).symm (at_block (at2 t).2).symm

end Kernel

theorem ref (x0 : (Mat 2048 1024).Idx → EReal) (x1 : (Mat 1024 9216).Idx → EReal) : val_main_v5 (F := Ideal) x0 x1 = prod x0 x1 := by
  funext y
  have h0 : (y 0).val < 2048 := (y 0).isLt
  have h1 : (y 1).val < 3072 := (y 1).isLt
  rw [val_main_v5_apply, val_main_v4_apply, val_main_v3_apply]
  refine (val_main_v2_apply (F := Ideal) x0 x1 _).trans ?_
  refine (val_main_v1_apply x0 x1 _).trans ((Finset.sum_congr rfl fun k _ => ?_).trans (upTo_fin _ _ 1024).symm)
  refine congrArg₂ (fun u v : EReal => u * v) (eq_entry x0 _ ?_ rfl) ((val_main_v0_apply (F := Ideal) x1 _).trans (eq_entry x1 _ rfl ?_))
  · show ((((y 0).val * 3072 + (y 1).val) / 3072 % 512 * 4 + ((y 0).val * 3072 + (y 1).val) / 1572864) * 3072 + ((y 0).val * 3072 + (y 1).val) % 3072) / 3072 = tok (y 0).val
    unfold tok; omega
  · show 3072 + ((((y 0).val * 3072 + (y 1).val) / 3072 % 512 * 4 + ((y 0).val * 3072 + (y 1).val) / 1572864) * 3072 + ((y 0).val * 3072 + (y 1).val) % 3072) % 3072 = 3072 + (y 1).val
    omega

/-! ### The claims -/

theorem frame_p : Cert.quiescent_DilQkv1 := fun m ρ _ => Cert.DilQkv1.Gen.frame m ρ
theorem frame_pi : Cert.quiescent_DilQkv1Ideal := fun m ρ _ => Cert.DilQkv1Ideal.Gen.frame m ρ
theorem frame_ri : Cert.quiescent_DilQkv1RefIdeal := fun m ρ _ =>
  (θ_run Cert.DilQkv1RefIdeal.defs _ _).mono (fun r h => ⟨fun c => (h c).2, sem_eq_zero_of_no_sems (by decide) r.2⟩)
    (Cert.DilQkv1RefIdeal.Value.run (F := Ideal) m ρ)

theorem preserves : Cert.preserves_DilQkv1_DilQkv1Ideal := trivial

/-- The kernel's array is the reference's. -/
theorem algebraic : Cert.algebraic_DilQkv1Ideal_DilQkv1RefIdeal := by
  intro m ρ m' ρ' _ hagree
  refine ⟨fun c => prod (in0 m c) (in1 m c), ?_, ?_⟩
  · exact (θ_run defs _ _).mono (fun r h c => ⟨(h c).1.trans (arr m c), (h c).2⟩) (Cert.DilQkv1Ideal.Value.run_blocks (F := Ideal) m ρ)
  · refine (θ_run Cert.DilQkv1RefIdeal.defs _ _).mono (fun r h c => ⟨(h c).1.trans ?_, (h c).2⟩) (Cert.DilQkv1RefIdeal.Value.run (F := Ideal) m' ρ')
    refine (val_main_v5_eq _ _).trans ((ref _ _ ).trans ?_)
    obtain ⟨e0, e1⟩ := hagree c
    exact congrArg₂ prod e0 e1

end Cert.Proof.DilQkv1

end
-- ==== Proof.DilQkv2.lean ====
/-
  The dilated attention's projection for group 2 of heads: 3072 of the matrix's columns, kept as the eight devices' columns.
-/
module

public import proofs.«01_k».proof.Defs
public import proofs.«01_k».proof.Proof.Contract
public import proofs.«01_k».proof.Proof.Gen.DilQkv2.Frame
public import proofs.«01_k».proof.Proof.Gen.DilQkv2Ideal.Value
public import proofs.«01_k».proof.Proof.Gen.DilQkv2RefIdeal.Run
public import proofs.«01_k».proof.Proof.Gen.DilQkv2RefIdeal.Read
public import Idealize.ShloMosaic.Lib.StableHlo.RunRead
public import Idealize.ShloMosaic.Lib.Pipeline.ValueKit.Geometry
public import Idealize.ShloMosaic.Lib.Pipeline.ValueKit.Acc

@[expose] public section

set_option maxRecDepth 16384

noncomputable section

namespace Cert.Proof.DilQkv2

open Cert.DilQkv2Ideal Cert.DilQkv2Ideal.Gen Cert.DilQkv2RefIdeal.Read
open Idealize.ShloMosaic Idealize.ShloMosaic.TcCoe Idealize.SL.Sem Idealize.ShloMosaic.StableHlo Idealize.ShloMosaic.ValueIdx

/-- The token of a row, where the rows of one residue modulo 16 lie together. -/
def tok (r : ℕ) : ℕ := r % 128 * 16 + r / 128

/-- The result. -/
def prod (x0 : (Mat 2048 1024).Idx → EReal) (x1 : (Mat 1024 9216).Idx → EReal) : (Mat 2048 3072).Idx → EReal := fun y =>
  upTo (fun k => entry x0 (tok ((y 0).val)) k) (fun k => entry x1 k (6144 + ((y 1).val))) 1024

section Kernel

variable (m : (ℓ : Loc nD τ sig) → Buf (Elt Ideal) ℓ) (c : Dev nD)

/-- The first argument. -/
abbrev in0 : (Mat 2048 1024).Idx → EReal := m ((c : Thread nD τ).loc main_arg0)
/-- The second argument. -/
abbrev in1 : (Mat 1024 9216).Idx → EReal := m ((c : Thread nD τ).loc main_arg1)

/-! ### The staged blocks -/

theorem host0 (y : S2048x1024.Idx) : (V m c main_v3 y : EReal) = entry (in0 m c) (tok (y 0).val) (y 1).val := by
  have h0 : (y 0).val < 2048 := (y 0).isLt
  unfold V; after_reads_simp
  refine (shapeCast_apply _ _ _ (ix3 (n0 := 16) (n1 := 128) (n2 := 1024) ⟨(y 0).val / 128, by omega⟩ ⟨(y 0).val % 128, by omega⟩ (y 1)) (by
    show ((⟨3, ![16, 128, 1024]⟩ : Shape).rowMajor (ix3 (n0 := 16) (n1 := 128) (n2 := 1024) ⟨(y 0).val / 128, by omega⟩ ⟨(y 0).val % 128, by omega⟩ (y 1))).val = ((⟨2, ![2048, 1024]⟩ : Shape).rowMajor y).val
    rw [Shape.rowMajor_val_two, Shape.rowMajor_val_three]
    show ((y 0).val / 128 * 128 + (y 0).val % 128) * 1024 + (y 1).val = (y 0).val * 1024 + (y 1).val
    omega)).trans ?_
  refine (transpose_apply _ _ _ _ (ix3 (n0 := 128) (n1 := 16) (n2 := 1024) ⟨(y 0).val % 128, by omega⟩ ⟨(y 0).val / 128, by omega⟩ (y 1)) (fun b => by
    match b with
    | ⟨0, _⟩ => rfl
    | ⟨1, _⟩ => rfl
    | ⟨2, _⟩ => rfl)).trans ?_
  refine (shapeCast_apply _ _ _ (ix2 (n0 := 2048) (n1 := 1024) ⟨(y 0).val % 128 * 16 + (y 0).val / 128, by omega⟩ (y 1)) (by
    show _ = ((⟨3, ![128, 16, 1024]⟩ : Shape).rowMajor (ix3 (n0 := 128) (n1 := 16) (n2 := 1024) ⟨(y 0).val % 128, by omega⟩ ⟨(y 0).val / 128, by omega⟩ (y 1))).val
    rw [Shape.rowMajor_val_two, Shape.rowMajor_val_three]
    rfl)).trans ?_
  exact eq_entry (in0 m c) _ rfl rfl

theorem at0 : ∀ t : Fin grid0.N, win0_0.index t 0 = t.val / 8 ∧ win0_0.index t 1 = 0 := by decide +kernel

theorem blk0 (t : Fin cfg0.N) (i : Fin 1024) (k : Fin 1024) :
    ((iblk m c 0 t : Vec Ideal S1024x1024 .bf16) (ix2 i k) : EReal) = entry (in0 m c) (tok (1024 * (t.val / 8) + i.val)) (k.val) := by
  unfold iblk
  rw [View.read_apply]
  refine (host0 m c _).trans (congrArg₂ (entry (in0 m c)) ?_ ?_)
  · refine congrArg tok ?_
    show win0_0.index t 0 * 1024 + 1 * i.val = _
    rw [(at0 t).1]; omega
  · show win0_0.index t 1 * 1024 + 1 * k.val = _
    rw [(at0 t).2]; omega

theorem host1 (y : S8x1x1024x1152.Idx) : (V m c main_v7 y : EReal) = entry (in1 m c) (y 2).val (1152 * (y 0).val + (y 3).val) := by
  have h0 : (y 0).val < 8 := (y 0).isLt
  have h3 : (y 3).val < 1152 := (y 3).isLt
  unfold V; after_reads_simp
  refine (broadcastInDim_apply _ _ _ y (ix3 (n0 := 8) (n1 := 1024) (n2 := 1152) (y 0) (y 2) (y 3)) (fun a => by
    match a with
    | ⟨0, _⟩ => rfl
    | ⟨1, _⟩ => rfl
    | ⟨2, _⟩ => rfl)).trans ?_
  refine (transpose_apply _ _ _ _ (ix3 (n0 := 1024) (n1 := 8) (n2 := 1152) (y 2) (y 0) (y 3)) (fun b => by
    match b with
    | ⟨0, _⟩ => rfl
    | ⟨1, _⟩ => rfl
    | ⟨2, _⟩ => rfl)).trans ?_
  refine (shapeCast_apply _ _ _ (ix2 (n0 := 1024) (n1 := 9216) (y 2) ⟨1152 * (y 0).val + (y 3).val, by omega⟩) (by
    show _ = ((⟨3, ![1024, 8, 1152]⟩ : Shape).rowMajor (ix3 (n0 := 1024) (n1 := 8) (n2 := 1152) (y 2) (y 0) (y 3))).val
    rw [Shape.rowMajor_val_two, Shape.rowMajor_val_three]
    show (y 2).val * 9216 + (1152 * (y 0).val + (y 3).val) = ((y 2).val * 8 + (y 0).val) * 1152 + (y 3).val
    omega)).trans ?_
  exact eq_entry (in1 m c) _ rfl rfl

theorem at1 : ∀ t : Fin grid0.N, win0_1.index t 0 = (t.val % 8 + 16) / 3 ∧ win0_1.index t 1 = 0 ∧ win0_1.index t 2 = 0 ∧ win0_1.index t 3 = (t.val % 8 + 16) % 3 := by decide +kernel

theorem blk1 (t : Fin cfg0.N) (i : Fin 1024) (k : Fin 384) :
    ((iblk m c 1 t : Vec Ideal S1x1x1024x384 .bf16) (ix4 0 0 i k) : EReal) = entry (in1 m c) (i.val) (6144 + (384 * (t.val % 8) + k.val)) := by
  unfold iblk
  rw [View.read_apply]
  refine (host1 m c _).trans (congrArg₂ (entry (in1 m c)) ?_ ?_)
  · show win0_1.index t 2 * 1024 + 1 * i.val = _
    rw [(at1 t).2.2.1]; omega
  · show 1152 * (win0_1.index t 0 * 1 + 1 * 0) + (win0_1.index t 3 * 384 + 1 * k.val) = _
    rw [(at1 t).1, (at1 t).2.2.2]; omega

theorem at2 : ∀ t : Fin grid0.N, win0_2.index t 0 = t.val / 8 ∧ win0_2.index t 1 = t.val % 8 := by decide +kernel

/-- What a point multiplies, at an entry. -/
theorem pay_apply (x0 : Vec Ideal S1024x1024 .bf16) (x1 : Vec Ideal S1x1x1024x384 .bf16) (i : Fin 1024) (j : Fin 384) (f g : ℕ → EReal)
    (hf : ∀ k : Fin 1024, (x0 (ix2 i k) : EReal) = f k.val) (hg : ∀ k : Fin 1024, (x1 (ix4 0 0 k j) : EReal) = g k.val) :
    (k0_pay1 x0 x1 (ix2 i j) : EReal) = upTo f g 1024 := by
  unfold k0_pay1
  try simp only [shapeCast_self]
  exact nn_upTo (φ₁ := .bf16) (φ₂ := .bf16) x0 _ i j f g hf (fun k => (unbox2_apply x1 _ k j).trans (hg k))

/-- The array after the run. -/
theorem arr : (dats m 0 c).arrAt 2 cfg0.N = prod (in0 m c) (in1 m c) := by
  refine (dats m 0 c).arrAt_eq_of_covers 2 (prod (in0 m c) (in1 m c)) (by decide +kernel) fun t _ y => ?_
  refine (cast_eq _ _).trans ((congrFun (after0_2 m c t) _).trans ?_)
  have e : (cfg0.win 2).xinj (cfg0.grid.coords t) y = ix2 (n0 := 1024) (n1 := 384) (y 0) (y 1) := by
    funext a; match a with
    | ⟨0, _⟩ => rfl
    | ⟨1, _⟩ => rfl
  rw [e]; frame_out
  refine (pay_apply _ _ _ _ (fun k => entry (in0 m c) (tok (1024 * (t.val / 8) + (y 0).val)) k) (fun k => entry (in1 m c) k (6144 + (384 * (t.val % 8) + (y 1).val))) (fun k => blk0 m c t (y 0) k) (fun k => blk1 m c t k (y 1))).trans ?_
  exact congrArg₂ (fun a b : ℕ => upTo (fun k => entry (in0 m c) (tok (a)) k) (fun k => entry (in1 m c) k (6144 + (b))) 1024)
    (at_block (at2 t).1).symm (at_block (at2 t).2).symm

end Kernel

theorem ref (x0 : (Mat 2048 1024).Idx → EReal) (x1 : (Mat 1024 9216).Idx → EReal) : val_main_v5 (F := Ideal) x0 x1 = prod x0 x1 := by
  funext y
  have h0 : (y 0).val < 2048 := (y 0).isLt
  have h1 : (y 1).val < 3072 := (y 1).isLt
  rw [val_main_v5_apply, val_main_v4_apply, val_main_v3_apply]
  refine (val_main_v2_apply (F := Ideal) x0 x1 _).trans ?_
  refine (val_main_v1_apply x0 x1 _).trans ((Finset.sum_congr rfl fun k _ => ?_).trans (upTo_fin _ _ 1024).symm)
  refine congrArg₂ (fun u v : EReal => u * v) (eq_entry x0 _ ?_ rfl) ((val_main_v0_apply (F := Ideal) x1 _).trans (eq_entry x1 _ rfl ?_))
  · show ((((y 0).val * 3072 + (y 1).val) / 3072 % 128 * 16 + ((y 0).val * 3072 + (y 1).val) / 393216) * 3072 + ((y 0).val * 3072 + (y 1).val) % 3072) / 3072 = tok (y 0).val
    unfold tok; omega
  · show 6144 + ((((y 0).val * 3072 + (y 1).val) / 3072 % 128 * 16 + ((y 0).val * 3072 + (y 1).val) / 393216) * 3072 + ((y 0).val * 3072 + (y 1).val) % 3072) % 3072 = 6144 + (y 1).val
    omega

/-! ### The claims -/

theorem frame_p : Cert.quiescent_DilQkv2 := fun m ρ _ => Cert.DilQkv2.Gen.frame m ρ
theorem frame_pi : Cert.quiescent_DilQkv2Ideal := fun m ρ _ => Cert.DilQkv2Ideal.Gen.frame m ρ
theorem frame_ri : Cert.quiescent_DilQkv2RefIdeal := fun m ρ _ =>
  (θ_run Cert.DilQkv2RefIdeal.defs _ _).mono (fun r h => ⟨fun c => (h c).2, sem_eq_zero_of_no_sems (by decide) r.2⟩)
    (Cert.DilQkv2RefIdeal.Value.run (F := Ideal) m ρ)

theorem preserves : Cert.preserves_DilQkv2_DilQkv2Ideal := trivial

/-- The kernel's array is the reference's. -/
theorem algebraic : Cert.algebraic_DilQkv2Ideal_DilQkv2RefIdeal := by
  intro m ρ m' ρ' _ hagree
  refine ⟨fun c => prod (in0 m c) (in1 m c), ?_, ?_⟩
  · exact (θ_run defs _ _).mono (fun r h c => ⟨(h c).1.trans (arr m c), (h c).2⟩) (Cert.DilQkv2Ideal.Value.run_blocks (F := Ideal) m ρ)
  · refine (θ_run Cert.DilQkv2RefIdeal.defs _ _).mono (fun r h c => ⟨(h c).1.trans ?_, (h c).2⟩) (Cert.DilQkv2RefIdeal.Value.run (F := Ideal) m' ρ')
    refine (val_main_v5_eq _ _).trans ((ref _ _ ).trans ?_)
    obtain ⟨e0, e1⟩ := hagree c
    exact congrArg₂ prod e0 e1

end Cert.Proof.DilQkv2

end
-- ==== Proof.Stack.lean ====
/-
  A stack of four layers' gradients, one of which a call puts in: the choice by the layer's number.
-/
module

public import proofs.«01_k».proof.Proof.Contract
public import Idealize.ShloMosaic.PureOps.Vector

@[expose] public section

namespace Cert.Proof

open Idealize.ShloMosaic

/-- The choice between two entries by comparing a layer's number with the given one. -/
theorem layer_select {α : Type} (n i : ℕ) (hn : n < 4) (hi : i < 4) (a b : α) :
    Scalar.select (IntOp.cmpi .eq (BitVec.ofNat 32 n) (BitVec.ofNat 32 i)) a b = if n = i then a else b := by
  unfold Scalar.select
  refine if_congr ?_ rfl rfl
  have h : ∀ n i : Fin 4, IntOp.cmpi .eq (BitVec.ofNat 32 n.val) (BitVec.ofNat 32 i.val) = 1 ↔ n.val = i.val := by decide
  exact h ⟨n, hn⟩ ⟨i, hi⟩

end Cert.Proof

end
-- ==== Proof.Dwin0.lean ====
/-
  The gradient of the feed-forward's input matrix, transposed, put into the layers' stack. Layer 0 of the stack.
-/
module

public import proofs.«01_k».proof.Defs
public import proofs.«01_k».proof.Proof.Contract
public import proofs.«01_k».proof.Proof.Gen.Dwin0.Frame
public import proofs.«01_k».proof.Proof.Gen.Dwin0Ideal.Value
public import proofs.«01_k».proof.Proof.Gen.Dwin0RefIdeal.Run
public import proofs.«01_k».proof.Proof.Gen.Dwin0RefIdeal.Read
public import Idealize.ShloMosaic.Lib.StableHlo.RunRead
public import Idealize.ShloMosaic.Lib.Pipeline.ValueKit.Geometry
public import Idealize.ShloMosaic.Lib.Pipeline.ValueKit.Acc
public import Idealize.ShloMosaic.Lib.Tactic
public import proofs.«01_k».proof.Proof.Stack
public import Idealize.ShloMosaic.Lib.Pipeline.ValueKit.Partial

@[expose] public section

set_option maxRecDepth 16384

noncomputable section

namespace Cert.Proof.Dwin0

open Cert.Dwin0Ideal Cert.Dwin0Ideal.Gen Cert.Dwin0RefIdeal.Read
open Idealize.ShloMosaic Idealize.ShloMosaic.TcCoe Idealize.SL.Sem Idealize.ShloMosaic.StableHlo Idealize.ShloMosaic.ValueIdx

/-- The result. -/
def prod (x0 : (Mat 2048 5632).Idx → EReal) (x1 : (Mat 2048 1024).Idx → EReal) (x2 : S4x5632x1024.Idx → EReal) : S4x5632x1024.Idx → EReal := fun y =>
  if (y 0).val = 0 then upTo (fun k => entry x0 k ((y 1).val)) (fun k => entry x1 k ((y 2).val)) 2048 else x2 y

section Kernel

variable (m : (ℓ : Loc nD τ sig) → Buf (Elt Ideal) ℓ) (c : Dev nD)

/-- The first argument. -/
abbrev in0 : (Mat 2048 5632).Idx → EReal := m ((c : Thread nD τ).loc main_arg0)
/-- The second argument. -/
abbrev in1 : (Mat 2048 1024).Idx → EReal := m ((c : Thread nD τ).loc main_arg1)
/-- The stack that the call writes into. -/
abbrev in2 : S4x5632x1024.Idx → EReal := m ((c : Thread nD τ).loc main_arg2)

/-! ### The staged blocks -/

theorem host0 (y : S2048x5632.Idx) : (V m c main_v0 y : EReal) = entry (in0 m c) (y 0).val (y 1).val := by
  rw [entry_idx]; unfold V; after_reads_simp; rfl

theorem at0 : ∀ t : Fin grid0.N, win0_0.index t 0 = 0 ∧ win0_0.index t 1 = t.val := by decide +kernel

theorem blk0 (t : Fin cfg0.N) (i : Fin 2048) (k : Fin 512) :
    ((iblk m c 0 t : Vec Ideal S2048x512 .bf16) (ix2 i k) : EReal) = entry (in0 m c) (i.val) (512 * (t.val) + k.val) := by
  unfold iblk
  rw [View.read_apply]
  exact (host0 m c _).trans (congrArg₂ (entry (in0 m c)) (at_whole (at0 t).1) (at_block (at0 t).2))

theorem host1 (y : S2048x1024.Idx) : (V m c main_v1 y : EReal) = entry (in1 m c) (y 0).val (y 1).val := by
  rw [entry_idx]; unfold V; after_reads_simp; rfl

theorem at1 : ∀ t : Fin grid0.N, win0_1.index t 0 = 0 ∧ win0_1.index t 1 = 0 := by decide +kernel

theorem blk1 (t : Fin cfg0.N) (i : Fin 2048) (k : Fin 1024) :
    ((iblk m c 1 t : Vec Ideal S2048x1024 .bf16) (ix2 i k) : EReal) = entry (in1 m c) (i.val) (k.val) := by
  unfold iblk
  rw [View.read_apply]
  exact (host1 m c _).trans (congrArg₂ (entry (in1 m c)) (at_whole (at1 t).1) (at_whole (at1 t).2))

theorem at2 : ∀ t : Fin grid0.N, win0_2.index t 0 = 0 ∧ win0_2.index t 1 = t.val ∧ win0_2.index t 2 = 0 := by decide +kernel

/-- What a point multiplies, at an entry. -/
theorem pay_apply (x0 : Vec Ideal S2048x512 .bf16) (x1 : Vec Ideal S2048x1024 .bf16) (i : Fin 512) (j : Fin 1024) (f g : ℕ → EReal)
    (hf : ∀ k : Fin 2048, (x0 (ix2 k i) : EReal) = f k.val) (hg : ∀ k : Fin 2048, (x1 (ix2 k j) : EReal) = g k.val) :
    (k0_pay1 x0 x1 (ix3 0 i j) : EReal) = upTo f g 2048 := by
  unfold k0_pay1
  try simp only [shapeCast_self]
  refine (box_apply _ _ i j).trans ?_
  exact tn_upTo (by decide) (φ₁ := .bf16) (φ₂ := .bf16) x0 _ i j f g hf hg

/-- The stack as the call finds it. -/
theorem host2 (y : S4x5632x1024.Idx) : (V m c main_v2 y : EReal) = in2 m c y := by
  unfold V; after_reads_simp; rfl

/-- The stack after the run. -/
theorem arr : (dats m 0 c).arrAt 2 cfg0.N = prod (in0 m c) (in1 m c) (in2 m c) := by
  refine (dats m 0 c).arrAt_eq_of_coversWhere_of_agree 2 (prod (in0 m c) (in1 m c) (in2 m c)) (fun β => β (0 : Fin 3) = 0) (by decide +kernel) (fun t _ y => ?_) (fun j hj => ?_)
  · refine (cast_eq _ _).trans ((congrFun (after0_2 m c t) _).trans ?_)
    have h0 : (y 0).val < 1 := (y 0).isLt
    have e : (cfg0.win 2).xinj (cfg0.grid.coords t) y = ix3 (n0 := 1) (n1 := 512) (n2 := 1024) 0 (y 1) (y 2) := by
      funext a; apply Fin.ext; match a with
      | ⟨0, _⟩ => show (y 0).val = 0; omega
      | ⟨1, _⟩ => rfl
      | ⟨2, _⟩ => rfl
    rw [e]
    unfold outsAt0
    frame_out
    refine (pay_apply _ _ _ _ (fun k => entry (in0 m c) k (512 * (t.val) + (y 1).val)) (fun k => entry (in1 m c) k ((y 2).val)) (fun k => blk0 m c t k (y 1)) (fun k => blk1 m c t k (y 2))).trans ?_
    refine Eq.trans ?_ (if_pos ?_).symm
    · exact congrArg₂ (fun a b : ℕ => upTo (fun k => entry (in0 m c) k a) (fun k => entry (in1 m c) k b) 2048)
        (at_block (at2 t).2.1).symm (at_whole (at2 t).2.2).symm
    · show win0_2.index t 0 * 1 + 1 * (y 0).val = 0
      rw [(at2 t).1]; omega
  · exact (host2 m c j).trans (if_neg fun h => hj ((Nat.div_one _).trans h)).symm

end Kernel

/-- The product, in each layer alike. -/
theorem ref_layer (x0 : (Mat 2048 5632).Idx → EReal) (x1 : (Mat 2048 1024).Idx → EReal) (y : S4x5632x1024.Idx) :
    (val_main_v12 (F := Ideal) x0 x1 y : EReal) = upTo (fun k => entry x0 k ((y 1).val)) (fun k => entry x1 k ((y 2).val)) 2048 := by
  rw [val_main_v12_apply, val_main_v11_apply]
  refine (val_main_v10_apply (F := Ideal) x0 x1 _).trans ?_
  show val_main_v9 (F := Ideal) x0 x1 _ = _
  rw [val_main_v9_apply, val_main_v8_apply]
  refine (val_main_v7_apply x0 x1 _).trans ((Finset.sum_congr rfl fun k _ => ?_).trans (upTo_fin _ _ 2048).symm)
  exact congrArg₂ (fun u v : EReal => u * v) (eq_entry x0 _ rfl rfl) (eq_entry x1 _ rfl rfl)

theorem ref (x0 : (Mat 2048 5632).Idx → EReal) (x1 : (Mat 2048 1024).Idx → EReal) (x2 : S4x5632x1024.Idx → EReal) : val_main_v13 (F := Ideal) x0 x1 x2 = prod x0 x1 x2 := by
  funext y
  have h0 : (y 0).val < 4 := (y 0).isLt
  refine (val_main_v13_apply (F := Ideal) x0 x1 x2 y).trans ?_
  rw [val_main_v4_apply, val_main_v3_apply, val_main_v1_apply, val_main_v2_apply, val_main_v0_apply, val_main_c_apply]
  refine (layer_select (y 0).val 0 h0 (by decide) _ _).trans (if_congr Iff.rfl (ref_layer x0 x1 y) rfl)

/-! ### The claims -/

theorem frame_p : Cert.quiescent_Dwin0 := fun m ρ _ => Cert.Dwin0.Gen.frame m ρ
theorem frame_pi : Cert.quiescent_Dwin0Ideal := fun m ρ _ => Cert.Dwin0Ideal.Gen.frame m ρ
theorem frame_ri : Cert.quiescent_Dwin0RefIdeal := fun m ρ _ =>
  (θ_run Cert.Dwin0RefIdeal.defs _ _).mono (fun r h => ⟨fun c => (h c).2, sem_eq_zero_of_no_sems (by decide) r.2⟩)
    (Cert.Dwin0RefIdeal.Value.run (F := Ideal) m ρ)

theorem preserves : Cert.preserves_Dwin0_Dwin0Ideal := trivial

/-- The kernel's array is the reference's. -/
theorem algebraic : Cert.algebraic_Dwin0Ideal_Dwin0RefIdeal := by
  intro m ρ m' ρ' _ hagree
  refine ⟨fun c => prod (in0 m c) (in1 m c) (in2 m c), ?_, ?_⟩
  · exact (θ_run defs _ _).mono (fun r h c => ⟨(h c).1.trans (arr m c), (h c).2⟩) (Cert.Dwin0Ideal.Value.run_blocks (F := Ideal) m ρ)
  · refine (θ_run Cert.Dwin0RefIdeal.defs _ _).mono (fun r h c => ⟨(h c).1.trans ?_, (h c).2⟩) (Cert.Dwin0RefIdeal.Value.run (F := Ideal) m' ρ')
    refine (val_main_v13_eq _ _ _).trans ((ref _ _ _ ).trans ?_)
    obtain ⟨e0, e1, e2⟩ := hagree c
    rw [e0, e1, e2]

end Cert.Proof.Dwin0

end
-- ==== Proof.Dwin1.lean ====
/-
  The gradient of the feed-forward's input matrix, transposed, put into the layers' stack. Layer 1 of the stack.
-/
module

public import proofs.«01_k».proof.Defs
public import proofs.«01_k».proof.Proof.Contract
public import proofs.«01_k».proof.Proof.Gen.Dwin1.Frame
public import proofs.«01_k».proof.Proof.Gen.Dwin1Ideal.Value
public import proofs.«01_k».proof.Proof.Gen.Dwin1RefIdeal.Run
public import proofs.«01_k».proof.Proof.Gen.Dwin1RefIdeal.Read
public import Idealize.ShloMosaic.Lib.StableHlo.RunRead
public import Idealize.ShloMosaic.Lib.Pipeline.ValueKit.Geometry
public import Idealize.ShloMosaic.Lib.Pipeline.ValueKit.Acc
public import Idealize.ShloMosaic.Lib.Tactic
public import proofs.«01_k».proof.Proof.Dwin0
public import Idealize.ShloMosaic.Lib.Pipeline.ValueKit.Partial

@[expose] public section

set_option maxRecDepth 16384

noncomputable section

namespace Cert.Proof.Dwin1

open Cert.Dwin1Ideal Cert.Dwin1Ideal.Gen Cert.Dwin1RefIdeal.Read
open Idealize.ShloMosaic Idealize.ShloMosaic.TcCoe Idealize.SL.Sem Idealize.ShloMosaic.StableHlo Idealize.ShloMosaic.ValueIdx

/-- The result. -/
def prod (x0 : (Mat 2048 5632).Idx → EReal) (x1 : (Mat 2048 1024).Idx → EReal) (x2 : S4x5632x1024.Idx → EReal) : S4x5632x1024.Idx → EReal := fun y =>
  if (y 0).val = 1 then upTo (fun k => entry x0 k ((y 1).val)) (fun k => entry x1 k ((y 2).val)) 2048 else x2 y

section Kernel

variable (m : (ℓ : Loc nD τ sig) → Buf (Elt Ideal) ℓ) (c : Dev nD)

/-- The first argument. -/
abbrev in0 : (Mat 2048 5632).Idx → EReal := m ((c : Thread nD τ).loc main_arg0)
/-- The second argument. -/
abbrev in1 : (Mat 2048 1024).Idx → EReal := m ((c : Thread nD τ).loc main_arg1)
/-- The stack that the call writes into. -/
abbrev in2 : S4x5632x1024.Idx → EReal := m ((c : Thread nD τ).loc main_arg2)

/-! ### The staged blocks -/

theorem host0 (y : S2048x5632.Idx) : (V m c main_v0 y : EReal) = entry (in0 m c) (y 0).val (y 1).val := by
  rw [entry_idx]; unfold V; after_reads_simp; rfl

theorem at0 : ∀ t : Fin grid0.N, win0_0.index t 0 = 0 ∧ win0_0.index t 1 = t.val := by decide +kernel

theorem blk0 (t : Fin cfg0.N) (i : Fin 2048) (k : Fin 512) :
    ((iblk m c 0 t : Vec Ideal S2048x512 .bf16) (ix2 i k) : EReal) = entry (in0 m c) (i.val) (512 * (t.val) + k.val) := by
  unfold iblk
  rw [View.read_apply]
  exact (host0 m c _).trans (congrArg₂ (entry (in0 m c)) (at_whole (at0 t).1) (at_block (at0 t).2))

theorem host1 (y : S2048x1024.Idx) : (V m c main_v1 y : EReal) = entry (in1 m c) (y 0).val (y 1).val := by
  rw [entry_idx]; unfold V; after_reads_simp; rfl

theorem at1 : ∀ t : Fin grid0.N, win0_1.index t 0 = 0 ∧ win0_1.index t 1 = 0 := by decide +kernel

theorem blk1 (t : Fin cfg0.N) (i : Fin 2048) (k : Fin 1024) :
    ((iblk m c 1 t : Vec Ideal S2048x1024 .bf16) (ix2 i k) : EReal) = entry (in1 m c) (i.val) (k.val) := by
  unfold iblk
  rw [View.read_apply]
  exact (host1 m c _).trans (congrArg₂ (entry (in1 m c)) (at_whole (at1 t).1) (at_whole (at1 t).2))

theorem at2 : ∀ t : Fin grid0.N, win0_2.index t 0 = 1 ∧ win0_2.index t 1 = t.val ∧ win0_2.index t 2 = 0 := by decide +kernel

/-- The stack as the call finds it. -/
theorem host2 (y : S4x5632x1024.Idx) : (V m c main_v2 y : EReal) = in2 m c y := by
  unfold V; after_reads_simp; rfl

/-- The stack after the run. -/
theorem arr : (dats m 0 c).arrAt 2 cfg0.N = prod (in0 m c) (in1 m c) (in2 m c) := by
  refine (dats m 0 c).arrAt_eq_of_coversWhere_of_agree 2 (prod (in0 m c) (in1 m c) (in2 m c)) (fun β => β (0 : Fin 3) = 1) (by decide +kernel) (fun t _ y => ?_) (fun j hj => ?_)
  · refine (cast_eq _ _).trans ((congrFun (after0_2 m c t) _).trans ?_)
    have h0 : (y 0).val < 1 := (y 0).isLt
    have e : (cfg0.win 2).xinj (cfg0.grid.coords t) y = ix3 (n0 := 1) (n1 := 512) (n2 := 1024) 0 (y 1) (y 2) := by
      funext a; apply Fin.ext; match a with
      | ⟨0, _⟩ => show (y 0).val = 0; omega
      | ⟨1, _⟩ => rfl
      | ⟨2, _⟩ => rfl
    rw [e]
    unfold outsAt0
    frame_out
    refine (Dwin0.pay_apply _ _ _ _ (fun k => entry (in0 m c) k (512 * (t.val) + (y 1).val)) (fun k => entry (in1 m c) k ((y 2).val)) (fun k => blk0 m c t k (y 1)) (fun k => blk1 m c t k (y 2))).trans ?_
    refine Eq.trans ?_ (if_pos ?_).symm
    · exact congrArg₂ (fun a b : ℕ => upTo (fun k => entry (in0 m c) k a) (fun k => entry (in1 m c) k b) 2048)
        (at_block (at2 t).2.1).symm (at_whole (at2 t).2.2).symm
    · show win0_2.index t 0 * 1 + 1 * (y 0).val = 1
      rw [(at2 t).1]; omega
  · exact (host2 m c j).trans (if_neg fun h => hj ((Nat.div_one _).trans h)).symm

end Kernel

theorem ref (x0 : (Mat 2048 5632).Idx → EReal) (x1 : (Mat 2048 1024).Idx → EReal) (x2 : S4x5632x1024.Idx → EReal) : val_main_v13 (F := Ideal) x0 x1 x2 = prod x0 x1 x2 := by
  funext y
  have h0 : (y 0).val < 4 := (y 0).isLt
  refine (val_main_v13_apply (F := Ideal) x0 x1 x2 y).trans ?_
  rw [val_main_v4_apply, val_main_v3_apply, val_main_v1_apply, val_main_v2_apply, val_main_v0_apply, val_main_c_apply]
  refine (layer_select (y 0).val 1 h0 (by decide) _ _).trans (if_congr Iff.rfl (Dwin0.ref_layer x0 x1 y) rfl)

/-! ### The claims -/

theorem frame_p : Cert.quiescent_Dwin1 := fun m ρ _ => Cert.Dwin1.Gen.frame m ρ
theorem frame_pi : Cert.quiescent_Dwin1Ideal := fun m ρ _ => Cert.Dwin1Ideal.Gen.frame m ρ
theorem frame_ri : Cert.quiescent_Dwin1RefIdeal := fun m ρ _ =>
  (θ_run Cert.Dwin1RefIdeal.defs _ _).mono (fun r h => ⟨fun c => (h c).2, sem_eq_zero_of_no_sems (by decide) r.2⟩)
    (Cert.Dwin1RefIdeal.Value.run (F := Ideal) m ρ)

theorem preserves : Cert.preserves_Dwin1_Dwin1Ideal := trivial

/-- The kernel's array is the reference's. -/
theorem algebraic : Cert.algebraic_Dwin1Ideal_Dwin1RefIdeal := by
  intro m ρ m' ρ' _ hagree
  refine ⟨fun c => prod (in0 m c) (in1 m c) (in2 m c), ?_, ?_⟩
  · exact (θ_run defs _ _).mono (fun r h c => ⟨(h c).1.trans (arr m c), (h c).2⟩) (Cert.Dwin1Ideal.Value.run_blocks (F := Ideal) m ρ)
  · refine (θ_run Cert.Dwin1RefIdeal.defs _ _).mono (fun r h c => ⟨(h c).1.trans ?_, (h c).2⟩) (Cert.Dwin1RefIdeal.Value.run (F := Ideal) m' ρ')
    refine (val_main_v13_eq _ _ _).trans ((ref _ _ _ ).trans ?_)
    obtain ⟨e0, e1, e2⟩ := hagree c
    rw [e0, e1, e2]

end Cert.Proof.Dwin1

end
-- ==== Proof.Dwin2.lean ====
/-
  The gradient of the feed-forward's input matrix, transposed, put into the layers' stack. Layer 2 of the stack.
-/
module

public import proofs.«01_k».proof.Defs
public import proofs.«01_k».proof.Proof.Contract
public import proofs.«01_k».proof.Proof.Gen.Dwin2.Frame
public import proofs.«01_k».proof.Proof.Gen.Dwin2Ideal.Value
public import proofs.«01_k».proof.Proof.Gen.Dwin2RefIdeal.Run
public import proofs.«01_k».proof.Proof.Gen.Dwin2RefIdeal.Read
public import Idealize.ShloMosaic.Lib.StableHlo.RunRead
public import Idealize.ShloMosaic.Lib.Pipeline.ValueKit.Geometry
public import Idealize.ShloMosaic.Lib.Pipeline.ValueKit.Acc
public import Idealize.ShloMosaic.Lib.Tactic
public import proofs.«01_k».proof.Proof.Dwin0
public import Idealize.ShloMosaic.Lib.Pipeline.ValueKit.Partial

@[expose] public section

set_option maxRecDepth 16384

noncomputable section

namespace Cert.Proof.Dwin2

open Cert.Dwin2Ideal Cert.Dwin2Ideal.Gen Cert.Dwin2RefIdeal.Read
open Idealize.ShloMosaic Idealize.ShloMosaic.TcCoe Idealize.SL.Sem Idealize.ShloMosaic.StableHlo Idealize.ShloMosaic.ValueIdx

/-- The result. -/
def prod (x0 : (Mat 2048 5632).Idx → EReal) (x1 : (Mat 2048 1024).Idx → EReal) (x2 : S4x5632x1024.Idx → EReal) : S4x5632x1024.Idx → EReal := fun y =>
  if (y 0).val = 2 then upTo (fun k => entry x0 k ((y 1).val)) (fun k => entry x1 k ((y 2).val)) 2048 else x2 y

section Kernel

variable (m : (ℓ : Loc nD τ sig) → Buf (Elt Ideal) ℓ) (c : Dev nD)

/-- The first argument. -/
abbrev in0 : (Mat 2048 5632).Idx → EReal := m ((c : Thread nD τ).loc main_arg0)
/-- The second argument. -/
abbrev in1 : (Mat 2048 1024).Idx → EReal := m ((c : Thread nD τ).loc main_arg1)
/-- The stack that the call writes into. -/
abbrev in2 : S4x5632x1024.Idx → EReal := m ((c : Thread nD τ).loc main_arg2)

/-! ### The staged blocks -/

theorem host0 (y : S2048x5632.Idx) : (V m c main_v0 y : EReal) = entry (in0 m c) (y 0).val (y 1).val := by
  rw [entry_idx]; unfold V; after_reads_simp; rfl

theorem at0 : ∀ t : Fin grid0.N, win0_0.index t 0 = 0 ∧ win0_0.index t 1 = t.val := by decide +kernel

theorem blk0 (t : Fin cfg0.N) (i : Fin 2048) (k : Fin 512) :
    ((iblk m c 0 t : Vec Ideal S2048x512 .bf16) (ix2 i k) : EReal) = entry (in0 m c) (i.val) (512 * (t.val) + k.val) := by
  unfold iblk
  rw [View.read_apply]
  exact (host0 m c _).trans (congrArg₂ (entry (in0 m c)) (at_whole (at0 t).1) (at_block (at0 t).2))

theorem host1 (y : S2048x1024.Idx) : (V m c main_v1 y : EReal) = entry (in1 m c) (y 0).val (y 1).val := by
  rw [entry_idx]; unfold V; after_reads_simp; rfl

theorem at1 : ∀ t : Fin grid0.N, win0_1.index t 0 = 0 ∧ win0_1.index t 1 = 0 := by decide +kernel

theorem blk1 (t : Fin cfg0.N) (i : Fin 2048) (k : Fin 1024) :
    ((iblk m c 1 t : Vec Ideal S2048x1024 .bf16) (ix2 i k) : EReal) = entry (in1 m c) (i.val) (k.val) := by
  unfold iblk
  rw [View.read_apply]
  exact (host1 m c _).trans (congrArg₂ (entry (in1 m c)) (at_whole (at1 t).1) (at_whole (at1 t).2))

theorem at2 : ∀ t : Fin grid0.N, win0_2.index t 0 = 2 ∧ win0_2.index t 1 = t.val ∧ win0_2.index t 2 = 0 := by decide +kernel

/-- The stack as the call finds it. -/
theorem host2 (y : S4x5632x1024.Idx) : (V m c main_v2 y : EReal) = in2 m c y := by
  unfold V; after_reads_simp; rfl

/-- The stack after the run. -/
theorem arr : (dats m 0 c).arrAt 2 cfg0.N = prod (in0 m c) (in1 m c) (in2 m c) := by
  refine (dats m 0 c).arrAt_eq_of_coversWhere_of_agree 2 (prod (in0 m c) (in1 m c) (in2 m c)) (fun β => β (0 : Fin 3) = 2) (by decide +kernel) (fun t _ y => ?_) (fun j hj => ?_)
  · refine (cast_eq _ _).trans ((congrFun (after0_2 m c t) _).trans ?_)
    have h0 : (y 0).val < 1 := (y 0).isLt
    have e : (cfg0.win 2).xinj (cfg0.grid.coords t) y = ix3 (n0 := 1) (n1 := 512) (n2 := 1024) 0 (y 1) (y 2) := by
      funext a; apply Fin.ext; match a with
      | ⟨0, _⟩ => show (y 0).val = 0; omega
      | ⟨1, _⟩ => rfl
      | ⟨2, _⟩ => rfl
    rw [e]
    unfold outsAt0
    frame_out
    refine (Dwin0.pay_apply _ _ _ _ (fun k => entry (in0 m c) k (512 * (t.val) + (y 1).val)) (fun k => entry (in1 m c) k ((y 2).val)) (fun k => blk0 m c t k (y 1)) (fun k => blk1 m c t k (y 2))).trans ?_
    refine Eq.trans ?_ (if_pos ?_).symm
    · exact congrArg₂ (fun a b : ℕ => upTo (fun k => entry (in0 m c) k a) (fun k => entry (in1 m c) k b) 2048)
        (at_block (at2 t).2.1).symm (at_whole (at2 t).2.2).symm
    · show win0_2.index t 0 * 1 + 1 * (y 0).val = 2
      rw [(at2 t).1]; omega
  · exact (host2 m c j).trans (if_neg fun h => hj ((Nat.div_one _).trans h)).symm

end Kernel

theorem ref (x0 : (Mat 2048 5632).Idx → EReal) (x1 : (Mat 2048 1024).Idx → EReal) (x2 : S4x5632x1024.Idx → EReal) : val_main_v13 (F := Ideal) x0 x1 x2 = prod x0 x1 x2 := by
  funext y
  have h0 : (y 0).val < 4 := (y 0).isLt
  refine (val_main_v13_apply (F := Ideal) x0 x1 x2 y).trans ?_
  rw [val_main_v4_apply, val_main_v3_apply, val_main_v1_apply, val_main_v2_apply, val_main_v0_apply, val_main_c_apply]
  refine (layer_select (y 0).val 2 h0 (by decide) _ _).trans (if_congr Iff.rfl (Dwin0.ref_layer x0 x1 y) rfl)

/-! ### The claims -/

theorem frame_p : Cert.quiescent_Dwin2 := fun m ρ _ => Cert.Dwin2.Gen.frame m ρ
theorem frame_pi : Cert.quiescent_Dwin2Ideal := fun m ρ _ => Cert.Dwin2Ideal.Gen.frame m ρ
theorem frame_ri : Cert.quiescent_Dwin2RefIdeal := fun m ρ _ =>
  (θ_run Cert.Dwin2RefIdeal.defs _ _).mono (fun r h => ⟨fun c => (h c).2, sem_eq_zero_of_no_sems (by decide) r.2⟩)
    (Cert.Dwin2RefIdeal.Value.run (F := Ideal) m ρ)

theorem preserves : Cert.preserves_Dwin2_Dwin2Ideal := trivial

/-- The kernel's array is the reference's. -/
theorem algebraic : Cert.algebraic_Dwin2Ideal_Dwin2RefIdeal := by
  intro m ρ m' ρ' _ hagree
  refine ⟨fun c => prod (in0 m c) (in1 m c) (in2 m c), ?_, ?_⟩
  · exact (θ_run defs _ _).mono (fun r h c => ⟨(h c).1.trans (arr m c), (h c).2⟩) (Cert.Dwin2Ideal.Value.run_blocks (F := Ideal) m ρ)
  · refine (θ_run Cert.Dwin2RefIdeal.defs _ _).mono (fun r h c => ⟨(h c).1.trans ?_, (h c).2⟩) (Cert.Dwin2RefIdeal.Value.run (F := Ideal) m' ρ')
    refine (val_main_v13_eq _ _ _).trans ((ref _ _ _ ).trans ?_)
    obtain ⟨e0, e1, e2⟩ := hagree c
    rw [e0, e1, e2]

end Cert.Proof.Dwin2

end
-- ==== Proof.Dwout0.lean ====
/-
  The gradient of the feed-forward's output matrix, put into the layers' stack. Layer 0 of the stack.
-/
module

public import proofs.«01_k».proof.Defs
public import proofs.«01_k».proof.Proof.Contract
public import proofs.«01_k».proof.Proof.Gen.Dwout0.Frame
public import proofs.«01_k».proof.Proof.Gen.Dwout0Ideal.Value
public import proofs.«01_k».proof.Proof.Gen.Dwout0RefIdeal.Run
public import proofs.«01_k».proof.Proof.Gen.Dwout0RefIdeal.Read
public import Idealize.ShloMosaic.Lib.StableHlo.RunRead
public import Idealize.ShloMosaic.Lib.Pipeline.ValueKit.Geometry
public import Idealize.ShloMosaic.Lib.Pipeline.ValueKit.Acc
public import Idealize.ShloMosaic.Lib.Tactic
public import proofs.«01_k».proof.Proof.Stack
public import Idealize.ShloMosaic.Lib.Pipeline.ValueKit.Partial

@[expose] public section

set_option maxRecDepth 16384

noncomputable section

namespace Cert.Proof.Dwout0

open Cert.Dwout0Ideal Cert.Dwout0Ideal.Gen Cert.Dwout0RefIdeal.Read
open Idealize.ShloMosaic Idealize.ShloMosaic.TcCoe Idealize.SL.Sem Idealize.ShloMosaic.StableHlo Idealize.ShloMosaic.ValueIdx

/-- The result. -/
def prod (x0 : (Mat 2048 2816).Idx → EReal) (x1 : (Mat 2048 1024).Idx → EReal) (x2 : S4x2816x1024.Idx → EReal) : S4x2816x1024.Idx → EReal := fun y =>
  if (y 0).val = 0 then upTo (fun k => entry x0 k ((y 1).val)) (fun k => entry x1 k ((y 2).val)) 2048 else x2 y

section Kernel

variable (m : (ℓ : Loc nD τ sig) → Buf (Elt Ideal) ℓ) (c : Dev nD)

/-- The first argument. -/
abbrev in0 : (Mat 2048 2816).Idx → EReal := m ((c : Thread nD τ).loc main_arg0)
/-- The second argument. -/
abbrev in1 : (Mat 2048 1024).Idx → EReal := m ((c : Thread nD τ).loc main_arg1)
/-- The stack that the call writes into. -/
abbrev in2 : S4x2816x1024.Idx → EReal := m ((c : Thread nD τ).loc main_arg2)

/-! ### The staged blocks -/

theorem host0 (y : S2048x2816.Idx) : (V m c main_v0 y : EReal) = entry (in0 m c) (y 0).val (y 1).val := by
  rw [entry_idx]; unfold V; after_reads_simp; rfl

theorem at0 : ∀ t : Fin grid0.N, win0_0.index t 0 = 0 ∧ win0_0.index t 1 = t.val / 2 := by decide +kernel

theorem blk0 (t : Fin cfg0.N) (i : Fin 2048) (k : Fin 1408) :
    ((iblk m c 0 t : Vec Ideal S2048x1408 .bf16) (ix2 i k) : EReal) = entry (in0 m c) (i.val) (1408 * (t.val / 2) + k.val) := by
  unfold iblk
  rw [View.read_apply]
  exact (host0 m c _).trans (congrArg₂ (entry (in0 m c)) (at_whole (at0 t).1) (at_block (at0 t).2))

theorem host1 (y : S2048x1024.Idx) : (V m c main_v1 y : EReal) = entry (in1 m c) (y 0).val (y 1).val := by
  rw [entry_idx]; unfold V; after_reads_simp; rfl

theorem at1 : ∀ t : Fin grid0.N, win0_1.index t 0 = 0 ∧ win0_1.index t 1 = t.val % 2 := by decide +kernel

theorem blk1 (t : Fin cfg0.N) (i : Fin 2048) (k : Fin 512) :
    ((iblk m c 1 t : Vec Ideal S2048x512 .bf16) (ix2 i k) : EReal) = entry (in1 m c) (i.val) (512 * (t.val % 2) + k.val) := by
  unfold iblk
  rw [View.read_apply]
  exact (host1 m c _).trans (congrArg₂ (entry (in1 m c)) (at_whole (at1 t).1) (at_block (at1 t).2))

theorem at2 : ∀ t : Fin grid0.N, win0_2.index t 0 = 0 ∧ win0_2.index t 1 = t.val / 2 ∧ win0_2.index t 2 = t.val % 2 := by decide +kernel

/-- What a point multiplies, at an entry. -/
theorem pay_apply (x0 : Vec Ideal S2048x1408 .bf16) (x1 : Vec Ideal S2048x512 .bf16) (i : Fin 1408) (j : Fin 512) (f g : ℕ → EReal)
    (hf : ∀ k : Fin 2048, (x0 (ix2 k i) : EReal) = f k.val) (hg : ∀ k : Fin 2048, (x1 (ix2 k j) : EReal) = g k.val) :
    (k0_pay1 x0 x1 (ix3 0 i j) : EReal) = upTo f g 2048 := by
  unfold k0_pay1
  try simp only [shapeCast_self]
  refine (box_apply _ _ i j).trans ?_
  exact tn_upTo (by decide) (φ₁ := .bf16) (φ₂ := .bf16) x0 _ i j f g hf hg

/-- The stack as the call finds it. -/
theorem host2 (y : S4x2816x1024.Idx) : (V m c main_v2 y : EReal) = in2 m c y := by
  unfold V; after_reads_simp; rfl

/-- The stack after the run. -/
theorem arr : (dats m 0 c).arrAt 2 cfg0.N = prod (in0 m c) (in1 m c) (in2 m c) := by
  refine (dats m 0 c).arrAt_eq_of_coversWhere_of_agree 2 (prod (in0 m c) (in1 m c) (in2 m c)) (fun β => β (0 : Fin 3) = 0) (by decide +kernel) (fun t _ y => ?_) (fun j hj => ?_)
  · refine (cast_eq _ _).trans ((congrFun (after0_2 m c t) _).trans ?_)
    have h0 : (y 0).val < 1 := (y 0).isLt
    have e : (cfg0.win 2).xinj (cfg0.grid.coords t) y = ix3 (n0 := 1) (n1 := 1408) (n2 := 512) 0 (y 1) (y 2) := by
      funext a; apply Fin.ext; match a with
      | ⟨0, _⟩ => show (y 0).val = 0; omega
      | ⟨1, _⟩ => rfl
      | ⟨2, _⟩ => rfl
    rw [e]
    unfold outsAt0
    frame_out
    refine (pay_apply _ _ _ _ (fun k => entry (in0 m c) k (1408 * (t.val / 2) + (y 1).val)) (fun k => entry (in1 m c) k (512 * (t.val % 2) + (y 2).val)) (fun k => blk0 m c t k (y 1)) (fun k => blk1 m c t k (y 2))).trans ?_
    refine Eq.trans ?_ (if_pos ?_).symm
    · exact congrArg₂ (fun a b : ℕ => upTo (fun k => entry (in0 m c) k a) (fun k => entry (in1 m c) k b) 2048)
        (at_block (at2 t).2.1).symm (at_block (at2 t).2.2).symm
    · show win0_2.index t 0 * 1 + 1 * (y 0).val = 0
      rw [(at2 t).1]; omega
  · exact (host2 m c j).trans (if_neg fun h => hj ((Nat.div_one _).trans h)).symm

end Kernel

/-- The product, in each layer alike. -/
theorem ref_layer (x0 : (Mat 2048 2816).Idx → EReal) (x1 : (Mat 2048 1024).Idx → EReal) (y : S4x2816x1024.Idx) :
    (val_main_v11 (F := Ideal) x0 x1 y : EReal) = upTo (fun k => entry x0 k ((y 1).val)) (fun k => entry x1 k ((y 2).val)) 2048 := by
  rw [val_main_v11_apply, val_main_v10_apply]
  refine (val_main_v9_apply (F := Ideal) x0 x1 _).trans ?_
  show val_main_v8 (F := Ideal) x0 x1 _ = _
  rw [val_main_v8_apply]
  refine (val_main_v7_apply x0 x1 _).trans ((Finset.sum_congr rfl fun k _ => ?_).trans (upTo_fin _ _ 2048).symm)
  exact (congrArg₂ (fun u v : EReal => u * v) (eq_entry x1 _ rfl rfl) (eq_entry x0 _ rfl rfl)).trans (mul_comm _ _)

theorem ref (x0 : (Mat 2048 2816).Idx → EReal) (x1 : (Mat 2048 1024).Idx → EReal) (x2 : S4x2816x1024.Idx → EReal) : val_main_v12 (F := Ideal) x0 x1 x2 = prod x0 x1 x2 := by
  funext y
  have h0 : (y 0).val < 4 := (y 0).isLt
  refine (val_main_v12_apply (F := Ideal) x0 x1 x2 y).trans ?_
  rw [val_main_v4_apply, val_main_v3_apply, val_main_v1_apply, val_main_v2_apply, val_main_v0_apply, val_main_c_apply]
  refine (layer_select (y 0).val 0 h0 (by decide) _ _).trans (if_congr Iff.rfl (ref_layer x0 x1 y) rfl)

/-! ### The claims -/

theorem frame_p : Cert.quiescent_Dwout0 := fun m ρ _ => Cert.Dwout0.Gen.frame m ρ
theorem frame_pi : Cert.quiescent_Dwout0Ideal := fun m ρ _ => Cert.Dwout0Ideal.Gen.frame m ρ
theorem frame_ri : Cert.quiescent_Dwout0RefIdeal := fun m ρ _ =>
  (θ_run Cert.Dwout0RefIdeal.defs _ _).mono (fun r h => ⟨fun c => (h c).2, sem_eq_zero_of_no_sems (by decide) r.2⟩)
    (Cert.Dwout0RefIdeal.Value.run (F := Ideal) m ρ)

theorem preserves : Cert.preserves_Dwout0_Dwout0Ideal := trivial

/-- The kernel's array is the reference's. -/
theorem algebraic : Cert.algebraic_Dwout0Ideal_Dwout0RefIdeal := by
  intro m ρ m' ρ' _ hagree
  refine ⟨fun c => prod (in0 m c) (in1 m c) (in2 m c), ?_, ?_⟩
  · exact (θ_run defs _ _).mono (fun r h c => ⟨(h c).1.trans (arr m c), (h c).2⟩) (Cert.Dwout0Ideal.Value.run_blocks (F := Ideal) m ρ)
  · refine (θ_run Cert.Dwout0RefIdeal.defs _ _).mono (fun r h c => ⟨(h c).1.trans ?_, (h c).2⟩) (Cert.Dwout0RefIdeal.Value.run (F := Ideal) m' ρ')
    refine (val_main_v12_eq _ _ _).trans ((ref _ _ _ ).trans ?_)
    obtain ⟨e0, e1, e2⟩ := hagree c
    rw [e0, e1, e2]

end Cert.Proof.Dwout0

end
-- ==== Proof.Dwout1.lean ====
/-
  The gradient of the feed-forward's output matrix, put into the layers' stack. Layer 1 of the stack.
-/
module

public import proofs.«01_k».proof.Defs
public import proofs.«01_k».proof.Proof.Contract
public import proofs.«01_k».proof.Proof.Gen.Dwout1.Frame
public import proofs.«01_k».proof.Proof.Gen.Dwout1Ideal.Value
public import proofs.«01_k».proof.Proof.Gen.Dwout1RefIdeal.Run
public import proofs.«01_k».proof.Proof.Gen.Dwout1RefIdeal.Read
public import Idealize.ShloMosaic.Lib.StableHlo.RunRead
public import Idealize.ShloMosaic.Lib.Pipeline.ValueKit.Geometry
public import Idealize.ShloMosaic.Lib.Pipeline.ValueKit.Acc
public import Idealize.ShloMosaic.Lib.Tactic
public import proofs.«01_k».proof.Proof.Dwout0
public import Idealize.ShloMosaic.Lib.Pipeline.ValueKit.Partial

@[expose] public section

set_option maxRecDepth 16384

noncomputable section

namespace Cert.Proof.Dwout1

open Cert.Dwout1Ideal Cert.Dwout1Ideal.Gen Cert.Dwout1RefIdeal.Read
open Idealize.ShloMosaic Idealize.ShloMosaic.TcCoe Idealize.SL.Sem Idealize.ShloMosaic.StableHlo Idealize.ShloMosaic.ValueIdx

/-- The result. -/
def prod (x0 : (Mat 2048 2816).Idx → EReal) (x1 : (Mat 2048 1024).Idx → EReal) (x2 : S4x2816x1024.Idx → EReal) : S4x2816x1024.Idx → EReal := fun y =>
  if (y 0).val = 1 then upTo (fun k => entry x0 k ((y 1).val)) (fun k => entry x1 k ((y 2).val)) 2048 else x2 y

section Kernel

variable (m : (ℓ : Loc nD τ sig) → Buf (Elt Ideal) ℓ) (c : Dev nD)

/-- The first argument. -/
abbrev in0 : (Mat 2048 2816).Idx → EReal := m ((c : Thread nD τ).loc main_arg0)
/-- The second argument. -/
abbrev in1 : (Mat 2048 1024).Idx → EReal := m ((c : Thread nD τ).loc main_arg1)
/-- The stack that the call writes into. -/
abbrev in2 : S4x2816x1024.Idx → EReal := m ((c : Thread nD τ).loc main_arg2)

/-! ### The staged blocks -/

theorem host0 (y : S2048x2816.Idx) : (V m c main_v0 y : EReal) = entry (in0 m c) (y 0).val (y 1).val := by
  rw [entry_idx]; unfold V; after_reads_simp; rfl

theorem at0 : ∀ t : Fin grid0.N, win0_0.index t 0 = 0 ∧ win0_0.index t 1 = t.val / 2 := by decide +kernel

theorem blk0 (t : Fin cfg0.N) (i : Fin 2048) (k : Fin 1408) :
    ((iblk m c 0 t : Vec Ideal S2048x1408 .bf16) (ix2 i k) : EReal) = entry (in0 m c) (i.val) (1408 * (t.val / 2) + k.val) := by
  unfold iblk
  rw [View.read_apply]
  exact (host0 m c _).trans (congrArg₂ (entry (in0 m c)) (at_whole (at0 t).1) (at_block (at0 t).2))

theorem host1 (y : S2048x1024.Idx) : (V m c main_v1 y : EReal) = entry (in1 m c) (y 0).val (y 1).val := by
  rw [entry_idx]; unfold V; after_reads_simp; rfl

theorem at1 : ∀ t : Fin grid0.N, win0_1.index t 0 = 0 ∧ win0_1.index t 1 = t.val % 2 := by decide +kernel

theorem blk1 (t : Fin cfg0.N) (i : Fin 2048) (k : Fin 512) :
    ((iblk m c 1 t : Vec Ideal S2048x512 .bf16) (ix2 i k) : EReal) = entry (in1 m c) (i.val) (512 * (t.val % 2) + k.val) := by
  unfold iblk
  rw [View.read_apply]
  exact (host1 m c _).trans (congrArg₂ (entry (in1 m c)) (at_whole (at1 t).1) (at_block (at1 t).2))

theorem at2 : ∀ t : Fin grid0.N, win0_2.index t 0 = 1 ∧ win0_2.index t 1 = t.val / 2 ∧ win0_2.index t 2 = t.val % 2 := by decide +kernel

/-- The stack as the call finds it. -/
theorem host2 (y : S4x2816x1024.Idx) : (V m c main_v2 y : EReal) = in2 m c y := by
  unfold V; after_reads_simp; rfl

/-- The stack after the run. -/
theorem arr : (dats m 0 c).arrAt 2 cfg0.N = prod (in0 m c) (in1 m c) (in2 m c) := by
  refine (dats m 0 c).arrAt_eq_of_coversWhere_of_agree 2 (prod (in0 m c) (in1 m c) (in2 m c)) (fun β => β (0 : Fin 3) = 1) (by decide +kernel) (fun t _ y => ?_) (fun j hj => ?_)
  · refine (cast_eq _ _).trans ((congrFun (after0_2 m c t) _).trans ?_)
    have h0 : (y 0).val < 1 := (y 0).isLt
    have e : (cfg0.win 2).xinj (cfg0.grid.coords t) y = ix3 (n0 := 1) (n1 := 1408) (n2 := 512) 0 (y 1) (y 2) := by
      funext a; apply Fin.ext; match a with
      | ⟨0, _⟩ => show (y 0).val = 0; omega
      | ⟨1, _⟩ => rfl
      | ⟨2, _⟩ => rfl
    rw [e]
    unfold outsAt0
    frame_out
    refine (Dwout0.pay_apply _ _ _ _ (fun k => entry (in0 m c) k (1408 * (t.val / 2) + (y 1).val)) (fun k => entry (in1 m c) k (512 * (t.val % 2) + (y 2).val)) (fun k => blk0 m c t k (y 1)) (fun k => blk1 m c t k (y 2))).trans ?_
    refine Eq.trans ?_ (if_pos ?_).symm
    · exact congrArg₂ (fun a b : ℕ => upTo (fun k => entry (in0 m c) k a) (fun k => entry (in1 m c) k b) 2048)
        (at_block (at2 t).2.1).symm (at_block (at2 t).2.2).symm
    · show win0_2.index t 0 * 1 + 1 * (y 0).val = 1
      rw [(at2 t).1]; omega
  · exact (host2 m c j).trans (if_neg fun h => hj ((Nat.div_one _).trans h)).symm

end Kernel

theorem ref (x0 : (Mat 2048 2816).Idx → EReal) (x1 : (Mat 2048 1024).Idx → EReal) (x2 : S4x2816x1024.Idx → EReal) : val_main_v12 (F := Ideal) x0 x1 x2 = prod x0 x1 x2 := by
  funext y
  have h0 : (y 0).val < 4 := (y 0).isLt
  refine (val_main_v12_apply (F := Ideal) x0 x1 x2 y).trans ?_
  rw [val_main_v4_apply, val_main_v3_apply, val_main_v1_apply, val_main_v2_apply, val_main_v0_apply, val_main_c_apply]
  refine (layer_select (y 0).val 1 h0 (by decide) _ _).trans (if_congr Iff.rfl (Dwout0.ref_layer x0 x1 y) rfl)

/-! ### The claims -/

theorem frame_p : Cert.quiescent_Dwout1 := fun m ρ _ => Cert.Dwout1.Gen.frame m ρ
theorem frame_pi : Cert.quiescent_Dwout1Ideal := fun m ρ _ => Cert.Dwout1Ideal.Gen.frame m ρ
theorem frame_ri : Cert.quiescent_Dwout1RefIdeal := fun m ρ _ =>
  (θ_run Cert.Dwout1RefIdeal.defs _ _).mono (fun r h => ⟨fun c => (h c).2, sem_eq_zero_of_no_sems (by decide) r.2⟩)
    (Cert.Dwout1RefIdeal.Value.run (F := Ideal) m ρ)

theorem preserves : Cert.preserves_Dwout1_Dwout1Ideal := trivial

/-- The kernel's array is the reference's. -/
theorem algebraic : Cert.algebraic_Dwout1Ideal_Dwout1RefIdeal := by
  intro m ρ m' ρ' _ hagree
  refine ⟨fun c => prod (in0 m c) (in1 m c) (in2 m c), ?_, ?_⟩
  · exact (θ_run defs _ _).mono (fun r h c => ⟨(h c).1.trans (arr m c), (h c).2⟩) (Cert.Dwout1Ideal.Value.run_blocks (F := Ideal) m ρ)
  · refine (θ_run Cert.Dwout1RefIdeal.defs _ _).mono (fun r h c => ⟨(h c).1.trans ?_, (h c).2⟩) (Cert.Dwout1RefIdeal.Value.run (F := Ideal) m' ρ')
    refine (val_main_v12_eq _ _ _).trans ((ref _ _ _ ).trans ?_)
    obtain ⟨e0, e1, e2⟩ := hagree c
    rw [e0, e1, e2]

end Cert.Proof.Dwout1

end
-- ==== Proof.Dwout2.lean ====
/-
  The gradient of the feed-forward's output matrix, put into the layers' stack. Layer 2 of the stack.
-/
module

public import proofs.«01_k».proof.Defs
public import proofs.«01_k».proof.Proof.Contract
public import proofs.«01_k».proof.Proof.Gen.Dwout2.Frame
public import proofs.«01_k».proof.Proof.Gen.Dwout2Ideal.Value
public import proofs.«01_k».proof.Proof.Gen.Dwout2RefIdeal.Run
public import proofs.«01_k».proof.Proof.Gen.Dwout2RefIdeal.Read
public import Idealize.ShloMosaic.Lib.StableHlo.RunRead
public import Idealize.ShloMosaic.Lib.Pipeline.ValueKit.Geometry
public import Idealize.ShloMosaic.Lib.Pipeline.ValueKit.Acc
public import Idealize.ShloMosaic.Lib.Tactic
public import proofs.«01_k».proof.Proof.Dwout0
public import Idealize.ShloMosaic.Lib.Pipeline.ValueKit.Partial

@[expose] public section

set_option maxRecDepth 16384

noncomputable section

namespace Cert.Proof.Dwout2

open Cert.Dwout2Ideal Cert.Dwout2Ideal.Gen Cert.Dwout2RefIdeal.Read
open Idealize.ShloMosaic Idealize.ShloMosaic.TcCoe Idealize.SL.Sem Idealize.ShloMosaic.StableHlo Idealize.ShloMosaic.ValueIdx

/-- The result. -/
def prod (x0 : (Mat 2048 2816).Idx → EReal) (x1 : (Mat 2048 1024).Idx → EReal) (x2 : S4x2816x1024.Idx → EReal) : S4x2816x1024.Idx → EReal := fun y =>
  if (y 0).val = 2 then upTo (fun k => entry x0 k ((y 1).val)) (fun k => entry x1 k ((y 2).val)) 2048 else x2 y

section Kernel

variable (m : (ℓ : Loc nD τ sig) → Buf (Elt Ideal) ℓ) (c : Dev nD)

/-- The first argument. -/
abbrev in0 : (Mat 2048 2816).Idx → EReal := m ((c : Thread nD τ).loc main_arg0)
/-- The second argument. -/
abbrev in1 : (Mat 2048 1024).Idx → EReal := m ((c : Thread nD τ).loc main_arg1)
/-- The stack that the call writes into. -/
abbrev in2 : S4x2816x1024.Idx → EReal := m ((c : Thread nD τ).loc main_arg2)

/-! ### The staged blocks -/

theorem host0 (y : S2048x2816.Idx) : (V m c main_v0 y : EReal) = entry (in0 m c) (y 0).val (y 1).val := by
  rw [entry_idx]; unfold V; after_reads_simp; rfl

theorem at0 : ∀ t : Fin grid0.N, win0_0.index t 0 = 0 ∧ win0_0.index t 1 = t.val / 2 := by decide +kernel

theorem blk0 (t : Fin cfg0.N) (i : Fin 2048) (k : Fin 1408) :
    ((iblk m c 0 t : Vec Ideal S2048x1408 .bf16) (ix2 i k) : EReal) = entry (in0 m c) (i.val) (1408 * (t.val / 2) + k.val) := by
  unfold iblk
  rw [View.read_apply]
  exact (host0 m c _).trans (congrArg₂ (entry (in0 m c)) (at_whole (at0 t).1) (at_block (at0 t).2))

theorem host1 (y : S2048x1024.Idx) : (V m c main_v1 y : EReal) = entry (in1 m c) (y 0).val (y 1).val := by
  rw [entry_idx]; unfold V; after_reads_simp; rfl

theorem at1 : ∀ t : Fin grid0.N, win0_1.index t 0 = 0 ∧ win0_1.index t 1 = t.val % 2 := by decide +kernel

theorem blk1 (t : Fin cfg0.N) (i : Fin 2048) (k : Fin 512) :
    ((iblk m c 1 t : Vec Ideal S2048x512 .bf16) (ix2 i k) : EReal) = entry (in1 m c) (i.val) (512 * (t.val % 2) + k.val) := by
  unfold iblk
  rw [View.read_apply]
  exact (host1 m c _).trans (congrArg₂ (entry (in1 m c)) (at_whole (at1 t).1) (at_block (at1 t).2))

theorem at2 : ∀ t : Fin grid0.N, win0_2.index t 0 = 2 ∧ win0_2.index t 1 = t.val / 2 ∧ win0_2.index t 2 = t.val % 2 := by decide +kernel

/-- The stack as the call finds it. -/
theorem host2 (y : S4x2816x1024.Idx) : (V m c main_v2 y : EReal) = in2 m c y := by
  unfold V; after_reads_simp; rfl

/-- The stack after the run. -/
theorem arr : (dats m 0 c).arrAt 2 cfg0.N = prod (in0 m c) (in1 m c) (in2 m c) := by
  refine (dats m 0 c).arrAt_eq_of_coversWhere_of_agree 2 (prod (in0 m c) (in1 m c) (in2 m c)) (fun β => β (0 : Fin 3) = 2) (by decide +kernel) (fun t _ y => ?_) (fun j hj => ?_)
  · refine (cast_eq _ _).trans ((congrFun (after0_2 m c t) _).trans ?_)
    have h0 : (y 0).val < 1 := (y 0).isLt
    have e : (cfg0.win 2).xinj (cfg0.grid.coords t) y = ix3 (n0 := 1) (n1 := 1408) (n2 := 512) 0 (y 1) (y 2) := by
      funext a; apply Fin.ext; match a with
      | ⟨0, _⟩ => show (y 0).val = 0; omega
      | ⟨1, _⟩ => rfl
      | ⟨2, _⟩ => rfl
    rw [e]
    unfold outsAt0
    frame_out
    refine (Dwout0.pay_apply _ _ _ _ (fun k => entry (in0 m c) k (1408 * (t.val / 2) + (y 1).val)) (fun k => entry (in1 m c) k (512 * (t.val % 2) + (y 2).val)) (fun k => blk0 m c t k (y 1)) (fun k => blk1 m c t k (y 2))).trans ?_
    refine Eq.trans ?_ (if_pos ?_).symm
    · exact congrArg₂ (fun a b : ℕ => upTo (fun k => entry (in0 m c) k a) (fun k => entry (in1 m c) k b) 2048)
        (at_block (at2 t).2.1).symm (at_block (at2 t).2.2).symm
    · show win0_2.index t 0 * 1 + 1 * (y 0).val = 2
      rw [(at2 t).1]; omega
  · exact (host2 m c j).trans (if_neg fun h => hj ((Nat.div_one _).trans h)).symm

end Kernel

theorem ref (x0 : (Mat 2048 2816).Idx → EReal) (x1 : (Mat 2048 1024).Idx → EReal) (x2 : S4x2816x1024.Idx → EReal) : val_main_v12 (F := Ideal) x0 x1 x2 = prod x0 x1 x2 := by
  funext y
  have h0 : (y 0).val < 4 := (y 0).isLt
  refine (val_main_v12_apply (F := Ideal) x0 x1 x2 y).trans ?_
  rw [val_main_v4_apply, val_main_v3_apply, val_main_v1_apply, val_main_v2_apply, val_main_v0_apply, val_main_c_apply]
  refine (layer_select (y 0).val 2 h0 (by decide) _ _).trans (if_congr Iff.rfl (Dwout0.ref_layer x0 x1 y) rfl)

/-! ### The claims -/

theorem frame_p : Cert.quiescent_Dwout2 := fun m ρ _ => Cert.Dwout2.Gen.frame m ρ
theorem frame_pi : Cert.quiescent_Dwout2Ideal := fun m ρ _ => Cert.Dwout2Ideal.Gen.frame m ρ
theorem frame_ri : Cert.quiescent_Dwout2RefIdeal := fun m ρ _ =>
  (θ_run Cert.Dwout2RefIdeal.defs _ _).mono (fun r h => ⟨fun c => (h c).2, sem_eq_zero_of_no_sems (by decide) r.2⟩)
    (Cert.Dwout2RefIdeal.Value.run (F := Ideal) m ρ)

theorem preserves : Cert.preserves_Dwout2_Dwout2Ideal := trivial

/-- The kernel's array is the reference's. -/
theorem algebraic : Cert.algebraic_Dwout2Ideal_Dwout2RefIdeal := by
  intro m ρ m' ρ' _ hagree
  refine ⟨fun c => prod (in0 m c) (in1 m c) (in2 m c), ?_, ?_⟩
  · exact (θ_run defs _ _).mono (fun r h c => ⟨(h c).1.trans (arr m c), (h c).2⟩) (Cert.Dwout2Ideal.Value.run_blocks (F := Ideal) m ρ)
  · refine (θ_run Cert.Dwout2RefIdeal.defs _ _).mono (fun r h c => ⟨(h c).1.trans ?_, (h c).2⟩) (Cert.Dwout2RefIdeal.Value.run (F := Ideal) m' ρ')
    refine (val_main_v12_eq _ _ _).trans ((ref _ _ _ ).trans ?_)
    obtain ⟨e0, e1, e2⟩ := hagree c
    rw [e0, e1, e2]

end Cert.Proof.Dwout2

end
-- ==== Proof.Dwg0.lean ====
/-
  The gradient of the per-layer gate's matrix, put into the layers' stack. Layer 0 of the stack.
-/
module

public import proofs.«01_k».proof.Defs
public import proofs.«01_k».proof.Proof.Contract
public import proofs.«01_k».proof.Proof.Gen.Dwg0.Frame
public import proofs.«01_k».proof.Proof.Gen.Dwg0Ideal.Value
public import proofs.«01_k».proof.Proof.Gen.Dwg0RefIdeal.Run
public import proofs.«01_k».proof.Proof.Gen.Dwg0RefIdeal.Read
public import Idealize.ShloMosaic.Lib.StableHlo.RunRead
public import Idealize.ShloMosaic.Lib.Pipeline.ValueKit.Geometry
public import Idealize.ShloMosaic.Lib.Pipeline.ValueKit.Acc
public import Idealize.ShloMosaic.Lib.Tactic
public import proofs.«01_k».proof.Proof.Stack
public import Idealize.ShloMosaic.Lib.Pipeline.ValueKit.Partial

@[expose] public section

set_option maxRecDepth 16384

noncomputable section

namespace Cert.Proof.Dwg0

open Cert.Dwg0Ideal Cert.Dwg0Ideal.Gen Cert.Dwg0RefIdeal.Read
open Idealize.ShloMosaic Idealize.ShloMosaic.TcCoe Idealize.SL.Sem Idealize.ShloMosaic.StableHlo Idealize.ShloMosaic.ValueIdx

/-- The result. -/
def prod (x0 : (Mat 2048 1024).Idx → EReal) (x1 : (Mat 2048 1024).Idx → EReal) (x2 : S4x1024x1024.Idx → EReal) : S4x1024x1024.Idx → EReal := fun y =>
  if (y 0).val = 0 then upTo (fun k => entry x0 k ((y 1).val)) (fun k => entry x1 k ((y 2).val)) 2048 else x2 y

section Kernel

variable (m : (ℓ : Loc nD τ sig) → Buf (Elt Ideal) ℓ) (c : Dev nD)

/-- The first argument. -/
abbrev in0 : (Mat 2048 1024).Idx → EReal := m ((c : Thread nD τ).loc main_arg0)
/-- The second argument. -/
abbrev in1 : (Mat 2048 1024).Idx → EReal := m ((c : Thread nD τ).loc main_arg1)
/-- The stack that the call writes into. -/
abbrev in2 : S4x1024x1024.Idx → EReal := m ((c : Thread nD τ).loc main_arg2)

/-! ### The staged blocks -/

theorem host0 (y : S2048x1024.Idx) : (V m c main_arg0 y : EReal) = entry (in0 m c) (y 0).val (y 1).val := by
  rw [entry_idx]; exact congrFun (V_main_arg0 m c) y

theorem at0 : ∀ t : Fin grid0.N, win0_0.index t 0 = 0 ∧ win0_0.index t 1 = 0 := by decide +kernel

theorem blk0 (t : Fin cfg0.N) (i : Fin 2048) (k : Fin 1024) :
    ((iblk m c 0 t : Vec Ideal S2048x1024 .f32) (ix2 i k) : EReal) = entry (in0 m c) (i.val) (k.val) := by
  unfold iblk
  rw [View.read_apply]
  exact (host0 m c _).trans (congrArg₂ (entry (in0 m c)) (at_whole (at0 t).1) (at_whole (at0 t).2))

theorem host1 (y : S2048x1024.Idx) : (V m c main_v0 y : EReal) = entry (in1 m c) (y 0).val (y 1).val := by
  rw [entry_idx]; unfold V; after_reads_simp; rfl

theorem at1 : ∀ t : Fin grid0.N, win0_1.index t 0 = 0 ∧ win0_1.index t 1 = t.val := by decide +kernel

theorem blk1 (t : Fin cfg0.N) (i : Fin 2048) (k : Fin 512) :
    ((iblk m c 1 t : Vec Ideal S2048x512 .bf16) (ix2 i k) : EReal) = entry (in1 m c) (i.val) (512 * (t.val) + k.val) := by
  unfold iblk
  rw [View.read_apply]
  exact (host1 m c _).trans (congrArg₂ (entry (in1 m c)) (at_whole (at1 t).1) (at_block (at1 t).2))

theorem at2 : ∀ t : Fin grid0.N, win0_2.index t 0 = 0 ∧ win0_2.index t 1 = 0 ∧ win0_2.index t 2 = t.val := by decide +kernel

/-- What a point multiplies, at an entry. -/
theorem pay_apply (x0 : Vec Ideal S2048x1024 .f32) (x1 : Vec Ideal S2048x512 .bf16) (i : Fin 1024) (j : Fin 512) (f g : ℕ → EReal)
    (hf : ∀ k : Fin 2048, (x0 (ix2 k i) : EReal) = f k.val) (hg : ∀ k : Fin 2048, (x1 (ix2 k j) : EReal) = g k.val) :
    (k0_pay1 x0 x1 (ix3 0 i j) : EReal) = upTo f g 2048 := by
  unfold k0_pay1
  try simp only [shapeCast_self]
  refine (box_apply _ _ i j).trans ?_
  exact tn_upTo (by decide) (φ₁ := .bf16) (φ₂ := .bf16) x0 _ i j f g hf hg

/-- The stack as the call finds it. -/
theorem host2 (y : S4x1024x1024.Idx) : (V m c main_v1 y : EReal) = in2 m c y := by
  unfold V; after_reads_simp; rfl

/-- The stack after the run. -/
theorem arr : (dats m 0 c).arrAt 2 cfg0.N = prod (in0 m c) (in1 m c) (in2 m c) := by
  refine (dats m 0 c).arrAt_eq_of_coversWhere_of_agree 2 (prod (in0 m c) (in1 m c) (in2 m c)) (fun β => β (0 : Fin 3) = 0) (by decide +kernel) (fun t _ y => ?_) (fun j hj => ?_)
  · refine (cast_eq _ _).trans ((congrFun (after0_2 m c t) _).trans ?_)
    have h0 : (y 0).val < 1 := (y 0).isLt
    have e : (cfg0.win 2).xinj (cfg0.grid.coords t) y = ix3 (n0 := 1) (n1 := 1024) (n2 := 512) 0 (y 1) (y 2) := by
      funext a; apply Fin.ext; match a with
      | ⟨0, _⟩ => show (y 0).val = 0; omega
      | ⟨1, _⟩ => rfl
      | ⟨2, _⟩ => rfl
    rw [e]
    unfold outsAt0
    frame_out
    refine (pay_apply _ _ _ _ (fun k => entry (in0 m c) k ((y 1).val)) (fun k => entry (in1 m c) k (512 * (t.val) + (y 2).val)) (fun k => blk0 m c t k (y 1)) (fun k => blk1 m c t k (y 2))).trans ?_
    refine Eq.trans ?_ (if_pos ?_).symm
    · exact congrArg₂ (fun a b : ℕ => upTo (fun k => entry (in0 m c) k a) (fun k => entry (in1 m c) k b) 2048)
        (at_whole (at2 t).2.1).symm (at_block (at2 t).2.2).symm
    · show win0_2.index t 0 * 1 + 1 * (y 0).val = 0
      rw [(at2 t).1]; omega
  · exact (host2 m c j).trans (if_neg fun h => hj ((Nat.div_one _).trans h)).symm

end Kernel

/-- The product, in each layer alike. -/
theorem ref_layer (x0 : (Mat 2048 1024).Idx → EReal) (x1 : (Mat 2048 1024).Idx → EReal) (y : S4x1024x1024.Idx) :
    (val_main_v11 (F := Ideal) x0 x1 y : EReal) = upTo (fun k => entry x0 k ((y 1).val)) (fun k => entry x1 k ((y 2).val)) 2048 := by
  rw [val_main_v11_apply, val_main_v10_apply]
  refine (val_main_v9_apply (F := Ideal) x0 x1 _).trans ?_
  show val_main_v8 (F := Ideal) x0 x1 _ = _
  rw [val_main_v8_apply]
  refine (val_main_v7_apply x0 x1 _).trans ((Finset.sum_congr rfl fun k _ => ?_).trans (upTo_fin _ _ 2048).symm)
  exact (congrArg₂ (fun u v : EReal => u * v) (eq_entry x1 _ rfl rfl) (eq_entry x0 _ rfl rfl)).trans (mul_comm _ _)

theorem ref (x0 : (Mat 2048 1024).Idx → EReal) (x1 : (Mat 2048 1024).Idx → EReal) (x2 : S4x1024x1024.Idx → EReal) : val_main_v12 (F := Ideal) x0 x1 x2 = prod x0 x1 x2 := by
  funext y
  have h0 : (y 0).val < 4 := (y 0).isLt
  refine (val_main_v12_apply (F := Ideal) x0 x1 x2 y).trans ?_
  rw [val_main_v4_apply, val_main_v3_apply, val_main_v1_apply, val_main_v2_apply, val_main_v0_apply, val_main_c_apply]
  refine (layer_select (y 0).val 0 h0 (by decide) _ _).trans (if_congr Iff.rfl (ref_layer x0 x1 y) rfl)

/-! ### The claims -/

theorem frame_p : Cert.quiescent_Dwg0 := fun m ρ _ => Cert.Dwg0.Gen.frame m ρ
theorem frame_pi : Cert.quiescent_Dwg0Ideal := fun m ρ _ => Cert.Dwg0Ideal.Gen.frame m ρ
theorem frame_ri : Cert.quiescent_Dwg0RefIdeal := fun m ρ _ =>
  (θ_run Cert.Dwg0RefIdeal.defs _ _).mono (fun r h => ⟨fun c => (h c).2, sem_eq_zero_of_no_sems (by decide) r.2⟩)
    (Cert.Dwg0RefIdeal.Value.run (F := Ideal) m ρ)

theorem preserves : Cert.preserves_Dwg0_Dwg0Ideal := trivial

/-- The kernel's array is the reference's. -/
theorem algebraic : Cert.algebraic_Dwg0Ideal_Dwg0RefIdeal := by
  intro m ρ m' ρ' _ hagree
  refine ⟨fun c => prod (in0 m c) (in1 m c) (in2 m c), ?_, ?_⟩
  · exact (θ_run defs _ _).mono (fun r h c => ⟨(h c).1.trans (arr m c), (h c).2⟩) (Cert.Dwg0Ideal.Value.run_blocks (F := Ideal) m ρ)
  · refine (θ_run Cert.Dwg0RefIdeal.defs _ _).mono (fun r h c => ⟨(h c).1.trans ?_, (h c).2⟩) (Cert.Dwg0RefIdeal.Value.run (F := Ideal) m' ρ')
    refine (val_main_v12_eq _ _ _).trans ((ref _ _ _ ).trans ?_)
    obtain ⟨e0, e1, e2⟩ := hagree c
    rw [e0, e1, e2]

end Cert.Proof.Dwg0

end
-- ==== Proof.Dwg1.lean ====
/-
  The gradient of the per-layer gate's matrix, put into the layers' stack. Layer 1 of the stack.
-/
module

public import proofs.«01_k».proof.Defs
public import proofs.«01_k».proof.Proof.Contract
public import proofs.«01_k».proof.Proof.Gen.Dwg1.Frame
public import proofs.«01_k».proof.Proof.Gen.Dwg1Ideal.Value
public import proofs.«01_k».proof.Proof.Gen.Dwg1RefIdeal.Run
public import proofs.«01_k».proof.Proof.Gen.Dwg1RefIdeal.Read
public import Idealize.ShloMosaic.Lib.StableHlo.RunRead
public import Idealize.ShloMosaic.Lib.Pipeline.ValueKit.Geometry
public import Idealize.ShloMosaic.Lib.Pipeline.ValueKit.Acc
public import Idealize.ShloMosaic.Lib.Tactic
public import proofs.«01_k».proof.Proof.Dwg0
public import Idealize.ShloMosaic.Lib.Pipeline.ValueKit.Partial

@[expose] public section

set_option maxRecDepth 16384

noncomputable section

namespace Cert.Proof.Dwg1

open Cert.Dwg1Ideal Cert.Dwg1Ideal.Gen Cert.Dwg1RefIdeal.Read
open Idealize.ShloMosaic Idealize.ShloMosaic.TcCoe Idealize.SL.Sem Idealize.ShloMosaic.StableHlo Idealize.ShloMosaic.ValueIdx

/-- The result. -/
def prod (x0 : (Mat 2048 1024).Idx → EReal) (x1 : (Mat 2048 1024).Idx → EReal) (x2 : S4x1024x1024.Idx → EReal) : S4x1024x1024.Idx → EReal := fun y =>
  if (y 0).val = 1 then upTo (fun k => entry x0 k ((y 1).val)) (fun k => entry x1 k ((y 2).val)) 2048 else x2 y

section Kernel

variable (m : (ℓ : Loc nD τ sig) → Buf (Elt Ideal) ℓ) (c : Dev nD)

/-- The first argument. -/
abbrev in0 : (Mat 2048 1024).Idx → EReal := m ((c : Thread nD τ).loc main_arg0)
/-- The second argument. -/
abbrev in1 : (Mat 2048 1024).Idx → EReal := m ((c : Thread nD τ).loc main_arg1)
/-- The stack that the call writes into. -/
abbrev in2 : S4x1024x1024.Idx → EReal := m ((c : Thread nD τ).loc main_arg2)

/-! ### The staged blocks -/

theorem host0 (y : S2048x1024.Idx) : (V m c main_arg0 y : EReal) = entry (in0 m c) (y 0).val (y 1).val := by
  rw [entry_idx]; exact congrFun (V_main_arg0 m c) y

theorem at0 : ∀ t : Fin grid0.N, win0_0.index t 0 = 0 ∧ win0_0.index t 1 = 0 := by decide +kernel

theorem blk0 (t : Fin cfg0.N) (i : Fin 2048) (k : Fin 1024) :
    ((iblk m c 0 t : Vec Ideal S2048x1024 .f32) (ix2 i k) : EReal) = entry (in0 m c) (i.val) (k.val) := by
  unfold iblk
  rw [View.read_apply]
  exact (host0 m c _).trans (congrArg₂ (entry (in0 m c)) (at_whole (at0 t).1) (at_whole (at0 t).2))

theorem host1 (y : S2048x1024.Idx) : (V m c main_v0 y : EReal) = entry (in1 m c) (y 0).val (y 1).val := by
  rw [entry_idx]; unfold V; after_reads_simp; rfl

theorem at1 : ∀ t : Fin grid0.N, win0_1.index t 0 = 0 ∧ win0_1.index t 1 = t.val := by decide +kernel

theorem blk1 (t : Fin cfg0.N) (i : Fin 2048) (k : Fin 512) :
    ((iblk m c 1 t : Vec Ideal S2048x512 .bf16) (ix2 i k) : EReal) = entry (in1 m c) (i.val) (512 * (t.val) + k.val) := by
  unfold iblk
  rw [View.read_apply]
  exact (host1 m c _).trans (congrArg₂ (entry (in1 m c)) (at_whole (at1 t).1) (at_block (at1 t).2))

theorem at2 : ∀ t : Fin grid0.N, win0_2.index t 0 = 1 ∧ win0_2.index t 1 = 0 ∧ win0_2.index t 2 = t.val := by decide +kernel

/-- The stack as the call finds it. -/
theorem host2 (y : S4x1024x1024.Idx) : (V m c main_v1 y : EReal) = in2 m c y := by
  unfold V; after_reads_simp; rfl

/-- The stack after the run. -/
theorem arr : (dats m 0 c).arrAt 2 cfg0.N = prod (in0 m c) (in1 m c) (in2 m c) := by
  refine (dats m 0 c).arrAt_eq_of_coversWhere_of_agree 2 (prod (in0 m c) (in1 m c) (in2 m c)) (fun β => β (0 : Fin 3) = 1) (by decide +kernel) (fun t _ y => ?_) (fun j hj => ?_)
  · refine (cast_eq _ _).trans ((congrFun (after0_2 m c t) _).trans ?_)
    have h0 : (y 0).val < 1 := (y 0).isLt
    have e : (cfg0.win 2).xinj (cfg0.grid.coords t) y = ix3 (n0 := 1) (n1 := 1024) (n2 := 512) 0 (y 1) (y 2) := by
      funext a; apply Fin.ext; match a with
      | ⟨0, _⟩ => show (y 0).val = 0; omega
      | ⟨1, _⟩ => rfl
      | ⟨2, _⟩ => rfl
    rw [e]
    unfold outsAt0
    frame_out
    refine (Dwg0.pay_apply _ _ _ _ (fun k => entry (in0 m c) k ((y 1).val)) (fun k => entry (in1 m c) k (512 * (t.val) + (y 2).val)) (fun k => blk0 m c t k (y 1)) (fun k => blk1 m c t k (y 2))).trans ?_
    refine Eq.trans ?_ (if_pos ?_).symm
    · exact congrArg₂ (fun a b : ℕ => upTo (fun k => entry (in0 m c) k a) (fun k => entry (in1 m c) k b) 2048)
        (at_whole (at2 t).2.1).symm (at_block (at2 t).2.2).symm
    · show win0_2.index t 0 * 1 + 1 * (y 0).val = 1
      rw [(at2 t).1]; omega
  · exact (host2 m c j).trans (if_neg fun h => hj ((Nat.div_one _).trans h)).symm

end Kernel

theorem ref (x0 : (Mat 2048 1024).Idx → EReal) (x1 : (Mat 2048 1024).Idx → EReal) (x2 : S4x1024x1024.Idx → EReal) : val_main_v12 (F := Ideal) x0 x1 x2 = prod x0 x1 x2 := by
  funext y
  have h0 : (y 0).val < 4 := (y 0).isLt
  refine (val_main_v12_apply (F := Ideal) x0 x1 x2 y).trans ?_
  rw [val_main_v4_apply, val_main_v3_apply, val_main_v1_apply, val_main_v2_apply, val_main_v0_apply, val_main_c_apply]
  refine (layer_select (y 0).val 1 h0 (by decide) _ _).trans (if_congr Iff.rfl (Dwg0.ref_layer x0 x1 y) rfl)

/-! ### The claims -/

theorem frame_p : Cert.quiescent_Dwg1 := fun m ρ _ => Cert.Dwg1.Gen.frame m ρ
theorem frame_pi : Cert.quiescent_Dwg1Ideal := fun m ρ _ => Cert.Dwg1Ideal.Gen.frame m ρ
theorem frame_ri : Cert.quiescent_Dwg1RefIdeal := fun m ρ _ =>
  (θ_run Cert.Dwg1RefIdeal.defs _ _).mono (fun r h => ⟨fun c => (h c).2, sem_eq_zero_of_no_sems (by decide) r.2⟩)
    (Cert.Dwg1RefIdeal.Value.run (F := Ideal) m ρ)

theorem preserves : Cert.preserves_Dwg1_Dwg1Ideal := trivial

/-- The kernel's array is the reference's. -/
theorem algebraic : Cert.algebraic_Dwg1Ideal_Dwg1RefIdeal := by
  intro m ρ m' ρ' _ hagree
  refine ⟨fun c => prod (in0 m c) (in1 m c) (in2 m c), ?_, ?_⟩
  · exact (θ_run defs _ _).mono (fun r h c => ⟨(h c).1.trans (arr m c), (h c).2⟩) (Cert.Dwg1Ideal.Value.run_blocks (F := Ideal) m ρ)
  · refine (θ_run Cert.Dwg1RefIdeal.defs _ _).mono (fun r h c => ⟨(h c).1.trans ?_, (h c).2⟩) (Cert.Dwg1RefIdeal.Value.run (F := Ideal) m' ρ')
    refine (val_main_v12_eq _ _ _).trans ((ref _ _ _ ).trans ?_)
    obtain ⟨e0, e1, e2⟩ := hagree c
    rw [e0, e1, e2]

end Cert.Proof.Dwg1

end
-- ==== Proof.Dwg2.lean ====
/-
  The gradient of the per-layer gate's matrix, put into the layers' stack. Layer 2 of the stack.
-/
module

public import proofs.«01_k».proof.Defs
public import proofs.«01_k».proof.Proof.Contract
public import proofs.«01_k».proof.Proof.Gen.Dwg2.Frame
public import proofs.«01_k».proof.Proof.Gen.Dwg2Ideal.Value
public import proofs.«01_k».proof.Proof.Gen.Dwg2RefIdeal.Run
public import proofs.«01_k».proof.Proof.Gen.Dwg2RefIdeal.Read
public import Idealize.ShloMosaic.Lib.StableHlo.RunRead
public import Idealize.ShloMosaic.Lib.Pipeline.ValueKit.Geometry
public import Idealize.ShloMosaic.Lib.Pipeline.ValueKit.Acc
public import Idealize.ShloMosaic.Lib.Tactic
public import proofs.«01_k».proof.Proof.Dwg0
public import Idealize.ShloMosaic.Lib.Pipeline.ValueKit.Partial

@[expose] public section

set_option maxRecDepth 16384

noncomputable section

namespace Cert.Proof.Dwg2

open Cert.Dwg2Ideal Cert.Dwg2Ideal.Gen Cert.Dwg2RefIdeal.Read
open Idealize.ShloMosaic Idealize.ShloMosaic.TcCoe Idealize.SL.Sem Idealize.ShloMosaic.StableHlo Idealize.ShloMosaic.ValueIdx

/-- The result. -/
def prod (x0 : (Mat 2048 1024).Idx → EReal) (x1 : (Mat 2048 1024).Idx → EReal) (x2 : S4x1024x1024.Idx → EReal) : S4x1024x1024.Idx → EReal := fun y =>
  if (y 0).val = 2 then upTo (fun k => entry x0 k ((y 1).val)) (fun k => entry x1 k ((y 2).val)) 2048 else x2 y

section Kernel

variable (m : (ℓ : Loc nD τ sig) → Buf (Elt Ideal) ℓ) (c : Dev nD)

/-- The first argument. -/
abbrev in0 : (Mat 2048 1024).Idx → EReal := m ((c : Thread nD τ).loc main_arg0)
/-- The second argument. -/
abbrev in1 : (Mat 2048 1024).Idx → EReal := m ((c : Thread nD τ).loc main_arg1)
/-- The stack that the call writes into. -/
abbrev in2 : S4x1024x1024.Idx → EReal := m ((c : Thread nD τ).loc main_arg2)

/-! ### The staged blocks -/

theorem host0 (y : S2048x1024.Idx) : (V m c main_arg0 y : EReal) = entry (in0 m c) (y 0).val (y 1).val := by
  rw [entry_idx]; exact congrFun (V_main_arg0 m c) y

theorem at0 : ∀ t : Fin grid0.N, win0_0.index t 0 = 0 ∧ win0_0.index t 1 = 0 := by decide +kernel

theorem blk0 (t : Fin cfg0.N) (i : Fin 2048) (k : Fin 1024) :
    ((iblk m c 0 t : Vec Ideal S2048x1024 .f32) (ix2 i k) : EReal) = entry (in0 m c) (i.val) (k.val) := by
  unfold iblk
  rw [View.read_apply]
  exact (host0 m c _).trans (congrArg₂ (entry (in0 m c)) (at_whole (at0 t).1) (at_whole (at0 t).2))

theorem host1 (y : S2048x1024.Idx) : (V m c main_v0 y : EReal) = entry (in1 m c) (y 0).val (y 1).val := by
  rw [entry_idx]; unfold V; after_reads_simp; rfl

theorem at1 : ∀ t : Fin grid0.N, win0_1.index t 0 = 0 ∧ win0_1.index t 1 = t.val := by decide +kernel

theorem blk1 (t : Fin cfg0.N) (i : Fin 2048) (k : Fin 512) :
    ((iblk m c 1 t : Vec Ideal S2048x512 .bf16) (ix2 i k) : EReal) = entry (in1 m c) (i.val) (512 * (t.val) + k.val) := by
  unfold iblk
  rw [View.read_apply]
  exact (host1 m c _).trans (congrArg₂ (entry (in1 m c)) (at_whole (at1 t).1) (at_block (at1 t).2))

theorem at2 : ∀ t : Fin grid0.N, win0_2.index t 0 = 2 ∧ win0_2.index t 1 = 0 ∧ win0_2.index t 2 = t.val := by decide +kernel

/-- The stack as the call finds it. -/
theorem host2 (y : S4x1024x1024.Idx) : (V m c main_v1 y : EReal) = in2 m c y := by
  unfold V; after_reads_simp; rfl

/-- The stack after the run. -/
theorem arr : (dats m 0 c).arrAt 2 cfg0.N = prod (in0 m c) (in1 m c) (in2 m c) := by
  refine (dats m 0 c).arrAt_eq_of_coversWhere_of_agree 2 (prod (in0 m c) (in1 m c) (in2 m c)) (fun β => β (0 : Fin 3) = 2) (by decide +kernel) (fun t _ y => ?_) (fun j hj => ?_)
  · refine (cast_eq _ _).trans ((congrFun (after0_2 m c t) _).trans ?_)
    have h0 : (y 0).val < 1 := (y 0).isLt
    have e : (cfg0.win 2).xinj (cfg0.grid.coords t) y = ix3 (n0 := 1) (n1 := 1024) (n2 := 512) 0 (y 1) (y 2) := by
      funext a; apply Fin.ext; match a with
      | ⟨0, _⟩ => show (y 0).val = 0; omega
      | ⟨1, _⟩ => rfl
      | ⟨2, _⟩ => rfl
    rw [e]
    unfold outsAt0
    frame_out
    refine (Dwg0.pay_apply _ _ _ _ (fun k => entry (in0 m c) k ((y 1).val)) (fun k => entry (in1 m c) k (512 * (t.val) + (y 2).val)) (fun k => blk0 m c t k (y 1)) (fun k => blk1 m c t k (y 2))).trans ?_
    refine Eq.trans ?_ (if_pos ?_).symm
    · exact congrArg₂ (fun a b : ℕ => upTo (fun k => entry (in0 m c) k a) (fun k => entry (in1 m c) k b) 2048)
        (at_whole (at2 t).2.1).symm (at_block (at2 t).2.2).symm
    · show win0_2.index t 0 * 1 + 1 * (y 0).val = 2
      rw [(at2 t).1]; omega
  · exact (host2 m c j).trans (if_neg fun h => hj ((Nat.div_one _).trans h)).symm

end Kernel

theorem ref (x0 : (Mat 2048 1024).Idx → EReal) (x1 : (Mat 2048 1024).Idx → EReal) (x2 : S4x1024x1024.Idx → EReal) : val_main_v12 (F := Ideal) x0 x1 x2 = prod x0 x1 x2 := by
  funext y
  have h0 : (y 0).val < 4 := (y 0).isLt
  refine (val_main_v12_apply (F := Ideal) x0 x1 x2 y).trans ?_
  rw [val_main_v4_apply, val_main_v3_apply, val_main_v1_apply, val_main_v2_apply, val_main_v0_apply, val_main_c_apply]
  refine (layer_select (y 0).val 2 h0 (by decide) _ _).trans (if_congr Iff.rfl (Dwg0.ref_layer x0 x1 y) rfl)

/-! ### The claims -/

theorem frame_p : Cert.quiescent_Dwg2 := fun m ρ _ => Cert.Dwg2.Gen.frame m ρ
theorem frame_pi : Cert.quiescent_Dwg2Ideal := fun m ρ _ => Cert.Dwg2Ideal.Gen.frame m ρ
theorem frame_ri : Cert.quiescent_Dwg2RefIdeal := fun m ρ _ =>
  (θ_run Cert.Dwg2RefIdeal.defs _ _).mono (fun r h => ⟨fun c => (h c).2, sem_eq_zero_of_no_sems (by decide) r.2⟩)
    (Cert.Dwg2RefIdeal.Value.run (F := Ideal) m ρ)

theorem preserves : Cert.preserves_Dwg2_Dwg2Ideal := trivial

/-- The kernel's array is the reference's. -/
theorem algebraic : Cert.algebraic_Dwg2Ideal_Dwg2RefIdeal := by
  intro m ρ m' ρ' _ hagree
  refine ⟨fun c => prod (in0 m c) (in1 m c) (in2 m c), ?_, ?_⟩
  · exact (θ_run defs _ _).mono (fun r h c => ⟨(h c).1.trans (arr m c), (h c).2⟩) (Cert.Dwg2Ideal.Value.run_blocks (F := Ideal) m ρ)
  · refine (θ_run Cert.Dwg2RefIdeal.defs _ _).mono (fun r h c => ⟨(h c).1.trans ?_, (h c).2⟩) (Cert.Dwg2RefIdeal.Value.run (F := Ideal) m' ρ')
    refine (val_main_v12_eq _ _ _).trans ((ref _ _ _ ).trans ?_)
    obtain ⟨e0, e1, e2⟩ := hagree c
    rw [e0, e1, e2]

end Cert.Proof.Dwg2

end
-- ==== Proof.Dwin3.lean ====
/-
  The gradient of the feed-forward's input matrix, transposed, in the layers' stack. Layer 3, the first put into a fresh stack.
-/
module

public import proofs.«01_k».proof.Defs
public import proofs.«01_k».proof.Proof.Contract
public import proofs.«01_k».proof.Proof.Gen.Dwin3.Frame
public import proofs.«01_k».proof.Proof.Gen.Dwin3Ideal.Value
public import proofs.«01_k».proof.Proof.Gen.Dwin3RefIdeal.Run
public import proofs.«01_k».proof.Proof.Gen.Dwin3RefIdeal.Read
public import Idealize.ShloMosaic.Lib.StableHlo.RunRead
public import Idealize.ShloMosaic.Lib.Pipeline.ValueKit.Geometry
public import Idealize.ShloMosaic.Lib.Pipeline.ValueKit.Acc
public import proofs.«01_k».proof.Proof.Gen.On_win_last
public import Idealize.ShloMosaic.Lib.Pipeline.ValueKit.Partial

@[expose] public section

set_option maxRecDepth 16384

noncomputable section

namespace Cert.Proof.Dwin3

open Cert.Dwin3Ideal Cert.Dwin3Ideal.Gen Cert.Dwin3RefIdeal.Read
open Idealize.ShloMosaic Idealize.ShloMosaic.TcCoe Idealize.SL.Sem Idealize.ShloMosaic.StableHlo Idealize.ShloMosaic.ValueIdx

/-- The result. -/
def prod (x0 : (Mat 2048 5632).Idx → EReal) (x1 : (Mat 2048 1024).Idx → EReal) : S4x5632x1024.Idx → EReal := fun y =>
  upTo (fun k => entry x0 k ((y 1).val)) (fun k => entry x1 k ((y 2).val)) 2048

section Kernel

variable (m : (ℓ : Loc nD τ sig) → Buf (Elt Ideal) ℓ) (c : Dev nD)

/-- The first argument. -/
abbrev in0 : (Mat 2048 5632).Idx → EReal := m ((c : Thread nD τ).loc main_arg0)
/-- The second argument. -/
abbrev in1 : (Mat 2048 1024).Idx → EReal := m ((c : Thread nD τ).loc main_arg1)

/-! ### The staged blocks -/

theorem host0 (y : S2048x5632.Idx) : (V m c main_v0 y : EReal) = entry (in0 m c) (y 0).val (y 1).val := by
  rw [entry_idx]; unfold V; after_reads_simp; rfl

theorem at0 : ∀ t : Fin grid0.N, win0_0.index t 0 = 0 ∧ win0_0.index t 1 = t.val := by decide +kernel

theorem blk0 (t : Fin cfg0.N) (i : Fin 2048) (k : Fin 512) :
    ((iblk m c 0 t : Vec Ideal S2048x512 .bf16) (ix2 i k) : EReal) = entry (in0 m c) (i.val) (512 * (t.val) + k.val) := by
  unfold iblk
  rw [View.read_apply]
  exact (host0 m c _).trans (congrArg₂ (entry (in0 m c)) (at_whole (at0 t).1) (at_block (at0 t).2))

theorem host1 (y : S2048x1024.Idx) : (V m c main_v1 y : EReal) = entry (in1 m c) (y 0).val (y 1).val := by
  rw [entry_idx]; unfold V; after_reads_simp; rfl

theorem at1 : ∀ t : Fin grid0.N, win0_1.index t 0 = 0 ∧ win0_1.index t 1 = 0 := by decide +kernel

theorem blk1 (t : Fin cfg0.N) (i : Fin 2048) (k : Fin 1024) :
    ((iblk m c 1 t : Vec Ideal S2048x1024 .bf16) (ix2 i k) : EReal) = entry (in1 m c) (i.val) (k.val) := by
  unfold iblk
  rw [View.read_apply]
  exact (host1 m c _).trans (congrArg₂ (entry (in1 m c)) (at_whole (at1 t).1) (at_whole (at1 t).2))

theorem at2 : ∀ t : Fin grid0.N, win0_2.index t 0 = 3 ∧ win0_2.index t 1 = t.val ∧ win0_2.index t 2 = 0 := by decide +kernel

/-- What a point multiplies, at an entry. -/
theorem pay_apply (x0 : Vec Ideal S2048x512 .bf16) (x1 : Vec Ideal S2048x1024 .bf16) (i : Fin 512) (j : Fin 1024) (f g : ℕ → EReal)
    (hf : ∀ k : Fin 2048, (x0 (ix2 k i) : EReal) = f k.val) (hg : ∀ k : Fin 2048, (x1 (ix2 k j) : EReal) = g k.val) :
    (k0_pay1 x0 x1 (ix3 0 i j) : EReal) = upTo f g 2048 := by
  unfold k0_pay1
  try simp only [shapeCast_self]
  refine (box_apply _ _ i j).trans ?_
  exact tn_upTo (by decide) (φ₁ := .bf16) (φ₂ := .bf16) x0 _ i j f g hf hg

/-- The last layer's part of the array after the run. -/
theorem arr (i : S4x5632x1024.Idx) (hi : (i 0).val = 3) : (dats m 0 c).arrAt 2 cfg0.N i = prod (in0 m c) (in1 m c) i := by
  refine ((dats m 0 c).arrAt_apply_of_coversWhere 2 (prod (in0 m c) (in1 m c)) (P := fun i : S4x5632x1024.Idx => (i 0).val / 1 = 3) (fun β => β (0 : Fin 3) = 3) (by decide +kernel) (fun t _ y => ?_) (fun j => Iff.rfl) i).trans (if_pos ((Nat.div_one _).trans hi))
  refine (cast_eq _ _).trans ((congrFun (after0_2 m c t) _).trans ?_)
  have h0 : (y 0).val < 1 := (y 0).isLt
  have e : (cfg0.win 2).xinj (cfg0.grid.coords t) y = ix3 (n0 := 1) (n1 := 512) (n2 := 1024) 0 (y 1) (y 2) := by
    funext a; apply Fin.ext; match a with
    | ⟨0, _⟩ => show (y 0).val = 0; omega
    | ⟨1, _⟩ => rfl
    | ⟨2, _⟩ => rfl
  rw [e]; frame_out
  refine (pay_apply _ _ _ _ (fun k => entry (in0 m c) k (512 * (t.val) + (y 1).val)) (fun k => entry (in1 m c) k ((y 2).val)) (fun k => blk0 m c t k (y 1)) (fun k => blk1 m c t k (y 2))).trans ?_
  exact congrArg₂ (fun a b : ℕ => upTo (fun k => entry (in0 m c) k a) (fun k => entry (in1 m c) k b) 2048)
    (at_block (at2 t).2.1).symm (at_whole (at2 t).2.2).symm

/-- The mask selects the last layer alone. -/
theorem last (x : FVec Ideal Cert.On_win_last.S2048x5632 .f32) (z : FVec Ideal Cert.On_win_last.S2048x1024 .f32) (i : (⟨3, ![4, 5632, 1024]⟩ : Shape).Idx)
    (h : Cert.On_win_last.fn x z i = 1#1) : (i 0).val = 3 := by
  have key : ∀ r < 4, IntOp.cmpi .eq (BitVec.ofNat 32 r) 3#32 = 1#1 → r = 3 := by decide
  exact key _ (i 0).isLt h

end Kernel

theorem ref (x0 : (Mat 2048 5632).Idx → EReal) (x1 : (Mat 2048 1024).Idx → EReal) : val_main_v7 (F := Ideal) x0 x1 = prod x0 x1 := by
  funext y
  rw [val_main_v7_apply, val_main_v6_apply]
  refine (val_main_v5_apply (F := Ideal) x0 x1 _).trans ?_
  show val_main_v4 (F := Ideal) x0 x1 _ = _
  rw [val_main_v4_apply, val_main_v3_apply]
  refine (val_main_v2_apply x0 x1 _).trans ((Finset.sum_congr rfl fun k _ => ?_).trans (upTo_fin _ _ 2048).symm)
  exact congrArg₂ (fun u v : EReal => u * v) (eq_entry x0 _ rfl rfl) (eq_entry x1 _ rfl rfl)

/-! ### The claims -/

theorem frame_p : Cert.quiescent_Dwin3 := fun m ρ _ => Cert.Dwin3.Gen.frame m ρ
theorem frame_pi : Cert.quiescent_Dwin3Ideal := fun m ρ _ => Cert.Dwin3Ideal.Gen.frame m ρ
theorem frame_ri : Cert.quiescent_Dwin3RefIdeal := fun m ρ _ =>
  (θ_run Cert.Dwin3RefIdeal.defs _ _).mono (fun r h => ⟨fun c => (h c).2, sem_eq_zero_of_no_sems (by decide) r.2⟩)
    (Cert.Dwin3RefIdeal.Value.run (F := Ideal) m ρ)

theorem preserves : Cert.preserves_Dwin3_Dwin3Ideal := trivial

/-- The kernel's array is the reference's. -/
theorem algebraic : Cert.algebraic_Dwin3Ideal_Dwin3RefIdeal_on_win_last := by
  intro m ρ m' ρ' _ hagree
  refine ⟨fun c => prod (in0 m c) (in1 m c), ?_, ?_⟩
  · exact (θ_run defs _ _).mono (fun r h c => ⟨fun i hi => (congrFun (h c).1 i).trans (arr m c i (last _ _ i hi)), (h c).2⟩) (Cert.Dwin3Ideal.Value.run_blocks (F := Ideal) m ρ)
  · refine (θ_run Cert.Dwin3RefIdeal.defs _ _).mono (fun r h c => ⟨fun i _ => congrFun ((h c).1.trans ?_) i, (h c).2⟩) (Cert.Dwin3RefIdeal.Value.run (F := Ideal) m' ρ')
    refine (val_main_v7_eq _ _).trans ((ref _ _ ).trans ?_)
    obtain ⟨e0, e1⟩ := hagree c
    exact congrArg₂ prod e0 e1

end Cert.Proof.Dwin3

end
-- ==== Proof.Dwout3.lean ====
/-
  The gradient of the feed-forward's output matrix, in the layers' stack. Layer 3, the first put into a fresh stack.
-/
module

public import proofs.«01_k».proof.Defs
public import proofs.«01_k».proof.Proof.Contract
public import proofs.«01_k».proof.Proof.Gen.Dwout3.Frame
public import proofs.«01_k».proof.Proof.Gen.Dwout3Ideal.Value
public import proofs.«01_k».proof.Proof.Gen.Dwout3RefIdeal.Run
public import proofs.«01_k».proof.Proof.Gen.Dwout3RefIdeal.Read
public import Idealize.ShloMosaic.Lib.StableHlo.RunRead
public import Idealize.ShloMosaic.Lib.Pipeline.ValueKit.Geometry
public import Idealize.ShloMosaic.Lib.Pipeline.ValueKit.Acc
public import proofs.«01_k».proof.Proof.Gen.On_wout_last
public import Idealize.ShloMosaic.Lib.Pipeline.ValueKit.Partial

@[expose] public section

set_option maxRecDepth 16384

noncomputable section

namespace Cert.Proof.Dwout3

open Cert.Dwout3Ideal Cert.Dwout3Ideal.Gen Cert.Dwout3RefIdeal.Read
open Idealize.ShloMosaic Idealize.ShloMosaic.TcCoe Idealize.SL.Sem Idealize.ShloMosaic.StableHlo Idealize.ShloMosaic.ValueIdx

/-- The result. -/
def prod (x0 : (Mat 2048 2816).Idx → EReal) (x1 : (Mat 2048 1024).Idx → EReal) : S4x2816x1024.Idx → EReal := fun y =>
  upTo (fun k => entry x0 k ((y 1).val)) (fun k => entry x1 k ((y 2).val)) 2048

section Kernel

variable (m : (ℓ : Loc nD τ sig) → Buf (Elt Ideal) ℓ) (c : Dev nD)

/-- The first argument. -/
abbrev in0 : (Mat 2048 2816).Idx → EReal := m ((c : Thread nD τ).loc main_arg0)
/-- The second argument. -/
abbrev in1 : (Mat 2048 1024).Idx → EReal := m ((c : Thread nD τ).loc main_arg1)

/-! ### The staged blocks -/

theorem host0 (y : S2048x2816.Idx) : (V m c main_v0 y : EReal) = entry (in0 m c) (y 0).val (y 1).val := by
  rw [entry_idx]; unfold V; after_reads_simp; rfl

theorem at0 : ∀ t : Fin grid0.N, win0_0.index t 0 = 0 ∧ win0_0.index t 1 = t.val / 2 := by decide +kernel

theorem blk0 (t : Fin cfg0.N) (i : Fin 2048) (k : Fin 1408) :
    ((iblk m c 0 t : Vec Ideal S2048x1408 .bf16) (ix2 i k) : EReal) = entry (in0 m c) (i.val) (1408 * (t.val / 2) + k.val) := by
  unfold iblk
  rw [View.read_apply]
  exact (host0 m c _).trans (congrArg₂ (entry (in0 m c)) (at_whole (at0 t).1) (at_block (at0 t).2))

theorem host1 (y : S2048x1024.Idx) : (V m c main_v1 y : EReal) = entry (in1 m c) (y 0).val (y 1).val := by
  rw [entry_idx]; unfold V; after_reads_simp; rfl

theorem at1 : ∀ t : Fin grid0.N, win0_1.index t 0 = 0 ∧ win0_1.index t 1 = t.val % 2 := by decide +kernel

theorem blk1 (t : Fin cfg0.N) (i : Fin 2048) (k : Fin 512) :
    ((iblk m c 1 t : Vec Ideal S2048x512 .bf16) (ix2 i k) : EReal) = entry (in1 m c) (i.val) (512 * (t.val % 2) + k.val) := by
  unfold iblk
  rw [View.read_apply]
  exact (host1 m c _).trans (congrArg₂ (entry (in1 m c)) (at_whole (at1 t).1) (at_block (at1 t).2))

theorem at2 : ∀ t : Fin grid0.N, win0_2.index t 0 = 3 ∧ win0_2.index t 1 = t.val / 2 ∧ win0_2.index t 2 = t.val % 2 := by decide +kernel

/-- What a point multiplies, at an entry. -/
theorem pay_apply (x0 : Vec Ideal S2048x1408 .bf16) (x1 : Vec Ideal S2048x512 .bf16) (i : Fin 1408) (j : Fin 512) (f g : ℕ → EReal)
    (hf : ∀ k : Fin 2048, (x0 (ix2 k i) : EReal) = f k.val) (hg : ∀ k : Fin 2048, (x1 (ix2 k j) : EReal) = g k.val) :
    (k0_pay1 x0 x1 (ix3 0 i j) : EReal) = upTo f g 2048 := by
  unfold k0_pay1
  try simp only [shapeCast_self]
  refine (box_apply _ _ i j).trans ?_
  exact tn_upTo (by decide) (φ₁ := .bf16) (φ₂ := .bf16) x0 _ i j f g hf hg

/-- The last layer's part of the array after the run. -/
theorem arr (i : S4x2816x1024.Idx) (hi : (i 0).val = 3) : (dats m 0 c).arrAt 2 cfg0.N i = prod (in0 m c) (in1 m c) i := by
  refine ((dats m 0 c).arrAt_apply_of_coversWhere 2 (prod (in0 m c) (in1 m c)) (P := fun i : S4x2816x1024.Idx => (i 0).val / 1 = 3) (fun β => β (0 : Fin 3) = 3) (by decide +kernel) (fun t _ y => ?_) (fun j => Iff.rfl) i).trans (if_pos ((Nat.div_one _).trans hi))
  refine (cast_eq _ _).trans ((congrFun (after0_2 m c t) _).trans ?_)
  have h0 : (y 0).val < 1 := (y 0).isLt
  have e : (cfg0.win 2).xinj (cfg0.grid.coords t) y = ix3 (n0 := 1) (n1 := 1408) (n2 := 512) 0 (y 1) (y 2) := by
    funext a; apply Fin.ext; match a with
    | ⟨0, _⟩ => show (y 0).val = 0; omega
    | ⟨1, _⟩ => rfl
    | ⟨2, _⟩ => rfl
  rw [e]; frame_out
  refine (pay_apply _ _ _ _ (fun k => entry (in0 m c) k (1408 * (t.val / 2) + (y 1).val)) (fun k => entry (in1 m c) k (512 * (t.val % 2) + (y 2).val)) (fun k => blk0 m c t k (y 1)) (fun k => blk1 m c t k (y 2))).trans ?_
  exact congrArg₂ (fun a b : ℕ => upTo (fun k => entry (in0 m c) k a) (fun k => entry (in1 m c) k b) 2048)
    (at_block (at2 t).2.1).symm (at_block (at2 t).2.2).symm

/-- The mask selects the last layer alone. -/
theorem last (x : FVec Ideal Cert.On_wout_last.S2048x2816 .f32) (z : FVec Ideal Cert.On_wout_last.S2048x1024 .f32) (i : (⟨3, ![4, 2816, 1024]⟩ : Shape).Idx)
    (h : Cert.On_wout_last.fn x z i = 1#1) : (i 0).val = 3 := by
  have key : ∀ r < 4, IntOp.cmpi .eq (BitVec.ofNat 32 r) 3#32 = 1#1 → r = 3 := by decide
  exact key _ (i 0).isLt h

end Kernel

theorem ref (x0 : (Mat 2048 2816).Idx → EReal) (x1 : (Mat 2048 1024).Idx → EReal) : val_main_v6 (F := Ideal) x0 x1 = prod x0 x1 := by
  funext y
  rw [val_main_v6_apply, val_main_v5_apply]
  refine (val_main_v4_apply (F := Ideal) x0 x1 _).trans ?_
  show val_main_v3 (F := Ideal) x0 x1 _ = _
  rw [val_main_v3_apply]
  refine (val_main_v2_apply x0 x1 _).trans ((Finset.sum_congr rfl fun k _ => ?_).trans (upTo_fin _ _ 2048).symm)
  exact (congrArg₂ (fun u v : EReal => u * v) (eq_entry x1 _ rfl rfl) (eq_entry x0 _ rfl rfl)).trans (mul_comm _ _)

/-! ### The claims -/

theorem frame_p : Cert.quiescent_Dwout3 := fun m ρ _ => Cert.Dwout3.Gen.frame m ρ
theorem frame_pi : Cert.quiescent_Dwout3Ideal := fun m ρ _ => Cert.Dwout3Ideal.Gen.frame m ρ
theorem frame_ri : Cert.quiescent_Dwout3RefIdeal := fun m ρ _ =>
  (θ_run Cert.Dwout3RefIdeal.defs _ _).mono (fun r h => ⟨fun c => (h c).2, sem_eq_zero_of_no_sems (by decide) r.2⟩)
    (Cert.Dwout3RefIdeal.Value.run (F := Ideal) m ρ)

theorem preserves : Cert.preserves_Dwout3_Dwout3Ideal := trivial

/-- The kernel's array is the reference's. -/
theorem algebraic : Cert.algebraic_Dwout3Ideal_Dwout3RefIdeal_on_wout_last := by
  intro m ρ m' ρ' _ hagree
  refine ⟨fun c => prod (in0 m c) (in1 m c), ?_, ?_⟩
  · exact (θ_run defs _ _).mono (fun r h c => ⟨fun i hi => (congrFun (h c).1 i).trans (arr m c i (last _ _ i hi)), (h c).2⟩) (Cert.Dwout3Ideal.Value.run_blocks (F := Ideal) m ρ)
  · refine (θ_run Cert.Dwout3RefIdeal.defs _ _).mono (fun r h c => ⟨fun i _ => congrFun ((h c).1.trans ?_) i, (h c).2⟩) (Cert.Dwout3RefIdeal.Value.run (F := Ideal) m' ρ')
    refine (val_main_v6_eq _ _).trans ((ref _ _ ).trans ?_)
    obtain ⟨e0, e1⟩ := hagree c
    exact congrArg₂ prod e0 e1

end Cert.Proof.Dwout3

end
-- ==== Proof.Dwg3.lean ====
/-
  The gradient of the per-layer gate's matrix, in the layers' stack. Layer 3, the first put into a fresh stack.
-/
module

public import proofs.«01_k».proof.Defs
public import proofs.«01_k».proof.Proof.Contract
public import proofs.«01_k».proof.Proof.Gen.Dwg3.Frame
public import proofs.«01_k».proof.Proof.Gen.Dwg3Ideal.Value
public import proofs.«01_k».proof.Proof.Gen.Dwg3RefIdeal.Run
public import proofs.«01_k».proof.Proof.Gen.Dwg3RefIdeal.Read
public import Idealize.ShloMosaic.Lib.StableHlo.RunRead
public import Idealize.ShloMosaic.Lib.Pipeline.ValueKit.Geometry
public import Idealize.ShloMosaic.Lib.Pipeline.ValueKit.Acc
public import proofs.«01_k».proof.Proof.Gen.On_wg_last
public import Idealize.ShloMosaic.Lib.Pipeline.ValueKit.Partial

@[expose] public section

set_option maxRecDepth 16384

noncomputable section

namespace Cert.Proof.Dwg3

open Cert.Dwg3Ideal Cert.Dwg3Ideal.Gen Cert.Dwg3RefIdeal.Read
open Idealize.ShloMosaic Idealize.ShloMosaic.TcCoe Idealize.SL.Sem Idealize.ShloMosaic.StableHlo Idealize.ShloMosaic.ValueIdx

/-- The result. -/
def prod (x0 : (Mat 2048 1024).Idx → EReal) (x1 : (Mat 2048 1024).Idx → EReal) : S4x1024x1024.Idx → EReal := fun y =>
  upTo (fun k => entry x0 k ((y 1).val)) (fun k => entry x1 k ((y 2).val)) 2048

section Kernel

variable (m : (ℓ : Loc nD τ sig) → Buf (Elt Ideal) ℓ) (c : Dev nD)

/-- The first argument. -/
abbrev in0 : (Mat 2048 1024).Idx → EReal := m ((c : Thread nD τ).loc main_arg0)
/-- The second argument. -/
abbrev in1 : (Mat 2048 1024).Idx → EReal := m ((c : Thread nD τ).loc main_arg1)

/-! ### The staged blocks -/

theorem host0 (y : S2048x1024.Idx) : (V m c main_arg0 y : EReal) = entry (in0 m c) (y 0).val (y 1).val := by
  rw [entry_idx]; exact congrFun (V_main_arg0 m c) y

theorem at0 : ∀ t : Fin grid0.N, win0_0.index t 0 = 0 ∧ win0_0.index t 1 = 0 := by decide +kernel

theorem blk0 (t : Fin cfg0.N) (i : Fin 2048) (k : Fin 1024) :
    ((iblk m c 0 t : Vec Ideal S2048x1024 .f32) (ix2 i k) : EReal) = entry (in0 m c) (i.val) (k.val) := by
  unfold iblk
  rw [View.read_apply]
  exact (host0 m c _).trans (congrArg₂ (entry (in0 m c)) (at_whole (at0 t).1) (at_whole (at0 t).2))

theorem host1 (y : S2048x1024.Idx) : (V m c main_v0 y : EReal) = entry (in1 m c) (y 0).val (y 1).val := by
  rw [entry_idx]; unfold V; after_reads_simp; rfl

theorem at1 : ∀ t : Fin grid0.N, win0_1.index t 0 = 0 ∧ win0_1.index t 1 = t.val := by decide +kernel

theorem blk1 (t : Fin cfg0.N) (i : Fin 2048) (k : Fin 512) :
    ((iblk m c 1 t : Vec Ideal S2048x512 .bf16) (ix2 i k) : EReal) = entry (in1 m c) (i.val) (512 * (t.val) + k.val) := by
  unfold iblk
  rw [View.read_apply]
  exact (host1 m c _).trans (congrArg₂ (entry (in1 m c)) (at_whole (at1 t).1) (at_block (at1 t).2))

theorem at2 : ∀ t : Fin grid0.N, win0_2.index t 0 = 3 ∧ win0_2.index t 1 = 0 ∧ win0_2.index t 2 = t.val := by decide +kernel

/-- What a point multiplies, at an entry. -/
theorem pay_apply (x0 : Vec Ideal S2048x1024 .f32) (x1 : Vec Ideal S2048x512 .bf16) (i : Fin 1024) (j : Fin 512) (f g : ℕ → EReal)
    (hf : ∀ k : Fin 2048, (x0 (ix2 k i) : EReal) = f k.val) (hg : ∀ k : Fin 2048, (x1 (ix2 k j) : EReal) = g k.val) :
    (k0_pay1 x0 x1 (ix3 0 i j) : EReal) = upTo f g 2048 := by
  unfold k0_pay1
  try simp only [shapeCast_self]
  refine (box_apply _ _ i j).trans ?_
  exact tn_upTo (by decide) (φ₁ := .bf16) (φ₂ := .bf16) x0 _ i j f g hf hg

/-- The last layer's part of the array after the run. -/
theorem arr (i : S4x1024x1024.Idx) (hi : (i 0).val = 3) : (dats m 0 c).arrAt 2 cfg0.N i = prod (in0 m c) (in1 m c) i := by
  refine ((dats m 0 c).arrAt_apply_of_coversWhere 2 (prod (in0 m c) (in1 m c)) (P := fun i : S4x1024x1024.Idx => (i 0).val / 1 = 3) (fun β => β (0 : Fin 3) = 3) (by decide +kernel) (fun t _ y => ?_) (fun j => Iff.rfl) i).trans (if_pos ((Nat.div_one _).trans hi))
  refine (cast_eq _ _).trans ((congrFun (after0_2 m c t) _).trans ?_)
  have h0 : (y 0).val < 1 := (y 0).isLt
  have e : (cfg0.win 2).xinj (cfg0.grid.coords t) y = ix3 (n0 := 1) (n1 := 1024) (n2 := 512) 0 (y 1) (y 2) := by
    funext a; apply Fin.ext; match a with
    | ⟨0, _⟩ => show (y 0).val = 0; omega
    | ⟨1, _⟩ => rfl
    | ⟨2, _⟩ => rfl
  rw [e]; frame_out
  refine (pay_apply _ _ _ _ (fun k => entry (in0 m c) k ((y 1).val)) (fun k => entry (in1 m c) k (512 * (t.val) + (y 2).val)) (fun k => blk0 m c t k (y 1)) (fun k => blk1 m c t k (y 2))).trans ?_
  exact congrArg₂ (fun a b : ℕ => upTo (fun k => entry (in0 m c) k a) (fun k => entry (in1 m c) k b) 2048)
    (at_whole (at2 t).2.1).symm (at_block (at2 t).2.2).symm

/-- The mask selects the last layer alone. -/
theorem last (x : FVec Ideal Cert.On_wg_last.S2048x1024 .f32) (z : FVec Ideal Cert.On_wg_last.S2048x1024 .f32) (i : (⟨3, ![4, 1024, 1024]⟩ : Shape).Idx)
    (h : Cert.On_wg_last.fn x z i = 1#1) : (i 0).val = 3 := by
  have key : ∀ r < 4, IntOp.cmpi .eq (BitVec.ofNat 32 r) 3#32 = 1#1 → r = 3 := by decide
  exact key _ (i 0).isLt h

end Kernel

theorem ref (x0 : (Mat 2048 1024).Idx → EReal) (x1 : (Mat 2048 1024).Idx → EReal) : val_main_v6 (F := Ideal) x0 x1 = prod x0 x1 := by
  funext y
  rw [val_main_v6_apply, val_main_v5_apply]
  refine (val_main_v4_apply (F := Ideal) x0 x1 _).trans ?_
  show val_main_v3 (F := Ideal) x0 x1 _ = _
  rw [val_main_v3_apply]
  refine (val_main_v2_apply x0 x1 _).trans ((Finset.sum_congr rfl fun k _ => ?_).trans (upTo_fin _ _ 2048).symm)
  exact (congrArg₂ (fun u v : EReal => u * v) (eq_entry x1 _ rfl rfl) (eq_entry x0 _ rfl rfl)).trans (mul_comm _ _)

/-! ### The claims -/

theorem frame_p : Cert.quiescent_Dwg3 := fun m ρ _ => Cert.Dwg3.Gen.frame m ρ
theorem frame_pi : Cert.quiescent_Dwg3Ideal := fun m ρ _ => Cert.Dwg3Ideal.Gen.frame m ρ
theorem frame_ri : Cert.quiescent_Dwg3RefIdeal := fun m ρ _ =>
  (θ_run Cert.Dwg3RefIdeal.defs _ _).mono (fun r h => ⟨fun c => (h c).2, sem_eq_zero_of_no_sems (by decide) r.2⟩)
    (Cert.Dwg3RefIdeal.Value.run (F := Ideal) m ρ)

theorem preserves : Cert.preserves_Dwg3_Dwg3Ideal := trivial

/-- The kernel's array is the reference's. -/
theorem algebraic : Cert.algebraic_Dwg3Ideal_Dwg3RefIdeal_on_wg_last := by
  intro m ρ m' ρ' _ hagree
  refine ⟨fun c => prod (in0 m c) (in1 m c), ?_, ?_⟩
  · exact (θ_run defs _ _).mono (fun r h c => ⟨fun i hi => (congrFun (h c).1 i).trans (arr m c i (last _ _ i hi)), (h c).2⟩) (Cert.Dwg3Ideal.Value.run_blocks (F := Ideal) m ρ)
  · refine (θ_run Cert.Dwg3RefIdeal.defs _ _).mono (fun r h c => ⟨fun i _ => congrFun ((h c).1.trans ?_) i, (h c).2⟩) (Cert.Dwg3RefIdeal.Value.run (F := Ideal) m' ρ')
    refine (val_main_v6_eq _ _).trans ((ref _ _ ).trans ?_)
    obtain ⟨e0, e1⟩ := hagree c
    exact congrArg₂ prod e0 e1

end Cert.Proof.Dwg3

end
-- ==== Proof.Pointwise.lean ====
/-
  The logistic function over the extended reals, as the kernels write it (from the hyperbolic tangent) and as the references do
  (from the exponential), and what a precondition of finite entries says.
-/
module

public import Idealize.ShloMosaic.PureOps.Ideal.Laws
public import Mathlib.Analysis.SpecialFunctions.Trigonometric.DerivHyp

@[expose] public section

noncomputable section

namespace Cert.Proof

open Idealize.ShloMosaic

theorem half_word : Ideal.ofBits .f32 0x3F000000#32 = ((1 / 2 : ℝ) : EReal) := by
  simp [Ideal.ofBits, Ideal.ieee]
  rw [← EReal.coe_mul]; norm_num

theorem one_word : Ideal.ofBits .f32 0x3F800000#32 = ((1 : ℝ) : EReal) := by
  simp [Ideal.ofBits, Ideal.ieee]
  rw [← EReal.coe_mul]; norm_num

theorem tanh_half (r : ℝ) : 1 / 2 * Real.tanh (1 / 2 * r) + 1 / 2 = (1 + Real.exp (-r))⁻¹ := by
  have hp : (0 : ℝ) < Real.exp (1 / 2 * r) := Real.exp_pos _
  have e : Real.exp (-r) = Real.exp (-(1 / 2 * r)) * Real.exp (-(1 / 2 * r)) := by rw [← Real.exp_add]; ring_nf
  have i : Real.exp (1 / 2 * r) * Real.exp (-(1 / 2 * r)) = 1 := by rw [← Real.exp_add]; simp
  have hn : (0 : ℝ) < Real.exp (-(1 / 2 * r)) := Real.exp_pos _
  rw [Real.tanh_eq_sinh_div_cosh, Real.sinh_eq, Real.cosh_eq, e]
  generalize Real.exp (1 / 2 * r) = u at *
  generalize Real.exp (-(1 / 2 * r)) = v at *
  have h1 : u + v ≠ 0 := by positivity
  have h2 : 1 + v * v ≠ 0 := by positivity
  field_simp
  nlinarith [i]

/-- The kernels' logistic function is the logistic function. -/
theorem sig_kernel (x : EReal) :
    Ideal.ofBits .f32 0x3F000000#32 * Ideal.tanh (Ideal.ofBits .f32 0x3F000000#32 * x) + Ideal.ofBits .f32 0x3F000000#32 = Ideal.logistic x := by
  rw [half_word]
  induction x using EReal.rec with
  | bot =>
    rw [EReal.coe_mul_bot_of_pos (by norm_num), Ideal.tanh_bot, Ideal.logistic_bot, ← EReal.coe_one, ← EReal.coe_neg, ← EReal.coe_mul,
      ← EReal.coe_add, ← EReal.coe_zero]
    norm_num
  | coe r =>
    rw [← EReal.coe_mul, Ideal.tanh_coe, Ideal.logistic_coe, ← EReal.coe_mul, ← EReal.coe_add, tanh_half]
  | top =>
    rw [EReal.coe_mul_top_of_pos (by norm_num), Ideal.tanh_top, Ideal.logistic_top, mul_one, ← EReal.coe_add, ← EReal.coe_one]
    norm_num

/-- So is the references'. -/
theorem sig_host (x : EReal) :
    Ideal.div (Ideal.ofBits .f32 0x3F800000#32) (Ideal.ofBits .f32 0x3F800000#32 + Ideal.exp (-x)) = Ideal.logistic x := by
  rw [one_word, EReal.coe_one]; rfl

/-- An entry below infinity in absolute value is a number. -/
theorem number (x : Ideal .f32)
    (h : FloatOps.cmpf .olt (FloatOps.hostAbsf x) (FloatOps.ofBits (F := Ideal) .f32 0x7F800000#32) = 1#1) : ∃ r : ℝ, (x : EReal) = (r : EReal) := by
  have top : Ideal.ofBits .f32 0x7F800000#32 = ⊤ := by simp [Ideal.ofBits, Ideal.ieee]
  have below : Ideal.cmp .olt (max (x : EReal) (-(x : EReal))) (Ideal.ofBits .f32 0x7F800000#32) = 1#1 := h
  rw [top] at below
  change EReal at x
  induction x using EReal.rec with
  | bot => simp [Ideal.cmp] at below
  | coe r => exact ⟨r, rfl⟩
  | top => simp [Ideal.cmp] at below

end Cert.Proof

end
-- ==== Proof.PleB.lean ====
/-
  The gradient of the per-layer embeddings' gate: of the gated sum `h + p * logistic g` in `p` and in `g`, both rounded to bf16.
-/
module

public import proofs.«01_k».proof.Defs
public import proofs.«01_k».proof.Proof.Pointwise
public import proofs.«01_k».proof.Proof.Gen.PleB.Frame
public import proofs.«01_k».proof.Proof.Gen.PleBIdeal.Value
public import proofs.«01_k».proof.Proof.Gen.PleBRefIdeal.Run
public import proofs.«01_k».proof.Proof.Gen.PleBRefIdeal.Read

@[expose] public section

noncomputable section

namespace Cert.Proof.PleB

open Cert.PleBIdeal Idealize.ShloMosaic Idealize.ShloMosaic.TcCoe Idealize.SL.Sem

/-- An array of the call. -/
abbrev A : Type := S2048x1024.Idx → EReal

/-- The gradient in `p`. -/
def dp (d g : A) : A := fun y => d y * Ideal.logistic (g y)
/-- The gradient in `g`. -/
def dg (d p g : A) : A := fun y => p y * d y * (Ideal.logistic (g y) * (1 - Ideal.logistic (g y)))

theorem kernel_dp (d g : A) : (Value.G3 (F := Ideal) d g : A) = dp d g :=
  funext fun y => congrArg (d y * ·) (sig_kernel (g y))

theorem kernel_dg (d p g : A) : (Value.G4 (F := Ideal) d g p : A) = dg d p g := by
  funext y
  show d y * p y * (Ideal.ofBits .f32 0x3F000000#32 * Ideal.tanh (Ideal.ofBits .f32 0x3F000000#32 * g y) + Ideal.ofBits .f32 0x3F000000#32)
    * (Ideal.ofBits .f32 0x3F800000#32 - (Ideal.ofBits .f32 0x3F000000#32 * Ideal.tanh (Ideal.ofBits .f32 0x3F000000#32 * g y)
      + Ideal.ofBits .f32 0x3F000000#32)) = _
  rw [sig_kernel, one_word, EReal.coe_one, mul_comm (d y), mul_assoc]; rfl

theorem same (y : S2048x1024.Idx) : Cert.PleBRefIdeal.Read.idx_main_v11 y = y := by
  funext a; apply Fin.ext
  have h0 : (y 0).val < 2048 := (y 0).isLt
  have h1 : (y 1).val < 1024 := (y 1).isLt
  match a with
  | ⟨0, _⟩ => show ((y 0).val * 1024 + (y 1).val) / 1024 = (y 0).val; omega
  | ⟨1, _⟩ => show ((y 0).val * 1024 + (y 1).val) % 1024 = (y 1).val; omega

theorem ref_sig (g : A) (y : S2048x1024.Idx) : (Cert.PleBRefIdeal.Read.val_main_v5 (F := Ideal) g y : EReal) = Ideal.logistic (g y) := by
  rw [Cert.PleBRefIdeal.Read.val_main_v5_apply, Cert.PleBRefIdeal.Read.val_main_v4_apply, Cert.PleBRefIdeal.Read.val_main_v3_apply,
    Cert.PleBRefIdeal.Read.val_main_v2_apply]
  exact sig_host (g y)

theorem ref_dp (d g : A) : (Cert.PleBRefIdeal.Read.val_main_v15 (F := Ideal) d g : A) = dp d g := by
  funext y
  rw [Cert.PleBRefIdeal.Read.val_main_v15_apply, Cert.PleBRefIdeal.Read.val_main_v13_apply, Cert.PleBRefIdeal.Read.val_main_v11_apply, same]
  exact congrArg (d y * ·) (ref_sig g y)

theorem ref_dg (d p g : A) : (Cert.PleBRefIdeal.Read.val_main_v16 (F := Ideal) d p g : A) = dg d p g := by
  funext y
  rw [Cert.PleBRefIdeal.Read.val_main_v16_apply, Cert.PleBRefIdeal.Read.val_main_v14_apply, Cert.PleBRefIdeal.Read.val_main_v12_apply,
    Cert.PleBRefIdeal.Read.val_main_v11_apply, same, Cert.PleBRefIdeal.Read.val_main_v8_apply, Cert.PleBRefIdeal.Read.val_main_v7_apply,
    Cert.PleBRefIdeal.Read.val_main_v6_apply, ref_sig]
  show p y * d y * (Ideal.logistic (g y) * (Ideal.ofBits .f32 0x3F800000#32 - Ideal.logistic (g y))) = _
  rw [one_word, EReal.coe_one]; rfl

/-! ### The claims -/

theorem frame_p : Cert.quiescent_PleB := fun m ρ _ => Cert.PleB.Gen.frame m ρ
theorem frame_pi : Cert.quiescent_PleBIdeal := fun m ρ _ => Cert.PleBIdeal.Gen.frame m ρ
theorem frame_ri : Cert.quiescent_PleBRefIdeal := fun m ρ _ =>
  (θ_run Cert.PleBRefIdeal.defs _ _).mono (fun r h => ⟨fun c => (h c).2.2, sem_eq_zero_of_no_sems (by decide) r.2⟩)
    (Cert.PleBRefIdeal.Value.run (F := Ideal) m ρ)

theorem preserves : Cert.preserves_PleB_PleBIdeal := trivial

/-- The kernel's two arrays are the reference's. -/
theorem algebraic : Cert.algebraic_PleBIdeal_PleBRefIdeal := by
  intro m ρ m' ρ' _ hagree
  refine ⟨fun c => dp (m ((c : Thread nD τ).loc main_arg0)) (m ((c : Thread nD τ).loc main_arg2)),
    fun c => dg (m ((c : Thread nD τ).loc main_arg0)) (m ((c : Thread nD τ).loc main_arg1)) (m ((c : Thread nD τ).loc main_arg2)), ?_, ?_⟩
  · exact (θ_run defs _ _).mono (fun r h c => ⟨(h c).1.trans (kernel_dp _ _), (h c).2.1.trans (kernel_dg _ _ _), (h c).2.2⟩)
      (Cert.PleBIdeal.Value.run (F := Ideal) m ρ)
  · refine (θ_run Cert.PleBRefIdeal.defs _ _).mono (fun r h c => ?_) (Cert.PleBRefIdeal.Value.run (F := Ideal) m' ρ')
    obtain ⟨e0, e1, e2⟩ := hagree c
    refine ⟨(h c).1.trans ?_, (h c).2.1.trans ?_, (h c).2.2⟩
    · exact (Cert.PleBRefIdeal.Read.val_main_v15_eq _ _).trans ((ref_dp _ _).trans (congrArg₂ dp e0 e2))
    · refine (Cert.PleBRefIdeal.Read.val_main_v16_eq _ _ _).trans ((ref_dg _ _ _).trans ?_)
      exact (congrArg₂ (fun a b => dg a b _) e0 e1).trans (congrArg (dg _ _) e2)

end Cert.Proof.PleB

end
-- ==== Proof.Ple.lean ====
/-
  The per-layer embeddings added through their gate.
-/
module

public import proofs.«01_k».proof.Defs
public import proofs.«01_k».proof.Proof.Pointwise
public import proofs.«01_k».proof.Proof.Gen.Ple.Frame
public import proofs.«01_k».proof.Proof.Gen.PleIdeal.Value
public import proofs.«01_k».proof.Proof.Gen.PleRefIdeal.Run
public import proofs.«01_k».proof.Proof.Gen.PleRefIdeal.Read

@[expose] public section

noncomputable section

namespace Cert.Proof.Ple

open Cert.PleIdeal Idealize.ShloMosaic Idealize.ShloMosaic.TcCoe Idealize.SL.Sem

/-- An array of the call. -/
abbrev A : Type := S2048x1024.Idx → EReal

/-- The gated sum. -/
def sum (h p g : A) : A := fun y => h y + p y * Ideal.logistic (g y)

theorem kernel (h p g : A) : (Value.G3 (F := Ideal) h p g : A) = sum h p g :=
  funext fun y => congrArg (fun s => h y + p y * s) (sig_kernel (g y))

theorem ref_sig (g : A) (y : S2048x1024.Idx) : (Cert.PleRefIdeal.Read.val_main_v5 (F := Ideal) g y : EReal) = Ideal.logistic (g y) := by
  rw [Cert.PleRefIdeal.Read.val_main_v5_apply, Cert.PleRefIdeal.Read.val_main_v4_apply, Cert.PleRefIdeal.Read.val_main_v3_apply,
    Cert.PleRefIdeal.Read.val_main_v2_apply]
  exact sig_host (g y)

theorem ref (h p g : A) : (Cert.PleRefIdeal.Read.val_main_v7 (F := Ideal) h p g : A) = sum h p g := by
  funext y
  rw [Cert.PleRefIdeal.Read.val_main_v7_apply, Cert.PleRefIdeal.Read.val_main_v6_apply, ref_sig]; rfl

/-! ### The claims -/

theorem frame_p : Cert.quiescent_Ple := fun m ρ _ => Cert.Ple.Gen.frame m ρ
theorem frame_pi : Cert.quiescent_PleIdeal := fun m ρ _ => Cert.PleIdeal.Gen.frame m ρ
theorem frame_ri : Cert.quiescent_PleRefIdeal := fun m ρ _ =>
  (θ_run Cert.PleRefIdeal.defs _ _).mono (fun r h => ⟨fun c => (h c).2, sem_eq_zero_of_no_sems (by decide) r.2⟩)
    (Cert.PleRefIdeal.Value.run (F := Ideal) m ρ)

theorem preserves : Cert.preserves_Ple_PleIdeal := trivial

/-- The kernel's array is the reference's. -/
theorem algebraic : Cert.algebraic_PleIdeal_PleRefIdeal := by
  intro m ρ m' ρ' _ hagree
  refine ⟨fun c => sum (m ((c : Thread nD τ).loc main_arg0)) (m ((c : Thread nD τ).loc main_arg1)) (m ((c : Thread nD τ).loc main_arg2)), ?_, ?_⟩
  · exact (θ_run defs _ _).mono (fun r h c => ⟨(h c).1.trans (kernel _ _ _), (h c).2⟩) (Cert.PleIdeal.Value.run (F := Ideal) m ρ)
  · refine (θ_run Cert.PleRefIdeal.defs _ _).mono (fun r h c => ⟨(h c).1.trans ?_, (h c).2⟩) (Cert.PleRefIdeal.Value.run (F := Ideal) m' ρ')
    obtain ⟨e0, e1, e2⟩ := hagree c
    refine (Cert.PleRefIdeal.Read.val_main_v7_eq _ _ _).trans ((ref _ _ _).trans ?_)
    exact (congrArg₂ (fun a b => sum a b _) e0 e1).trans (congrArg (sum _ _) e2)

end Cert.Proof.Ple

end
-- ==== Proof.Swiglu.lean ====
/-
  The gated product between the two products of the feed-forward block: `gate * logistic gate * up` of the halves of each row,
  rounded to bf16.
-/
module

public import proofs.«01_k».proof.Defs
public import proofs.«01_k».proof.Proof.Contract
public import proofs.«01_k».proof.Proof.Pointwise
public import proofs.«01_k».proof.Proof.Gen.Swiglu.Frame
public import proofs.«01_k».proof.Proof.Gen.SwigluIdeal.Value
public import proofs.«01_k».proof.Proof.Gen.SwigluRefIdeal.Run
public import proofs.«01_k».proof.Proof.Gen.SwigluRefIdeal.Read
public import Idealize.ShloMosaic.Lib.StableHlo.RunRead
public import Idealize.ShloMosaic.Lib.Pipeline.ValueKit.Geometry

@[expose] public section

set_option maxRecDepth 16384

noncomputable section

namespace Cert.Proof.Swiglu

open Cert.SwigluIdeal Cert.SwigluIdeal.Gen Cert.SwigluRefIdeal.Read
open Idealize.ShloMosaic Idealize.ShloMosaic.TcCoe Idealize.SL.Sem Idealize.ShloMosaic.StableHlo Idealize.ShloMosaic.ValueIdx

/-- The result. -/
def act (x : (Mat 2048 5632).Idx → EReal) : (Mat 2048 2816).Idx → EReal := fun y =>
  entry x (y 0).val (y 1).val * Ideal.logistic (entry x (y 0).val (y 1).val) * entry x (y 0).val (2816 + (y 1).val)

section Kernel

variable (m : (ℓ : Loc nD τ sig) → Buf (Elt Ideal) ℓ) (c : Dev nD)

/-- The argument. -/
abbrev inp : (Mat 2048 5632).Idx → EReal := m ((c : Thread nD τ).loc main_arg0)

theorem at0 : ∀ t : Fin grid0.N, win0_0.index t 0 = t.val ∧ win0_0.index t 1 = 0 := by decide +kernel
theorem at1 : ∀ t : Fin grid0.N, win0_1.index t 0 = t.val ∧ win0_1.index t 1 = 0 := by decide +kernel

theorem blk (t : Fin cfg0.N) (y : S512x5632.Idx) :
    ((iblk m c 0 t : Vec Ideal S512x5632 .f32) y : EReal) = entry (inp m c) (512 * t.val + (y 0).val) (y 1).val := by
  unfold iblk
  rw [View.read_apply]
  refine (congrFun (V_main_arg0 m c) _).trans (eq_entry (inp m c) _ ?_ ?_)
  · show win0_0.index t 0 * 512 + 1 * (y 0).val = _
    rw [(at0 t).1]; omega
  · show win0_0.index t 1 * 5632 + 1 * (y 1).val = _
    rw [(at0 t).2]; omega

theorem arr : (dats m 0 c).arrAt 1 cfg0.N = act (inp m c) := by
  refine (dats m 0 c).arrAt_eq_of_covers 1 (act (inp m c)) (by decide +kernel) fun t _ y => ?_
  refine (cast_eq _ _).trans ((congrFun (after0_1 m c t) _).trans ?_)
  unfold out0_1
  rw [View.canon_unit_zero (S := S512x2816) zero2]
  generalize hz : (cfg0.win 1).xinj (cfg0.grid.coords t) y = z
  have h0 : (z 0).val = (y 0).val := by rw [← hz]
  have h1 : (z 1).val = (y 1).val := by rw [← hz]
  have g : (View.ld (iblk m c 0 t : Vec Ideal S512x5632 .f32) r0_0 z : EReal) = entry (inp m c) (512 * t.val + (y 0).val) (y 1).val := by
    refine (blk m c t _).trans (congrArg₂ (entry (inp m c)) ?_ ?_)
    · show 512 * t.val + (0 + 1 * (z 0).val) = _
      omega
    · show 0 + 1 * (z 1).val = _
      omega
  have u : (View.ld (iblk m c 0 t : Vec Ideal S512x5632 .f32) r0_1 z : EReal)
      = entry (inp m c) (512 * t.val + (y 0).val) (2816 + (y 1).val) := by
    refine (blk m c t _).trans (congrArg₂ (entry (inp m c)) ?_ ?_)
    · show 512 * t.val + (0 + 1 * (z 0).val) = _
      omega
    · show 2816 + 1 * (z 1).val = _
      omega
  refine (congrArg₂ (fun a b : EReal => a * (Ideal.ofBits .f32 0x3F000000#32 * Ideal.tanh (Ideal.ofBits .f32 0x3F000000#32 * a)
    + Ideal.ofBits .f32 0x3F000000#32) * b) g u).trans ?_
  show entry (inp m c) _ _ * _ * _ = _
  rw [sig_kernel]
  exact congrArg₂ (fun a b : ℕ => entry (inp m c) a b * Ideal.logistic (entry (inp m c) a b) * entry (inp m c) a (2816 + b))
    (at_block (at1 t).1).symm (at_whole (at1 t).2).symm

end Kernel

theorem ref (x : (Mat 2048 5632).Idx → EReal) : (val_main_v4 (F := Ideal) x : (Mat 2048 2816).Idx → EReal) = act x := by
  funext y
  have g : (val_main_v0 (F := Ideal) x y : EReal) = entry x (y 0).val (y 1).val :=
    (val_main_v0_apply (F := Ideal) x y).trans (eq_entry x _ rfl rfl)
  have u : (val_main_v2 (F := Ideal) x y : EReal) = entry x (y 0).val (2816 + (y 1).val) :=
    (val_main_v2_apply (F := Ideal) x y).trans (eq_entry x _ rfl rfl)
  have s : (val_main_call0_v5 (F := Ideal) x y : EReal) = Ideal.logistic (entry x (y 0).val (y 1).val) := by
    rw [val_main_call0_v5_apply, val_main_call0_v4_apply,
      val_main_call0_v3_apply, val_main_call0_v2_apply,
      val_main_call0_v1_apply, val_main_call0_v0_apply, g]
    exact sig_host _
  exact congrArg₂ (fun a b : EReal => a * b) (congrArg₂ (fun a b : EReal => a * b) g s) u

/-! ### The claims -/

theorem frame_p : Cert.quiescent_Swiglu := fun m ρ _ => Cert.Swiglu.Gen.frame m ρ
theorem frame_pi : Cert.quiescent_SwigluIdeal := fun m ρ _ => Cert.SwigluIdeal.Gen.frame m ρ
theorem frame_ri : Cert.quiescent_SwigluRefIdeal := fun m ρ _ =>
  (θ_run Cert.SwigluRefIdeal.defs _ _).mono (fun r h => ⟨fun c => (h c).2, sem_eq_zero_of_no_sems (by decide) r.2⟩)
    (Cert.SwigluRefIdeal.Value.run (F := Ideal) m ρ)

theorem preserves : Cert.preserves_Swiglu_SwigluIdeal := trivial

/-- The kernel's array is the reference's. -/
theorem algebraic : Cert.algebraic_SwigluIdeal_SwigluRefIdeal := by
  intro m ρ m' ρ' _ hagree
  refine ⟨fun c => act (inp m c), ?_, ?_⟩
  · exact (θ_run defs _ _).mono (fun r h c => ⟨(h c).1.trans (arr m c), (h c).2⟩) (Cert.SwigluIdeal.Value.run_blocks (F := Ideal) m ρ)
  · refine (θ_run Cert.SwigluRefIdeal.defs _ _).mono (fun r h c => ⟨(h c).1.trans ?_, (h c).2⟩) (Cert.SwigluRefIdeal.Value.run (F := Ideal) m' ρ')
    exact (val_main_v4_eq _).trans ((ref _).trans (congrArg act (hagree c)))

end Cert.Proof.Swiglu

end
-- ==== Proof.SwigluB.lean ====
/-
  The gradient of the gated product `gate * logistic gate * up` in the two halves of each row, side by side, rounded to bf16.
  The kernel has the gate's half in one product, the reference as the sum of two, and the two are the same for finite numbers.
-/
module

public import proofs.«01_k».proof.Defs
public import proofs.«01_k».proof.Proof.Contract
public import proofs.«01_k».proof.Proof.Pointwise
public import proofs.«01_k».proof.Proof.Gen.SwigluB.Frame
public import proofs.«01_k».proof.Proof.Gen.SwigluBIdeal.Value
public import proofs.«01_k».proof.Proof.Gen.SwigluBRefIdeal.Run
public import proofs.«01_k».proof.Proof.Gen.SwigluBRefIdeal.Read
public import Idealize.ShloMosaic.Lib.StableHlo.RunRead
public import Idealize.ShloMosaic.Lib.Pipeline.ValueKit.Geometry
public import Idealize.ShloMosaic.Lib.KernelVsHost

@[expose] public section

set_option maxRecDepth 16384

noncomputable section

namespace Cert.Proof.SwigluB

open Cert.SwigluBIdeal Cert.SwigluBIdeal.Gen Cert.SwigluBRefIdeal.Read
open Idealize.ShloMosaic Idealize.ShloMosaic.TcCoe Idealize.SL.Sem Idealize.ShloMosaic.StableHlo Idealize.ShloMosaic.ValueIdx

/-- The gradient in a gate `g`, for `u` beside it and a cotangent `d`, in one product. -/
def low (g u d : EReal) : EReal := d * u * Ideal.logistic g * (1 + g * (1 - Ideal.logistic g))

/-- An entry of the result. -/
def at2 (x : (Mat 2048 5632).Idx → EReal) (d : (Mat 2048 2816).Idx → EReal) (i j : ℕ) : EReal :=
  if j < 2816 then low (entry x i j) (entry x i (2816 + j)) (entry d i j)
  else entry d i (j - 2816) * entry x i (j - 2816) * Ideal.logistic (entry x i (j - 2816))

/-- The result. -/
def grad (x : (Mat 2048 5632).Idx → EReal) (d : (Mat 2048 2816).Idx → EReal) : (Mat 2048 5632).Idx → EReal :=
  fun y => at2 x d (y 0).val (y 1).val

theorem low_eq (g u d : ℝ) :
    low g u d = (d * u : EReal) * Ideal.logistic (g : EReal) + g * (d * u : EReal) * (Ideal.logistic (g : EReal) * (1 - Ideal.logistic (g : EReal))) := by
  unfold low
  rw [Ideal.logistic_coe]
  generalize (1 + Real.exp (-g))⁻¹ = s
  norm_cast
  ring

section Kernel

variable (m : (ℓ : Loc nD τ sig) → Buf (Elt Ideal) ℓ) (c : Dev nD)

/-- The gates and what is beside them. -/
abbrev inx : (Mat 2048 5632).Idx → EReal := m ((c : Thread nD τ).loc main_arg0)
/-- The cotangent. -/
abbrev ind : (Mat 2048 2816).Idx → EReal := m ((c : Thread nD τ).loc main_arg1)

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel

theorem blk0 (t : Fin cfg0.N) (y : S256x5632.Idx) :
    ((iblk m c 0 t : Vec Ideal S256x5632 .f32) y : EReal) = entry (inx m c) (256 * t.val + (y 0).val) (y 1).val := by
  unfold iblk
  rw [View.read_apply]
  exact (congrFun (V_main_arg0 m c) _).trans (eq_entry (inx m c) _ (at_block (idx0 t).1) (at_whole (idx0 t).2))

theorem blk1 (t : Fin cfg0.N) (y : S256x2816.Idx) :
    ((iblk m c 1 t : Vec Ideal S256x2816 .f32) y : EReal) = entry (ind m c) (256 * t.val + (y 0).val) (y 1).val := by
  unfold iblk
  rw [View.read_apply]
  exact (congrFun (V_main_arg1 m c) _).trans (eq_entry (ind m c) _ (at_block (idx1 t).1) (at_whole (idx1 t).2))

/-- The three loads of a point, at an entry. -/
theorem gate (t : Fin cfg0.N) (z : S256x2816.Idx) :
    (View.ld (iblk m c 0 t : Vec Ideal S256x5632 .f32) r0_0 z : EReal) = entry (inx m c) (256 * t.val + (z 0).val) (z 1).val := by
  refine (blk0 m c t _).trans (congrArg₂ (entry (inx m c)) ?_ ?_)
  · show 256 * t.val + (0 + 1 * (z 0).val) = _
    omega
  · show 0 + 1 * (z 1).val = _
    omega
theorem up (t : Fin cfg0.N) (z : S256x2816.Idx) :
    (View.ld (iblk m c 0 t : Vec Ideal S256x5632 .f32) r0_2 z : EReal) = entry (inx m c) (256 * t.val + (z 0).val) (2816 + (z 1).val) := by
  refine (blk0 m c t _).trans (congrArg₂ (entry (inx m c)) ?_ ?_)
  · show 256 * t.val + (0 + 1 * (z 0).val) = _
    omega
  · show 2816 + 1 * (z 1).val = _
    omega
theorem cot (t : Fin cfg0.N) (z : S256x2816.Idx) :
    (View.ld (iblk m c 1 t : Vec Ideal S256x2816 .f32) r0_1 z : EReal) = entry (ind m c) (256 * t.val + (z 0).val) (z 1).val := by
  refine (blk1 m c t _).trans (congrArg₂ (entry (ind m c)) ?_ ?_)
  · show 256 * t.val + (0 + 1 * (z 0).val) = _
    omega
  · show 0 + 1 * (z 1).val = _
    omega

theorem pay2 (g d u : Vec Ideal S256x2816 .f32) (z : S256x2816.Idx) : (k0_pay2 g d u z : EReal) = low (g z) (u z) (d z) := by
  show (d z : EReal) * u z * (Ideal.ofBits .f32 0x3F000000#32 * Ideal.tanh (Ideal.ofBits .f32 0x3F000000#32 * g z) + Ideal.ofBits .f32 0x3F000000#32)
    * (Ideal.ofBits .f32 0x3F800000#32 + g z * (Ideal.ofBits .f32 0x3F800000#32
      - (Ideal.ofBits .f32 0x3F000000#32 * Ideal.tanh (Ideal.ofBits .f32 0x3F000000#32 * g z) + Ideal.ofBits .f32 0x3F000000#32))) = _
  rw [sig_kernel, one_word, EReal.coe_one]; rfl

theorem pay3 (g d : Vec Ideal S256x2816 .f32) (z : S256x2816.Idx) : (k0_pay3 g d z : EReal) = (d z : EReal) * g z * Ideal.logistic (g z) :=
  congrArg ((d z : EReal) * g z * ·) (sig_kernel (g z))

/-- What a point leaves. -/
theorem left (t : Fin cfg0.N) (z : S256x5632.Idx) :
    (out0_2 (iblk m c 0 t : Vec Ideal S256x5632 .f32) (iblk m c 1 t) z : EReal) = at2 (inx m c) (ind m c) (256 * t.val + (z 0).val) (z 1).val := by
  unfold out0_2
  refine View.canon_apply_of_pieces (Val := Elt Ideal) (S := S256x5632) (e := .bf16)
    (fun z => at2 (inx m c) (ind m c) (256 * t.val + (z 0).val) (z 1).val) _ (fun p hp x => ?_) z (cover0_2 _ _ z)
  rcases List.mem_cons.mp hp with rfl | hp
  · have x1 : (x 1).val < 2816 := (x 1).isLt
    show (k0_pay3 (View.ld (iblk m c 0 t : Vec Ideal S256x5632 .f32) r0_0) (View.ld (iblk m c 1 t : Vec Ideal S256x2816 .f32) r0_1) x : EReal)
      = at2 (inx m c) (ind m c) (256 * t.val + (0 + 1 * (x 0).val)) (2816 + 1 * (x 1).val)
    rw [pay3, gate, cot]
    unfold at2
    rw [if_neg (by omega), show 2816 + 1 * (x 1).val - 2816 = (x 1).val by omega, show 0 + 1 * (x 0).val = (x 0).val by omega]
  · rcases List.mem_singleton.mp hp with rfl
    have x1 : (x 1).val < 2816 := (x 1).isLt
    show (k0_pay2 (View.ld (iblk m c 0 t : Vec Ideal S256x5632 .f32) r0_0) (View.ld (iblk m c 1 t : Vec Ideal S256x2816 .f32) r0_1)
        (View.ld (iblk m c 0 t : Vec Ideal S256x5632 .f32) r0_2) x : EReal)
      = at2 (inx m c) (ind m c) (256 * t.val + (0 + 1 * (x 0).val)) (0 + 1 * (x 1).val)
    rw [pay2, gate, cot, up]
    unfold at2
    rw [if_pos (by omega), show 0 + 1 * (x 1).val = (x 1).val by omega, show 0 + 1 * (x 0).val = (x 0).val by omega]

theorem arr : (dats m 0 c).arrAt 2 cfg0.N = grad (inx m c) (ind m c) := by
  refine (dats m 0 c).arrAt_eq_of_covers 2 (grad (inx m c) (ind m c)) (by decide +kernel) fun t _ y => ?_
  refine (cast_eq _ _).trans ((congrFun (after0_2 m c t) _).trans ((left m c t _).trans ?_))
  exact congrArg₂ (at2 (inx m c) (ind m c)) (at_block (idx2 t).1).symm (at_whole (idx2 t).2).symm

end Kernel

section Reference

variable (x : (Mat 2048 5632).Idx → EReal) (d : (Mat 2048 2816).Idx → EReal)

theorem ref_gate (k : (Mat 2048 2816).Idx) : (val_main_v0 (F := Ideal) x k : EReal) = entry x (k 0).val (k 1).val :=
  (val_main_v0_apply (F := Ideal) x k).trans (eq_entry x _ rfl rfl)
theorem ref_up (k : (Mat 2048 2816).Idx) : (val_main_v2 (F := Ideal) x k : EReal) = entry x (k 0).val (2816 + (k 1).val) :=
  (val_main_v2_apply (F := Ideal) x k).trans (eq_entry x _ rfl rfl)
theorem ref_sig (k : (Mat 2048 2816).Idx) :
    (val_main_v1_2 (F := Ideal) x k : EReal) = Ideal.logistic (entry x (k 0).val (k 1).val) := by
  rw [val_main_v1_2_apply, val_main_call0_v4_apply,
    val_main_call0_v3_apply, val_main_call0_v2_apply,
    val_main_call0_v1_apply, val_main_call0_v0_apply, ref_gate]
  exact sig_host _

/-- The gate's gradient, as two products. -/
theorem ref_low (k : (Mat 2048 2816).Idx) : (val_main_v7 (F := Ideal) x d k : EReal)
    = (entry d (k 0).val (k 1).val * entry x (k 0).val (2816 + (k 1).val)) * Ideal.logistic (entry x (k 0).val (k 1).val)
      + entry x (k 0).val (k 1).val * (entry d (k 0).val (k 1).val * entry x (k 0).val (2816 + (k 1).val))
        * (Ideal.logistic (entry x (k 0).val (k 1).val) * (1 - Ideal.logistic (entry x (k 0).val (k 1).val))) := by
  rw [val_main_v7_apply, val_main_call1_v1_apply,
    val_main_call1_v2_apply, val_main_call1_v0_apply,
    val_main_v5_apply, val_main_v1_1_apply,
    val_main_call0_v7_apply, ref_gate, ref_up, ref_sig, ← entry_idx d k]
  show _ * Ideal.logistic _ + _ * (Ideal.logistic _ * (Ideal.ofBits .f32 0x3F800000#32 - _)) = _
  rw [one_word, EReal.coe_one]; rfl

theorem ref_high (k : (Mat 2048 2816).Idx) : (val_main_v4 (F := Ideal) x d k : EReal)
    = entry d (k 0).val (k 1).val * entry x (k 0).val (k 1).val * Ideal.logistic (entry x (k 0).val (k 1).val) := by
  rw [val_main_v4_apply, val_main_v1_0_apply, ref_gate, ref_sig, ← entry_idx d k]
  exact (mul_comm _ _).trans (mul_assoc _ _ _).symm

theorem zero_word : Ideal.ofBits .f32 0x00000000#32 = 0 := by simp [Ideal.ofBits, Ideal.ieee]

theorem ref (hx : ∀ y, ∃ r : ℝ, x y = r) (hd : ∀ y, ∃ r : ℝ, d y = r) :
    (val_main_v10 (F := Ideal) x d : (Mat 2048 5632).Idx → EReal) = grad x d := by
  funext y
  have y0 : (y 0).val < 2048 := (y 0).isLt
  have y1 : (y 1).val < 5632 := (y 1).isLt
  show (val_main_v6 (F := Ideal) x d y : EReal) + val_main_v8 (F := Ideal) x d y = _
  unfold val_main_v6 val_main_v8 grad at2
  by_cases h : (y 1).val < 2816
  · rw [if_pos h]
    refine (congrArg₂ (fun a b : EReal => a + b)
      (pad_apply_of_not_inside _ _ _ _ _ _ _ y (1 : Fin 2) (by
        rintro ⟨h', -⟩
        have : 2816 ≤ (y 1).val := h'
        omega))
      (pad_apply_of_inside _ _ _ _ _ _ _ y (ix2 (n0 := 2048) (n1 := 2816) (y 0) ⟨(y 1).val, h⟩) (fun a => by
        match a with
        | ⟨0, _⟩ => show (y 0).val = 0 + (y 0).val * (0 + 1); omega
        | ⟨1, _⟩ => show (y 1).val = 0 + (y 1).val * (0 + 1); omega))).trans ?_
    show Ideal.ofBits .f32 0x00000000#32 + _ = _
    rw [zero_word, zero_add, ref_low]
    obtain ⟨g, hg⟩ := hx y
    obtain ⟨u, hu⟩ := hx (ix2 (n0 := 2048) (n1 := 5632) (y 0) ⟨2816 + (y 1).val, by omega⟩)
    obtain ⟨e, he⟩ := hd (ix2 (n0 := 2048) (n1 := 2816) (y 0) ⟨(y 1).val, h⟩)
    have eg : entry x (y 0).val (y 1).val = g := (eq_entry x _ rfl rfl).symm.trans hg
    have eu : entry x (y 0).val (2816 + (y 1).val) = u := (eq_entry x _ rfl rfl).symm.trans hu
    have ee : entry d (y 0).val (y 1).val = e := (eq_entry d _ rfl rfl).symm.trans he
    show entry d (y 0).val (y 1).val * entry x (y 0).val (2816 + (y 1).val) * Ideal.logistic (entry x (y 0).val (y 1).val)
      + entry x (y 0).val (y 1).val * (entry d (y 0).val (y 1).val * entry x (y 0).val (2816 + (y 1).val))
        * (Ideal.logistic (entry x (y 0).val (y 1).val) * (1 - Ideal.logistic (entry x (y 0).val (y 1).val))) = _
    rw [eg, eu, ee]
    exact (low_eq g u e).symm
  · rw [if_neg h]
    refine (congrArg₂ (fun a b : EReal => a + b)
      (pad_apply_of_inside _ _ _ _ _ _ _ y (ix2 (n0 := 2048) (n1 := 2816) (y 0) ⟨(y 1).val - 2816, by omega⟩) (fun a => by
        match a with
        | ⟨0, _⟩ => show (y 0).val = 0 + (y 0).val * (0 + 1); omega
        | ⟨1, _⟩ => show (y 1).val = 2816 + ((y 1).val - 2816) * (0 + 1); omega))
      (pad_apply_of_not_inside _ _ _ _ _ _ _ y (1 : Fin 2) (by
        rintro ⟨-, -, h'⟩
        have : ((y 1).val - 0) / (0 + 1) < 2816 := h'
        simp at this
        omega))).trans ?_
    show _ + Ideal.ofBits .f32 0x00000000#32 = _
    rw [zero_word, add_zero, ref_high]

end Reference

/-! ### The claims -/

instance preFacts : Cert.Pre_finite_gated.Facts where
  bcast_S_S2048x5632 := by decide
  bcast_S_S2048x2816 := by decide

theorem frame_p : Cert.quiescent_SwigluB := fun m ρ _ => Cert.SwigluB.Gen.frame m ρ
theorem frame_pi : Cert.quiescent_SwigluBIdeal := fun m ρ _ => Cert.SwigluBIdeal.Gen.frame m ρ
theorem frame_pi_pre : Cert.quiescent_SwigluBIdeal_pre_finite_gated := fun m ρ _ => Cert.SwigluBIdeal.Gen.frame m ρ
theorem frame_ri : Cert.quiescent_SwigluBRefIdeal := fun m ρ _ =>
  (θ_run Cert.SwigluBRefIdeal.defs _ _).mono (fun r h => ⟨fun c => (h c).2, sem_eq_zero_of_no_sems (by decide) r.2⟩)
    (Cert.SwigluBRefIdeal.Value.run (F := Ideal) m ρ)
theorem frame_ri_pre : Cert.quiescent_SwigluBRefIdeal_pre_finite_gated := fun m ρ _ => frame_ri m ρ trivial

theorem preserves : Cert.preserves_SwigluB_SwigluBIdeal := trivial

/-- The kernel's array is the reference's, for finite arguments. -/
theorem algebraic : Cert.algebraic_SwigluBIdeal_SwigluBRefIdeal_pre_finite_gated := by
  intro m ρ m' ρ' hfin hagree
  refine ⟨fun c => grad (inx m c) (ind m c), ?_, ?_⟩
  · exact (θ_run defs _ _).mono (fun r h c => ⟨(h c).1.trans (arr m c), (h c).2⟩) (Cert.SwigluBIdeal.Value.run_blocks (F := Ideal) m ρ)
  · refine (θ_run Cert.SwigluBRefIdeal.defs _ _).mono (fun r h c => ⟨(h c).1.trans ?_, (h c).2⟩) (Cert.SwigluBRefIdeal.Value.run (F := Ideal) m' ρ')
    refine (val_main_v10_eq _ _).trans ?_
    obtain ⟨e0, e1⟩ := hagree c
    rw [e0, e1]
    exact ref _ _ (fun y => number _ (congrFun (hfin c).1 y)) (fun y => number _ (congrFun (hfin c).2 y))

end Cert.Proof.SwigluB

end
-- ==== Proof.Norm.lean ====
/-
  RMS norm of a row: the row over the root of its mean square, times a gain.
-/
module

public import proofs.«01_k».proof.Proof.Contract
public import proofs.«01_k».proof.Proof.Pointwise

@[expose] public section

noncomputable section

namespace Cert.Proof

open Idealize.ShloMosaic Idealize.ShloMosaic.ValueIdx

/-- One over the root of the mean square of `n` entries; `w` is the word of `n`. -/
def scale (n : ℕ) (w : BitVec 32) (x : ℕ → EReal) : EReal :=
  Ideal.rsqrt (Ideal.div (∑ k : Fin n, x k.val * x k.val) (Ideal.ofBits .f32 w) + Ideal.ofBits .f32 0x358637BD#32)

/-- An entry of the norm. -/
def normed {a n : ℕ} (w : BitVec 32) (x : (Mat a n).Idx → EReal) (g : (Mat 1 n).Idx → EReal) (i j : ℕ) : EReal :=
  entry x i j * scale n w (entry x i) * entry g 0 j

end Cert.Proof

end
-- ==== Proof.NormIn.lean ====
/-
  RMS norm before a sublayer, rounded to bf16.
-/
module

public import proofs.«01_k».proof.Defs
public import proofs.«01_k».proof.Proof.Norm
public import proofs.«01_k».proof.Proof.Gen.NormIn.Frame
public import proofs.«01_k».proof.Proof.Gen.NormInIdeal.Value
public import proofs.«01_k».proof.Proof.Gen.NormInRefIdeal.Run
public import proofs.«01_k».proof.Proof.Gen.NormInRefIdeal.Read
public import Idealize.ShloMosaic.Lib.StableHlo.RunRead
public import Idealize.ShloMosaic.Lib.Pipeline.ValueKit.Geometry

@[expose] public section

set_option maxRecDepth 16384

noncomputable section

namespace Cert.Proof.NormIn

open Cert.NormInIdeal Cert.NormInIdeal.Gen Cert.NormInRefIdeal.Read
open Idealize.ShloMosaic Idealize.ShloMosaic.TcCoe Idealize.SL.Sem Idealize.ShloMosaic.StableHlo Idealize.ShloMosaic.ValueIdx

/-- The result. -/
def out (x : (Mat 2048 1024).Idx → EReal) (g : (Mat 1 1024).Idx → EReal) : (Mat 2048 1024).Idx → EReal :=
  fun y => normed 0x44800000#32 x g (y 0).val (y 1).val

section Kernel

variable (m : (ℓ : Loc nD τ sig) → Buf (Elt Ideal) ℓ) (c : Dev nD)

/-- The rows. -/
abbrev inx : (Mat 2048 1024).Idx → EReal := m ((c : Thread nD τ).loc main_arg0)
/-- The gain. -/
abbrev ing : (Mat 1 1024).Idx → EReal := m ((c : Thread nD τ).loc main_arg1)

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel

theorem blk0 (t : Fin cfg0.N) (y : S1024x1024.Idx) :
    ((iblk m c 0 t : Vec Ideal S1024x1024 .f32) y : EReal) = entry (inx m c) (1024 * t.val + (y 0).val) (y 1).val := by
  unfold iblk
  rw [View.read_apply]
  exact (congrFun (V_main_arg0 m c) _).trans (eq_entry (inx m c) _ (at_block (idx0 t).1) (at_whole (idx0 t).2))

theorem blk1 (t : Fin cfg0.N) (y : S1x1024.Idx) : ((iblk m c 1 t : Vec Ideal S1x1024 .f32) y : EReal) = entry (ing m c) (y 0).val (y 1).val := by
  unfold iblk
  rw [View.read_apply]
  exact (congrFun (V_main_arg1 m c) _).trans (eq_entry (ing m c) _ (at_whole (idx1 t).1) (at_whole (idx1 t).2))

/-- A row's sum of squares. -/
theorem squares (P : Vec Ideal S1024x1024 .f32) (j : S1024.Idx) :
    (multiReduction (F := Ideal) .add [1] S1024 (mulf P P) 0x00000000#32 reduces_S1024x1024_S1024 (.inl rfl) rfl j : EReal)
      = ∑ k : Fin 1024, (P (ix2 (j 0) k) : EReal) * P (ix2 (j 0) k) := by
  refine (Ideal.multiReduction_add_single _ _ _ _ _ j).trans (Finset.sum_congr rfl fun k _ => ?_)
  refine congrArg (fun z => (P z : EReal) * P z) (funext fun a => Fin.ext ?_)
  match a with
  | ⟨0, _⟩ => rfl
  | ⟨1, _⟩ => rfl

/-- What a point leaves. -/
theorem left (t : Fin cfg0.N) (z : S1024x1024.Idx) :
    (out0_2 (iblk m c 0 t : Vec Ideal S1024x1024 .f32) (iblk m c 1 t) z : EReal)
      = normed 0x44800000#32 (inx m c) (ing m c) (1024 * t.val + (z 0).val) (z 1).val := by
  unfold out0_2
  rw [View.ld_unit_zero (S := S1024x1024) zero2, View.ld_unit_zero (S := S1x1024) zero2, Cert.NormInIdeal.Value.canon2_eq]
  refine congrArg₂ (fun a b : EReal => a * b) (congrArg₂ (fun a b : EReal => a * b) (blk0 m c t _) ?_) (blk1 m c t _)
  refine congrArg (fun s : EReal => Ideal.rsqrt (Ideal.div s (Ideal.ofBits .f32 0x44800000#32) + Ideal.ofBits .f32 0x358637BD#32)) ?_
  exact (squares _ _).trans (Finset.sum_congr rfl fun k _ => congrArg₂ (fun a b : EReal => a * b) (blk0 m c t _) (blk0 m c t _))

theorem arr : (dats m 0 c).arrAt 2 cfg0.N = out (inx m c) (ing m c) := by
  refine (dats m 0 c).arrAt_eq_of_covers 2 (out (inx m c) (ing m c)) (by decide +kernel) fun t _ y => ?_
  refine (cast_eq _ _).trans ((congrFun (after0_2 m c t) _).trans ((left m c t _).trans ?_))
  exact congrArg₂ (fun a b => normed 0x44800000#32 (inx m c) (ing m c) a b)
    (at_block (idx2 t).1).symm (at_whole (idx2 t).2).symm

end Kernel

theorem zero_word : Ideal.ofBits .f32 0x00000000#32 = 0 := by simp [Ideal.ofBits, Ideal.ieee]

theorem ref (x : (Mat 2048 1024).Idx → EReal) (g : (Mat 1 1024).Idx → EReal) :
    (val_main_v12 (F := Ideal) x g : (Mat 2048 1024).Idx → EReal) = out x g := by
  funext y
  have s : (val_main_v8 (F := Ideal) x y : EReal) = scale 1024 0x44800000#32 (entry x (y 0).val) := by
    rw [val_main_v8_apply, val_main_v7_apply, val_main_v6_apply,
      val_main_v5_apply, val_main_v4_apply, val_main_v3_apply,
      val_main_v2_apply, val_main_v1_apply]
    refine congrArg (fun s : EReal => Ideal.rsqrt (Ideal.div s (Ideal.ofBits .f32 0x44800000#32) + Ideal.ofBits .f32 0x358637BD#32)) ?_
    show Ideal.ofBits .f32 0x00000000#32 + _ = _
    rw [zero_word, zero_add]
    exact Finset.sum_congr rfl fun k _ => congrArg₂ (fun a b : EReal => a * b) (eq_entry x _ rfl rfl) (eq_entry x _ rfl rfl)
  exact congrArg₂ (fun a b : EReal => a * b) (congrArg₂ (fun a b : EReal => a * b) (entry_idx x y).symm s)
    ((val_main_v10_apply (F := Ideal) g y).trans (eq_entry g _ rfl rfl))

/-! ### The claims -/

theorem frame_p : Cert.quiescent_NormIn := fun m ρ _ => Cert.NormIn.Gen.frame m ρ
theorem frame_pi : Cert.quiescent_NormInIdeal := fun m ρ _ => Cert.NormInIdeal.Gen.frame m ρ
theorem frame_ri : Cert.quiescent_NormInRefIdeal := fun m ρ _ =>
  (θ_run Cert.NormInRefIdeal.defs _ _).mono (fun r h => ⟨fun c => (h c).2, sem_eq_zero_of_no_sems (by decide) r.2⟩)
    (Cert.NormInRefIdeal.Value.run (F := Ideal) m ρ)

theorem preserves : Cert.preserves_NormIn_NormInIdeal := trivial

/-- The kernel's array is the reference's. -/
theorem algebraic : Cert.algebraic_NormInIdeal_NormInRefIdeal := by
  intro m ρ m' ρ' _ hagree
  refine ⟨fun c => out (inx m c) (ing m c), ?_, ?_⟩
  · exact (θ_run defs _ _).mono (fun r h c => ⟨(h c).1.trans (arr m c), (h c).2⟩) (Cert.NormInIdeal.Value.run_blocks (F := Ideal) m ρ)
  · refine (θ_run Cert.NormInRefIdeal.defs _ _).mono (fun r h c => ⟨(h c).1.trans ?_, (h c).2⟩) (Cert.NormInRefIdeal.Value.run (F := Ideal) m' ρ')
    refine (val_main_v12_eq _ _).trans ((ref _ _).trans ?_)
    obtain ⟨e0, e1⟩ := hagree c
    exact congrArg₂ out e0 e1

end Cert.Proof.NormIn

end
-- ==== Proof.NormOut.lean ====
/-
  RMS norm after a sublayer, added to what went into it.
-/
module

public import proofs.«01_k».proof.Defs
public import proofs.«01_k».proof.Proof.Norm
public import proofs.«01_k».proof.Proof.Gen.NormOut.Frame
public import proofs.«01_k».proof.Proof.Gen.NormOutIdeal.Value
public import proofs.«01_k».proof.Proof.Gen.NormOutRefIdeal.Run
public import proofs.«01_k».proof.Proof.Gen.NormOutRefIdeal.Read
public import Idealize.ShloMosaic.Lib.StableHlo.RunRead
public import Idealize.ShloMosaic.Lib.Pipeline.ValueKit.Geometry

@[expose] public section

set_option maxRecDepth 16384

noncomputable section

namespace Cert.Proof.NormOut

open Cert.NormOutIdeal Cert.NormOutIdeal.Gen Cert.NormOutRefIdeal.Read
open Idealize.ShloMosaic Idealize.ShloMosaic.TcCoe Idealize.SL.Sem Idealize.ShloMosaic.StableHlo Idealize.ShloMosaic.ValueIdx

/-- The result. -/
def out (x : (Mat 2048 1024).Idx → EReal) (g : (Mat 1 1024).Idx → EReal) (h : (Mat 2048 1024).Idx → EReal) : (Mat 2048 1024).Idx → EReal :=
  fun y => normed 0x44800000#32 x g (y 0).val (y 1).val + entry h (y 0).val (y 1).val

section Kernel

variable (m : (ℓ : Loc nD τ sig) → Buf (Elt Ideal) ℓ) (c : Dev nD)

/-- The rows. -/
abbrev inx : (Mat 2048 1024).Idx → EReal := m ((c : Thread nD τ).loc main_arg0)
/-- The gain. -/
abbrev ing : (Mat 1 1024).Idx → EReal := m ((c : Thread nD τ).loc main_arg1)
/-- What the norm is added to. -/
abbrev inh : (Mat 2048 1024).Idx → EReal := m ((c : Thread nD τ).loc main_arg2)

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel

theorem blk0 (t : Fin cfg0.N) (y : S1024x1024.Idx) :
    ((iblk m c 0 t : Vec Ideal S1024x1024 .f32) y : EReal) = entry (inx m c) (1024 * t.val + (y 0).val) (y 1).val := by
  unfold iblk
  rw [View.read_apply]
  exact (congrFun (V_main_arg0 m c) _).trans (eq_entry (inx m c) _ (at_block (idx0 t).1) (at_whole (idx0 t).2))

theorem blk1 (t : Fin cfg0.N) (y : S1x1024.Idx) : ((iblk m c 1 t : Vec Ideal S1x1024 .f32) y : EReal) = entry (ing m c) (y 0).val (y 1).val := by
  unfold iblk
  rw [View.read_apply]
  exact (congrFun (V_main_arg1 m c) _).trans (eq_entry (ing m c) _ (at_whole (idx1 t).1) (at_whole (idx1 t).2))

theorem blk2 (t : Fin cfg0.N) (y : S1024x1024.Idx) :
    ((iblk m c 2 t : Vec Ideal S1024x1024 .f32) y : EReal) = entry (inh m c) (1024 * t.val + (y 0).val) (y 1).val := by
  unfold iblk
  rw [View.read_apply]
  exact (congrFun (V_main_arg2 m c) _).trans (eq_entry (inh m c) _ (at_block (idx2 t).1) (at_whole (idx2 t).2))

/-- A row's sum of squares. -/
theorem squares (P : Vec Ideal S1024x1024 .f32) (j : S1024.Idx) :
    (multiReduction (F := Ideal) .add [1] S1024 (mulf P P) 0x00000000#32 reduces_S1024x1024_S1024 (.inl rfl) rfl j : EReal)
      = ∑ k : Fin 1024, (P (ix2 (j 0) k) : EReal) * P (ix2 (j 0) k) := by
  refine (Ideal.multiReduction_add_single _ _ _ _ _ j).trans (Finset.sum_congr rfl fun k _ => ?_)
  refine congrArg (fun z => (P z : EReal) * P z) (funext fun a => Fin.ext ?_)
  match a with
  | ⟨0, _⟩ => rfl
  | ⟨1, _⟩ => rfl

/-- What a point leaves. -/
theorem left (t : Fin cfg0.N) (z : S1024x1024.Idx) :
    (out0_3 (iblk m c 0 t : Vec Ideal S1024x1024 .f32) (iblk m c 1 t) (iblk m c 2 t) z : EReal)
      = normed 0x44800000#32 (inx m c) (ing m c) (1024 * t.val + (z 0).val) (z 1).val + entry (inh m c) (1024 * t.val + (z 0).val) (z 1).val := by
  unfold out0_3
  rw [View.ld_unit_zero (S := S1024x1024) zero2, View.ld_unit_zero (S := S1x1024) zero2, View.ld_unit_zero (S := S1024x1024) zero2, Cert.NormOutIdeal.Value.canon3_eq]
  refine congrArg₂ (fun a b : EReal => a + b) (congrArg₂ (fun a b : EReal => a * b) (congrArg₂ (fun a b : EReal => a * b) (blk0 m c t _) ?_) (blk1 m c t _)) (blk2 m c t _)
  refine congrArg (fun s : EReal => Ideal.rsqrt (Ideal.div s (Ideal.ofBits .f32 0x44800000#32) + Ideal.ofBits .f32 0x358637BD#32)) ?_
  exact (squares _ _).trans (Finset.sum_congr rfl fun k _ => congrArg₂ (fun a b : EReal => a * b) (blk0 m c t _) (blk0 m c t _))

theorem arr : (dats m 0 c).arrAt 3 cfg0.N = out (inx m c) (ing m c) (inh m c) := by
  refine (dats m 0 c).arrAt_eq_of_covers 3 (out (inx m c) (ing m c) (inh m c)) (by decide +kernel) fun t _ y => ?_
  refine (cast_eq _ _).trans ((congrFun (after0_3 m c t) _).trans ((left m c t _).trans ?_))
  exact congrArg₂ (fun a b => normed 0x44800000#32 (inx m c) (ing m c) a b + entry (inh m c) a b)
    (at_block (idx3 t).1).symm (at_whole (idx3 t).2).symm

end Kernel

theorem zero_word : Ideal.ofBits .f32 0x00000000#32 = 0 := by simp [Ideal.ofBits, Ideal.ieee]

theorem ref (x : (Mat 2048 1024).Idx → EReal) (g : (Mat 1 1024).Idx → EReal) (h : (Mat 2048 1024).Idx → EReal) :
    (val_main_v12 (F := Ideal) x g h : (Mat 2048 1024).Idx → EReal) = out x g h := by
  funext y
  have s : (val_main_v8 (F := Ideal) x y : EReal) = scale 1024 0x44800000#32 (entry x (y 0).val) := by
    rw [val_main_v8_apply, val_main_v7_apply, val_main_v6_apply,
      val_main_v5_apply, val_main_v4_apply, val_main_v3_apply,
      val_main_v2_apply, val_main_v1_apply]
    refine congrArg (fun s : EReal => Ideal.rsqrt (Ideal.div s (Ideal.ofBits .f32 0x44800000#32) + Ideal.ofBits .f32 0x358637BD#32)) ?_
    show Ideal.ofBits .f32 0x00000000#32 + _ = _
    rw [zero_word, zero_add]
    exact Finset.sum_congr rfl fun k _ => congrArg₂ (fun a b : EReal => a * b) (eq_entry x _ rfl rfl) (eq_entry x _ rfl rfl)
  exact congrArg₂ (fun a b : EReal => a + b) (congrArg₂ (fun a b : EReal => a * b) (congrArg₂ (fun a b : EReal => a * b) (entry_idx x y).symm s)
    ((val_main_v10_apply (F := Ideal) g y).trans (eq_entry g _ rfl rfl))) (entry_idx h y).symm

/-! ### The claims -/

theorem frame_p : Cert.quiescent_NormOut := fun m ρ _ => Cert.NormOut.Gen.frame m ρ
theorem frame_pi : Cert.quiescent_NormOutIdeal := fun m ρ _ => Cert.NormOutIdeal.Gen.frame m ρ
theorem frame_ri : Cert.quiescent_NormOutRefIdeal := fun m ρ _ =>
  (θ_run Cert.NormOutRefIdeal.defs _ _).mono (fun r h => ⟨fun c => (h c).2, sem_eq_zero_of_no_sems (by decide) r.2⟩)
    (Cert.NormOutRefIdeal.Value.run (F := Ideal) m ρ)

theorem preserves : Cert.preserves_NormOut_NormOutIdeal := trivial

/-- The kernel's array is the reference's. -/
theorem algebraic : Cert.algebraic_NormOutIdeal_NormOutRefIdeal := by
  intro m ρ m' ρ' _ hagree
  refine ⟨fun c => out (inx m c) (ing m c) (inh m c), ?_, ?_⟩
  · exact (θ_run defs _ _).mono (fun r h c => ⟨(h c).1.trans (arr m c), (h c).2⟩) (Cert.NormOutIdeal.Value.run_blocks (F := Ideal) m ρ)
  · refine (θ_run Cert.NormOutRefIdeal.defs _ _).mono (fun r h c => ⟨(h c).1.trans ?_, (h c).2⟩) (Cert.NormOutRefIdeal.Value.run (F := Ideal) m' ρ')
    refine (val_main_v12_eq _ _ _).trans ((ref _ _ _).trans ?_)
    obtain ⟨e0, e1, e2⟩ := hagree c
    rw [e0, e1, e2]

end Cert.Proof.NormOut

end
-- ==== Proof.NormQ.lean ====
/-
  RMS norm of the queries' latents, rounded to bf16.
-/
module

public import proofs.«01_k».proof.Defs
public import proofs.«01_k».proof.Proof.Norm
public import proofs.«01_k».proof.Proof.Gen.NormQ.Frame
public import proofs.«01_k».proof.Proof.Gen.NormQIdeal.Value
public import proofs.«01_k».proof.Proof.Gen.NormQRefIdeal.Run
public import proofs.«01_k».proof.Proof.Gen.NormQRefIdeal.Read
public import Idealize.ShloMosaic.Lib.StableHlo.RunRead
public import Idealize.ShloMosaic.Lib.Pipeline.ValueKit.Geometry

@[expose] public section

set_option maxRecDepth 16384

noncomputable section

namespace Cert.Proof.NormQ

open Cert.NormQIdeal Cert.NormQIdeal.Gen Cert.NormQRefIdeal.Read
open Idealize.ShloMosaic Idealize.ShloMosaic.TcCoe Idealize.SL.Sem Idealize.ShloMosaic.StableHlo Idealize.ShloMosaic.ValueIdx

/-- The result. -/
def out (x : (Mat 2048 384).Idx → EReal) (g : (Mat 1 384).Idx → EReal) : (Mat 2048 384).Idx → EReal :=
  fun y => normed 0x43C00000#32 x g (y 0).val (y 1).val

section Kernel

variable (m : (ℓ : Loc nD τ sig) → Buf (Elt Ideal) ℓ) (c : Dev nD)

/-- The rows. -/
abbrev inx : (Mat 2048 384).Idx → EReal := m ((c : Thread nD τ).loc main_arg0)
/-- The gain. -/
abbrev ing : (Mat 1 384).Idx → EReal := m ((c : Thread nD τ).loc main_arg1)

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel

theorem blk0 (t : Fin cfg0.N) (y : S1024x384.Idx) :
    ((iblk m c 0 t : Vec Ideal S1024x384 .f32) y : EReal) = entry (inx m c) (1024 * t.val + (y 0).val) (y 1).val := by
  unfold iblk
  rw [View.read_apply]
  exact (congrFun (V_main_arg0 m c) _).trans (eq_entry (inx m c) _ (at_block (idx0 t).1) (at_whole (idx0 t).2))

theorem blk1 (t : Fin cfg0.N) (y : S1x384.Idx) : ((iblk m c 1 t : Vec Ideal S1x384 .f32) y : EReal) = entry (ing m c) (y 0).val (y 1).val := by
  unfold iblk
  rw [View.read_apply]
  exact (congrFun (V_main_arg1 m c) _).trans (eq_entry (ing m c) _ (at_whole (idx1 t).1) (at_whole (idx1 t).2))

/-- A row's sum of squares. -/
theorem squares (P : Vec Ideal S1024x384 .f32) (j : S1024.Idx) :
    (multiReduction (F := Ideal) .add [1] S1024 (mulf P P) 0x00000000#32 reduces_S1024x384_S1024 (.inl rfl) rfl j : EReal)
      = ∑ k : Fin 384, (P (ix2 (j 0) k) : EReal) * P (ix2 (j 0) k) := by
  refine (Ideal.multiReduction_add_single _ _ _ _ _ j).trans (Finset.sum_congr rfl fun k _ => ?_)
  refine congrArg (fun z => (P z : EReal) * P z) (funext fun a => Fin.ext ?_)
  match a with
  | ⟨0, _⟩ => rfl
  | ⟨1, _⟩ => rfl

/-- What a point leaves. -/
theorem left (t : Fin cfg0.N) (z : S1024x384.Idx) :
    (out0_2 (iblk m c 0 t : Vec Ideal S1024x384 .f32) (iblk m c 1 t) z : EReal)
      = normed 0x43C00000#32 (inx m c) (ing m c) (1024 * t.val + (z 0).val) (z 1).val := by
  unfold out0_2
  rw [View.ld_unit_zero (S := S1024x384) zero2, View.ld_unit_zero (S := S1x384) zero2, Cert.NormQIdeal.Value.canon2_eq]
  refine congrArg₂ (fun a b : EReal => a * b) (congrArg₂ (fun a b : EReal => a * b) (blk0 m c t _) ?_) (blk1 m c t _)
  refine congrArg (fun s : EReal => Ideal.rsqrt (Ideal.div s (Ideal.ofBits .f32 0x43C00000#32) + Ideal.ofBits .f32 0x358637BD#32)) ?_
  exact (squares _ _).trans (Finset.sum_congr rfl fun k _ => congrArg₂ (fun a b : EReal => a * b) (blk0 m c t _) (blk0 m c t _))

theorem arr : (dats m 0 c).arrAt 2 cfg0.N = out (inx m c) (ing m c) := by
  refine (dats m 0 c).arrAt_eq_of_covers 2 (out (inx m c) (ing m c)) (by decide +kernel) fun t _ y => ?_
  refine (cast_eq _ _).trans ((congrFun (after0_2 m c t) _).trans ((left m c t _).trans ?_))
  exact congrArg₂ (fun a b => normed 0x43C00000#32 (inx m c) (ing m c) a b)
    (at_block (idx2 t).1).symm (at_whole (idx2 t).2).symm

end Kernel

theorem zero_word : Ideal.ofBits .f32 0x00000000#32 = 0 := by simp [Ideal.ofBits, Ideal.ieee]

theorem ref (x : (Mat 2048 384).Idx → EReal) (g : (Mat 1 384).Idx → EReal) :
    (val_main_v12 (F := Ideal) x g : (Mat 2048 384).Idx → EReal) = out x g := by
  funext y
  have s : (val_main_v8 (F := Ideal) x y : EReal) = scale 384 0x43C00000#32 (entry x (y 0).val) := by
    rw [val_main_v8_apply, val_main_v7_apply, val_main_v6_apply,
      val_main_v5_apply, val_main_v4_apply, val_main_v3_apply,
      val_main_v2_apply, val_main_v1_apply]
    refine congrArg (fun s : EReal => Ideal.rsqrt (Ideal.div s (Ideal.ofBits .f32 0x43C00000#32) + Ideal.ofBits .f32 0x358637BD#32)) ?_
    show Ideal.ofBits .f32 0x00000000#32 + _ = _
    rw [zero_word, zero_add]
    exact Finset.sum_congr rfl fun k _ => congrArg₂ (fun a b : EReal => a * b) (eq_entry x _ rfl rfl) (eq_entry x _ rfl rfl)
  exact congrArg₂ (fun a b : EReal => a * b) (congrArg₂ (fun a b : EReal => a * b) (entry_idx x y).symm s)
    ((val_main_v10_apply (F := Ideal) g y).trans (eq_entry g _ rfl rfl))

/-! ### The claims -/

theorem frame_p : Cert.quiescent_NormQ := fun m ρ _ => Cert.NormQ.Gen.frame m ρ
theorem frame_pi : Cert.quiescent_NormQIdeal := fun m ρ _ => Cert.NormQIdeal.Gen.frame m ρ
theorem frame_ri : Cert.quiescent_NormQRefIdeal := fun m ρ _ =>
  (θ_run Cert.NormQRefIdeal.defs _ _).mono (fun r h => ⟨fun c => (h c).2, sem_eq_zero_of_no_sems (by decide) r.2⟩)
    (Cert.NormQRefIdeal.Value.run (F := Ideal) m ρ)

theorem preserves : Cert.preserves_NormQ_NormQIdeal := trivial

/-- The kernel's array is the reference's. -/
theorem algebraic : Cert.algebraic_NormQIdeal_NormQRefIdeal := by
  intro m ρ m' ρ' _ hagree
  refine ⟨fun c => out (inx m c) (ing m c), ?_, ?_⟩
  · exact (θ_run defs _ _).mono (fun r h c => ⟨(h c).1.trans (arr m c), (h c).2⟩) (Cert.NormQIdeal.Value.run_blocks (F := Ideal) m ρ)
  · refine (θ_run Cert.NormQRefIdeal.defs _ _).mono (fun r h c => ⟨(h c).1.trans ?_, (h c).2⟩) (Cert.NormQRefIdeal.Value.run (F := Ideal) m' ρ')
    refine (val_main_v12_eq _ _).trans ((ref _ _).trans ?_)
    obtain ⟨e0, e1⟩ := hagree c
    exact congrArg₂ out e0 e1

end Cert.Proof.NormQ

end
-- ==== Proof.NormKv.lean ====
/-
  RMS norm of the keys' and values' latents, rounded to bf16.
-/
module

public import proofs.«01_k».proof.Defs
public import proofs.«01_k».proof.Proof.Norm
public import proofs.«01_k».proof.Proof.Gen.NormKv.Frame
public import proofs.«01_k».proof.Proof.Gen.NormKvIdeal.Value
public import proofs.«01_k».proof.Proof.Gen.NormKvRefIdeal.Run
public import proofs.«01_k».proof.Proof.Gen.NormKvRefIdeal.Read
public import Idealize.ShloMosaic.Lib.StableHlo.RunRead
public import Idealize.ShloMosaic.Lib.Pipeline.ValueKit.Geometry

@[expose] public section

set_option maxRecDepth 16384

noncomputable section

namespace Cert.Proof.NormKv

open Cert.NormKvIdeal Cert.NormKvIdeal.Gen Cert.NormKvRefIdeal.Read
open Idealize.ShloMosaic Idealize.ShloMosaic.TcCoe Idealize.SL.Sem Idealize.ShloMosaic.StableHlo Idealize.ShloMosaic.ValueIdx

/-- The result. -/
def out (x : (Mat 2048 256).Idx → EReal) (g : (Mat 1 256).Idx → EReal) : (Mat 2048 256).Idx → EReal :=
  fun y => normed 0x43800000#32 x g (y 0).val (y 1).val

section Kernel

variable (m : (ℓ : Loc nD τ sig) → Buf (Elt Ideal) ℓ) (c : Dev nD)

/-- The rows. -/
abbrev inx : (Mat 2048 256).Idx → EReal := m ((c : Thread nD τ).loc main_arg0)
/-- The gain. -/
abbrev ing : (Mat 1 256).Idx → EReal := m ((c : Thread nD τ).loc main_arg1)

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel

theorem blk0 (t : Fin cfg0.N) (y : S1024x256.Idx) :
    ((iblk m c 0 t : Vec Ideal S1024x256 .f32) y : EReal) = entry (inx m c) (1024 * t.val + (y 0).val) (y 1).val := by
  unfold iblk
  rw [View.read_apply]
  exact (congrFun (V_main_arg0 m c) _).trans (eq_entry (inx m c) _ (at_block (idx0 t).1) (at_whole (idx0 t).2))

theorem blk1 (t : Fin cfg0.N) (y : S1x256.Idx) : ((iblk m c 1 t : Vec Ideal S1x256 .f32) y : EReal) = entry (ing m c) (y 0).val (y 1).val := by
  unfold iblk
  rw [View.read_apply]
  exact (congrFun (V_main_arg1 m c) _).trans (eq_entry (ing m c) _ (at_whole (idx1 t).1) (at_whole (idx1 t).2))

/-- A row's sum of squares. -/
theorem squares (P : Vec Ideal S1024x256 .f32) (j : S1024.Idx) :
    (multiReduction (F := Ideal) .add [1] S1024 (mulf P P) 0x00000000#32 reduces_S1024x256_S1024 (.inl rfl) rfl j : EReal)
      = ∑ k : Fin 256, (P (ix2 (j 0) k) : EReal) * P (ix2 (j 0) k) := by
  refine (Ideal.multiReduction_add_single _ _ _ _ _ j).trans (Finset.sum_congr rfl fun k _ => ?_)
  refine congrArg (fun z => (P z : EReal) * P z) (funext fun a => Fin.ext ?_)
  match a with
  | ⟨0, _⟩ => rfl
  | ⟨1, _⟩ => rfl

/-- What a point leaves. -/
theorem left (t : Fin cfg0.N) (z : S1024x256.Idx) :
    (out0_2 (iblk m c 0 t : Vec Ideal S1024x256 .f32) (iblk m c 1 t) z : EReal)
      = normed 0x43800000#32 (inx m c) (ing m c) (1024 * t.val + (z 0).val) (z 1).val := by
  unfold out0_2
  rw [View.ld_unit_zero (S := S1024x256) zero2, View.ld_unit_zero (S := S1x256) zero2, Cert.NormKvIdeal.Value.canon2_eq]
  refine congrArg₂ (fun a b : EReal => a * b) (congrArg₂ (fun a b : EReal => a * b) (blk0 m c t _) ?_) (blk1 m c t _)
  refine congrArg (fun s : EReal => Ideal.rsqrt (Ideal.div s (Ideal.ofBits .f32 0x43800000#32) + Ideal.ofBits .f32 0x358637BD#32)) ?_
  exact (squares _ _).trans (Finset.sum_congr rfl fun k _ => congrArg₂ (fun a b : EReal => a * b) (blk0 m c t _) (blk0 m c t _))

theorem arr : (dats m 0 c).arrAt 2 cfg0.N = out (inx m c) (ing m c) := by
  refine (dats m 0 c).arrAt_eq_of_covers 2 (out (inx m c) (ing m c)) (by decide +kernel) fun t _ y => ?_
  refine (cast_eq _ _).trans ((congrFun (after0_2 m c t) _).trans ((left m c t _).trans ?_))
  exact congrArg₂ (fun a b => normed 0x43800000#32 (inx m c) (ing m c) a b)
    (at_block (idx2 t).1).symm (at_whole (idx2 t).2).symm

end Kernel

theorem zero_word : Ideal.ofBits .f32 0x00000000#32 = 0 := by simp [Ideal.ofBits, Ideal.ieee]

theorem ref (x : (Mat 2048 256).Idx → EReal) (g : (Mat 1 256).Idx → EReal) :
    (val_main_v12 (F := Ideal) x g : (Mat 2048 256).Idx → EReal) = out x g := by
  funext y
  have s : (val_main_v8 (F := Ideal) x y : EReal) = scale 256 0x43800000#32 (entry x (y 0).val) := by
    rw [val_main_v8_apply, val_main_v7_apply, val_main_v6_apply,
      val_main_v5_apply, val_main_v4_apply, val_main_v3_apply,
      val_main_v2_apply, val_main_v1_apply]
    refine congrArg (fun s : EReal => Ideal.rsqrt (Ideal.div s (Ideal.ofBits .f32 0x43800000#32) + Ideal.ofBits .f32 0x358637BD#32)) ?_
    show Ideal.ofBits .f32 0x00000000#32 + _ = _
    rw [zero_word, zero_add]
    exact Finset.sum_congr rfl fun k _ => congrArg₂ (fun a b : EReal => a * b) (eq_entry x _ rfl rfl) (eq_entry x _ rfl rfl)
  exact congrArg₂ (fun a b : EReal => a * b) (congrArg₂ (fun a b : EReal => a * b) (entry_idx x y).symm s)
    ((val_main_v10_apply (F := Ideal) g y).trans (eq_entry g _ rfl rfl))

/-! ### The claims -/

theorem frame_p : Cert.quiescent_NormKv := fun m ρ _ => Cert.NormKv.Gen.frame m ρ
theorem frame_pi : Cert.quiescent_NormKvIdeal := fun m ρ _ => Cert.NormKvIdeal.Gen.frame m ρ
theorem frame_ri : Cert.quiescent_NormKvRefIdeal := fun m ρ _ =>
  (θ_run Cert.NormKvRefIdeal.defs _ _).mono (fun r h => ⟨fun c => (h c).2, sem_eq_zero_of_no_sems (by decide) r.2⟩)
    (Cert.NormKvRefIdeal.Value.run (F := Ideal) m ρ)

theorem preserves : Cert.preserves_NormKv_NormKvIdeal := trivial

/-- The kernel's array is the reference's. -/
theorem algebraic : Cert.algebraic_NormKvIdeal_NormKvRefIdeal := by
  intro m ρ m' ρ' _ hagree
  refine ⟨fun c => out (inx m c) (ing m c), ?_, ?_⟩
  · exact (θ_run defs _ _).mono (fun r h c => ⟨(h c).1.trans (arr m c), (h c).2⟩) (Cert.NormKvIdeal.Value.run_blocks (F := Ideal) m ρ)
  · refine (θ_run Cert.NormKvRefIdeal.defs _ _).mono (fun r h c => ⟨(h c).1.trans ?_, (h c).2⟩) (Cert.NormKvRefIdeal.Value.run (F := Ideal) m' ρ')
    refine (val_main_v12_eq _ _).trans ((ref _ _).trans ?_)
    obtain ⟨e0, e1⟩ := hagree c
    exact congrArg₂ out e0 e1

end Cert.Proof.NormKv

end
-- ==== Proof.NormGrad.lean ====
/-
  The gradient of RMS norm, as the kernels write it and as differentiation does: for finite entries the two are the same.
-/
module

public import proofs.«01_k».proof.Proof.Norm

@[expose] public section

noncomputable section

namespace Cert.Proof

open Idealize.ShloMosaic Idealize.ShloMosaic.ValueIdx

/-- The gradient in a row's entry `j`, for the row `x`, its cotangent times the gain `q`, and one over the root `s`: the kernels' form. -/
def rowGrad (x q : ℕ → EReal) (s : EReal) (j : ℕ) : EReal :=
  s * (q j - x j * s * Ideal.div (∑ k : Fin 1024, q k.val * (x k.val * s)) (Ideal.ofBits .f32 0x44800000#32))

/-- The mean square of a row, and what keeps it from zero. -/
def mean (x : ℕ → EReal) : EReal := Ideal.div (∑ k : Fin 1024, x k.val * x k.val) (Ideal.ofBits .f32 0x44800000#32) + Ideal.ofBits .f32 0x358637BD#32

/-- What differentiation passes to each entry through the mean square. -/
def through (x q : ℕ → EReal) : EReal :=
  Ideal.div ((∑ k : Fin 1024, x k.val * q k.val) * (Ideal.ofBits .f32 0xBF000000#32 * Ideal.div (Ideal.rsqrt (mean x)) (mean x))) (Ideal.ofBits .f32 0x44800000#32)

/-- The gradient in the rows. -/
def rowsGrad (x : (Mat 2048 1024).Idx → EReal) (g : (Mat 1 1024).Idx → EReal) (d : (Mat 2048 1024).Idx → EReal) (i j : ℕ) : EReal :=
  rowGrad (entry x i) (fun k => entry d i k * entry g 0 k) (scale 1024 0x44800000#32 (entry x i)) j

/-- The gradient in the gain. -/
def gainGrad (x d : (Mat 2048 1024).Idx → EReal) (j : ℕ) : EReal :=
  ∑ i : Fin 2048, entry d i.val j * (entry x i.val j * scale 1024 0x44800000#32 (entry x i.val))

theorem sum_real {n : ℕ} (f : Fin n → ℝ) : ∑ k : Fin n, ((f k : ℝ) : EReal) = ((∑ k : Fin n, f k : ℝ) : EReal) := by
  induction n with
  | zero => simp
  | succ n ih => rw [Fin.sum_univ_succ, Fin.sum_univ_succ, ih, EReal.coe_add]

theorem width_word : Ideal.ofBits .f32 0x44800000#32 = ((1024 : ℝ) : EReal) := by
  simp [Ideal.ofBits, Ideal.ieee]
  rw [← EReal.coe_mul]; norm_num

theorem neg_half_word : Ideal.ofBits .f32 0xBF000000#32 = ((-(1 / 2) : ℝ) : EReal) := by
  simp [Ideal.ofBits, Ideal.ieee]
  rw [← EReal.coe_mul]; norm_num

theorem small_word : ∃ e : ℝ, 0 < e ∧ Ideal.ofBits .f32 0x358637BD#32 = (e : EReal) := by
  refine ⟨8796093 * 2 ^ (-43 : ℤ), by positivity, ?_⟩
  simp [Ideal.ofBits, Ideal.ieee]

theorem div_width (r : ℝ) : Ideal.div (r : EReal) (Ideal.ofBits .f32 0x44800000#32) = ((r * (1 / 1024) : ℝ) : EReal) := by
  rw [width_word, Ideal.div_coe (by norm_num), ← EReal.coe_mul]

theorem mean_real (X : ℕ → ℝ) : ∃ u : ℝ, 0 < u ∧ mean (fun k => (X k : EReal)) = (u : EReal) := by
  obtain ⟨e, he, h⟩ := small_word
  refine ⟨(∑ k : Fin 1024, X k.val * X k.val) * (1 / 1024) + e, ?_, ?_⟩
  · have : 0 ≤ ∑ k : Fin 1024, X k.val * X k.val := Finset.sum_nonneg fun k _ => mul_self_nonneg _
    positivity
  · unfold mean
    simp only [← EReal.coe_mul]
    rw [sum_real, div_width, h, ← EReal.coe_add]

/-- The two forms agree. -/
theorem rowGrad_eq (X Q : ℕ → ℝ) (j : ℕ) :
    (Q j : EReal) * Ideal.rsqrt (mean fun k => (X k : EReal)) + (X j : EReal) * through (fun k => (X k : EReal)) (fun k => (Q k : EReal))
        + through (fun k => (X k : EReal)) (fun k => (Q k : EReal)) * (X j : EReal)
      = rowGrad (fun k => (X k : EReal)) (fun k => (Q k : EReal)) (Ideal.rsqrt (mean fun k => (X k : EReal))) j := by
  obtain ⟨u, hu, h⟩ := mean_real X
  unfold through rowGrad
  rw [h, Ideal.rsqrt_coe, if_neg (not_lt.mpr hu.le), if_neg hu.ne', Ideal.div_coe hu.ne', neg_half_word]
  have hs : 1 / u = (Real.sqrt u)⁻¹ * (Real.sqrt u)⁻¹ := by rw [← mul_inv, Real.mul_self_sqrt hu.le, one_div]
  rw [hs]
  generalize (Real.sqrt u)⁻¹ = s
  simp only [← EReal.coe_mul]
  rw [sum_real, sum_real]
  simp only [← EReal.coe_mul, div_width, ← EReal.coe_sub, ← EReal.coe_add]
  have e : ∑ k : Fin 1024, Q k.val * (X k.val * s) = (∑ k : Fin 1024, X k.val * Q k.val) * s := by
    rw [Finset.sum_mul]; exact Finset.sum_congr rfl fun k _ => by ring
  rw [e]
  exact congrArg _ (by ring)

/-- An array of numbers has numbers as entries. -/
theorem entry_real {a b : ℕ} (x : (Mat a b).Idx → EReal) (h : ∀ y, ∃ r : ℝ, x y = r) (i j : ℕ) : ∃ r : ℝ, entry x i j = r := by
  unfold entry
  split
  · exact h _
  · exact ⟨0, rfl⟩

/-- The reference's form of the gradient in the rows is the kernels'. -/
theorem rowsGrad_eq (x : (Mat 2048 1024).Idx → EReal) (g : (Mat 1 1024).Idx → EReal) (d : (Mat 2048 1024).Idx → EReal)
    (hx : ∀ y, ∃ r : ℝ, x y = r) (hg : ∀ y, ∃ r : ℝ, g y = r) (hd : ∀ y, ∃ r : ℝ, d y = r) (i j : ℕ) :
    entry d i j * entry g 0 j * Ideal.rsqrt (mean (entry x i)) + entry x i j * through (entry x i) (fun k => entry d i k * entry g 0 k)
      + through (entry x i) (fun k => entry d i k * entry g 0 k) * entry x i j = rowsGrad x g d i j := by
  choose X eX using entry_real x hx i
  choose G eG using entry_real g hg 0
  choose D eD using entry_real d hd i
  have hX : entry x i = fun k => (X k : EReal) := funext eX
  have hQ : (fun k => entry d i k * entry g 0 k) = fun k => ((D k * G k : ℝ) : EReal) := funext fun k => by rw [eG, eD, EReal.coe_mul]
  have e := rowGrad_eq X (fun k => D k * G k) j
  rw [← hX, ← hQ, EReal.coe_mul, ← eG, ← eD, ← eX] at e
  exact e

/-! ### Layout and sums of a block of rows -/

theorem zero_word : Ideal.ofBits .f32 0x00000000#32 = 0 := by simp [Ideal.ofBits, Ideal.ieee]

/-- A column out of a vector. -/
theorem asCol (x : (⟨1, ![1024]⟩ : Shape).Idx → EReal) (w : (⟨1, ![1024]⟩ : Shape).ShapeCasts (Mat 1024 1)) (z : (Mat 1024 1).Idx) :
    shapeCast (Mat 1024 1) x w z = x (ix1 (z 0)) :=
  shapeCast_apply x w _ _ (by
    rw [Shape.rowMajor_val_two, Shape.rowMajor_val_one]
    have h : (z 1).val < 1 := (z 1).isLt
    show (z 0).val = (z 0).val * 1 + (z 1).val
    omega)

/-- A row out of a vector. -/
theorem asRow (x : (⟨1, ![1024]⟩ : Shape).Idx → EReal) (w : (⟨1, ![1024]⟩ : Shape).ShapeCasts (Mat 1 1024)) (z : (Mat 1 1024).Idx) :
    shapeCast (Mat 1 1024) x w z = x (ix1 (z 1)) :=
  shapeCast_apply x w _ _ (by
    rw [Shape.rowMajor_val_two, Shape.rowMajor_val_one]
    have h : (z 0).val < 1 := (z 0).isLt
    show (z 1).val = (z 0).val * 1024 + (z 1).val
    omega)

/-- A sum along a row. -/
theorem along (P : FVec Ideal (Mat 1024 1024) .f32) (w : (Mat 1024 1024).Reduces [1] ⟨1, ![1024]⟩) (j : Fin 1024) :
    (multiReduction (F := Ideal) .add [1] ⟨1, ![1024]⟩ P 0x00000000#32 w (.inl rfl) rfl (ix1 j) : EReal) = ∑ k : Fin 1024, (P (ix2 j k) : EReal) := by
  refine (Ideal.multiReduction_add_single _ _ _ _ _ _).trans (Finset.sum_congr rfl fun k _ => congrArg P (funext fun a => Fin.ext ?_))
  match a with
  | ⟨0, _⟩ => rfl
  | ⟨1, _⟩ => rfl

/-- A sum down a column. -/
theorem down (P : FVec Ideal (Mat 1024 1024) .f32) (w : (Mat 1024 1024).Reduces [0] ⟨1, ![1024]⟩) (j : Fin 1024) :
    (multiReduction (F := Ideal) .add [0] ⟨1, ![1024]⟩ P 0x00000000#32 w (.inl rfl) rfl (ix1 j) : EReal) = ∑ k : Fin 1024, (P (ix2 k j) : EReal) := by
  refine (Ideal.multiReduction_add_single _ _ _ _ _ _).trans (Finset.sum_congr rfl fun k _ => congrArg P (funext fun a => Fin.ext ?_))
  match a with
  | ⟨0, _⟩ => rfl
  | ⟨1, _⟩ => rfl

end Cert.Proof

end
-- ==== Proof.NormInB.lean ====
/-
  The gradient of RMS norm before a sublayer, added to what comes past the sublayer, and the gradient of its gain.
  For finite rows, gain and cotangent the kernel's form is what differentiation of the norm gives.
-/
module

public import proofs.«01_k».proof.Defs
public import proofs.«01_k».proof.Proof.NormGrad
public import proofs.«01_k».proof.Proof.Gen.NormInB.Frame
public import proofs.«01_k».proof.Proof.Gen.NormInBIdeal.Value
public import proofs.«01_k».proof.Proof.Gen.NormInBRefIdeal.Run
public import proofs.«01_k».proof.Proof.Gen.NormInBRefIdeal.Read
public import Idealize.ShloMosaic.Lib.StableHlo.RunRead
public import Idealize.ShloMosaic.Lib.Pipeline.ValueKit

@[expose] public section

set_option maxRecDepth 16384

noncomputable section

namespace Cert.Proof.NormInB

open Cert.NormInBIdeal Cert.NormInBIdeal.Gen Cert.NormInBRefIdeal.Read
open Idealize.ShloMosaic Idealize.ShloMosaic.TcCoe Idealize.SL.Sem Idealize.ShloMosaic.StableHlo Idealize.ShloMosaic.ValueIdx

section Kernel

variable (m : (ℓ : Loc nD τ sig) → Buf (Elt Ideal) ℓ) (c : Dev nD)

/-- The rows. -/
abbrev inx : (Mat 2048 1024).Idx → EReal := m ((c : Thread nD τ).loc main_arg0)
/-- The gain. -/
abbrev ing : (Mat 1 1024).Idx → EReal := m ((c : Thread nD τ).loc main_arg1)
/-- The cotangent. -/
abbrev ind : (Mat 2048 1024).Idx → EReal := m ((c : Thread nD τ).loc main_arg2)
/-- What comes past the sublayer. -/
abbrev inh : (Mat 2048 1024).Idx → EReal := m ((c : Thread nD τ).loc main_arg3)

/-- The gradient in the rows. -/
def dx : (Mat 2048 1024).Idx → EReal := fun y => rowsGrad (inx m c) (ing m c) (ind m c) (y 0).val (y 1).val + entry (inh m c) (y 0).val (y 1).val
/-- The gradient in the gain. -/
def dg : (Mat 1 1024).Idx → EReal := fun y => gainGrad (inx m c) (ind m c) (y 1).val

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = 0 ∧ win0_5.index t 1 = 0 := by decide +kernel

theorem blk0 (t : Fin cfg0.N) (y : S1024x1024.Idx) :
    ((iblk m c 0 t : Vec Ideal S1024x1024 .f32) y : EReal) = entry (inx m c) (1024 * t.val + (y 0).val) (y 1).val := by
  unfold iblk
  rw [View.read_apply]
  exact (congrFun (V_main_arg0 m c) _).trans (eq_entry (inx m c) _ (at_block (idx0 t).1) (at_whole (idx0 t).2))

theorem blk1 (t : Fin cfg0.N) (y : S1x1024.Idx) : ((iblk m c 1 t : Vec Ideal S1x1024 .f32) y : EReal) = entry (ing m c) (y 0).val (y 1).val := by
  unfold iblk
  rw [View.read_apply]
  exact (congrFun (V_main_arg1 m c) _).trans (eq_entry (ing m c) _ (at_whole (idx1 t).1) (at_whole (idx1 t).2))

theorem blk2 (t : Fin cfg0.N) (y : S1024x1024.Idx) :
    ((iblk m c 2 t : Vec Ideal S1024x1024 .f32) y : EReal) = entry (ind m c) (1024 * t.val + (y 0).val) (y 1).val := by
  unfold iblk
  rw [View.read_apply]
  exact (congrFun (V_main_arg2 m c) _).trans (eq_entry (ind m c) _ (at_block (idx2 t).1) (at_whole (idx2 t).2))

theorem blk3 (t : Fin cfg0.N) (y : S1024x1024.Idx) :
    ((iblk m c 3 t : Vec Ideal S1024x1024 .f32) y : EReal) = entry (inh m c) (1024 * t.val + (y 0).val) (y 1).val := by
  unfold iblk
  rw [View.read_apply]
  exact (congrFun (V_main_arg3 m c) _).trans (eq_entry (inh m c) _ (at_block (idx3 t).1) (at_whole (idx3 t).2))

/-- One over the root of a row's mean square. -/
theorem root (t : Fin cfg0.N) (z : S1024x1.Idx) :
    (k0_pay1 (iblk m c 0 t : Vec Ideal S1024x1024 .f32) z : EReal) = scale 1024 0x44800000#32 (entry (inx m c) (1024 * t.val + (z 0).val)) := by
  unfold k0_pay1
  refine congrArg (fun s : EReal => Ideal.rsqrt (Ideal.div s (Ideal.ofBits .f32 0x44800000#32) + Ideal.ofBits .f32 0x358637BD#32)) ?_
  refine (asCol _ _ z).trans ((along _ _ _).trans (Finset.sum_congr rfl fun k _ => congrArg₂ (fun a b : EReal => a * b) (blk0 m c t _) (blk0 m c t _)))

/-- An entry of the rows, scaled. -/
theorem scaled (t : Fin cfg0.N) (z : S1024x1024.Idx) : (k0_pay2 (iblk m c 0 t : Vec Ideal S1024x1024 .f32) z : EReal)
    = entry (inx m c) (1024 * t.val + (z 0).val) (z 1).val * scale 1024 0x44800000#32 (entry (inx m c) (1024 * t.val + (z 0).val)) :=
  congrArg₂ (fun a b : EReal => a * b) (blk0 m c t z) (root m c t _)

/-- What a point leaves of the gradient in the rows. -/
theorem rows (t : Fin cfg0.N) (z : S1024x1024.Idx) :
    (k0_pay3 (iblk m c 0 t : Vec Ideal S1024x1024 .f32) (iblk m c 2 t) (iblk m c 1 t) (iblk m c 3 t) z : EReal) = rowsGrad (inx m c) (ing m c) (ind m c) (1024 * t.val + (z 0).val) (z 1).val + entry (inh m c) (1024 * t.val + (z 0).val) (z 1).val := by
  exact congrArg₂ (fun a b : EReal => a + b) (congrArg₂ (fun a b : EReal => a * b) (root m c t _) (congrArg₂ (fun a b : EReal => a - b)
    (congrArg₂ (fun a b : EReal => a * b) (blk2 m c t z) (blk1 m c t _))
    (congrArg₂ (fun a b : EReal => a * b) (scaled m c t z) (congrArg (fun s : EReal => Ideal.div s (Ideal.ofBits .f32 0x44800000#32))
      ((asCol _ _ _).trans ((along _ _ _).trans (Finset.sum_congr rfl fun k _ => congrArg₂ (fun a b : EReal => a * b)
        (congrArg₂ (fun a b : EReal => a * b) (blk2 m c t _) (blk1 m c t _)) (scaled m c t _)))))))) (blk3 m c t z)

/-- What a point adds to the gradient in the gain. -/
theorem adds (t : Fin cfg0.N) (acc : Vec Ideal S1x1024 .f32) (z : S1x1024.Idx) :
    (k0_pay5 (iblk m c 0 t : Vec Ideal S1024x1024 .f32) (iblk m c 2 t) acc z : EReal)
      = (acc z : EReal) + ∑ k : Fin 1024, entry (ind m c) (1024 * t.val + k.val) (z 1).val
        * (entry (inx m c) (1024 * t.val + k.val) (z 1).val * scale 1024 0x44800000#32 (entry (inx m c) (1024 * t.val + k.val))) := by
  refine congrArg₂ (fun a b : EReal => a + b) (congrFun (shapeCast_self acc _) z) ?_
  refine (asRow _ _ z).trans ((down _ _ _).trans (Finset.sum_congr rfl fun k _ => congrArg₂ (fun a b : EReal => a * b) (blk2 m c t _) (scaled m c t _)))

theorem after_rows (t : Fin cfg0.N) (z : S1024x1024.Idx) :
    ((outsAt0 m c t.val t.isLt).1 z : EReal) = rowsGrad (inx m c) (ing m c) (ind m c) (1024 * t.val + (z 0).val) (z 1).val + entry (inh m c) (1024 * t.val + (z 0).val) (z 1).val := by
  by_cases h : t.val % 2 = 0
  · rw [outsAt0_A m c t h]; frame_out
    exact rows m c t z
  · rw [outsAt0_B m c t h]; frame_out
    exact rows m c t z

theorem arr_rows : (dats m 0 c).arrAt 4 cfg0.N = dx m c := by
  refine (dats m 0 c).arrAt_eq_of_covers 4 (dx m c) (by decide +kernel) fun t _ y => ?_
  refine (cast_eq _ _).trans ((congrFun (after0_4 m c t) _).trans ((after_rows m c t _).trans ?_))
  exact congrArg₂ (fun a b => rowsGrad (inx m c) (ing m c) (ind m c) a b + entry (inh m c) a b)
    (at_block (idx4 t).1).symm (at_whole (idx4 t).2).symm

theorem after_gain (t : Fin cfg0.N) (ht : t.val + 1 = cfg0.N) (z : S1x1024.Idx) :
    ((outsAt0 m c t.val t.isLt).2 z : EReal) = gainGrad (inx m c) (ind m c) (z 1).val := by
  rw [Pipeline.eq_sum_fin_of_reset_step_apply_last (fun n h => ((outsAt0 m c n h).2 : S1x1024.Idx → EReal)) 2 (fun _ => 0)
    (fun t z => ∑ k : Fin 1024, entry (ind m c) (1024 * t.val + k.val) (z 1).val
        * (entry (inx m c) (1024 * t.val + k.val) (z 1).val * scale 1024 0x44800000#32 (entry (inx m c) (1024 * t.val + k.val))))
    (fun t h z => by
      rw [outsAt0_A m c t h]; frame_out
      exact (adds m c t _ z).trans (congrArg (· + _) zero_word))
    (fun t h z => by
      rw [outsAt0_B m c t h]; frame_out
      exact adds m c t _ z)
    (le_of_eq N_0) t ht z, zero_add]
  unfold gainGrad
  refine (Finset.sum_congr rfl fun s _ => Finset.sum_congr rfl fun k _ => ?_).trans (Fin.sum_mul_add_fin (L := 2048) 2 1024
    (fun i => entry (ind m c) i.val (z 1).val * (entry (inx m c) i.val (z 1).val * scale 1024 0x44800000#32 (entry (inx m c) i.val))))
  dsimp only
  rw [mul_comm 1024]

theorem arr_gain : (dats m 0 c).arrAt 5 cfg0.N = dg m c := by
  refine (dats m 0 c).arrAt_eq_of_covers 5 (dg m c) (by decide +kernel) fun t hf y => ?_
  have ht : t.val + 1 = cfg0.N := by
    have h1 := (flush0_5 t).mp hf
    have h2 : t.val < 2 := Nat.lt_of_lt_of_eq t.isLt N_0
    show t.val + 1 = 2
    omega
  refine (cast_eq _ _).trans ((congrFun (after0_5 m c t) _).trans ((after_gain m c t ht _).trans ?_))
  refine congrArg (gainGrad (inx m c) (ind m c)) ?_
  show (y 1).val = win0_5.index t 1 * 1024 + 1 * (y 1).val
  rw [(idx5 t).2]; omega

end Kernel

section Reference

variable (x : (Mat 2048 1024).Idx → EReal) (g : (Mat 1 1024).Idx → EReal) (d : (Mat 2048 1024).Idx → EReal)

theorem ref_mean (y : (Mat 2048 1).Idx) : (val_main_v6 (F := Ideal) x y : EReal) = mean (entry x (y 0).val) := by
  rw [val_main_v6_apply, val_main_v5_apply, val_main_v4_apply, val_main_v3_apply, val_main_v2_apply, val_main_v1_apply]
  refine congrArg (fun s : EReal => Ideal.div s (Ideal.ofBits .f32 0x44800000#32) + Ideal.ofBits .f32 0x358637BD#32) ?_
  show Ideal.ofBits .f32 0x00000000#32 + _ = _
  rw [zero_word, zero_add]
  exact Finset.sum_congr rfl fun k _ => congrArg₂ (fun a b : EReal => a * b) (eq_entry x _ rfl rfl) (eq_entry x _ rfl rfl)

theorem ref_root (y : (Mat 2048 1).Idx) : (val_main_v7 (F := Ideal) x y : EReal) = Ideal.rsqrt (mean (entry x (y 0).val)) :=
  congrArg Ideal.rsqrt (ref_mean x y)

theorem ref_gain (y : (Mat 1 1024).Idx) : (val_main_v17 (F := Ideal) x d y : EReal) = gainGrad x d (y 1).val := by
  have y0 : (y 0).val < 1 := (y 0).isLt
  rw [val_main_v17_apply, val_main_v16_apply]
  show Ideal.ofBits .f32 0x00000000#32 + _ = _
  rw [zero_word, zero_add]
  refine Finset.sum_congr rfl fun k _ => ?_
  rw [val_main_v15_apply, val_main_v12_apply, val_main_v11_apply, ref_root]
  refine (mul_comm _ _).trans (congrArg₂ (fun a b : EReal => a * b) (eq_entry d _ rfl ?_) (congrArg (· * _) (eq_entry x _ rfl ?_))) <;>
  · show (y 0).val * 1024 + (y 1).val = (y 1).val
    omega

/-- A cotangent times the gain. -/
theorem ref_q (y : (Mat 2048 1024).Idx) : (val_main_v19 (F := Ideal) g d y : EReal) = entry d (y 0).val (y 1).val * entry g 0 (y 1).val := by
  rw [val_main_v19_apply, val_main_v18_apply]
  exact congrArg₂ (fun a b : EReal => a * b) (eq_entry d _ rfl rfl) (eq_entry g _ rfl rfl)

theorem ref_through (y : (Mat 2048 1024).Idx) : (val_main_v29 (F := Ideal) x g d y : EReal)
    = through (entry x (y 0).val) (fun k => entry d (y 0).val k * entry g 0 k) := by
  rw [val_main_v29_apply, val_main_v28_apply]
  show Ideal.ofBits .f32 0x00000000#32 + _ = _
  rw [zero_word, zero_add, Fin.sum_univ_one, val_main_v27_apply, val_main_v26_apply, val_main_v25_apply, val_main_v22_apply, val_main_v21_apply,
    val_main_v10_apply, val_main_v9_apply, val_main_v8_apply, ref_root, ref_mean]
  refine congrArg (fun s : EReal => Ideal.div (s * (Ideal.ofBits .f32 0xBF000000#32 * Ideal.div (Ideal.rsqrt (mean (entry x (y 0).val))) (mean (entry x (y 0).val)))) (Ideal.ofBits .f32 0x44800000#32)) ?_
  show Ideal.ofBits .f32 0x00000000#32 + _ = _
  rw [zero_word, zero_add]
  refine Finset.sum_congr rfl fun k _ => ?_
  rw [val_main_v20_apply, ref_q]
  refine congrArg₂ (fun a b : EReal => a * b) (eq_entry x _ ?_ rfl) (congrArg (fun a => entry d a k.val * entry g 0 k.val) ?_) <;>
  · show (y 0).val * 1 + 0 = (y 0).val
    omega

theorem ref_rows (hx : ∀ y, ∃ r : ℝ, x y = r) (hg : ∀ y, ∃ r : ℝ, g y = r) (hd : ∀ y, ∃ r : ℝ, d y = r) (y : (Mat 2048 1024).Idx) :
    (val_main_v33 (F := Ideal) x g d y : EReal) = rowsGrad x g d (y 0).val (y 1).val := by
  rw [val_main_v33_apply, val_main_v32_apply, val_main_v31_apply, val_main_v30_apply, val_main_v24_apply, val_main_v23_apply,
    ref_root, ref_q, ref_through, ← entry_idx x y]
  exact rowsGrad_eq x g d hx hg hd _ _

end Reference

/-! ### The claims -/

instance preFacts : Cert.Pre_finite_norm_in.Facts where
  bcast_S_S2048x1024 := by decide
  bcast_S_S1x1024 := by decide

theorem frame_p : Cert.quiescent_NormInB := fun m ρ _ => Cert.NormInB.Gen.frame m ρ
theorem frame_pi : Cert.quiescent_NormInBIdeal := fun m ρ _ => Cert.NormInBIdeal.Gen.frame m ρ
theorem frame_pi_pre : Cert.quiescent_NormInBIdeal_pre_finite_norm_in := fun m ρ _ => Cert.NormInBIdeal.Gen.frame m ρ
theorem frame_ri : Cert.quiescent_NormInBRefIdeal := fun m ρ _ =>
  (θ_run Cert.NormInBRefIdeal.defs _ _).mono (fun r h => ⟨fun c => (h c).2.2, sem_eq_zero_of_no_sems (by decide) r.2⟩)
    (Cert.NormInBRefIdeal.Value.run (F := Ideal) m ρ)
theorem frame_ri_pre : Cert.quiescent_NormInBRefIdeal_pre_finite_norm_in := fun m ρ _ => frame_ri m ρ trivial

theorem preserves : Cert.preserves_NormInB_NormInBIdeal := trivial

/-- The kernel's arrays are the reference's, for finite rows, gain and cotangent. -/
theorem algebraic : Cert.algebraic_NormInBIdeal_NormInBRefIdeal_pre_finite_norm_in := by
  intro m ρ m' ρ' hfin hagree
  refine ⟨fun c => dx m c, fun c => dg m c, ?_, ?_⟩
  · exact (θ_run defs _ _).mono (fun r h c => ⟨(h c).1.trans (arr_rows m c), (h c).2.1.trans (arr_gain m c), (h c).2.2⟩)
      (Cert.NormInBIdeal.Value.run_blocks (F := Ideal) m ρ)
  · refine (θ_run Cert.NormInBRefIdeal.defs _ _).mono (fun r h c => ⟨(h c).1.trans ?_, (h c).2.1.trans ?_, (h c).2.2⟩)
      (Cert.NormInBRefIdeal.Value.run (F := Ideal) m' ρ')
    · refine (val_main_v34_eq _ _ _ _).trans ?_
      obtain ⟨e0, e1, e2, e3⟩ := hagree c
      rw [e0, e1, e2, e3]
      exact funext fun y => congrArg₂ (fun a b : EReal => a + b) (ref_rows _ _ _ (fun y => number _ (congrFun (hfin c).1 y))
        (fun y => number _ (congrFun (hfin c).2.1 y)) (fun y => number _ (congrFun (hfin c).2.2 y)) y) (entry_idx _ y).symm
    · refine (val_main_v17_eq _ _).trans ?_
      obtain ⟨e0, e1, e2, e3⟩ := hagree c
      rw [e0, e2]
      exact funext fun y => ref_gain _ _ y

end Cert.Proof.NormInB

end
-- ==== Proof.NormOutB.lean ====
/-
  The gradient of RMS norm after a sublayer, rounded to bf16, and the gradient of its gain.
  For finite rows, gain and cotangent the kernel's form is what differentiation of the norm gives.
-/
module

public import proofs.«01_k».proof.Defs
public import proofs.«01_k».proof.Proof.NormInB
public import proofs.«01_k».proof.Proof.Gen.NormOutB.Frame
public import proofs.«01_k».proof.Proof.Gen.NormOutBIdeal.Value
public import proofs.«01_k».proof.Proof.Gen.NormOutBRefIdeal.Run
public import proofs.«01_k».proof.Proof.Gen.NormOutBRefIdeal.Read
public import Idealize.ShloMosaic.Lib.StableHlo.RunRead
public import Idealize.ShloMosaic.Lib.Pipeline.ValueKit

@[expose] public section

set_option maxRecDepth 16384

noncomputable section

namespace Cert.Proof.NormOutB

open Cert.NormOutBIdeal Cert.NormOutBIdeal.Gen Cert.NormOutBRefIdeal.Read
open Idealize.ShloMosaic Idealize.ShloMosaic.TcCoe Idealize.SL.Sem Idealize.ShloMosaic.StableHlo Idealize.ShloMosaic.ValueIdx

section Kernel

variable (m : (ℓ : Loc nD τ sig) → Buf (Elt Ideal) ℓ) (c : Dev nD)

/-- The rows. -/
abbrev inx : (Mat 2048 1024).Idx → EReal := m ((c : Thread nD τ).loc main_arg0)
/-- The gain. -/
abbrev ing : (Mat 1 1024).Idx → EReal := m ((c : Thread nD τ).loc main_arg1)
/-- The cotangent. -/
abbrev ind : (Mat 2048 1024).Idx → EReal := m ((c : Thread nD τ).loc main_arg2)

/-- The gradient in the rows. -/
def dx : (Mat 2048 1024).Idx → EReal := fun y => rowsGrad (inx m c) (ing m c) (ind m c) (y 0).val (y 1).val
/-- The gradient in the gain. -/
def dg : (Mat 1 1024).Idx → EReal := fun y => gainGrad (inx m c) (ind m c) (y 1).val

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = 0 ∧ win0_4.index t 1 = 0 := by decide +kernel

theorem blk0 (t : Fin cfg0.N) (y : S1024x1024.Idx) :
    ((iblk m c 0 t : Vec Ideal S1024x1024 .f32) y : EReal) = entry (inx m c) (1024 * t.val + (y 0).val) (y 1).val := by
  unfold iblk
  rw [View.read_apply]
  exact (congrFun (V_main_arg0 m c) _).trans (eq_entry (inx m c) _ (at_block (idx0 t).1) (at_whole (idx0 t).2))

theorem blk1 (t : Fin cfg0.N) (y : S1x1024.Idx) : ((iblk m c 1 t : Vec Ideal S1x1024 .f32) y : EReal) = entry (ing m c) (y 0).val (y 1).val := by
  unfold iblk
  rw [View.read_apply]
  exact (congrFun (V_main_arg1 m c) _).trans (eq_entry (ing m c) _ (at_whole (idx1 t).1) (at_whole (idx1 t).2))

theorem blk2 (t : Fin cfg0.N) (y : S1024x1024.Idx) :
    ((iblk m c 2 t : Vec Ideal S1024x1024 .f32) y : EReal) = entry (ind m c) (1024 * t.val + (y 0).val) (y 1).val := by
  unfold iblk
  rw [View.read_apply]
  exact (congrFun (V_main_arg2 m c) _).trans (eq_entry (ind m c) _ (at_block (idx2 t).1) (at_whole (idx2 t).2))

/-- One over the root of a row's mean square. -/
theorem root (t : Fin cfg0.N) (z : S1024x1.Idx) :
    (k0_pay1 (iblk m c 0 t : Vec Ideal S1024x1024 .f32) z : EReal) = scale 1024 0x44800000#32 (entry (inx m c) (1024 * t.val + (z 0).val)) := by
  unfold k0_pay1
  refine congrArg (fun s : EReal => Ideal.rsqrt (Ideal.div s (Ideal.ofBits .f32 0x44800000#32) + Ideal.ofBits .f32 0x358637BD#32)) ?_
  refine (asCol _ _ z).trans ((along _ _ _).trans (Finset.sum_congr rfl fun k _ => congrArg₂ (fun a b : EReal => a * b) (blk0 m c t _) (blk0 m c t _)))

/-- An entry of the rows, scaled. -/
theorem scaled (t : Fin cfg0.N) (z : S1024x1024.Idx) : (k0_pay2 (iblk m c 0 t : Vec Ideal S1024x1024 .f32) z : EReal)
    = entry (inx m c) (1024 * t.val + (z 0).val) (z 1).val * scale 1024 0x44800000#32 (entry (inx m c) (1024 * t.val + (z 0).val)) :=
  congrArg₂ (fun a b : EReal => a * b) (blk0 m c t z) (root m c t _)

/-- What a point leaves of the gradient in the rows. -/
theorem rows (t : Fin cfg0.N) (z : S1024x1024.Idx) :
    (k0_pay3 (iblk m c 0 t : Vec Ideal S1024x1024 .f32) (iblk m c 2 t) (iblk m c 1 t) z : EReal) = rowsGrad (inx m c) (ing m c) (ind m c) (1024 * t.val + (z 0).val) (z 1).val := by
  exact congrArg₂ (fun a b : EReal => a * b) (root m c t _) (congrArg₂ (fun a b : EReal => a - b)
    (congrArg₂ (fun a b : EReal => a * b) (blk2 m c t z) (blk1 m c t _))
    (congrArg₂ (fun a b : EReal => a * b) (scaled m c t z) (congrArg (fun s : EReal => Ideal.div s (Ideal.ofBits .f32 0x44800000#32))
      ((asCol _ _ _).trans ((along _ _ _).trans (Finset.sum_congr rfl fun k _ => congrArg₂ (fun a b : EReal => a * b)
        (congrArg₂ (fun a b : EReal => a * b) (blk2 m c t _) (blk1 m c t _)) (scaled m c t _)))))))

/-- What a point adds to the gradient in the gain. -/
theorem adds (t : Fin cfg0.N) (acc : Vec Ideal S1x1024 .f32) (z : S1x1024.Idx) :
    (k0_pay5 (iblk m c 0 t : Vec Ideal S1024x1024 .f32) (iblk m c 2 t) acc z : EReal)
      = (acc z : EReal) + ∑ k : Fin 1024, entry (ind m c) (1024 * t.val + k.val) (z 1).val
        * (entry (inx m c) (1024 * t.val + k.val) (z 1).val * scale 1024 0x44800000#32 (entry (inx m c) (1024 * t.val + k.val))) := by
  refine congrArg₂ (fun a b : EReal => a + b) (congrFun (shapeCast_self acc _) z) ?_
  refine (asRow _ _ z).trans ((down _ _ _).trans (Finset.sum_congr rfl fun k _ => congrArg₂ (fun a b : EReal => a * b) (blk2 m c t _) (scaled m c t _)))

theorem after_rows (t : Fin cfg0.N) (z : S1024x1024.Idx) :
    ((outsAt0 m c t.val t.isLt).1 z : EReal) = rowsGrad (inx m c) (ing m c) (ind m c) (1024 * t.val + (z 0).val) (z 1).val := by
  by_cases h : t.val % 2 = 0
  · rw [outsAt0_A m c t h]; frame_out
    exact rows m c t z
  · rw [outsAt0_B m c t h]; frame_out
    exact rows m c t z

theorem arr_rows : (dats m 0 c).arrAt 3 cfg0.N = dx m c := by
  refine (dats m 0 c).arrAt_eq_of_covers 3 (dx m c) (by decide +kernel) fun t _ y => ?_
  refine (cast_eq _ _).trans ((congrFun (after0_3 m c t) _).trans ((after_rows m c t _).trans ?_))
  exact congrArg₂ (fun a b => rowsGrad (inx m c) (ing m c) (ind m c) a b)
    (at_block (idx3 t).1).symm (at_whole (idx3 t).2).symm

theorem after_gain (t : Fin cfg0.N) (ht : t.val + 1 = cfg0.N) (z : S1x1024.Idx) :
    ((outsAt0 m c t.val t.isLt).2 z : EReal) = gainGrad (inx m c) (ind m c) (z 1).val := by
  rw [Pipeline.eq_sum_fin_of_reset_step_apply_last (fun n h => ((outsAt0 m c n h).2 : S1x1024.Idx → EReal)) 2 (fun _ => 0)
    (fun t z => ∑ k : Fin 1024, entry (ind m c) (1024 * t.val + k.val) (z 1).val
        * (entry (inx m c) (1024 * t.val + k.val) (z 1).val * scale 1024 0x44800000#32 (entry (inx m c) (1024 * t.val + k.val))))
    (fun t h z => by
      rw [outsAt0_A m c t h]; frame_out
      exact (adds m c t _ z).trans (congrArg (· + _) zero_word))
    (fun t h z => by
      rw [outsAt0_B m c t h]; frame_out
      exact adds m c t _ z)
    (le_of_eq N_0) t ht z, zero_add]
  unfold gainGrad
  refine (Finset.sum_congr rfl fun s _ => Finset.sum_congr rfl fun k _ => ?_).trans (Fin.sum_mul_add_fin (L := 2048) 2 1024
    (fun i => entry (ind m c) i.val (z 1).val * (entry (inx m c) i.val (z 1).val * scale 1024 0x44800000#32 (entry (inx m c) i.val))))
  dsimp only
  rw [mul_comm 1024]

theorem arr_gain : (dats m 0 c).arrAt 4 cfg0.N = dg m c := by
  refine (dats m 0 c).arrAt_eq_of_covers 4 (dg m c) (by decide +kernel) fun t hf y => ?_
  have ht : t.val + 1 = cfg0.N := by
    have h1 := (flush0_4 t).mp hf
    have h2 : t.val < 2 := Nat.lt_of_lt_of_eq t.isLt N_0
    show t.val + 1 = 2
    omega
  refine (cast_eq _ _).trans ((congrFun (after0_4 m c t) _).trans ((after_gain m c t ht _).trans ?_))
  refine congrArg (gainGrad (inx m c) (ind m c)) ?_
  show (y 1).val = win0_4.index t 1 * 1024 + 1 * (y 1).val
  rw [(idx4 t).2]; omega

end Kernel

/-! The reference is that of `NormInB`, without what comes past the sublayer. -/

section Reference

variable (x : (Mat 2048 1024).Idx → EReal) (g : (Mat 1 1024).Idx → EReal) (d : (Mat 2048 1024).Idx → EReal)

theorem ref_gain (y : (Mat 1 1024).Idx) : (val_main_v17 (F := Ideal) x d y : EReal) = gainGrad x d (y 1).val := NormInB.ref_gain x d y

theorem ref_rows (hx : ∀ y, ∃ r : ℝ, x y = r) (hg : ∀ y, ∃ r : ℝ, g y = r) (hd : ∀ y, ∃ r : ℝ, d y = r) (y : (Mat 2048 1024).Idx) :
    (val_main_v34 (F := Ideal) x g d y : EReal) = rowsGrad x g d (y 0).val (y 1).val := NormInB.ref_rows x g d hx hg hd y

end Reference

/-! ### The claims -/

instance preFacts : Cert.Pre_finite_norm.Facts where
  bcast_S_S2048x1024 := by decide
  bcast_S_S1x1024 := by decide

theorem frame_p : Cert.quiescent_NormOutB := fun m ρ _ => Cert.NormOutB.Gen.frame m ρ
theorem frame_pi : Cert.quiescent_NormOutBIdeal := fun m ρ _ => Cert.NormOutBIdeal.Gen.frame m ρ
theorem frame_pi_pre : Cert.quiescent_NormOutBIdeal_pre_finite_norm := fun m ρ _ => Cert.NormOutBIdeal.Gen.frame m ρ
theorem frame_ri : Cert.quiescent_NormOutBRefIdeal := fun m ρ _ =>
  (θ_run Cert.NormOutBRefIdeal.defs _ _).mono (fun r h => ⟨fun c => (h c).2.2, sem_eq_zero_of_no_sems (by decide) r.2⟩)
    (Cert.NormOutBRefIdeal.Value.run (F := Ideal) m ρ)
theorem frame_ri_pre : Cert.quiescent_NormOutBRefIdeal_pre_finite_norm := fun m ρ _ => frame_ri m ρ trivial

theorem preserves : Cert.preserves_NormOutB_NormOutBIdeal := trivial

/-- The kernel's arrays are the reference's, for finite rows, gain and cotangent. -/
theorem algebraic : Cert.algebraic_NormOutBIdeal_NormOutBRefIdeal_pre_finite_norm := by
  intro m ρ m' ρ' hfin hagree
  refine ⟨fun c => dx m c, fun c => dg m c, ?_, ?_⟩
  · exact (θ_run defs _ _).mono (fun r h c => ⟨(h c).1.trans (arr_rows m c), (h c).2.1.trans (arr_gain m c), (h c).2.2⟩)
      (Cert.NormOutBIdeal.Value.run_blocks (F := Ideal) m ρ)
  · refine (θ_run Cert.NormOutBRefIdeal.defs _ _).mono (fun r h c => ⟨(h c).1.trans ?_, (h c).2.1.trans ?_, (h c).2.2⟩)
      (Cert.NormOutBRefIdeal.Value.run (F := Ideal) m' ρ')
    · refine (val_main_v34_eq _ _ _).trans ?_
      obtain ⟨e0, e1, e2⟩ := hagree c
      rw [e0, e1, e2]
      exact funext fun y => ref_rows _ _ _ (fun y => number _ (congrFun (hfin c).1 y)) (fun y => number _ (congrFun (hfin c).2.1 y))
        (fun y => number _ (congrFun (hfin c).2.2 y)) y
    · refine (val_main_v17_eq _ _).trans ?_
      obtain ⟨e0, e1, e2⟩ := hagree c
      rw [e0, e2]
      exact funext fun y => ref_gain _ _ y

end Cert.Proof.NormOutB

end
-- ==== Proof.GateSum.lean ====
/-
  Sums down the columns of a matrix from a row on: as the gate's reference has them, one window over the rows, and the derivative
  of the logarithm of the logistic function as the reference writes it.
-/
module

public import proofs.«01_k».proof.Proof.Contract
public import proofs.«01_k».proof.Proof.Pointwise
public import Idealize.ShloMosaic.Lib.Routing.OpsOne

@[expose] public section

noncomputable section

namespace Cert.Proof

open Idealize.ShloMosaic Idealize.ShloMosaic.ValueIdx Idealize.ShloMosaic.Routing
open scoped BigOperators

/-- The sum of `f` from `a` up to `n`. -/
def fromTo (f : ℕ → EReal) (a n : ℕ) : EReal := ∑ r ∈ Finset.Ico a n, f r

theorem fromTo_self (f : ℕ → EReal) (a : ℕ) : fromTo f a a = 0 := by simp [fromTo]

theorem fromTo_add (f : ℕ → EReal) {a b n : ℕ} (h : a ≤ b) (h' : b ≤ n) : fromTo f a b + fromTo f b n = fromTo f a n :=
  Finset.sum_Ico_consecutive f h h'

/-- Moved to start at a block's first row `o`. -/
theorem fromTo_shift (f : ℕ → EReal) (o i n : ℕ) : fromTo (fun r => f (o + r)) i n = fromTo f (o + i) (o + n) := by
  rw [fromTo, fromTo, Finset.sum_Ico_add f i n o, add_comm i o, add_comm n o]

theorem fromTo_fin (f : ℕ → EReal) (n : ℕ) : fromTo f 0 n = ∑ r : Fin n, f r.val := by
  rw [fromTo, ← Finset.range_eq_Ico]; exact Finset.sum_range f

/-- The same picked out of a whole range. -/
theorem fromTo_ite (f : ℕ → EReal) (i n : ℕ) : fromTo f i n = ∑ r : Fin n, if i ≤ r.val then f r.val else 0 := by
  rw [fromTo, ← Finset.sum_range fun r => if i ≤ r then f r else 0, ← Finset.sum_filter]
  refine Finset.sum_congr (Finset.ext fun r => ?_) fun _ _ => rfl
  rw [Finset.mem_Ico, Finset.mem_filter, Finset.mem_range, and_comm]

theorem foldl_add {α : Type} (l : List α) (g : α → EReal) (a : EReal) : l.foldl (fun r n => r + g n) a = a + (l.map g).sum := by
  induction l generalizing a with
  | nil => simp
  | cons x l ih => rw [List.foldl_cons, ih, List.map_cons, List.sum_cons, add_assoc]

/-- A window of all rows from row `i` on sums what is there. -/
theorem window {R E C : ℕ} (hE : E + 1 = R) (x : (Mat R C).Idx → EReal)
    (h : (Mat R C).ReduceWindows (![R, 1] : Fin 2 → ℕ) ![1, 1] ![0, 0] ![E, 0] (Mat R C)) (y : (Mat R C).Idx) :
    Ideal.hostReduceWindowAdd ![R, 1] ![1, 1] ![0, 0] ![E, 0] h x 0 y = fromTo (fun r => entry x r (y 1).val) (y 0).val R := by
  have h0 : (y 0).val < R := (y 0).isLt
  have h1 : (y 1).val < C := (y 1).isLt
  unfold Ideal.hostReduceWindowAdd Host.reduceWindow
  refine (foldl_add _ _ _).trans ((zero_add _).trans ?_)
  have total : ((List.finRange (shape2 R 1).numel).map fun n => entry x ((y 0).val + n.val) (y 1).val).sum
      = fromTo (fun r => entry x r (y 1).val) (y 0).val R := by
    rw [← List.ofFn_eq_map, List.sum_ofFn, ← Finset.sum_range fun n => entry x ((y 0).val + n) (y 1).val, numel_col]
    rw [Finset.range_eq_Ico]
    refine (fromTo_shift (fun r => entry x r (y 1).val) (y 0).val 0 R).trans ?_
    rw [add_zero, ← fromTo_add _ h0.le (Nat.le_add_left R _)]
    refine (congrArg (_ + ·) (Finset.sum_eq_zero fun r hr => ?_)).trans (add_zero _)
    unfold entry
    exact dif_neg fun hb => absurd hb.1 (not_lt.mpr (Finset.mem_Ico.mp hr).1)
  refine (congrArg List.sum (List.map_congr_left (g := fun n => entry x ((y 0).val + n.val) (y 1).val) fun n _ => ?_)).trans total
  have w0 : ((shape2 R 1).rowMajor.symm n 0).val = n.val := by rw [symm_col]; rfl
  have w1 : ((shape2 R 1).rowMajor.symm n 1).val = 0 := by rw [symm_col]; rfl
  dsimp only
  split
  · next hin =>
    refine eq_entry x _ ?_ ?_
    · show (y 0).val * 1 + ((shape2 R 1).rowMajor.symm n 0).val - 0 = _
      omega
    · show (y 1).val * 1 + ((shape2 R 1).rowMajor.symm n 1).val - 0 = _
      omega
  · next hin =>
    unfold entry
    rw [dif_neg fun hb => hin fun a => by
      match a with
      | ⟨0, _⟩ =>
        show 0 ≤ _ ∧ (y 0).val * 1 + ((shape2 R 1).rowMajor.symm n 0).val - 0 < R
        omega
      | ⟨1, _⟩ =>
        show 0 ≤ _ ∧ (y 1).val * 1 + ((shape2 R 1).rowMajor.symm n 1).val - 0 < C
        omega]

theorem exp_bot : Ideal.exp ⊥ = 0 := rfl
theorem exp_zero : Ideal.exp 0 = 1 := by
  show ((Real.exp 0 : ℝ) : EReal) = 1
  rw [Real.exp_zero, EReal.coe_one]
theorem log_one_add (r : ℝ) (h : 0 < r) : Ideal.log1p (r : EReal) = ((Real.log (1 + r) : ℝ) : EReal) := by
  show Ideal.log (1 + (r : EReal)) = _
  rw [← EReal.coe_one, ← EReal.coe_add]
  exact if_neg (not_le.mpr (by positivity))
theorem log1p_zero : Ideal.log1p 0 = 0 := by
  show Ideal.log (1 + 0) = 0
  rw [add_zero, ← EReal.coe_one]
  refine (if_neg (not_le.mpr one_pos)).trans ?_
  rw [Real.log_one, EReal.coe_zero]

theorem coe_max (a b : ℝ) : max (a : EReal) (b : EReal) = ((max a b : ℝ) : EReal) :=
  (EReal.coe_strictMono.monotone.map_max).symm

/-- `log (1 + exp (-r))`, from the one of the two exponentials that is at most one. -/
theorem softplus (r : ℝ) : max (-r) 0 + Real.log (1 + Real.exp (-max (-r) r)) = Real.log (1 + Real.exp (-r)) := by
  have p : (0 : ℝ) < 1 + Real.exp (-r) := by positivity
  have q : (0 : ℝ) < 1 + Real.exp (-max (-r) r) := by positivity
  refine Real.exp_injective ?_
  rw [Real.exp_add, Real.exp_log p, Real.exp_log q]
  rcases le_total 0 r with h | h
  · rw [max_eq_right (by linarith : -r ≤ 0), max_eq_right (by linarith : -r ≤ r), Real.exp_zero, one_mul]
  · rw [max_eq_left (by linarith : 0 ≤ -r), max_eq_left (by linarith : r ≤ -r), mul_add, mul_one, ← Real.exp_add, add_neg_cancel, Real.exp_zero, add_comm]

/-- The derivative of the logarithm of the logistic function at `z`, from `log (1 + exp (-z))`. -/
theorem dlog (z : EReal) (p : EReal) (hp : p = max (-z) 0 + Ideal.log1p (Ideal.exp (-max (-z - 0) (-(-z - 0))))) :
    Ideal.exp ((if -z = ⊤ then 0 else -z) - (if p = ⊤ then 0 else p)) = 1 - Ideal.logistic z := by
  subst hp
  induction z using EReal.rec with
  | bot => simp [exp_bot, exp_zero, log1p_zero, Ideal.logistic_bot]
  | top =>
    have e : (0 : EReal) = 1 - 1 := by rw [← EReal.coe_one, ← EReal.coe_sub, sub_self, EReal.coe_zero]
    simpa [exp_bot, log1p_zero, Ideal.logistic_top] using e
  | coe r =>
    have e : max (-(r : EReal)) 0 + Ideal.log1p (Ideal.exp (-max (-(r : EReal) - 0) (-(-(r : EReal) - 0)))) = ((Real.log (1 + Real.exp (-r)) : ℝ) : EReal) := by
      rw [← softplus, sub_zero, neg_neg, ← EReal.coe_neg, ← EReal.coe_zero, coe_max, coe_max, ← EReal.coe_neg]
      show _ + Ideal.log1p ((Real.exp (-max (-r) r) : ℝ) : EReal) = _
      rw [log_one_add _ (Real.exp_pos _), ← EReal.coe_add]
    rw [e, if_neg (by rw [← EReal.coe_neg]; exact EReal.coe_ne_top _), if_neg (EReal.coe_ne_top _), Ideal.logistic_coe, ← EReal.coe_neg, ← EReal.coe_sub,
      ← EReal.coe_one, ← EReal.coe_sub]
    show ((Real.exp _ : ℝ) : EReal) = _
    have pos : (0 : ℝ) < 1 + Real.exp (-r) := by positivity
    rw [Real.exp_sub, Real.exp_log pos]
    congr 1
    field_simp
    ring

end Cert.Proof

end
-- ==== Proof.GateB.lean ====
/-
  The gradient of the forget gate, and of its bias: the cotangent's sums down each column from a row on, times the derivative of the
  logarithm of the logistic function. The kernel takes the rows in sixteen blocks from the last one up, with a product by a triangle of
  ones in each and a row of sums carried from block to block; the reference differentiates the cumulative sum.
-/
module

public import proofs.«01_k».proof.Defs
public import proofs.«01_k».proof.Proof.GateSum
public import proofs.«01_k».proof.Proof.Gen.GateB.Frame
public import proofs.«01_k».proof.Proof.Gen.GateBIdeal.Frame
public import proofs.«01_k».proof.Proof.Gen.GateBRefIdeal.Run
public import proofs.«01_k».proof.Proof.Gen.GateBRefIdeal.Read
public import Idealize.ShloMosaic.Lib.StableHlo.RunRead
public import Idealize.ShloMosaic.Lib.Pipeline.ValueKit.Geometry

@[expose] public section

set_option maxRecDepth 16384

noncomputable section

namespace Cert.Proof.GateB

open Cert.GateBIdeal Cert.GateBIdeal.Gen Cert.GateBRefIdeal.Read
open Idealize.ShloMosaic Idealize.ShloMosaic.TcCoe Idealize.SL.Sem Idealize.ShloMosaic.StableHlo Idealize.ShloMosaic.ValueIdx
open scoped BigOperators

/-! ### The gradients, as numbers -/

section Values

variable (x : (Mat 2048 128).Idx → EReal) (b : (Mat 1 128).Idx → EReal) (q k : (Mat 2048 128).Idx → EReal)

/-- The gradient in a gate. -/
def grad (i j : ℕ) : EReal := fromTo (fun r => entry q r j + entry k r j) i 2048 * (1 - Ideal.logistic (entry x i j + entry b 0 j))
/-- The gradient in the gates. -/
def dx : (Mat 2048 128).Idx → EReal := fun y => grad x b q k (y 0).val (y 1).val
/-- The gradient in the bias. -/
def db : (Mat 1 128).Idx → EReal := fun y => fromTo (fun i => grad x b q k i (y 1).val) 0 2048

end Values

/-! ### The kernel, block by block -/

theorem zero_word : Ideal.ofBits .f32 0x00000000#32 = 0 := by simp [Ideal.ofBits, Ideal.ieee]

section Kernel

variable (x : Vec Ideal S2048x128 .f32) (b : Vec Ideal S1x128 .f32) (q k : Vec Ideal S2048x128 .f32)

/-- Block `n` from the last one up. -/
abbrev cut (n : ℕ) : Rect S2048x128 := Rect.unit (s := S2048x128) ![128 * (15 - n), 0] S128x128.size fun a => by
  match a with
  | ⟨0, _⟩ => show 128 * (15 - n) + 128 ≤ 2048; omega
  | ⟨1, _⟩ => show 0 + 128 ≤ 128; omega

/-- The sums in block `n`, given those from the next block on. -/
def sums (n : ℕ) (c : FVec Ideal S1x128 .f32) : FVec Ideal S128x128 .f32 :=
  addf (matmul dot_S128x128_S128x128_S128x128_1_0_0_1_n_n (some .fp32) (k0_pay3 (F := Ideal)) (addf (φ := .f32) (View.ld q (cut n)) (View.ld k (cut n)))
    (constant S128x128 .f32 0x00000000#32)) (broadcastTo S128x128 c broadcasts_S1x128_S128x128)

/-- The sums carried into block `n`. -/
def carry : ℕ → FVec Ideal S1x128 .f32
  | 0 => broadcast S1x128 (Scalar.ofBits .f32 0x00000000#32)
  | n + 1 => extractStridedSlice S1x128 ![0, 0] (sums q k n (carry n)) slices_S128x128_o0_0_S1x128

/-- What block `n` leaves of the gradient. -/
def part (n : ℕ) : FVec Ideal S128x128 .f32 :=
  mulf (sums q k n (carry q k n)) (subf (broadcast S128x128 (Scalar.ofBits .f32 0x3F800000#32))
    (addf (mulf (broadcast S128x128 (Scalar.ofBits .f32 0x3F000000#32)) (tanh (mulf (broadcast S128x128 (Scalar.ofBits .f32 0x3F000000#32))
      (addf (φ := .f32) (View.ld x (cut n)) (broadcastTo S128x128 (View.ld b r0_1 : FVec Ideal S1x128 .f32) broadcasts_S1x128_S128x128)))))
      (broadcast S128x128 (Scalar.ofBits .f32 0x3F000000#32))))

/-- The bias's sums over the first `n` blocks. -/
def total : ℕ → FVec Ideal S1x128 .f32
  | 0 => broadcast S1x128 (Scalar.ofBits .f32 0x00000000#32)
  | n + 1 => addf (total n) (shapeCast S1x128 (multiReduction .add [0] S128 (part x b q k n) 0x00000000#32 reduces_S128x128_S128 (.inl rfl) rfl) shapeCasts_S128_S1x128)

/-- The blocks, as the kernel writes them. -/
def pieces : List (View.Piece (Elt Ideal) S2048x128 .f32) :=
  [⟨cut 15, part x b q k 15⟩, ⟨cut 14, part x b q k 14⟩, ⟨cut 13, part x b q k 13⟩, ⟨cut 12, part x b q k 12⟩,
   ⟨cut 11, part x b q k 11⟩, ⟨cut 10, part x b q k 10⟩, ⟨cut 9, part x b q k 9⟩, ⟨cut 8, part x b q k 8⟩,
   ⟨cut 7, part x b q k 7⟩, ⟨cut 6, part x b q k 6⟩, ⟨cut 5, part x b q k 5⟩, ⟨cut 4, part x b q k 4⟩,
   ⟨cut 3, part x b q k 3⟩, ⟨cut 2, part x b q k 2⟩, ⟨cut 1, part x b q k 1⟩, ⟨cut 0, part x b q k 0⟩]

theorem pay61 : k0_pay61 (F := Ideal) x b q k = carry q k 1 := rfl
theorem pay63 : k0_pay63 (F := Ideal) x b q k = carry q k 3 := by unfold k0_pay63; rw [pay61]; rfl
theorem pay65 : k0_pay65 (F := Ideal) x b q k = carry q k 4 := by unfold k0_pay65; rw [pay63]; rfl
theorem pay67 : k0_pay67 (F := Ideal) x b q k = carry q k 6 := by unfold k0_pay67; rw [pay65]; rfl
theorem pay68 : k0_pay68 (F := Ideal) x b q k = carry q k 7 := by unfold k0_pay68; rw [pay67]; rfl
theorem pay71 : k0_pay71 (F := Ideal) x b q k = carry q k 9 := by unfold k0_pay71; rw [pay68]; rfl
theorem pay73 : k0_pay73 (F := Ideal) x b q k = carry q k 10 := by unfold k0_pay73; rw [pay71]; rfl
theorem pay75 : k0_pay75 (F := Ideal) x b q k = carry q k 11 := by unfold k0_pay75; rw [pay73]; rfl
theorem pay77 : k0_pay77 (F := Ideal) x b q k = carry q k 13 := by unfold k0_pay77; rw [pay75]; rfl
theorem pay79 : k0_pay79 (F := Ideal) x b q k = carry q k 14 := by unfold k0_pay79; rw [pay77]; rfl

theorem out4 : out0_4 (F := Ideal) x b q k = View.canon (pieces x b q k) := by
  unfold out0_4 k0_pay80 k0_pay76 k0_pay72 k0_pay70 k0_pay69 k0_pay66 k0_pay62
  rw [pay61, pay63, pay65, pay67, pay68, pay71, pay73, pay75, pay77, pay79]
  rfl

theorem out5 : out0_5 (F := Ideal) x b q k = View.canon [⟨r0_1, total x b q k 16⟩] := by
  unfold out0_5 k0_pay80 k0_pay76 k0_pay72 k0_pay70 k0_pay69 k0_pay66 k0_pay62
  rw [pay61, pay63, pay65, pay67, pay68, pay71, pay73, pay75, pay77, pay79]
  rfl

/-- The triangle of ones. -/
theorem tri (i k : Fin 128) : (k0_pay3 (F := Ideal) (ix2 i k) : EReal) = if i.val ≤ k.val then 1 else 0 := by
  have e : cmpi .sge (iota .tc S128x128 32 [1] iota_S128x128_d1_w32) (iota .tc S128x128 32 [0] iota_S128x128_d0_w32) (ix2 i k)
      = BitVec.ofBool (decide (i.val ≤ k.val)) :=
    (congrArg₂ (fun u v => IntOp.cmpi .sge u v) (iota_single_apply .tc S128x128 32 1 iota_S128x128_d1_w32 (ix2 i k))
      (iota_single_apply .tc S128x128 32 0 iota_S128x128_d0_w32 (ix2 i k))).trans
      (WordCmp.cmpi_sge_ofNat (lt_trans k.isLt (by decide)) (lt_trans i.isLt (by decide)))
  unfold k0_pay3
  rw [ValueIdx.select_apply, e]
  split
  · rename_i h
    rw [decide_eq_true h]
    exact (ValueIdx.select_one _ _).trans (one_word.trans EReal.coe_one)
  · rename_i h
    rw [decide_eq_false h]
    exact (ValueIdx.select_zero _ _).trans zero_word

/-- The rows' sums of both cotangents, in column `j`. -/
def col (j r : ℕ) : EReal := entry q r j + entry k r j

/-- A block's entries. -/
theorem entry_cut (x : (Mat 2048 128).Idx → EReal) (n : ℕ) (i j : Fin 128) : x ((cut n).emb (ix2 i j)) = entry x (128 * (15 - n) + i.val) j.val :=
  eq_entry x _ (show 128 * (15 - n) + 1 * i.val = 128 * (15 - n) + i.val by omega) (show 0 + 1 * j.val = j.val by omega)

/-- The bias along the rows. -/
theorem entry_bias (b : (Mat 1 128).Idx → EReal) (j : Fin 128) : b (r0_1.emb (ix2 0 j)) = entry b 0 j.val :=
  eq_entry b _ rfl (show 0 + 1 * j.val = j.val by omega)

/-- A block's sums run on to the last row. -/
theorem sums_eq (n : ℕ) (hn : n < 16) (c : FVec Ideal S1x128 .f32)
    (hc : ∀ z : (Mat 1 128).Idx, (c z : EReal) = fromTo (col q k (z 1).val) (128 * (15 - n) + 128) 2048) (i j : Fin 128) :
    (sums q k n c (ix2 i j) : EReal) = fromTo (col q k j.val) (128 * (15 - n) + i.val) 2048 := by
  have i128 := i.isLt
  refine (congrArg₂ (fun a b : EReal => a + b) ((Ideal.matmul_plain_apply (some .fp32) _ _ _ i j).trans (congrArg₂ (fun a b : EReal => a + b) zero_word
    (Finset.sum_congr rfl fun r _ => congrArg₂ (fun a b : EReal => a * b) (tri i r) (congrArg₂ (fun a b : EReal => a + b) (entry_cut q n r j) (entry_cut k n r j)))))
    ((broadcastTo_apply c broadcasts_S1x128_S128x128 (ix2 i j) (ix2 0 j) fun a => by
      match a with
      | ⟨0, _⟩ => rfl
      | ⟨1, _⟩ => rfl).trans (hc (ix2 0 j)))).trans ?_
  rw [← fromTo_add (col q k j.val) (show 128 * (15 - n) + i.val ≤ 128 * (15 - n) + 128 by omega) (by omega), ← fromTo_shift, fromTo_ite _ i.val 128, zero_add]
  refine congrArg₂ (fun a b : EReal => a + b) (Finset.sum_congr rfl fun r _ => ?_) rfl
  split
  · exact one_mul _
  · exact zero_mul _

theorem carry_eq (n : ℕ) (hn : n ≤ 16) (z : (Mat 1 128).Idx) : (carry q k n z : EReal) = fromTo (col q k (z 1).val) (128 * (16 - n)) 2048 := by
  induction n generalizing z with
  | zero => exact zero_word.trans (fromTo_self _ 2048).symm
  | succ n ih =>
    have z0 : (z 0).val < 1 := (z 0).isLt
    refine (extractStridedSlice_apply _ _ _ z (ix2 0 (z 1)) fun a => ?_).trans ((sums_eq q k n (by omega) _ (fun z => ?_) 0 (z 1)).trans ?_)
    · match a with
      | ⟨0, _⟩ => show 0 = 0 + (z 0).val; omega
      | ⟨1, _⟩ => show (z 1).val = 0 + (z 1).val; omega
    · exact (ih (by omega) z).trans (congrArg (fun a => fromTo _ a 2048) (by omega))
    · exact congrArg (fun a => fromTo _ a 2048) (show 128 * (15 - n) + 0 = 128 * (16 - (n + 1)) by omega)

/-- What a block leaves is the gradient there. -/
theorem part_eq (n : ℕ) (hn : n < 16) (i j : Fin 128) : (part x b q k n (ix2 i j) : EReal) = grad x b q k (128 * (15 - n) + i.val) j.val := by
  refine (congrArg₂ (fun a z : EReal => a * (Ideal.ofBits .f32 0x3F800000#32 - (Ideal.ofBits .f32 0x3F000000#32 * Ideal.tanh (Ideal.ofBits .f32 0x3F000000#32 * z)
    + Ideal.ofBits .f32 0x3F000000#32))) (sums_eq q k n hn _ (fun z => (carry_eq q k n (by omega) z).trans (congrArg (fun a => fromTo _ a 2048) (by omega))) i j)
    (congrArg₂ (fun a b : EReal => a + b) (entry_cut x n i j)
    ((broadcastTo_apply (View.ld b r0_1 : FVec Ideal S1x128 .f32) broadcasts_S1x128_S128x128 (ix2 i j) (ix2 0 j) fun a => by
      match a with
      | ⟨0, _⟩ => rfl
      | ⟨1, _⟩ => rfl).trans (entry_bias b j)))).trans ?_
  rw [sig_kernel, one_word, EReal.coe_one]
  rfl

/-- A sum down a block's column. -/
theorem down (P : FVec Ideal S128x128 .f32) (w : S128x128.Reduces [0] S128) (j : Fin 128) :
    (multiReduction (F := Ideal) .add [0] S128 P 0x00000000#32 w (.inl rfl) rfl (ix1 j) : EReal) = ∑ r : Fin 128, (P (ix2 r j) : EReal) := by
  refine (Ideal.multiReduction_add_single _ _ _ _ _ _).trans (Finset.sum_congr rfl fun k _ => congrArg P (funext fun a => Fin.ext ?_))
  match a with
  | ⟨0, _⟩ => rfl
  | ⟨1, _⟩ => rfl

theorem total_eq (n : ℕ) (hn : n ≤ 16) (z : (Mat 1 128).Idx) :
    (total x b q k n z : EReal) = fromTo (fun i => grad x b q k i (z 1).val) (128 * (16 - n)) 2048 := by
  induction n with
  | zero => exact zero_word.trans (fromTo_self _ 2048).symm
  | succ n ih =>
    have z0 : (z 0).val < 1 := (z 0).isLt
    refine (congrArg₂ (fun a b : EReal => a + b) (ih (by omega)) ((shapeCast_apply _ shapeCasts_S128_S1x128 z (ix1 (z 1)) (by
      rw [Shape.rowMajor_val_two, Shape.rowMajor_val_one]
      show (z 1).val = (z 0).val * 128 + (z 1).val
      omega)).trans ((down _ _ (z 1)).trans
        (Finset.sum_congr rfl fun r _ => part_eq x b q k n (by omega) r (z 1))))).trans ?_
    rw [show 128 * (16 - (n + 1)) = 128 * (15 - n) + 0 by omega,
      ← fromTo_add _ (show 128 * (15 - n) + 0 ≤ 128 * (15 - n) + 128 by omega) (by omega), ← fromTo_shift, fromTo_fin, add_comm,
      show 128 * (15 - n) + 128 = 128 * (16 - n) by omega]

theorem gates : (out0_4 (F := Ideal) x b q k : (Mat 2048 128).Idx → EReal) = dx x b q k := by
  have at_cut : ∀ n, n < 16 → ∀ z : (Mat 128 128).Idx, (part x b q k n z : EReal) = dx x b q k ((cut n).emb z) := fun n hn z =>
    (congrArg (part x b q k n) (funext fun a => by
      match a with
      | ⟨0, _⟩ => rfl
      | ⟨1, _⟩ => rfl)).trans ((part_eq x b q k n hn (z 0) (z 1)).trans (congrArg₂ (grad x b q k)
        (show 128 * (15 - n) + (z 0).val = 128 * (15 - n) + 1 * (z 0).val by omega) (show (z 1).val = 0 + 1 * (z 1).val by omega)))
  rw [out4]
  funext y
  refine View.canon_apply_of_pieces (Val := Elt Ideal) (dx x b q k) _ ?_ y (cover0_4 _ _ _ _ _ _ _ _ _ _ _ _ _ _ _ _ y)
  simp only [pieces, List.forall_mem_cons, List.not_mem_nil, false_imp_iff, implies_true, and_true]
  exact ⟨at_cut 15 (by omega), at_cut 14 (by omega), at_cut 13 (by omega), at_cut 12 (by omega), at_cut 11 (by omega), at_cut 10 (by omega),
    at_cut 9 (by omega), at_cut 8 (by omega), at_cut 7 (by omega), at_cut 6 (by omega), at_cut 5 (by omega), at_cut 4 (by omega),
    at_cut 3 (by omega), at_cut 2 (by omega), at_cut 1 (by omega), at_cut 0 (by omega)⟩

theorem bias : (out0_5 (F := Ideal) x b q k : (Mat 1 128).Idx → EReal) = db x b q k := by
  rw [out5, View.canon_unit_zero (S := S1x128) zero2]
  exact funext fun z => total_eq x b q k 16 le_rfl z

end Kernel

section Arrays

variable (m : (ℓ : Loc nD τ sig) → Buf (Elt Ideal) ℓ) (c : Dev nD)

/-- The gates. -/
abbrev inx : (Mat 2048 128).Idx → EReal := m ((c : Thread nD τ).loc main_arg0)
/-- Their bias. -/
abbrev inb : (Mat 1 128).Idx → EReal := m ((c : Thread nD τ).loc main_arg1)
/-- The cotangent from the queries' side. -/
abbrev inq : (Mat 2048 128).Idx → EReal := m ((c : Thread nD τ).loc main_arg2)
/-- The cotangent from the keys' side. -/
abbrev ink : (Mat 2048 128).Idx → EReal := m ((c : Thread nD τ).loc main_arg3)

theorem idx0 : ∀ t : Fin grid0.N, win0_0.index t 0 = 0 ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel

theorem blk0 (t : Fin cfg0.N) : (iblk m c 0 t : Vec Ideal S2048x128 .f32) = inx m c := funext fun y => by
  unfold iblk
  rw [View.read_apply]
  exact (congrFun (V_main_arg0 m c) _).trans ((eq_entry (inx m c) _ (at_whole (idx0 t).1) (at_whole (idx0 t).2)).trans (entry_idx _ y))
theorem blk1 (t : Fin cfg0.N) : (iblk m c 1 t : Vec Ideal S1x128 .f32) = inb m c := funext fun y => by
  unfold iblk
  rw [View.read_apply]
  exact (congrFun (V_main_arg1 m c) _).trans ((eq_entry (inb m c) _ (at_whole (idx1 t).1) (at_whole (idx1 t).2)).trans (entry_idx _ y))
theorem blk2 (t : Fin cfg0.N) : (iblk m c 2 t : Vec Ideal S2048x128 .f32) = inq m c := funext fun y => by
  unfold iblk
  rw [View.read_apply]
  exact (congrFun (V_main_arg2 m c) _).trans ((eq_entry (inq m c) _ (at_whole (idx2 t).1) (at_whole (idx2 t).2)).trans (entry_idx _ y))
theorem blk3 (t : Fin cfg0.N) : (iblk m c 3 t : Vec Ideal S2048x128 .f32) = ink m c := funext fun y => by
  unfold iblk
  rw [View.read_apply]
  exact (congrFun (V_main_arg3 m c) _).trans ((eq_entry (ink m c) _ (at_whole (idx3 t).1) (at_whole (idx3 t).2)).trans (entry_idx _ y))

theorem arr_gates : (dats m 0 c).arrAt 4 cfg0.N = dx (inx m c) (inb m c) (inq m c) (ink m c) := by
  refine (dats m 0 c).arrAt_eq_of_covers 4 (dx (inx m c) (inb m c) (inq m c) (ink m c)) (by decide +kernel) fun t _ y => ?_
  refine (cast_eq _ _).trans ((congrFun (after0_4 m c t) _).trans ?_)
  rw [blk0 m c t, blk1 m c t, blk2 m c t, blk3 m c t]
  refine (congrFun (gates _ _ _ _) _).trans ?_
  exact congrArg₂ (grad (inx m c) (inb m c) (inq m c) (ink m c)) (at_whole (idx4 t).1).symm (at_whole (idx4 t).2).symm

theorem arr_bias : (dats m 0 c).arrAt 5 cfg0.N = db (inx m c) (inb m c) (inq m c) (ink m c) := by
  refine (dats m 0 c).arrAt_eq_of_covers 5 (db (inx m c) (inb m c) (inq m c) (ink m c)) (by decide +kernel) fun t _ y => ?_
  refine (cast_eq _ _).trans ((congrFun (after0_5 m c t) _).trans ?_)
  rw [blk0 m c t, blk1 m c t, blk2 m c t, blk3 m c t]
  refine (congrFun (bias _ _ _ _) _).trans ?_
  exact congrArg (fun j => fromTo (fun i => grad (inx m c) (inb m c) (inq m c) (ink m c) i j) 0 2048) (at_whole (idx5 t).2).symm

end Arrays

section Reference

variable (x : (Mat 2048 128).Idx → EReal) (b : (Mat 1 128).Idx → EReal) (q k : (Mat 2048 128).Idx → EReal)

theorem top_word : Ideal.ofBits .f32 0x7F800000#32 = ⊤ := by simp [Ideal.ofBits, Ideal.ieee]

theorem at_top (a : EReal) (v : Ideal .f32) :
    (Scalar.select (Ideal.cmp .oeq a (Ideal.ofBits .f32 0x7F800000#32)) (Ideal.ofBits .f32 0x00000000#32 : Ideal .f32) v : EReal) = if a = ⊤ then 0 else v := by
  rw [top_word, zero_word]
  by_cases h : a = ⊤ <;> simp [Ideal.cmp, Scalar.select, h]

/-- The derivative of the gate's logarithm. -/
theorem ref_slope (y : (Mat 2048 128).Idx) :
    (val_main_v2_1 (F := Ideal) x b y : EReal) = 1 - Ideal.logistic (entry x (y 0).val (y 1).val + entry b 0 (y 1).val) := by
  have z : (val_main_v1 (F := Ideal) x b y : EReal) = entry x (y 0).val (y 1).val + entry b 0 (y 1).val := by
    rw [val_main_v1_apply, val_main_v0_apply]
    exact congrArg₂ (fun a b : EReal => a + b) (eq_entry x _ rfl rfl) (eq_entry b _ rfl rfl)
  have p : (val_main_call0_v1_0 (F := Ideal) x b y : EReal) = max (-(val_main_v1 (F := Ideal) x b y : EReal)) 0
      + Ideal.log1p (Ideal.exp (-max (-(val_main_v1 (F := Ideal) x b y : EReal) - 0) (-(-(val_main_v1 (F := Ideal) x b y : EReal) - 0)))) := by
    have n : ∀ u : Ideal .f32, FloatOps.cmpf .une u u = 0#1 := fun u => by
      show BitVec.ofBool (decide ((u : EReal) ≠ u)) = 0#1
      simp
    rw [val_main_call0_v1_0_apply, val_main_call0_call0_v4_apply, n]
    refine (ValueIdx.select_zero _ _).trans ?_
    simp only [val_main_call0_call0_v11_apply, val_main_call0_call0_v10_apply, val_main_call0_call0_v9_apply, val_main_call0_call0_v8_apply,
      val_main_call0_call0_v7_apply, val_main_call0_call0_v3_apply, val_main_call0_call0_v2_apply, val_main_call0_call0_v1_apply,
      val_main_call0_call0_v0_apply, val_main_call0_call0_cst_apply, val_main_call0_v0_apply]
    rw [← zero_word]
    rfl
  rw [← z, ← dlog _ _ p, val_main_v2_1_apply, val_main_call0_call0_v21_apply, val_main_call0_call0_v20_apply, val_main_call0_call0_v16_apply]
  simp only [val_main_call0_call0_v19_apply, val_main_call0_call0_v18_apply, val_main_call0_call0_v17_apply, val_main_call0_call0_v15_apply,
    val_main_call0_call0_v14_apply, val_main_call0_call0_v13_apply, val_main_call0_call0_cst_0_apply, val_main_call0_call0_cst_1_apply,
    val_main_call0_call0_cst_2_apply, val_main_call0_call0_cst_3_apply, val_main_call0_v0_apply]
  exact congrArg₂ (fun a b : EReal => Ideal.exp (a - b)) (at_top _ _) (at_top _ _)

/-- The reference's sums. -/
theorem sums_host (v : FVec Ideal (Mat 2048 128) .f32) {s : Shape} (u : FVec Ideal s .f32) (hu : ∀ i, (u i : EReal) = 0)
    (h : (Mat 2048 128).ReduceWindows (![2048, 1] : Fin 2 → ℕ) ![1, 1] ![0, 0] ![2047, 0] (Mat 2048 128)) (h' : 0 < s.numel) (y : (Mat 2048 128).Idx) :
    (Host.reduceWindowAdd ![2048, 1] ![1, 1] ![0, 0] ![2047, 0] v u h h' y : EReal) = fromTo (fun r => entry v r (y 1).val) (y 0).val 2048 := by
  unfold Host.reduceWindowAdd
  rw [Ideal.hostReduceWindowAdd_def, hu]
  exact window (by decide) v h y

theorem ref_gates (y : (Mat 2048 128).Idx) : (val_main_v6 (F := Ideal) x b q k y : EReal) = dx x b q k y := by
  have w : (val_main_v5 (F := Ideal) q k y : EReal) = fromTo (fun r => entry q r (y 1).val + entry k r (y 1).val) (y 0).val 2048 := by
    refine (sums_host _ _ (fun _ => zero_word) _ _ y).trans ?_
    refine congrArg (fun f => fromTo f (y 0).val 2048) (funext fun r => ?_)
    unfold entry
    split
    · rfl
    · exact (add_zero _).symm
  rw [val_main_v6_apply, val_main_call3_v1_apply, val_main_call3_v0_apply]
  refine (congrArg₂ (fun a s : EReal => -(-a * s)) w (ref_slope x b y)).trans ?_
  show -(-_ * _) = _
  rw [EReal.neg_mul, neg_neg]
  rfl

theorem ref_bias (y : (Mat 1 128).Idx) : (val_main_v8 (F := Ideal) x b q k y : EReal) = db x b q k y := by
  have y0 : (y 0).val < 1 := (y 0).isLt
  rw [val_main_v8_apply, val_main_v7_apply]
  show Ideal.ofBits .f32 0x00000000#32 + _ = fromTo _ 0 2048
  rw [zero_word, zero_add, fromTo_fin]
  refine Finset.sum_congr rfl fun r _ => (ref_gates x b q k _).trans (congrArg (grad x b q k r.val) ?_)
  show (y 0).val * 128 + (y 1).val = (y 1).val
  omega

end Reference

/-! ### The claims -/

theorem frame_p : Cert.quiescent_GateB := fun m ρ _ => Cert.GateB.Gen.frame m ρ
theorem frame_pi : Cert.quiescent_GateBIdeal := fun m ρ _ => Cert.GateBIdeal.Gen.frame m ρ
theorem frame_ri : Cert.quiescent_GateBRefIdeal := fun m ρ _ =>
  (θ_run Cert.GateBRefIdeal.defs _ _).mono (fun r h => ⟨fun c => (h c).2.2, sem_eq_zero_of_no_sems (by decide) r.2⟩)
    (Cert.GateBRefIdeal.Value.run (F := Ideal) m ρ)

theorem preserves : Cert.preserves_GateB_GateBIdeal := trivial

/-- The kernel's arrays are the reference's. -/
theorem algebraic : Cert.algebraic_GateBIdeal_GateBRefIdeal := by
  intro m ρ m' ρ' _ hagree
  refine ⟨fun c => dx (inx m c) (inb m c) (inq m c) (ink m c), fun c => db (inx m c) (inb m c) (inq m c) (ink m c), ?_, ?_⟩
  · exact (θ_run defs _ _).mono (fun r h c => ⟨((h.1 c).1 4).trans (arr_gates m c), ((h.1 c).1 5).trans (arr_bias m c), h.2 c⟩)
      (θ_run_and (Cert.GateBIdeal.Gen.run_main (F := Ideal) m ρ) (Cert.GateBIdeal.Gen.unchanged (F := Ideal) m ρ))
  · refine (θ_run Cert.GateBRefIdeal.defs _ _).mono (fun r h c => ⟨(h c).1.trans ?_, (h c).2.1.trans ?_, (h c).2.2⟩)
      (Cert.GateBRefIdeal.Value.run (F := Ideal) m' ρ')
    · refine (val_main_v6_eq _ _ _ _).trans ?_
      obtain ⟨e0, e1, e2, e3⟩ := hagree c
      rw [e0, e1, e2, e3]
      exact funext (ref_gates _ _ _ _)
    · refine (val_main_v8_eq _ _ _ _).trans ?_
      obtain ⟨e0, e1, e2, e3⟩ := hagree c
      rw [e0, e1, e2, e3]
      exact funext (ref_bias _ _ _ _)

end Cert.Proof.GateB

end
-- ==== Proof.lean ====
module

public import proofs.«01_k».proof.Defs
public import proofs.«01_k».proof.Proof.Claims
public import proofs.«01_k».proof.Proof.Dfin
public import proofs.«01_k».proof.Proof.Dact
public import proofs.«01_k».proof.Proof.FfnIn
public import proofs.«01_k».proof.Proof.FfnOut
public import proofs.«01_k».proof.Proof.DilDhn
public import proofs.«01_k».proof.Proof.DilDw
public import proofs.«01_k».proof.Proof.ProjDo
public import proofs.«01_k».proof.Proof.ProjDw
public import proofs.«01_k».proof.Proof.Proj
public import proofs.«01_k».proof.Proof.GateDx
public import proofs.«01_k».proof.Proof.FoxIn
public import proofs.«01_k».proof.Proof.FoxDw
public import proofs.«01_k».proof.Proof.FoxDhn
public import proofs.«01_k».proof.Proof.MlaA
public import proofs.«01_k».proof.Proof.MlaUq
public import proofs.«01_k».proof.Proof.MlaUkv
public import proofs.«01_k».proof.Proof.MlaDuq
public import proofs.«01_k».proof.Proof.MlaDcq
public import proofs.«01_k».proof.Proof.MlaDukv
public import proofs.«01_k».proof.Proof.MlaDckv
public import proofs.«01_k».proof.Proof.MlaDa
public import proofs.«01_k».proof.Proof.MlaDhn
public import proofs.«01_k».proof.Proof.DilQkv0
public import proofs.«01_k».proof.Proof.DilQkv1
public import proofs.«01_k».proof.Proof.DilQkv2
public import proofs.«01_k».proof.Proof.Dwin0
public import proofs.«01_k».proof.Proof.Dwin1
public import proofs.«01_k».proof.Proof.Dwin2
public import proofs.«01_k».proof.Proof.Dwout0
public import proofs.«01_k».proof.Proof.Dwout1
public import proofs.«01_k».proof.Proof.Dwout2
public import proofs.«01_k».proof.Proof.Dwg0
public import proofs.«01_k».proof.Proof.Dwg1
public import proofs.«01_k».proof.Proof.Dwg2
public import proofs.«01_k».proof.Proof.Dwin3
public import proofs.«01_k».proof.Proof.Dwout3
public import proofs.«01_k».proof.Proof.Dwg3
public import proofs.«01_k».proof.Proof.PleB
public import proofs.«01_k».proof.Proof.Ple
public import proofs.«01_k».proof.Proof.Swiglu
public import proofs.«01_k».proof.Proof.SwigluB
public import proofs.«01_k».proof.Proof.NormIn
public import proofs.«01_k».proof.Proof.NormOut
public import proofs.«01_k».proof.Proof.NormQ
public import proofs.«01_k».proof.Proof.NormKv
public import proofs.«01_k».proof.Proof.NormInB
public import proofs.«01_k».proof.Proof.NormOutB
public import proofs.«01_k».proof.Proof.GateB

@[expose] public section

noncomputable section

namespace Cert.Proof

theorem claim : Cert.Claim :=
  ⟨Cert.Kernel.Gen.facts, Cert.KernelIdeal.Gen.facts, Cert.ReferenceIdeal.Gen.facts, Cert.Dfin.Gen.facts, Cert.DfinIdeal.Gen.facts,
    Cert.DfinRefIdeal.Gen.facts, Cert.Dact.Gen.facts, Cert.DactIdeal.Gen.facts, Cert.DactRefIdeal.Gen.facts, Cert.FfnIn.Gen.facts,
    Cert.FfnInIdeal.Gen.facts, Cert.FfnInRefIdeal.Gen.facts, Cert.FfnOut.Gen.facts, Cert.FfnOutIdeal.Gen.facts,
    Cert.FfnOutRefIdeal.Gen.facts, Cert.DilDhn.Gen.facts, Cert.DilDhnIdeal.Gen.facts, Cert.DilDhnRefIdeal.Gen.facts, Cert.DilDw.Gen.facts,
    Cert.DilDwIdeal.Gen.facts, Cert.DilDwRefIdeal.Gen.facts, Cert.ProjDo.Gen.facts, Cert.ProjDoIdeal.Gen.facts,
    Cert.ProjDoRefIdeal.Gen.facts, Cert.ProjDw.Gen.facts, Cert.ProjDwIdeal.Gen.facts, Cert.ProjDwRefIdeal.Gen.facts, Cert.Proj.Gen.facts,
    Cert.ProjIdeal.Gen.facts, Cert.ProjRefIdeal.Gen.facts, Cert.GateDx.Gen.facts, Cert.GateDxIdeal.Gen.facts,
    Cert.GateDxRefIdeal.Gen.facts, Cert.FoxIn.Gen.facts, Cert.FoxInIdeal.Gen.facts, Cert.FoxInRefIdeal.Gen.facts, Cert.FoxDw.Gen.facts,
    Cert.FoxDwIdeal.Gen.facts, Cert.FoxDwRefIdeal.Gen.facts, Cert.FoxDhn.Gen.facts, Cert.FoxDhnIdeal.Gen.facts,
    Cert.FoxDhnRefIdeal.Gen.facts, Cert.MlaA.Gen.facts, Cert.MlaAIdeal.Gen.facts, Cert.MlaARefIdeal.Gen.facts, Cert.MlaUq.Gen.facts,
    Cert.MlaUqIdeal.Gen.facts, Cert.MlaUqRefIdeal.Gen.facts, Cert.MlaUkv.Gen.facts, Cert.MlaUkvIdeal.Gen.facts,
    Cert.MlaUkvRefIdeal.Gen.facts, Cert.MlaDuq.Gen.facts, Cert.MlaDuqIdeal.Gen.facts, Cert.MlaDuqRefIdeal.Gen.facts,
    Cert.MlaDcq.Gen.facts, Cert.MlaDcqIdeal.Gen.facts, Cert.MlaDcqRefIdeal.Gen.facts, Cert.MlaDukv.Gen.facts, Cert.MlaDukvIdeal.Gen.facts,
    Cert.MlaDukvRefIdeal.Gen.facts, Cert.MlaDckv.Gen.facts, Cert.MlaDckvIdeal.Gen.facts, Cert.MlaDckvRefIdeal.Gen.facts,
    Cert.MlaDa.Gen.facts, Cert.MlaDaIdeal.Gen.facts, Cert.MlaDaRefIdeal.Gen.facts, Cert.MlaDhn.Gen.facts, Cert.MlaDhnIdeal.Gen.facts,
    Cert.MlaDhnRefIdeal.Gen.facts, Cert.DilQkv0.Gen.facts, Cert.DilQkv0Ideal.Gen.facts, Cert.DilQkv0RefIdeal.Gen.facts,
    Cert.DilQkv1.Gen.facts, Cert.DilQkv1Ideal.Gen.facts, Cert.DilQkv1RefIdeal.Gen.facts, Cert.DilQkv2.Gen.facts,
    Cert.DilQkv2Ideal.Gen.facts, Cert.DilQkv2RefIdeal.Gen.facts, Cert.Dwin0.Gen.facts, Cert.Dwin0Ideal.Gen.facts,
    Cert.Dwin0RefIdeal.Gen.facts, Cert.Dwin1.Gen.facts, Cert.Dwin1Ideal.Gen.facts, Cert.Dwin1RefIdeal.Gen.facts, Cert.Dwin2.Gen.facts,
    Cert.Dwin2Ideal.Gen.facts, Cert.Dwin2RefIdeal.Gen.facts, Cert.Dwout0.Gen.facts, Cert.Dwout0Ideal.Gen.facts,
    Cert.Dwout0RefIdeal.Gen.facts, Cert.Dwout1.Gen.facts, Cert.Dwout1Ideal.Gen.facts, Cert.Dwout1RefIdeal.Gen.facts,
    Cert.Dwout2.Gen.facts, Cert.Dwout2Ideal.Gen.facts, Cert.Dwout2RefIdeal.Gen.facts, Cert.Dwg0.Gen.facts, Cert.Dwg0Ideal.Gen.facts,
    Cert.Dwg0RefIdeal.Gen.facts, Cert.Dwg1.Gen.facts, Cert.Dwg1Ideal.Gen.facts, Cert.Dwg1RefIdeal.Gen.facts, Cert.Dwg2.Gen.facts,
    Cert.Dwg2Ideal.Gen.facts, Cert.Dwg2RefIdeal.Gen.facts, Cert.Dwin3.Gen.facts, Cert.Dwin3Ideal.Gen.facts, Cert.Dwin3RefIdeal.Gen.facts,
    Cert.Dwout3.Gen.facts, Cert.Dwout3Ideal.Gen.facts, Cert.Dwout3RefIdeal.Gen.facts, Cert.Dwg3.Gen.facts, Cert.Dwg3Ideal.Gen.facts,
    Cert.Dwg3RefIdeal.Gen.facts, Cert.PleB.Gen.facts, Cert.PleBIdeal.Gen.facts, Cert.PleBRefIdeal.Gen.facts, Cert.Ple.Gen.facts,
    Cert.PleIdeal.Gen.facts, Cert.PleRefIdeal.Gen.facts, Cert.Swiglu.Gen.facts, Cert.SwigluIdeal.Gen.facts, Cert.SwigluRefIdeal.Gen.facts,
    Cert.SwigluB.Gen.facts, Cert.SwigluBIdeal.Gen.facts, Cert.SwigluBRefIdeal.Gen.facts, Cert.NormIn.Gen.facts,
    Cert.NormInIdeal.Gen.facts, Cert.NormInRefIdeal.Gen.facts, Cert.NormOut.Gen.facts, Cert.NormOutIdeal.Gen.facts,
    Cert.NormOutRefIdeal.Gen.facts, Cert.NormQ.Gen.facts, Cert.NormQIdeal.Gen.facts, Cert.NormQRefIdeal.Gen.facts, Cert.NormKv.Gen.facts,
    Cert.NormKvIdeal.Gen.facts, Cert.NormKvRefIdeal.Gen.facts, Cert.NormInB.Gen.facts, Cert.NormInBIdeal.Gen.facts,
    Cert.NormInBRefIdeal.Gen.facts, Cert.NormOutB.Gen.facts, Cert.NormOutBIdeal.Gen.facts, Cert.NormOutBRefIdeal.Gen.facts,
    Cert.GateB.Gen.facts, Cert.GateBIdeal.Gen.facts, Cert.GateBRefIdeal.Gen.facts, Fox.preFacts, SwigluB.preFacts, NormInB.preFacts,
    NormOutB.preFacts, Cert.On_win_last.Gen.facts, Cert.On_wout_last.Gen.facts, Cert.On_wg_last.Gen.facts,
    Fox.frame_p, Fox.frame_pi, Fox.frame_pi_finite, Fox.frame_ri, Fox.frame_ri_finite, Dfin.frame_p, Dfin.frame_pi, Dfin.frame_ri,
    Dact.frame_p, Dact.frame_pi, Dact.frame_ri, FfnIn.frame_p, FfnIn.frame_pi, FfnIn.frame_ri, FfnOut.frame_p, FfnOut.frame_pi,
    FfnOut.frame_ri, DilDhn.frame_p, DilDhn.frame_pi, DilDhn.frame_ri, DilDw.frame_p, DilDw.frame_pi, DilDw.frame_ri, ProjDo.frame_p,
    ProjDo.frame_pi, ProjDo.frame_ri, ProjDw.frame_p, ProjDw.frame_pi, ProjDw.frame_ri, Proj.frame_p, Proj.frame_pi, Proj.frame_ri,
    GateDx.frame_p, GateDx.frame_pi, GateDx.frame_ri, FoxIn.frame_p, FoxIn.frame_pi, FoxIn.frame_ri, FoxDw.frame_p, FoxDw.frame_pi,
    FoxDw.frame_ri, FoxDhn.frame_p, FoxDhn.frame_pi, FoxDhn.frame_ri, MlaA.frame_p, MlaA.frame_pi, MlaA.frame_ri, MlaUq.frame_p,
    MlaUq.frame_pi, MlaUq.frame_ri, MlaUkv.frame_p, MlaUkv.frame_pi, MlaUkv.frame_ri, MlaDuq.frame_p, MlaDuq.frame_pi, MlaDuq.frame_ri,
    MlaDcq.frame_p, MlaDcq.frame_pi, MlaDcq.frame_ri, MlaDukv.frame_p, MlaDukv.frame_pi, MlaDukv.frame_ri, MlaDckv.frame_p,
    MlaDckv.frame_pi, MlaDckv.frame_ri, MlaDa.frame_p, MlaDa.frame_pi, MlaDa.frame_ri, MlaDhn.frame_p, MlaDhn.frame_pi, MlaDhn.frame_ri,
    DilQkv0.frame_p, DilQkv0.frame_pi, DilQkv0.frame_ri, DilQkv1.frame_p, DilQkv1.frame_pi, DilQkv1.frame_ri, DilQkv2.frame_p,
    DilQkv2.frame_pi, DilQkv2.frame_ri, Dwin0.frame_p, Dwin0.frame_pi, Dwin0.frame_ri, Dwin1.frame_p, Dwin1.frame_pi, Dwin1.frame_ri,
    Dwin2.frame_p, Dwin2.frame_pi, Dwin2.frame_ri, Dwout0.frame_p, Dwout0.frame_pi, Dwout0.frame_ri, Dwout1.frame_p, Dwout1.frame_pi,
    Dwout1.frame_ri, Dwout2.frame_p, Dwout2.frame_pi, Dwout2.frame_ri, Dwg0.frame_p, Dwg0.frame_pi, Dwg0.frame_ri, Dwg1.frame_p,
    Dwg1.frame_pi, Dwg1.frame_ri, Dwg2.frame_p, Dwg2.frame_pi, Dwg2.frame_ri, Dwin3.frame_p, Dwin3.frame_pi, Dwin3.frame_ri,
    Dwout3.frame_p, Dwout3.frame_pi, Dwout3.frame_ri, Dwg3.frame_p, Dwg3.frame_pi, Dwg3.frame_ri, PleB.frame_p, PleB.frame_pi,
    PleB.frame_ri, Ple.frame_p, Ple.frame_pi, Ple.frame_ri, Swiglu.frame_p, Swiglu.frame_pi, Swiglu.frame_ri, SwigluB.frame_p,
    SwigluB.frame_pi, SwigluB.frame_pi_pre, SwigluB.frame_ri, SwigluB.frame_ri_pre, NormIn.frame_p, NormIn.frame_pi, NormIn.frame_ri,
    NormOut.frame_p, NormOut.frame_pi, NormOut.frame_ri, NormQ.frame_p, NormQ.frame_pi, NormQ.frame_ri, NormKv.frame_p, NormKv.frame_pi,
    NormKv.frame_ri, NormInB.frame_p, NormInB.frame_pi, NormInB.frame_pi_pre, NormInB.frame_ri, NormInB.frame_ri_pre, NormOutB.frame_p,
    NormOutB.frame_pi, NormOutB.frame_pi_pre, NormOutB.frame_ri, NormOutB.frame_ri_pre, GateB.frame_p, GateB.frame_pi, GateB.frame_ri,
    Fox.preserves, Fox.algebraic, Dfin.preserves, Dfin.algebraic, Dact.preserves, Dact.algebraic, FfnIn.preserves, FfnIn.algebraic,
    FfnOut.preserves, FfnOut.algebraic, DilDhn.preserves, DilDhn.algebraic, DilDw.preserves, DilDw.algebraic, ProjDo.preserves,
    ProjDo.algebraic, ProjDw.preserves, ProjDw.algebraic, Proj.preserves, Proj.algebraic, GateDx.preserves, GateDx.algebraic,
    FoxIn.preserves, FoxIn.algebraic, FoxDw.preserves, FoxDw.algebraic, FoxDhn.preserves, FoxDhn.algebraic, MlaA.preserves,
    MlaA.algebraic, MlaUq.preserves, MlaUq.algebraic, MlaUkv.preserves, MlaUkv.algebraic, MlaDuq.preserves, MlaDuq.algebraic,
    MlaDcq.preserves, MlaDcq.algebraic, MlaDukv.preserves, MlaDukv.algebraic, MlaDckv.preserves, MlaDckv.algebraic, MlaDa.preserves,
    MlaDa.algebraic, MlaDhn.preserves, MlaDhn.algebraic, DilQkv0.preserves, DilQkv0.algebraic, DilQkv1.preserves, DilQkv1.algebraic,
    DilQkv2.preserves, DilQkv2.algebraic, Dwin0.preserves, Dwin0.algebraic, Dwin1.preserves, Dwin1.algebraic, Dwin2.preserves,
    Dwin2.algebraic, Dwout0.preserves, Dwout0.algebraic, Dwout1.preserves, Dwout1.algebraic, Dwout2.preserves, Dwout2.algebraic,
    Dwg0.preserves, Dwg0.algebraic, Dwg1.preserves, Dwg1.algebraic, Dwg2.preserves, Dwg2.algebraic, Dwin3.preserves, Dwin3.algebraic,
    Dwout3.preserves, Dwout3.algebraic, Dwg3.preserves, Dwg3.algebraic, PleB.preserves, PleB.algebraic, Ple.preserves, Ple.algebraic,
    Swiglu.preserves, Swiglu.algebraic, SwigluB.preserves, SwigluB.algebraic, NormIn.preserves, NormIn.algebraic, NormOut.preserves,
    NormOut.algebraic, NormQ.preserves, NormQ.algebraic, NormKv.preserves, NormKv.algebraic, NormInB.preserves, NormInB.algebraic,
    NormOutB.preserves, NormOutB.algebraic, GateB.preserves, GateB.algebraic⟩

end Cert.Proof

end
